-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsRefIdeal (m : (ℓ : Loc Cert.WeightsRefIdeal.nD Cert.WeightsRefIdeal.τ Cert.WeightsRefIdeal.sig) → Buf (Elt Ideal) ℓ) : Prop :=
  True

def Pre_WeightsRef (m : (ℓ : Loc Cert.WeightsRef.nD Cert.WeightsRef.τ Cert.WeightsRef.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_SmallRef (m : (ℓ : Loc Cert.SmallRef.nD Cert.SmallRef.τ Cert.SmallRef.sig) → Buf (Elt Bits) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Wup (m : (ℓ : Loc Cert.Wup.nD Cert.Wup.τ Cert.Wup.sig) → Buf (Elt Bits) ℓ) : Prop :=
  True

def Pre_WupIdeal (m : (ℓ : Loc Cert.WupIdeal.nD Cert.WupIdeal.τ Cert.WupIdeal.sig) → Buf (Elt Ideal) ℓ) : Prop :=
  True

def Pre_WupRefIdeal (m : (ℓ : Loc Cert.WupRefIdeal.nD Cert.WupRefIdeal.τ Cert.WupRefIdeal.sig) → Buf (Elt Ideal) ℓ) : Prop :=
  True

def Pre_Rep (m : (ℓ : Loc Cert.Rep.nD Cert.Rep.τ Cert.Rep.sig) → Buf (Elt Bits) ℓ) : Prop :=
  True

def Pre_RepIdeal (m : (ℓ : Loc Cert.RepIdeal.nD Cert.RepIdeal.τ Cert.RepIdeal.sig) → Buf (Elt Ideal) ℓ) : Prop :=
  True

def Pre_RepRefIdeal (m : (ℓ : Loc Cert.RepRefIdeal.nD Cert.RepRefIdeal.τ Cert.RepRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_Dx0 (m : (ℓ : Loc Cert.Dx0.nD Cert.Dx0.τ Cert.Dx0.sig) → Buf (Elt Bits) ℓ) : Prop :=
  True

def Pre_Dx0Ideal (m : (ℓ : Loc Cert.Dx0Ideal.nD Cert.Dx0Ideal.τ Cert.Dx0Ideal.sig) → Buf (Elt Ideal) ℓ) : Prop :=
  True

def Pre_Dx0RefIdeal (m : (ℓ : Loc Cert.Dx0RefIdeal.nD Cert.Dx0RefIdeal.τ Cert.Dx0RefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenRefIdeal (m : (ℓ : Loc Cert.HiddenRefIdeal.nD Cert.HiddenRefIdeal.τ Cert.HiddenRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DoDil (m : (ℓ : Loc Cert.DoDil.nD Cert.DoDil.τ Cert.DoDil.sig) → Buf (Elt Bits) ℓ) : Prop :=
  True

def Pre_DoDilIdeal (m : (ℓ : Loc Cert.DoDilIdeal.nD Cert.DoDilIdeal.τ Cert.DoDilIdeal.sig) → Buf (Elt Ideal) ℓ) : Prop :=
  True

def Pre_DoDilRefIdeal (m : (ℓ : Loc Cert.DoDilRefIdeal.nD Cert.DoDilRefIdeal.τ Cert.DoDilRefIdeal.sig) → Buf (Elt Ideal) ℓ) : Prop :=
  True

def Pre_DoMla (m : (ℓ : Loc Cert.DoMla.nD Cert.DoMla.τ Cert.DoMla.sig) → Buf (Elt Bits) ℓ) : Prop :=
  True

def Pre_DoMlaIdeal (m : (ℓ : Loc Cert.DoMlaIdeal.nD Cert.DoMlaIdeal.τ Cert.DoMlaIdeal.sig) → Buf (Elt Ideal) ℓ) : Prop :=
  True

def Pre_DoMlaRefIdeal (m : (ℓ : Loc Cert.DoMlaRefIdeal.nD Cert.DoMlaRefIdeal.τ Cert.DoMlaRefIdeal.sig) → Buf (Elt Ideal) ℓ) : Prop :=
  True

def Pre_Dx1 (m : (ℓ : Loc Cert.Dx1.nD Cert.Dx1.τ Cert.Dx1.sig) → Buf (Elt Bits) ℓ) : Prop :=
  True

def Pre_Dx1Ideal (m : (ℓ : Loc Cert.Dx1Ideal.nD Cert.Dx1Ideal.τ Cert.Dx1Ideal.sig) → Buf (Elt Ideal) ℓ) : Prop :=
  True

def Pre_Dx1RefIdeal (m : (ℓ : Loc Cert.Dx1RefIdeal.nD Cert.Dx1RefIdeal.τ Cert.Dx1RefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwODil (m : (ℓ : Loc Cert.DwODil.nD Cert.DwODil.τ Cert.DwODil.sig) → Buf (Elt Bits) ℓ) : Prop :=
  True

def Pre_DwODilIdeal (m : (ℓ : Loc Cert.DwODilIdeal.nD Cert.DwODilIdeal.τ Cert.DwODilIdeal.sig) → Buf (Elt Ideal) ℓ) : Prop :=
  True

def Pre_DwODilRefIdeal (m : (ℓ : Loc Cert.DwODilRefIdeal.nD Cert.DwODilRefIdeal.τ Cert.DwODilRefIdeal.sig) → Buf (Elt Ideal) ℓ) : Prop :=
  True

def Pre_DwOMla (m : (ℓ : Loc Cert.DwOMla.nD Cert.DwOMla.τ Cert.DwOMla.sig) → Buf (Elt Bits) ℓ) : Prop :=
  True

def Pre_DwOMlaIdeal (m : (ℓ : Loc Cert.DwOMlaIdeal.nD Cert.DwOMlaIdeal.τ Cert.DwOMlaIdeal.sig) → Buf (Elt Ideal) ℓ) : Prop :=
  True

def Pre_DwOMlaRefIdeal (m : (ℓ : Loc Cert.DwOMlaRefIdeal.nD Cert.DwOMlaRefIdeal.τ Cert.DwOMlaRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Ln1 (m : (ℓ : Loc Cert.Ln1.nD Cert.Ln1.τ Cert.Ln1.sig) → Buf (Elt Bits) ℓ) : Prop :=
  True

def Pre_Ln1Ideal (m : (ℓ : Loc Cert.Ln1Ideal.nD Cert.Ln1Ideal.τ Cert.Ln1Ideal.sig) → Buf (Elt Ideal) ℓ) : Prop :=
  True

def Pre_Ln1RefIdeal (m : (ℓ : Loc Cert.Ln1RefIdeal.nD Cert.Ln1RefIdeal.τ Cert.Ln1RefIdeal.sig) → Buf (Elt Ideal) ℓ) : Prop :=
  True

def Pre_Ln2 (m : (ℓ : Loc Cert.Ln2.nD Cert.Ln2.τ Cert.Ln2.sig) → Buf (Elt Bits) ℓ) : Prop :=
  True

def Pre_Ln2Ideal (m : (ℓ : Loc Cert.Ln2Ideal.nD Cert.Ln2Ideal.τ Cert.Ln2Ideal.sig) → Buf (Elt Ideal) ℓ) : Prop :=
  True

def Pre_Ln2RefIdeal (m : (ℓ : Loc Cert.Ln2RefIdeal.nD Cert.Ln2RefIdeal.τ Cert.Ln2RefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3)
      ∧ r.2.mem ((c.tc : Thread Cert.Weights.nD Cert.Weights.τ).loc Cert.Weights.main_arg4) = m ((c.tc : Thread Cert.Weights.nD Cert.Weights.τ).loc Cert.Weights.main_arg4)
      ∧ r.2.mem ((c.tc : Thread Cert.Weights.nD Cert.Weights.τ).loc Cert.Weights.main_arg5) = m ((c.tc : Thread Cert.Weights.nD Cert.Weights.τ).loc Cert.Weights.main_arg5))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
      ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5))
      ∧ r.2.sem = fun _ => 0)

def quiescent_WeightsRefIdeal [hWeightsRefIdeal : Cert.WeightsRefIdeal.Facts] : Prop :=
  ∀ (m : (ℓ : Loc Cert.WeightsRefIdeal.nD Cert.WeightsRefIdeal.τ Cert.WeightsRefIdeal.sig) → Buf (Elt Ideal) ℓ) (g : Dev Cert.WeightsRefIdeal.nD → PrngReg), Pre_WeightsRefIdeal m →
    θ_run (Cert.WeightsRefIdeal.defs (F := Ideal)) (onTc (τ := Cert.WeightsRefIdeal.τ) (Cert.WeightsRefIdeal.main (F := Ideal))) ⟨m, fun _ => 0, g⟩ (fun r => (∀ c : Dev Cert.WeightsRefIdeal.nD,
      r.2.mem ((c.tc : Thread Cert.WeightsRefIdeal.nD Cert.WeightsRefIdeal.τ).loc Cert.WeightsRefIdeal.main_arg0) = m ((c.tc : Thread Cert.WeightsRefIdeal.nD Cert.WeightsRefIdeal.τ).loc Cert.WeightsRefIdeal.main_arg0)
      ∧ r.2.mem ((c.tc : Thread Cert.WeightsRefIdeal.nD Cert.WeightsRefIdeal.τ).loc Cert.WeightsRefIdeal.main_arg1) = m ((c.tc : Thread Cert.WeightsRefIdeal.nD Cert.WeightsRefIdeal.τ).loc Cert.WeightsRefIdeal.main_arg1)
      ∧ r.2.mem ((c.tc : Thread Cert.WeightsRefIdeal.nD Cert.WeightsRefIdeal.τ).loc Cert.WeightsRefIdeal.main_arg2) = m ((c.tc : Thread Cert.WeightsRefIdeal.nD Cert.WeightsRefIdeal.τ).loc Cert.WeightsRefIdeal.main_arg2)
      ∧ r.2.mem ((c.tc : Thread Cert.WeightsRefIdeal.nD Cert.WeightsRefIdeal.τ).loc Cert.WeightsRefIdeal.main_arg3) = m ((c.tc : Thread Cert.WeightsRefIdeal.nD Cert.WeightsRefIdeal.τ).loc Cert.WeightsRefIdeal.main_arg3)
      ∧ r.2.mem ((c.tc : Thread Cert.WeightsRefIdeal.nD Cert.WeightsRefIdeal.τ).loc Cert.WeightsRefIdeal.main_arg4) = m ((c.tc : Thread Cert.WeightsRefIdeal.nD Cert.WeightsRefIdeal.τ).loc Cert.WeightsRefIdeal.main_arg4)
      ∧ r.2.mem ((c.tc : Thread Cert.WeightsRefIdeal.nD Cert.WeightsRefIdeal.τ).loc Cert.WeightsRefIdeal.main_arg5) = m ((c.tc : Thread Cert.WeightsRefIdeal.nD Cert.WeightsRefIdeal.τ).loc Cert.WeightsRefIdeal.main_arg5))
      ∧ r.2.sem = fun _ => 0)

def quiescent_WeightsRef [hWeightsRef : Cert.WeightsRef.Facts] : Prop :=
  ∀ (m : (ℓ : Loc Cert.WeightsRef.nD Cert.WeightsRef.τ Cert.WeightsRef.sig) → Buf (Elt Bits) ℓ) (g : Dev Cert.WeightsRef.nD → PrngReg), Pre_WeightsRef m →
    θ_run (Cert.WeightsRef.defs (F := Bits)) (onTc (τ := Cert.WeightsRef.τ) (Cert.WeightsRef.main (F := Bits))) ⟨m, fun _ => 0, g⟩ (fun r => (∀ c : Dev Cert.WeightsRef.nD,
      r.2.mem ((c.tc : Thread Cert.WeightsRef.nD Cert.WeightsRef.τ).loc Cert.WeightsRef.main_arg0) = m ((c.tc : Thread Cert.WeightsRef.nD Cert.WeightsRef.τ).loc Cert.WeightsRef.main_arg0)
      ∧ r.2.mem ((c.tc : Thread Cert.WeightsRef.nD Cert.WeightsRef.τ).loc Cert.WeightsRef.main_arg1) = m ((c.tc : Thread Cert.WeightsRef.nD Cert.WeightsRef.τ).loc Cert.WeightsRef.main_arg1)
      ∧ r.2.mem ((c.tc : Thread Cert.WeightsRef.nD Cert.WeightsRef.τ).loc Cert.WeightsRef.main_arg2) = m ((c.tc : Thread Cert.WeightsRef.nD Cert.WeightsRef.τ).loc Cert.WeightsRef.main_arg2)
      ∧ r.2.mem ((c.tc : Thread Cert.WeightsRef.nD Cert.WeightsRef.τ).loc Cert.WeightsRef.main_arg3) = m ((c.tc : Thread Cert.WeightsRef.nD Cert.WeightsRef.τ).loc Cert.WeightsRef.main_arg3)
      ∧ r.2.mem ((c.tc : Thread Cert.WeightsRef.nD Cert.WeightsRef.τ).loc Cert.WeightsRef.main_arg4) = m ((c.tc : Thread Cert.WeightsRef.nD Cert.WeightsRef.τ).loc Cert.WeightsRef.main_arg4)
      ∧ r.2.mem ((c.tc : Thread Cert.WeightsRef.nD Cert.WeightsRef.τ).loc Cert.WeightsRef.main_arg5) = m ((c.tc : Thread Cert.WeightsRef.nD Cert.WeightsRef.τ).loc Cert.WeightsRef.main_arg5))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1))
      ∧ r.2.sem = fun _ => 0)

def quiescent_SmallRef [hSmallRef : Cert.SmallRef.Facts] : Prop :=
  ∀ (m : (ℓ : Loc Cert.SmallRef.nD Cert.SmallRef.τ Cert.SmallRef.sig) → Buf (Elt Bits) ℓ) (g : Dev Cert.SmallRef.nD → PrngReg), Pre_SmallRef m →
    θ_run (Cert.SmallRef.defs (F := Bits)) (onTc (τ := Cert.SmallRef.τ) (Cert.SmallRef.main (F := Bits))) ⟨m, fun _ => 0, g⟩ (fun r => (∀ c : Dev Cert.SmallRef.nD,
      r.2.mem ((c.tc : Thread Cert.SmallRef.nD Cert.SmallRef.τ).loc Cert.SmallRef.main_arg0) = m ((c.tc : Thread Cert.SmallRef.nD Cert.SmallRef.τ).loc Cert.SmallRef.main_arg0)
      ∧ r.2.mem ((c.tc : Thread Cert.SmallRef.nD Cert.SmallRef.τ).loc Cert.SmallRef.main_arg1) = m ((c.tc : Thread Cert.SmallRef.nD Cert.SmallRef.τ).loc Cert.SmallRef.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1)
      ∧ r.2.mem ((c.tc : Thread Cert.Uq.nD Cert.Uq.τ).loc Cert.Uq.main_arg2) = m ((c.tc : Thread Cert.Uq.nD Cert.Uq.τ).loc Cert.Uq.main_arg2)
      ∧ r.2.mem ((c.tc : Thread Cert.Uq.nD Cert.Uq.τ).loc Cert.Uq.main_arg3) = m ((c.tc : Thread Cert.Uq.nD Cert.Uq.τ).loc Cert.Uq.main_arg3))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1)
      ∧ r.2.mem ((c.tc : Thread Cert.UqIdeal.nD Cert.UqIdeal.τ).loc Cert.UqIdeal.main_arg2) = m ((c.tc : Thread Cert.UqIdeal.nD Cert.UqIdeal.τ).loc Cert.UqIdeal.main_arg2)
      ∧ r.2.mem ((c.tc : Thread Cert.UqIdeal.nD Cert.UqIdeal.τ).loc Cert.UqIdeal.main_arg3) = m ((c.tc : Thread Cert.UqIdeal.nD Cert.UqIdeal.τ).loc Cert.UqIdeal.main_arg3))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1)
      ∧ r.2.mem ((c.tc : Thread Cert.UqRefIdeal.nD Cert.UqRefIdeal.τ).loc Cert.UqRefIdeal.main_arg2) = m ((c.tc : Thread Cert.UqRefIdeal.nD Cert.UqRefIdeal.τ).loc Cert.UqRefIdeal.main_arg2)
      ∧ r.2.mem ((c.tc : Thread Cert.UqRefIdeal.nD Cert.UqRefIdeal.τ).loc Cert.UqRefIdeal.main_arg3) = m ((c.tc : Thread Cert.UqRefIdeal.nD Cert.UqRefIdeal.τ).loc Cert.UqRefIdeal.main_arg3))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2)
      ∧ r.2.mem ((c.tc : Thread Cert.Wo.nD Cert.Wo.τ).loc Cert.Wo.main_arg3) = m ((c.tc : Thread Cert.Wo.nD Cert.Wo.τ).loc Cert.Wo.main_arg3))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2)
      ∧ r.2.mem ((c.tc : Thread Cert.WoRefIdeal.nD Cert.WoRefIdeal.τ).loc Cert.WoRefIdeal.main_arg3) = m ((c.tc : Thread Cert.WoRefIdeal.nD Cert.WoRefIdeal.τ).loc Cert.WoRefIdeal.main_arg3))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3))
      ∧ r.2.sem = fun _ => 0)

def quiescent_Wup [hWup : Cert.Wup.Facts] : Prop :=
  ∀ (m : (ℓ : Loc Cert.Wup.nD Cert.Wup.τ Cert.Wup.sig) → Buf (Elt Bits) ℓ) (g : Dev Cert.Wup.nD → PrngReg), Pre_Wup m →
    θ_run (Cert.Wup.defs (F := Bits)) (onTc (τ := Cert.Wup.τ) (Cert.Wup.main (F := Bits))) ⟨m, fun _ => 0, g⟩ (fun r => (∀ c : Dev Cert.Wup.nD,
      r.2.mem ((c.tc : Thread Cert.Wup.nD Cert.Wup.τ).loc Cert.Wup.main_arg0) = m ((c.tc : Thread Cert.Wup.nD Cert.Wup.τ).loc Cert.Wup.main_arg0)
      ∧ r.2.mem ((c.tc : Thread Cert.Wup.nD Cert.Wup.τ).loc Cert.Wup.main_arg1) = m ((c.tc : Thread Cert.Wup.nD Cert.Wup.τ).loc Cert.Wup.main_arg1)
      ∧ r.2.mem ((c.tc : Thread Cert.Wup.nD Cert.Wup.τ).loc Cert.Wup.main_arg2) = m ((c.tc : Thread Cert.Wup.nD Cert.Wup.τ).loc Cert.Wup.main_arg2)
      ∧ r.2.mem ((c.tc : Thread Cert.Wup.nD Cert.Wup.τ).loc Cert.Wup.main_arg3) = m ((c.tc : Thread Cert.Wup.nD Cert.Wup.τ).loc Cert.Wup.main_arg3))
      ∧ r.2.sem = fun _ => 0)

def quiescent_WupIdeal [hWupIdeal : Cert.WupIdeal.Facts] : Prop :=
  ∀ (m : (ℓ : Loc Cert.WupIdeal.nD Cert.WupIdeal.τ Cert.WupIdeal.sig) → Buf (Elt Ideal) ℓ) (g : Dev Cert.WupIdeal.nD → PrngReg), Pre_WupIdeal m →
    θ_run (Cert.WupIdeal.defs (F := Ideal)) (onTc (τ := Cert.WupIdeal.τ) (Cert.WupIdeal.main (F := Ideal))) ⟨m, fun _ => 0, g⟩ (fun r => (∀ c : Dev Cert.WupIdeal.nD,
      r.2.mem ((c.tc : Thread Cert.WupIdeal.nD Cert.WupIdeal.τ).loc Cert.WupIdeal.main_arg0) = m ((c.tc : Thread Cert.WupIdeal.nD Cert.WupIdeal.τ).loc Cert.WupIdeal.main_arg0)
      ∧ r.2.mem ((c.tc : Thread Cert.WupIdeal.nD Cert.WupIdeal.τ).loc Cert.WupIdeal.main_arg1) = m ((c.tc : Thread Cert.WupIdeal.nD Cert.WupIdeal.τ).loc Cert.WupIdeal.main_arg1)
      ∧ r.2.mem ((c.tc : Thread Cert.WupIdeal.nD Cert.WupIdeal.τ).loc Cert.WupIdeal.main_arg2) = m ((c.tc : Thread Cert.WupIdeal.nD Cert.WupIdeal.τ).loc Cert.WupIdeal.main_arg2)
      ∧ r.2.mem ((c.tc : Thread Cert.WupIdeal.nD Cert.WupIdeal.τ).loc Cert.WupIdeal.main_arg3) = m ((c.tc : Thread Cert.WupIdeal.nD Cert.WupIdeal.τ).loc Cert.WupIdeal.main_arg3))
      ∧ r.2.sem = fun _ => 0)

def quiescent_WupRefIdeal [hWupRefIdeal : Cert.WupRefIdeal.Facts] : Prop :=
  ∀ (m : (ℓ : Loc Cert.WupRefIdeal.nD Cert.WupRefIdeal.τ Cert.WupRefIdeal.sig) → Buf (Elt Ideal) ℓ) (g : Dev Cert.WupRefIdeal.nD → PrngReg), Pre_WupRefIdeal m →
    θ_run (Cert.WupRefIdeal.defs (F := Ideal)) (onTc (τ := Cert.WupRefIdeal.τ) (Cert.WupRefIdeal.main (F := Ideal))) ⟨m, fun _ => 0, g⟩ (fun r => (∀ c : Dev Cert.WupRefIdeal.nD,
      r.2.mem ((c.tc : Thread Cert.WupRefIdeal.nD Cert.WupRefIdeal.τ).loc Cert.WupRefIdeal.main_arg0) = m ((c.tc : Thread Cert.WupRefIdeal.nD Cert.WupRefIdeal.τ).loc Cert.WupRefIdeal.main_arg0)
      ∧ r.2.mem ((c.tc : Thread Cert.WupRefIdeal.nD Cert.WupRefIdeal.τ).loc Cert.WupRefIdeal.main_arg1) = m ((c.tc : Thread Cert.WupRefIdeal.nD Cert.WupRefIdeal.τ).loc Cert.WupRefIdeal.main_arg1)
      ∧ r.2.mem ((c.tc : Thread Cert.WupRefIdeal.nD Cert.WupRefIdeal.τ).loc Cert.WupRefIdeal.main_arg2) = m ((c.tc : Thread Cert.WupRefIdeal.nD Cert.WupRefIdeal.τ).loc Cert.WupRefIdeal.main_arg2)
      ∧ r.2.mem ((c.tc : Thread Cert.WupRefIdeal.nD Cert.WupRefIdeal.τ).loc Cert.WupRefIdeal.main_arg3) = m ((c.tc : Thread Cert.WupRefIdeal.nD Cert.WupRefIdeal.τ).loc Cert.WupRefIdeal.main_arg3))
      ∧ r.2.sem = fun _ => 0)

def quiescent_Rep [hRep : Cert.Rep.Facts] : Prop :=
  ∀ (m : (ℓ : Loc Cert.Rep.nD Cert.Rep.τ Cert.Rep.sig) → Buf (Elt Bits) ℓ) (g : Dev Cert.Rep.nD → PrngReg), Pre_Rep m →
    θ_run (Cert.Rep.defs (F := Bits)) (onTc (τ := Cert.Rep.τ) (Cert.Rep.main (F := Bits))) ⟨m, fun _ => 0, g⟩ (fun r => (∀ c : Dev Cert.Rep.nD,
      r.2.mem ((c.tc : Thread Cert.Rep.nD Cert.Rep.τ).loc Cert.Rep.main_arg0) = m ((c.tc : Thread Cert.Rep.nD Cert.Rep.τ).loc Cert.Rep.main_arg0)
      ∧ r.2.mem ((c.tc : Thread Cert.Rep.nD Cert.Rep.τ).loc Cert.Rep.main_arg1) = m ((c.tc : Thread Cert.Rep.nD Cert.Rep.τ).loc Cert.Rep.main_arg1)
      ∧ r.2.mem ((c.tc : Thread Cert.Rep.nD Cert.Rep.τ).loc Cert.Rep.main_arg2) = m ((c.tc : Thread Cert.Rep.nD Cert.Rep.τ).loc Cert.Rep.main_arg2)
      ∧ r.2.mem ((c.tc : Thread Cert.Rep.nD Cert.Rep.τ).loc Cert.Rep.main_arg3) = m ((c.tc : Thread Cert.Rep.nD Cert.Rep.τ).loc Cert.Rep.main_arg3))
      ∧ r.2.sem = fun _ => 0)

def quiescent_RepIdeal [hRepIdeal : Cert.RepIdeal.Facts] : Prop :=
  ∀ (m : (ℓ : Loc Cert.RepIdeal.nD Cert.RepIdeal.τ Cert.RepIdeal.sig) → Buf (Elt Ideal) ℓ) (g : Dev Cert.RepIdeal.nD → PrngReg), Pre_RepIdeal m →
    θ_run (Cert.RepIdeal.defs (F := Ideal)) (onTc (τ := Cert.RepIdeal.τ) (Cert.RepIdeal.main (F := Ideal))) ⟨m, fun _ => 0, g⟩ (fun r => (∀ c : Dev Cert.RepIdeal.nD,
      r.2.mem ((c.tc : Thread Cert.RepIdeal.nD Cert.RepIdeal.τ).loc Cert.RepIdeal.main_arg0) = m ((c.tc : Thread Cert.RepIdeal.nD Cert.RepIdeal.τ).loc Cert.RepIdeal.main_arg0)
      ∧ r.2.mem ((c.tc : Thread Cert.RepIdeal.nD Cert.RepIdeal.τ).loc Cert.RepIdeal.main_arg1) = m ((c.tc : Thread Cert.RepIdeal.nD Cert.RepIdeal.τ).loc Cert.RepIdeal.main_arg1)
      ∧ r.2.mem ((c.tc : Thread Cert.RepIdeal.nD Cert.RepIdeal.τ).loc Cert.RepIdeal.main_arg2) = m ((c.tc : Thread Cert.RepIdeal.nD Cert.RepIdeal.τ).loc Cert.RepIdeal.main_arg2)
      ∧ r.2.mem ((c.tc : Thread Cert.RepIdeal.nD Cert.RepIdeal.τ).loc Cert.RepIdeal.main_arg3) = m ((c.tc : Thread Cert.RepIdeal.nD Cert.RepIdeal.τ).loc Cert.RepIdeal.main_arg3))
      ∧ r.2.sem = fun _ => 0)

def quiescent_RepRefIdeal [hRepRefIdeal : Cert.RepRefIdeal.Facts] : Prop :=
  ∀ (m : (ℓ : Loc Cert.RepRefIdeal.nD Cert.RepRefIdeal.τ Cert.RepRefIdeal.sig) → Buf (Elt Ideal) ℓ) (g : Dev Cert.RepRefIdeal.nD → PrngReg), Pre_RepRefIdeal m →
    θ_run (Cert.RepRefIdeal.defs (F := Ideal)) (onTc (τ := Cert.RepRefIdeal.τ) (Cert.RepRefIdeal.main (F := Ideal))) ⟨m, fun _ => 0, g⟩ (fun r => (∀ c : Dev Cert.RepRefIdeal.nD,
      r.2.mem ((c.tc : Thread Cert.RepRefIdeal.nD Cert.RepRefIdeal.τ).loc Cert.RepRefIdeal.main_arg0) = m ((c.tc : Thread Cert.RepRefIdeal.nD Cert.RepRefIdeal.τ).loc Cert.RepRefIdeal.main_arg0)
      ∧ r.2.mem ((c.tc : Thread Cert.RepRefIdeal.nD Cert.RepRefIdeal.τ).loc Cert.RepRefIdeal.main_arg1) = m ((c.tc : Thread Cert.RepRefIdeal.nD Cert.RepRefIdeal.τ).loc Cert.RepRefIdeal.main_arg1)
      ∧ r.2.mem ((c.tc : Thread Cert.RepRefIdeal.nD Cert.RepRefIdeal.τ).loc Cert.RepRefIdeal.main_arg2) = m ((c.tc : Thread Cert.RepRefIdeal.nD Cert.RepRefIdeal.τ).loc Cert.RepRefIdeal.main_arg2)
      ∧ r.2.mem ((c.tc : Thread Cert.RepRefIdeal.nD Cert.RepRefIdeal.τ).loc Cert.RepRefIdeal.main_arg3) = m ((c.tc : Thread Cert.RepRefIdeal.nD Cert.RepRefIdeal.τ).loc Cert.RepRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0))
      ∧ r.2.sem = fun _ => 0)

def quiescent_Dx0 [hDx0 : Cert.Dx0.Facts] : Prop :=
  ∀ (m : (ℓ : Loc Cert.Dx0.nD Cert.Dx0.τ Cert.Dx0.sig) → Buf (Elt Bits) ℓ) (g : Dev Cert.Dx0.nD → PrngReg), Pre_Dx0 m →
    θ_run (Cert.Dx0.defs (F := Bits)) (onTc (τ := Cert.Dx0.τ) (Cert.Dx0.main (F := Bits))) ⟨m, fun _ => 0, g⟩ (fun r => (∀ c : Dev Cert.Dx0.nD,
      r.2.mem ((c.tc : Thread Cert.Dx0.nD Cert.Dx0.τ).loc Cert.Dx0.main_arg0) = m ((c.tc : Thread Cert.Dx0.nD Cert.Dx0.τ).loc Cert.Dx0.main_arg0)
      ∧ r.2.mem ((c.tc : Thread Cert.Dx0.nD Cert.Dx0.τ).loc Cert.Dx0.main_arg1) = m ((c.tc : Thread Cert.Dx0.nD Cert.Dx0.τ).loc Cert.Dx0.main_arg1)
      ∧ r.2.mem ((c.tc : Thread Cert.Dx0.nD Cert.Dx0.τ).loc Cert.Dx0.main_arg2) = m ((c.tc : Thread Cert.Dx0.nD Cert.Dx0.τ).loc Cert.Dx0.main_arg2))
      ∧ r.2.sem = fun _ => 0)

def quiescent_Dx0Ideal [hDx0Ideal : Cert.Dx0Ideal.Facts] : Prop :=
  ∀ (m : (ℓ : Loc Cert.Dx0Ideal.nD Cert.Dx0Ideal.τ Cert.Dx0Ideal.sig) → Buf (Elt Ideal) ℓ) (g : Dev Cert.Dx0Ideal.nD → PrngReg), Pre_Dx0Ideal m →
    θ_run (Cert.Dx0Ideal.defs (F := Ideal)) (onTc (τ := Cert.Dx0Ideal.τ) (Cert.Dx0Ideal.main (F := Ideal))) ⟨m, fun _ => 0, g⟩ (fun r => (∀ c : Dev Cert.Dx0Ideal.nD,
      r.2.mem ((c.tc : Thread Cert.Dx0Ideal.nD Cert.Dx0Ideal.τ).loc Cert.Dx0Ideal.main_arg0) = m ((c.tc : Thread Cert.Dx0Ideal.nD Cert.Dx0Ideal.τ).loc Cert.Dx0Ideal.main_arg0)
      ∧ r.2.mem ((c.tc : Thread Cert.Dx0Ideal.nD Cert.Dx0Ideal.τ).loc Cert.Dx0Ideal.main_arg1) = m ((c.tc : Thread Cert.Dx0Ideal.nD Cert.Dx0Ideal.τ).loc Cert.Dx0Ideal.main_arg1)
      ∧ r.2.mem ((c.tc : Thread Cert.Dx0Ideal.nD Cert.Dx0Ideal.τ).loc Cert.Dx0Ideal.main_arg2) = m ((c.tc : Thread Cert.Dx0Ideal.nD Cert.Dx0Ideal.τ).loc Cert.Dx0Ideal.main_arg2))
      ∧ r.2.sem = fun _ => 0)

def quiescent_Dx0RefIdeal [hDx0RefIdeal : Cert.Dx0RefIdeal.Facts] : Prop :=
  ∀ (m : (ℓ : Loc Cert.Dx0RefIdeal.nD Cert.Dx0RefIdeal.τ Cert.Dx0RefIdeal.sig) → Buf (Elt Ideal) ℓ) (g : Dev Cert.Dx0RefIdeal.nD → PrngReg), Pre_Dx0RefIdeal m →
    θ_run (Cert.Dx0RefIdeal.defs (F := Ideal)) (onTc (τ := Cert.Dx0RefIdeal.τ) (Cert.Dx0RefIdeal.main (F := Ideal))) ⟨m, fun _ => 0, g⟩ (fun r => (∀ c : Dev Cert.Dx0RefIdeal.nD,
      r.2.mem ((c.tc : Thread Cert.Dx0RefIdeal.nD Cert.Dx0RefIdeal.τ).loc Cert.Dx0RefIdeal.main_arg0) = m ((c.tc : Thread Cert.Dx0RefIdeal.nD Cert.Dx0RefIdeal.τ).loc Cert.Dx0RefIdeal.main_arg0)
      ∧ r.2.mem ((c.tc : Thread Cert.Dx0RefIdeal.nD Cert.Dx0RefIdeal.τ).loc Cert.Dx0RefIdeal.main_arg1) = m ((c.tc : Thread Cert.Dx0RefIdeal.nD Cert.Dx0RefIdeal.τ).loc Cert.Dx0RefIdeal.main_arg1)
      ∧ r.2.mem ((c.tc : Thread Cert.Dx0RefIdeal.nD Cert.Dx0RefIdeal.τ).loc Cert.Dx0RefIdeal.main_arg2) = m ((c.tc : Thread Cert.Dx0RefIdeal.nD Cert.Dx0RefIdeal.τ).loc Cert.Dx0RefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DoDil [hDoDil : Cert.DoDil.Facts] : Prop :=
  ∀ (m : (ℓ : Loc Cert.DoDil.nD Cert.DoDil.τ Cert.DoDil.sig) → Buf (Elt Bits) ℓ) (g : Dev Cert.DoDil.nD → PrngReg), Pre_DoDil m →
    θ_run (Cert.DoDil.defs (F := Bits)) (onTc (τ := Cert.DoDil.τ) (Cert.DoDil.main (F := Bits))) ⟨m, fun _ => 0, g⟩ (fun r => (∀ c : Dev Cert.DoDil.nD,
      r.2.mem ((c.tc : Thread Cert.DoDil.nD Cert.DoDil.τ).loc Cert.DoDil.main_arg0) = m ((c.tc : Thread Cert.DoDil.nD Cert.DoDil.τ).loc Cert.DoDil.main_arg0)
      ∧ r.2.mem ((c.tc : Thread Cert.DoDil.nD Cert.DoDil.τ).loc Cert.DoDil.main_arg1) = m ((c.tc : Thread Cert.DoDil.nD Cert.DoDil.τ).loc Cert.DoDil.main_arg1))
      ∧ r.2.sem = fun _ => 0)

def quiescent_DoDilIdeal [hDoDilIdeal : Cert.DoDilIdeal.Facts] : Prop :=
  ∀ (m : (ℓ : Loc Cert.DoDilIdeal.nD Cert.DoDilIdeal.τ Cert.DoDilIdeal.sig) → Buf (Elt Ideal) ℓ) (g : Dev Cert.DoDilIdeal.nD → PrngReg), Pre_DoDilIdeal m →
    θ_run (Cert.DoDilIdeal.defs (F := Ideal)) (onTc (τ := Cert.DoDilIdeal.τ) (Cert.DoDilIdeal.main (F := Ideal))) ⟨m, fun _ => 0, g⟩ (fun r => (∀ c : Dev Cert.DoDilIdeal.nD,
      r.2.mem ((c.tc : Thread Cert.DoDilIdeal.nD Cert.DoDilIdeal.τ).loc Cert.DoDilIdeal.main_arg0) = m ((c.tc : Thread Cert.DoDilIdeal.nD Cert.DoDilIdeal.τ).loc Cert.DoDilIdeal.main_arg0)
      ∧ r.2.mem ((c.tc : Thread Cert.DoDilIdeal.nD Cert.DoDilIdeal.τ).loc Cert.DoDilIdeal.main_arg1) = m ((c.tc : Thread Cert.DoDilIdeal.nD Cert.DoDilIdeal.τ).loc Cert.DoDilIdeal.main_arg1))
      ∧ r.2.sem = fun _ => 0)

def quiescent_DoDilRefIdeal [hDoDilRefIdeal : Cert.DoDilRefIdeal.Facts] : Prop :=
  ∀ (m : (ℓ : Loc Cert.DoDilRefIdeal.nD Cert.DoDilRefIdeal.τ Cert.DoDilRefIdeal.sig) → Buf (Elt Ideal) ℓ) (g : Dev Cert.DoDilRefIdeal.nD → PrngReg), Pre_DoDilRefIdeal m →
    θ_run (Cert.DoDilRefIdeal.defs (F := Ideal)) (onTc (τ := Cert.DoDilRefIdeal.τ) (Cert.DoDilRefIdeal.main (F := Ideal))) ⟨m, fun _ => 0, g⟩ (fun r => (∀ c : Dev Cert.DoDilRefIdeal.nD,
      r.2.mem ((c.tc : Thread Cert.DoDilRefIdeal.nD Cert.DoDilRefIdeal.τ).loc Cert.DoDilRefIdeal.main_arg0) = m ((c.tc : Thread Cert.DoDilRefIdeal.nD Cert.DoDilRefIdeal.τ).loc Cert.DoDilRefIdeal.main_arg0)
      ∧ r.2.mem ((c.tc : Thread Cert.DoDilRefIdeal.nD Cert.DoDilRefIdeal.τ).loc Cert.DoDilRefIdeal.main_arg1) = m ((c.tc : Thread Cert.DoDilRefIdeal.nD Cert.DoDilRefIdeal.τ).loc Cert.DoDilRefIdeal.main_arg1))
      ∧ r.2.sem = fun _ => 0)

def quiescent_DoMla [hDoMla : Cert.DoMla.Facts] : Prop :=
  ∀ (m : (ℓ : Loc Cert.DoMla.nD Cert.DoMla.τ Cert.DoMla.sig) → Buf (Elt Bits) ℓ) (g : Dev Cert.DoMla.nD → PrngReg), Pre_DoMla m →
    θ_run (Cert.DoMla.defs (F := Bits)) (onTc (τ := Cert.DoMla.τ) (Cert.DoMla.main (F := Bits))) ⟨m, fun _ => 0, g⟩ (fun r => (∀ c : Dev Cert.DoMla.nD,
      r.2.mem ((c.tc : Thread Cert.DoMla.nD Cert.DoMla.τ).loc Cert.DoMla.main_arg0) = m ((c.tc : Thread Cert.DoMla.nD Cert.DoMla.τ).loc Cert.DoMla.main_arg0)
      ∧ r.2.mem ((c.tc : Thread Cert.DoMla.nD Cert.DoMla.τ).loc Cert.DoMla.main_arg1) = m ((c.tc : Thread Cert.DoMla.nD Cert.DoMla.τ).loc Cert.DoMla.main_arg1))
      ∧ r.2.sem = fun _ => 0)

def quiescent_DoMlaIdeal [hDoMlaIdeal : Cert.DoMlaIdeal.Facts] : Prop :=
  ∀ (m : (ℓ : Loc Cert.DoMlaIdeal.nD Cert.DoMlaIdeal.τ Cert.DoMlaIdeal.sig) → Buf (Elt Ideal) ℓ) (g : Dev Cert.DoMlaIdeal.nD → PrngReg), Pre_DoMlaIdeal m →
    θ_run (Cert.DoMlaIdeal.defs (F := Ideal)) (onTc (τ := Cert.DoMlaIdeal.τ) (Cert.DoMlaIdeal.main (F := Ideal))) ⟨m, fun _ => 0, g⟩ (fun r => (∀ c : Dev Cert.DoMlaIdeal.nD,
      r.2.mem ((c.tc : Thread Cert.DoMlaIdeal.nD Cert.DoMlaIdeal.τ).loc Cert.DoMlaIdeal.main_arg0) = m ((c.tc : Thread Cert.DoMlaIdeal.nD Cert.DoMlaIdeal.τ).loc Cert.DoMlaIdeal.main_arg0)
      ∧ r.2.mem ((c.tc : Thread Cert.DoMlaIdeal.nD Cert.DoMlaIdeal.τ).loc Cert.DoMlaIdeal.main_arg1) = m ((c.tc : Thread Cert.DoMlaIdeal.nD Cert.DoMlaIdeal.τ).loc Cert.DoMlaIdeal.main_arg1))
      ∧ r.2.sem = fun _ => 0)

def quiescent_DoMlaRefIdeal [hDoMlaRefIdeal : Cert.DoMlaRefIdeal.Facts] : Prop :=
  ∀ (m : (ℓ : Loc Cert.DoMlaRefIdeal.nD Cert.DoMlaRefIdeal.τ Cert.DoMlaRefIdeal.sig) → Buf (Elt Ideal) ℓ) (g : Dev Cert.DoMlaRefIdeal.nD → PrngReg), Pre_DoMlaRefIdeal m →
    θ_run (Cert.DoMlaRefIdeal.defs (F := Ideal)) (onTc (τ := Cert.DoMlaRefIdeal.τ) (Cert.DoMlaRefIdeal.main (F := Ideal))) ⟨m, fun _ => 0, g⟩ (fun r => (∀ c : Dev Cert.DoMlaRefIdeal.nD,
      r.2.mem ((c.tc : Thread Cert.DoMlaRefIdeal.nD Cert.DoMlaRefIdeal.τ).loc Cert.DoMlaRefIdeal.main_arg0) = m ((c.tc : Thread Cert.DoMlaRefIdeal.nD Cert.DoMlaRefIdeal.τ).loc Cert.DoMlaRefIdeal.main_arg0)
      ∧ r.2.mem ((c.tc : Thread Cert.DoMlaRefIdeal.nD Cert.DoMlaRefIdeal.τ).loc Cert.DoMlaRefIdeal.main_arg1) = m ((c.tc : Thread Cert.DoMlaRefIdeal.nD Cert.DoMlaRefIdeal.τ).loc Cert.DoMlaRefIdeal.main_arg1))
      ∧ r.2.sem = fun _ => 0)

def quiescent_Dx1 [hDx1 : Cert.Dx1.Facts] : Prop :=
  ∀ (m : (ℓ : Loc Cert.Dx1.nD Cert.Dx1.τ Cert.Dx1.sig) → Buf (Elt Bits) ℓ) (g : Dev Cert.Dx1.nD → PrngReg), Pre_Dx1 m →
    θ_run (Cert.Dx1.defs (F := Bits)) (onTc (τ := Cert.Dx1.τ) (Cert.Dx1.main (F := Bits))) ⟨m, fun _ => 0, g⟩ (fun r => (∀ c : Dev Cert.Dx1.nD,
      r.2.mem ((c.tc : Thread Cert.Dx1.nD Cert.Dx1.τ).loc Cert.Dx1.main_arg0) = m ((c.tc : Thread Cert.Dx1.nD Cert.Dx1.τ).loc Cert.Dx1.main_arg0)
      ∧ r.2.mem ((c.tc : Thread Cert.Dx1.nD Cert.Dx1.τ).loc Cert.Dx1.main_arg1) = m ((c.tc : Thread Cert.Dx1.nD Cert.Dx1.τ).loc Cert.Dx1.main_arg1)
      ∧ r.2.mem ((c.tc : Thread Cert.Dx1.nD Cert.Dx1.τ).loc Cert.Dx1.main_arg2) = m ((c.tc : Thread Cert.Dx1.nD Cert.Dx1.τ).loc Cert.Dx1.main_arg2))
      ∧ r.2.sem = fun _ => 0)

def quiescent_Dx1Ideal [hDx1Ideal : Cert.Dx1Ideal.Facts] : Prop :=
  ∀ (m : (ℓ : Loc Cert.Dx1Ideal.nD Cert.Dx1Ideal.τ Cert.Dx1Ideal.sig) → Buf (Elt Ideal) ℓ) (g : Dev Cert.Dx1Ideal.nD → PrngReg), Pre_Dx1Ideal m →
    θ_run (Cert.Dx1Ideal.defs (F := Ideal)) (onTc (τ := Cert.Dx1Ideal.τ) (Cert.Dx1Ideal.main (F := Ideal))) ⟨m, fun _ => 0, g⟩ (fun r => (∀ c : Dev Cert.Dx1Ideal.nD,
      r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
      ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1)
      ∧ r.2.mem ((c.tc : Thread Cert.Dx1Ideal.nD Cert.Dx1Ideal.τ).loc Cert.Dx1Ideal.main_arg2) = m ((c.tc : Thread Cert.Dx1Ideal.nD Cert.Dx1Ideal.τ).loc Cert.Dx1Ideal.main_arg2))
      ∧ r.2.sem = fun _ => 0)

def quiescent_Dx1RefIdeal [hDx1RefIdeal : Cert.Dx1RefIdeal.Facts] : Prop :=
  ∀ (m : (ℓ : Loc Cert.Dx1RefIdeal.nD Cert.Dx1RefIdeal.τ Cert.Dx1RefIdeal.sig) → Buf (Elt Ideal) ℓ) (g : Dev Cert.Dx1RefIdeal.nD → PrngReg), Pre_Dx1RefIdeal m →
    θ_run (Cert.Dx1RefIdeal.defs (F := Ideal)) (onTc (τ := Cert.Dx1RefIdeal.τ) (Cert.Dx1RefIdeal.main (F := Ideal))) ⟨m, fun _ => 0, g⟩ (fun r => (∀ c : Dev Cert.Dx1RefIdeal.nD,
      r.2.mem ((c.tc : Thread Cert.Dx1RefIdeal.nD Cert.Dx1RefIdeal.τ).loc Cert.Dx1RefIdeal.main_arg0) = m ((c.tc : Thread Cert.Dx1RefIdeal.nD Cert.Dx1RefIdeal.τ).loc Cert.Dx1RefIdeal.main_arg0)
      ∧ r.2.mem ((c.tc : Thread Cert.Dx1RefIdeal.nD Cert.Dx1RefIdeal.τ).loc Cert.Dx1RefIdeal.main_arg1) = m ((c.tc : Thread Cert.Dx1RefIdeal.nD Cert.Dx1RefIdeal.τ).loc Cert.Dx1RefIdeal.main_arg1)
      ∧ r.2.mem ((c.tc : Thread Cert.Dx1RefIdeal.nD Cert.Dx1RefIdeal.τ).loc Cert.Dx1RefIdeal.main_arg2) = m ((c.tc : Thread Cert.Dx1RefIdeal.nD Cert.Dx1RefIdeal.τ).loc Cert.Dx1RefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwODil [hDwODil : Cert.DwODil.Facts] : Prop :=
  ∀ (m : (ℓ : Loc Cert.DwODil.nD Cert.DwODil.τ Cert.DwODil.sig) → Buf (Elt Bits) ℓ) (g : Dev Cert.DwODil.nD → PrngReg), Pre_DwODil m →
    θ_run (Cert.DwODil.defs (F := Bits)) (onTc (τ := Cert.DwODil.τ) (Cert.DwODil.main (F := Bits))) ⟨m, fun _ => 0, g⟩ (fun r => (∀ c : Dev Cert.DwODil.nD,
      r.2.mem ((c.tc : Thread Cert.DwODil.nD Cert.DwODil.τ).loc Cert.DwODil.main_arg0) = m ((c.tc : Thread Cert.DwODil.nD Cert.DwODil.τ).loc Cert.DwODil.main_arg0)
      ∧ r.2.mem ((c.tc : Thread Cert.DwODil.nD Cert.DwODil.τ).loc Cert.DwODil.main_arg1) = m ((c.tc : Thread Cert.DwODil.nD Cert.DwODil.τ).loc Cert.DwODil.main_arg1))
      ∧ r.2.sem = fun _ => 0)

def quiescent_DwODilIdeal [hDwODilIdeal : Cert.DwODilIdeal.Facts] : Prop :=
  ∀ (m : (ℓ : Loc Cert.DwODilIdeal.nD Cert.DwODilIdeal.τ Cert.DwODilIdeal.sig) → Buf (Elt Ideal) ℓ) (g : Dev Cert.DwODilIdeal.nD → PrngReg), Pre_DwODilIdeal m →
    θ_run (Cert.DwODilIdeal.defs (F := Ideal)) (onTc (τ := Cert.DwODilIdeal.τ) (Cert.DwODilIdeal.main (F := Ideal))) ⟨m, fun _ => 0, g⟩ (fun r => (∀ c : Dev Cert.DwODilIdeal.nD,
      r.2.mem ((c.tc : Thread Cert.DwODilIdeal.nD Cert.DwODilIdeal.τ).loc Cert.DwODilIdeal.main_arg0) = m ((c.tc : Thread Cert.DwODilIdeal.nD Cert.DwODilIdeal.τ).loc Cert.DwODilIdeal.main_arg0)
      ∧ r.2.mem ((c.tc : Thread Cert.DwODilIdeal.nD Cert.DwODilIdeal.τ).loc Cert.DwODilIdeal.main_arg1) = m ((c.tc : Thread Cert.DwODilIdeal.nD Cert.DwODilIdeal.τ).loc Cert.DwODilIdeal.main_arg1))
      ∧ r.2.sem = fun _ => 0)

def quiescent_DwODilRefIdeal [hDwODilRefIdeal : Cert.DwODilRefIdeal.Facts] : Prop :=
  ∀ (m : (ℓ : Loc Cert.DwODilRefIdeal.nD Cert.DwODilRefIdeal.τ Cert.DwODilRefIdeal.sig) → Buf (Elt Ideal) ℓ) (g : Dev Cert.DwODilRefIdeal.nD → PrngReg), Pre_DwODilRefIdeal m →
    θ_run (Cert.DwODilRefIdeal.defs (F := Ideal)) (onTc (τ := Cert.DwODilRefIdeal.τ) (Cert.DwODilRefIdeal.main (F := Ideal))) ⟨m, fun _ => 0, g⟩ (fun r => (∀ c : Dev Cert.DwODilRefIdeal.nD,
      r.2.mem ((c.tc : Thread Cert.DwODilRefIdeal.nD Cert.DwODilRefIdeal.τ).loc Cert.DwODilRefIdeal.main_arg0) = m ((c.tc : Thread Cert.DwODilRefIdeal.nD Cert.DwODilRefIdeal.τ).loc Cert.DwODilRefIdeal.main_arg0)
      ∧ r.2.mem ((c.tc : Thread Cert.DwODilRefIdeal.nD Cert.DwODilRefIdeal.τ).loc Cert.DwODilRefIdeal.main_arg1) = m ((c.tc : Thread Cert.DwODilRefIdeal.nD Cert.DwODilRefIdeal.τ).loc Cert.DwODilRefIdeal.main_arg1))
      ∧ r.2.sem = fun _ => 0)

def quiescent_DwOMla [hDwOMla : Cert.DwOMla.Facts] : Prop :=
  ∀ (m : (ℓ : Loc Cert.DwOMla.nD Cert.DwOMla.τ Cert.DwOMla.sig) → Buf (Elt Bits) ℓ) (g : Dev Cert.DwOMla.nD → PrngReg), Pre_DwOMla m →
    θ_run (Cert.DwOMla.defs (F := Bits)) (onTc (τ := Cert.DwOMla.τ) (Cert.DwOMla.main (F := Bits))) ⟨m, fun _ => 0, g⟩ (fun r => (∀ c : Dev Cert.DwOMla.nD,
      r.2.mem ((c.tc : Thread Cert.DwOMla.nD Cert.DwOMla.τ).loc Cert.DwOMla.main_arg0) = m ((c.tc : Thread Cert.DwOMla.nD Cert.DwOMla.τ).loc Cert.DwOMla.main_arg0)
      ∧ r.2.mem ((c.tc : Thread Cert.DwOMla.nD Cert.DwOMla.τ).loc Cert.DwOMla.main_arg1) = m ((c.tc : Thread Cert.DwOMla.nD Cert.DwOMla.τ).loc Cert.DwOMla.main_arg1))
      ∧ r.2.sem = fun _ => 0)

def quiescent_DwOMlaIdeal [hDwOMlaIdeal : Cert.DwOMlaIdeal.Facts] : Prop :=
  ∀ (m : (ℓ : Loc Cert.DwOMlaIdeal.nD Cert.DwOMlaIdeal.τ Cert.DwOMlaIdeal.sig) → Buf (Elt Ideal) ℓ) (g : Dev Cert.DwOMlaIdeal.nD → PrngReg), Pre_DwOMlaIdeal m →
    θ_run (Cert.DwOMlaIdeal.defs (F := Ideal)) (onTc (τ := Cert.DwOMlaIdeal.τ) (Cert.DwOMlaIdeal.main (F := Ideal))) ⟨m, fun _ => 0, g⟩ (fun r => (∀ c : Dev Cert.DwOMlaIdeal.nD,
      r.2.mem ((c.tc : Thread Cert.DwOMlaIdeal.nD Cert.DwOMlaIdeal.τ).loc Cert.DwOMlaIdeal.main_arg0) = m ((c.tc : Thread Cert.DwOMlaIdeal.nD Cert.DwOMlaIdeal.τ).loc Cert.DwOMlaIdeal.main_arg0)
      ∧ r.2.mem ((c.tc : Thread Cert.DwOMlaIdeal.nD Cert.DwOMlaIdeal.τ).loc Cert.DwOMlaIdeal.main_arg1) = m ((c.tc : Thread Cert.DwOMlaIdeal.nD Cert.DwOMlaIdeal.τ).loc Cert.DwOMlaIdeal.main_arg1))
      ∧ r.2.sem = fun _ => 0)

def quiescent_DwOMlaRefIdeal [hDwOMlaRefIdeal : Cert.DwOMlaRefIdeal.Facts] : Prop :=
  ∀ (m : (ℓ : Loc Cert.DwOMlaRefIdeal.nD Cert.DwOMlaRefIdeal.τ Cert.DwOMlaRefIdeal.sig) → Buf (Elt Ideal) ℓ) (g : Dev Cert.DwOMlaRefIdeal.nD → PrngReg), Pre_DwOMlaRefIdeal m →
    θ_run (Cert.DwOMlaRefIdeal.defs (F := Ideal)) (onTc (τ := Cert.DwOMlaRefIdeal.τ) (Cert.DwOMlaRefIdeal.main (F := Ideal))) ⟨m, fun _ => 0, g⟩ (fun r => (∀ c : Dev Cert.DwOMlaRefIdeal.nD,
      r.2.mem ((c.tc : Thread Cert.DwOMlaRefIdeal.nD Cert.DwOMlaRefIdeal.τ).loc Cert.DwOMlaRefIdeal.main_arg0) = m ((c.tc : Thread Cert.DwOMlaRefIdeal.nD Cert.DwOMlaRefIdeal.τ).loc Cert.DwOMlaRefIdeal.main_arg0)
      ∧ r.2.mem ((c.tc : Thread Cert.DwOMlaRefIdeal.nD Cert.DwOMlaRefIdeal.τ).loc Cert.DwOMlaRefIdeal.main_arg1) = m ((c.tc : Thread Cert.DwOMlaRefIdeal.nD Cert.DwOMlaRefIdeal.τ).loc Cert.DwOMlaRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3))
      ∧ r.2.sem = fun _ => 0)

def quiescent_Ln1 [hLn1 : Cert.Ln1.Facts] : Prop :=
  ∀ (m : (ℓ : Loc Cert.Ln1.nD Cert.Ln1.τ Cert.Ln1.sig) → Buf (Elt Bits) ℓ) (g : Dev Cert.Ln1.nD → PrngReg), Pre_Ln1 m →
    θ_run (Cert.Ln1.defs (F := Bits)) (onTc (τ := Cert.Ln1.τ) (Cert.Ln1.main (F := Bits))) ⟨m, fun _ => 0, g⟩ (fun r => (∀ c : Dev Cert.Ln1.nD,
      r.2.mem ((c.tc : Thread Cert.Ln1.nD Cert.Ln1.τ).loc Cert.Ln1.main_arg0) = m ((c.tc : Thread Cert.Ln1.nD Cert.Ln1.τ).loc Cert.Ln1.main_arg0)
      ∧ r.2.mem ((c.tc : Thread Cert.Ln1.nD Cert.Ln1.τ).loc Cert.Ln1.main_arg1) = m ((c.tc : Thread Cert.Ln1.nD Cert.Ln1.τ).loc Cert.Ln1.main_arg1)
      ∧ r.2.mem ((c.tc : Thread Cert.Ln1.nD Cert.Ln1.τ).loc Cert.Ln1.main_arg2) = m ((c.tc : Thread Cert.Ln1.nD Cert.Ln1.τ).loc Cert.Ln1.main_arg2))
      ∧ r.2.sem = fun _ => 0)

def quiescent_Ln1Ideal [hLn1Ideal : Cert.Ln1Ideal.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2))
      ∧ r.2.sem = fun _ => 0)

def quiescent_Ln1RefIdeal [hLn1RefIdeal : Cert.Ln1RefIdeal.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1)
      ∧ r.2.mem ((c.tc : Thread Cert.Ln1RefIdeal.nD Cert.Ln1RefIdeal.τ).loc Cert.Ln1RefIdeal.main_arg2) = m ((c.tc : Thread Cert.Ln1RefIdeal.nD Cert.Ln1RefIdeal.τ).loc Cert.Ln1RefIdeal.main_arg2))
      ∧ r.2.sem = fun _ => 0)

def quiescent_Ln2 [hLn2 : Cert.Ln2.Facts] : Prop :=
  ∀ (m : (ℓ : Loc Cert.Ln2.nD Cert.Ln2.τ Cert.Ln2.sig) → Buf (Elt Bits) ℓ) (g : Dev Cert.Ln2.nD → PrngReg), Pre_Ln2 m →
    θ_run (Cert.Ln2.defs (F := Bits)) (onTc (τ := Cert.Ln2.τ) (Cert.Ln2.main (F := Bits))) ⟨m, fun _ => 0, g⟩ (fun r => (∀ c : Dev Cert.Ln2.nD,
      r.2.mem ((c.tc : Thread Cert.Ln2.nD Cert.Ln2.τ).loc Cert.Ln2.main_arg0) = m ((c.tc : Thread Cert.Ln2.nD Cert.Ln2.τ).loc Cert.Ln2.main_arg0)
      ∧ r.2.mem ((c.tc : Thread Cert.Ln2.nD Cert.Ln2.τ).loc Cert.Ln2.main_arg1) = m ((c.tc : Thread Cert.Ln2.nD Cert.Ln2.τ).loc Cert.Ln2.main_arg1)
      ∧ r.2.mem ((c.tc : Thread Cert.Ln2.nD Cert.Ln2.τ).loc Cert.Ln2.main_arg2) = m ((c.tc : Thread Cert.Ln2.nD Cert.Ln2.τ).loc Cert.Ln2.main_arg2)
      ∧ r.2.mem ((c.tc : Thread Cert.Ln2.nD Cert.Ln2.τ).loc Cert.Ln2.main_arg3) = m ((c.tc : Thread Cert.Ln2.nD Cert.Ln2.τ).loc Cert.Ln2.main_arg3)
      ∧ r.2.mem ((c.tc : Thread Cert.Ln2.nD Cert.Ln2.τ).loc Cert.Ln2.main_arg4) = m ((c.tc : Thread Cert.Ln2.nD Cert.Ln2.τ).loc Cert.Ln2.main_arg4))
      ∧ r.2.sem = fun _ => 0)

def quiescent_Ln2Ideal [hLn2Ideal : Cert.Ln2Ideal.Facts] : Prop :=
  ∀ (m : (ℓ : Loc Cert.Ln2Ideal.nD Cert.Ln2Ideal.τ Cert.Ln2Ideal.sig) → Buf (Elt Ideal) ℓ) (g : Dev Cert.Ln2Ideal.nD → PrngReg), Pre_Ln2Ideal m →
    θ_run (Cert.Ln2Ideal.defs (F := Ideal)) (onTc (τ := Cert.Ln2Ideal.τ) (Cert.Ln2Ideal.main (F := Ideal))) ⟨m, fun _ => 0, g⟩ (fun r => (∀ c : Dev Cert.Ln2Ideal.nD,
      r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
      ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
      ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
      ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
      ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4))
      ∧ r.2.sem = fun _ => 0)

def quiescent_Ln2RefIdeal [hLn2RefIdeal : Cert.Ln2RefIdeal.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3)
      ∧ r.2.mem ((c.tc : Thread Cert.Ln2RefIdeal.nD Cert.Ln2RefIdeal.τ).loc Cert.Ln2RefIdeal.main_arg4) = m ((c.tc : Thread Cert.Ln2RefIdeal.nD Cert.Ln2RefIdeal.τ).loc Cert.Ln2RefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 256, 1024]⟩ ⟨3, ![64, 256, 1024]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨3, ![8, 32, 768]⟩ ⟨3, ![64, 32, 768]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨3, ![8, 128, 1024]⟩ ⟨3, ![64, 128, 1024]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨3, ![8, 704, 1024]⟩ ⟨3, ![64, 704, 1024]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨3, ![8, 352, 1024]⟩ ⟨3, ![64, 352, 1024]⟩ 0 8 c (m' (((0 : Dev Cert.Reference.nD).tc : Thread Cert.Reference.nD Cert.Reference.τ).loc Cert.Reference.main_arg4))) →
    ∃ (v0 : Buf (Elt Bits) (((0 : Dev Cert.Reference.nD).tc : Thread Cert.Reference.nD Cert.Reference.τ).loc Cert.Reference.main_v2)) (v1 : Buf (Elt Bits) (((0 : Dev Cert.Reference.nD).tc : Thread Cert.Reference.nD Cert.Reference.τ).loc Cert.Reference.main_v5)) (v2 : Buf (Elt Bits) (((0 : Dev Cert.Reference.nD).tc : Thread Cert.Reference.nD Cert.Reference.τ).loc Cert.Reference.main_v8)) (v3 : Buf (Elt Bits) (((0 : Dev Cert.Reference.nD).tc : Thread Cert.Reference.nD Cert.Reference.τ).loc Cert.Reference.main_v11)) (v4 : Buf (Elt Bits) (((0 : Dev Cert.Reference.nD).tc : Thread Cert.Reference.nD Cert.Reference.τ).loc Cert.Reference.main_v14)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.block ⟨3, ![8, 256, 1024]⟩ ⟨3, ![64, 256, 1024]⟩ 0 8 c v0
          ∧ r.2.mem ((c.tc : Thread Cert.Kernel.nD Cert.Kernel.τ).loc Cert.Kernel.main_v1_1) = Layout.block ⟨3, ![8, 32, 768]⟩ ⟨3, ![64, 32, 768]⟩ 0 8 c v1
          ∧ r.2.mem ((c.tc : Thread Cert.Kernel.nD Cert.Kernel.τ).loc Cert.Kernel.main_v1_2) = Layout.block ⟨3, ![8, 128, 1024]⟩ ⟨3, ![64, 128, 1024]⟩ 0 8 c v2
          ∧ r.2.mem ((c.tc : Thread Cert.Kernel.nD Cert.Kernel.τ).loc Cert.Kernel.main_v1_3) = Layout.block ⟨3, ![8, 704, 1024]⟩ ⟨3, ![64, 704, 1024]⟩ 0 8 c v3
          ∧ r.2.mem ((c.tc : Thread Cert.Kernel.nD Cert.Kernel.τ).loc Cert.Kernel.main_v1_4) = Layout.block ⟨3, ![8, 352, 1024]⟩ ⟨3, ![64, 352, 1024]⟩ 0 8 c v4
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_v5) = v1
          ∧ r.2.mem (((0 : Dev Cert.Reference.nD).tc : Thread Cert.Reference.nD Cert.Reference.τ).loc Cert.Reference.main_v8) = v2
          ∧ r.2.mem (((0 : Dev Cert.Reference.nD).tc : Thread Cert.Reference.nD Cert.Reference.τ).loc Cert.Reference.main_v11) = v3
          ∧ r.2.mem (((0 : Dev Cert.Reference.nD).tc : Thread Cert.Reference.nD Cert.Reference.τ).loc Cert.Reference.main_v14) = v4
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 256, 1024]⟩ ⟨3, ![64, 256, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![8, 32, 768]⟩ ⟨3, ![64, 32, 768]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![8, 128, 1024]⟩ ⟨3, ![64, 128, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 704, 1024]⟩ ⟨3, ![64, 704, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![8, 352, 1024]⟩ ⟨3, ![64, 352, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)) (v2 : Buf (Elt Ideal) (((0 : Dev Cert.ReferenceIdeal.nD).tc : Thread Cert.ReferenceIdeal.nD Cert.ReferenceIdeal.τ).loc Cert.ReferenceIdeal.main_v8)) (v3 : Buf (Elt Ideal) (((0 : Dev Cert.ReferenceIdeal.nD).tc : Thread Cert.ReferenceIdeal.nD Cert.ReferenceIdeal.τ).loc Cert.ReferenceIdeal.main_v11)) (v4 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![8, 256, 1024]⟩ ⟨3, ![64, 256, 1024]⟩ 0 8 c v0
          ∧ r.2.mem ((c.tc : Thread Cert.KernelIdeal.nD Cert.KernelIdeal.τ).loc Cert.KernelIdeal.main_v1_1) = Layout.block ⟨3, ![8, 32, 768]⟩ ⟨3, ![64, 32, 768]⟩ 0 8 c v1
          ∧ r.2.mem ((c.tc : Thread Cert.KernelIdeal.nD Cert.KernelIdeal.τ).loc Cert.KernelIdeal.main_v1_2) = Layout.block ⟨3, ![8, 128, 1024]⟩ ⟨3, ![64, 128, 1024]⟩ 0 8 c v2
          ∧ r.2.mem ((c.tc : Thread Cert.KernelIdeal.nD Cert.KernelIdeal.τ).loc Cert.KernelIdeal.main_v1_3) = Layout.block ⟨3, ![8, 704, 1024]⟩ ⟨3, ![64, 704, 1024]⟩ 0 8 c v3
          ∧ r.2.mem ((c.tc : Thread Cert.KernelIdeal.nD Cert.KernelIdeal.τ).loc Cert.KernelIdeal.main_v1_4) = Layout.block ⟨3, ![8, 352, 1024]⟩ ⟨3, ![64, 352, 1024]⟩ 0 8 c v4
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_v14) = v4
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def preserves_Weights_WeightsIdeal : Prop :=
  True

def bitexact_Weights_WeightsRef [hWeights : Cert.Weights.Facts] [hWeightsRef : Cert.WeightsRef.Facts] : Prop :=
  ∀ (m : (ℓ : Loc Cert.Weights.nD Cert.Weights.τ Cert.Weights.sig) → Buf (Elt Bits) ℓ) (g : Dev Cert.Weights.nD → PrngReg)
    (m' : (ℓ : Loc Cert.WeightsRef.nD Cert.WeightsRef.τ Cert.WeightsRef.sig) → Buf (Elt Bits) ℓ) (g' : Dev Cert.WeightsRef.nD → PrngReg), Pre_Weights m →
    (∀ c : Dev Cert.Weights.nD,
      m ((c.tc : Thread Cert.Weights.nD Cert.Weights.τ).loc Cert.Weights.main_arg0) = Layout.block ⟨2, ![256, 1024]⟩ ⟨2, ![2048, 1024]⟩ 0 8 c (m' (((0 : Dev Cert.WeightsRef.nD).tc : Thread Cert.WeightsRef.nD Cert.WeightsRef.τ).loc Cert.WeightsRef.main_arg0))
      ∧ m ((c.tc : Thread Cert.Weights.nD Cert.Weights.τ).loc Cert.Weights.main_arg1) = Layout.block ⟨2, ![32, 768]⟩ ⟨2, ![256, 768]⟩ 0 8 c (m' (((0 : Dev Cert.WeightsRef.nD).tc : Thread Cert.WeightsRef.nD Cert.WeightsRef.τ).loc Cert.WeightsRef.main_arg1))
      ∧ m ((c.tc : Thread Cert.Weights.nD Cert.Weights.τ).loc Cert.Weights.main_arg2) = Layout.block ⟨2, ![128, 1024]⟩ ⟨2, ![1024, 1024]⟩ 0 8 c (m' (((0 : Dev Cert.WeightsRef.nD).tc : Thread Cert.WeightsRef.nD Cert.WeightsRef.τ).loc Cert.WeightsRef.main_arg2))
      ∧ m ((c.tc : Thread Cert.Weights.nD Cert.Weights.τ).loc Cert.Weights.main_arg3) = Layout.block ⟨2, ![704, 1024]⟩ ⟨2, ![5632, 1024]⟩ 0 8 c (m' (((0 : Dev Cert.WeightsRef.nD).tc : Thread Cert.WeightsRef.nD Cert.WeightsRef.τ).loc Cert.WeightsRef.main_arg3))
      ∧ m ((c.tc : Thread Cert.Weights.nD Cert.Weights.τ).loc Cert.Weights.main_arg4) = Layout.block ⟨2, ![352, 1024]⟩ ⟨2, ![2816, 1024]⟩ 0 8 c (m' (((0 : Dev Cert.WeightsRef.nD).tc : Thread Cert.WeightsRef.nD Cert.WeightsRef.τ).loc Cert.WeightsRef.main_arg4))
      ∧ m ((c.tc : Thread Cert.Weights.nD Cert.Weights.τ).loc Cert.Weights.main_arg5) = Layout.block ⟨2, ![8, 704]⟩ ⟨2, ![64, 704]⟩ 0 8 c (m' (((0 : Dev Cert.WeightsRef.nD).tc : Thread Cert.WeightsRef.nD Cert.WeightsRef.τ).loc Cert.WeightsRef.main_arg5))) →
    ∃ (v0 : Buf (Elt Bits) (((0 : Dev Cert.WeightsRef.nD).tc : Thread Cert.WeightsRef.nD Cert.WeightsRef.τ).loc Cert.WeightsRef.main_v0)) (v1 : Buf (Elt Bits) (((0 : Dev Cert.WeightsRef.nD).tc : Thread Cert.WeightsRef.nD Cert.WeightsRef.τ).loc Cert.WeightsRef.main_v1)) (v2 : Buf (Elt Bits) (((0 : Dev Cert.WeightsRef.nD).tc : Thread Cert.WeightsRef.nD Cert.WeightsRef.τ).loc Cert.WeightsRef.main_v2)) (v3 : Buf (Elt Bits) (((0 : Dev Cert.WeightsRef.nD).tc : Thread Cert.WeightsRef.nD Cert.WeightsRef.τ).loc Cert.WeightsRef.main_v3)) (v4 : Buf (Elt Bits) (((0 : Dev Cert.WeightsRef.nD).tc : Thread Cert.WeightsRef.nD Cert.WeightsRef.τ).loc Cert.WeightsRef.main_v4)) (v5 : Buf (Elt Bits) (((0 : Dev Cert.WeightsRef.nD).tc : Thread Cert.WeightsRef.nD Cert.WeightsRef.τ).loc Cert.WeightsRef.main_v5)),
      θ_run (Cert.Weights.defs (F := Bits)) (onTc (τ := Cert.Weights.τ) (Cert.Weights.main (F := Bits))) ⟨m, fun _ => 0, g⟩ (fun r => ∀ c : Dev Cert.Weights.nD,
          r.2.mem ((c.tc : Thread Cert.Weights.nD Cert.Weights.τ).loc Cert.Weights.main_v1_0) = v0
          ∧ r.2.mem ((c.tc : Thread Cert.Weights.nD Cert.Weights.τ).loc Cert.Weights.main_v1_1) = v1
          ∧ r.2.mem ((c.tc : Thread Cert.Weights.nD Cert.Weights.τ).loc Cert.Weights.main_v1_2) = v2
          ∧ r.2.mem ((c.tc : Thread Cert.Weights.nD Cert.Weights.τ).loc Cert.Weights.main_v1_3) = v3
          ∧ r.2.mem ((c.tc : Thread Cert.Weights.nD Cert.Weights.τ).loc Cert.Weights.main_v1_4) = v4
          ∧ r.2.mem ((c.tc : Thread Cert.Weights.nD Cert.Weights.τ).loc Cert.Weights.main_v1_5) = v5
          ∧ r.2.mem ((c.tc : Thread Cert.Weights.nD Cert.Weights.τ).loc Cert.Weights.main_arg0) = m ((c.tc : Thread Cert.Weights.nD Cert.Weights.τ).loc Cert.Weights.main_arg0)
          ∧ r.2.mem ((c.tc : Thread Cert.Weights.nD Cert.Weights.τ).loc Cert.Weights.main_arg1) = m ((c.tc : Thread Cert.Weights.nD Cert.Weights.τ).loc Cert.Weights.main_arg1)
          ∧ r.2.mem ((c.tc : Thread Cert.Weights.nD Cert.Weights.τ).loc Cert.Weights.main_arg2) = m ((c.tc : Thread Cert.Weights.nD Cert.Weights.τ).loc Cert.Weights.main_arg2)
          ∧ r.2.mem ((c.tc : Thread Cert.Weights.nD Cert.Weights.τ).loc Cert.Weights.main_arg3) = m ((c.tc : Thread Cert.Weights.nD Cert.Weights.τ).loc Cert.Weights.main_arg3)
          ∧ r.2.mem ((c.tc : Thread Cert.Weights.nD Cert.Weights.τ).loc Cert.Weights.main_arg4) = m ((c.tc : Thread Cert.Weights.nD Cert.Weights.τ).loc Cert.Weights.main_arg4)
          ∧ r.2.mem ((c.tc : Thread Cert.Weights.nD Cert.Weights.τ).loc Cert.Weights.main_arg5) = m ((c.tc : Thread Cert.Weights.nD Cert.Weights.τ).loc Cert.Weights.main_arg5))
      ∧ θ_run (Cert.WeightsRef.defs (F := Bits)) (onTc (τ := Cert.WeightsRef.τ) (Cert.WeightsRef.main (F := Bits))) ⟨m', fun _ => 0, g'⟩ (fun r =>
          r.2.mem (((0 : Dev Cert.WeightsRef.nD).tc : Thread Cert.WeightsRef.nD Cert.WeightsRef.τ).loc Cert.WeightsRef.main_v0) = v0
          ∧ r.2.mem (((0 : Dev Cert.WeightsRef.nD).tc : Thread Cert.WeightsRef.nD Cert.WeightsRef.τ).loc Cert.WeightsRef.main_v1) = v1
          ∧ r.2.mem (((0 : Dev Cert.WeightsRef.nD).tc : Thread Cert.WeightsRef.nD Cert.WeightsRef.τ).loc Cert.WeightsRef.main_v2) = v2
          ∧ r.2.mem (((0 : Dev Cert.WeightsRef.nD).tc : Thread Cert.WeightsRef.nD Cert.WeightsRef.τ).loc Cert.WeightsRef.main_v3) = v3
          ∧ r.2.mem (((0 : Dev Cert.WeightsRef.nD).tc : Thread Cert.WeightsRef.nD Cert.WeightsRef.τ).loc Cert.WeightsRef.main_v4) = v4
          ∧ r.2.mem (((0 : Dev Cert.WeightsRef.nD).tc : Thread Cert.WeightsRef.nD Cert.WeightsRef.τ).loc Cert.WeightsRef.main_v5) = v5
          ∧ r.2.mem (((0 : Dev Cert.WeightsRef.nD).tc : Thread Cert.WeightsRef.nD Cert.WeightsRef.τ).loc Cert.WeightsRef.main_arg0) = m' (((0 : Dev Cert.WeightsRef.nD).tc : Thread Cert.WeightsRef.nD Cert.WeightsRef.τ).loc Cert.WeightsRef.main_arg0)
          ∧ r.2.mem (((0 : Dev Cert.WeightsRef.nD).tc : Thread Cert.WeightsRef.nD Cert.WeightsRef.τ).loc Cert.WeightsRef.main_arg1) = m' (((0 : Dev Cert.WeightsRef.nD).tc : Thread Cert.WeightsRef.nD Cert.WeightsRef.τ).loc Cert.WeightsRef.main_arg1)
          ∧ r.2.mem (((0 : Dev Cert.WeightsRef.nD).tc : Thread Cert.WeightsRef.nD Cert.WeightsRef.τ).loc Cert.WeightsRef.main_arg2) = m' (((0 : Dev Cert.WeightsRef.nD).tc : Thread Cert.WeightsRef.nD Cert.WeightsRef.τ).loc Cert.WeightsRef.main_arg2)
          ∧ r.2.mem (((0 : Dev Cert.WeightsRef.nD).tc : Thread Cert.WeightsRef.nD Cert.WeightsRef.τ).loc Cert.WeightsRef.main_arg3) = m' (((0 : Dev Cert.WeightsRef.nD).tc : Thread Cert.WeightsRef.nD Cert.WeightsRef.τ).loc Cert.WeightsRef.main_arg3)
          ∧ r.2.mem (((0 : Dev Cert.WeightsRef.nD).tc : Thread Cert.WeightsRef.nD Cert.WeightsRef.τ).loc Cert.WeightsRef.main_arg4) = m' (((0 : Dev Cert.WeightsRef.nD).tc : Thread Cert.WeightsRef.nD Cert.WeightsRef.τ).loc Cert.WeightsRef.main_arg4)
          ∧ r.2.mem (((0 : Dev Cert.WeightsRef.nD).tc : Thread Cert.WeightsRef.nD Cert.WeightsRef.τ).loc Cert.WeightsRef.main_arg5) = m' (((0 : Dev Cert.WeightsRef.nD).tc : Thread Cert.WeightsRef.nD Cert.WeightsRef.τ).loc Cert.WeightsRef.main_arg5))

def algebraic_WeightsIdeal_WeightsRefIdeal [hWeightsIdeal : Cert.WeightsIdeal.Facts] [hWeightsRefIdeal : Cert.WeightsRefIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsRefIdeal.nD Cert.WeightsRefIdeal.τ Cert.WeightsRefIdeal.sig) → Buf (Elt Ideal) ℓ) (g' : Dev Cert.WeightsRefIdeal.nD → PrngReg), Pre_WeightsIdeal m →
    (∀ c : Dev Cert.WeightsIdeal.nD,
      m ((c.tc : Thread Cert.WeightsIdeal.nD Cert.WeightsIdeal.τ).loc Cert.WeightsIdeal.main_arg0) = Layout.block ⟨2, ![256, 1024]⟩ ⟨2, ![2048, 1024]⟩ 0 8 c (m' (((0 : Dev Cert.WeightsRefIdeal.nD).tc : Thread Cert.WeightsRefIdeal.nD Cert.WeightsRefIdeal.τ).loc Cert.WeightsRefIdeal.main_arg0))
      ∧ m ((c.tc : Thread Cert.WeightsIdeal.nD Cert.WeightsIdeal.τ).loc Cert.WeightsIdeal.main_arg1) = Layout.block ⟨2, ![32, 768]⟩ ⟨2, ![256, 768]⟩ 0 8 c (m' (((0 : Dev Cert.WeightsRefIdeal.nD).tc : Thread Cert.WeightsRefIdeal.nD Cert.WeightsRefIdeal.τ).loc Cert.WeightsRefIdeal.main_arg1))
      ∧ m ((c.tc : Thread Cert.WeightsIdeal.nD Cert.WeightsIdeal.τ).loc Cert.WeightsIdeal.main_arg2) = Layout.block ⟨2, ![128, 1024]⟩ ⟨2, ![1024, 1024]⟩ 0 8 c (m' (((0 : Dev Cert.WeightsRefIdeal.nD).tc : Thread Cert.WeightsRefIdeal.nD Cert.WeightsRefIdeal.τ).loc Cert.WeightsRefIdeal.main_arg2))
      ∧ m ((c.tc : Thread Cert.WeightsIdeal.nD Cert.WeightsIdeal.τ).loc Cert.WeightsIdeal.main_arg3) = Layout.block ⟨2, ![704, 1024]⟩ ⟨2, ![5632, 1024]⟩ 0 8 c (m' (((0 : Dev Cert.WeightsRefIdeal.nD).tc : Thread Cert.WeightsRefIdeal.nD Cert.WeightsRefIdeal.τ).loc Cert.WeightsRefIdeal.main_arg3))
      ∧ m ((c.tc : Thread Cert.WeightsIdeal.nD Cert.WeightsIdeal.τ).loc Cert.WeightsIdeal.main_arg4) = Layout.block ⟨2, ![352, 1024]⟩ ⟨2, ![2816, 1024]⟩ 0 8 c (m' (((0 : Dev Cert.WeightsRefIdeal.nD).tc : Thread Cert.WeightsRefIdeal.nD Cert.WeightsRefIdeal.τ).loc Cert.WeightsRefIdeal.main_arg4))
      ∧ m ((c.tc : Thread Cert.WeightsIdeal.nD Cert.WeightsIdeal.τ).loc Cert.WeightsIdeal.main_arg5) = Layout.block ⟨2, ![8, 704]⟩ ⟨2, ![64, 704]⟩ 0 8 c (m' (((0 : Dev Cert.WeightsRefIdeal.nD).tc : Thread Cert.WeightsRefIdeal.nD Cert.WeightsRefIdeal.τ).loc Cert.WeightsRefIdeal.main_arg5))) →
    ∃ (v0 : Buf (Elt Ideal) (((0 : Dev Cert.WeightsRefIdeal.nD).tc : Thread Cert.WeightsRefIdeal.nD Cert.WeightsRefIdeal.τ).loc Cert.WeightsRefIdeal.main_v0)) (v1 : Buf (Elt Ideal) (((0 : Dev Cert.WeightsRefIdeal.nD).tc : Thread Cert.WeightsRefIdeal.nD Cert.WeightsRefIdeal.τ).loc Cert.WeightsRefIdeal.main_v1)) (v2 : Buf (Elt Ideal) (((0 : Dev Cert.WeightsRefIdeal.nD).tc : Thread Cert.WeightsRefIdeal.nD Cert.WeightsRefIdeal.τ).loc Cert.WeightsRefIdeal.main_v2)) (v3 : Buf (Elt Ideal) (((0 : Dev Cert.WeightsRefIdeal.nD).tc : Thread Cert.WeightsRefIdeal.nD Cert.WeightsRefIdeal.τ).loc Cert.WeightsRefIdeal.main_v3)) (v4 : Buf (Elt Ideal) (((0 : Dev Cert.WeightsRefIdeal.nD).tc : Thread Cert.WeightsRefIdeal.nD Cert.WeightsRefIdeal.τ).loc Cert.WeightsRefIdeal.main_v4)) (v5 : Buf (Elt Ideal) (((0 : Dev Cert.WeightsRefIdeal.nD).tc : Thread Cert.WeightsRefIdeal.nD Cert.WeightsRefIdeal.τ).loc Cert.WeightsRefIdeal.main_v5)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1_0) = v0
          ∧ r.2.mem ((c.tc : Thread Cert.WeightsIdeal.nD Cert.WeightsIdeal.τ).loc Cert.WeightsIdeal.main_v1_1) = v1
          ∧ r.2.mem ((c.tc : Thread Cert.WeightsIdeal.nD Cert.WeightsIdeal.τ).loc Cert.WeightsIdeal.main_v1_2) = v2
          ∧ r.2.mem ((c.tc : Thread Cert.WeightsIdeal.nD Cert.WeightsIdeal.τ).loc Cert.WeightsIdeal.main_v1_3) = v3
          ∧ r.2.mem ((c.tc : Thread Cert.WeightsIdeal.nD Cert.WeightsIdeal.τ).loc Cert.WeightsIdeal.main_v1_4) = v4
          ∧ r.2.mem ((c.tc : Thread Cert.WeightsIdeal.nD Cert.WeightsIdeal.τ).loc Cert.WeightsIdeal.main_v1_5) = v5
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
          ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
          ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5))
      ∧ θ_run (Cert.WeightsRefIdeal.defs (F := Ideal)) (onTc (τ := Cert.WeightsRefIdeal.τ) (Cert.WeightsRefIdeal.main (F := Ideal))) ⟨m', fun _ => 0, g'⟩ (fun r =>
          r.2.mem (((0 : Dev Cert.WeightsRefIdeal.nD).tc : Thread Cert.WeightsRefIdeal.nD Cert.WeightsRefIdeal.τ).loc Cert.WeightsRefIdeal.main_v0) = v0
          ∧ r.2.mem (((0 : Dev Cert.WeightsRefIdeal.nD).tc : Thread Cert.WeightsRefIdeal.nD Cert.WeightsRefIdeal.τ).loc Cert.WeightsRefIdeal.main_v1) = v1
          ∧ r.2.mem (((0 : Dev Cert.WeightsRefIdeal.nD).tc : Thread Cert.WeightsRefIdeal.nD Cert.WeightsRefIdeal.τ).loc Cert.WeightsRefIdeal.main_v2) = v2
          ∧ r.2.mem (((0 : Dev Cert.WeightsRefIdeal.nD).tc : Thread Cert.WeightsRefIdeal.nD Cert.WeightsRefIdeal.τ).loc Cert.WeightsRefIdeal.main_v3) = v3
          ∧ r.2.mem (((0 : Dev Cert.WeightsRefIdeal.nD).tc : Thread Cert.WeightsRefIdeal.nD Cert.WeightsRefIdeal.τ).loc Cert.WeightsRefIdeal.main_v4) = v4
          ∧ r.2.mem (((0 : Dev Cert.WeightsRefIdeal.nD).tc : Thread Cert.WeightsRefIdeal.nD Cert.WeightsRefIdeal.τ).loc Cert.WeightsRefIdeal.main_v5) = v5
          ∧ r.2.mem (((0 : Dev Cert.WeightsRefIdeal.nD).tc : Thread Cert.WeightsRefIdeal.nD Cert.WeightsRefIdeal.τ).loc Cert.WeightsRefIdeal.main_arg0) = m' (((0 : Dev Cert.WeightsRefIdeal.nD).tc : Thread Cert.WeightsRefIdeal.nD Cert.WeightsRefIdeal.τ).loc Cert.WeightsRefIdeal.main_arg0)
          ∧ r.2.mem (((0 : Dev Cert.WeightsRefIdeal.nD).tc : Thread Cert.WeightsRefIdeal.nD Cert.WeightsRefIdeal.τ).loc Cert.WeightsRefIdeal.main_arg1) = m' (((0 : Dev Cert.WeightsRefIdeal.nD).tc : Thread Cert.WeightsRefIdeal.nD Cert.WeightsRefIdeal.τ).loc Cert.WeightsRefIdeal.main_arg1)
          ∧ r.2.mem (((0 : Dev Cert.WeightsRefIdeal.nD).tc : Thread Cert.WeightsRefIdeal.nD Cert.WeightsRefIdeal.τ).loc Cert.WeightsRefIdeal.main_arg2) = m' (((0 : Dev Cert.WeightsRefIdeal.nD).tc : Thread Cert.WeightsRefIdeal.nD Cert.WeightsRefIdeal.τ).loc Cert.WeightsRefIdeal.main_arg2)
          ∧ r.2.mem (((0 : Dev Cert.WeightsRefIdeal.nD).tc : Thread Cert.WeightsRefIdeal.nD Cert.WeightsRefIdeal.τ).loc Cert.WeightsRefIdeal.main_arg3) = m' (((0 : Dev Cert.WeightsRefIdeal.nD).tc : Thread Cert.WeightsRefIdeal.nD Cert.WeightsRefIdeal.τ).loc Cert.WeightsRefIdeal.main_arg3)
          ∧ r.2.mem (((0 : Dev Cert.WeightsRefIdeal.nD).tc : Thread Cert.WeightsRefIdeal.nD Cert.WeightsRefIdeal.τ).loc Cert.WeightsRefIdeal.main_arg4) = m' (((0 : Dev Cert.WeightsRefIdeal.nD).tc : Thread Cert.WeightsRefIdeal.nD Cert.WeightsRefIdeal.τ).loc Cert.WeightsRefIdeal.main_arg4)
          ∧ r.2.mem (((0 : Dev Cert.WeightsRefIdeal.nD).tc : Thread Cert.WeightsRefIdeal.nD Cert.WeightsRefIdeal.τ).loc Cert.WeightsRefIdeal.main_arg5) = m' (((0 : Dev Cert.WeightsRefIdeal.nD).tc : Thread Cert.WeightsRefIdeal.nD Cert.WeightsRefIdeal.τ).loc Cert.WeightsRefIdeal.main_arg5))

def preserves_Small_SmallIdeal : Prop :=
  True

def bitexact_Small_SmallRef [hSmall : Cert.Small.Facts] [hSmallRef : Cert.SmallRef.Facts] : Prop :=
  ∀ (m : (ℓ : Loc Cert.Small.nD Cert.Small.τ Cert.Small.sig) → Buf (Elt Bits) ℓ) (g : Dev Cert.Small.nD → PrngReg)
    (m' : (ℓ : Loc Cert.SmallRef.nD Cert.SmallRef.τ Cert.SmallRef.sig) → Buf (Elt Bits) ℓ) (g' : Dev Cert.SmallRef.nD → PrngReg), Pre_Small m →
    (∀ c : Dev Cert.Small.nD,
      m ((c.tc : Thread Cert.Small.nD Cert.Small.τ).loc Cert.Small.main_arg0) = Layout.block ⟨2, ![144, 1024]⟩ ⟨2, ![1152, 1024]⟩ 0 8 c (m' (((0 : Dev Cert.SmallRef.nD).tc : Thread Cert.SmallRef.nD Cert.SmallRef.τ).loc Cert.SmallRef.main_arg0))
      ∧ m ((c.tc : Thread Cert.Small.nD Cert.Small.τ).loc Cert.Small.main_arg1) = Layout.block ⟨2, ![8, 704]⟩ ⟨2, ![64, 704]⟩ 0 8 c (m' (((0 : Dev Cert.SmallRef.nD).tc : Thread Cert.SmallRef.nD Cert.SmallRef.τ).loc Cert.SmallRef.main_arg1))) →
    ∃ (v0 : Buf (Elt Bits) (((0 : Dev Cert.SmallRef.nD).tc : Thread Cert.SmallRef.nD Cert.SmallRef.τ).loc Cert.SmallRef.main_v0)) (v1 : Buf (Elt Bits) (((0 : Dev Cert.SmallRef.nD).tc : Thread Cert.SmallRef.nD Cert.SmallRef.τ).loc Cert.SmallRef.main_v1)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v1_0) = v0
          ∧ r.2.mem ((c.tc : Thread Cert.Small.nD Cert.Small.τ).loc Cert.Small.main_v1_1) = v1
          ∧ r.2.mem ((c.tc : Thread Cert.Small.nD Cert.Small.τ).loc Cert.Small.main_arg0) = m ((c.tc : Thread Cert.Small.nD Cert.Small.τ).loc Cert.Small.main_arg0)
          ∧ r.2.mem ((c.tc : Thread Cert.Small.nD Cert.Small.τ).loc Cert.Small.main_arg1) = m ((c.tc : Thread Cert.Small.nD Cert.Small.τ).loc Cert.Small.main_arg1))
      ∧ θ_run (Cert.SmallRef.defs (F := Bits)) (onTc (τ := Cert.SmallRef.τ) (Cert.SmallRef.main (F := Bits))) ⟨m', fun _ => 0, g'⟩ (fun r =>
          r.2.mem (((0 : Dev Cert.SmallRef.nD).tc : Thread Cert.SmallRef.nD Cert.SmallRef.τ).loc Cert.SmallRef.main_v0) = v0
          ∧ r.2.mem (((0 : Dev Cert.SmallRef.nD).tc : Thread Cert.SmallRef.nD Cert.SmallRef.τ).loc Cert.SmallRef.main_v1) = v1
          ∧ r.2.mem (((0 : Dev Cert.SmallRef.nD).tc : Thread Cert.SmallRef.nD Cert.SmallRef.τ).loc Cert.SmallRef.main_arg0) = m' (((0 : Dev Cert.SmallRef.nD).tc : Thread Cert.SmallRef.nD Cert.SmallRef.τ).loc Cert.SmallRef.main_arg0)
          ∧ r.2.mem (((0 : Dev Cert.SmallRef.nD).tc : Thread Cert.SmallRef.nD Cert.SmallRef.τ).loc Cert.SmallRef.main_arg1) = m' (((0 : Dev Cert.SmallRef.nD).tc : Thread Cert.SmallRef.nD Cert.SmallRef.τ).loc Cert.SmallRef.main_arg1))

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![144, 1024]⟩ ⟨2, ![1152, 1024]⟩ 0 8 c (m' (((0 : Dev Cert.SmallRefIdeal.nD).tc : Thread Cert.SmallRefIdeal.nD Cert.SmallRefIdeal.τ).loc Cert.SmallRefIdeal.main_arg0))
      ∧ m ((c.tc : Thread Cert.SmallIdeal.nD Cert.SmallIdeal.τ).loc Cert.SmallIdeal.main_arg1) = Layout.block ⟨2, ![8, 704]⟩ ⟨2, ![64, 704]⟩ 0 8 c (m' (((0 : Dev Cert.SmallRefIdeal.nD).tc : Thread Cert.SmallRefIdeal.nD Cert.SmallRefIdeal.τ).loc Cert.SmallRefIdeal.main_arg1))) →
    ∃ (v0 : Buf (Elt Ideal) (((0 : Dev Cert.SmallRefIdeal.nD).tc : Thread Cert.SmallRefIdeal.nD Cert.SmallRefIdeal.τ).loc Cert.SmallRefIdeal.main_v0)) (v1 : Buf (Elt Ideal) (((0 : Dev Cert.SmallRefIdeal.nD).tc : Thread Cert.SmallRefIdeal.nD Cert.SmallRefIdeal.τ).loc Cert.SmallRefIdeal.main_v1)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1_0) = v0
          ∧ r.2.mem ((c.tc : Thread Cert.SmallIdeal.nD Cert.SmallIdeal.τ).loc Cert.SmallIdeal.main_v1_1) = v1
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ θ_run (Cert.SmallRefIdeal.defs (F := Ideal)) (onTc (τ := Cert.SmallRefIdeal.τ) (Cert.SmallRefIdeal.main (F := Ideal))) ⟨m', fun _ => 0, g'⟩ (fun r =>
          r.2.mem (((0 : Dev Cert.SmallRefIdeal.nD).tc : Thread Cert.SmallRefIdeal.nD Cert.SmallRefIdeal.τ).loc Cert.SmallRefIdeal.main_v0) = v0
          ∧ r.2.mem (((0 : Dev Cert.SmallRefIdeal.nD).tc : Thread Cert.SmallRefIdeal.nD Cert.SmallRefIdeal.τ).loc Cert.SmallRefIdeal.main_v1) = v1
          ∧ r.2.mem (((0 : Dev Cert.SmallRefIdeal.nD).tc : Thread Cert.SmallRefIdeal.nD Cert.SmallRefIdeal.τ).loc Cert.SmallRefIdeal.main_arg0) = m' (((0 : Dev Cert.SmallRefIdeal.nD).tc : Thread Cert.SmallRefIdeal.nD Cert.SmallRefIdeal.τ).loc Cert.SmallRefIdeal.main_arg0)
          ∧ r.2.mem (((0 : Dev Cert.SmallRefIdeal.nD).tc : Thread Cert.SmallRefIdeal.nD Cert.SmallRefIdeal.τ).loc Cert.SmallRefIdeal.main_arg1) = m' (((0 : Dev Cert.SmallRefIdeal.nD).tc : Thread Cert.SmallRefIdeal.nD Cert.SmallRefIdeal.τ).loc Cert.SmallRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)) (v3 : (c : Dev Cert.DownIdeal.nD) → Buf (Elt Ideal) ((c.tc : Thread Cert.DownIdeal.nD Cert.DownIdeal.τ).loc Cert.DownIdeal.main_v0_3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_v0_3) = v3 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_v25) = v1 c
          ∧ r.2.mem ((c.tc : Thread Cert.DownRefIdeal.nD Cert.DownRefIdeal.τ).loc Cert.DownRefIdeal.main_v6) = v2 c
          ∧ r.2.mem ((c.tc : Thread Cert.DownRefIdeal.nD Cert.DownRefIdeal.τ).loc Cert.DownRefIdeal.main_v12) = v3 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)
      ∧ m' ((c.tc : Thread Cert.UqRefIdeal.nD Cert.UqRefIdeal.τ).loc Cert.UqRefIdeal.main_arg2) = m ((c.tc : Thread Cert.UqIdeal.nD Cert.UqIdeal.τ).loc Cert.UqIdeal.main_arg2)
      ∧ m' ((c.tc : Thread Cert.UqRefIdeal.nD Cert.UqRefIdeal.τ).loc Cert.UqRefIdeal.main_arg3) = m ((c.tc : Thread Cert.UqIdeal.nD Cert.UqIdeal.τ).loc Cert.UqIdeal.main_arg3)) →
    ∃ (v0 : (c : Dev Cert.UqIdeal.nD) → Buf (Elt Ideal) ((c.tc : Thread Cert.UqIdeal.nD Cert.UqIdeal.τ).loc Cert.UqIdeal.main_v0_0)) (v1 : (c : Dev Cert.UqIdeal.nD) → Buf (Elt Ideal) ((c.tc : Thread Cert.UqIdeal.nD Cert.UqIdeal.τ).loc Cert.UqIdeal.main_v0_1)) (v2 : (c : Dev Cert.UqIdeal.nD) → Buf (Elt Ideal) ((c.tc : Thread Cert.UqIdeal.nD Cert.UqIdeal.τ).loc Cert.UqIdeal.main_v0_2)) (v3 : (c : Dev Cert.UqIdeal.nD) → Buf (Elt Ideal) ((c.tc : Thread Cert.UqIdeal.nD Cert.UqIdeal.τ).loc Cert.UqIdeal.main_v0_3)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v0_0) = v0 c
          ∧ r.2.mem ((c.tc : Thread Cert.UqIdeal.nD Cert.UqIdeal.τ).loc Cert.UqIdeal.main_v0_1) = v1 c
          ∧ r.2.mem ((c.tc : Thread Cert.UqIdeal.nD Cert.UqIdeal.τ).loc Cert.UqIdeal.main_v0_2) = v2 c
          ∧ r.2.mem ((c.tc : Thread Cert.UqIdeal.nD Cert.UqIdeal.τ).loc Cert.UqIdeal.main_v0_3) = v3 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1)
          ∧ r.2.mem ((c.tc : Thread Cert.UqIdeal.nD Cert.UqIdeal.τ).loc Cert.UqIdeal.main_arg2) = m ((c.tc : Thread Cert.UqIdeal.nD Cert.UqIdeal.τ).loc Cert.UqIdeal.main_arg2)
          ∧ r.2.mem ((c.tc : Thread Cert.UqIdeal.nD Cert.UqIdeal.τ).loc Cert.UqIdeal.main_arg3) = m ((c.tc : Thread Cert.UqIdeal.nD Cert.UqIdeal.τ).loc Cert.UqIdeal.main_arg3))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v1) = v0 c
          ∧ r.2.mem ((c.tc : Thread Cert.UqRefIdeal.nD Cert.UqRefIdeal.τ).loc Cert.UqRefIdeal.main_v25) = v1 c
          ∧ r.2.mem ((c.tc : Thread Cert.UqRefIdeal.nD Cert.UqRefIdeal.τ).loc Cert.UqRefIdeal.main_v6) = v2 c
          ∧ r.2.mem ((c.tc : Thread Cert.UqRefIdeal.nD Cert.UqRefIdeal.τ).loc Cert.UqRefIdeal.main_v12) = v3 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1)
          ∧ r.2.mem ((c.tc : Thread Cert.UqRefIdeal.nD Cert.UqRefIdeal.τ).loc Cert.UqRefIdeal.main_arg2) = m' ((c.tc : Thread Cert.UqRefIdeal.nD Cert.UqRefIdeal.τ).loc Cert.UqRefIdeal.main_arg2)
          ∧ r.2.mem ((c.tc : Thread Cert.UqRefIdeal.nD Cert.UqRefIdeal.τ).loc Cert.UqRefIdeal.main_arg3) = m' ((c.tc : Thread Cert.UqRefIdeal.nD Cert.UqRefIdeal.τ).loc Cert.UqRefIdeal.main_arg3))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)
      ∧ m' ((c.tc : Thread Cert.WoRefIdeal.nD Cert.WoRefIdeal.τ).loc Cert.WoRefIdeal.main_arg2) = m ((c.tc : Thread Cert.WoIdeal.nD Cert.WoIdeal.τ).loc Cert.WoIdeal.main_arg2)
      ∧ m' ((c.tc : Thread Cert.WoRefIdeal.nD Cert.WoRefIdeal.τ).loc Cert.WoRefIdeal.main_arg3) = m ((c.tc : Thread Cert.WoIdeal.nD Cert.WoIdeal.τ).loc Cert.WoIdeal.main_arg3)) →
    ∃ (v0 : (c : Dev Cert.WoIdeal.nD) → Buf (Elt Ideal) ((c.tc : Thread Cert.WoIdeal.nD Cert.WoIdeal.τ).loc Cert.WoIdeal.main_v0_0)) (v1 : (c : Dev Cert.WoIdeal.nD) → Buf (Elt Ideal) ((c.tc : Thread Cert.WoIdeal.nD Cert.WoIdeal.τ).loc Cert.WoIdeal.main_v0_1)) (v2 : (c : Dev Cert.WoIdeal.nD) → Buf (Elt Ideal) ((c.tc : Thread Cert.WoIdeal.nD Cert.WoIdeal.τ).loc Cert.WoIdeal.main_v0_2)) (v3 : (c : Dev Cert.WoIdeal.nD) → Buf (Elt Ideal) ((c.tc : Thread Cert.WoIdeal.nD Cert.WoIdeal.τ).loc Cert.WoIdeal.main_v0_3)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v0_0) = v0 c
          ∧ r.2.mem ((c.tc : Thread Cert.WoIdeal.nD Cert.WoIdeal.τ).loc Cert.WoIdeal.main_v0_1) = v1 c
          ∧ r.2.mem ((c.tc : Thread Cert.WoIdeal.nD Cert.WoIdeal.τ).loc Cert.WoIdeal.main_v0_2) = v2 c
          ∧ r.2.mem ((c.tc : Thread Cert.WoIdeal.nD Cert.WoIdeal.τ).loc Cert.WoIdeal.main_v0_3) = v3 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
          ∧ r.2.mem ((c.tc : Thread Cert.WoIdeal.nD Cert.WoIdeal.τ).loc Cert.WoIdeal.main_arg3) = m ((c.tc : Thread Cert.WoIdeal.nD Cert.WoIdeal.τ).loc Cert.WoIdeal.main_arg3))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v1) = v0 c
          ∧ r.2.mem ((c.tc : Thread Cert.WoRefIdeal.nD Cert.WoRefIdeal.τ).loc Cert.WoRefIdeal.main_v25) = v1 c
          ∧ r.2.mem ((c.tc : Thread Cert.WoRefIdeal.nD Cert.WoRefIdeal.τ).loc Cert.WoRefIdeal.main_v6) = v2 c
          ∧ r.2.mem ((c.tc : Thread Cert.WoRefIdeal.nD Cert.WoRefIdeal.τ).loc Cert.WoRefIdeal.main_v12) = v3 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2)
          ∧ r.2.mem ((c.tc : Thread Cert.WoRefIdeal.nD Cert.WoRefIdeal.τ).loc Cert.WoRefIdeal.main_arg3) = m' ((c.tc : Thread Cert.WoRefIdeal.nD Cert.WoRefIdeal.τ).loc Cert.WoRefIdeal.main_arg3))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)) →
    ∃ (v0 : (c : Dev Cert.WinIdeal.nD) → Buf (Elt Ideal) ((c.tc : Thread Cert.WinIdeal.nD Cert.WinIdeal.τ).loc Cert.WinIdeal.main_v0_0)) (v1 : (c : Dev Cert.WinIdeal.nD) → Buf (Elt Ideal) ((c.tc : Thread Cert.WinIdeal.nD Cert.WinIdeal.τ).loc Cert.WinIdeal.main_v0_1)) (v2 : (c : Dev Cert.WinIdeal.nD) → Buf (Elt Ideal) ((c.tc : Thread Cert.WinIdeal.nD Cert.WinIdeal.τ).loc Cert.WinIdeal.main_v0_2)) (v3 : (c : Dev Cert.WinIdeal.nD) → Buf (Elt Ideal) ((c.tc : Thread Cert.WinIdeal.nD Cert.WinIdeal.τ).loc Cert.WinIdeal.main_v0_3)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0_0) = v0 c
          ∧ r.2.mem ((c.tc : Thread Cert.WinIdeal.nD Cert.WinIdeal.τ).loc Cert.WinIdeal.main_v0_1) = v1 c
          ∧ r.2.mem ((c.tc : Thread Cert.WinIdeal.nD Cert.WinIdeal.τ).loc Cert.WinIdeal.main_v0_2) = v2 c
          ∧ r.2.mem ((c.tc : Thread Cert.WinIdeal.nD Cert.WinIdeal.τ).loc Cert.WinIdeal.main_v0_3) = v3 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v0) = v0 c
          ∧ r.2.mem ((c.tc : Thread Cert.WinRefIdeal.nD Cert.WinRefIdeal.τ).loc Cert.WinRefIdeal.main_v24) = v1 c
          ∧ r.2.mem ((c.tc : Thread Cert.WinRefIdeal.nD Cert.WinRefIdeal.τ).loc Cert.WinRefIdeal.main_v5) = v2 c
          ∧ r.2.mem ((c.tc : Thread Cert.WinRefIdeal.nD Cert.WinRefIdeal.τ).loc Cert.WinRefIdeal.main_v11) = v3 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3))

def preserves_Wup_WupIdeal : Prop :=
  True

def algebraic_WupIdeal_WupRefIdeal [hWupIdeal : Cert.WupIdeal.Facts] [hWupRefIdeal : Cert.WupRefIdeal.Facts] : Prop :=
  ∀ (m : (ℓ : Loc Cert.WupIdeal.nD Cert.WupIdeal.τ Cert.WupIdeal.sig) → Buf (Elt Ideal) ℓ) (g : Dev Cert.WupIdeal.nD → PrngReg)
    (m' : (ℓ : Loc Cert.WupRefIdeal.nD Cert.WupRefIdeal.τ Cert.WupRefIdeal.sig) → Buf (Elt Ideal) ℓ) (g' : Dev Cert.WupRefIdeal.nD → PrngReg), Pre_WupIdeal m →
    (∀ c : Dev Cert.WupIdeal.nD,
      m' ((c.tc : Thread Cert.WupRefIdeal.nD Cert.WupRefIdeal.τ).loc Cert.WupRefIdeal.main_arg0) = m ((c.tc : Thread Cert.WupIdeal.nD Cert.WupIdeal.τ).loc Cert.WupIdeal.main_arg0)
      ∧ m' ((c.tc : Thread Cert.WupRefIdeal.nD Cert.WupRefIdeal.τ).loc Cert.WupRefIdeal.main_arg1) = m ((c.tc : Thread Cert.WupIdeal.nD Cert.WupIdeal.τ).loc Cert.WupIdeal.main_arg1)
      ∧ m' ((c.tc : Thread Cert.WupRefIdeal.nD Cert.WupRefIdeal.τ).loc Cert.WupRefIdeal.main_arg2) = m ((c.tc : Thread Cert.WupIdeal.nD Cert.WupIdeal.τ).loc Cert.WupIdeal.main_arg2)
      ∧ m' ((c.tc : Thread Cert.WupRefIdeal.nD Cert.WupRefIdeal.τ).loc Cert.WupRefIdeal.main_arg3) = m ((c.tc : Thread Cert.WupIdeal.nD Cert.WupIdeal.τ).loc Cert.WupIdeal.main_arg3)) →
    ∃ (v0 : (c : Dev Cert.WupIdeal.nD) → Buf (Elt Ideal) ((c.tc : Thread Cert.WupIdeal.nD Cert.WupIdeal.τ).loc Cert.WupIdeal.main_v0_0)) (v1 : (c : Dev Cert.WupIdeal.nD) → Buf (Elt Ideal) ((c.tc : Thread Cert.WupIdeal.nD Cert.WupIdeal.τ).loc Cert.WupIdeal.main_v0_1)) (v2 : (c : Dev Cert.WupIdeal.nD) → Buf (Elt Ideal) ((c.tc : Thread Cert.WupIdeal.nD Cert.WupIdeal.τ).loc Cert.WupIdeal.main_v0_2)) (v3 : (c : Dev Cert.WupIdeal.nD) → Buf (Elt Ideal) ((c.tc : Thread Cert.WupIdeal.nD Cert.WupIdeal.τ).loc Cert.WupIdeal.main_v0_3)),
      θ_run (Cert.WupIdeal.defs (F := Ideal)) (onTc (τ := Cert.WupIdeal.τ) (Cert.WupIdeal.main (F := Ideal))) ⟨m, fun _ => 0, g⟩ (fun r => ∀ c : Dev Cert.WupIdeal.nD,
          r.2.mem ((c.tc : Thread Cert.WupIdeal.nD Cert.WupIdeal.τ).loc Cert.WupIdeal.main_v0_0) = v0 c
          ∧ r.2.mem ((c.tc : Thread Cert.WupIdeal.nD Cert.WupIdeal.τ).loc Cert.WupIdeal.main_v0_1) = v1 c
          ∧ r.2.mem ((c.tc : Thread Cert.WupIdeal.nD Cert.WupIdeal.τ).loc Cert.WupIdeal.main_v0_2) = v2 c
          ∧ r.2.mem ((c.tc : Thread Cert.WupIdeal.nD Cert.WupIdeal.τ).loc Cert.WupIdeal.main_v0_3) = v3 c
          ∧ r.2.mem ((c.tc : Thread Cert.WupIdeal.nD Cert.WupIdeal.τ).loc Cert.WupIdeal.main_arg0) = m ((c.tc : Thread Cert.WupIdeal.nD Cert.WupIdeal.τ).loc Cert.WupIdeal.main_arg0)
          ∧ r.2.mem ((c.tc : Thread Cert.WupIdeal.nD Cert.WupIdeal.τ).loc Cert.WupIdeal.main_arg1) = m ((c.tc : Thread Cert.WupIdeal.nD Cert.WupIdeal.τ).loc Cert.WupIdeal.main_arg1)
          ∧ r.2.mem ((c.tc : Thread Cert.WupIdeal.nD Cert.WupIdeal.τ).loc Cert.WupIdeal.main_arg2) = m ((c.tc : Thread Cert.WupIdeal.nD Cert.WupIdeal.τ).loc Cert.WupIdeal.main_arg2)
          ∧ r.2.mem ((c.tc : Thread Cert.WupIdeal.nD Cert.WupIdeal.τ).loc Cert.WupIdeal.main_arg3) = m ((c.tc : Thread Cert.WupIdeal.nD Cert.WupIdeal.τ).loc Cert.WupIdeal.main_arg3))
      ∧ θ_run (Cert.WupRefIdeal.defs (F := Ideal)) (onTc (τ := Cert.WupRefIdeal.τ) (Cert.WupRefIdeal.main (F := Ideal))) ⟨m', fun _ => 0, g'⟩ (fun r => ∀ c : Dev Cert.WupRefIdeal.nD,
          r.2.mem ((c.tc : Thread Cert.WupRefIdeal.nD Cert.WupRefIdeal.τ).loc Cert.WupRefIdeal.main_v0) = v0 c
          ∧ r.2.mem ((c.tc : Thread Cert.WupRefIdeal.nD Cert.WupRefIdeal.τ).loc Cert.WupRefIdeal.main_v24) = v1 c
          ∧ r.2.mem ((c.tc : Thread Cert.WupRefIdeal.nD Cert.WupRefIdeal.τ).loc Cert.WupRefIdeal.main_v5) = v2 c
          ∧ r.2.mem ((c.tc : Thread Cert.WupRefIdeal.nD Cert.WupRefIdeal.τ).loc Cert.WupRefIdeal.main_v11) = v3 c
          ∧ r.2.mem ((c.tc : Thread Cert.WupRefIdeal.nD Cert.WupRefIdeal.τ).loc Cert.WupRefIdeal.main_arg0) = m' ((c.tc : Thread Cert.WupRefIdeal.nD Cert.WupRefIdeal.τ).loc Cert.WupRefIdeal.main_arg0)
          ∧ r.2.mem ((c.tc : Thread Cert.WupRefIdeal.nD Cert.WupRefIdeal.τ).loc Cert.WupRefIdeal.main_arg1) = m' ((c.tc : Thread Cert.WupRefIdeal.nD Cert.WupRefIdeal.τ).loc Cert.WupRefIdeal.main_arg1)
          ∧ r.2.mem ((c.tc : Thread Cert.WupRefIdeal.nD Cert.WupRefIdeal.τ).loc Cert.WupRefIdeal.main_arg2) = m' ((c.tc : Thread Cert.WupRefIdeal.nD Cert.WupRefIdeal.τ).loc Cert.WupRefIdeal.main_arg2)
          ∧ r.2.mem ((c.tc : Thread Cert.WupRefIdeal.nD Cert.WupRefIdeal.τ).loc Cert.WupRefIdeal.main_arg3) = m' ((c.tc : Thread Cert.WupRefIdeal.nD Cert.WupRefIdeal.τ).loc Cert.WupRefIdeal.main_arg3))

def preserves_Rep_RepIdeal : Prop :=
  True

def algebraic_RepIdeal_RepRefIdeal [hRepIdeal : Cert.RepIdeal.Facts] [hRepRefIdeal : Cert.RepRefIdeal.Facts] : Prop :=
  ∀ (m : (ℓ : Loc Cert.RepIdeal.nD Cert.RepIdeal.τ Cert.RepIdeal.sig) → Buf (Elt Ideal) ℓ) (g : Dev Cert.RepIdeal.nD → PrngReg)
    (m' : (ℓ : Loc Cert.RepRefIdeal.nD Cert.RepRefIdeal.τ Cert.RepRefIdeal.sig) → Buf (Elt Ideal) ℓ) (g' : Dev Cert.RepRefIdeal.nD → PrngReg), Pre_RepIdeal m →
    (∀ c : Dev Cert.RepIdeal.nD,
      m' ((c.tc : Thread Cert.RepRefIdeal.nD Cert.RepRefIdeal.τ).loc Cert.RepRefIdeal.main_arg0) = m ((c.tc : Thread Cert.RepIdeal.nD Cert.RepIdeal.τ).loc Cert.RepIdeal.main_arg0)
      ∧ m' ((c.tc : Thread Cert.RepRefIdeal.nD Cert.RepRefIdeal.τ).loc Cert.RepRefIdeal.main_arg1) = m ((c.tc : Thread Cert.RepIdeal.nD Cert.RepIdeal.τ).loc Cert.RepIdeal.main_arg1)
      ∧ m' ((c.tc : Thread Cert.RepRefIdeal.nD Cert.RepRefIdeal.τ).loc Cert.RepRefIdeal.main_arg2) = m ((c.tc : Thread Cert.RepIdeal.nD Cert.RepIdeal.τ).loc Cert.RepIdeal.main_arg2)
      ∧ m' ((c.tc : Thread Cert.RepRefIdeal.nD Cert.RepRefIdeal.τ).loc Cert.RepRefIdeal.main_arg3) = m ((c.tc : Thread Cert.RepIdeal.nD Cert.RepIdeal.τ).loc Cert.RepIdeal.main_arg3)) →
    ∃ (v0 : (c : Dev Cert.RepIdeal.nD) → Buf (Elt Ideal) ((c.tc : Thread Cert.RepIdeal.nD Cert.RepIdeal.τ).loc Cert.RepIdeal.main_v0_0)) (v1 : (c : Dev Cert.RepIdeal.nD) → Buf (Elt Ideal) ((c.tc : Thread Cert.RepIdeal.nD Cert.RepIdeal.τ).loc Cert.RepIdeal.main_v0_1)) (v2 : (c : Dev Cert.RepIdeal.nD) → Buf (Elt Ideal) ((c.tc : Thread Cert.RepIdeal.nD Cert.RepIdeal.τ).loc Cert.RepIdeal.main_v0_2)) (v3 : (c : Dev Cert.RepIdeal.nD) → Buf (Elt Ideal) ((c.tc : Thread Cert.RepIdeal.nD Cert.RepIdeal.τ).loc Cert.RepIdeal.main_v0_3)),
      θ_run (Cert.RepIdeal.defs (F := Ideal)) (onTc (τ := Cert.RepIdeal.τ) (Cert.RepIdeal.main (F := Ideal))) ⟨m, fun _ => 0, g⟩ (fun r => ∀ c : Dev Cert.RepIdeal.nD,
          r.2.mem ((c.tc : Thread Cert.RepIdeal.nD Cert.RepIdeal.τ).loc Cert.RepIdeal.main_v0_0) = v0 c
          ∧ r.2.mem ((c.tc : Thread Cert.RepIdeal.nD Cert.RepIdeal.τ).loc Cert.RepIdeal.main_v0_1) = v1 c
          ∧ r.2.mem ((c.tc : Thread Cert.RepIdeal.nD Cert.RepIdeal.τ).loc Cert.RepIdeal.main_v0_2) = v2 c
          ∧ r.2.mem ((c.tc : Thread Cert.RepIdeal.nD Cert.RepIdeal.τ).loc Cert.RepIdeal.main_v0_3) = v3 c
          ∧ r.2.mem ((c.tc : Thread Cert.RepIdeal.nD Cert.RepIdeal.τ).loc Cert.RepIdeal.main_arg0) = m ((c.tc : Thread Cert.RepIdeal.nD Cert.RepIdeal.τ).loc Cert.RepIdeal.main_arg0)
          ∧ r.2.mem ((c.tc : Thread Cert.RepIdeal.nD Cert.RepIdeal.τ).loc Cert.RepIdeal.main_arg1) = m ((c.tc : Thread Cert.RepIdeal.nD Cert.RepIdeal.τ).loc Cert.RepIdeal.main_arg1)
          ∧ r.2.mem ((c.tc : Thread Cert.RepIdeal.nD Cert.RepIdeal.τ).loc Cert.RepIdeal.main_arg2) = m ((c.tc : Thread Cert.RepIdeal.nD Cert.RepIdeal.τ).loc Cert.RepIdeal.main_arg2)
          ∧ r.2.mem ((c.tc : Thread Cert.RepIdeal.nD Cert.RepIdeal.τ).loc Cert.RepIdeal.main_arg3) = m ((c.tc : Thread Cert.RepIdeal.nD Cert.RepIdeal.τ).loc Cert.RepIdeal.main_arg3))
      ∧ θ_run (Cert.RepRefIdeal.defs (F := Ideal)) (onTc (τ := Cert.RepRefIdeal.τ) (Cert.RepRefIdeal.main (F := Ideal))) ⟨m', fun _ => 0, g'⟩ (fun r => ∀ c : Dev Cert.RepRefIdeal.nD,
          r.2.mem ((c.tc : Thread Cert.RepRefIdeal.nD Cert.RepRefIdeal.τ).loc Cert.RepRefIdeal.main_v0) = v0 c
          ∧ r.2.mem ((c.tc : Thread Cert.RepRefIdeal.nD Cert.RepRefIdeal.τ).loc Cert.RepRefIdeal.main_v24) = v1 c
          ∧ r.2.mem ((c.tc : Thread Cert.RepRefIdeal.nD Cert.RepRefIdeal.τ).loc Cert.RepRefIdeal.main_v5) = v2 c
          ∧ r.2.mem ((c.tc : Thread Cert.RepRefIdeal.nD Cert.RepRefIdeal.τ).loc Cert.RepRefIdeal.main_v11) = v3 c
          ∧ r.2.mem ((c.tc : Thread Cert.RepRefIdeal.nD Cert.RepRefIdeal.τ).loc Cert.RepRefIdeal.main_arg0) = m' ((c.tc : Thread Cert.RepRefIdeal.nD Cert.RepRefIdeal.τ).loc Cert.RepRefIdeal.main_arg0)
          ∧ r.2.mem ((c.tc : Thread Cert.RepRefIdeal.nD Cert.RepRefIdeal.τ).loc Cert.RepRefIdeal.main_arg1) = m' ((c.tc : Thread Cert.RepRefIdeal.nD Cert.RepRefIdeal.τ).loc Cert.RepRefIdeal.main_arg1)
          ∧ r.2.mem ((c.tc : Thread Cert.RepRefIdeal.nD Cert.RepRefIdeal.τ).loc Cert.RepRefIdeal.main_arg2) = m' ((c.tc : Thread Cert.RepRefIdeal.nD Cert.RepRefIdeal.τ).loc Cert.RepRefIdeal.main_arg2)
          ∧ r.2.mem ((c.tc : Thread Cert.RepRefIdeal.nD Cert.RepRefIdeal.τ).loc Cert.RepRefIdeal.main_arg3) = m' ((c.tc : Thread Cert.RepRefIdeal.nD Cert.RepRefIdeal.τ).loc Cert.RepRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)) (v3 : (c : Dev Cert.ConvIdeal.nD) → Buf (Elt Ideal) ((c.tc : Thread Cert.ConvIdeal.nD Cert.ConvIdeal.τ).loc Cert.ConvIdeal.main_v0_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_v0_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v0) = v0 c
          ∧ r.2.mem ((c.tc : Thread Cert.ConvRefIdeal.nD Cert.ConvRefIdeal.τ).loc Cert.ConvRefIdeal.main_v24) = v1 c
          ∧ r.2.mem ((c.tc : Thread Cert.ConvRefIdeal.nD Cert.ConvRefIdeal.τ).loc Cert.ConvRefIdeal.main_v5) = v2 c
          ∧ r.2.mem ((c.tc : Thread Cert.ConvRefIdeal.nD Cert.ConvRefIdeal.τ).loc Cert.ConvRefIdeal.main_v11) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v1) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v1) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0))

def preserves_Dx0_Dx0Ideal : Prop :=
  True

def algebraic_Dx0Ideal_Dx0RefIdeal [hDx0Ideal : Cert.Dx0Ideal.Facts] [hDx0RefIdeal : Cert.Dx0RefIdeal.Facts] : Prop :=
  ∀ (m : (ℓ : Loc Cert.Dx0Ideal.nD Cert.Dx0Ideal.τ Cert.Dx0Ideal.sig) → Buf (Elt Ideal) ℓ) (g : Dev Cert.Dx0Ideal.nD → PrngReg)
    (m' : (ℓ : Loc Cert.Dx0RefIdeal.nD Cert.Dx0RefIdeal.τ Cert.Dx0RefIdeal.sig) → Buf (Elt Ideal) ℓ) (g' : Dev Cert.Dx0RefIdeal.nD → PrngReg), Pre_Dx0Ideal m →
    (∀ c : Dev Cert.Dx0Ideal.nD,
      m' ((c.tc : Thread Cert.Dx0RefIdeal.nD Cert.Dx0RefIdeal.τ).loc Cert.Dx0RefIdeal.main_arg0) = m ((c.tc : Thread Cert.Dx0Ideal.nD Cert.Dx0Ideal.τ).loc Cert.Dx0Ideal.main_arg0)
      ∧ m' ((c.tc : Thread Cert.Dx0RefIdeal.nD Cert.Dx0RefIdeal.τ).loc Cert.Dx0RefIdeal.main_arg1) = m ((c.tc : Thread Cert.Dx0Ideal.nD Cert.Dx0Ideal.τ).loc Cert.Dx0Ideal.main_arg1)
      ∧ m' ((c.tc : Thread Cert.Dx0RefIdeal.nD Cert.Dx0RefIdeal.τ).loc Cert.Dx0RefIdeal.main_arg2) = m ((c.tc : Thread Cert.Dx0Ideal.nD Cert.Dx0Ideal.τ).loc Cert.Dx0Ideal.main_arg2)) →
    ∃ (v0 : (c : Dev Cert.Dx0Ideal.nD) → Buf (Elt Ideal) ((c.tc : Thread Cert.Dx0Ideal.nD Cert.Dx0Ideal.τ).loc Cert.Dx0Ideal.main_v0)),
      θ_run (Cert.Dx0Ideal.defs (F := Ideal)) (onTc (τ := Cert.Dx0Ideal.τ) (Cert.Dx0Ideal.main (F := Ideal))) ⟨m, fun _ => 0, g⟩ (fun r => ∀ c : Dev Cert.Dx0Ideal.nD,
          r.2.mem ((c.tc : Thread Cert.Dx0Ideal.nD Cert.Dx0Ideal.τ).loc Cert.Dx0Ideal.main_v0) = v0 c
          ∧ r.2.mem ((c.tc : Thread Cert.Dx0Ideal.nD Cert.Dx0Ideal.τ).loc Cert.Dx0Ideal.main_arg0) = m ((c.tc : Thread Cert.Dx0Ideal.nD Cert.Dx0Ideal.τ).loc Cert.Dx0Ideal.main_arg0)
          ∧ r.2.mem ((c.tc : Thread Cert.Dx0Ideal.nD Cert.Dx0Ideal.τ).loc Cert.Dx0Ideal.main_arg1) = m ((c.tc : Thread Cert.Dx0Ideal.nD Cert.Dx0Ideal.τ).loc Cert.Dx0Ideal.main_arg1)
          ∧ r.2.mem ((c.tc : Thread Cert.Dx0Ideal.nD Cert.Dx0Ideal.τ).loc Cert.Dx0Ideal.main_arg2) = m ((c.tc : Thread Cert.Dx0Ideal.nD Cert.Dx0Ideal.τ).loc Cert.Dx0Ideal.main_arg2))
      ∧ θ_run (Cert.Dx0RefIdeal.defs (F := Ideal)) (onTc (τ := Cert.Dx0RefIdeal.τ) (Cert.Dx0RefIdeal.main (F := Ideal))) ⟨m', fun _ => 0, g'⟩ (fun r => ∀ c : Dev Cert.Dx0RefIdeal.nD,
          r.2.mem ((c.tc : Thread Cert.Dx0RefIdeal.nD Cert.Dx0RefIdeal.τ).loc Cert.Dx0RefIdeal.main_v5) = v0 c
          ∧ r.2.mem ((c.tc : Thread Cert.Dx0RefIdeal.nD Cert.Dx0RefIdeal.τ).loc Cert.Dx0RefIdeal.main_arg0) = m' ((c.tc : Thread Cert.Dx0RefIdeal.nD Cert.Dx0RefIdeal.τ).loc Cert.Dx0RefIdeal.main_arg0)
          ∧ r.2.mem ((c.tc : Thread Cert.Dx0RefIdeal.nD Cert.Dx0RefIdeal.τ).loc Cert.Dx0RefIdeal.main_arg1) = m' ((c.tc : Thread Cert.Dx0RefIdeal.nD Cert.Dx0RefIdeal.τ).loc Cert.Dx0RefIdeal.main_arg1)
          ∧ r.2.mem ((c.tc : Thread Cert.Dx0RefIdeal.nD Cert.Dx0RefIdeal.τ).loc Cert.Dx0RefIdeal.main_arg2) = m' ((c.tc : Thread Cert.Dx0RefIdeal.nD Cert.Dx0RefIdeal.τ).loc Cert.Dx0RefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v4) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_Hidden_HiddenIdeal : Prop :=
  True

def algebraic_HiddenIdeal_HiddenRefIdeal [hHiddenIdeal : Cert.HiddenIdeal.Facts] [hHiddenRefIdeal : Cert.HiddenRefIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)) →
    ∃ (v0 : (c : Dev Cert.HiddenIdeal.nD) → Buf (Elt Ideal) ((c.tc : Thread Cert.HiddenIdeal.nD Cert.HiddenIdeal.τ).loc Cert.HiddenIdeal.main_v0)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v0) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v3) = v0 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v2) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v4) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DoDil_DoDilIdeal : Prop :=
  True

def algebraic_DoDilIdeal_DoDilRefIdeal [hDoDilIdeal : Cert.DoDilIdeal.Facts] [hDoDilRefIdeal : Cert.DoDilRefIdeal.Facts] : Prop :=
  ∀ (m : (ℓ : Loc Cert.DoDilIdeal.nD Cert.DoDilIdeal.τ Cert.DoDilIdeal.sig) → Buf (Elt Ideal) ℓ) (g : Dev Cert.DoDilIdeal.nD → PrngReg)
    (m' : (ℓ : Loc Cert.DoDilRefIdeal.nD Cert.DoDilRefIdeal.τ Cert.DoDilRefIdeal.sig) → Buf (Elt Ideal) ℓ) (g' : Dev Cert.DoDilRefIdeal.nD → PrngReg), Pre_DoDilIdeal m →
    (∀ c : Dev Cert.DoDilIdeal.nD,
      m' ((c.tc : Thread Cert.DoDilRefIdeal.nD Cert.DoDilRefIdeal.τ).loc Cert.DoDilRefIdeal.main_arg0) = m ((c.tc : Thread Cert.DoDilIdeal.nD Cert.DoDilIdeal.τ).loc Cert.DoDilIdeal.main_arg0)
      ∧ m' ((c.tc : Thread Cert.DoDilRefIdeal.nD Cert.DoDilRefIdeal.τ).loc Cert.DoDilRefIdeal.main_arg1) = m ((c.tc : Thread Cert.DoDilIdeal.nD Cert.DoDilIdeal.τ).loc Cert.DoDilIdeal.main_arg1)) →
    ∃ (v0 : (c : Dev Cert.DoDilIdeal.nD) → Buf (Elt Ideal) ((c.tc : Thread Cert.DoDilIdeal.nD Cert.DoDilIdeal.τ).loc Cert.DoDilIdeal.main_v0)),
      θ_run (Cert.DoDilIdeal.defs (F := Ideal)) (onTc (τ := Cert.DoDilIdeal.τ) (Cert.DoDilIdeal.main (F := Ideal))) ⟨m, fun _ => 0, g⟩ (fun r => ∀ c : Dev Cert.DoDilIdeal.nD,
          r.2.mem ((c.tc : Thread Cert.DoDilIdeal.nD Cert.DoDilIdeal.τ).loc Cert.DoDilIdeal.main_v0) = v0 c
          ∧ r.2.mem ((c.tc : Thread Cert.DoDilIdeal.nD Cert.DoDilIdeal.τ).loc Cert.DoDilIdeal.main_arg0) = m ((c.tc : Thread Cert.DoDilIdeal.nD Cert.DoDilIdeal.τ).loc Cert.DoDilIdeal.main_arg0)
          ∧ r.2.mem ((c.tc : Thread Cert.DoDilIdeal.nD Cert.DoDilIdeal.τ).loc Cert.DoDilIdeal.main_arg1) = m ((c.tc : Thread Cert.DoDilIdeal.nD Cert.DoDilIdeal.τ).loc Cert.DoDilIdeal.main_arg1))
      ∧ θ_run (Cert.DoDilRefIdeal.defs (F := Ideal)) (onTc (τ := Cert.DoDilRefIdeal.τ) (Cert.DoDilRefIdeal.main (F := Ideal))) ⟨m', fun _ => 0, g'⟩ (fun r => ∀ c : Dev Cert.DoDilRefIdeal.nD,
          r.2.mem ((c.tc : Thread Cert.DoDilRefIdeal.nD Cert.DoDilRefIdeal.τ).loc Cert.DoDilRefIdeal.main_v3) = v0 c
          ∧ r.2.mem ((c.tc : Thread Cert.DoDilRefIdeal.nD Cert.DoDilRefIdeal.τ).loc Cert.DoDilRefIdeal.main_arg0) = m' ((c.tc : Thread Cert.DoDilRefIdeal.nD Cert.DoDilRefIdeal.τ).loc Cert.DoDilRefIdeal.main_arg0)
          ∧ r.2.mem ((c.tc : Thread Cert.DoDilRefIdeal.nD Cert.DoDilRefIdeal.τ).loc Cert.DoDilRefIdeal.main_arg1) = m' ((c.tc : Thread Cert.DoDilRefIdeal.nD Cert.DoDilRefIdeal.τ).loc Cert.DoDilRefIdeal.main_arg1))

def preserves_DoMla_DoMlaIdeal : Prop :=
  True

def algebraic_DoMlaIdeal_DoMlaRefIdeal [hDoMlaIdeal : Cert.DoMlaIdeal.Facts] [hDoMlaRefIdeal : Cert.DoMlaRefIdeal.Facts] : Prop :=
  ∀ (m : (ℓ : Loc Cert.DoMlaIdeal.nD Cert.DoMlaIdeal.τ Cert.DoMlaIdeal.sig) → Buf (Elt Ideal) ℓ) (g : Dev Cert.DoMlaIdeal.nD → PrngReg)
    (m' : (ℓ : Loc Cert.DoMlaRefIdeal.nD Cert.DoMlaRefIdeal.τ Cert.DoMlaRefIdeal.sig) → Buf (Elt Ideal) ℓ) (g' : Dev Cert.DoMlaRefIdeal.nD → PrngReg), Pre_DoMlaIdeal m →
    (∀ c : Dev Cert.DoMlaIdeal.nD,
      m' ((c.tc : Thread Cert.DoMlaRefIdeal.nD Cert.DoMlaRefIdeal.τ).loc Cert.DoMlaRefIdeal.main_arg0) = m ((c.tc : Thread Cert.DoMlaIdeal.nD Cert.DoMlaIdeal.τ).loc Cert.DoMlaIdeal.main_arg0)
      ∧ m' ((c.tc : Thread Cert.DoMlaRefIdeal.nD Cert.DoMlaRefIdeal.τ).loc Cert.DoMlaRefIdeal.main_arg1) = m ((c.tc : Thread Cert.DoMlaIdeal.nD Cert.DoMlaIdeal.τ).loc Cert.DoMlaIdeal.main_arg1)) →
    ∃ (v0 : (c : Dev Cert.DoMlaIdeal.nD) → Buf (Elt Ideal) ((c.tc : Thread Cert.DoMlaIdeal.nD Cert.DoMlaIdeal.τ).loc Cert.DoMlaIdeal.main_v0)),
      θ_run (Cert.DoMlaIdeal.defs (F := Ideal)) (onTc (τ := Cert.DoMlaIdeal.τ) (Cert.DoMlaIdeal.main (F := Ideal))) ⟨m, fun _ => 0, g⟩ (fun r => ∀ c : Dev Cert.DoMlaIdeal.nD,
          r.2.mem ((c.tc : Thread Cert.DoMlaIdeal.nD Cert.DoMlaIdeal.τ).loc Cert.DoMlaIdeal.main_v0) = v0 c
          ∧ r.2.mem ((c.tc : Thread Cert.DoMlaIdeal.nD Cert.DoMlaIdeal.τ).loc Cert.DoMlaIdeal.main_arg0) = m ((c.tc : Thread Cert.DoMlaIdeal.nD Cert.DoMlaIdeal.τ).loc Cert.DoMlaIdeal.main_arg0)
          ∧ r.2.mem ((c.tc : Thread Cert.DoMlaIdeal.nD Cert.DoMlaIdeal.τ).loc Cert.DoMlaIdeal.main_arg1) = m ((c.tc : Thread Cert.DoMlaIdeal.nD Cert.DoMlaIdeal.τ).loc Cert.DoMlaIdeal.main_arg1))
      ∧ θ_run (Cert.DoMlaRefIdeal.defs (F := Ideal)) (onTc (τ := Cert.DoMlaRefIdeal.τ) (Cert.DoMlaRefIdeal.main (F := Ideal))) ⟨m', fun _ => 0, g'⟩ (fun r => ∀ c : Dev Cert.DoMlaRefIdeal.nD,
          r.2.mem ((c.tc : Thread Cert.DoMlaRefIdeal.nD Cert.DoMlaRefIdeal.τ).loc Cert.DoMlaRefIdeal.main_v4) = v0 c
          ∧ r.2.mem ((c.tc : Thread Cert.DoMlaRefIdeal.nD Cert.DoMlaRefIdeal.τ).loc Cert.DoMlaRefIdeal.main_arg0) = m' ((c.tc : Thread Cert.DoMlaRefIdeal.nD Cert.DoMlaRefIdeal.τ).loc Cert.DoMlaRefIdeal.main_arg0)
          ∧ r.2.mem ((c.tc : Thread Cert.DoMlaRefIdeal.nD Cert.DoMlaRefIdeal.τ).loc Cert.DoMlaRefIdeal.main_arg1) = m' ((c.tc : Thread Cert.DoMlaRefIdeal.nD Cert.DoMlaRefIdeal.τ).loc Cert.DoMlaRefIdeal.main_arg1))

def preserves_Dx1_Dx1Ideal : Prop :=
  True

def algebraic_Dx1Ideal_Dx1RefIdeal [hDx1Ideal : Cert.Dx1Ideal.Facts] [hDx1RefIdeal : Cert.Dx1RefIdeal.Facts] : Prop :=
  ∀ (m : (ℓ : Loc Cert.Dx1Ideal.nD Cert.Dx1Ideal.τ Cert.Dx1Ideal.sig) → Buf (Elt Ideal) ℓ) (g : Dev Cert.Dx1Ideal.nD → PrngReg)
    (m' : (ℓ : Loc Cert.Dx1RefIdeal.nD Cert.Dx1RefIdeal.τ Cert.Dx1RefIdeal.sig) → Buf (Elt Ideal) ℓ) (g' : Dev Cert.Dx1RefIdeal.nD → PrngReg), Pre_Dx1Ideal m →
    (∀ c : Dev Cert.Dx1Ideal.nD,
      m' ((c.tc : Thread Cert.Dx1RefIdeal.nD Cert.Dx1RefIdeal.τ).loc Cert.Dx1RefIdeal.main_arg0) = m ((c.tc : Thread Cert.Dx1Ideal.nD Cert.Dx1Ideal.τ).loc Cert.Dx1Ideal.main_arg0)
      ∧ m' ((c.tc : Thread Cert.Dx1RefIdeal.nD Cert.Dx1RefIdeal.τ).loc Cert.Dx1RefIdeal.main_arg1) = m ((c.tc : Thread Cert.Dx1Ideal.nD Cert.Dx1Ideal.τ).loc Cert.Dx1Ideal.main_arg1)
      ∧ m' ((c.tc : Thread Cert.Dx1RefIdeal.nD Cert.Dx1RefIdeal.τ).loc Cert.Dx1RefIdeal.main_arg2) = m ((c.tc : Thread Cert.Dx1Ideal.nD Cert.Dx1Ideal.τ).loc Cert.Dx1Ideal.main_arg2)) →
    ∃ (v0 : (c : Dev Cert.Dx1Ideal.nD) → Buf (Elt Ideal) ((c.tc : Thread Cert.Dx1Ideal.nD Cert.Dx1Ideal.τ).loc Cert.Dx1Ideal.main_v0)),
      θ_run (Cert.Dx1Ideal.defs (F := Ideal)) (onTc (τ := Cert.Dx1Ideal.τ) (Cert.Dx1Ideal.main (F := Ideal))) ⟨m, fun _ => 0, g⟩ (fun r => ∀ c : Dev Cert.Dx1Ideal.nD,
          r.2.mem ((c.tc : Thread Cert.Dx1Ideal.nD Cert.Dx1Ideal.τ).loc Cert.Dx1Ideal.main_v0) = v0 c
          ∧ r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
          ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1)
          ∧ r.2.mem ((c.tc : Thread Cert.Dx1Ideal.nD Cert.Dx1Ideal.τ).loc Cert.Dx1Ideal.main_arg2) = m ((c.tc : Thread Cert.Dx1Ideal.nD Cert.Dx1Ideal.τ).loc Cert.Dx1Ideal.main_arg2))
      ∧ θ_run (Cert.Dx1RefIdeal.defs (F := Ideal)) (onTc (τ := Cert.Dx1RefIdeal.τ) (Cert.Dx1RefIdeal.main (F := Ideal))) ⟨m', fun _ => 0, g'⟩ (fun r => ∀ c : Dev Cert.Dx1RefIdeal.nD,
          r.2.mem ((c.tc : Thread Cert.Dx1RefIdeal.nD Cert.Dx1RefIdeal.τ).loc Cert.Dx1RefIdeal.main_v5) = v0 c
          ∧ r.2.mem ((c.tc : Thread Cert.Dx1RefIdeal.nD Cert.Dx1RefIdeal.τ).loc Cert.Dx1RefIdeal.main_arg0) = m' ((c.tc : Thread Cert.Dx1RefIdeal.nD Cert.Dx1RefIdeal.τ).loc Cert.Dx1RefIdeal.main_arg0)
          ∧ r.2.mem ((c.tc : Thread Cert.Dx1RefIdeal.nD Cert.Dx1RefIdeal.τ).loc Cert.Dx1RefIdeal.main_arg1) = m' ((c.tc : Thread Cert.Dx1RefIdeal.nD Cert.Dx1RefIdeal.τ).loc Cert.Dx1RefIdeal.main_arg1)
          ∧ r.2.mem ((c.tc : Thread Cert.Dx1RefIdeal.nD Cert.Dx1RefIdeal.τ).loc Cert.Dx1RefIdeal.main_arg2) = m' ((c.tc : Thread Cert.Dx1RefIdeal.nD Cert.Dx1RefIdeal.τ).loc Cert.Dx1RefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v4) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwODil_DwODilIdeal : Prop :=
  True

def algebraic_DwODilIdeal_DwODilRefIdeal [hDwODilIdeal : Cert.DwODilIdeal.Facts] [hDwODilRefIdeal : Cert.DwODilRefIdeal.Facts] : Prop :=
  ∀ (m : (ℓ : Loc Cert.DwODilIdeal.nD Cert.DwODilIdeal.τ Cert.DwODilIdeal.sig) → Buf (Elt Ideal) ℓ) (g : Dev Cert.DwODilIdeal.nD → PrngReg)
    (m' : (ℓ : Loc Cert.DwODilRefIdeal.nD Cert.DwODilRefIdeal.τ Cert.DwODilRefIdeal.sig) → Buf (Elt Ideal) ℓ) (g' : Dev Cert.DwODilRefIdeal.nD → PrngReg), Pre_DwODilIdeal m →
    (∀ c : Dev Cert.DwODilIdeal.nD,
      m' ((c.tc : Thread Cert.DwODilRefIdeal.nD Cert.DwODilRefIdeal.τ).loc Cert.DwODilRefIdeal.main_arg0) = m ((c.tc : Thread Cert.DwODilIdeal.nD Cert.DwODilIdeal.τ).loc Cert.DwODilIdeal.main_arg0)
      ∧ m' ((c.tc : Thread Cert.DwODilRefIdeal.nD Cert.DwODilRefIdeal.τ).loc Cert.DwODilRefIdeal.main_arg1) = m ((c.tc : Thread Cert.DwODilIdeal.nD Cert.DwODilIdeal.τ).loc Cert.DwODilIdeal.main_arg1)) →
    ∃ (v0 : (c : Dev Cert.DwODilIdeal.nD) → Buf (Elt Ideal) ((c.tc : Thread Cert.DwODilIdeal.nD Cert.DwODilIdeal.τ).loc Cert.DwODilIdeal.main_v0)),
      θ_run (Cert.DwODilIdeal.defs (F := Ideal)) (onTc (τ := Cert.DwODilIdeal.τ) (Cert.DwODilIdeal.main (F := Ideal))) ⟨m, fun _ => 0, g⟩ (fun r => ∀ c : Dev Cert.DwODilIdeal.nD,
          r.2.mem ((c.tc : Thread Cert.DwODilIdeal.nD Cert.DwODilIdeal.τ).loc Cert.DwODilIdeal.main_v0) = v0 c
          ∧ r.2.mem ((c.tc : Thread Cert.DwODilIdeal.nD Cert.DwODilIdeal.τ).loc Cert.DwODilIdeal.main_arg0) = m ((c.tc : Thread Cert.DwODilIdeal.nD Cert.DwODilIdeal.τ).loc Cert.DwODilIdeal.main_arg0)
          ∧ r.2.mem ((c.tc : Thread Cert.DwODilIdeal.nD Cert.DwODilIdeal.τ).loc Cert.DwODilIdeal.main_arg1) = m ((c.tc : Thread Cert.DwODilIdeal.nD Cert.DwODilIdeal.τ).loc Cert.DwODilIdeal.main_arg1))
      ∧ θ_run (Cert.DwODilRefIdeal.defs (F := Ideal)) (onTc (τ := Cert.DwODilRefIdeal.τ) (Cert.DwODilRefIdeal.main (F := Ideal))) ⟨m', fun _ => 0, g'⟩ (fun r => ∀ c : Dev Cert.DwODilRefIdeal.nD,
          r.2.mem ((c.tc : Thread Cert.DwODilRefIdeal.nD Cert.DwODilRefIdeal.τ).loc Cert.DwODilRefIdeal.main_v4) = v0 c
          ∧ r.2.mem ((c.tc : Thread Cert.DwODilRefIdeal.nD Cert.DwODilRefIdeal.τ).loc Cert.DwODilRefIdeal.main_arg0) = m' ((c.tc : Thread Cert.DwODilRefIdeal.nD Cert.DwODilRefIdeal.τ).loc Cert.DwODilRefIdeal.main_arg0)
          ∧ r.2.mem ((c.tc : Thread Cert.DwODilRefIdeal.nD Cert.DwODilRefIdeal.τ).loc Cert.DwODilRefIdeal.main_arg1) = m' ((c.tc : Thread Cert.DwODilRefIdeal.nD Cert.DwODilRefIdeal.τ).loc Cert.DwODilRefIdeal.main_arg1))

def preserves_DwOMla_DwOMlaIdeal : Prop :=
  True

def algebraic_DwOMlaIdeal_DwOMlaRefIdeal [hDwOMlaIdeal : Cert.DwOMlaIdeal.Facts] [hDwOMlaRefIdeal : Cert.DwOMlaRefIdeal.Facts] : Prop :=
  ∀ (m : (ℓ : Loc Cert.DwOMlaIdeal.nD Cert.DwOMlaIdeal.τ Cert.DwOMlaIdeal.sig) → Buf (Elt Ideal) ℓ) (g : Dev Cert.DwOMlaIdeal.nD → PrngReg)
    (m' : (ℓ : Loc Cert.DwOMlaRefIdeal.nD Cert.DwOMlaRefIdeal.τ Cert.DwOMlaRefIdeal.sig) → Buf (Elt Ideal) ℓ) (g' : Dev Cert.DwOMlaRefIdeal.nD → PrngReg), Pre_DwOMlaIdeal m →
    (∀ c : Dev Cert.DwOMlaIdeal.nD,
      m' ((c.tc : Thread Cert.DwOMlaRefIdeal.nD Cert.DwOMlaRefIdeal.τ).loc Cert.DwOMlaRefIdeal.main_arg0) = m ((c.tc : Thread Cert.DwOMlaIdeal.nD Cert.DwOMlaIdeal.τ).loc Cert.DwOMlaIdeal.main_arg0)
      ∧ m' ((c.tc : Thread Cert.DwOMlaRefIdeal.nD Cert.DwOMlaRefIdeal.τ).loc Cert.DwOMlaRefIdeal.main_arg1) = m ((c.tc : Thread Cert.DwOMlaIdeal.nD Cert.DwOMlaIdeal.τ).loc Cert.DwOMlaIdeal.main_arg1)) →
    ∃ (v0 : (c : Dev Cert.DwOMlaIdeal.nD) → Buf (Elt Ideal) ((c.tc : Thread Cert.DwOMlaIdeal.nD Cert.DwOMlaIdeal.τ).loc Cert.DwOMlaIdeal.main_v0)),
      θ_run (Cert.DwOMlaIdeal.defs (F := Ideal)) (onTc (τ := Cert.DwOMlaIdeal.τ) (Cert.DwOMlaIdeal.main (F := Ideal))) ⟨m, fun _ => 0, g⟩ (fun r => ∀ c : Dev Cert.DwOMlaIdeal.nD,
          r.2.mem ((c.tc : Thread Cert.DwOMlaIdeal.nD Cert.DwOMlaIdeal.τ).loc Cert.DwOMlaIdeal.main_v0) = v0 c
          ∧ r.2.mem ((c.tc : Thread Cert.DwOMlaIdeal.nD Cert.DwOMlaIdeal.τ).loc Cert.DwOMlaIdeal.main_arg0) = m ((c.tc : Thread Cert.DwOMlaIdeal.nD Cert.DwOMlaIdeal.τ).loc Cert.DwOMlaIdeal.main_arg0)
          ∧ r.2.mem ((c.tc : Thread Cert.DwOMlaIdeal.nD Cert.DwOMlaIdeal.τ).loc Cert.DwOMlaIdeal.main_arg1) = m ((c.tc : Thread Cert.DwOMlaIdeal.nD Cert.DwOMlaIdeal.τ).loc Cert.DwOMlaIdeal.main_arg1))
      ∧ θ_run (Cert.DwOMlaRefIdeal.defs (F := Ideal)) (onTc (τ := Cert.DwOMlaRefIdeal.τ) (Cert.DwOMlaRefIdeal.main (F := Ideal))) ⟨m', fun _ => 0, g'⟩ (fun r => ∀ c : Dev Cert.DwOMlaRefIdeal.nD,
          r.2.mem ((c.tc : Thread Cert.DwOMlaRefIdeal.nD Cert.DwOMlaRefIdeal.τ).loc Cert.DwOMlaRefIdeal.main_v4) = v0 c
          ∧ r.2.mem ((c.tc : Thread Cert.DwOMlaRefIdeal.nD Cert.DwOMlaRefIdeal.τ).loc Cert.DwOMlaRefIdeal.main_arg0) = m' ((c.tc : Thread Cert.DwOMlaRefIdeal.nD Cert.DwOMlaRefIdeal.τ).loc Cert.DwOMlaRefIdeal.main_arg0)
          ∧ r.2.mem ((c.tc : Thread Cert.DwOMlaRefIdeal.nD Cert.DwOMlaRefIdeal.τ).loc Cert.DwOMlaRefIdeal.main_arg1) = m' ((c.tc : Thread Cert.DwOMlaRefIdeal.nD Cert.DwOMlaRefIdeal.τ).loc Cert.DwOMlaRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v4) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v2) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3))

def preserves_Ln1_Ln1Ideal : Prop :=
  True

def algebraic_Ln1Ideal_Ln1RefIdeal [hLn1Ideal : Cert.Ln1Ideal.Facts] [hLn1RefIdeal : Cert.Ln1RefIdeal.Facts] : Prop :=
  ∀ (m : (ℓ : Loc Cert.Ln1Ideal.nD Cert.Ln1Ideal.τ Cert.Ln1Ideal.sig) → Buf (Elt Ideal) ℓ) (g : Dev Cert.Ln1Ideal.nD → PrngReg)
    (m' : (ℓ : Loc Cert.Ln1RefIdeal.nD Cert.Ln1RefIdeal.τ Cert.Ln1RefIdeal.sig) → Buf (Elt Ideal) ℓ) (g' : Dev Cert.Ln1RefIdeal.nD → PrngReg), Pre_Ln1Ideal m →
    (∀ c : Dev Cert.Ln1Ideal.nD,
      m' ((c.tc : Thread Cert.Ln1RefIdeal.nD Cert.Ln1RefIdeal.τ).loc Cert.Ln1RefIdeal.main_arg0) = m ((c.tc : Thread Cert.Ln1Ideal.nD Cert.Ln1Ideal.τ).loc Cert.Ln1Ideal.main_arg0)
      ∧ m' ((c.tc : Thread Cert.Ln1RefIdeal.nD Cert.Ln1RefIdeal.τ).loc Cert.Ln1RefIdeal.main_arg1) = m ((c.tc : Thread Cert.Ln1Ideal.nD Cert.Ln1Ideal.τ).loc Cert.Ln1Ideal.main_arg1)
      ∧ m' ((c.tc : Thread Cert.Ln1RefIdeal.nD Cert.Ln1RefIdeal.τ).loc Cert.Ln1RefIdeal.main_arg2) = m ((c.tc : Thread Cert.Ln1Ideal.nD Cert.Ln1Ideal.τ).loc Cert.Ln1Ideal.main_arg2)) →
    ∃ (v0 : (c : Dev Cert.Ln1Ideal.nD) → Buf (Elt Ideal) ((c.tc : Thread Cert.Ln1Ideal.nD Cert.Ln1Ideal.τ).loc Cert.Ln1Ideal.main_v0_0)) (v1 : (c : Dev Cert.Ln1Ideal.nD) → Buf (Elt Ideal) ((c.tc : Thread Cert.Ln1Ideal.nD Cert.Ln1Ideal.τ).loc Cert.Ln1Ideal.main_v0_1)) (v2 : (c : Dev Cert.Ln1Ideal.nD) → Buf (Elt Ideal) ((c.tc : Thread Cert.Ln1Ideal.nD Cert.Ln1Ideal.τ).loc Cert.Ln1Ideal.main_v0_2)) (v3 : (c : Dev Cert.Ln1Ideal.nD) → Buf (Elt Ideal) ((c.tc : Thread Cert.Ln1Ideal.nD Cert.Ln1Ideal.τ).loc Cert.Ln1Ideal.main_v0_3)),
      θ_run (Cert.Ln1Ideal.defs (F := Ideal)) (onTc (τ := Cert.Ln1Ideal.τ) (Cert.Ln1Ideal.main (F := Ideal))) ⟨m, fun _ => 0, g⟩ (fun r => ∀ c : Dev Cert.Ln1Ideal.nD,
          r.2.mem ((c.tc : Thread Cert.Ln1Ideal.nD Cert.Ln1Ideal.τ).loc Cert.Ln1Ideal.main_v0_0) = v0 c
          ∧ r.2.mem ((c.tc : Thread Cert.Ln1Ideal.nD Cert.Ln1Ideal.τ).loc Cert.Ln1Ideal.main_v0_1) = v1 c
          ∧ r.2.mem ((c.tc : Thread Cert.Ln1Ideal.nD Cert.Ln1Ideal.τ).loc Cert.Ln1Ideal.main_v0_2) = v2 c
          ∧ r.2.mem ((c.tc : Thread Cert.Ln1Ideal.nD Cert.Ln1Ideal.τ).loc Cert.Ln1Ideal.main_v0_3) = v3 c
          ∧ r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
          ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
          ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2))
      ∧ θ_run (Cert.Ln1RefIdeal.defs (F := Ideal)) (onTc (τ := Cert.Ln1RefIdeal.τ) (Cert.Ln1RefIdeal.main (F := Ideal))) ⟨m', fun _ => 0, g'⟩ (fun r => ∀ c : Dev Cert.Ln1RefIdeal.nD,
          r.2.mem ((c.tc : Thread Cert.Ln1RefIdeal.nD Cert.Ln1RefIdeal.τ).loc Cert.Ln1RefIdeal.main_v33) = v0 c
          ∧ r.2.mem ((c.tc : Thread Cert.Ln1RefIdeal.nD Cert.Ln1RefIdeal.τ).loc Cert.Ln1RefIdeal.main_v34) = v1 c
          ∧ r.2.mem ((c.tc : Thread Cert.Ln1RefIdeal.nD Cert.Ln1RefIdeal.τ).loc Cert.Ln1RefIdeal.main_v37) = v2 c
          ∧ r.2.mem ((c.tc : Thread Cert.Ln1RefIdeal.nD Cert.Ln1RefIdeal.τ).loc Cert.Ln1RefIdeal.main_v39) = v3 c
          ∧ r.2.mem ((c.tc : Thread Cert.Ln1RefIdeal.nD Cert.Ln1RefIdeal.τ).loc Cert.Ln1RefIdeal.main_arg0) = m' ((c.tc : Thread Cert.Ln1RefIdeal.nD Cert.Ln1RefIdeal.τ).loc Cert.Ln1RefIdeal.main_arg0)
          ∧ r.2.mem ((c.tc : Thread Cert.Ln1RefIdeal.nD Cert.Ln1RefIdeal.τ).loc Cert.Ln1RefIdeal.main_arg1) = m' ((c.tc : Thread Cert.Ln1RefIdeal.nD Cert.Ln1RefIdeal.τ).loc Cert.Ln1RefIdeal.main_arg1)
          ∧ r.2.mem ((c.tc : Thread Cert.Ln1RefIdeal.nD Cert.Ln1RefIdeal.τ).loc Cert.Ln1RefIdeal.main_arg2) = m' ((c.tc : Thread Cert.Ln1RefIdeal.nD Cert.Ln1RefIdeal.τ).loc Cert.Ln1RefIdeal.main_arg2))

def preserves_Ln2_Ln2Ideal : Prop :=
  True

def algebraic_Ln2Ideal_Ln2RefIdeal [hLn2Ideal : Cert.Ln2Ideal.Facts] [hLn2RefIdeal : Cert.Ln2RefIdeal.Facts] : Prop :=
  ∀ (m : (ℓ : Loc Cert.Ln2Ideal.nD Cert.Ln2Ideal.τ Cert.Ln2Ideal.sig) → Buf (Elt Ideal) ℓ) (g : Dev Cert.Ln2Ideal.nD → PrngReg)
    (m' : (ℓ : Loc Cert.Ln2RefIdeal.nD Cert.Ln2RefIdeal.τ Cert.Ln2RefIdeal.sig) → Buf (Elt Ideal) ℓ) (g' : Dev Cert.Ln2RefIdeal.nD → PrngReg), Pre_Ln2Ideal m →
    (∀ c : Dev Cert.Ln2Ideal.nD,
      m' ((c.tc : Thread Cert.Ln2RefIdeal.nD Cert.Ln2RefIdeal.τ).loc Cert.Ln2RefIdeal.main_arg0) = m ((c.tc : Thread Cert.Ln2Ideal.nD Cert.Ln2Ideal.τ).loc Cert.Ln2Ideal.main_arg0)
      ∧ m' ((c.tc : Thread Cert.Ln2RefIdeal.nD Cert.Ln2RefIdeal.τ).loc Cert.Ln2RefIdeal.main_arg1) = m ((c.tc : Thread Cert.Ln2Ideal.nD Cert.Ln2Ideal.τ).loc Cert.Ln2Ideal.main_arg1)
      ∧ m' ((c.tc : Thread Cert.Ln2RefIdeal.nD Cert.Ln2RefIdeal.τ).loc Cert.Ln2RefIdeal.main_arg2) = m ((c.tc : Thread Cert.Ln2Ideal.nD Cert.Ln2Ideal.τ).loc Cert.Ln2Ideal.main_arg2)
      ∧ m' ((c.tc : Thread Cert.Ln2RefIdeal.nD Cert.Ln2RefIdeal.τ).loc Cert.Ln2RefIdeal.main_arg3) = m ((c.tc : Thread Cert.Ln2Ideal.nD Cert.Ln2Ideal.τ).loc Cert.Ln2Ideal.main_arg3)
      ∧ m' ((c.tc : Thread Cert.Ln2RefIdeal.nD Cert.Ln2RefIdeal.τ).loc Cert.Ln2RefIdeal.main_arg4) = m ((c.tc : Thread Cert.Ln2Ideal.nD Cert.Ln2Ideal.τ).loc Cert.Ln2Ideal.main_arg4)) →
    ∃ (v0 : (c : Dev Cert.Ln2Ideal.nD) → Buf (Elt Ideal) ((c.tc : Thread Cert.Ln2Ideal.nD Cert.Ln2Ideal.τ).loc Cert.Ln2Ideal.main_v0_0)) (v1 : (c : Dev Cert.Ln2Ideal.nD) → Buf (Elt Ideal) ((c.tc : Thread Cert.Ln2Ideal.nD Cert.Ln2Ideal.τ).loc Cert.Ln2Ideal.main_v0_1)) (v2 : (c : Dev Cert.Ln2Ideal.nD) → Buf (Elt Ideal) ((c.tc : Thread Cert.Ln2Ideal.nD Cert.Ln2Ideal.τ).loc Cert.Ln2Ideal.main_v0_2)) (v3 : (c : Dev Cert.Ln2Ideal.nD) → Buf (Elt Ideal) ((c.tc : Thread Cert.Ln2Ideal.nD Cert.Ln2Ideal.τ).loc Cert.Ln2Ideal.main_v0_3)) (v4 : (c : Dev Cert.Ln2Ideal.nD) → Buf (Elt Ideal) ((c.tc : Thread Cert.Ln2Ideal.nD Cert.Ln2Ideal.τ).loc Cert.Ln2Ideal.main_v0_4)),
      θ_run (Cert.Ln2Ideal.defs (F := Ideal)) (onTc (τ := Cert.Ln2Ideal.τ) (Cert.Ln2Ideal.main (F := Ideal))) ⟨m, fun _ => 0, g⟩ (fun r => ∀ c : Dev Cert.Ln2Ideal.nD,
          r.2.mem ((c.tc : Thread Cert.Ln2Ideal.nD Cert.Ln2Ideal.τ).loc Cert.Ln2Ideal.main_v0_0) = v0 c
          ∧ r.2.mem ((c.tc : Thread Cert.Ln2Ideal.nD Cert.Ln2Ideal.τ).loc Cert.Ln2Ideal.main_v0_1) = v1 c
          ∧ r.2.mem ((c.tc : Thread Cert.Ln2Ideal.nD Cert.Ln2Ideal.τ).loc Cert.Ln2Ideal.main_v0_2) = v2 c
          ∧ r.2.mem ((c.tc : Thread Cert.Ln2Ideal.nD Cert.Ln2Ideal.τ).loc Cert.Ln2Ideal.main_v0_3) = v3 c
          ∧ r.2.mem ((c.tc : Thread Cert.Ln2Ideal.nD Cert.Ln2Ideal.τ).loc Cert.Ln2Ideal.main_v0_4) = v4 c
          ∧ r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
          ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
          ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
          ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
          ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4))
      ∧ θ_run (Cert.Ln2RefIdeal.defs (F := Ideal)) (onTc (τ := Cert.Ln2RefIdeal.τ) (Cert.Ln2RefIdeal.main (F := Ideal))) ⟨m', fun _ => 0, g'⟩ (fun r => ∀ c : Dev Cert.Ln2RefIdeal.nD,
          r.2.mem ((c.tc : Thread Cert.Ln2RefIdeal.nD Cert.Ln2RefIdeal.τ).loc Cert.Ln2RefIdeal.main_v49) = v0 c
          ∧ r.2.mem ((c.tc : Thread Cert.Ln2RefIdeal.nD Cert.Ln2RefIdeal.τ).loc Cert.Ln2RefIdeal.main_v50) = v1 c
          ∧ r.2.mem ((c.tc : Thread Cert.Ln2RefIdeal.nD Cert.Ln2RefIdeal.τ).loc Cert.Ln2RefIdeal.main_v51) = v2 c
          ∧ r.2.mem ((c.tc : Thread Cert.Ln2RefIdeal.nD Cert.Ln2RefIdeal.τ).loc Cert.Ln2RefIdeal.main_v54) = v3 c
          ∧ r.2.mem ((c.tc : Thread Cert.Ln2RefIdeal.nD Cert.Ln2RefIdeal.τ).loc Cert.Ln2RefIdeal.main_v56) = v4 c
          ∧ r.2.mem ((c.tc : Thread Cert.Ln2RefIdeal.nD Cert.Ln2RefIdeal.τ).loc Cert.Ln2RefIdeal.main_arg0) = m' ((c.tc : Thread Cert.Ln2RefIdeal.nD Cert.Ln2RefIdeal.τ).loc Cert.Ln2RefIdeal.main_arg0)
          ∧ r.2.mem ((c.tc : Thread Cert.Ln2RefIdeal.nD Cert.Ln2RefIdeal.τ).loc Cert.Ln2RefIdeal.main_arg1) = m' ((c.tc : Thread Cert.Ln2RefIdeal.nD Cert.Ln2RefIdeal.τ).loc Cert.Ln2RefIdeal.main_arg1)
          ∧ r.2.mem ((c.tc : Thread Cert.Ln2RefIdeal.nD Cert.Ln2RefIdeal.τ).loc Cert.Ln2RefIdeal.main_arg2) = m' ((c.tc : Thread Cert.Ln2RefIdeal.nD Cert.Ln2RefIdeal.τ).loc Cert.Ln2RefIdeal.main_arg2)
          ∧ r.2.mem ((c.tc : Thread Cert.Ln2RefIdeal.nD Cert.Ln2RefIdeal.τ).loc Cert.Ln2RefIdeal.main_arg3) = m' ((c.tc : Thread Cert.Ln2RefIdeal.nD Cert.Ln2RefIdeal.τ).loc Cert.Ln2RefIdeal.main_arg3)
          ∧ r.2.mem ((c.tc : Thread Cert.Ln2RefIdeal.nD Cert.Ln2RefIdeal.τ).loc Cert.Ln2RefIdeal.main_arg4) = m' ((c.tc : Thread Cert.Ln2RefIdeal.nD Cert.Ln2RefIdeal.τ).loc Cert.Ln2RefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v11) = v0 c
          ∧ r.2.mem ((c.tc : Thread Cert.MixRefIdeal.nD Cert.MixRefIdeal.τ).loc Cert.MixRefIdeal.main_v31) = v1 c
          ∧ r.2.mem ((c.tc : Thread Cert.MixRefIdeal.nD Cert.MixRefIdeal.τ).loc Cert.MixRefIdeal.main_v32) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v39) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def Claim : Prop :=
  ∃ (hKernel : Cert.Kernel.Facts) (hKernelIdeal : Cert.KernelIdeal.Facts) (hReferenceIdeal : Cert.ReferenceIdeal.Facts) (hReference : Cert.Reference.Facts) (hWeights : Cert.Weights.Facts) (hWeightsIdeal : Cert.WeightsIdeal.Facts) (hWeightsRefIdeal : Cert.WeightsRefIdeal.Facts) (hWeightsRef : Cert.WeightsRef.Facts) (hSmall : Cert.Small.Facts) (hSmallIdeal : Cert.SmallIdeal.Facts) (hSmallRefIdeal : Cert.SmallRefIdeal.Facts) (hSmallRef : Cert.SmallRef.Facts) (hDown : Cert.Down.Facts) (hDownIdeal : Cert.DownIdeal.Facts) (hDownRefIdeal : Cert.DownRefIdeal.Facts) (hUq : Cert.Uq.Facts) (hUqIdeal : Cert.UqIdeal.Facts) (hUqRefIdeal : Cert.UqRefIdeal.Facts) (hWo : Cert.Wo.Facts) (hWoIdeal : Cert.WoIdeal.Facts) (hWoRefIdeal : Cert.WoRefIdeal.Facts) (hWin : Cert.Win.Facts) (hWinIdeal : Cert.WinIdeal.Facts) (hWinRefIdeal : Cert.WinRefIdeal.Facts) (hWup : Cert.Wup.Facts) (hWupIdeal : Cert.WupIdeal.Facts) (hWupRefIdeal : Cert.WupRefIdeal.Facts) (hRep : Cert.Rep.Facts) (hRepIdeal : Cert.RepIdeal.Facts) (hRepRefIdeal : Cert.RepRefIdeal.Facts) (hConv : Cert.Conv.Facts) (hConvIdeal : Cert.ConvIdeal.Facts) (hConvRefIdeal : Cert.ConvRefIdeal.Facts) (hSumIn : Cert.SumIn.Facts) (hSumInIdeal : Cert.SumInIdeal.Facts) (hSumInRefIdeal : Cert.SumInRefIdeal.Facts) (hSumUp : Cert.SumUp.Facts) (hSumUpIdeal : Cert.SumUpIdeal.Facts) (hSumUpRefIdeal : Cert.SumUpRefIdeal.Facts) (hDx0 : Cert.Dx0.Facts) (hDx0Ideal : Cert.Dx0Ideal.Facts) (hDx0RefIdeal : Cert.Dx0RefIdeal.Facts) (hDwDown : Cert.DwDown.Facts) (hDwDownIdeal : Cert.DwDownIdeal.Facts) (hDwDownRefIdeal : Cert.DwDownRefIdeal.Facts) (hHidden : Cert.Hidden.Facts) (hHiddenIdeal : Cert.HiddenIdeal.Facts) (hHiddenRefIdeal : Cert.HiddenRefIdeal.Facts) (hUp : Cert.Up.Facts) (hUpIdeal : Cert.UpIdeal.Facts) (hUpRefIdeal : Cert.UpRefIdeal.Facts) (hFfn : Cert.Ffn.Facts) (hFfnIdeal : Cert.FfnIdeal.Facts) (hFfnRefIdeal : Cert.FfnRefIdeal.Facts) (hDAct : Cert.DAct.Facts) (hDActIdeal : Cert.DActIdeal.Facts) (hDActRefIdeal : Cert.DActRefIdeal.Facts) (hDoDil : Cert.DoDil.Facts) (hDoDilIdeal : Cert.DoDilIdeal.Facts) (hDoDilRefIdeal : Cert.DoDilRefIdeal.Facts) (hDoMla : Cert.DoMla.Facts) (hDoMlaIdeal : Cert.DoMlaIdeal.Facts) (hDoMlaRefIdeal : Cert.DoMlaRefIdeal.Facts) (hDx1 : Cert.Dx1.Facts) (hDx1Ideal : Cert.Dx1Ideal.Facts) (hDx1RefIdeal : Cert.Dx1RefIdeal.Facts) (hDwUp : Cert.DwUp.Facts) (hDwUpIdeal : Cert.DwUpIdeal.Facts) (hDwUpRefIdeal : Cert.DwUpRefIdeal.Facts) (hDwODil : Cert.DwODil.Facts) (hDwODilIdeal : Cert.DwODilIdeal.Facts) (hDwODilRefIdeal : Cert.DwODilRefIdeal.Facts) (hDwOMla : Cert.DwOMla.Facts) (hDwOMlaIdeal : Cert.DwOMlaIdeal.Facts) (hDwOMlaRefIdeal : Cert.DwOMlaRefIdeal.Facts) (hDwIn : Cert.DwIn.Facts) (hDwInIdeal : Cert.DwInIdeal.Facts) (hDwInRefIdeal : Cert.DwInRefIdeal.Facts) (hDh : Cert.Dh.Facts) (hDhIdeal : Cert.DhIdeal.Facts) (hDhRefIdeal : Cert.DhRefIdeal.Facts) (hLn1 : Cert.Ln1.Facts) (hLn1Ideal : Cert.Ln1Ideal.Facts) (hLn1RefIdeal : Cert.Ln1RefIdeal.Facts) (hLn2 : Cert.Ln2.Facts) (hLn2Ideal : Cert.Ln2Ideal.Facts) (hLn2RefIdeal : Cert.Ln2RefIdeal.Facts) (hMix : Cert.Mix.Facts) (hMixIdeal : Cert.MixIdeal.Facts) (hMixRefIdeal : Cert.MixRefIdeal.Facts) (hGate : Cert.Gate.Facts) (hGateIdeal : Cert.GateIdeal.Facts) (hGateRefIdeal : Cert.GateRefIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Weights (hWeights := hWeights)
    ∧ quiescent_WeightsIdeal (hWeightsIdeal := hWeightsIdeal)
    ∧ quiescent_WeightsRefIdeal (hWeightsRefIdeal := hWeightsRefIdeal)
    ∧ quiescent_WeightsRef (hWeightsRef := hWeightsRef)
    ∧ quiescent_Small (hSmall := hSmall)
    ∧ quiescent_SmallIdeal (hSmallIdeal := hSmallIdeal)
    ∧ quiescent_SmallRefIdeal (hSmallRefIdeal := hSmallRefIdeal)
    ∧ quiescent_SmallRef (hSmallRef := hSmallRef)
    ∧ quiescent_Down (hDown := hDown)
    ∧ quiescent_DownIdeal (hDownIdeal := hDownIdeal)
    ∧ quiescent_DownRefIdeal (hDownRefIdeal := hDownRefIdeal)
    ∧ quiescent_Uq (hUq := hUq)
    ∧ quiescent_UqIdeal (hUqIdeal := hUqIdeal)
    ∧ quiescent_UqRefIdeal (hUqRefIdeal := hUqRefIdeal)
    ∧ quiescent_Wo (hWo := hWo)
    ∧ quiescent_WoIdeal (hWoIdeal := hWoIdeal)
    ∧ quiescent_WoRefIdeal (hWoRefIdeal := hWoRefIdeal)
    ∧ quiescent_Win (hWin := hWin)
    ∧ quiescent_WinIdeal (hWinIdeal := hWinIdeal)
    ∧ quiescent_WinRefIdeal (hWinRefIdeal := hWinRefIdeal)
    ∧ quiescent_Wup (hWup := hWup)
    ∧ quiescent_WupIdeal (hWupIdeal := hWupIdeal)
    ∧ quiescent_WupRefIdeal (hWupRefIdeal := hWupRefIdeal)
    ∧ quiescent_Rep (hRep := hRep)
    ∧ quiescent_RepIdeal (hRepIdeal := hRepIdeal)
    ∧ quiescent_RepRefIdeal (hRepRefIdeal := hRepRefIdeal)
    ∧ quiescent_Conv (hConv := hConv)
    ∧ quiescent_ConvIdeal (hConvIdeal := hConvIdeal)
    ∧ quiescent_ConvRefIdeal (hConvRefIdeal := hConvRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_Dx0 (hDx0 := hDx0)
    ∧ quiescent_Dx0Ideal (hDx0Ideal := hDx0Ideal)
    ∧ quiescent_Dx0RefIdeal (hDx0RefIdeal := hDx0RefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_Hidden (hHidden := hHidden)
    ∧ quiescent_HiddenIdeal (hHiddenIdeal := hHiddenIdeal)
    ∧ quiescent_HiddenRefIdeal (hHiddenRefIdeal := hHiddenRefIdeal)
    ∧ quiescent_Up (hUp := hUp)
    ∧ quiescent_UpIdeal (hUpIdeal := hUpIdeal)
    ∧ quiescent_UpRefIdeal (hUpRefIdeal := hUpRefIdeal)
    ∧ quiescent_Ffn (hFfn := hFfn)
    ∧ quiescent_FfnIdeal (hFfnIdeal := hFfnIdeal)
    ∧ quiescent_FfnRefIdeal (hFfnRefIdeal := hFfnRefIdeal)
    ∧ quiescent_DAct (hDAct := hDAct)
    ∧ quiescent_DActIdeal (hDActIdeal := hDActIdeal)
    ∧ quiescent_DActRefIdeal (hDActRefIdeal := hDActRefIdeal)
    ∧ quiescent_DoDil (hDoDil := hDoDil)
    ∧ quiescent_DoDilIdeal (hDoDilIdeal := hDoDilIdeal)
    ∧ quiescent_DoDilRefIdeal (hDoDilRefIdeal := hDoDilRefIdeal)
    ∧ quiescent_DoMla (hDoMla := hDoMla)
    ∧ quiescent_DoMlaIdeal (hDoMlaIdeal := hDoMlaIdeal)
    ∧ quiescent_DoMlaRefIdeal (hDoMlaRefIdeal := hDoMlaRefIdeal)
    ∧ quiescent_Dx1 (hDx1 := hDx1)
    ∧ quiescent_Dx1Ideal (hDx1Ideal := hDx1Ideal)
    ∧ quiescent_Dx1RefIdeal (hDx1RefIdeal := hDx1RefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwODil (hDwODil := hDwODil)
    ∧ quiescent_DwODilIdeal (hDwODilIdeal := hDwODilIdeal)
    ∧ quiescent_DwODilRefIdeal (hDwODilRefIdeal := hDwODilRefIdeal)
    ∧ quiescent_DwOMla (hDwOMla := hDwOMla)
    ∧ quiescent_DwOMlaIdeal (hDwOMlaIdeal := hDwOMlaIdeal)
    ∧ quiescent_DwOMlaRefIdeal (hDwOMlaRefIdeal := hDwOMlaRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Dh (hDh := hDh)
    ∧ quiescent_DhIdeal (hDhIdeal := hDhIdeal)
    ∧ quiescent_DhRefIdeal (hDhRefIdeal := hDhRefIdeal)
    ∧ quiescent_Ln1 (hLn1 := hLn1)
    ∧ quiescent_Ln1Ideal (hLn1Ideal := hLn1Ideal)
    ∧ quiescent_Ln1RefIdeal (hLn1RefIdeal := hLn1RefIdeal)
    ∧ quiescent_Ln2 (hLn2 := hLn2)
    ∧ quiescent_Ln2Ideal (hLn2Ideal := hLn2Ideal)
    ∧ quiescent_Ln2RefIdeal (hLn2RefIdeal := hLn2RefIdeal)
    ∧ quiescent_Mix (hMix := hMix)
    ∧ quiescent_MixIdeal (hMixIdeal := hMixIdeal)
    ∧ quiescent_MixRefIdeal (hMixRefIdeal := hMixRefIdeal)
    ∧ quiescent_Gate (hGate := hGate)
    ∧ quiescent_GateIdeal (hGateIdeal := hGateIdeal)
    ∧ quiescent_GateRefIdeal (hGateRefIdeal := hGateRefIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
    ∧ preserves_Weights_WeightsIdeal
    ∧ bitexact_Weights_WeightsRef (hWeights := hWeights) (hWeightsRef := hWeightsRef)
    ∧ algebraic_WeightsIdeal_WeightsRefIdeal (hWeightsIdeal := hWeightsIdeal) (hWeightsRefIdeal := hWeightsRefIdeal)
    ∧ preserves_Small_SmallIdeal
    ∧ bitexact_Small_SmallRef (hSmall := hSmall) (hSmallRef := hSmallRef)
    ∧ algebraic_SmallIdeal_SmallRefIdeal (hSmallIdeal := hSmallIdeal) (hSmallRefIdeal := hSmallRefIdeal)
    ∧ preserves_Down_DownIdeal
    ∧ algebraic_DownIdeal_DownRefIdeal (hDownIdeal := hDownIdeal) (hDownRefIdeal := hDownRefIdeal)
    ∧ preserves_Uq_UqIdeal
    ∧ algebraic_UqIdeal_UqRefIdeal (hUqIdeal := hUqIdeal) (hUqRefIdeal := hUqRefIdeal)
    ∧ preserves_Wo_WoIdeal
    ∧ algebraic_WoIdeal_WoRefIdeal (hWoIdeal := hWoIdeal) (hWoRefIdeal := hWoRefIdeal)
    ∧ preserves_Win_WinIdeal
    ∧ algebraic_WinIdeal_WinRefIdeal (hWinIdeal := hWinIdeal) (hWinRefIdeal := hWinRefIdeal)
    ∧ preserves_Wup_WupIdeal
    ∧ algebraic_WupIdeal_WupRefIdeal (hWupIdeal := hWupIdeal) (hWupRefIdeal := hWupRefIdeal)
    ∧ preserves_Rep_RepIdeal
    ∧ algebraic_RepIdeal_RepRefIdeal (hRepIdeal := hRepIdeal) (hRepRefIdeal := hRepRefIdeal)
    ∧ preserves_Conv_ConvIdeal
    ∧ algebraic_ConvIdeal_ConvRefIdeal (hConvIdeal := hConvIdeal) (hConvRefIdeal := hConvRefIdeal)
    ∧ preserves_SumIn_SumInIdeal
    ∧ algebraic_SumInIdeal_SumInRefIdeal (hSumInIdeal := hSumInIdeal) (hSumInRefIdeal := hSumInRefIdeal)
    ∧ preserves_SumUp_SumUpIdeal
    ∧ algebraic_SumUpIdeal_SumUpRefIdeal (hSumUpIdeal := hSumUpIdeal) (hSumUpRefIdeal := hSumUpRefIdeal)
    ∧ preserves_Dx0_Dx0Ideal
    ∧ algebraic_Dx0Ideal_Dx0RefIdeal (hDx0Ideal := hDx0Ideal) (hDx0RefIdeal := hDx0RefIdeal)
    ∧ preserves_DwDown_DwDownIdeal
    ∧ algebraic_DwDownIdeal_DwDownRefIdeal (hDwDownIdeal := hDwDownIdeal) (hDwDownRefIdeal := hDwDownRefIdeal)
    ∧ preserves_Hidden_HiddenIdeal
    ∧ algebraic_HiddenIdeal_HiddenRefIdeal (hHiddenIdeal := hHiddenIdeal) (hHiddenRefIdeal := hHiddenRefIdeal)
    ∧ preserves_Up_UpIdeal
    ∧ algebraic_UpIdeal_UpRefIdeal (hUpIdeal := hUpIdeal) (hUpRefIdeal := hUpRefIdeal)
    ∧ preserves_Ffn_FfnIdeal
    ∧ algebraic_FfnIdeal_FfnRefIdeal (hFfnIdeal := hFfnIdeal) (hFfnRefIdeal := hFfnRefIdeal)
    ∧ preserves_DAct_DActIdeal
    ∧ algebraic_DActIdeal_DActRefIdeal (hDActIdeal := hDActIdeal) (hDActRefIdeal := hDActRefIdeal)
    ∧ preserves_DoDil_DoDilIdeal
    ∧ algebraic_DoDilIdeal_DoDilRefIdeal (hDoDilIdeal := hDoDilIdeal) (hDoDilRefIdeal := hDoDilRefIdeal)
    ∧ preserves_DoMla_DoMlaIdeal
    ∧ algebraic_DoMlaIdeal_DoMlaRefIdeal (hDoMlaIdeal := hDoMlaIdeal) (hDoMlaRefIdeal := hDoMlaRefIdeal)
    ∧ preserves_Dx1_Dx1Ideal
    ∧ algebraic_Dx1Ideal_Dx1RefIdeal (hDx1Ideal := hDx1Ideal) (hDx1RefIdeal := hDx1RefIdeal)
    ∧ preserves_DwUp_DwUpIdeal
    ∧ algebraic_DwUpIdeal_DwUpRefIdeal (hDwUpIdeal := hDwUpIdeal) (hDwUpRefIdeal := hDwUpRefIdeal)
    ∧ preserves_DwODil_DwODilIdeal
    ∧ algebraic_DwODilIdeal_DwODilRefIdeal (hDwODilIdeal := hDwODilIdeal) (hDwODilRefIdeal := hDwODilRefIdeal)
    ∧ preserves_DwOMla_DwOMlaIdeal
    ∧ algebraic_DwOMlaIdeal_DwOMlaRefIdeal (hDwOMlaIdeal := hDwOMlaIdeal) (hDwOMlaRefIdeal := hDwOMlaRefIdeal)
    ∧ preserves_DwIn_DwInIdeal
    ∧ algebraic_DwInIdeal_DwInRefIdeal (hDwInIdeal := hDwInIdeal) (hDwInRefIdeal := hDwInRefIdeal)
    ∧ preserves_Dh_DhIdeal
    ∧ algebraic_DhIdeal_DhRefIdeal (hDhIdeal := hDhIdeal) (hDhRefIdeal := hDhRefIdeal)
    ∧ preserves_Ln1_Ln1Ideal
    ∧ algebraic_Ln1Ideal_Ln1RefIdeal (hLn1Ideal := hLn1Ideal) (hLn1RefIdeal := hLn1RefIdeal)
    ∧ preserves_Ln2_Ln2Ideal
    ∧ algebraic_Ln2Ideal_Ln2RefIdeal (hLn2Ideal := hLn2Ideal) (hLn2RefIdeal := hLn2RefIdeal)
    ∧ preserves_Mix_MixIdeal
    ∧ algebraic_MixIdeal_MixRefIdeal (hMixIdeal := hMixIdeal) (hMixRefIdeal := hMixRefIdeal)
    ∧ preserves_Gate_GateIdeal
    ∧ algebraic_GateIdeal_GateRefIdeal (hGateIdeal := hGateIdeal) (hGateRefIdeal := hGateRefIdeal)
-- ==== Kernel.lean ====
abbrev S8x256x1024 : Shape := ⟨3, ![8, 256, 1024]⟩
abbrev S8x32x768 : Shape := ⟨3, ![8, 32, 768]⟩
abbrev S8x128x1024 : Shape := ⟨3, ![8, 128, 1024]⟩
abbrev S8x704x1024 : Shape := ⟨3, ![8, 704, 1024]⟩
abbrev S8x352x1024 : Shape := ⟨3, ![8, 352, 1024]⟩
abbrev S35 : Shape := ⟨1, ![35]⟩
abbrev S5 : Shape := ⟨1, ![5]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x32x768 : Shape := ⟨3, ![1, 32, 768]⟩
abbrev S32x768 : Shape := ⟨2, ![32, 768]⟩
abbrev S1x128x1024 : Shape := ⟨3, ![1, 128, 1024]⟩
abbrev S128x1024 : Shape := ⟨2, ![128, 1024]⟩
abbrev S1x704x1024 : Shape := ⟨3, ![1, 704, 1024]⟩
abbrev S704x1024 : Shape := ⟨2, ![704, 1024]⟩
abbrev S1x352x1024 : Shape := ⟨3, ![1, 352, 1024]⟩
abbrev S352x1024 : Shape := ⟨2, ![352, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x32x768, .bf16⟩
  | .hbm, ⟨2, _⟩ => ⟨S8x128x1024, .bf16⟩
  | .hbm, ⟨3, _⟩ => ⟨S8x704x1024, .bf16⟩
  | .hbm, ⟨4, _⟩ => ⟨S8x352x1024, .bf16⟩
  | .hbm, ⟨5, _⟩ => ⟨S8x256x1024, .bf16⟩
  | .hbm, ⟨6, _⟩ => ⟨S8x32x768, .bf16⟩
  | .hbm, ⟨7, _⟩ => ⟨S8x128x1024, .bf16⟩
  | .hbm, ⟨8, _⟩ => ⟨S8x704x1024, .bf16⟩
  | .hbm, ⟨9, _⟩ => ⟨S8x352x1024, .bf16⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_15 : BitVec 32 := 0#32
  let c0_i32_16 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_19 : BitVec 32 := 0#32
  let c0_i32_20 : BitVec 32 := 0#32
  ![v12.toNat, 0, 0]
def k0_off5 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_24 : BitVec 32 := 0#32
  let c0_i32_25 : BitVec 32 := 0#32
  ![v12.toNat, 0, 0]
def k0_off6 (d0 : Dev nD) (c0_i32_28 : BitVec 32) (c0_i32_29 : BitVec 32) (c1_i32_30 : BitVec 32) : Fin 3 → Nat :=
  let c4_i32_31 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v43 : BitVec 32 := Scalar.xori v2 c0_i32_28
  let v46 : BitVec 32 := Scalar.muli c4_i32_31 v43
  let c2_i32_32 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v44 : BitVec 32 := Scalar.xori v5 c0_i32_29
  let v47 : BitVec 32 := Scalar.muli c2_i32_32 v44
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.xori v8 c1_i32_30
  let v49 : BitVec 32 := Scalar.addi v48 v45
  let c0_i32_211 : BitVec 32 := 0#32
  let c0_i32_212 : BitVec 32 := 0#32
  ![v49.toNat, 0, 0]
def k0_off6_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_28 : BitVec 32 := 0#32
  let v43 : BitVec 32 := Scalar.xori v2 c0_i32_28
  let c4_i32_205 : BitVec 32 := 4#32
  let v288 : BitVec 32 := Scalar.muli v43 c4_i32_205
  let v289 : BitVec 32 := Scalar.addi c0_i32_206 v288
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_29 : BitVec 32 := 0#32
  let v44 : BitVec 32 := Scalar.xori v5 c0_i32_29
  let c2_i32_207 : BitVec 32 := 2#32
  let v290 : BitVec 32 := Scalar.muli v44 c2_i32_207
  let v291 : BitVec 32 := Scalar.addi v289 v290
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v45 : BitVec 32 := Scalar.xori v8 c1_i32_30
  let c1_i32_208 : BitVec 32 := 1#32
  let v292 : BitVec 32 := Scalar.muli v45 c1_i32_208
  let v293 : BitVec 32 := Scalar.addi v291 v292
  v293.toNat
def k0_dev2 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_33 : BitVec 32 := 0#32
  let v50 : BitVec 32 := Scalar.xori v2 c0_i32_33
  let c4_i32_215 : BitVec 32 := 4#32
  let v302 : BitVec 32 := Scalar.muli v50 c4_i32_215
  let v303 : BitVec 32 := Scalar.addi c0_i32_216 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v51 : BitVec 32 := Scalar.xori v5 c1_i32_34
  let c2_i32_217 : BitVec 32 := 2#32
  let v304 : BitVec 32 := Scalar.muli v51 c2_i32_217
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_35 : BitVec 32 := 0#32
  let v52 : BitVec 32 := Scalar.xori v8 c0_i32_35
  let c1_i32_218 : BitVec 32 := 1#32
  let v306 : BitVec 32 := Scalar.muli v52 c1_i32_218
  let v307 : BitVec 32 := Scalar.addi v305 v306
  v307.toNat
def k0_dev3 (d0 : Dev nD) : Nat :=
  let c0_i32_226 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_38 : BitVec 32 := 0#32
  let v57 : BitVec 32 := Scalar.xori v2 c0_i32_38
  let c4_i32_225 : BitVec 32 := 4#32
  let v316 : BitVec 32 := Scalar.muli v57 c4_i32_225
  let v317 : BitVec 32 := Scalar.addi c0_i32_226 v316
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_39 : BitVec 32 := 1#32
  let v58 : BitVec 32 := Scalar.xori v5 c1_i32_39
  let c2_i32_227 : BitVec 32 := 2#32
  let v318 : BitVec 32 := Scalar.muli v58 c2_i32_227
  let v319 : BitVec 32 := Scalar.addi v317 v318
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v59 : BitVec 32 := Scalar.xori v8 c1_i32_40
  let c1_i32_228 : BitVec 32 := 1#32
  let v320 : BitVec 32 := Scalar.muli v59 c1_i32_228
  let v321 : BitVec 32 := Scalar.addi v319 v320
  v321.toNat
def k0_dev4 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_43 : BitVec 32 := 1#32
  let v64 : BitVec 32 := Scalar.xori v2 c1_i32_43
  let c4_i32_235 : BitVec 32 := 4#32
  let v330 : BitVec 32 := Scalar.muli v64 c4_i32_235
  let v331 : BitVec 32 := Scalar.addi c0_i32_236 v330
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_44 : BitVec 32 := 0#32
  let v65 : BitVec 32 := Scalar.xori v5 c0_i32_44
  let c2_i32_237 : BitVec 32 := 2#32
  let v332 : BitVec 32 := Scalar.muli v65 c2_i32_237
  let v333 : BitVec 32 := Scalar.addi v331 v332
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_45 : BitVec 32 := 0#32
  let v66 : BitVec 32 := Scalar.xori v8 c0_i32_45
  let c1_i32_238 : BitVec 32 := 1#32
  let v334 : BitVec 32 := Scalar.muli v66 c1_i32_238
  let v335 : BitVec 32 := Scalar.addi v333 v334
  v335.toNat
def k0_dev5 (d0 : Dev nD) : Nat :=
  let c0_i32_246 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_48 : BitVec 32 := 1#32
  let v71 : BitVec 32 := Scalar.xori v2 c1_i32_48
  let c4_i32_245 : BitVec 32 := 4#32
  let v344 : BitVec 32 := Scalar.muli v71 c4_i32_245
  let v345 : BitVec 32 := Scalar.addi c0_i32_246 v344
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_49 : BitVec 32 := 0#32
  let v72 : BitVec 32 := Scalar.xori v5 c0_i32_49
  let c2_i32_247 : BitVec 32 := 2#32
  let v346 : BitVec 32 := Scalar.muli v72 c2_i32_247
  let v347 : BitVec 32 := Scalar.addi v345 v346
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v73 : BitVec 32 := Scalar.xori v8 c1_i32_50
  let c1_i32_248 : BitVec 32 := 1#32
  let v348 : BitVec 32 := Scalar.muli v73 c1_i32_248
  let v349 : BitVec 32 := Scalar.addi v347 v348
  v349.toNat
def k0_dev6 (d0 : Dev nD) : Nat :=
  let c0_i32_255 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_53 : BitVec 32 := 1#32
  let v78 : BitVec 32 := Scalar.xori v2 c1_i32_53
  let c4_i32_254 : BitVec 32 := 4#32
  let v358 : BitVec 32 := Scalar.muli v78 c4_i32_254
  let v359 : BitVec 32 := Scalar.addi c0_i32_255 v358
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_54 : BitVec 32 := 1#32
  let v79 : BitVec 32 := Scalar.xori v5 c1_i32_54
  let c2_i32_256 : BitVec 32 := 2#32
  let v360 : BitVec 32 := Scalar.muli v79 c2_i32_256
  let v361 : BitVec 32 := Scalar.addi v359 v360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_55 : BitVec 32 := 0#32
  let v80 : BitVec 32 := Scalar.xori v8 c0_i32_55
  let c1_i32_257 : BitVec 32 := 1#32
  let v362 : BitVec 32 := Scalar.muli v80 c1_i32_257
  let v363 : BitVec 32 := Scalar.addi v361 v362
  v363.toNat
def k0_dev7 (d0 : Dev nD) : Nat :=
  let c0_i32_264 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_58 : BitVec 32 := 1#32
  let v85 : BitVec 32 := Scalar.xori v2 c1_i32_58
  let c4_i32_263 : BitVec 32 := 4#32
  let v372 : BitVec 32 := Scalar.muli v85 c4_i32_263
  let v373 : BitVec 32 := Scalar.addi c0_i32_264 v372
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_59 : BitVec 32 := 1#32
  let v86 : BitVec 32 := Scalar.xori v5 c1_i32_59
  let c2_i32_265 : BitVec 32 := 2#32
  let v374 : BitVec 32 := Scalar.muli v86 c2_i32_265
  let v375 : BitVec 32 := Scalar.addi v373 v374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v87 : BitVec 32 := Scalar.xori v8 c1_i32_60
  let c1_i32_266 : BitVec 32 := 1#32
  let v376 : BitVec 32 := Scalar.muli v87 c1_i32_266
  let v377 : BitVec 32 := Scalar.addi v375 v376
  v377.toNat
def k0_off7 (d0 : Dev nD) (c0_i32_63 : BitVec 32) (c0_i32_64 : BitVec 32) (c1_i32_65 : BitVec 32) : Fin 3 → Nat :=
  let c4_i32_66 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v92 : BitVec 32 := Scalar.xori v2 c0_i32_63
  let v95 : BitVec 32 := Scalar.muli c4_i32_66 v92
  let c2_i32_67 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v93 : BitVec 32 := Scalar.xori v5 c0_i32_64
  let v96 : BitVec 32 := Scalar.muli c2_i32_67 v93
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v94 : BitVec 32 := Scalar.xori v8 c1_i32_65
  let v98 : BitVec 32 := Scalar.addi v97 v94
  let c0_i32_278 : BitVec 32 := 0#32
  let c0_i32_279 : BitVec 32 := 0#32
  ![v98.toNat, 0, 0]
def k0_off7_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev8 (d0 : Dev nD) : Nat :=
  let c0_i32_273 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_63 : BitVec 32 := 0#32
  let v92 : BitVec 32 := Scalar.xori v2 c0_i32_63
  let c4_i32_272 : BitVec 32 := 4#32
  let v386 : BitVec 32 := Scalar.muli v92 c4_i32_272
  let v387 : BitVec 32 := Scalar.addi c0_i32_273 v386
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_64 : BitVec 32 := 0#32
  let v93 : BitVec 32 := Scalar.xori v5 c0_i32_64
  let c2_i32_274 : BitVec 32 := 2#32
  let v388 : BitVec 32 := Scalar.muli v93 c2_i32_274
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v94 : BitVec 32 := Scalar.xori v8 c1_i32_65
  let c1_i32_275 : BitVec 32 := 1#32
  let v390 : BitVec 32 := Scalar.muli v94 c1_i32_275
  let v391 : BitVec 32 := Scalar.addi v389 v390
  v391.toNat
def k0_dev9 (d0 : Dev nD) : Nat :=
  let c0_i32_282 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_68 : BitVec 32 := 0#32
  let v99 : BitVec 32 := Scalar.xori v2 c0_i32_68
  let c4_i32_281 : BitVec 32 := 4#32
  let v400 : BitVec 32 := Scalar.muli v99 c4_i32_281
  let v401 : BitVec 32 := Scalar.addi c0_i32_282 v400
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_69 : BitVec 32 := 1#32
  let v100 : BitVec 32 := Scalar.xori v5 c1_i32_69
  let c2_i32_283 : BitVec 32 := 2#32
  let v402 : BitVec 32 := Scalar.muli v100 c2_i32_283
  let v403 : BitVec 32 := Scalar.addi v401 v402
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_70 : BitVec 32 := 0#32
  let v101 : BitVec 32 := Scalar.xori v8 c0_i32_70
  let c1_i32_284 : BitVec 32 := 1#32
  let v404 : BitVec 32 := Scalar.muli v101 c1_i32_284
  let v405 : BitVec 32 := Scalar.addi v403 v404
  v405.toNat
def k0_dev10 (d0 : Dev nD) : Nat :=
  let c0_i32_291 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_73 : BitVec 32 := 0#32
  let v106 : BitVec 32 := Scalar.xori v2 c0_i32_73
  let c4_i32_290 : BitVec 32 := 4#32
  let v414 : BitVec 32 := Scalar.muli v106 c4_i32_290
  let v415 : BitVec 32 := Scalar.addi c0_i32_291 v414
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_74 : BitVec 32 := 1#32
  let v107 : BitVec 32 := Scalar.xori v5 c1_i32_74
  let c2_i32_292 : BitVec 32 := 2#32
  let v416 : BitVec 32 := Scalar.muli v107 c2_i32_292
  let v417 : BitVec 32 := Scalar.addi v415 v416
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v108 : BitVec 32 := Scalar.xori v8 c1_i32_75
  let c1_i32_293 : BitVec 32 := 1#32
  let v418 : BitVec 32 := Scalar.muli v108 c1_i32_293
  let v419 : BitVec 32 := Scalar.addi v417 v418
  v419.toNat
def k0_dev11 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_78 : BitVec 32 := 1#32
  let v113 : BitVec 32 := Scalar.xori v2 c1_i32_78
  let c4_i32_299 : BitVec 32 := 4#32
  let v428 : BitVec 32 := Scalar.muli v113 c4_i32_299
  let v429 : BitVec 32 := Scalar.addi c0_i32_300 v428
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_79 : BitVec 32 := 0#32
  let v114 : BitVec 32 := Scalar.xori v5 c0_i32_79
  let c2_i32_301 : BitVec 32 := 2#32
  let v430 : BitVec 32 := Scalar.muli v114 c2_i32_301
  let v431 : BitVec 32 := Scalar.addi v429 v430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_80 : BitVec 32 := 0#32
  let v115 : BitVec 32 := Scalar.xori v8 c0_i32_80
  let c1_i32_302 : BitVec 32 := 1#32
  let v432 : BitVec 32 := Scalar.muli v115 c1_i32_302
  let v433 : BitVec 32 := Scalar.addi v431 v432
  v433.toNat
def k0_dev12 (d0 : Dev nD) : Nat :=
  let c0_i32_309 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_83 : BitVec 32 := 1#32
  let v120 : BitVec 32 := Scalar.xori v2 c1_i32_83
  let c4_i32_308 : BitVec 32 := 4#32
  let v442 : BitVec 32 := Scalar.muli v120 c4_i32_308
  let v443 : BitVec 32 := Scalar.addi c0_i32_309 v442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_84 : BitVec 32 := 0#32
  let v121 : BitVec 32 := Scalar.xori v5 c0_i32_84
  let c2_i32_310 : BitVec 32 := 2#32
  let v444 : BitVec 32 := Scalar.muli v121 c2_i32_310
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v122 : BitVec 32 := Scalar.xori v8 c1_i32_85
  let c1_i32_311 : BitVec 32 := 1#32
  let v446 : BitVec 32 := Scalar.muli v122 c1_i32_311
  let v447 : BitVec 32 := Scalar.addi v445 v446
  v447.toNat
def k0_dev13 (d0 : Dev nD) : Nat :=
  let c0_i32_318 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_88 : BitVec 32 := 1#32
  let v127 : BitVec 32 := Scalar.xori v2 c1_i32_88
  let c4_i32_317 : BitVec 32 := 4#32
  let v456 : BitVec 32 := Scalar.muli v127 c4_i32_317
  let v457 : BitVec 32 := Scalar.addi c0_i32_318 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_89 : BitVec 32 := 1#32
  let v128 : BitVec 32 := Scalar.xori v5 c1_i32_89
  let c2_i32_319 : BitVec 32 := 2#32
  let v458 : BitVec 32 := Scalar.muli v128 c2_i32_319
  let v459 : BitVec 32 := Scalar.addi v457 v458
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_90 : BitVec 32 := 0#32
  let v129 : BitVec 32 := Scalar.xori v8 c0_i32_90
  let c1_i32_320 : BitVec 32 := 1#32
  let v460 : BitVec 32 := Scalar.muli v129 c1_i32_320
  let v461 : BitVec 32 := Scalar.addi v459 v460
  v461.toNat
def k0_dev14 (d0 : Dev nD) : Nat :=
  let c0_i32_327 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_93 : BitVec 32 := 1#32
  let v134 : BitVec 32 := Scalar.xori v2 c1_i32_93
  let c4_i32_326 : BitVec 32 := 4#32
  let v470 : BitVec 32 := Scalar.muli v134 c4_i32_326
  let v471 : BitVec 32 := Scalar.addi c0_i32_327 v470
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_94 : BitVec 32 := 1#32
  let v135 : BitVec 32 := Scalar.xori v5 c1_i32_94
  let c2_i32_328 : BitVec 32 := 2#32
  let v472 : BitVec 32 := Scalar.muli v135 c2_i32_328
  let v473 : BitVec 32 := Scalar.addi v471 v472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_95 : BitVec 32 := 1#32
  let v136 : BitVec 32 := Scalar.xori v8 c1_i32_95
  let c1_i32_329 : BitVec 32 := 1#32
  let v474 : BitVec 32 := Scalar.muli v136 c1_i32_329
  let v475 : BitVec 32 := Scalar.addi v473 v474
  v475.toNat
def k0_off8 (d0 : Dev nD) (c0_i32_98 : BitVec 32) (c0_i32_99 : BitVec 32) (c1_i32_100 : BitVec 32) : Fin 3 → Nat :=
  let c4_i32_101 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v141 : BitVec 32 := Scalar.xori v2 c0_i32_98
  let v144 : BitVec 32 := Scalar.muli c4_i32_101 v141
  let c2_i32_102 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.xori v5 c0_i32_99
  let v145 : BitVec 32 := Scalar.muli c2_i32_102 v142
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v143 : BitVec 32 := Scalar.xori v8 c1_i32_100
  let v147 : BitVec 32 := Scalar.addi v146 v143
  let c0_i32_341 : BitVec 32 := 0#32
  let c0_i32_342 : BitVec 32 := 0#32
  ![v147.toNat, 0, 0]
def k0_off8_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev15 (d0 : Dev nD) : Nat :=
  let c0_i32_336 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_98 : BitVec 32 := 0#32
  let v141 : BitVec 32 := Scalar.xori v2 c0_i32_98
  let c4_i32_335 : BitVec 32 := 4#32
  let v484 : BitVec 32 := Scalar.muli v141 c4_i32_335
  let v485 : BitVec 32 := Scalar.addi c0_i32_336 v484
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_99 : BitVec 32 := 0#32
  let v142 : BitVec 32 := Scalar.xori v5 c0_i32_99
  let c2_i32_337 : BitVec 32 := 2#32
  let v486 : BitVec 32 := Scalar.muli v142 c2_i32_337
  let v487 : BitVec 32 := Scalar.addi v485 v486
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v143 : BitVec 32 := Scalar.xori v8 c1_i32_100
  let c1_i32_338 : BitVec 32 := 1#32
  let v488 : BitVec 32 := Scalar.muli v143 c1_i32_338
  let v489 : BitVec 32 := Scalar.addi v487 v488
  v489.toNat
def k0_dev16 (d0 : Dev nD) : Nat :=
  let c0_i32_345 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_103 : BitVec 32 := 0#32
  let v148 : BitVec 32 := Scalar.xori v2 c0_i32_103
  let c4_i32_344 : BitVec 32 := 4#32
  let v498 : BitVec 32 := Scalar.muli v148 c4_i32_344
  let v499 : BitVec 32 := Scalar.addi c0_i32_345 v498
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_104 : BitVec 32 := 1#32
  let v149 : BitVec 32 := Scalar.xori v5 c1_i32_104
  let c2_i32_346 : BitVec 32 := 2#32
  let v500 : BitVec 32 := Scalar.muli v149 c2_i32_346
  let v501 : BitVec 32 := Scalar.addi v499 v500
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_105 : BitVec 32 := 0#32
  let v150 : BitVec 32 := Scalar.xori v8 c0_i32_105
  let c1_i32_347 : BitVec 32 := 1#32
  let v502 : BitVec 32 := Scalar.muli v150 c1_i32_347
  let v503 : BitVec 32 := Scalar.addi v501 v502
  v503.toNat
def k0_dev17 (d0 : Dev nD) : Nat :=
  let c0_i32_354 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_108 : BitVec 32 := 0#32
  let v155 : BitVec 32 := Scalar.xori v2 c0_i32_108
  let c4_i32_353 : BitVec 32 := 4#32
  let v512 : BitVec 32 := Scalar.muli v155 c4_i32_353
  let v513 : BitVec 32 := Scalar.addi c0_i32_354 v512
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_109 : BitVec 32 := 1#32
  let v156 : BitVec 32 := Scalar.xori v5 c1_i32_109
  let c2_i32_355 : BitVec 32 := 2#32
  let v514 : BitVec 32 := Scalar.muli v156 c2_i32_355
  let v515 : BitVec 32 := Scalar.addi v513 v514
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v157 : BitVec 32 := Scalar.xori v8 c1_i32_110
  let c1_i32_356 : BitVec 32 := 1#32
  let v516 : BitVec 32 := Scalar.muli v157 c1_i32_356
  let v517 : BitVec 32 := Scalar.addi v515 v516
  v517.toNat
def k0_dev18 (d0 : Dev nD) : Nat :=
  let c0_i32_363 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_113 : BitVec 32 := 1#32
  let v162 : BitVec 32 := Scalar.xori v2 c1_i32_113
  let c4_i32_362 : BitVec 32 := 4#32
  let v526 : BitVec 32 := Scalar.muli v162 c4_i32_362
  let v527 : BitVec 32 := Scalar.addi c0_i32_363 v526
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_114 : BitVec 32 := 0#32
  let v163 : BitVec 32 := Scalar.xori v5 c0_i32_114
  let c2_i32_364 : BitVec 32 := 2#32
  let v528 : BitVec 32 := Scalar.muli v163 c2_i32_364
  let v529 : BitVec 32 := Scalar.addi v527 v528
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_115 : BitVec 32 := 0#32
  let v164 : BitVec 32 := Scalar.xori v8 c0_i32_115
  let c1_i32_365 : BitVec 32 := 1#32
  let v530 : BitVec 32 := Scalar.muli v164 c1_i32_365
  let v531 : BitVec 32 := Scalar.addi v529 v530
  v531.toNat
def k0_dev19 (d0 : Dev nD) : Nat :=
  let c0_i32_372 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_118 : BitVec 32 := 1#32
  let v169 : BitVec 32 := Scalar.xori v2 c1_i32_118
  let c4_i32_371 : BitVec 32 := 4#32
  let v540 : BitVec 32 := Scalar.muli v169 c4_i32_371
  let v541 : BitVec 32 := Scalar.addi c0_i32_372 v540
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_119 : BitVec 32 := 0#32
  let v170 : BitVec 32 := Scalar.xori v5 c0_i32_119
  let c2_i32_373 : BitVec 32 := 2#32
  let v542 : BitVec 32 := Scalar.muli v170 c2_i32_373
  let v543 : BitVec 32 := Scalar.addi v541 v542
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v171 : BitVec 32 := Scalar.xori v8 c1_i32_120
  let c1_i32_374 : BitVec 32 := 1#32
  let v544 : BitVec 32 := Scalar.muli v171 c1_i32_374
  let v545 : BitVec 32 := Scalar.addi v543 v544
  v545.toNat
def k0_dev20 (d0 : Dev nD) : Nat :=
  let c0_i32_381 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_123 : BitVec 32 := 1#32
  let v176 : BitVec 32 := Scalar.xori v2 c1_i32_123
  let c4_i32_380 : BitVec 32 := 4#32
  let v554 : BitVec 32 := Scalar.muli v176 c4_i32_380
  let v555 : BitVec 32 := Scalar.addi c0_i32_381 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_124 : BitVec 32 := 1#32
  let v177 : BitVec 32 := Scalar.xori v5 c1_i32_124
  let c2_i32_382 : BitVec 32 := 2#32
  let v556 : BitVec 32 := Scalar.muli v177 c2_i32_382
  let v557 : BitVec 32 := Scalar.addi v555 v556
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_125 : BitVec 32 := 0#32
  let v178 : BitVec 32 := Scalar.xori v8 c0_i32_125
  let c1_i32_383 : BitVec 32 := 1#32
  let v558 : BitVec 32 := Scalar.muli v178 c1_i32_383
  let v559 : BitVec 32 := Scalar.addi v557 v558
  v559.toNat
def k0_dev21 (d0 : Dev nD) : Nat :=
  let c0_i32_390 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_128 : BitVec 32 := 1#32
  let v183 : BitVec 32 := Scalar.xori v2 c1_i32_128
  let c4_i32_389 : BitVec 32 := 4#32
  let v568 : BitVec 32 := Scalar.muli v183 c4_i32_389
  let v569 : BitVec 32 := Scalar.addi c0_i32_390 v568
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_129 : BitVec 32 := 1#32
  let v184 : BitVec 32 := Scalar.xori v5 c1_i32_129
  let c2_i32_391 : BitVec 32 := 2#32
  let v570 : BitVec 32 := Scalar.muli v184 c2_i32_391
  let v571 : BitVec 32 := Scalar.addi v569 v570
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_130 : BitVec 32 := 1#32
  let v185 : BitVec 32 := Scalar.xori v8 c1_i32_130
  let c1_i32_392 : BitVec 32 := 1#32
  let v572 : BitVec 32 := Scalar.muli v185 c1_i32_392
  let v573 : BitVec 32 := Scalar.addi v571 v572
  v573.toNat
def k0_off9 (d0 : Dev nD) (c0_i32_133 : BitVec 32) (c0_i32_134 : BitVec 32) (c1_i32_135 : BitVec 32) : Fin 3 → Nat :=
  let c4_i32_136 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v190 : BitVec 32 := Scalar.xori v2 c0_i32_133
  let v193 : BitVec 32 := Scalar.muli c4_i32_136 v190
  let c2_i32_137 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v191 : BitVec 32 := Scalar.xori v5 c0_i32_134
  let v194 : BitVec 32 := Scalar.muli c2_i32_137 v191
  let v195 : BitVec 32 := Scalar.addi v193 v194
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v192 : BitVec 32 := Scalar.xori v8 c1_i32_135
  let v196 : BitVec 32 := Scalar.addi v195 v192
  let c0_i32_404 : BitVec 32 := 0#32
  let c0_i32_405 : BitVec 32 := 0#32
  ![v196.toNat, 0, 0]
def k0_off9_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev22 (d0 : Dev nD) : Nat :=
  let c0_i32_399 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_133 : BitVec 32 := 0#32
  let v190 : BitVec 32 := Scalar.xori v2 c0_i32_133
  let c4_i32_398 : BitVec 32 := 4#32
  let v582 : BitVec 32 := Scalar.muli v190 c4_i32_398
  let v583 : BitVec 32 := Scalar.addi c0_i32_399 v582
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_134 : BitVec 32 := 0#32
  let v191 : BitVec 32 := Scalar.xori v5 c0_i32_134
  let c2_i32_400 : BitVec 32 := 2#32
  let v584 : BitVec 32 := Scalar.muli v191 c2_i32_400
  let v585 : BitVec 32 := Scalar.addi v583 v584
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v192 : BitVec 32 := Scalar.xori v8 c1_i32_135
  let c1_i32_401 : BitVec 32 := 1#32
  let v586 : BitVec 32 := Scalar.muli v192 c1_i32_401
  let v587 : BitVec 32 := Scalar.addi v585 v586
  v587.toNat
def k0_dev23 (d0 : Dev nD) : Nat :=
  let c0_i32_408 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_138 : BitVec 32 := 0#32
  let v197 : BitVec 32 := Scalar.xori v2 c0_i32_138
  let c4_i32_407 : BitVec 32 := 4#32
  let v596 : BitVec 32 := Scalar.muli v197 c4_i32_407
  let v597 : BitVec 32 := Scalar.addi c0_i32_408 v596
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_139 : BitVec 32 := 1#32
  let v198 : BitVec 32 := Scalar.xori v5 c1_i32_139
  let c2_i32_409 : BitVec 32 := 2#32
  let v598 : BitVec 32 := Scalar.muli v198 c2_i32_409
  let v599 : BitVec 32 := Scalar.addi v597 v598
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_140 : BitVec 32 := 0#32
  let v199 : BitVec 32 := Scalar.xori v8 c0_i32_140
  let c1_i32_410 : BitVec 32 := 1#32
  let v600 : BitVec 32 := Scalar.muli v199 c1_i32_410
  let v601 : BitVec 32 := Scalar.addi v599 v600
  v601.toNat
def k0_dev24 (d0 : Dev nD) : Nat :=
  let c0_i32_417 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_143 : BitVec 32 := 0#32
  let v204 : BitVec 32 := Scalar.xori v2 c0_i32_143
  let c4_i32_416 : BitVec 32 := 4#32
  let v610 : BitVec 32 := Scalar.muli v204 c4_i32_416
  let v611 : BitVec 32 := Scalar.addi c0_i32_417 v610
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_144 : BitVec 32 := 1#32
  let v205 : BitVec 32 := Scalar.xori v5 c1_i32_144
  let c2_i32_418 : BitVec 32 := 2#32
  let v612 : BitVec 32 := Scalar.muli v205 c2_i32_418
  let v613 : BitVec 32 := Scalar.addi v611 v612
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_145 : BitVec 32 := 1#32
  let v206 : BitVec 32 := Scalar.xori v8 c1_i32_145
  let c1_i32_419 : BitVec 32 := 1#32
  let v614 : BitVec 32 := Scalar.muli v206 c1_i32_419
  let v615 : BitVec 32 := Scalar.addi v613 v614
  v615.toNat
def k0_dev25 (d0 : Dev nD) : Nat :=
  let c0_i32_426 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_148 : BitVec 32 := 1#32
  let v211 : BitVec 32 := Scalar.xori v2 c1_i32_148
  let c4_i32_425 : BitVec 32 := 4#32
  let v624 : BitVec 32 := Scalar.muli v211 c4_i32_425
  let v625 : BitVec 32 := Scalar.addi c0_i32_426 v624
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_149 : BitVec 32 := 0#32
  let v212 : BitVec 32 := Scalar.xori v5 c0_i32_149
  let c2_i32_427 : BitVec 32 := 2#32
  let v626 : BitVec 32 := Scalar.muli v212 c2_i32_427
  let v627 : BitVec 32 := Scalar.addi v625 v626
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_150 : BitVec 32 := 0#32
  let v213 : BitVec 32 := Scalar.xori v8 c0_i32_150
  let c1_i32_428 : BitVec 32 := 1#32
  let v628 : BitVec 32 := Scalar.muli v213 c1_i32_428
  let v629 : BitVec 32 := Scalar.addi v627 v628
  v629.toNat
def k0_dev26 (d0 : Dev nD) : Nat :=
  let c0_i32_435 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_153 : BitVec 32 := 1#32
  let v218 : BitVec 32 := Scalar.xori v2 c1_i32_153
  let c4_i32_434 : BitVec 32 := 4#32
  let v638 : BitVec 32 := Scalar.muli v218 c4_i32_434
  let v639 : BitVec 32 := Scalar.addi c0_i32_435 v638
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_154 : BitVec 32 := 0#32
  let v219 : BitVec 32 := Scalar.xori v5 c0_i32_154
  let c2_i32_436 : BitVec 32 := 2#32
  let v640 : BitVec 32 := Scalar.muli v219 c2_i32_436
  let v641 : BitVec 32 := Scalar.addi v639 v640
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_155 : BitVec 32 := 1#32
  let v220 : BitVec 32 := Scalar.xori v8 c1_i32_155
  let c1_i32_437 : BitVec 32 := 1#32
  let v642 : BitVec 32 := Scalar.muli v220 c1_i32_437
  let v643 : BitVec 32 := Scalar.addi v641 v642
  v643.toNat
def k0_dev27 (d0 : Dev nD) : Nat :=
  let c0_i32_444 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_158 : BitVec 32 := 1#32
  let v225 : BitVec 32 := Scalar.xori v2 c1_i32_158
  let c4_i32_443 : BitVec 32 := 4#32
  let v652 : BitVec 32 := Scalar.muli v225 c4_i32_443
  let v653 : BitVec 32 := Scalar.addi c0_i32_444 v652
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_159 : BitVec 32 := 1#32
  let v226 : BitVec 32 := Scalar.xori v5 c1_i32_159
  let c2_i32_445 : BitVec 32 := 2#32
  let v654 : BitVec 32 := Scalar.muli v226 c2_i32_445
  let v655 : BitVec 32 := Scalar.addi v653 v654
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_160 : BitVec 32 := 0#32
  let v227 : BitVec 32 := Scalar.xori v8 c0_i32_160
  let c1_i32_446 : BitVec 32 := 1#32
  let v656 : BitVec 32 := Scalar.muli v227 c1_i32_446
  let v657 : BitVec 32 := Scalar.addi v655 v656
  v657.toNat
def k0_dev28 (d0 : Dev nD) : Nat :=
  let c0_i32_453 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_163 : BitVec 32 := 1#32
  let v232 : BitVec 32 := Scalar.xori v2 c1_i32_163
  let c4_i32_452 : BitVec 32 := 4#32
  let v666 : BitVec 32 := Scalar.muli v232 c4_i32_452
  let v667 : BitVec 32 := Scalar.addi c0_i32_453 v666
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_164 : BitVec 32 := 1#32
  let v233 : BitVec 32 := Scalar.xori v5 c1_i32_164
  let c2_i32_454 : BitVec 32 := 2#32
  let v668 : BitVec 32 := Scalar.muli v233 c2_i32_454
  let v669 : BitVec 32 := Scalar.addi v667 v668
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_165 : BitVec 32 := 1#32
  let v234 : BitVec 32 := Scalar.xori v8 c1_i32_165
  let c1_i32_455 : BitVec 32 := 1#32
  let v670 : BitVec 32 := Scalar.muli v234 c1_i32_455
  let v671 : BitVec 32 := Scalar.addi v669 v670
  v671.toNat
def k0_off10 (d0 : Dev nD) (c0_i32_168 : BitVec 32) (c0_i32_169 : BitVec 32) (c1_i32_170 : BitVec 32) : Fin 3 → Nat :=
  let c4_i32_171 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v239 : BitVec 32 := Scalar.xori v2 c0_i32_168
  let v242 : BitVec 32 := Scalar.muli c4_i32_171 v239
  let c2_i32_172 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v240 : BitVec 32 := Scalar.xori v5 c0_i32_169
  let v243 : BitVec 32 := Scalar.muli c2_i32_172 v240
  let v244 : BitVec 32 := Scalar.addi v242 v243
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v241 : BitVec 32 := Scalar.xori v8 c1_i32_170
  let v245 : BitVec 32 := Scalar.addi v244 v241
  let c0_i32_467 : BitVec 32 := 0#32
  let c0_i32_468 : BitVec 32 := 0#32
  ![v245.toNat, 0, 0]
def k0_off10_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev29 (d0 : Dev nD) : Nat :=
  let c0_i32_462 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_168 : BitVec 32 := 0#32
  let v239 : BitVec 32 := Scalar.xori v2 c0_i32_168
  let c4_i32_461 : BitVec 32 := 4#32
  let v680 : BitVec 32 := Scalar.muli v239 c4_i32_461
  let v681 : BitVec 32 := Scalar.addi c0_i32_462 v680
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_169 : BitVec 32 := 0#32
  let v240 : BitVec 32 := Scalar.xori v5 c0_i32_169
  let c2_i32_463 : BitVec 32 := 2#32
  let v682 : BitVec 32 := Scalar.muli v240 c2_i32_463
  let v683 : BitVec 32 := Scalar.addi v681 v682
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_170 : BitVec 32 := 1#32
  let v241 : BitVec 32 := Scalar.xori v8 c1_i32_170
  let c1_i32_464 : BitVec 32 := 1#32
  let v684 : BitVec 32 := Scalar.muli v241 c1_i32_464
  let v685 : BitVec 32 := Scalar.addi v683 v684
  v685.toNat
def k0_dev30 (d0 : Dev nD) : Nat :=
  let c0_i32_471 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_173 : BitVec 32 := 0#32
  let v246 : BitVec 32 := Scalar.xori v2 c0_i32_173
  let c4_i32_470 : BitVec 32 := 4#32
  let v694 : BitVec 32 := Scalar.muli v246 c4_i32_470
  let v695 : BitVec 32 := Scalar.addi c0_i32_471 v694
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_174 : BitVec 32 := 1#32
  let v247 : BitVec 32 := Scalar.xori v5 c1_i32_174
  let c2_i32_472 : BitVec 32 := 2#32
  let v696 : BitVec 32 := Scalar.muli v247 c2_i32_472
  let v697 : BitVec 32 := Scalar.addi v695 v696
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_175 : BitVec 32 := 0#32
  let v248 : BitVec 32 := Scalar.xori v8 c0_i32_175
  let c1_i32_473 : BitVec 32 := 1#32
  let v698 : BitVec 32 := Scalar.muli v248 c1_i32_473
  let v699 : BitVec 32 := Scalar.addi v697 v698
  v699.toNat
def k0_dev31 (d0 : Dev nD) : Nat :=
  let c0_i32_480 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_178 : BitVec 32 := 0#32
  let v253 : BitVec 32 := Scalar.xori v2 c0_i32_178
  let c4_i32_479 : BitVec 32 := 4#32
  let v708 : BitVec 32 := Scalar.muli v253 c4_i32_479
  let v709 : BitVec 32 := Scalar.addi c0_i32_480 v708
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_179 : BitVec 32 := 1#32
  let v254 : BitVec 32 := Scalar.xori v5 c1_i32_179
  let c2_i32_481 : BitVec 32 := 2#32
  let v710 : BitVec 32 := Scalar.muli v254 c2_i32_481
  let v711 : BitVec 32 := Scalar.addi v709 v710
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_180 : BitVec 32 := 1#32
  let v255 : BitVec 32 := Scalar.xori v8 c1_i32_180
  let c1_i32_482 : BitVec 32 := 1#32
  let v712 : BitVec 32 := Scalar.muli v255 c1_i32_482
  let v713 : BitVec 32 := Scalar.addi v711 v712
  v713.toNat
def k0_dev32 (d0 : Dev nD) : Nat :=
  let c0_i32_489 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_183 : BitVec 32 := 1#32
  let v260 : BitVec 32 := Scalar.xori v2 c1_i32_183
  let c4_i32_488 : BitVec 32 := 4#32
  let v722 : BitVec 32 := Scalar.muli v260 c4_i32_488
  let v723 : BitVec 32 := Scalar.addi c0_i32_489 v722
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_184 : BitVec 32 := 0#32
  let v261 : BitVec 32 := Scalar.xori v5 c0_i32_184
  let c2_i32_490 : BitVec 32 := 2#32
  let v724 : BitVec 32 := Scalar.muli v261 c2_i32_490
  let v725 : BitVec 32 := Scalar.addi v723 v724
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_185 : BitVec 32 := 0#32
  let v262 : BitVec 32 := Scalar.xori v8 c0_i32_185
  let c1_i32_491 : BitVec 32 := 1#32
  let v726 : BitVec 32 := Scalar.muli v262 c1_i32_491
  let v727 : BitVec 32 := Scalar.addi v725 v726
  v727.toNat
def k0_dev33 (d0 : Dev nD) : Nat :=
  let c0_i32_498 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_188 : BitVec 32 := 1#32
  let v267 : BitVec 32 := Scalar.xori v2 c1_i32_188
  let c4_i32_497 : BitVec 32 := 4#32
  let v736 : BitVec 32 := Scalar.muli v267 c4_i32_497
  let v737 : BitVec 32 := Scalar.addi c0_i32_498 v736
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_189 : BitVec 32 := 0#32
  let v268 : BitVec 32 := Scalar.xori v5 c0_i32_189
  let c2_i32_499 : BitVec 32 := 2#32
  let v738 : BitVec 32 := Scalar.muli v268 c2_i32_499
  let v739 : BitVec 32 := Scalar.addi v737 v738
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_190 : BitVec 32 := 1#32
  let v269 : BitVec 32 := Scalar.xori v8 c1_i32_190
  let c1_i32_500 : BitVec 32 := 1#32
  let v740 : BitVec 32 := Scalar.muli v269 c1_i32_500
  let v741 : BitVec 32 := Scalar.addi v739 v740
  v741.toNat
def k0_dev34 (d0 : Dev nD) : Nat :=
  let c0_i32_507 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_193 : BitVec 32 := 1#32
  let v274 : BitVec 32 := Scalar.xori v2 c1_i32_193
  let c4_i32_506 : BitVec 32 := 4#32
  let v750 : BitVec 32 := Scalar.muli v274 c4_i32_506
  let v751 : BitVec 32 := Scalar.addi c0_i32_507 v750
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_194 : BitVec 32 := 1#32
  let v275 : BitVec 32 := Scalar.xori v5 c1_i32_194
  let c2_i32_508 : BitVec 32 := 2#32
  let v752 : BitVec 32 := Scalar.muli v275 c2_i32_508
  let v753 : BitVec 32 := Scalar.addi v751 v752
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_195 : BitVec 32 := 0#32
  let v276 : BitVec 32 := Scalar.xori v8 c0_i32_195
  let c1_i32_509 : BitVec 32 := 1#32
  let v754 : BitVec 32 := Scalar.muli v276 c1_i32_509
  let v755 : BitVec 32 := Scalar.addi v753 v754
  v755.toNat
def k0_dev35 (d0 : Dev nD) : Nat :=
  let c0_i32_516 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_198 : BitVec 32 := 1#32
  let v281 : BitVec 32 := Scalar.xori v2 c1_i32_198
  let c4_i32_515 : BitVec 32 := 4#32
  let v764 : BitVec 32 := Scalar.muli v281 c4_i32_515
  let v765 : BitVec 32 := Scalar.addi c0_i32_516 v764
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_199 : BitVec 32 := 1#32
  let v282 : BitVec 32 := Scalar.xori v5 c1_i32_199
  let c2_i32_517 : BitVec 32 := 2#32
  let v766 : BitVec 32 := Scalar.muli v282 c2_i32_517
  let v767 : BitVec 32 := Scalar.addi v765 v766
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v283 : BitVec 32 := Scalar.xori v8 c1_i32_200
  let c1_i32_518 : BitVec 32 := 1#32
  let v768 : BitVec 32 := Scalar.muli v283 c1_i32_518
  let v769 : BitVec 32 := Scalar.addi v767 v768
  v769.toNat
-- ==== Reference.lean ====
abbrev S64x256x1024 : Shape := ⟨3, ![64, 256, 1024]⟩
abbrev S64x32x768 : Shape := ⟨3, ![64, 32, 768]⟩
abbrev S64x128x1024 : Shape := ⟨3, ![64, 128, 1024]⟩
abbrev S64x704x1024 : Shape := ⟨3, ![64, 704, 1024]⟩
abbrev S64x352x1024 : Shape := ⟨3, ![64, 352, 1024]⟩
abbrev S8x8x256x1024 : Shape := ⟨4, ![8, 8, 256, 1024]⟩
abbrev S8x8x32x768 : Shape := ⟨4, ![8, 8, 32, 768]⟩
abbrev S8x8x128x1024 : Shape := ⟨4, ![8, 8, 128, 1024]⟩
abbrev S8x8x704x1024 : Shape := ⟨4, ![8, 8, 704, 1024]⟩
abbrev S8x8x352x1024 : Shape := ⟨4, ![8, 8, 352, 1024]⟩

abbrev nBuf : Space → Nat
  | .hbm => 20
  | .vmem => 0
  | .smem => 0
  | _ => 0

abbrev bufTy : (tb : Table) → Fin (tcTables nBuf tb) → BufTy
  | .hbm, ⟨0, _⟩ => ⟨S64x256x1024, .bf16⟩
  | .hbm, ⟨1, _⟩ => ⟨S64x32x768, .bf16⟩
  | .hbm, ⟨2, _⟩ => ⟨S64x128x1024, .bf16⟩
  | .hbm, ⟨3, _⟩ => ⟨S64x704x1024, .bf16⟩
  | .hbm, ⟨4, _⟩ => ⟨S64x352x1024, .bf16⟩
  | .hbm, ⟨5, _⟩ => ⟨S8x8x256x1024, .bf16⟩
  | .hbm, ⟨6, _⟩ => ⟨S8x8x256x1024, .bf16⟩
  | .hbm, ⟨7, _⟩ => ⟨S64x256x1024, .bf16⟩
  | .hbm, ⟨8, _⟩ => ⟨S8x8x32x768, .bf16⟩
  | .hbm, ⟨9, _⟩ => ⟨S8x8x32x768, .bf16⟩
  | .hbm, ⟨10, _⟩ => ⟨S64x32x768, .bf16⟩
  | .hbm, ⟨11, _⟩ => ⟨S8x8x128x1024, .bf16⟩
  | .hbm, ⟨12, _⟩ => ⟨S8x8x128x1024, .bf16⟩
  | .hbm, ⟨13, _⟩ => ⟨S64x128x1024, .bf16⟩
  | .hbm, ⟨14, _⟩ => ⟨S8x8x704x1024, .bf16⟩
  | .hbm, ⟨15, _⟩ => ⟨S8x8x704x1024, .bf16⟩
  | .hbm, ⟨16, _⟩ => ⟨S64x704x1024, .bf16⟩
  | .hbm, ⟨17, _⟩ => ⟨S8x8x352x1024, .bf16⟩
  | .hbm, ⟨18, _⟩ => ⟨S8x8x352x1024, .bf16⟩
  | .hbm, ⟨19, _⟩ => ⟨S64x352x1024, .bf16⟩
  | _, _ => ⟨S64x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Weights.lean ====
abbrev S256x1024 : Shape := ⟨2, ![256, 1024]⟩
abbrev S32x768 : Shape := ⟨2, ![32, 768]⟩
abbrev S128x1024 : Shape := ⟨2, ![128, 1024]⟩
abbrev S704x1024 : Shape := ⟨2, ![704, 1024]⟩
abbrev S352x1024 : Shape := ⟨2, ![352, 1024]⟩
abbrev S8x704 : Shape := ⟨2, ![8, 704]⟩
abbrev S8x256x1024 : Shape := ⟨3, ![8, 256, 1024]⟩
abbrev S8x32x768 : Shape := ⟨3, ![8, 32, 768]⟩
abbrev S8x128x1024 : Shape := ⟨3, ![8, 128, 1024]⟩
abbrev S8x704x1024 : Shape := ⟨3, ![8, 704, 1024]⟩
abbrev S8x352x1024 : Shape := ⟨3, ![8, 352, 1024]⟩
abbrev S8x8x704 : Shape := ⟨3, ![8, 8, 704]⟩
abbrev S42 : Shape := ⟨1, ![42]⟩
abbrev S6 : Shape := ⟨1, ![6]⟩
abbrev S1 : Shape := ⟨1, ![1]⟩
abbrev S_ : Shape := ⟨0, ![]⟩
abbrev S1x256x1024 : Shape := ⟨3, ![1, 256, 1024]⟩
abbrev S1x32x768 : Shape := ⟨3, ![1, 32, 768]⟩
abbrev S1x128x1024 : Shape := ⟨3, ![1, 128, 1024]⟩
abbrev S1x704x1024 : Shape := ⟨3, ![1, 704, 1024]⟩
abbrev S1x352x1024 : Shape := ⟨3, ![1, 352, 1024]⟩
abbrev S1x8x704 : Shape := ⟨3, ![1, 8, 704]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S32x768, .bf16⟩
  | .hbm, ⟨2, _⟩ => ⟨S128x1024, .bf16⟩
  | .hbm, ⟨3, _⟩ => ⟨S704x1024, .bf16⟩
  | .hbm, ⟨4, _⟩ => ⟨S352x1024, .bf16⟩
  | .hbm, ⟨5, _⟩ => ⟨S8x704, .f32⟩
  | .hbm, ⟨6, _⟩ => ⟨S8x256x1024, .bf16⟩
  | .hbm, ⟨7, _⟩ => ⟨S8x32x768, .bf16⟩
  | .hbm, ⟨8, _⟩ => ⟨S8x128x1024, .bf16⟩
  | .hbm, ⟨9, _⟩ => ⟨S8x704x1024, .bf16⟩
  | .hbm, ⟨10, _⟩ => ⟨S8x352x1024, .bf16⟩
  | .hbm, ⟨11, _⟩ => ⟨S8x8x704, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_20 : BitVec 32 := 0#32
  let c0_i32_21 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_23 : BitVec 32 := 0#32
  let c0_i32_24 : BitVec 32 := 0#32
  ![v21.toNat, 0, 0]
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.muli c2_i32_13 v5
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.addi v24 v8
  let c0_i32_26 : BitVec 32 := 0#32
  let c0_i32_27 : BitVec 32 := 0#32
  ![v25.toNat, 0, 0]
def k0_off4 (d0 : Dev nD) : Fin 3 → Nat :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_28 : BitVec 32 := 0#32
  let c0_i32_29 : BitVec 32 := 0#32
  ![v29.toNat, 0, 0]
def k0_off5 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_16 v2
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_31 : BitVec 32 := 0#32
  let c0_i32_32 : BitVec 32 := 0#32
  ![v33.toNat, 0, 0]
def k0_off6 (d0 : Dev nD) : Fin 3 → Nat :=
  let c4_i32_18 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c4_i32_18 v2
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_19 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_33 : BitVec 32 := 0#32
  let c0_i32_34 : BitVec 32 := 0#32
  ![v37.toNat, 0, 0]
def k0_dev1 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v158 : BitVec 32 := Scalar.muli v2 c4_i32_85
  let v159 : BitVec 32 := Scalar.addi c0_i32_86 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v160 : BitVec 32 := Scalar.muli v5 c2_i32_87
  let v161 : BitVec 32 := Scalar.addi v159 v160
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_88 : BitVec 32 := 1#32
  let v162 : BitVec 32 := Scalar.muli v9 c1_i32_88
  let v163 : BitVec 32 := Scalar.addi v161 v162
  v163.toNat
def k0_dev2 (d0 : Dev nD) : Nat :=
  let c0_i32_94 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_93 : BitVec 32 := 4#32
  let v170 : BitVec 32 := Scalar.muli v10 c4_i32_93
  let v171 : BitVec 32 := Scalar.addi c0_i32_94 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v172 : BitVec 32 := Scalar.muli v5 c2_i32_95
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v174 : BitVec 32 := Scalar.muli v8 c1_i32_96
  let v175 : BitVec 32 := Scalar.addi v173 v174
  v175.toNat
def k0_dev3 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v182 : BitVec 32 := Scalar.muli v2 c4_i32_101
  let v183 : BitVec 32 := Scalar.addi c0_i32_102 v182
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_103 : BitVec 32 := 2#32
  let v184 : BitVec 32 := Scalar.muli v11 c2_i32_103
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_104 : BitVec 32 := 1#32
  let v186 : BitVec 32 := Scalar.muli v8 c1_i32_104
  let v187 : BitVec 32 := Scalar.addi v185 v186
  v187.toNat
def k0_dev4 (d0 : Dev nD) : Nat :=
  let c0_i32_110 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_109 : BitVec 32 := 4#32
  let v194 : BitVec 32 := Scalar.muli v12 c4_i32_109
  let v195 : BitVec 32 := Scalar.addi c0_i32_110 v194
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_111 : BitVec 32 := 2#32
  let v196 : BitVec 32 := Scalar.muli v13 c2_i32_111
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v198 : BitVec 32 := Scalar.muli v8 c1_i32_112
  let v199 : BitVec 32 := Scalar.addi v197 v198
  v199.toNat
def k0_dev5 (d0 : Dev nD) : Nat :=
  let c0_i32_117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_116 : BitVec 32 := 4#32
  let v206 : BitVec 32 := Scalar.muli v2 c4_i32_116
  let v207 : BitVec 32 := Scalar.addi c0_i32_117 v206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_118 : BitVec 32 := 2#32
  let v208 : BitVec 32 := Scalar.muli v5 c2_i32_118
  let v209 : BitVec 32 := Scalar.addi v207 v208
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_119 : BitVec 32 := 1#32
  let v210 : BitVec 32 := Scalar.muli v9 c1_i32_119
  let v211 : BitVec 32 := Scalar.addi v209 v210
  v211.toNat
def k0_dev6 (d0 : Dev nD) : Nat :=
  let c0_i32_124 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_123 : BitVec 32 := 4#32
  let v218 : BitVec 32 := Scalar.muli v10 c4_i32_123
  let v219 : BitVec 32 := Scalar.addi c0_i32_124 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_125 : BitVec 32 := 2#32
  let v220 : BitVec 32 := Scalar.muli v5 c2_i32_125
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v222 : BitVec 32 := Scalar.muli v8 c1_i32_126
  let v223 : BitVec 32 := Scalar.addi v221 v222
  v223.toNat
def k0_dev7 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v230 : BitVec 32 := Scalar.muli v2 c4_i32_130
  let v231 : BitVec 32 := Scalar.addi c0_i32_131 v230
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_132 : BitVec 32 := 2#32
  let v232 : BitVec 32 := Scalar.muli v11 c2_i32_132
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v234 : BitVec 32 := Scalar.muli v8 c1_i32_133
  let v235 : BitVec 32 := Scalar.addi v233 v234
  v235.toNat
def k0_dev8 (d0 : Dev nD) : Nat :=
  let c0_i32_138 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_137 : BitVec 32 := 4#32
  let v242 : BitVec 32 := Scalar.muli v12 c4_i32_137
  let v243 : BitVec 32 := Scalar.addi c0_i32_138 v242
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_139 : BitVec 32 := 2#32
  let v244 : BitVec 32 := Scalar.muli v13 c2_i32_139
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v246 : BitVec 32 := Scalar.muli v8 c1_i32_140
  let v247 : BitVec 32 := Scalar.addi v245 v246
  v247.toNat
def k0_dev9 (d0 : Dev nD) : Nat :=
  let c0_i32_145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_144 : BitVec 32 := 4#32
  let v254 : BitVec 32 := Scalar.muli v2 c4_i32_144
  let v255 : BitVec 32 := Scalar.addi c0_i32_145 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_146 : BitVec 32 := 2#32
  let v256 : BitVec 32 := Scalar.muli v5 c2_i32_146
  let v257 : BitVec 32 := Scalar.addi v255 v256
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_147 : BitVec 32 := 1#32
  let v258 : BitVec 32 := Scalar.muli v9 c1_i32_147
  let v259 : BitVec 32 := Scalar.addi v257 v258
  v259.toNat
def k0_dev10 (d0 : Dev nD) : Nat :=
  let c0_i32_152 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_151 : BitVec 32 := 4#32
  let v266 : BitVec 32 := Scalar.muli v10 c4_i32_151
  let v267 : BitVec 32 := Scalar.addi c0_i32_152 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_153 : BitVec 32 := 2#32
  let v268 : BitVec 32 := Scalar.muli v5 c2_i32_153
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_154 : BitVec 32 := 1#32
  let v270 : BitVec 32 := Scalar.muli v8 c1_i32_154
  let v271 : BitVec 32 := Scalar.addi v269 v270
  v271.toNat
def k0_dev11 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_158 : BitVec 32 := 4#32
  let v278 : BitVec 32 := Scalar.muli v2 c4_i32_158
  let v279 : BitVec 32 := Scalar.addi c0_i32_159 v278
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_160 : BitVec 32 := 2#32
  let v280 : BitVec 32 := Scalar.muli v11 c2_i32_160
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v282 : BitVec 32 := Scalar.muli v8 c1_i32_161
  let v283 : BitVec 32 := Scalar.addi v281 v282
  v283.toNat
def k0_dev12 (d0 : Dev nD) : Nat :=
  let c0_i32_166 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_165 : BitVec 32 := 4#32
  let v290 : BitVec 32 := Scalar.muli v12 c4_i32_165
  let v291 : BitVec 32 := Scalar.addi c0_i32_166 v290
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_167 : BitVec 32 := 2#32
  let v292 : BitVec 32 := Scalar.muli v13 c2_i32_167
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_168 : BitVec 32 := 1#32
  let v294 : BitVec 32 := Scalar.muli v8 c1_i32_168
  let v295 : BitVec 32 := Scalar.addi v293 v294
  v295.toNat
def k0_dev13 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v302 : BitVec 32 := Scalar.muli v2 c4_i32_172
  let v303 : BitVec 32 := Scalar.addi c0_i32_173 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v304 : BitVec 32 := Scalar.muli v5 c2_i32_174
  let v305 : BitVec 32 := Scalar.addi v303 v304
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_175 : BitVec 32 := 1#32
  let v306 : BitVec 32 := Scalar.muli v9 c1_i32_175
  let v307 : BitVec 32 := Scalar.addi v305 v306
  v307.toNat
def k0_dev14 (d0 : Dev nD) : Nat :=
  let c0_i32_180 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_179 : BitVec 32 := 4#32
  let v314 : BitVec 32 := Scalar.muli v10 c4_i32_179
  let v315 : BitVec 32 := Scalar.addi c0_i32_180 v314
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_181 : BitVec 32 := 2#32
  let v316 : BitVec 32 := Scalar.muli v5 c2_i32_181
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v318 : BitVec 32 := Scalar.muli v8 c1_i32_182
  let v319 : BitVec 32 := Scalar.addi v317 v318
  v319.toNat
def k0_dev15 (d0 : Dev nD) : Nat :=
  let c0_i32_187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_186 : BitVec 32 := 4#32
  let v326 : BitVec 32 := Scalar.muli v2 c4_i32_186
  let v327 : BitVec 32 := Scalar.addi c0_i32_187 v326
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_188 : BitVec 32 := 2#32
  let v328 : BitVec 32 := Scalar.muli v11 c2_i32_188
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_189 : BitVec 32 := 1#32
  let v330 : BitVec 32 := Scalar.muli v8 c1_i32_189
  let v331 : BitVec 32 := Scalar.addi v329 v330
  v331.toNat
def k0_dev16 (d0 : Dev nD) : Nat :=
  let c0_i32_194 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_193 : BitVec 32 := 4#32
  let v338 : BitVec 32 := Scalar.muli v12 c4_i32_193
  let v339 : BitVec 32 := Scalar.addi c0_i32_194 v338
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_195 : BitVec 32 := 2#32
  let v340 : BitVec 32 := Scalar.muli v13 c2_i32_195
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v342 : BitVec 32 := Scalar.muli v8 c1_i32_196
  let v343 : BitVec 32 := Scalar.addi v341 v342
  v343.toNat
def k0_dev17 (d0 : Dev nD) : Nat :=
  let c0_i32_201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_200 : BitVec 32 := 4#32
  let v350 : BitVec 32 := Scalar.muli v2 c4_i32_200
  let v351 : BitVec 32 := Scalar.addi c0_i32_201 v350
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_202 : BitVec 32 := 2#32
  let v352 : BitVec 32 := Scalar.muli v5 c2_i32_202
  let v353 : BitVec 32 := Scalar.addi v351 v352
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_203 : BitVec 32 := 1#32
  let v354 : BitVec 32 := Scalar.muli v9 c1_i32_203
  let v355 : BitVec 32 := Scalar.addi v353 v354
  v355.toNat
def k0_dev18 (d0 : Dev nD) : Nat :=
  let c0_i32_208 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_207 : BitVec 32 := 4#32
  let v362 : BitVec 32 := Scalar.muli v10 c4_i32_207
  let v363 : BitVec 32 := Scalar.addi c0_i32_208 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v364 : BitVec 32 := Scalar.muli v5 c2_i32_209
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v366 : BitVec 32 := Scalar.muli v8 c1_i32_210
  let v367 : BitVec 32 := Scalar.addi v365 v366
  v367.toNat
def k0_dev19 (d0 : Dev nD) : Nat :=
  let c0_i32_215 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_214 : BitVec 32 := 4#32
  let v374 : BitVec 32 := Scalar.muli v2 c4_i32_214
  let v375 : BitVec 32 := Scalar.addi c0_i32_215 v374
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_216 : BitVec 32 := 2#32
  let v376 : BitVec 32 := Scalar.muli v11 c2_i32_216
  let v377 : BitVec 32 := Scalar.addi v375 v376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_217 : BitVec 32 := 1#32
  let v378 : BitVec 32 := Scalar.muli v8 c1_i32_217
  let v379 : BitVec 32 := Scalar.addi v377 v378
  v379.toNat
def k0_dev20 (d0 : Dev nD) : Nat :=
  let c0_i32_222 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_221 : BitVec 32 := 4#32
  let v386 : BitVec 32 := Scalar.muli v12 c4_i32_221
  let v387 : BitVec 32 := Scalar.addi c0_i32_222 v386
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_223 : BitVec 32 := 2#32
  let v388 : BitVec 32 := Scalar.muli v13 c2_i32_223
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_224 : BitVec 32 := 1#32
  let v390 : BitVec 32 := Scalar.muli v8 c1_i32_224
  let v391 : BitVec 32 := Scalar.addi v389 v390
  v391.toNat
def k0_dev21 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v398 : BitVec 32 := Scalar.muli v2 c4_i32_228
  let v399 : BitVec 32 := Scalar.addi c0_i32_229 v398
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_230 : BitVec 32 := 2#32
  let v400 : BitVec 32 := Scalar.muli v5 c2_i32_230
  let v401 : BitVec 32 := Scalar.addi v399 v400
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_231 : BitVec 32 := 1#32
  let v402 : BitVec 32 := Scalar.muli v9 c1_i32_231
  let v403 : BitVec 32 := Scalar.addi v401 v402
  v403.toNat
def k0_dev22 (d0 : Dev nD) : Nat :=
  let c0_i32_236 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_235 : BitVec 32 := 4#32
  let v410 : BitVec 32 := Scalar.muli v10 c4_i32_235
  let v411 : BitVec 32 := Scalar.addi c0_i32_236 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v412 : BitVec 32 := Scalar.muli v5 c2_i32_237
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v414 : BitVec 32 := Scalar.muli v8 c1_i32_238
  let v415 : BitVec 32 := Scalar.addi v413 v414
  v415.toNat
def k0_dev23 (d0 : Dev nD) : Nat :=
  let c0_i32_243 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_242 : BitVec 32 := 4#32
  let v422 : BitVec 32 := Scalar.muli v2 c4_i32_242
  let v423 : BitVec 32 := Scalar.addi c0_i32_243 v422
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_244 : BitVec 32 := 2#32
  let v424 : BitVec 32 := Scalar.muli v11 c2_i32_244
  let v425 : BitVec 32 := Scalar.addi v423 v424
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_245 : BitVec 32 := 1#32
  let v426 : BitVec 32 := Scalar.muli v8 c1_i32_245
  let v427 : BitVec 32 := Scalar.addi v425 v426
  v427.toNat
def k0_dev24 (d0 : Dev nD) : Nat :=
  let c0_i32_250 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_249 : BitVec 32 := 4#32
  let v434 : BitVec 32 := Scalar.muli v12 c4_i32_249
  let v435 : BitVec 32 := Scalar.addi c0_i32_250 v434
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_251 : BitVec 32 := 2#32
  let v436 : BitVec 32 := Scalar.muli v13 c2_i32_251
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v438 : BitVec 32 := Scalar.muli v8 c1_i32_252
  let v439 : BitVec 32 := Scalar.addi v437 v438
  v439.toNat
def k0_off7 (d0 : Dev nD) : Fin 3 → Nat :=
  let c4_i32_257 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v450 : BitVec 32 := Scalar.muli c4_i32_257 v10
  let c2_i32_258 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v451 : BitVec 32 := Scalar.muli c2_i32_258 v5
  let v452 : BitVec 32 := Scalar.addi v450 v451
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v453 : BitVec 32 := Scalar.addi v452 v8
  let c0_i32_265 : BitVec 32 := 0#32
  let c0_i32_266 : BitVec 32 := 0#32
  ![v453.toNat, 0, 0]
def k0_dev25 (d0 : Dev nD) : Nat :=
  let c0_i32_276 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_275 : BitVec 32 := 4#32
  let v474 : BitVec 32 := Scalar.muli v2 c4_i32_275
  let v475 : BitVec 32 := Scalar.addi c0_i32_276 v474
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_277 : BitVec 32 := 2#32
  let v476 : BitVec 32 := Scalar.muli v5 c2_i32_277
  let v477 : BitVec 32 := Scalar.addi v475 v476
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_278 : BitVec 32 := 1#32
  let v478 : BitVec 32 := Scalar.muli v9 c1_i32_278
  let v479 : BitVec 32 := Scalar.addi v477 v478
  v479.toNat
def k0_off8 (d0 : Dev nD) : Fin 3 → Nat :=
  let c4_i32_285 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v492 : BitVec 32 := Scalar.muli c4_i32_285 v10
  let c2_i32_286 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v493 : BitVec 32 := Scalar.muli c2_i32_286 v5
  let v494 : BitVec 32 := Scalar.addi v492 v493
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v495 : BitVec 32 := Scalar.addi v494 v8
  let c0_i32_293 : BitVec 32 := 0#32
  let c0_i32_294 : BitVec 32 := 0#32
  ![v495.toNat, 0, 0]
def k0_dev26 (d0 : Dev nD) : Nat :=
  let c0_i32_303 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_302 : BitVec 32 := 4#32
  let v516 : BitVec 32 := Scalar.muli v2 c4_i32_302
  let v517 : BitVec 32 := Scalar.addi c0_i32_303 v516
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_304 : BitVec 32 := 2#32
  let v518 : BitVec 32 := Scalar.muli v5 c2_i32_304
  let v519 : BitVec 32 := Scalar.addi v517 v518
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_305 : BitVec 32 := 1#32
  let v520 : BitVec 32 := Scalar.muli v9 c1_i32_305
  let v521 : BitVec 32 := Scalar.addi v519 v520
  v521.toNat
def k0_off9 (d0 : Dev nD) : Fin 3 → Nat :=
  let c4_i32_312 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v534 : BitVec 32 := Scalar.muli c4_i32_312 v10
  let c2_i32_313 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v535 : BitVec 32 := Scalar.muli c2_i32_313 v5
  let v536 : BitVec 32 := Scalar.addi v534 v535
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v537 : BitVec 32 := Scalar.addi v536 v8
  let c0_i32_320 : BitVec 32 := 0#32
  let c0_i32_321 : BitVec 32 := 0#32
  ![v537.toNat, 0, 0]
def k0_dev27 (d0 : Dev nD) : Nat :=
  let c0_i32_330 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_329 : BitVec 32 := 4#32
  let v558 : BitVec 32 := Scalar.muli v2 c4_i32_329
  let v559 : BitVec 32 := Scalar.addi c0_i32_330 v558
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_331 : BitVec 32 := 2#32
  let v560 : BitVec 32 := Scalar.muli v5 c2_i32_331
  let v561 : BitVec 32 := Scalar.addi v559 v560
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_332 : BitVec 32 := 1#32
  let v562 : BitVec 32 := Scalar.muli v9 c1_i32_332
  let v563 : BitVec 32 := Scalar.addi v561 v562
  v563.toNat
def k0_off10 (d0 : Dev nD) : Fin 3 → Nat :=
  let c4_i32_339 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v576 : BitVec 32 := Scalar.muli c4_i32_339 v10
  let c2_i32_340 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v577 : BitVec 32 := Scalar.muli c2_i32_340 v5
  let v578 : BitVec 32 := Scalar.addi v576 v577
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v579 : BitVec 32 := Scalar.addi v578 v8
  let c0_i32_347 : BitVec 32 := 0#32
  let c0_i32_348 : BitVec 32 := 0#32
  ![v579.toNat, 0, 0]
def k0_dev28 (d0 : Dev nD) : Nat :=
  let c0_i32_357 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_356 : BitVec 32 := 4#32
  let v600 : BitVec 32 := Scalar.muli v2 c4_i32_356
  let v601 : BitVec 32 := Scalar.addi c0_i32_357 v600
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_358 : BitVec 32 := 2#32
  let v602 : BitVec 32 := Scalar.muli v5 c2_i32_358
  let v603 : BitVec 32 := Scalar.addi v601 v602
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_359 : BitVec 32 := 1#32
  let v604 : BitVec 32 := Scalar.muli v9 c1_i32_359
  let v605 : BitVec 32 := Scalar.addi v603 v604
  v605.toNat
def k0_off11 (d0 : Dev nD) : Fin 3 → Nat :=
  let c4_i32_366 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v618 : BitVec 32 := Scalar.muli c4_i32_366 v10
  let c2_i32_367 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v619 : BitVec 32 := Scalar.muli c2_i32_367 v5
  let v620 : BitVec 32 := Scalar.addi v618 v619
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v621 : BitVec 32 := Scalar.addi v620 v8
  let c0_i32_374 : BitVec 32 := 0#32
  let c0_i32_375 : BitVec 32 := 0#32
  ![v621.toNat, 0, 0]
def k0_dev29 (d0 : Dev nD) : Nat :=
  let c0_i32_384 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_383 : BitVec 32 := 4#32
  let v642 : BitVec 32 := Scalar.muli v2 c4_i32_383
  let v643 : BitVec 32 := Scalar.addi c0_i32_384 v642
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_385 : BitVec 32 := 2#32
  let v644 : BitVec 32 := Scalar.muli v5 c2_i32_385
  let v645 : BitVec 32 := Scalar.addi v643 v644
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_386 : BitVec 32 := 1#32
  let v646 : BitVec 32 := Scalar.muli v9 c1_i32_386
  let v647 : BitVec 32 := Scalar.addi v645 v646
  v647.toNat
def k0_off12 (d0 : Dev nD) : Fin 3 → Nat :=
  let c4_i32_393 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v660 : BitVec 32 := Scalar.muli c4_i32_393 v10
  let c2_i32_394 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v661 : BitVec 32 := Scalar.muli c2_i32_394 v5
  let v662 : BitVec 32 := Scalar.addi v660 v661
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v663 : BitVec 32 := Scalar.addi v662 v8
  let c0_i32_401 : BitVec 32 := 0#32
  let c0_i32_402 : BitVec 32 := 0#32
  ![v663.toNat, 0, 0]
def k0_dev30 (d0 : Dev nD) : Nat :=
  let c0_i32_411 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_410 : BitVec 32 := 4#32
  let v684 : BitVec 32 := Scalar.muli v2 c4_i32_410
  let v685 : BitVec 32 := Scalar.addi c0_i32_411 v684
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_412 : BitVec 32 := 2#32
  let v686 : BitVec 32 := Scalar.muli v5 c2_i32_412
  let v687 : BitVec 32 := Scalar.addi v685 v686
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_413 : BitVec 32 := 1#32
  let v688 : BitVec 32 := Scalar.muli v9 c1_i32_413
  let v689 : BitVec 32 := Scalar.addi v687 v688
  v689.toNat
def k0_off13 (d0 : Dev nD) : Fin 3 → Nat :=
  let c4_i32_420 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v702 : BitVec 32 := Scalar.muli c4_i32_420 v2
  let c2_i32_421 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v703 : BitVec 32 := Scalar.muli c2_i32_421 v11
  let v704 : BitVec 32 := Scalar.addi v702 v703
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v705 : BitVec 32 := Scalar.addi v704 v8
  let c0_i32_428 : BitVec 32 := 0#32
  let c0_i32_429 : BitVec 32 := 0#32
  ![v705.toNat, 0, 0]
def k0_dev31 (d0 : Dev nD) : Nat :=
  let c0_i32_439 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_438 : BitVec 32 := 4#32
  let v726 : BitVec 32 := Scalar.muli v2 c4_i32_438
  let v727 : BitVec 32 := Scalar.addi c0_i32_439 v726
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_440 : BitVec 32 := 2#32
  let v728 : BitVec 32 := Scalar.muli v5 c2_i32_440
  let v729 : BitVec 32 := Scalar.addi v727 v728
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_441 : BitVec 32 := 1#32
  let v730 : BitVec 32 := Scalar.muli v9 c1_i32_441
  let v731 : BitVec 32 := Scalar.addi v729 v730
  v731.toNat
def k0_off14 (d0 : Dev nD) : Fin 3 → Nat :=
  let c4_i32_448 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v744 : BitVec 32 := Scalar.muli c4_i32_448 v2
  let c2_i32_449 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v745 : BitVec 32 := Scalar.muli c2_i32_449 v11
  let v746 : BitVec 32 := Scalar.addi v744 v745
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v747 : BitVec 32 := Scalar.addi v746 v8
  let c0_i32_456 : BitVec 32 := 0#32
  let c0_i32_457 : BitVec 32 := 0#32
  ![v747.toNat, 0, 0]
def k0_dev32 (d0 : Dev nD) : Nat :=
  let c0_i32_466 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_465 : BitVec 32 := 4#32
  let v768 : BitVec 32 := Scalar.muli v2 c4_i32_465
  let v769 : BitVec 32 := Scalar.addi c0_i32_466 v768
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_467 : BitVec 32 := 2#32
  let v770 : BitVec 32 := Scalar.muli v5 c2_i32_467
  let v771 : BitVec 32 := Scalar.addi v769 v770
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_468 : BitVec 32 := 1#32
  let v772 : BitVec 32 := Scalar.muli v9 c1_i32_468
  let v773 : BitVec 32 := Scalar.addi v771 v772
  v773.toNat
def k0_off15 (d0 : Dev nD) : Fin 3 → Nat :=
  let c4_i32_475 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v786 : BitVec 32 := Scalar.muli c4_i32_475 v2
  let c2_i32_476 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v787 : BitVec 32 := Scalar.muli c2_i32_476 v11
  let v788 : BitVec 32 := Scalar.addi v786 v787
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v789 : BitVec 32 := Scalar.addi v788 v8
  let c0_i32_483 : BitVec 32 := 0#32
  let c0_i32_484 : BitVec 32 := 0#32
  ![v789.toNat, 0, 0]
def k0_dev33 (d0 : Dev nD) : Nat :=
  let c0_i32_493 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_492 : BitVec 32 := 4#32
  let v810 : BitVec 32 := Scalar.muli v2 c4_i32_492
  let v811 : BitVec 32 := Scalar.addi c0_i32_493 v810
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_494 : BitVec 32 := 2#32
  let v812 : BitVec 32 := Scalar.muli v5 c2_i32_494
  let v813 : BitVec 32 := Scalar.addi v811 v812
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_495 : BitVec 32 := 1#32
  let v814 : BitVec 32 := Scalar.muli v9 c1_i32_495
  let v815 : BitVec 32 := Scalar.addi v813 v814
  v815.toNat
def k0_off16 (d0 : Dev nD) : Fin 3 → Nat :=
  let c4_i32_502 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v828 : BitVec 32 := Scalar.muli c4_i32_502 v2
  let c2_i32_503 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v829 : BitVec 32 := Scalar.muli c2_i32_503 v11
  let v830 : BitVec 32 := Scalar.addi v828 v829
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v831 : BitVec 32 := Scalar.addi v830 v8
  let c0_i32_510 : BitVec 32 := 0#32
  let c0_i32_511 : BitVec 32 := 0#32
  ![v831.toNat, 0, 0]
def k0_dev34 (d0 : Dev nD) : Nat :=
  let c0_i32_520 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_519 : BitVec 32 := 4#32
  let v852 : BitVec 32 := Scalar.muli v2 c4_i32_519
  let v853 : BitVec 32 := Scalar.addi c0_i32_520 v852
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_521 : BitVec 32 := 2#32
  let v854 : BitVec 32 := Scalar.muli v5 c2_i32_521
  let v855 : BitVec 32 := Scalar.addi v853 v854
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_522 : BitVec 32 := 1#32
  let v856 : BitVec 32 := Scalar.muli v9 c1_i32_522
  let v857 : BitVec 32 := Scalar.addi v855 v856
  v857.toNat
def k0_off17 (d0 : Dev nD) : Fin 3 → Nat :=
  let c4_i32_529 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v870 : BitVec 32 := Scalar.muli c4_i32_529 v2
  let c2_i32_530 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v871 : BitVec 32 := Scalar.muli c2_i32_530 v11
  let v872 : BitVec 32 := Scalar.addi v870 v871
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v873 : BitVec 32 := Scalar.addi v872 v8
  let c0_i32_537 : BitVec 32 := 0#32
  let c0_i32_538 : BitVec 32 := 0#32
  ![v873.toNat, 0, 0]
def k0_dev35 (d0 : Dev nD) : Nat :=
  let c0_i32_547 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_546 : BitVec 32 := 4#32
  let v894 : BitVec 32 := Scalar.muli v2 c4_i32_546
  let v895 : BitVec 32 := Scalar.addi c0_i32_547 v894
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_548 : BitVec 32 := 2#32
  let v896 : BitVec 32 := Scalar.muli v5 c2_i32_548
  let v897 : BitVec 32 := Scalar.addi v895 v896
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_549 : BitVec 32 := 1#32
  let v898 : BitVec 32 := Scalar.muli v9 c1_i32_549
  let v899 : BitVec 32 := Scalar.addi v897 v898
  v899.toNat
def k0_off18 (d0 : Dev nD) : Fin 3 → Nat :=
  let c4_i32_556 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v912 : BitVec 32 := Scalar.muli c4_i32_556 v2
  let c2_i32_557 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v913 : BitVec 32 := Scalar.muli c2_i32_557 v11
  let v914 : BitVec 32 := Scalar.addi v912 v913
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v915 : BitVec 32 := Scalar.addi v914 v8
  let c0_i32_564 : BitVec 32 := 0#32
  let c0_i32_565 : BitVec 32 := 0#32
  ![v915.toNat, 0, 0]
def k0_dev36 (d0 : Dev nD) : Nat :=
  let c0_i32_574 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_573 : BitVec 32 := 4#32
  let v936 : BitVec 32 := Scalar.muli v2 c4_i32_573
  let v937 : BitVec 32 := Scalar.addi c0_i32_574 v936
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_575 : BitVec 32 := 2#32
  let v938 : BitVec 32 := Scalar.muli v5 c2_i32_575
  let v939 : BitVec 32 := Scalar.addi v937 v938
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_576 : BitVec 32 := 1#32
  let v940 : BitVec 32 := Scalar.muli v9 c1_i32_576
  let v941 : BitVec 32 := Scalar.addi v939 v940
  v941.toNat
def k0_off19 (d0 : Dev nD) : Fin 3 → Nat :=
  let c4_i32_583 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v954 : BitVec 32 := Scalar.muli c4_i32_583 v12
  let c2_i32_584 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v955 : BitVec 32 := Scalar.muli c2_i32_584 v13
  let v956 : BitVec 32 := Scalar.addi v954 v955
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v957 : BitVec 32 := Scalar.addi v956 v8
  let c0_i32_591 : BitVec 32 := 0#32
  let c0_i32_592 : BitVec 32 := 0#32
  ![v957.toNat, 0, 0]
def k0_dev37 (d0 : Dev nD) : Nat :=
  let c0_i32_601 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_600 : BitVec 32 := 4#32
  let v978 : BitVec 32 := Scalar.muli v2 c4_i32_600
  let v979 : BitVec 32 := Scalar.addi c0_i32_601 v978
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_602 : BitVec 32 := 2#32
  let v980 : BitVec 32 := Scalar.muli v5 c2_i32_602
  let v981 : BitVec 32 := Scalar.addi v979 v980
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_603 : BitVec 32 := 1#32
  let v982 : BitVec 32 := Scalar.muli v9 c1_i32_603
  let v983 : BitVec 32 := Scalar.addi v981 v982
  v983.toNat
def k0_off20 (d0 : Dev nD) : Fin 3 → Nat :=
  let c4_i32_610 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v996 : BitVec 32 := Scalar.muli c4_i32_610 v12
  let c2_i32_611 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v997 : BitVec 32 := Scalar.muli c2_i32_611 v13
  let v998 : BitVec 32 := Scalar.addi v996 v997
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v999 : BitVec 32 := Scalar.addi v998 v8
  let c0_i32_618 : BitVec 32 := 0#32
  let c0_i32_619 : BitVec 32 := 0#32
  ![v999.toNat, 0, 0]
def k0_dev38 (d0 : Dev nD) : Nat :=
  let c0_i32_628 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_627 : BitVec 32 := 4#32
  let v1020 : BitVec 32 := Scalar.muli v2 c4_i32_627
  let v1021 : BitVec 32 := Scalar.addi c0_i32_628 v1020
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_629 : BitVec 32 := 2#32
  let v1022 : BitVec 32 := Scalar.muli v5 c2_i32_629
  let v1023 : BitVec 32 := Scalar.addi v1021 v1022
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_630 : BitVec 32 := 1#32
  let v1024 : BitVec 32 := Scalar.muli v9 c1_i32_630
  let v1025 : BitVec 32 := Scalar.addi v1023 v1024
  v1025.toNat
def k0_off21 (d0 : Dev nD) : Fin 3 → Nat :=
  let c4_i32_637 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1038 : BitVec 32 := Scalar.muli c4_i32_637 v12
  let c2_i32_638 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1039 : BitVec 32 := Scalar.muli c2_i32_638 v13
  let v1040 : BitVec 32 := Scalar.addi v1038 v1039
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1041 : BitVec 32 := Scalar.addi v1040 v8
  let c0_i32_645 : BitVec 32 := 0#32
  let c0_i32_646 : BitVec 32 := 0#32
  ![v1041.toNat, 0, 0]
def k0_dev39 (d0 : Dev nD) : Nat :=
  let c0_i32_655 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_654 : BitVec 32 := 4#32
  let v1062 : BitVec 32 := Scalar.muli v2 c4_i32_654
  let v1063 : BitVec 32 := Scalar.addi c0_i32_655 v1062
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_656 : BitVec 32 := 2#32
  let v1064 : BitVec 32 := Scalar.muli v5 c2_i32_656
  let v1065 : BitVec 32 := Scalar.addi v1063 v1064
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_657 : BitVec 32 := 1#32
  let v1066 : BitVec 32 := Scalar.muli v9 c1_i32_657
  let v1067 : BitVec 32 := Scalar.addi v1065 v1066
  v1067.toNat
def k0_off22 (d0 : Dev nD) : Fin 3 → Nat :=
  let c4_i32_664 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1080 : BitVec 32 := Scalar.muli c4_i32_664 v12
  let c2_i32_665 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1081 : BitVec 32 := Scalar.muli c2_i32_665 v13
  let v1082 : BitVec 32 := Scalar.addi v1080 v1081
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1083 : BitVec 32 := Scalar.addi v1082 v8
  let c0_i32_672 : BitVec 32 := 0#32
  let c0_i32_673 : BitVec 32 := 0#32
  ![v1083.toNat, 0, 0]
def k0_dev40 (d0 : Dev nD) : Nat :=
  let c0_i32_682 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_681 : BitVec 32 := 4#32
  let v1104 : BitVec 32 := Scalar.muli v2 c4_i32_681
  let v1105 : BitVec 32 := Scalar.addi c0_i32_682 v1104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_683 : BitVec 32 := 2#32
  let v1106 : BitVec 32 := Scalar.muli v5 c2_i32_683
  let v1107 : BitVec 32 := Scalar.addi v1105 v1106
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_684 : BitVec 32 := 1#32
  let v1108 : BitVec 32 := Scalar.muli v9 c1_i32_684
  let v1109 : BitVec 32 := Scalar.addi v1107 v1108
  v1109.toNat
def k0_off23 (d0 : Dev nD) : Fin 3 → Nat :=
  let c4_i32_691 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1122 : BitVec 32 := Scalar.muli c4_i32_691 v12
  let c2_i32_692 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1123 : BitVec 32 := Scalar.muli c2_i32_692 v13
  let v1124 : BitVec 32 := Scalar.addi v1122 v1123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1125 : BitVec 32 := Scalar.addi v1124 v8
  let c0_i32_699 : BitVec 32 := 0#32
  let c0_i32_700 : BitVec 32 := 0#32
  ![v1125.toNat, 0, 0]
def k0_dev41 (d0 : Dev nD) : Nat :=
  let c0_i32_709 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_708 : BitVec 32 := 4#32
  let v1146 : BitVec 32 := Scalar.muli v2 c4_i32_708
  let v1147 : BitVec 32 := Scalar.addi c0_i32_709 v1146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_710 : BitVec 32 := 2#32
  let v1148 : BitVec 32 := Scalar.muli v5 c2_i32_710
  let v1149 : BitVec 32 := Scalar.addi v1147 v1148
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_711 : BitVec 32 := 1#32
  let v1150 : BitVec 32 := Scalar.muli v9 c1_i32_711
  let v1151 : BitVec 32 := Scalar.addi v1149 v1150
  v1151.toNat
def k0_off24 (d0 : Dev nD) : Fin 3 → Nat :=
  let c4_i32_718 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1164 : BitVec 32 := Scalar.muli c4_i32_718 v12
  let c2_i32_719 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1165 : BitVec 32 := Scalar.muli c2_i32_719 v13
  let v1166 : BitVec 32 := Scalar.addi v1164 v1165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1167 : BitVec 32 := Scalar.addi v1166 v8
  let c0_i32_726 : BitVec 32 := 0#32
  let c0_i32_727 : BitVec 32 := 0#32
  ![v1167.toNat, 0, 0]
def k0_dev42 (d0 : Dev nD) : Nat :=
  let c0_i32_736 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_735 : BitVec 32 := 4#32
  let v1188 : BitVec 32 := Scalar.muli v2 c4_i32_735
  let v1189 : BitVec 32 := Scalar.addi c0_i32_736 v1188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_737 : BitVec 32 := 2#32
  let v1190 : BitVec 32 := Scalar.muli v5 c2_i32_737
  let v1191 : BitVec 32 := Scalar.addi v1189 v1190
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_738 : BitVec 32 := 1#32
  let v1192 : BitVec 32 := Scalar.muli v9 c1_i32_738
  let v1193 : BitVec 32 := Scalar.addi v1191 v1192
  v1193.toNat
def k0_off25 (d0 : Dev nD) : Fin 3 → Nat :=
  let c4_i32_745 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1206 : BitVec 32 := Scalar.muli c4_i32_745 v2
  let c2_i32_746 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1207 : BitVec 32 := Scalar.muli c2_i32_746 v5
  let v1208 : BitVec 32 := Scalar.addi v1206 v1207
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1209 : BitVec 32 := Scalar.addi v1208 v9
  let c0_i32_753 : BitVec 32 := 0#32
  let c0_i32_754 : BitVec 32 := 0#32
  ![v1209.toNat, 0, 0]
def k0_off26 (d0 : Dev nD) : Fin 3 → Nat :=
  let c4_i32_760 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1227 : BitVec 32 := Scalar.muli c4_i32_760 v10
  let c2_i32_761 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1228 : BitVec 32 := Scalar.muli c2_i32_761 v5
  let v1229 : BitVec 32 := Scalar.addi v1227 v1228
  let c1_i32_757 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1222 : BitVec 32 := Scalar.subi c1_i32_757 v8
  let v1230 : BitVec 32 := Scalar.addi v1229 v1222
  let c0_i32_768 : BitVec 32 := 0#32
  let c0_i32_769 : BitVec 32 := 0#32
  ![v1230.toNat, 0, 0]
def k0_off27 (d0 : Dev nD) : Fin 3 → Nat :=
  let c4_i32_775 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1248 : BitVec 32 := Scalar.muli c4_i32_775 v2
  let c2_i32_776 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1249 : BitVec 32 := Scalar.muli c2_i32_776 v11
  let v1250 : BitVec 32 := Scalar.addi v1248 v1249
  let c1_i32_772 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1243 : BitVec 32 := Scalar.subi c1_i32_772 v8
  let v1251 : BitVec 32 := Scalar.addi v1250 v1243
  let c0_i32_783 : BitVec 32 := 0#32
  let c0_i32_784 : BitVec 32 := 0#32
  ![v1251.toNat, 0, 0]
def k0_off28 (d0 : Dev nD) : Fin 3 → Nat :=
  let c4_i32_790 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1269 : BitVec 32 := Scalar.muli c4_i32_790 v12
  let c2_i32_791 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1270 : BitVec 32 := Scalar.muli c2_i32_791 v13
  let v1271 : BitVec 32 := Scalar.addi v1269 v1270
  let c1_i32_787 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1264 : BitVec 32 := Scalar.subi c1_i32_787 v8
  let v1272 : BitVec 32 := Scalar.addi v1271 v1264
  let c0_i32_798 : BitVec 32 := 0#32
  let c0_i32_799 : BitVec 32 := 0#32
  ![v1272.toNat, 0, 0]
def k0_off29 (d0 : Dev nD) : Fin 3 → Nat :=
  let c4_i32_804 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1289 : BitVec 32 := Scalar.muli c4_i32_804 v2
  let c2_i32_805 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1290 : BitVec 32 := Scalar.muli c2_i32_805 v5
  let v1291 : BitVec 32 := Scalar.addi v1289 v1290
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1292 : BitVec 32 := Scalar.addi v1291 v9
  let c0_i32_812 : BitVec 32 := 0#32
  let c0_i32_813 : BitVec 32 := 0#32
  ![v1292.toNat, 0, 0]
def k0_off30 (d0 : Dev nD) : Fin 3 → Nat :=
  let c4_i32_819 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1310 : BitVec 32 := Scalar.muli c4_i32_819 v10
  let c2_i32_820 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1311 : BitVec 32 := Scalar.muli c2_i32_820 v5
  let v1312 : BitVec 32 := Scalar.addi v1310 v1311
  let c1_i32_816 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1305 : BitVec 32 := Scalar.subi c1_i32_816 v8
  let v1313 : BitVec 32 := Scalar.addi v1312 v1305
  let c0_i32_827 : BitVec 32 := 0#32
  let c0_i32_828 : BitVec 32 := 0#32
  ![v1313.toNat, 0, 0]
def k0_off31 (d0 : Dev nD) : Fin 3 → Nat :=
  let c4_i32_834 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1331 : BitVec 32 := Scalar.muli c4_i32_834 v2
  let c2_i32_835 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1332 : BitVec 32 := Scalar.muli c2_i32_835 v11
  let v1333 : BitVec 32 := Scalar.addi v1331 v1332
  let c1_i32_831 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1326 : BitVec 32 := Scalar.subi c1_i32_831 v8
  let v1334 : BitVec 32 := Scalar.addi v1333 v1326
  let c0_i32_842 : BitVec 32 := 0#32
  let c0_i32_843 : BitVec 32 := 0#32
  ![v1334.toNat, 0, 0]
def k0_off32 (d0 : Dev nD) : Fin 3 → Nat :=
  let c4_i32_849 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1352 : BitVec 32 := Scalar.muli c4_i32_849 v12
  let c2_i32_850 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1353 : BitVec 32 := Scalar.muli c2_i32_850 v13
  let v1354 : BitVec 32 := Scalar.addi v1352 v1353
  let c1_i32_846 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1347 : BitVec 32 := Scalar.subi c1_i32_846 v8
  let v1355 : BitVec 32 := Scalar.addi v1354 v1347
  let c0_i32_857 : BitVec 32 := 0#32
  let c0_i32_858 : BitVec 32 := 0#32
  ![v1355.toNat, 0, 0]
def k0_off33 (d0 : Dev nD) : Fin 3 → Nat :=
  let c4_i32_863 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1372 : BitVec 32 := Scalar.muli c4_i32_863 v2
  let c2_i32_864 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1373 : BitVec 32 := Scalar.muli c2_i32_864 v5
  let v1374 : BitVec 32 := Scalar.addi v1372 v1373
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1375 : BitVec 32 := Scalar.addi v1374 v9
  let c0_i32_871 : BitVec 32 := 0#32
  let c0_i32_872 : BitVec 32 := 0#32
  ![v1375.toNat, 0, 0]
def k0_off34 (d0 : Dev nD) : Fin 3 → Nat :=
  let c4_i32_878 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1393 : BitVec 32 := Scalar.muli c4_i32_878 v10
  let c2_i32_879 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1394 : BitVec 32 := Scalar.muli c2_i32_879 v5
  let v1395 : BitVec 32 := Scalar.addi v1393 v1394
  let c1_i32_875 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1388 : BitVec 32 := Scalar.subi c1_i32_875 v8
  let v1396 : BitVec 32 := Scalar.addi v1395 v1388
  let c0_i32_886 : BitVec 32 := 0#32
  let c0_i32_887 : BitVec 32 := 0#32
  ![v1396.toNat, 0, 0]
def k0_off35 (d0 : Dev nD) : Fin 3 → Nat :=
  let c4_i32_893 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1414 : BitVec 32 := Scalar.muli c4_i32_893 v2
  let c2_i32_894 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1415 : BitVec 32 := Scalar.muli c2_i32_894 v11
  let v1416 : BitVec 32 := Scalar.addi v1414 v1415
  let c1_i32_890 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1409 : BitVec 32 := Scalar.subi c1_i32_890 v8
  let v1417 : BitVec 32 := Scalar.addi v1416 v1409
  let c0_i32_901 : BitVec 32 := 0#32
  let c0_i32_902 : BitVec 32 := 0#32
  ![v1417.toNat, 0, 0]
def k0_off36 (d0 : Dev nD) : Fin 3 → Nat :=
  let c4_i32_908 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1435 : BitVec 32 := Scalar.muli c4_i32_908 v12
  let c2_i32_909 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1436 : BitVec 32 := Scalar.muli c2_i32_909 v13
  let v1437 : BitVec 32 := Scalar.addi v1435 v1436
  let c1_i32_905 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1430 : BitVec 32 := Scalar.subi c1_i32_905 v8
  let v1438 : BitVec 32 := Scalar.addi v1437 v1430
  let c0_i32_916 : BitVec 32 := 0#32
  let c0_i32_917 : BitVec 32 := 0#32
  ![v1438.toNat, 0, 0]
def k0_off37 (d0 : Dev nD) : Fin 3 → Nat :=
  let c4_i32_922 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1455 : BitVec 32 := Scalar.muli c4_i32_922 v2
  let c2_i32_923 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1456 : BitVec 32 := Scalar.muli c2_i32_923 v5
  let v1457 : BitVec 32 := Scalar.addi v1455 v1456
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1458 : BitVec 32 := Scalar.addi v1457 v9
  let c0_i32_930 : BitVec 32 := 0#32
  let c0_i32_931 : BitVec 32 := 0#32
  ![v1458.toNat, 0, 0]
def k0_off38 (d0 : Dev nD) : Fin 3 → Nat :=
  let c4_i32_937 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1476 : BitVec 32 := Scalar.muli c4_i32_937 v10
  let c2_i32_938 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1477 : BitVec 32 := Scalar.muli c2_i32_938 v5
  let v1478 : BitVec 32 := Scalar.addi v1476 v1477
  let c1_i32_934 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1471 : BitVec 32 := Scalar.subi c1_i32_934 v8
  let v1479 : BitVec 32 := Scalar.addi v1478 v1471
  let c0_i32_945 : BitVec 32 := 0#32
  let c0_i32_946 : BitVec 32 := 0#32
  ![v1479.toNat, 0, 0]
def k0_off39 (d0 : Dev nD) : Fin 3 → Nat :=
  let c4_i32_952 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1497 : BitVec 32 := Scalar.muli c4_i32_952 v2
  let c2_i32_953 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1498 : BitVec 32 := Scalar.muli c2_i32_953 v11
  let v1499 : BitVec 32 := Scalar.addi v1497 v1498
  let c1_i32_949 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1492 : BitVec 32 := Scalar.subi c1_i32_949 v8
  let v1500 : BitVec 32 := Scalar.addi v1499 v1492
  let c0_i32_960 : BitVec 32 := 0#32
  let c0_i32_961 : BitVec 32 := 0#32
  ![v1500.toNat, 0, 0]
def k0_off40 (d0 : Dev nD) : Fin 3 → Nat :=
  let c4_i32_967 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1518 : BitVec 32 := Scalar.muli c4_i32_967 v12
  let c2_i32_968 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1519 : BitVec 32 := Scalar.muli c2_i32_968 v13
  let v1520 : BitVec 32 := Scalar.addi v1518 v1519
  let c1_i32_964 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1513 : BitVec 32 := Scalar.subi c1_i32_964 v8
  let v1521 : BitVec 32 := Scalar.addi v1520 v1513
  let c0_i32_975 : BitVec 32 := 0#32
  let c0_i32_976 : BitVec 32 := 0#32
  ![v1521.toNat, 0, 0]
def k0_off41 (d0 : Dev nD) : Fin 3 → Nat :=
  let c4_i32_981 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1538 : BitVec 32 := Scalar.muli c4_i32_981 v2
  let c2_i32_982 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1539 : BitVec 32 := Scalar.muli c2_i32_982 v5
  let v1540 : BitVec 32 := Scalar.addi v1538 v1539
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1541 : BitVec 32 := Scalar.addi v1540 v9
  let c0_i32_989 : BitVec 32 := 0#32
  let c0_i32_990 : BitVec 32 := 0#32
  ![v1541.toNat, 0, 0]
def k0_off42 (d0 : Dev nD) : Fin 3 → Nat :=
  let c4_i32_996 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1559 : BitVec 32 := Scalar.muli c4_i32_996 v10
  let c2_i32_997 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1560 : BitVec 32 := Scalar.muli c2_i32_997 v5
  let v1561 : BitVec 32 := Scalar.addi v1559 v1560
  let c1_i32_993 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1554 : BitVec 32 := Scalar.subi c1_i32_993 v8
  let v1562 : BitVec 32 := Scalar.addi v1561 v1554
  let c0_i32_1004 : BitVec 32 := 0#32
  let c0_i32_1005 : BitVec 32 := 0#32
  ![v1562.toNat, 0, 0]
def k0_off43 (d0 : Dev nD) : Fin 3 → Nat :=
  let c4_i32_1011 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1580 : BitVec 32 := Scalar.muli c4_i32_1011 v2
  let c2_i32_1012 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1581 : BitVec 32 := Scalar.muli c2_i32_1012 v11
  let v1582 : BitVec 32 := Scalar.addi v1580 v1581
  let c1_i32_1008 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1575 : BitVec 32 := Scalar.subi c1_i32_1008 v8
  let v1583 : BitVec 32 := Scalar.addi v1582 v1575
  let c0_i32_1019 : BitVec 32 := 0#32
  let c0_i32_1020 : BitVec 32 := 0#32
  ![v1583.toNat, 0, 0]
def k0_off44 (d0 : Dev nD) : Fin 3 → Nat :=
  let c4_i32_1026 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1601 : BitVec 32 := Scalar.muli c4_i32_1026 v12
  let c2_i32_1027 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1602 : BitVec 32 := Scalar.muli c2_i32_1027 v13
  let v1603 : BitVec 32 := Scalar.addi v1601 v1602
  let c1_i32_1023 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1596 : BitVec 32 := Scalar.subi c1_i32_1023 v8
  let v1604 : BitVec 32 := Scalar.addi v1603 v1596
  let c0_i32_1034 : BitVec 32 := 0#32
  let c0_i32_1035 : BitVec 32 := 0#32
  ![v1604.toNat, 0, 0]
def k0_off45 (d0 : Dev nD) : Fin 3 → Nat :=
  let c4_i32_1040 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1621 : BitVec 32 := Scalar.muli c4_i32_1040 v2
  let c2_i32_1041 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1622 : BitVec 32 := Scalar.muli c2_i32_1041 v5
  let v1623 : BitVec 32 := Scalar.addi v1621 v1622
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1624 : BitVec 32 := Scalar.addi v1623 v9
  let c0_i32_1048 : BitVec 32 := 0#32
  let c0_i32_1049 : BitVec 32 := 0#32
  ![v1624.toNat, 0, 0]
def k0_off46 (d0 : Dev nD) : Fin 3 → Nat :=
  let c4_i32_1055 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1642 : BitVec 32 := Scalar.muli c4_i32_1055 v10
  let c2_i32_1056 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1643 : BitVec 32 := Scalar.muli c2_i32_1056 v5
  let v1644 : BitVec 32 := Scalar.addi v1642 v1643
  let c1_i32_1052 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1637 : BitVec 32 := Scalar.subi c1_i32_1052 v8
  let v1645 : BitVec 32 := Scalar.addi v1644 v1637
  let c0_i32_1063 : BitVec 32 := 0#32
  let c0_i32_1064 : BitVec 32 := 0#32
  ![v1645.toNat, 0, 0]
def k0_off47 (d0 : Dev nD) : Fin 3 → Nat :=
  let c4_i32_1070 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1663 : BitVec 32 := Scalar.muli c4_i32_1070 v2
  let c2_i32_1071 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1664 : BitVec 32 := Scalar.muli c2_i32_1071 v11
  let v1665 : BitVec 32 := Scalar.addi v1663 v1664
  let c1_i32_1067 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1658 : BitVec 32 := Scalar.subi c1_i32_1067 v8
  let v1666 : BitVec 32 := Scalar.addi v1665 v1658
  let c0_i32_1078 : BitVec 32 := 0#32
  let c0_i32_1079 : BitVec 32 := 0#32
  ![v1666.toNat, 0, 0]
def k0_off48 (d0 : Dev nD) : Fin 3 → Nat :=
  let c4_i32_1085 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1684 : BitVec 32 := Scalar.muli c4_i32_1085 v12
  let c2_i32_1086 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1685 : BitVec 32 := Scalar.muli c2_i32_1086 v13
  let v1686 : BitVec 32 := Scalar.addi v1684 v1685
  let c1_i32_1082 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1679 : BitVec 32 := Scalar.subi c1_i32_1082 v8
  let v1687 : BitVec 32 := Scalar.addi v1686 v1679
  let c0_i32_1093 : BitVec 32 := 0#32
  let c0_i32_1094 : BitVec 32 := 0#32
  ![v1687.toNat, 0, 0]
-- ==== WeightsRef.lean ====
abbrev S2048x1024 : Shape := ⟨2, ![2048, 1024]⟩
abbrev S256x768 : Shape := ⟨2, ![256, 768]⟩
abbrev S1024x1024 : Shape := ⟨2, ![1024, 1024]⟩
abbrev S5632x1024 : Shape := ⟨2, ![5632, 1024]⟩
abbrev S2816x1024 : Shape := ⟨2, ![2816, 1024]⟩
abbrev S64x704 : Shape := ⟨2, ![64, 704]⟩
abbrev S8x256x1024 : Shape := ⟨3, ![8, 256, 1024]⟩
abbrev S8x32x768 : Shape := ⟨3, ![8, 32, 768]⟩
abbrev S8x128x1024 : Shape := ⟨3, ![8, 128, 1024]⟩
abbrev S8x704x1024 : Shape := ⟨3, ![8, 704, 1024]⟩
abbrev S8x352x1024 : Shape := ⟨3, ![8, 352, 1024]⟩
abbrev S8x8x704 : Shape := ⟨3, ![8, 8, 704]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x768, .bf16⟩
  | .hbm, ⟨2, _⟩ => ⟨S1024x1024, .bf16⟩
  | .hbm, ⟨3, _⟩ => ⟨S5632x1024, .bf16⟩
  | .hbm, ⟨4, _⟩ => ⟨S2816x1024, .bf16⟩
  | .hbm, ⟨5, _⟩ => ⟨S64x704, .f32⟩
  | .hbm, ⟨6, _⟩ => ⟨S8x256x1024, .bf16⟩
  | .hbm, ⟨7, _⟩ => ⟨S8x32x768, .bf16⟩
  | .hbm, ⟨8, _⟩ => ⟨S8x128x1024, .bf16⟩
  | .hbm, ⟨9, _⟩ => ⟨S8x704x1024, .bf16⟩
  | .hbm, ⟨10, _⟩ => ⟨S8x352x1024, .bf16⟩
  | .hbm, ⟨11, _⟩ => ⟨S8x8x704, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Small.lean ====
abbrev S144x1024 : Shape := ⟨2, ![144, 1024]⟩
abbrev S8x704 : Shape := ⟨2, ![8, 704]⟩
abbrev S8x144x1024 : Shape := ⟨3, ![8, 144, 1024]⟩
abbrev S8x8x704 : Shape := ⟨3, ![8, 8, 704]⟩
abbrev S14 : Shape := ⟨1, ![14]⟩
abbrev S2 : Shape := ⟨1, ![2]⟩
abbrev S1 : Shape := ⟨1, ![1]⟩
abbrev S_ : Shape := ⟨0, ![]⟩
abbrev S1x144x1024 : Shape := ⟨3, ![1, 144, 1024]⟩
abbrev S1x8x704 : Shape := ⟨3, ![1, 8, 704]⟩

abbrev nBuf : Space → Nat
  | .hbm => 4
  | .vmem => 0
  | .smem => 0
  | _ => 0

abbrev bufTy : (tb : Table) → Fin (tcTables nBuf tb) → BufTy
  | .hbm, ⟨0, _⟩ => ⟨S144x1024, .f32⟩
  | .hbm, ⟨1, _⟩ => ⟨S8x704, .f32⟩
  | .hbm, ⟨2, _⟩ => ⟨S8x144x1024, .f32⟩
  | .hbm, ⟨3, _⟩ => ⟨S8x8x704, .f32⟩
  | _, _ => ⟨S144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_12 : BitVec 32 := 0#32
  let c0_i32_13 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_15 : BitVec 32 := 0#32
  let c0_i32_16 : BitVec 32 := 0#32
  ![v21.toNat, 0, 0]
def k0_dev1 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v62 : BitVec 32 := Scalar.muli v2 c4_i32_35
  let v63 : BitVec 32 := Scalar.addi c0_i32_36 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v64 : BitVec 32 := Scalar.muli v5 c2_i32_37
  let v65 : BitVec 32 := Scalar.addi v63 v64
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_38 : BitVec 32 := 1#32
  let v66 : BitVec 32 := Scalar.muli v9 c1_i32_38
  let v67 : BitVec 32 := Scalar.addi v65 v66
  v67.toNat
def k0_dev2 (d0 : Dev nD) : Nat :=
  let c0_i32_44 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_43 : BitVec 32 := 4#32
  let v74 : BitVec 32 := Scalar.muli v10 c4_i32_43
  let v75 : BitVec 32 := Scalar.addi c0_i32_44 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v76 : BitVec 32 := Scalar.muli v5 c2_i32_45
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v78 : BitVec 32 := Scalar.muli v8 c1_i32_46
  let v79 : BitVec 32 := Scalar.addi v77 v78
  v79.toNat
def k0_dev3 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v86 : BitVec 32 := Scalar.muli v2 c4_i32_51
  let v87 : BitVec 32 := Scalar.addi c0_i32_52 v86
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_53 : BitVec 32 := 2#32
  let v88 : BitVec 32 := Scalar.muli v11 c2_i32_53
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v90 : BitVec 32 := Scalar.muli v8 c1_i32_54
  let v91 : BitVec 32 := Scalar.addi v89 v90
  v91.toNat
def k0_dev4 (d0 : Dev nD) : Nat :=
  let c0_i32_59 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_58 : BitVec 32 := 4#32
  let v98 : BitVec 32 := Scalar.muli v12 c4_i32_58
  let v99 : BitVec 32 := Scalar.addi c0_i32_59 v98
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_60 : BitVec 32 := 2#32
  let v100 : BitVec 32 := Scalar.muli v13 c2_i32_60
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v102 : BitVec 32 := Scalar.muli v8 c1_i32_61
  let v103 : BitVec 32 := Scalar.addi v101 v102
  v103.toNat
def k0_dev5 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v110 : BitVec 32 := Scalar.muli v2 c4_i32_65
  let v111 : BitVec 32 := Scalar.addi c0_i32_66 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v112 : BitVec 32 := Scalar.muli v5 c2_i32_67
  let v113 : BitVec 32 := Scalar.addi v111 v112
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_68 : BitVec 32 := 1#32
  let v114 : BitVec 32 := Scalar.muli v9 c1_i32_68
  let v115 : BitVec 32 := Scalar.addi v113 v114
  v115.toNat
def k0_dev6 (d0 : Dev nD) : Nat :=
  let c0_i32_73 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_72 : BitVec 32 := 4#32
  let v122 : BitVec 32 := Scalar.muli v10 c4_i32_72
  let v123 : BitVec 32 := Scalar.addi c0_i32_73 v122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v124 : BitVec 32 := Scalar.muli v5 c2_i32_74
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v126 : BitVec 32 := Scalar.muli v8 c1_i32_75
  let v127 : BitVec 32 := Scalar.addi v125 v126
  v127.toNat
def k0_dev7 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v134 : BitVec 32 := Scalar.muli v2 c4_i32_79
  let v135 : BitVec 32 := Scalar.addi c0_i32_80 v134
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_81 : BitVec 32 := 2#32
  let v136 : BitVec 32 := Scalar.muli v11 c2_i32_81
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v138 : BitVec 32 := Scalar.muli v8 c1_i32_82
  let v139 : BitVec 32 := Scalar.addi v137 v138
  v139.toNat
def k0_dev8 (d0 : Dev nD) : Nat :=
  let c0_i32_87 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_86 : BitVec 32 := 4#32
  let v146 : BitVec 32 := Scalar.muli v12 c4_i32_86
  let v147 : BitVec 32 := Scalar.addi c0_i32_87 v146
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_88 : BitVec 32 := 2#32
  let v148 : BitVec 32 := Scalar.muli v13 c2_i32_88
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v150 : BitVec 32 := Scalar.muli v8 c1_i32_89
  let v151 : BitVec 32 := Scalar.addi v149 v150
  v151.toNat
def k0_off3 (d0 : Dev nD) : Fin 3 → Nat :=
  let c4_i32_94 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v162 : BitVec 32 := Scalar.muli c4_i32_94 v10
  let c2_i32_95 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v163 : BitVec 32 := Scalar.muli c2_i32_95 v5
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v165 : BitVec 32 := Scalar.addi v164 v8
  let c0_i32_102 : BitVec 32 := 0#32
  let c0_i32_103 : BitVec 32 := 0#32
  ![v165.toNat, 0, 0]
def k0_dev9 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_112 : BitVec 32 := 4#32
  let v186 : BitVec 32 := Scalar.muli v2 c4_i32_112
  let v187 : BitVec 32 := Scalar.addi c0_i32_113 v186
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v188 : BitVec 32 := Scalar.muli v5 c2_i32_114
  let v189 : BitVec 32 := Scalar.addi v187 v188
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_115 : BitVec 32 := 1#32
  let v190 : BitVec 32 := Scalar.muli v9 c1_i32_115
  let v191 : BitVec 32 := Scalar.addi v189 v190
  v191.toNat
def k0_off4 (d0 : Dev nD) : Fin 3 → Nat :=
  let c4_i32_122 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v204 : BitVec 32 := Scalar.muli c4_i32_122 v10
  let c2_i32_123 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v205 : BitVec 32 := Scalar.muli c2_i32_123 v5
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v207 : BitVec 32 := Scalar.addi v206 v8
  let c0_i32_130 : BitVec 32 := 0#32
  let c0_i32_131 : BitVec 32 := 0#32
  ![v207.toNat, 0, 0]
def k0_dev10 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_139 : BitVec 32 := 4#32
  let v228 : BitVec 32 := Scalar.muli v2 c4_i32_139
  let v229 : BitVec 32 := Scalar.addi c0_i32_140 v228
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v230 : BitVec 32 := Scalar.muli v5 c2_i32_141
  let v231 : BitVec 32 := Scalar.addi v229 v230
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_142 : BitVec 32 := 1#32
  let v232 : BitVec 32 := Scalar.muli v9 c1_i32_142
  let v233 : BitVec 32 := Scalar.addi v231 v232
  v233.toNat
def k0_off5 (d0 : Dev nD) : Fin 3 → Nat :=
  let c4_i32_149 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v246 : BitVec 32 := Scalar.muli c4_i32_149 v2
  let c2_i32_150 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v247 : BitVec 32 := Scalar.muli c2_i32_150 v11
  let v248 : BitVec 32 := Scalar.addi v246 v247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v249 : BitVec 32 := Scalar.addi v248 v8
  let c0_i32_157 : BitVec 32 := 0#32
  let c0_i32_158 : BitVec 32 := 0#32
  ![v249.toNat, 0, 0]
def k0_dev11 (d0 : Dev nD) : Nat :=
  let c0_i32_167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_166 : BitVec 32 := 4#32
  let v270 : BitVec 32 := Scalar.muli v2 c4_i32_166
  let v271 : BitVec 32 := Scalar.addi c0_i32_167 v270
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_168 : BitVec 32 := 2#32
  let v272 : BitVec 32 := Scalar.muli v5 c2_i32_168
  let v273 : BitVec 32 := Scalar.addi v271 v272
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_169 : BitVec 32 := 1#32
  let v274 : BitVec 32 := Scalar.muli v9 c1_i32_169
  let v275 : BitVec 32 := Scalar.addi v273 v274
  v275.toNat
def k0_off6 (d0 : Dev nD) : Fin 3 → Nat :=
  let c4_i32_176 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v288 : BitVec 32 := Scalar.muli c4_i32_176 v2
  let c2_i32_177 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v289 : BitVec 32 := Scalar.muli c2_i32_177 v11
  let v290 : BitVec 32 := Scalar.addi v288 v289
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v291 : BitVec 32 := Scalar.addi v290 v8
  let c0_i32_184 : BitVec 32 := 0#32
  let c0_i32_185 : BitVec 32 := 0#32
  ![v291.toNat, 0, 0]
def k0_dev12 (d0 : Dev nD) : Nat :=
  let c0_i32_194 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_193 : BitVec 32 := 4#32
  let v312 : BitVec 32 := Scalar.muli v2 c4_i32_193
  let v313 : BitVec 32 := Scalar.addi c0_i32_194 v312
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_195 : BitVec 32 := 2#32
  let v314 : BitVec 32 := Scalar.muli v5 c2_i32_195
  let v315 : BitVec 32 := Scalar.addi v313 v314
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_196 : BitVec 32 := 1#32
  let v316 : BitVec 32 := Scalar.muli v9 c1_i32_196
  let v317 : BitVec 32 := Scalar.addi v315 v316
  v317.toNat
def k0_off7 (d0 : Dev nD) : Fin 3 → Nat :=
  let c4_i32_203 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v330 : BitVec 32 := Scalar.muli c4_i32_203 v12
  let c2_i32_204 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v331 : BitVec 32 := Scalar.muli c2_i32_204 v13
  let v332 : BitVec 32 := Scalar.addi v330 v331
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v333 : BitVec 32 := Scalar.addi v332 v8
  let c0_i32_211 : BitVec 32 := 0#32
  let c0_i32_212 : BitVec 32 := 0#32
  ![v333.toNat, 0, 0]
def k0_dev13 (d0 : Dev nD) : Nat :=
  let c0_i32_221 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_220 : BitVec 32 := 4#32
  let v354 : BitVec 32 := Scalar.muli v2 c4_i32_220
  let v355 : BitVec 32 := Scalar.addi c0_i32_221 v354
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_222 : BitVec 32 := 2#32
  let v356 : BitVec 32 := Scalar.muli v5 c2_i32_222
  let v357 : BitVec 32 := Scalar.addi v355 v356
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_223 : BitVec 32 := 1#32
  let v358 : BitVec 32 := Scalar.muli v9 c1_i32_223
  let v359 : BitVec 32 := Scalar.addi v357 v358
  v359.toNat
def k0_off8 (d0 : Dev nD) : Fin 3 → Nat :=
  let c4_i32_230 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v372 : BitVec 32 := Scalar.muli c4_i32_230 v12
  let c2_i32_231 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v373 : BitVec 32 := Scalar.muli c2_i32_231 v13
  let v374 : BitVec 32 := Scalar.addi v372 v373
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v375 : BitVec 32 := Scalar.addi v374 v8
  let c0_i32_238 : BitVec 32 := 0#32
  let c0_i32_239 : BitVec 32 := 0#32
  ![v375.toNat, 0, 0]
def k0_dev14 (d0 : Dev nD) : Nat :=
  let c0_i32_248 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_247 : BitVec 32 := 4#32
  let v396 : BitVec 32 := Scalar.muli v2 c4_i32_247
  let v397 : BitVec 32 := Scalar.addi c0_i32_248 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_249 : BitVec 32 := 2#32
  let v398 : BitVec 32 := Scalar.muli v5 c2_i32_249
  let v399 : BitVec 32 := Scalar.addi v397 v398
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_250 : BitVec 32 := 1#32
  let v400 : BitVec 32 := Scalar.muli v9 c1_i32_250
  let v401 : BitVec 32 := Scalar.addi v399 v400
  v401.toNat
def k0_off9 (d0 : Dev nD) : Fin 3 → Nat :=
  let c4_i32_257 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v414 : BitVec 32 := Scalar.muli c4_i32_257 v2
  let c2_i32_258 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v415 : BitVec 32 := Scalar.muli c2_i32_258 v5
  let v416 : BitVec 32 := Scalar.addi v414 v415
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v417 : BitVec 32 := Scalar.addi v416 v9
  let c0_i32_265 : BitVec 32 := 0#32
  let c0_i32_266 : BitVec 32 := 0#32
  ![v417.toNat, 0, 0]
def k0_off10 (d0 : Dev nD) : Fin 3 → Nat :=
  let c4_i32_272 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v435 : BitVec 32 := Scalar.muli c4_i32_272 v10
  let c2_i32_273 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v436 : BitVec 32 := Scalar.muli c2_i32_273 v5
  let v437 : BitVec 32 := Scalar.addi v435 v436
  let c1_i32_269 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v430 : BitVec 32 := Scalar.subi c1_i32_269 v8
  let v438 : BitVec 32 := Scalar.addi v437 v430
  let c0_i32_280 : BitVec 32 := 0#32
  let c0_i32_281 : BitVec 32 := 0#32
  ![v438.toNat, 0, 0]
def k0_off11 (d0 : Dev nD) : Fin 3 → Nat :=
  let c4_i32_287 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v456 : BitVec 32 := Scalar.muli c4_i32_287 v2
  let c2_i32_288 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v457 : BitVec 32 := Scalar.muli c2_i32_288 v11
  let v458 : BitVec 32 := Scalar.addi v456 v457
  let c1_i32_284 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v451 : BitVec 32 := Scalar.subi c1_i32_284 v8
  let v459 : BitVec 32 := Scalar.addi v458 v451
  let c0_i32_295 : BitVec 32 := 0#32
  let c0_i32_296 : BitVec 32 := 0#32
  ![v459.toNat, 0, 0]
def k0_off12 (d0 : Dev nD) : Fin 3 → Nat :=
  let c4_i32_302 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v477 : BitVec 32 := Scalar.muli c4_i32_302 v12
  let c2_i32_303 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v478 : BitVec 32 := Scalar.muli c2_i32_303 v13
  let v479 : BitVec 32 := Scalar.addi v477 v478
  let c1_i32_299 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v472 : BitVec 32 := Scalar.subi c1_i32_299 v8
  let v480 : BitVec 32 := Scalar.addi v479 v472
  let c0_i32_310 : BitVec 32 := 0#32
  let c0_i32_311 : BitVec 32 := 0#32
  ![v480.toNat, 0, 0]
def k0_off13 (d0 : Dev nD) : Fin 3 → Nat :=
  let c4_i32_316 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v497 : BitVec 32 := Scalar.muli c4_i32_316 v2
  let c2_i32_317 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v498 : BitVec 32 := Scalar.muli c2_i32_317 v5
  let v499 : BitVec 32 := Scalar.addi v497 v498
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v500 : BitVec 32 := Scalar.addi v499 v9
  let c0_i32_324 : BitVec 32 := 0#32
  let c0_i32_325 : BitVec 32 := 0#32
  ![v500.toNat, 0, 0]
def k0_off14 (d0 : Dev nD) : Fin 3 → Nat :=
  let c4_i32_331 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v518 : BitVec 32 := Scalar.muli c4_i32_331 v10
  let c2_i32_332 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v519 : BitVec 32 := Scalar.muli c2_i32_332 v5
  let v520 : BitVec 32 := Scalar.addi v518 v519
  let c1_i32_328 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v513 : BitVec 32 := Scalar.subi c1_i32_328 v8
  let v521 : BitVec 32 := Scalar.addi v520 v513
  let c0_i32_339 : BitVec 32 := 0#32
  let c0_i32_340 : BitVec 32 := 0#32
  ![v521.toNat, 0, 0]
def k0_off15 (d0 : Dev nD) : Fin 3 → Nat :=
  let c4_i32_346 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v539 : BitVec 32 := Scalar.muli c4_i32_346 v2
  let c2_i32_347 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v540 : BitVec 32 := Scalar.muli c2_i32_347 v11
  let v541 : BitVec 32 := Scalar.addi v539 v540
  let c1_i32_343 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v534 : BitVec 32 := Scalar.subi c1_i32_343 v8
  let v542 : BitVec 32 := Scalar.addi v541 v534
  let c0_i32_354 : BitVec 32 := 0#32
  let c0_i32_355 : BitVec 32 := 0#32
  ![v542.toNat, 0, 0]
def k0_off16 (d0 : Dev nD) : Fin 3 → Nat :=
  let c4_i32_361 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v560 : BitVec 32 := Scalar.muli c4_i32_361 v12
  let c2_i32_362 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v561 : BitVec 32 := Scalar.muli c2_i32_362 v13
  let v562 : BitVec 32 := Scalar.addi v560 v561
  let c1_i32_358 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v555 : BitVec 32 := Scalar.subi c1_i32_358 v8
  let v563 : BitVec 32 := Scalar.addi v562 v555
  let c0_i32_369 : BitVec 32 := 0#32
  let c0_i32_370 : BitVec 32 := 0#32
  ![v563.toNat, 0, 0]
-- ==== SmallRef.lean ====
abbrev S1152x1024 : Shape := ⟨2, ![1152, 1024]⟩
abbrev S64x704 : Shape := ⟨2, ![64, 704]⟩
abbrev S8x144x1024 : Shape := ⟨3, ![8, 144, 1024]⟩
abbrev S8x8x704 : Shape := ⟨3, ![8, 8, 704]⟩

abbrev nBuf : Space → Nat
  | .hbm => 4
  | .vmem => 0
  | .smem => 0
  | _ => 0

abbrev bufTy : (tb : Table) → Fin (tcTables nBuf tb) → BufTy
  | .hbm, ⟨0, _⟩ => ⟨S1152x1024, .f32⟩
  | .hbm, ⟨1, _⟩ => ⟨S64x704, .f32⟩
  | .hbm, ⟨2, _⟩ => ⟨S8x144x1024, .f32⟩
  | .hbm, ⟨3, _⟩ => ⟨S8x8x704, .f32⟩
  | _, _ => ⟨S1152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Down.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownRefIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Uq.lean ====
abbrev S8x32x768 : Shape := ⟨3, ![8, 32, 768]⟩
abbrev S32x768 : Shape := ⟨2, ![32, 768]⟩
abbrev S1x32x768 : Shape := ⟨3, ![1, 32, 768]⟩

abbrev nBuf : Space → Nat
  | .hbm => 8
  | .vmem => 8
  | .smem => 0
  | _ => 0

abbrev bufTy : (tb : Table) → Fin (tcTables nBuf tb) → BufTy
  | .hbm, ⟨0, _⟩ => ⟨S8x32x768, .bf16⟩
  | .hbm, ⟨1, _⟩ => ⟨S32x768, .f32⟩
  | .hbm, ⟨2, _⟩ => ⟨S32x768, .f32⟩
  | .hbm, ⟨3, _⟩ => ⟨S32x768, .f32⟩
  | .hbm, ⟨4, _⟩ => ⟨S32x768, .f32⟩
  | .hbm, ⟨5, _⟩ => ⟨S32x768, .f32⟩
  | .hbm, ⟨6, _⟩ => ⟨S32x768, .f32⟩
  | .hbm, ⟨7, _⟩ => ⟨S32x768, .f32⟩
  | .local _ .vmem, ⟨0, _⟩ => ⟨S8x32x768, .bf16⟩
  | .local _ .vmem, ⟨1, _⟩ => ⟨S32x768, .f32⟩
  | .local _ .vmem, ⟨2, _⟩ => ⟨S32x768, .f32⟩
  | .local _ .vmem, ⟨3, _⟩ => ⟨S32x768, .f32⟩
  | .local _ .vmem, ⟨4, _⟩ => ⟨S32x768, .f32⟩
  | .local _ .vmem, ⟨5, _⟩ => ⟨S32x768, .f32⟩
  | .local _ .vmem, ⟨6, _⟩ => ⟨S32x768, .f32⟩
  | .local _ .vmem, ⟨7, _⟩ => ⟨S32x768, .f32⟩
  | _, _ => ⟨S8x32x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x32x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UqRefIdeal.lean ====
abbrev S8x32x768 : Shape := ⟨3, ![8, 32, 768]⟩
abbrev S32x768 : Shape := ⟨2, ![32, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x32x768, .bf16⟩
  | .hbm, ⟨1, _⟩ => ⟨S32x768, .f32⟩
  | .hbm, ⟨2, _⟩ => ⟨S32x768, .f32⟩
  | .hbm, ⟨3, _⟩ => ⟨S32x768, .f32⟩
  | .hbm, ⟨4, _⟩ => ⟨S8x32x768, .f32⟩
  | .hbm, ⟨5, _⟩ => ⟨S_, .f32⟩
  | .hbm, ⟨6, _⟩ => ⟨S32x768, .f32⟩
  | .hbm, ⟨7, _⟩ => ⟨S_, .f32⟩
  | .hbm, ⟨8, _⟩ => ⟨S32x768, .f32⟩
  | .hbm, ⟨9, _⟩ => ⟨S32x768, .f32⟩
  | .hbm, ⟨10, _⟩ => ⟨S_, .f32⟩
  | .hbm, ⟨11, _⟩ => ⟨S32x768, .f32⟩
  | .hbm, ⟨12, _⟩ => ⟨S32x768, .f32⟩
  | .hbm, ⟨13, _⟩ => ⟨S32x768, .f32⟩
  | .hbm, ⟨14, _⟩ => ⟨S_, .f32⟩
  | .hbm, ⟨15, _⟩ => ⟨S32x768, .f32⟩
  | .hbm, ⟨16, _⟩ => ⟨S32x768, .f32⟩
  | .hbm, ⟨17, _⟩ => ⟨S32x768, .f32⟩
  | .hbm, ⟨18, _⟩ => ⟨S_, .f32⟩
  | .hbm, ⟨19, _⟩ => ⟨S32x768, .f32⟩
  | .hbm, ⟨20, _⟩ => ⟨S32x768, .f32⟩
  | .hbm, ⟨21, _⟩ => ⟨S32x768, .f32⟩
  | .hbm, ⟨22, _⟩ => ⟨S_, .f32⟩
  | .hbm, ⟨23, _⟩ => ⟨S32x768, .f32⟩
  | .hbm, ⟨24, _⟩ => ⟨S32x768, .f32⟩
  | .hbm, ⟨25, _⟩ => ⟨S_, .f32⟩
  | .hbm, ⟨26, _⟩ => ⟨S32x768, .f32⟩
  | .hbm, ⟨27, _⟩ => ⟨S32x768, .f32⟩
  | .hbm, ⟨28, _⟩ => ⟨S32x768, .f32⟩
  | .hbm, ⟨29, _⟩ => ⟨S_, .f32⟩
  | .hbm, ⟨30, _⟩ => ⟨S32x768, .f32⟩
  | .hbm, ⟨31, _⟩ => ⟨S32x768, .f32⟩
  | .hbm, ⟨32, _⟩ => ⟨S32x768, .f32⟩
  | .hbm, ⟨33, _⟩ => ⟨S_, .f32⟩
  | .hbm, ⟨34, _⟩ => ⟨S32x768, .f32⟩
  | .hbm, ⟨35, _⟩ => ⟨S32x768, .f32⟩
  | .hbm, ⟨36, _⟩ => ⟨S32x768, .f32⟩
  | .hbm, ⟨37, _⟩ => ⟨S_, .f32⟩
  | .hbm, ⟨38, _⟩ => ⟨S32x768, .f32⟩
  | .hbm, ⟨39, _⟩ => ⟨S32x768, .f32⟩
  | _, _ => ⟨S8x32x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Wo.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== WoRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Win.lean ====
abbrev S1x1024x244 : Shape := ⟨3, ![1, 1024, 244]⟩
abbrev S1024x244 : Shape := ⟨2, ![1024, 244]⟩
abbrev S1x256x244 : Shape := ⟨3, ![1, 256, 244]⟩
abbrev S256x244 : Shape := ⟨2, ![256, 244]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x244, .f32⟩
  | .hbm, ⟨1, _⟩ => ⟨S1024x244, .f32⟩
  | .hbm, ⟨2, _⟩ => ⟨S1024x244, .f32⟩
  | .hbm, ⟨3, _⟩ => ⟨S1024x244, .f32⟩
  | .hbm, ⟨4, _⟩ => ⟨S1024x244, .f32⟩
  | .hbm, ⟨5, _⟩ => ⟨S1024x244, .f32⟩
  | .hbm, ⟨6, _⟩ => ⟨S1024x244, .f32⟩
  | .hbm, ⟨7, _⟩ => ⟨S1024x244, .f32⟩
  | .local _ .vmem, ⟨0, _⟩ => ⟨S1x256x244, .f32⟩
  | .local _ .vmem, ⟨1, _⟩ => ⟨S1x256x244, .f32⟩
  | .local _ .vmem, ⟨2, _⟩ => ⟨S256x244, .f32⟩
  | .local _ .vmem, ⟨3, _⟩ => ⟨S256x244, .f32⟩
  | .local _ .vmem, ⟨4, _⟩ => ⟨S256x244, .f32⟩
  | .local _ .vmem, ⟨5, _⟩ => ⟨S256x244, .f32⟩
  | .local _ .vmem, ⟨6, _⟩ => ⟨S256x244, .f32⟩
  | .local _ .vmem, ⟨7, _⟩ => ⟨S256x244, .f32⟩
  | .local _ .vmem, ⟨8, _⟩ => ⟨S256x244, .f32⟩
  | .local _ .vmem, ⟨9, _⟩ => ⟨S256x244, .f32⟩
  | .local _ .vmem, ⟨10, _⟩ => ⟨S256x244, .f32⟩
  | .local _ .vmem, ⟨11, _⟩ => ⟨S256x244, .f32⟩
  | .local _ .vmem, ⟨12, _⟩ => ⟨S256x244, .f32⟩
  | .local _ .vmem, ⟨13, _⟩ => ⟨S256x244, .f32⟩
  | .local _ .vmem, ⟨14, _⟩ => ⟨S256x244, .f32⟩
  | .local _ .vmem, ⟨15, _⟩ => ⟨S256x244, .f32⟩
  | _, _ => ⟨S1x1024x244, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x244 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x244 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x244 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x244 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x244 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x244 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x244 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x244 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WinRefIdeal.lean ====
abbrev S1x1024x244 : Shape := ⟨3, ![1, 1024, 244]⟩
abbrev S1024x244 : Shape := ⟨2, ![1024, 244]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x244, .f32⟩
  | .hbm, ⟨1, _⟩ => ⟨S1024x244, .f32⟩
  | .hbm, ⟨2, _⟩ => ⟨S1024x244, .f32⟩
  | .hbm, ⟨3, _⟩ => ⟨S1024x244, .f32⟩
  | .hbm, ⟨4, _⟩ => ⟨S_, .f32⟩
  | .hbm, ⟨5, _⟩ => ⟨S1024x244, .f32⟩
  | .hbm, ⟨6, _⟩ => ⟨S_, .f32⟩
  | .hbm, ⟨7, _⟩ => ⟨S1024x244, .f32⟩
  | .hbm, ⟨8, _⟩ => ⟨S1024x244, .f32⟩
  | .hbm, ⟨9, _⟩ => ⟨S_, .f32⟩
  | .hbm, ⟨10, _⟩ => ⟨S1024x244, .f32⟩
  | .hbm, ⟨11, _⟩ => ⟨S1024x244, .f32⟩
  | .hbm, ⟨12, _⟩ => ⟨S1024x244, .f32⟩
  | .hbm, ⟨13, _⟩ => ⟨S_, .f32⟩
  | .hbm, ⟨14, _⟩ => ⟨S1024x244, .f32⟩
  | .hbm, ⟨15, _⟩ => ⟨S1024x244, .f32⟩
  | .hbm, ⟨16, _⟩ => ⟨S1024x244, .f32⟩
  | .hbm, ⟨17, _⟩ => ⟨S_, .f32⟩
  | .hbm, ⟨18, _⟩ => ⟨S1024x244, .f32⟩
  | .hbm, ⟨19, _⟩ => ⟨S1024x244, .f32⟩
  | .hbm, ⟨20, _⟩ => ⟨S1024x244, .f32⟩
  | .hbm, ⟨21, _⟩ => ⟨S_, .f32⟩
  | .hbm, ⟨22, _⟩ => ⟨S1024x244, .f32⟩
  | .hbm, ⟨23, _⟩ => ⟨S1024x244, .f32⟩
  | .hbm, ⟨24, _⟩ => ⟨S_, .f32⟩
  | .hbm, ⟨25, _⟩ => ⟨S1024x244, .f32⟩
  | .hbm, ⟨26, _⟩ => ⟨S1024x244, .f32⟩
  | .hbm, ⟨27, _⟩ => ⟨S1024x244, .f32⟩
  | .hbm, ⟨28, _⟩ => ⟨S_, .f32⟩
  | .hbm, ⟨29, _⟩ => ⟨S1024x244, .f32⟩
  | .hbm, ⟨30, _⟩ => ⟨S1024x244, .f32⟩
  | .hbm, ⟨31, _⟩ => ⟨S1024x244, .f32⟩
  | .hbm, ⟨32, _⟩ => ⟨S_, .f32⟩
  | .hbm, ⟨33, _⟩ => ⟨S1024x244, .f32⟩
  | .hbm, ⟨34, _⟩ => ⟨S1024x244, .f32⟩
  | .hbm, ⟨35, _⟩ => ⟨S1024x244, .f32⟩
  | .hbm, ⟨36, _⟩ => ⟨S_, .f32⟩
  | .hbm, ⟨37, _⟩ => ⟨S1024x244, .f32⟩
  | .hbm, ⟨38, _⟩ => ⟨S1024x244, .f32⟩
  | _, _ => ⟨S1x1024x244, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Wup.lean ====
abbrev S1x1024x704 : Shape := ⟨3, ![1, 1024, 704]⟩
abbrev S1024x704 : Shape := ⟨2, ![1024, 704]⟩
abbrev S1x256x704 : Shape := ⟨3, ![1, 256, 704]⟩
abbrev S256x704 : Shape := ⟨2, ![256, 704]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S1x256x704, .f32⟩
  | .local _ .vmem, ⟨1, _⟩ => ⟨S1x256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WupRefIdeal.lean ====
abbrev S1x1024x704 : Shape := ⟨3, ![1, 1024, 704]⟩
abbrev S1024x704 : Shape := ⟨2, ![1024, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S_, .f32⟩
  | .hbm, ⟨7, _⟩ => ⟨S1024x704, .f32⟩
  | .hbm, ⟨8, _⟩ => ⟨S1024x704, .f32⟩
  | .hbm, ⟨9, _⟩ => ⟨S_, .f32⟩
  | .hbm, ⟨10, _⟩ => ⟨S1024x704, .f32⟩
  | .hbm, ⟨11, _⟩ => ⟨S1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S1024x704, .f32⟩
  | .hbm, ⟨21, _⟩ => ⟨S_, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S1024x704, .f32⟩
  | .hbm, ⟨36, _⟩ => ⟨S_, .f32⟩
  | .hbm, ⟨37, _⟩ => ⟨S1024x704, .f32⟩
  | .hbm, ⟨38, _⟩ => ⟨S1024x704, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Rep.lean ====
abbrev S8x144x1024 : Shape := ⟨3, ![8, 144, 1024]⟩
abbrev S144x1024 : Shape := ⟨2, ![144, 1024]⟩
abbrev S1x144x1024 : Shape := ⟨3, ![1, 144, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S144x1024, .f32⟩
  | .hbm, ⟨5, _⟩ => ⟨S144x1024, .f32⟩
  | .hbm, ⟨6, _⟩ => ⟨S144x1024, .f32⟩
  | .hbm, ⟨7, _⟩ => ⟨S144x1024, .f32⟩
  | .local _ .vmem, ⟨0, _⟩ => ⟨S8x144x1024, .f32⟩
  | .local _ .vmem, ⟨1, _⟩ => ⟨S144x1024, .f32⟩
  | .local _ .vmem, ⟨2, _⟩ => ⟨S144x1024, .f32⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | .local _ .vmem, ⟨7, _⟩ => ⟨S144x1024, .f32⟩
  | _, _ => ⟨S8x144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x144x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S144x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S144x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S144x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S144x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S144x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S144x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S144x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RepRefIdeal.lean ====
abbrev S8x144x1024 : Shape := ⟨3, ![8, 144, 1024]⟩
abbrev S144x1024 : Shape := ⟨2, ![144, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x144x1024, .f32⟩
  | .hbm, ⟨1, _⟩ => ⟨S144x1024, .f32⟩
  | .hbm, ⟨2, _⟩ => ⟨S144x1024, .f32⟩
  | .hbm, ⟨3, _⟩ => ⟨S144x1024, .f32⟩
  | .hbm, ⟨4, _⟩ => ⟨S_, .f32⟩
  | .hbm, ⟨5, _⟩ => ⟨S144x1024, .f32⟩
  | .hbm, ⟨6, _⟩ => ⟨S_, .f32⟩
  | .hbm, ⟨7, _⟩ => ⟨S144x1024, .f32⟩
  | .hbm, ⟨8, _⟩ => ⟨S144x1024, .f32⟩
  | .hbm, ⟨9, _⟩ => ⟨S_, .f32⟩
  | .hbm, ⟨10, _⟩ => ⟨S144x1024, .f32⟩
  | .hbm, ⟨11, _⟩ => ⟨S144x1024, .f32⟩
  | .hbm, ⟨12, _⟩ => ⟨S144x1024, .f32⟩
  | .hbm, ⟨13, _⟩ => ⟨S_, .f32⟩
  | .hbm, ⟨14, _⟩ => ⟨S144x1024, .f32⟩
  | .hbm, ⟨15, _⟩ => ⟨S144x1024, .f32⟩
  | .hbm, ⟨16, _⟩ => ⟨S144x1024, .f32⟩
  | .hbm, ⟨17, _⟩ => ⟨S_, .f32⟩
  | .hbm, ⟨18, _⟩ => ⟨S144x1024, .f32⟩
  | .hbm, ⟨19, _⟩ => ⟨S144x1024, .f32⟩
  | .hbm, ⟨20, _⟩ => ⟨S144x1024, .f32⟩
  | .hbm, ⟨21, _⟩ => ⟨S_, .f32⟩
  | .hbm, ⟨22, _⟩ => ⟨S144x1024, .f32⟩
  | .hbm, ⟨23, _⟩ => ⟨S144x1024, .f32⟩
  | .hbm, ⟨24, _⟩ => ⟨S_, .f32⟩
  | .hbm, ⟨25, _⟩ => ⟨S144x1024, .f32⟩
  | .hbm, ⟨26, _⟩ => ⟨S144x1024, .f32⟩
  | .hbm, ⟨27, _⟩ => ⟨S144x1024, .f32⟩
  | .hbm, ⟨28, _⟩ => ⟨S_, .f32⟩
  | .hbm, ⟨29, _⟩ => ⟨S144x1024, .f32⟩
  | .hbm, ⟨30, _⟩ => ⟨S144x1024, .f32⟩
  | .hbm, ⟨31, _⟩ => ⟨S144x1024, .f32⟩
  | .hbm, ⟨32, _⟩ => ⟨S_, .f32⟩
  | .hbm, ⟨33, _⟩ => ⟨S144x1024, .f32⟩
  | .hbm, ⟨34, _⟩ => ⟨S144x1024, .f32⟩
  | .hbm, ⟨35, _⟩ => ⟨S144x1024, .f32⟩
  | .hbm, ⟨36, _⟩ => ⟨S_, .f32⟩
  | .hbm, ⟨37, _⟩ => ⟨S144x1024, .f32⟩
  | .hbm, ⟨38, _⟩ => ⟨S144x1024, .f32⟩
  | _, _ => ⟨S8x144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Conv.lean ====
abbrev S8x3x704 : Shape := ⟨3, ![8, 3, 704]⟩
abbrev S3x704 : Shape := ⟨2, ![3, 704]⟩
abbrev S1x3x704 : Shape := ⟨3, ![1, 3, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S3x704, .f32⟩
  | .hbm, ⟨5, _⟩ => ⟨S3x704, .f32⟩
  | .hbm, ⟨6, _⟩ => ⟨S3x704, .f32⟩
  | .hbm, ⟨7, _⟩ => ⟨S3x704, .f32⟩
  | .local _ .vmem, ⟨0, _⟩ => ⟨S8x3x704, .f32⟩
  | .local _ .vmem, ⟨1, _⟩ => ⟨S3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | .local _ .vmem, ⟨7, _⟩ => ⟨S3x704, .f32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ConvRefIdeal.lean ====
abbrev S8x3x704 : Shape := ⟨3, ![8, 3, 704]⟩
abbrev S3x704 : Shape := ⟨2, ![3, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S_, .f32⟩
  | .hbm, ⟨5, _⟩ => ⟨S3x704, .f32⟩
  | .hbm, ⟨6, _⟩ => ⟨S_, .f32⟩
  | .hbm, ⟨7, _⟩ => ⟨S3x704, .f32⟩
  | .hbm, ⟨8, _⟩ => ⟨S3x704, .f32⟩
  | .hbm, ⟨9, _⟩ => ⟨S_, .f32⟩
  | .hbm, ⟨10, _⟩ => ⟨S3x704, .f32⟩
  | .hbm, ⟨11, _⟩ => ⟨S3x704, .f32⟩
  | .hbm, ⟨12, _⟩ => ⟨S3x704, .f32⟩
  | .hbm, ⟨13, _⟩ => ⟨S_, .f32⟩
  | .hbm, ⟨14, _⟩ => ⟨S3x704, .f32⟩
  | .hbm, ⟨15, _⟩ => ⟨S3x704, .f32⟩
  | .hbm, ⟨16, _⟩ => ⟨S3x704, .f32⟩
  | .hbm, ⟨17, _⟩ => ⟨S_, .f32⟩
  | .hbm, ⟨18, _⟩ => ⟨S3x704, .f32⟩
  | .hbm, ⟨19, _⟩ => ⟨S3x704, .f32⟩
  | .hbm, ⟨20, _⟩ => ⟨S3x704, .f32⟩
  | .hbm, ⟨21, _⟩ => ⟨S_, .f32⟩
  | .hbm, ⟨22, _⟩ => ⟨S3x704, .f32⟩
  | .hbm, ⟨23, _⟩ => ⟨S3x704, .f32⟩
  | .hbm, ⟨24, _⟩ => ⟨S_, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S_, .f32⟩
  | .hbm, ⟨29, _⟩ => ⟨S3x704, .f32⟩
  | .hbm, ⟨30, _⟩ => ⟨S3x704, .f32⟩
  | .hbm, ⟨31, _⟩ => ⟨S3x704, .f32⟩
  | .hbm, ⟨32, _⟩ => ⟨S_, .f32⟩
  | .hbm, ⟨33, _⟩ => ⟨S3x704, .f32⟩
  | .hbm, ⟨34, _⟩ => ⟨S3x704, .f32⟩
  | .hbm, ⟨35, _⟩ => ⟨S3x704, .f32⟩
  | .hbm, ⟨36, _⟩ => ⟨S_, .f32⟩
  | .hbm, ⟨37, _⟩ => ⟨S3x704, .f32⟩
  | .hbm, ⟨38, _⟩ => ⟨S3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SumIn.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .local _ .vmem, ⟨0, _⟩ => ⟨S8x256x1024, .bf16⟩
  | .local _ .vmem, ⟨1, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumInRefIdeal.lean ====
abbrev S8x256x1024 : Shape := ⟨3, ![8, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .f32⟩
  | .hbm, ⟨2, _⟩ => ⟨S_, .f32⟩
  | .hbm, ⟨3, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumUp.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpRefIdeal.lean ====
abbrev S8x704x1024 : Shape := ⟨3, ![8, 704, 1024]⟩
abbrev S_ : Shape := ⟨0, ![]⟩
abbrev S704x1024 : Shape := ⟨2, ![704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .f32⟩
  | .hbm, ⟨2, _⟩ => ⟨S_, .f32⟩
  | .hbm, ⟨3, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Dx0.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dx0RefIdeal.lean ====
abbrev S4096x2048 : Shape := ⟨2, ![4096, 2048]⟩
abbrev S2048x1024 : Shape := ⟨2, ![2048, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S2816x4096, .f32⟩
  | .hbm, ⟨4, _⟩ => ⟨S4096x1024, .f32⟩
  | .hbm, ⟨5, _⟩ => ⟨S2816x1024, .f32⟩
  | .hbm, ⟨6, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Hidden.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HiddenRefIdeal.lean ====
abbrev S4096x1024 : Shape := ⟨2, ![4096, 1024]⟩
abbrev S2048x1024 : Shape := ⟨2, ![2048, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x1024, .f32⟩
  | .hbm, ⟨3, _⟩ => ⟨S2048x1024, .f32⟩
  | .hbm, ⟨4, _⟩ => ⟨S1024x2048, .f32⟩
  | .hbm, ⟨5, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Up.lean ====
abbrev S4096x1024 : Shape := ⟨2, ![4096, 1024]⟩
abbrev S5632x1024 : Shape := ⟨2, ![5632, 1024]⟩
abbrev S4096x5632 : Shape := ⟨2, ![4096, 5632]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ffn.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DAct.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S1024x2816, .f32⟩
  | .hbm, ⟨5, _⟩ => ⟨S4096x2816, .f32⟩
  | .hbm, ⟨6, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DoDil.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoDilRefIdeal.lean ====
abbrev S4096x1024 : Shape := ⟨2, ![4096, 1024]⟩
abbrev S512x1024 : Shape := ⟨2, ![512, 1024]⟩
abbrev S1024x512 : Shape := ⟨2, ![1024, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x1024, .f32⟩
  | .hbm, ⟨3, _⟩ => ⟨S512x1024, .f32⟩
  | .hbm, ⟨4, _⟩ => ⟨S1024x512, .f32⟩
  | .hbm, ⟨5, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DoMla.lean ====
abbrev S4096x1024 : Shape := ⟨2, ![4096, 1024]⟩
abbrev S1024x1024 : Shape := ⟨2, ![1024, 1024]⟩
abbrev S8x4096x128 : Shape := ⟨3, ![8, 4096, 128]⟩
abbrev S8x1024x128 : Shape := ⟨3, ![8, 1024, 128]⟩
abbrev S128x1024 : Shape := ⟨2, ![128, 1024]⟩
abbrev S1024x128 : Shape := ⟨2, ![1024, 128]⟩
abbrev S1x1024x128 : Shape := ⟨3, ![1, 1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S8x4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S8x1024x128, .f32⟩
  | .local _ .vmem, ⟨4, _⟩ => ⟨S8x1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DoMlaRefIdeal.lean ====
abbrev S4096x1024 : Shape := ⟨2, ![4096, 1024]⟩
abbrev S1024x1024 : Shape := ⟨2, ![1024, 1024]⟩
abbrev S8x128x1024 : Shape := ⟨3, ![8, 128, 1024]⟩
abbrev S8x128x4096 : Shape := ⟨3, ![8, 128, 4096]⟩
abbrev S8x4096x128 : Shape := ⟨3, ![8, 4096, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S8x128x1024, .f32⟩
  | .hbm, ⟨5, _⟩ => ⟨S8x128x4096, .f32⟩
  | .hbm, ⟨6, _⟩ => ⟨S8x4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dx1.lean ====
abbrev S4096x5632 : Shape := ⟨2, ![4096, 5632]⟩
abbrev S5632x1024 : Shape := ⟨2, ![5632, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dx1RefIdeal.lean ====
abbrev S4096x5632 : Shape := ⟨2, ![4096, 5632]⟩
abbrev S5632x1024 : Shape := ⟨2, ![5632, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S4096x5632, .f32⟩
  | .hbm, ⟨4, _⟩ => ⟨S5632x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DwUp.lean ====
abbrev S4096x5632 : Shape := ⟨2, ![4096, 5632]⟩
abbrev S4096x1024 : Shape := ⟨2, ![4096, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x5632 : Shape := ⟨2, ![4096, 5632]⟩
abbrev S4096x1024 : Shape := ⟨2, ![4096, 1024]⟩
abbrev S5632x4096 : Shape := ⟨2, ![5632, 4096]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S4096x5632, .f32⟩
  | .hbm, ⟨3, _⟩ => ⟨S5632x4096, .f32⟩
  | .hbm, ⟨4, _⟩ => ⟨S4096x1024, .f32⟩
  | .hbm, ⟨5, _⟩ => ⟨S5632x1024, .f32⟩
  | .hbm, ⟨6, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwODil.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwODilRefIdeal.lean ====
abbrev S4096x512 : Shape := ⟨2, ![4096, 512]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S512x4096, .f32⟩
  | .hbm, ⟨4, _⟩ => ⟨S4096x1024, .f32⟩
  | .hbm, ⟨5, _⟩ => ⟨S512x1024, .f32⟩
  | .hbm, ⟨6, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwOMla.lean ====
abbrev S8x4096x128 : Shape := ⟨3, ![8, 4096, 128]⟩
abbrev S4096x1024 : Shape := ⟨2, ![4096, 1024]⟩
abbrev S1024x1024 : Shape := ⟨2, ![1024, 1024]⟩
abbrev S8x1024x128 : Shape := ⟨3, ![8, 1024, 128]⟩
abbrev S128x1024 : Shape := ⟨2, ![128, 1024]⟩
abbrev S1x1024x128 : Shape := ⟨3, ![1, 1024, 128]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x128, .bf16⟩
  | .hbm, ⟨1, _⟩ => ⟨S4096x1024, .bf16⟩
  | .hbm, ⟨2, _⟩ => ⟨S1024x1024, .bf16⟩
  | .local _ .vmem, ⟨0, _⟩ => ⟨S8x1024x128, .bf16⟩
  | .local _ .vmem, ⟨1, _⟩ => ⟨S8x1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v68 : BitVec 1 := Scalar.cmpi .eq arg0 c3_i32
  let v69 : BitVec 32 := Scalar.extui v68
  let c0_i32_51 : BitVec 32 := 0#32
  let v70 : BitVec 1 := Scalar.cmpi .ne v69 c0_i32_51
  v70

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwOMlaRefIdeal.lean ====
abbrev S8x4096x128 : Shape := ⟨3, ![8, 4096, 128]⟩
abbrev S4096x1024 : Shape := ⟨2, ![4096, 1024]⟩
abbrev S8x128x1024 : Shape := ⟨3, ![8, 128, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x128, .bf16⟩
  | .hbm, ⟨1, _⟩ => ⟨S4096x1024, .bf16⟩
  | .hbm, ⟨2, _⟩ => ⟨S8x4096x128, .f32⟩
  | .hbm, ⟨3, _⟩ => ⟨S4096x1024, .f32⟩
  | .hbm, ⟨4, _⟩ => ⟨S8x128x1024, .f32⟩
  | .hbm, ⟨5, _⟩ => ⟨S1024x1024, .f32⟩
  | .hbm, ⟨6, _⟩ => ⟨S1024x1024, .bf16⟩
  | _, _ => ⟨S8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwIn.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x2048 : Shape := ⟨2, ![4096, 2048]⟩
abbrev S4096x1024 : Shape := ⟨2, ![4096, 1024]⟩
abbrev S2048x4096 : Shape := ⟨2, ![2048, 4096]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S2048x4096, .f32⟩
  | .hbm, ⟨4, _⟩ => ⟨S4096x1024, .f32⟩
  | .hbm, ⟨5, _⟩ => ⟨S2048x1024, .f32⟩
  | .hbm, ⟨6, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dh.lean ====
abbrev S4096x512 : Shape := ⟨2, ![4096, 512]⟩
abbrev S4096x2048 : Shape := ⟨2, ![4096, 2048]⟩
abbrev S512x512 : Shape := ⟨2, ![512, 512]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x2048, .bf16⟩
  | .local _ .vmem, ⟨9, _⟩ => ⟨S512x2048, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DhRefIdeal.lean ====
abbrev S4096x512 : Shape := ⟨2, ![4096, 512]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x2048, .f32⟩
  | .hbm, ⟨6, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Ln1.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Ln1RefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Ln2.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x128, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Ln2RefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .bf16⟩
  | .hbm, ⟨71, _⟩ => ⟨S1x128, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S_, .f32⟩
  | .hbm, ⟨77, _⟩ => ⟨S1024, .f32⟩
  | .hbm, ⟨78, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Mix.lean ====
abbrev S8x4096x128 : Shape := ⟨3, ![8, 4096, 128]⟩
abbrev S4096x512 : Shape := ⟨2, ![4096, 512]⟩
abbrev S1024x1024 : Shape := ⟨2, ![1024, 1024]⟩
abbrev S512x1024 : Shape := ⟨2, ![512, 1024]⟩
abbrev S4096x1024 : Shape := ⟨2, ![4096, 1024]⟩
abbrev S1x1024 : Shape := ⟨2, ![1, 1024]⟩
abbrev S8x512x128 : Shape := ⟨3, ![8, 512, 128]⟩
abbrev S512x512 : Shape := ⟨2, ![512, 512]⟩
abbrev S1x512x128 : Shape := ⟨3, ![1, 512, 128]⟩
abbrev S512x128 : Shape := ⟨2, ![512, 128]⟩
abbrev S128x1024 : Shape := ⟨2, ![128, 1024]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S8x4096x128, .bf16⟩
  | .hbm, ⟨1, _⟩ => ⟨S4096x512, .bf16⟩
  | .hbm, ⟨2, _⟩ => ⟨S1024x1024, .bf16⟩
  | .hbm, ⟨3, _⟩ => ⟨S512x1024, .bf16⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S8x512x128, .bf16⟩
  | .local _ .vmem, ⟨1, _⟩ => ⟨S8x512x128, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S8x4096x128 : Shape := ⟨3, ![8, 4096, 128]⟩
abbrev S4096x512 : Shape := ⟨2, ![4096, 512]⟩
abbrev S1024x1024 : Shape := ⟨2, ![1024, 1024]⟩
abbrev S512x1024 : Shape := ⟨2, ![512, 1024]⟩
abbrev S4096x1024 : Shape := ⟨2, ![4096, 1024]⟩
abbrev S1x1024 : Shape := ⟨2, ![1, 1024]⟩
abbrev S8x128x1024 : Shape := ⟨3, ![8, 128, 1024]⟩
abbrev S8x4096x1024 : Shape := ⟨3, ![8, 4096, 1024]⟩
abbrev S_ : Shape := ⟨0, ![]⟩
abbrev S4096 : Shape := ⟨1, ![4096]⟩
abbrev S4096x1 : Shape := ⟨2, ![4096, 1]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x128, .bf16⟩
  | .hbm, ⟨1, _⟩ => ⟨S4096x512, .bf16⟩
  | .hbm, ⟨2, _⟩ => ⟨S1024x1024, .bf16⟩
  | .hbm, ⟨3, _⟩ => ⟨S512x1024, .bf16⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S8x4096x128, .f32⟩
  | .hbm, ⟨8, _⟩ => ⟨S1024x1024, .f32⟩
  | .hbm, ⟨9, _⟩ => ⟨S8x128x1024, .f32⟩
  | .hbm, ⟨10, _⟩ => ⟨S8x4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x512, .f32⟩
  | .hbm, ⟨15, _⟩ => ⟨S512x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | _, _ => ⟨S8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Gate.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S512x256 : Shape := ⟨2, ![512, 256]⟩
abbrev S16x256 : Shape := ⟨2, ![16, 256]⟩
abbrev S3x256 : Shape := ⟨2, ![3, 256]⟩
abbrev S1x256 : Shape := ⟨2, ![1, 256]⟩
abbrev S528x256 : Shape := ⟨2, ![528, 256]⟩

abbrev nBuf : Space → Nat
  | .hbm => 4
  | .vmem => 18
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S4096x2816, .bf16⟩
  | .local _ .vmem, ⟨0, _⟩ => ⟨S512x256, .f32⟩
  | .local _ .vmem, ⟨1, _⟩ => ⟨S512x256, .f32⟩
  | .local _ .vmem, ⟨2, _⟩ => ⟨S16x256, .f32⟩
  | .local _ .vmem, ⟨3, _⟩ => ⟨S16x256, .f32⟩
  | .local _ .vmem, ⟨4, _⟩ => ⟨S512x256, .f32⟩
  | .local _ .vmem, ⟨5, _⟩ => ⟨S512x256, .f32⟩
  | .local _ .vmem, ⟨6, _⟩ => ⟨S16x256, .f32⟩
  | .local _ .vmem, ⟨7, _⟩ => ⟨S16x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S512x256, .bf16⟩
  | .local _ .vmem, ⟨17, _⟩ => ⟨S512x256, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg1 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg1 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GateRefIdeal.lean ====
abbrev S4096x5632 : Shape := ⟨2, ![4096, 5632]⟩
abbrev S3x5632 : Shape := ⟨2, ![3, 5632]⟩
abbrev S1x5632 : Shape := ⟨2, ![1, 5632]⟩
abbrev S_ : Shape := ⟨0, ![]⟩
abbrev S4098x5632 : Shape := ⟨2, ![4098, 5632]⟩
abbrev S5632 : Shape := ⟨1, ![5632]⟩
abbrev S4097x5632 : Shape := ⟨2, ![4097, 5632]⟩
abbrev S4096x2816 : Shape := ⟨2, ![4096, 2816]⟩

abbrev nBuf : Space → Nat
  | .hbm => 51
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S_, .i32⟩
  | .hbm, ⟨4, _⟩ => ⟨S_, .f32⟩
  | .hbm, ⟨5, _⟩ => ⟨S4098x5632, .f32⟩
  | .hbm, ⟨6, _⟩ => ⟨S4096x5632, .f32⟩
  | .hbm, ⟨7, _⟩ => ⟨S1x5632, .f32⟩
  | .hbm, ⟨8, _⟩ => ⟨S5632, .f32⟩
  | .hbm, ⟨9, _⟩ => ⟨S1x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .i32⟩
  | .hbm, ⟨15, _⟩ => ⟨S_, .f32⟩
  | .hbm, ⟨16, _⟩ => ⟨S4097x5632, .f32⟩
  | .hbm, ⟨17, _⟩ => ⟨S4096x5632, .f32⟩
  | .hbm, ⟨18, _⟩ => ⟨S1x5632, .f32⟩
  | .hbm, ⟨19, _⟩ => ⟨S5632, .f32⟩
  | .hbm, ⟨20, _⟩ => ⟨S1x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Launch.lean ====
/-
  The launch of a program whose first operation is a communicating kernel that starts sending without a
  handshake. Such a kernel's transfers may land on a device that has not yet entered the kernel, so what the
  landing needs (the receive semaphore's counter and the destination's elements) has to be dealt to the
  SENDER when the machine starts: every device's scoped counters and every device's buffers are handed to
  one step that sees all devices at once.
-/
module

public import Idealize.ShloMosaic.Lib.Pipeline.Regions
public import Idealize.ShloMosaic.Lib.Pipeline.Kit
public import Idealize.ShloMosaic.Lib.Tactic

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- From a start with every counter at zero, the cores owing `O₀`: if one step over all devices turns every
    device's scoped storage, buffers, debts, credits and unassigned levels (and the ghost element `u₀`) into a first state `T₀ c`
    per device, and each device's program runs from `T₀ c` to a last state `Tₙ c` with its scoped storage back
    and nothing owed, then every execution ends in a memory of which the last states hold, with every counter
    that is scoped or not a TensorCore's at zero. -/
theorem run_ranked [Preorder Lvl] [Infinite Name] {Λ : Labels} (defs : Defs nD τ sig Val Λ) (𝒱 : Variants)
    (m : (ℓ : Loc nD τ sig) → Buf Val ℓ) (g : Dev nD → PrngReg)
    (main : Dev nD → Prog (TpuEff nD τ sig Val Λ .tc) PUnit)
    (O₀ : Dev nD → CellTallies nD τ sig Ix) (u₀ : U) (T₀ Tₙ : Dev nD → sProp 𝕄)
    (hinit : iprop((bigSep Finset.univ fun c : Dev nD => iprop(boundary (c.tc : Thread nD τ)
          ∗ unscopedBufs c (fun b => m ((c.tc : Thread nD τ).loc b))
          ∗ owes (c.tc : Thread nD τ) (O₀ c) ∅ ∗ launchCred O₀ c ∗ levels0 c)) ∗ ownU u₀)
      ⊢ |={Set.univ}=> bigSep Finset.univ T₀)
    (hrun : ∀ c, T₀ c ⊢ wp frame (wpE defs 𝒱 (c.tc : Thread nD τ) none) Set.univ (main c)
      (fun _ => iprop((Tₙ c ∗ boundary (c.tc : Thread nD τ)) ∗ ∃ W, owes (c.tc : Thread nD τ) (0 : CellTallies nD τ sig Ix) W)))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run defs (onTc main) ⟨m, fun _ => 0, g⟩ Q := by
  classical
  refine (θ_run defs _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) 𝒱 (owing O₀) 0 (noBookings fun _ => le_rfl) (owing_of_ne O₀) u₀ (fun _ => T₀)
      (fun _ c => iprop(Tₙ c ∗ boundary (c.tc : Thread nD τ))) (fun _ => iprop(emp)) Set.univ ?_ (fun _ c => ?_) fun _ => ?_))
  · have hcore : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ (bigSep Finset.univ fun c : Dev nD => iprop(boundary (c.tc : Thread nD τ)
          ∗ unscopedBufs c (fun b => m ((c.tc : Thread nD τ).loc b))
          ∗ owes (c.tc : Thread nD τ) (O₀ c) ∅ ∗ launchCred O₀ c ∗ levels0 c) : sProp 𝕄) :=
      bigSep_mono fun c _ => (coreInit_boundary_owing O₀ m g c).trans (by
        iintro ⟨Hb, Hub, -, HL, Hlv, -, Hcr⟩
        isplitl [Hb]; · iexact Hb
        isplitl [Hub]; · iexact Hub
        isplitl [HL]; · iexact HL
        isplitl [Hcr] <;> iassumption)
    iintro ⟨Hcores, Hu⟩
    ihave Hc := hcore $$ Hcores
    imod hinit $$ [Hc Hu] with HT
    · isplitl [Hc] <;> iassumption
    imodintro
    iexists ()
    isplitl [HT]
    · iexact HT
    · iempintro
  · unfold post
    simp only [liftTc_tc]
    exact hrun c
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

/-- The same where no wait needs a level: the unassigned levels are dropped. -/
theorem run_launched [Preorder Lvl] [Infinite Name] {Λ : Labels} (defs : Defs nD τ sig Val Λ) (𝒱 : Variants)
    (m : (ℓ : Loc nD τ sig) → Buf Val ℓ) (g : Dev nD → PrngReg)
    (main : Dev nD → Prog (TpuEff nD τ sig Val Λ .tc) PUnit)
    (O₀ : Dev nD → CellTallies nD τ sig Ix) (u₀ : U) (T₀ Tₙ : Dev nD → sProp 𝕄)
    (hinit : iprop((bigSep Finset.univ fun c : Dev nD => iprop(boundary (c.tc : Thread nD τ)
          ∗ unscopedBufs c (fun b => m ((c.tc : Thread nD τ).loc b))
          ∗ owes (c.tc : Thread nD τ) (O₀ c) ∅ ∗ launchCred O₀ c)) ∗ ownU u₀)
      ⊢ |={Set.univ}=> bigSep Finset.univ T₀)
    (hrun : ∀ c, T₀ c ⊢ wp frame (wpE defs 𝒱 (c.tc : Thread nD τ) none) Set.univ (main c)
      (fun _ => iprop((Tₙ c ∗ boundary (c.tc : Thread nD τ)) ∗ ∃ W, owes (c.tc : Thread nD τ) (0 : CellTallies nD τ sig Ix) W)))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run defs (onTc main) ⟨m, fun _ => 0, g⟩ Q := by
  refine run_ranked defs 𝒱 m g main O₀ u₀ T₀ Tₙ (BIBase.Entails.trans ?_ hinit) hrun QY hfin hQ
  refine sep_mono_l (bigSep_mono fun c _ => ?_)
  show iprop(boundary (c.tc : Thread nD τ) ∗ unscopedBufs c (fun b => m ((c.tc : Thread nD τ).loc b))
      ∗ owes (c.tc : Thread nD τ) (O₀ c) ∅ ∗ launchCred O₀ c ∗ levels0 c)
    ⊢ iprop(boundary (c.tc : Thread nD τ) ∗ unscopedBufs c (fun b => m ((c.tc : Thread nD τ).loc b))
      ∗ owes (c.tc : Thread nD τ) (O₀ c) ∅ ∗ launchCred O₀ c)
  iintro ⟨H1, H2, H3, H4, -⟩
  isplitl [H1]; · iexact H1
  isplitl [H2]; · iexact H2
  isplitl [H3] <;> iassumption

/-- Levels assigned once, for the TensorCores' cells only: from every device's unassigned levels, all of them
    as `lv` names them. -/
theorem ranks (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hother : (bigSep Finset.univ fun d : Dev nD => bigSep (Finset.univ.erase Proc.tc) fun p => (coreLevAts ((d, p) : Thread nD τ) L lv : sProp 𝕄)) = BI.emp := by
    refine (bigSep_congr fun d _ => (bigSep_congr fun p hp => ?_).trans (bigSep_emp_const _)).trans (bigSep_emp_const _)
    refine (bigSep_congr fun sm _ => ?_).trans (bigSep_emp_const (Finset.univ : Finset (SemLoc sig)))
    rw [hL _ (Finset.ne_of_mem_erase hp), bigSep_empty]
  have hdrop : ∀ P : sProp 𝕄, iprop(P ∗ BI.emp) = P := fun P => by
    have h1 : iprop(P ∗ BI.emp) ⊢ P := by
      iintro ⟨H, -⟩
      iexact H
    have h2 : P ⊢ iprop(P ∗ BI.emp) := by
      iintro H
      isplitl
      · iexact H
      · iempintro
    exact BI.Entails.antisymm h1 h2
  have hall : (levAts L lv : sProp 𝕄) = bigSep Finset.univ fun d : Dev nD => coreLevAts (d.tc : Thread nD τ) L lv := by
    refine (bigSep_univ_prod fun g : GSem nD τ sig => bigSep (L g) fun ι => levAt g ι (lv g ι)).trans ?_
    refine (Idealize.ShloMosaic.bigSep_threads fun t : Thread nD τ => coreLevAts t L lv).trans ?_
    rw [hother]
    exact hdrop _
  rw [hall]
  refine BI.Entails.trans (bigSep_mono fun c _ => lev_assign_cells (c.tc : Thread nD τ) L lv) (BI.Entails.trans (bigSep_bupd _ _) (bupd_mono (bigSep_mono fun c _ => ?_)))
  show iprop((bigSep Finset.univ fun sm : SemLoc sig => levels ((c.tc : Thread nD τ), sm) (L ((c.tc : Thread nD τ), sm))) ∗ coreLevAts (c.tc : Thread nD τ) L lv) ⊢ _
  iintro ⟨-, H⟩
  iexact H

end Cert.Exchange

end
-- ==== Proof.Cells.lean ====
/-
  A one-round protocol over semaphore cells: every device has the same finite family of cells, and each cell
  receives exactly one transfer in the whole run. A cell's single duty hands its owner one assertion, and after
  the wait for it the cell is closed and its counter is back at zero. Nobody waits while still owing a unit.
-/
module

public import proofs.«01_k».proof.Proof.Launch

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {U : Type} [URA U]

/-- A family of cells, the same on every device: cell `i`'s semaphore, the amount of its one transfer, and what
    that transfer hands to device `c`. -/
structure Plan (nD : Nat) (τ : Topo) (sig : RefSig) (Val : EltTy → Type) (U : Type) [URA U] (I : Type) where
  /-- The semaphore of cell `i`. -/
  sem : I → SemLoc sig
  /-- Different cells have different semaphores. -/
  inj : Function.Injective sem
  /-- The amount of cell `i`'s transfer. -/
  amt : I → ℕ
  /-- It is positive. -/
  pos : ∀ i, 0 < amt i
  /-- What cell `i`'s transfer hands to device `c`. -/
  pay : Dev nD → I → sProp (MT nD τ sig Unit Val ℕ U ℕ)
  /-- That assertion may be kept in an invariant. -/
  stor : ∀ c i, BI.Storable (upEmb : UEmb _ (MT nD τ sig Unit Val ℕ U ℕ)) (pay c i)

local notation "𝕄" => MT nD τ sig Unit Val ℕ U ℕ

section Plan

variable {I : Type} (P : Plan nD τ sig Val U I)

namespace Plan

/-- Cell `k.2` of device `k.1`. -/
abbrev cell (k : Dev nD × I) : GSem nD τ sig := ((k.1.tc : Thread nD τ), P.sem k.2)

theorem cell_inj : Function.Injective P.cell := by
  rintro ⟨c, i⟩ ⟨c', i'⟩ h
  have h1 := congrArg (fun g : GSem nD τ sig => g.1.1) h
  have h2 := congrArg (fun g : GSem nD τ sig => g.2) h
  exact Prod.ext h1 (P.inj h2)

open Classical in
/-- The schedule: one duty in round 0 of each cell of the family, none anywhere else. -/
def sched : Rounds.Schedule (GSem nD τ sig) Unit 𝕄 where
  duties g r := if r = 0 ∧ ∃ k, P.cell k = g then {()} else ∅
  amount g _ _ := if h : ∃ k, P.cell k = g then P.amt h.choose.2 else 1
  payload g _ _ := if h : ∃ k, P.cell k = g then P.pay h.choose.1 h.choose.2 else iprop(emp)
  amount_pos g _ _ _ := by
    split
    · exact P.pos _
    · exact Nat.one_pos

theorem choose_cell (k : Dev nD × I) (h : ∃ k', P.cell k' = P.cell k) : h.choose = k := P.cell_inj h.choose_spec

theorem duties_cell (k : Dev nD × I) : P.sched.duties (P.cell k) 0 = {()} := if_pos ⟨rfl, k, rfl⟩

theorem mem_duties (k : Dev nD × I) : () ∈ P.sched.duties (P.cell k) 0 := by
  rw [P.duties_cell]; exact Finset.mem_singleton_self _

theorem duties_later (k : Dev nD × I) (r : ℕ) (hr : 0 + 1 ≤ r) : P.sched.duties (P.cell k) r = ∅ :=
  if_neg fun h => by omega

theorem amount_cell (k : Dev nD × I) (r : ℕ) (u : Unit) : P.sched.amount (P.cell k) r u = P.amt k.2 := by
  have h : ∃ k', P.cell k' = P.cell k := ⟨k, rfl⟩
  dsimp only [sched]
  rw [dif_pos h, P.choose_cell k h]

theorem payload_cell (k : Dev nD × I) (r : ℕ) (u : Unit) : P.sched.payload (P.cell k) r u = P.pay k.1 k.2 := by
  have h : ∃ k', P.cell k' = P.cell k := ⟨k, rfl⟩
  dsimp only [sched]
  rw [dif_pos h, P.choose_cell k h]

theorem expect_cell (k : Dev nD × I) : P.sched.expect (P.cell k) 0 = P.amt k.2 := by
  unfold Schedule.expect Schedule.amountOf
  rw [P.duties_cell, Finset.sum_singleton, P.amount_cell]

theorem rest_cell (k : Dev nD × I) :
    bigSep (P.sched.duties (P.cell k) 0 \ ∅) (fun u => P.sched.payload (P.cell k) 0 u) = P.pay k.1 k.2 := by
  rw [Finset.sdiff_empty, P.duties_cell, bigSep_singleton, P.payload_cell]

instance sched_storable (g : GSem nD τ sig) (r : ℕ) (u : Unit) : BI.Storable (upEmb : UEmb _ 𝕄) (P.sched.payload g r u) := by
  dsimp only [sched]
  split
  · exact P.stor _ _
  · infer_instance

variable (E : Emb (URounds (GSem nD τ sig) Unit) (MT nD τ sig Unit Val ℕ U ℕ))
variable [Fintype I] [DecidableEq I]

/-- Every cell's invariant, and that its round 0 is reached. -/
def cells (κ : Dev nD × I → ℕ) : sProp 𝕄 :=
  bigSep Finset.univ fun k : Dev nD × I => iprop(cellInv E P.sched (κ k) (P.cell k) ∗ Rounds.reached (G := GSem nD τ sig) (D := Unit) E (P.cell k) 0)

instance (κ : Dev nD × I → ℕ) : BI.Persistent (P.cells E κ) := by unfold cells; infer_instance

theorem cells_at (κ : Dev nD × I → ℕ) (k : Dev nD × I) :
    P.cells E κ ⊢ iprop(cellInv E P.sched (κ k) (P.cell k) ∗ Rounds.reached (G := GSem nD τ sig) (D := Unit) E (P.cell k) 0) :=
  bigSep_elim (Finset.mem_univ k)

/-- The cells as a set. -/
def all : Finset (GSem nD τ sig) := Finset.univ.map ⟨P.cell, P.cell_inj⟩

/-- The duty tokens of all cells. -/
def toks : Finset (GSem nD τ sig × ℕ × Unit) :=
  Finset.univ.map ⟨fun k => (P.cell k, 0, ()), fun _ _ h => P.cell_inj (congrArg Prod.fst h)⟩

/-- The ghost element the launch starts from. -/
def ghost : URounds (GSem nD τ sig) Unit := launchOf P.all ∅ P.toks

/-- From every cell's counter at zero and the ghost element: the cells' invariants, each owner's position and
    one token per duty. -/
theorem fund [E.LandsIn (upEmb : UEmb _ 𝕄)] :
    iprop((bigSep Finset.univ fun k : Dev nD × I => semVal (P.cell k) 0) ∗ BI.own (E P.ghost))
      ⊢ |={Set.univ}=> iprop(∃ κ, P.cells E κ ∗ (bigSep Finset.univ fun k : Dev nD × I => atPos E (P.cell k) 0 ∅ 0)
          ∗ bigSep Finset.univ fun k : Dev nD × I => dutyTok E (P.cell k) 0 ()) := by
  have hmap : ∀ Φ : GSem nD τ sig → sProp 𝕄, bigSep P.all Φ = bigSep Finset.univ fun k : Dev nD × I => Φ (P.cell k) :=
    fun Φ => by unfold all; rw [bigSep_map]; rfl
  have htok : ∀ Φ : GSem nD τ sig × ℕ × Unit → sProp 𝕄, bigSep P.toks Φ = bigSep Finset.univ fun k : Dev nD × I => Φ (P.cell k, 0, ()) :=
    fun Φ => by unfold toks; rw [bigSep_map]; rfl
  have h := fund_launch E P.sched (S := P.all) (Sd := ∅) (Finset.disjoint_empty_right _) (fun g hg => absurd hg (Finset.notMem_empty g))
    P.toks ∅ (Es := Set.univ)
  rw [hmap, Finset.union_empty, htok] at h
  refine h.trans ?_
  simp only [hmap]
  iintro H
  imod H with ⟨%κ, -, Hc, Hr, Hat, -, Ht⟩
  imodintro
  iexists fun k => κ (P.cell k)
  isplitl [Hc Hr]
  · unfold cells
    rw [bigSep_sep']
    isplitl [Hc] <;> iassumption
  isplitl [Hat] <;> iassumption

end Plan

end Plan

section Run

variable {I : Type} [Fintype I] [DecidableEq I] (P : Plan nD τ sig Val U I)
variable (E : Emb (URounds (GSem nD τ sig) Unit) (MT nD τ sig Unit Val ℕ U ℕ))
variable {Λ : Labels} (defs : Defs nD τ sig Val Λ) (𝒱 : Variants) (κ : Dev nD × I → ℕ)

/-- What device `c` owes, its record of waits left open. -/
def due (c : Dev nD) (O : CellTallies nD τ sig Unit) : sProp 𝕄 := iprop(∃ W, owes (c.tc : Thread nD τ) O W)

/-- Before the wait on cell `i`: the credit to wait with and the owner's position. -/
def Plan.await (c : Dev nD) (i : I) : sProp 𝕄 := iprop(cred (tallyAt (P.cell (c, i)) () (P.amt i)) ∗ atPos E (P.cell (c, i)) 0 ∅ 0)

/-- After it: what the transfer handed over, and the counter back at zero. -/
def Plan.got (c : Dev nD) (i : I) : sProp 𝕄 := iprop(P.pay c i ∗ semVal (P.cell (c, i)) 0)

/-- The wait on cell `i`, while `O` is owed: what is owed has to lie above the cell. -/
theorem wp_await_owing (c : Dev nD) (i : I) (O : CellTallies nD τ sig Unit) {w : TpuEff nD τ sig Val Λ .tc PUnit} {sm : SemLoc sig} {n : ℕ} (hsm : sm = P.sem i) (hn : n = P.amt i)
    (hw : ∀ K : PUnit → sProp 𝕄, wpE defs 𝒱 (c.tc : Thread nD τ) none Set.univ w K = waitSpec (c.tc : Thread nD τ) Set.univ sm n K)
    {α : Type} {Q : α → sProp 𝕄} {k : PUnit → Prog (TpuEff nD τ sig Val Λ .tc) α} :
    iprop(P.cells E κ ∗ MayWait (c.tc : Thread nD τ) (P.sem i) () O ∗ P.await E c i ∗ due c O)
      ⊢ iprop(((P.got c i ∗ due c O) -∗ wp frame (wpE defs 𝒱 (c.tc : Thread nD τ) none) Set.univ (k ⟨⟩) Q)
          -∗ wp frame (wpE defs 𝒱 (c.tc : Thread nD τ) none) Set.univ (.op w k) Q) := by
  subst hsm hn
  unfold Plan.await Plan.got due
  iintro ⟨#Hcells, #Hmay, ⟨Hcr, Hat⟩, %W, HO⟩ Hk
  ihave Hi := (P.cells_at E κ (c, i)) $$ Hcells
  icases Hi with ⟨#Hinv, -⟩
  iapply (Rounds.wp_wait_rest_token 𝒱 E P.sched (c.tc : Thread nD τ) none (κ := κ (c, i)) hw (Set.mem_univ _) () (O := O) (W := W)
      (R := 0) (m := 0) (T := ∅) (by rw [Nat.zero_add]; exact (P.expect_cell (c, i)).symm)) $$ [Hcr HO Hat]
  · isplitr; · iexact Hinv
    isplitl [Hcr]; · iexact Hcr
    isplitl [HO]; · iexact HO
    isplitr; · iexact Hmay
    iexact Hat
  iintro ⟨HO, Hat, -, Hpay⟩
  ihave Hpay := (Entails.of_eq (P.rest_cell (c, i))) $$ Hpay
  imod (Rounds.cell_close E P.sched (Set.mem_univ (κ (c, i))) (fun h => h) (R := 0 + 1) (P.duties_later (c, i))) $$ [Hat] with Hz
  · isplitr; · iexact Hinv
    iexact Hat
  iapply Hk
  isplitl [Hpay Hz]
  · isplitl [Hpay] <;> iassumption
  iexists _; iexact HO

/-- The wait on cell `i`, nothing owed. -/
theorem wp_await (c : Dev nD) (i : I) {w : TpuEff nD τ sig Val Λ .tc PUnit} {sm : SemLoc sig} {n : ℕ} (hsm : sm = P.sem i) (hn : n = P.amt i)
    (hw : ∀ K : PUnit → sProp 𝕄, wpE defs 𝒱 (c.tc : Thread nD τ) none Set.univ w K = waitSpec (c.tc : Thread nD τ) Set.univ sm n K)
    {α : Type} {Q : α → sProp 𝕄} {k : PUnit → Prog (TpuEff nD τ sig Val Λ .tc) α} :
    iprop(P.cells E κ ∗ P.await E c i ∗ due c 0)
      ⊢ iprop(((P.got c i ∗ due c 0) -∗ wp frame (wpE defs 𝒱 (c.tc : Thread nD τ) none) Set.univ (k ⟨⟩) Q)
          -∗ wp frame (wpE defs 𝒱 (c.tc : Thread nD τ) none) Set.univ (.op w k) Q) := by
  refine BIBase.Entails.trans ?_ (wp_await_owing P E defs 𝒱 κ c i 0 hsm hn hw)
  iintro ⟨#Hc, H1, H2⟩
  isplitr; · iexact Hc
  isplitr; · rw [MayWait_zero]; iempintro
  isplitl [H1] <;> iassumption

/-- A copy within device `c`, paying the duty of its own cell `i`. -/
theorem wp_local (c : Dev nD) (i : I) {sp sp' : Space} {s : Shape} {e : EltTy} {src : Memref sig .tc sp s e} {dst : Memref sig .tc sp' s e} {sm : SemLoc sig}
    (hsm : sm = P.sem i) (hn : dst.view.amount sm = P.amt i)
    {hsrc : src.view.WordExact} {hdst : dst.view.WordExact} {hsem : DmaTarget.Typed (nD := nD) (τ := τ) (p := .tc) sp sm (.here dst)}
    {q : PosShare TreeShare} {fs : Buf Val (src.view.loc (c.tc : Thread nD τ))} {fd : Buf Val (dst.view.loc (c.tc : Thread nD τ))}
    (hpay : iprop((dst.view.loc (c.tc : Thread nD τ) ↦[dst.view.set]{fullShare} (dst.view.write Val fd (src.view.read Val fs) Finset.univ))
              ∗ (src.view.loc (c.tc : Thread nD τ) ↦[src.view.set]{q} fs)) ⊢ P.pay c i)
    {α : Type} {Q : α → sProp 𝕄} {k : PUnit → Prog (TpuEff nD τ sig Val Λ .tc) α} :
    iprop(P.cells E κ ∗ (src.view.loc (c.tc : Thread nD τ) ↦[src.view.set]{q} fs) ∗ (dst.view.loc (c.tc : Thread nD τ) ↦[dst.view.set]{fullShare} fd)
        ∗ dutyTok E (P.cell (c, i)) 0 ())
      ⊢ iprop((cred (tallyAt (P.cell (c, i)) () (P.amt i)) -∗ wp frame (wpE defs 𝒱 (c.tc : Thread nD τ) none) Set.univ (k ⟨⟩) Q)
          -∗ wp frame (wpE defs 𝒱 (c.tc : Thread nD τ) none) Set.univ (.op (.enqueueDma src (.here dst) sm hsrc hdst hsem) k) Q) := by
  subst hsm
  iintro ⟨#Hcells, Hs, Hd, Ht⟩
  ihave Hi := (P.cells_at E κ (c, i)) $$ Hcells
  icases Hi with ⟨#Hinv, #Hr⟩
  iapply (Rounds.wp_copy_pointsTo 𝒱 E P.sched (c.tc : Thread nD τ) none (κ := κ (c, i)) (P.mem_duties (c, i)) () (P.amt i) hn
    (P.amount_cell (c, i) 0 ()) (hpay.trans (Entails.of_eq (P.payload_cell (c, i) 0 ()).symm)))
  isplitr; · iexact Hinv
  isplitl [Hs]; · iexact Hs
  isplitl [Hd]; · iexact Hd
  isplitl [Ht]; · iexact Ht
  iexact Hr

/-- A transfer from device `c` to device `c'`, paying the duty of `c`'s cell `i` (the source comes back) and that of
    `c'`'s cell `i'` (the landing), the latter off what `c` owes. -/
theorem wp_remote (c c' n : Dev nD) (hc : n = c') (i i' : I) {sp sp' : Space} {s : Shape} {e : EltTy} {src : Memref sig .tc sp s e} {dst : Memref sig .tc sp' s e} {sS sm : SemLoc sig}
    (hS : sS = P.sem i) (hsm : sm = P.sem i') (hn : dst.view.amount sm = P.amt i') (hi : P.amt i = P.amt i')
    {hsc : (dst : Memref sig (Dev.tc n : Thread nD τ).2.kind sp' s e).view.ref.isScScratch = false}
    {hsrc : src.view.WordExact} {hdst : dst.view.WordExact} {hsem : DmaTarget.Typed sp sm (.remote (Dev.tc n : Thread nD τ) dst sS hsc)}
    {q : PosShare TreeShare} {fs : Buf Val (src.view.loc (c.tc : Thread nD τ))} {fd : Buf Val (dst.view.loc (c'.tc : Thread nD τ))}
    (O O' : CellTallies nD τ sig Unit) (hO : O' = O + tallyAt (P.cell (c', i')) () (P.amt i'))
    (hpay : (src.view.loc (c.tc : Thread nD τ) ↦[src.view.set]{q} fs) ⊢ P.pay c i)
    (hpay' : (dst.view.loc (c'.tc : Thread nD τ) ↦[dst.view.set]{fullShare} (dst.view.write Val fd (src.view.read Val fs) Finset.univ)) ⊢ P.pay c' i')
    (hr : τ.routes (c.tc : Thread nD τ) (c'.tc : Thread nD τ) = true := by routes)
    {α : Type} {Q : α → sProp 𝕄} {k : PUnit → Prog (TpuEff nD τ sig Val Λ .tc) α} :
    iprop(P.cells E κ ∗ (src.view.loc (c.tc : Thread nD τ) ↦[src.view.set]{q} fs) ∗ (dst.view.loc (c'.tc : Thread nD τ) ↦[dst.view.set]{fullShare} fd)
        ∗ dutyTok E (P.cell (c, i)) 0 () ∗ dutyTok E (P.cell (c', i')) 0 () ∗ due c O')
      ⊢ iprop(((cred (tallyAt (P.cell (c, i)) () (P.amt i)) ∗ due c O) -∗ wp frame (wpE defs 𝒱 (c.tc : Thread nD τ) none) Set.univ (k ⟨⟩) Q)
          -∗ wp frame (wpE defs 𝒱 (c.tc : Thread nD τ) none) Set.univ (.op (.enqueueDma src (.remote (Dev.tc n : Thread nD τ) dst sS hsc) sm hsrc hdst hsem) k) Q) := by
  subst hc hS hsm
  unfold due
  iintro ⟨#Hcells, Hs, Hd, Ht, Ht', %W, HO⟩ Hk
  ihave Hi := (P.cells_at E κ (c, i)) $$ Hcells
  icases Hi with ⟨#Hinv, #Hr⟩
  ihave Hi' := (P.cells_at E κ (n, i')) $$ Hcells
  icases Hi' with ⟨#Hinv', #Hr'⟩
  iapply (Rounds.wp_send_pointsTo 𝒱 E P.sched (c.tc : Thread nD τ) none (κ₁ := κ (c, i)) (κ₂ := κ (n, i')) (r₁ := 0) (r₂ := 0) (d₁ := ()) (d₂ := ()) (fd := fd)
    (P.mem_duties (c, i)) (P.mem_duties (n, i')) () () (P.amt i') hn ((P.amount_cell (c, i) 0 ()).trans hi) (P.amount_cell (n, i') 0 ()) O hO (W := W)
    (hpay.trans (Entails.of_eq (P.payload_cell (c, i) 0 ()).symm)) (hpay'.trans (Entails.of_eq (P.payload_cell (n, i') 0 ()).symm)) hr) $$ [Hs Hd Ht Ht' HO]
  · isplitr; · iexact Hinv
    isplitr; · iexact Hinv'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hcr, HO⟩
  iapply Hk
  isplitl [Hcr]
  · rw [hi]; iexact Hcr
  iexists W; iexact HO

/-- A list of effects of the same kind, one after the other: `Pre` is used up and `Post` made at each, `St` is
    what is threaded through. -/
theorem wp_list {ι : Type} [DecidableEq ι] (c : Dev nD) (e : ι → TpuEff nD τ sig Val Λ .tc PUnit) (R : sProp 𝕄) [BI.Persistent R]
    (Pre Post : ι → sProp 𝕄) (St : List ι → sProp 𝕄) {α : Type} {Q : α → sProp 𝕄}
    (step : ∀ a l (k : PUnit → Prog (TpuEff nD τ sig Val Λ .tc) α), iprop(R ∗ Pre a ∗ St (a :: l))
      ⊢ iprop(((Post a ∗ St l) -∗ wp frame (wpE defs 𝒱 (c.tc : Thread nD τ) none) Set.univ (k ⟨⟩) Q)
          -∗ wp frame (wpE defs 𝒱 (c.tc : Thread nD τ) none) Set.univ (.op (e a) k) Q))
    (rest : Prog (TpuEff nD τ sig Val Λ .tc) α) : ∀ (l : List ι), l.Nodup →
    iprop(R ∗ bigSep l.toFinset Pre ∗ St l)
      ⊢ iprop(((bigSep l.toFinset Post ∗ St []) -∗ wp frame (wpE defs 𝒱 (c.tc : Thread nD τ) none) Set.univ rest Q)
          -∗ wp frame (wpE defs 𝒱 (c.tc : Thread nD τ) none) Set.univ (l.foldr (fun a k => .op (e a) fun _ => k) rest) Q)
  | [], _ => by
    simp only [List.toFinset_nil, bigSep_empty, List.foldr_nil]
    iintro ⟨-, -, HS⟩ Hk
    iapply Hk
    isplitr
    · iempintro
    · iexact HS
  | a :: l, hl => by
    obtain ⟨ha, hl⟩ := List.nodup_cons.mp hl
    have ha' : a ∉ l.toFinset := fun h => ha (List.mem_toFinset.mp h)
    rw [List.toFinset_cons, show bigSep (insert a l.toFinset) Pre = iprop(Pre a ∗ bigSep l.toFinset Pre) from bigSep_insert ha',
      show bigSep (insert a l.toFinset) Post = iprop(Post a ∗ bigSep l.toFinset Post) from bigSep_insert ha', List.foldr_cons]
    iintro ⟨#HR, ⟨Ha, Hl⟩, HS⟩ Hk
    iapply (step a l fun _ => l.foldr (fun a k => .op (e a) fun _ => k) rest) $$ [Ha HS]
    · isplitr; · iexact HR
      isplitl [Ha] <;> iassumption
    iintro ⟨Hpa, HS⟩
    iapply (wp_list c e R Pre Post St step rest l hl) $$ [Hl HS]
    · isplitr; · iexact HR
      isplitl [Hl] <;> iassumption
    iintro ⟨Hpl, HS⟩
    iapply Hk
    isplitl [Hpa Hpl]
    · isplitl [Hpa] <;> iassumption
    iexact HS

end Run

end Cert.Exchange

end
-- ==== Proof.Views.lean ====
/-
  The exchange kernel's transfers, named by the array (one of five) and the peer (one of seven), and the kernel's
  body written as five lists of them: the copies of the device's own blocks, the transfers to the peers, the waits
  for the landings, the waits for the departures and the waits for the own copies.
-/
module

public import proofs.«01_k».proof.Proof.Cells
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option Elab.async false

noncomputable section

namespace Cert.Exchange

open Cert.KernelIdeal Cert.KernelIdeal.Gen
open Idealize.ShloMosaic
open Idealize.ShloMosaic.TcCoe
open Idealize.SL Idealize.SL.Sem

variable {F : FTy → Type} [FloatOps F]

/-- The block shape of each array. -/
def blk : Fin 5 → Shape
  | 0 => S256x1024
  | 1 => S32x768
  | 2 => S128x1024
  | 3 => S704x1024
  | 4 => S352x1024

/-- Device `c`'s own block of the gradients it holds. -/
def inMy (c : Dev nD) : (a : Fin 5) → Memref sig .tc .hbm (blk a) .bf16
  | 0 => ((Memref.whole main_arg0).slice (Rect.unit (s := S8x256x1024) (k0_off1 c) S1x256x1024.size (k0_off1_inb c)) (fun _ => rfl)).squeeze S256x1024 squeezes_S1x256x1024_S256x1024
  | 1 => ((Memref.whole main_arg1).slice (Rect.unit (s := S8x32x768) (k0_off2 c) S1x32x768.size (k0_off2_inb c)) (fun _ => rfl)).squeeze S32x768 squeezes_S1x32x768_S32x768
  | 2 => ((Memref.whole main_arg2).slice (Rect.unit (s := S8x128x1024) (k0_off3 c) S1x128x1024.size (k0_off3_inb c)) (fun _ => rfl)).squeeze S128x1024 squeezes_S1x128x1024_S128x1024
  | 3 => ((Memref.whole main_arg3).slice (Rect.unit (s := S8x704x1024) (k0_off4 c) S1x704x1024.size (k0_off4_inb c)) (fun _ => rfl)).squeeze S704x1024 squeezes_S1x704x1024_S704x1024
  | 4 => ((Memref.whole main_arg4).slice (Rect.unit (s := S8x352x1024) (k0_off5 c) S1x352x1024.size (k0_off5_inb c)) (fun _ => rfl)).squeeze S352x1024 squeezes_S1x352x1024_S352x1024

theorem inMy_exact (c : Dev nD) : ∀ a : Fin 5, (inMy c a).view.WordExact
  | 0 => ((Memref.isWhole_whole main_arg0).wordExact_slice rfl _ (k0_off1_wordsbf16 c)).reshape _ _
  | 1 => ((Memref.isWhole_whole main_arg1).wordExact_slice rfl _ (k0_off2_wordsbf16 c)).reshape _ _
  | 2 => ((Memref.isWhole_whole main_arg2).wordExact_slice rfl _ (k0_off3_wordsbf16 c)).reshape _ _
  | 3 => ((Memref.isWhole_whole main_arg3).wordExact_slice rfl _ (k0_off4_wordsbf16 c)).reshape _ _
  | 4 => ((Memref.isWhole_whole main_arg4).wordExact_slice rfl _ (k0_off5_wordsbf16 c)).reshape _ _

theorem inMy_open (c : Dev nD) : ∀ a : Fin 5, (inMy c a).view.ref.isScScratch = false
  | 0 => rfl
  | 1 => rfl
  | 2 => rfl
  | 3 => rfl
  | 4 => rfl

/-- Device `c`'s block of a result, on whichever device it lies. -/
def outMy (c : Dev nD) : (a : Fin 5) → Memref sig .tc .hbm (blk a) .bf16
  | 0 => ((Memref.whole main_v1_0).slice (Rect.unit (s := S8x256x1024) (k0_off1 c) S1x256x1024.size (k0_off1_inb c)) (fun _ => rfl)).squeeze S256x1024 squeezes_S1x256x1024_S256x1024
  | 1 => ((Memref.whole main_v1_1).slice (Rect.unit (s := S8x32x768) (k0_off2 c) S1x32x768.size (k0_off2_inb c)) (fun _ => rfl)).squeeze S32x768 squeezes_S1x32x768_S32x768
  | 2 => ((Memref.whole main_v1_2).slice (Rect.unit (s := S8x128x1024) (k0_off3 c) S1x128x1024.size (k0_off3_inb c)) (fun _ => rfl)).squeeze S128x1024 squeezes_S1x128x1024_S128x1024
  | 3 => ((Memref.whole main_v1_3).slice (Rect.unit (s := S8x704x1024) (k0_off4 c) S1x704x1024.size (k0_off4_inb c)) (fun _ => rfl)).squeeze S704x1024 squeezes_S1x704x1024_S704x1024
  | 4 => ((Memref.whole main_v1_4).slice (Rect.unit (s := S8x352x1024) (k0_off5 c) S1x352x1024.size (k0_off5_inb c)) (fun _ => rfl)).squeeze S352x1024 squeezes_S1x352x1024_S352x1024

theorem outMy_exact (c : Dev nD) : ∀ a : Fin 5, (outMy c a).view.WordExact
  | 0 => ((Memref.isWhole_whole main_v1_0).wordExact_slice rfl _ (k0_off1_wordsbf16 c)).reshape _ _
  | 1 => ((Memref.isWhole_whole main_v1_1).wordExact_slice rfl _ (k0_off2_wordsbf16 c)).reshape _ _
  | 2 => ((Memref.isWhole_whole main_v1_2).wordExact_slice rfl _ (k0_off3_wordsbf16 c)).reshape _ _
  | 3 => ((Memref.isWhole_whole main_v1_3).wordExact_slice rfl _ (k0_off4_wordsbf16 c)).reshape _ _
  | 4 => ((Memref.isWhole_whole main_v1_4).wordExact_slice rfl _ (k0_off5_wordsbf16 c)).reshape _ _

theorem outMy_open (c : Dev nD) : ∀ a : Fin 5, (outMy c a).view.ref.isScScratch = false
  | 0 => rfl
  | 1 => rfl
  | 2 => rfl
  | 3 => rfl
  | 4 => rfl

/-- The block, among the gradients device `c` holds, that is meant for peer `r`. -/
def inPeer (c : Dev nD) (r : Fin 7) : (a : Fin 5) → Memref sig .tc .hbm (blk a) .bf16
  | 0 => ((Memref.whole main_arg0).slice (Rect.unit (s := S8x256x1024) (k0_off6 c (k0_off6_at r).1 (k0_off6_at r).2.1 (k0_off6_at r).2.2) S1x256x1024.size (k0_off6_inb c r)) (fun _ => rfl)).squeeze S256x1024 squeezes_S1x256x1024_S256x1024
  | 1 => ((Memref.whole main_arg1).slice (Rect.unit (s := S8x32x768) (k0_off7 c (k0_off7_at r).1 (k0_off7_at r).2.1 (k0_off7_at r).2.2) S1x32x768.size (k0_off7_inb c r)) (fun _ => rfl)).squeeze S32x768 squeezes_S1x32x768_S32x768
  | 2 => ((Memref.whole main_arg2).slice (Rect.unit (s := S8x128x1024) (k0_off8 c (k0_off8_at r).1 (k0_off8_at r).2.1 (k0_off8_at r).2.2) S1x128x1024.size (k0_off8_inb c r)) (fun _ => rfl)).squeeze S128x1024 squeezes_S1x128x1024_S128x1024
  | 3 => ((Memref.whole main_arg3).slice (Rect.unit (s := S8x704x1024) (k0_off9 c (k0_off9_at r).1 (k0_off9_at r).2.1 (k0_off9_at r).2.2) S1x704x1024.size (k0_off9_inb c r)) (fun _ => rfl)).squeeze S704x1024 squeezes_S1x704x1024_S704x1024
  | 4 => ((Memref.whole main_arg4).slice (Rect.unit (s := S8x352x1024) (k0_off10 c (k0_off10_at r).1 (k0_off10_at r).2.1 (k0_off10_at r).2.2) S1x352x1024.size (k0_off10_inb c r)) (fun _ => rfl)).squeeze S352x1024 squeezes_S1x352x1024_S352x1024

theorem inPeer_exact (c : Dev nD) (r : Fin 7) : ∀ a : Fin 5, (inPeer c r a).view.WordExact
  | 0 => ((Memref.isWhole_whole main_arg0).wordExact_slice rfl _ (k0_off6_wordsbf16 c r)).reshape _ _
  | 1 => ((Memref.isWhole_whole main_arg1).wordExact_slice rfl _ (k0_off7_wordsbf16 c r)).reshape _ _
  | 2 => ((Memref.isWhole_whole main_arg2).wordExact_slice rfl _ (k0_off8_wordsbf16 c r)).reshape _ _
  | 3 => ((Memref.isWhole_whole main_arg3).wordExact_slice rfl _ (k0_off9_wordsbf16 c r)).reshape _ _
  | 4 => ((Memref.isWhole_whole main_arg4).wordExact_slice rfl _ (k0_off10_wordsbf16 c r)).reshape _ _

theorem inPeer_open (c : Dev nD) (r : Fin 7) : ∀ a : Fin 5, (inPeer c r a).view.ref.isScScratch = false
  | 0 => rfl
  | 1 => rfl
  | 2 => rfl
  | 3 => rfl
  | 4 => rfl

/-- The block of device `c`'s result that comes from peer `r`. -/
def outPeer (c : Dev nD) (r : Fin 7) : (a : Fin 5) → Memref sig .tc .hbm (blk a) .bf16
  | 0 => ((Memref.whole main_v1_0).slice (Rect.unit (s := S8x256x1024) (k0_off6 c (k0_off6_at r).1 (k0_off6_at r).2.1 (k0_off6_at r).2.2) S1x256x1024.size (k0_off6_inb c r)) (fun _ => rfl)).squeeze S256x1024 squeezes_S1x256x1024_S256x1024
  | 1 => ((Memref.whole main_v1_1).slice (Rect.unit (s := S8x32x768) (k0_off7 c (k0_off7_at r).1 (k0_off7_at r).2.1 (k0_off7_at r).2.2) S1x32x768.size (k0_off7_inb c r)) (fun _ => rfl)).squeeze S32x768 squeezes_S1x32x768_S32x768
  | 2 => ((Memref.whole main_v1_2).slice (Rect.unit (s := S8x128x1024) (k0_off8 c (k0_off8_at r).1 (k0_off8_at r).2.1 (k0_off8_at r).2.2) S1x128x1024.size (k0_off8_inb c r)) (fun _ => rfl)).squeeze S128x1024 squeezes_S1x128x1024_S128x1024
  | 3 => ((Memref.whole main_v1_3).slice (Rect.unit (s := S8x704x1024) (k0_off9 c (k0_off9_at r).1 (k0_off9_at r).2.1 (k0_off9_at r).2.2) S1x704x1024.size (k0_off9_inb c r)) (fun _ => rfl)).squeeze S704x1024 squeezes_S1x704x1024_S704x1024
  | 4 => ((Memref.whole main_v1_4).slice (Rect.unit (s := S8x352x1024) (k0_off10 c (k0_off10_at r).1 (k0_off10_at r).2.1 (k0_off10_at r).2.2) S1x352x1024.size (k0_off10_inb c r)) (fun _ => rfl)).squeeze S352x1024 squeezes_S1x352x1024_S352x1024

theorem outPeer_exact (c : Dev nD) (r : Fin 7) : ∀ a : Fin 5, (outPeer c r a).view.WordExact
  | 0 => ((Memref.isWhole_whole main_v1_0).wordExact_slice rfl _ (k0_off6_wordsbf16 c r)).reshape _ _
  | 1 => ((Memref.isWhole_whole main_v1_1).wordExact_slice rfl _ (k0_off7_wordsbf16 c r)).reshape _ _
  | 2 => ((Memref.isWhole_whole main_v1_2).wordExact_slice rfl _ (k0_off8_wordsbf16 c r)).reshape _ _
  | 3 => ((Memref.isWhole_whole main_v1_3).wordExact_slice rfl _ (k0_off9_wordsbf16 c r)).reshape _ _
  | 4 => ((Memref.isWhole_whole main_v1_4).wordExact_slice rfl _ (k0_off10_wordsbf16 c r)).reshape _ _

theorem outPeer_open (c : Dev nD) (r : Fin 7) : ∀ a : Fin 5, (outPeer c r a).view.ref.isScScratch = false
  | 0 => rfl
  | 1 => rfl
  | 2 => rfl
  | 3 => rfl
  | 4 => rfl

/-- The device that transfer `(a, r)` of device `c` goes to, as the kernel computes it. -/
def target (c : Dev nD) : Fin 5 → Fin 7 → Dev nD :=
  ![![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩],
    ![⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩],
    ![⟨k0_dev15 c, k0_dev15_lt c⟩, ⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩],
    ![⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩],
    ![⟨k0_dev29 c, k0_dev29_lt c⟩, ⟨k0_dev30 c, k0_dev30_lt c⟩, ⟨k0_dev31 c, k0_dev31_lt c⟩, ⟨k0_dev32 c, k0_dev32_lt c⟩, ⟨k0_dev33 c, k0_dev33_lt c⟩, ⟨k0_dev34 c, k0_dev34_lt c⟩, ⟨k0_dev35 c, k0_dev35_lt c⟩]]

theorem inb5 (a : Fin 5) : ∀ i, (![a.val] : Fin 1 → ℕ) i + S1.size i ≤ S5.size i := by revert a; decide
theorem inb35 (a : Fin 5) (r : Fin 7) : ∀ i, (![7 * a.val + r.val] : Fin 1 → ℕ) i + S1.size i ≤ S35.size i := by revert a r; decide

/-- The semaphore of the copy of an own block. -/
def semOwn (a : Fin 5) : DmaSem sig := ((cc0_scratch2.slice (Rect.unit (s := S5) ![a.val] S1.size (inb5 a))).squeeze S_ squeezes_S1_S_).sem
/-- The semaphore of a transfer's departure. -/
def semOut (a : Fin 5) (r : Fin 7) : DmaSem sig := ((cc0_scratch0.slice (Rect.unit (s := S35) ![7 * a.val + r.val] S1.size (inb35 a r))).squeeze S_ squeezes_S1_S_).sem
/-- The semaphore of a transfer's landing. -/
def semIn (a : Fin 5) (r : Fin 7) : DmaSem sig := ((cc0_scratch1.slice (Rect.unit (s := S35) ![7 * a.val + r.val] S1.size (inb35 a r))).squeeze S_ squeezes_S1_S_).sem

/-- The type of the kernel's operations that return nothing. -/
abbrev Op (F : FTy → Type) := TpuEff nD τ sig (Elt F) Λ₀ .tc PUnit

/-- Start of the copy of an own block. -/
def startOwn (c : Dev nD) (a : Fin 5) : Op F :=
  .enqueueDma (inMy c a) (.here (outMy c a)) (.dma (semOwn a)) (inMy_exact c a) (outMy_exact c a) ⟨Or.inl rfl, trivial⟩
/-- Start of a transfer to a peer. -/
def startOut (c : Dev nD) (k : Fin 5 × Fin 7) : Op F :=
  .enqueueDma (inPeer c k.2 k.1) (.remote (Dev.tc (target c k.1 k.2)) (outMy c k.1) (.dma (semOut k.1 k.2)) (outMy_open c k.1)) (.dma (semIn k.1 k.2))
    (inPeer_exact c k.2 k.1) (outMy_exact c k.1) ⟨⟨rfl, Or.inl rfl⟩, trivial⟩
/-- Wait for the landing of the block a peer sends. -/
def waitIn (c : Dev nD) (k : Fin 5 × Fin 7) : Op F :=
  .waitDma2 (semIn k.1 k.2) (inMy c k.1) (outPeer c k.2 k.1) (inMy_exact c k.1) (outPeer_exact c k.2 k.1)
/-- Wait for the departure of the block meant for a peer. -/
def waitOut (c : Dev nD) (k : Fin 5 × Fin 7) : Op F :=
  .waitDma2 (semOut k.1 k.2) (outMy c k.1) (inPeer c k.2 k.1) (outMy_exact c k.1) (inPeer_exact c k.2 k.1)
/-- Wait for the copy of an own block. -/
def waitOwn (c : Dev nD) (a : Fin 5) : Op F :=
  .waitDma2 (semOwn a) (inMy c a) (outMy c a) (inMy_exact c a) (outMy_exact c a)

/-- The arrays in the kernel's order. -/
def arrays : List (Fin 5) := [0, 1, 2, 3, 4]
/-- The transfers in the kernel's order. -/
def pairs : List (Fin 5 × Fin 7) :=
  [(0, 0), (0, 1), (0, 2), (0, 3), (0, 4), (0, 5), (0, 6),
   (1, 0), (1, 1), (1, 2), (1, 3), (1, 4), (1, 5), (1, 6),
   (2, 0), (2, 1), (2, 2), (2, 3), (2, 4), (2, 5), (2, 6),
   (3, 0), (3, 1), (3, 2), (3, 3), (3, 4), (3, 5), (3, 6),
   (4, 0), (4, 1), (4, 2), (4, 3), (4, 4), (4, 5), (4, 6)]

/-- One kind of transfer or wait over a list, then the rest of the body. -/
def run {ι : Type} (e : ι → Op F) (l : List ι) (rest : Prog (TpuEff nD τ sig (Elt F) Λ₀ .tc) PUnit) : Prog (TpuEff nD τ sig (Elt F) Λ₀ .tc) PUnit :=
  l.foldr (fun a k => .op (e a) fun _ => k) rest

/-- The body on device `c`. -/
def body (c : Dev nD) : Prog (TpuEff nD τ sig (Elt F) Λ₀ .tc) PUnit :=
  run (startOwn c) arrays (run (startOut c) pairs (run (waitIn c) pairs (run (waitOut c) pairs (run (waitOwn c) arrays (.ret ⟨⟩)))))

set_option maxRecDepth 100000 in
set_option maxHeartbeats 4000000 in
/-- The kernel is that body, once it has asked which device it runs on. -/
theorem bodyAt0_eq (t : Fin cfg0.N) : bodyAt0 (F := F) t = .op .deviceId (fun c => body c) := rfl

end Cert.Exchange

end
-- ==== Proof.Slab.lean ====
/-
  Slabs of a rank-three buffer with eight rows along its first axis: their element sets, the buffer held slab by
  slab, and what a slab written with another slab's values holds.
-/
module

public import proofs.«01_k».proof.Proof.Cells
public import Idealize.ShloMosaic.Lib.Ring
public import Idealize.ShloMosaic.Lib.ViewIndex

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.Sem

/-- Peer `r` of device `c`: the device whose number differs from `c`'s in the bits of `r + 1`. -/
def peer (c : Fin 8) (r : Fin 7) : Fin 8 := ⟨(c.val ^^^ (r.val + 1)) % 8, Nat.mod_lt _ (by decide)⟩

theorem peer_peer : ∀ (c : Fin 8) (r : Fin 7), peer (peer c r) r = c := by decide

/-- Device `c` and its seven peers are the eight devices. -/
def around (c : Fin 8) : Option (Fin 7) ≃ Fin 8 :=
  Equiv.ofBijective (fun o => o.elim c (peer c)) (by revert c; decide)

theorem around_none (c : Fin 8) : around c none = c := rfl
theorem around_some (c : Fin 8) (r : Fin 7) : around c (some r) = peer c r := rfl

/-- Pairs of a device and a transfer, each replaced by the device at the transfer's other end. -/
def across {ι : Type} (f : ι → Fin 7) : Fin 8 × ι ≃ Fin 8 × ι where
  toFun k := (peer k.1 (f k.2), k.2)
  invFun k := (peer k.1 (f k.2), k.2)
  left_inv k := by simp [peer_peer]
  right_inv k := by simp [peer_peer]

/-- A buffer of eight slabs. -/
abbrev Slabs (R N : ℕ) : Shape := ⟨3, ![8, R, N]⟩
/-- One slab of it. -/
abbrev Slab1 (R N : ℕ) : Shape := ⟨3, ![1, R, N]⟩

variable {R N : ℕ}

theorem mem_slab {o : Fin 3 → ℕ} {inb : ∀ a, o a + (Slab1 R N).size a ≤ (Slabs R N).size a} {k : ℕ} (ho : o = ![k, 0, 0]) (i : (Slabs R N).Idx) :
    i ∈ (Rect.unit (s := Slabs R N) o (Slab1 R N).size inb).set ↔ (i 0).val = k := by
  subst ho
  rw [Rect.mem_set_unit]
  constructor
  · intro h
    have h0 : k ≤ (i 0).val ∧ (i 0).val < k + 1 := h 0
    omega
  · intro h a
    match a with
    | 0 => exact (show k ≤ (i 0).val ∧ (i 0).val < k + 1 from ⟨h.ge, by omega⟩)
    | 1 => exact (show 0 ≤ (i 1).val ∧ (i 1).val < 0 + R from ⟨Nat.zero_le _, by have := (i 1).isLt; show _ < 0 + R; rw [Nat.zero_add]; exact this⟩)
    | 2 => exact (show 0 ≤ (i 2).val ∧ (i 2).val < 0 + N from ⟨Nat.zero_le _, by have := (i 2).isLt; show _ < 0 + N; rw [Nat.zero_add]; exact this⟩)

/-- Sets that are the slabs are disjoint. -/
theorem slabs_disjoint (I : Fin 8 → Finset (Slabs R N).Idx) (hI : ∀ s i, i ∈ I s ↔ (i 0).val = s.val) :
    ∀ b b', b ≠ b' → Disjoint (I b) (I b') := fun b b' h =>
  Finset.disjoint_left.mpr fun i hi hi' => h (Fin.ext (((hI b i).mp hi).symm.trans ((hI b' i).mp hi')))

/-- They cover the buffer. -/
theorem slabs_cover (I : Fin 8 → Finset (Slabs R N).Idx) (hI : ∀ s i, i ∈ I s ↔ (i 0).val = s.val) :
    Finset.univ.biUnion I = Finset.univ :=
  Finset.eq_univ_of_forall fun i => Finset.mem_biUnion.mpr ⟨i 0, Finset.mem_univ _, (hI (i 0) i).mpr rfl⟩

/-- The index with its slab replaced. -/
def atSlab (c : Fin 8) (i : (Slabs R N).Idx) : (Slabs R N).Idx :=
  @Fin.cases 2 (fun a => Fin ((Slabs R N).size a)) c (fun j => i j.succ)

theorem atSlab_zero (c : Fin 8) (i : (Slabs R N).Idx) : (atSlab c i 0).val = c.val := rfl
theorem atSlab_one (c : Fin 8) (i : (Slabs R N).Idx) : (atSlab c i 1).val = (i 1).val := rfl
theorem atSlab_two (c : Fin 8) (i : (Slabs R N).Idx) : (atSlab c i 2).val = (i 2).val := rfl

/-- The values `g` of every device, the slab and the device exchanged: what device `c` ends with. -/
def exchanged {α : Type} (g : Fin 8 → (Slabs R N).Idx → α) (c : Fin 8) : (Slabs R N).Idx → α := fun i => g (i 0) (atSlab c i)

/-- Slab `s` of what device `c` ends with is slab `c` of what device `s` holds. -/
theorem exchanged_slab {α : Type} (g : Fin 8 → (Slabs R N).Idx → α) (c s : Fin 8) {o o' : Fin 3 → ℕ}
    {inb : ∀ a, o a + (Slab1 R N).size a ≤ (Slabs R N).size a} {inb' : ∀ a, o' a + (Slab1 R N).size a ≤ (Slabs R N).size a}
    (ho : o = ![s.val, 0, 0]) (ho' : o' = ![c.val, 0, 0]) (y : (Slab1 R N).Idx) :
    exchanged g c ((Rect.unit (s := Slabs R N) o (Slab1 R N).size inb).emb y) = g s ((Rect.unit (s := Slabs R N) o' (Slab1 R N).size inb').emb y) := by
  subst ho ho'
  have hy : (y 0).val = 0 := by have h : (y 0).val < 1 := (y 0).isLt; omega
  have h0 : ((Rect.unit (s := Slabs R N) ![s.val, 0, 0] (Slab1 R N).size inb).emb y) 0 = s := Fin.ext (by
    rw [Rect.emb_apply]; show s.val + 1 * (y 0).val = s.val; omega)
  unfold exchanged
  refine congrArg₂ g h0 (funext fun a => Fin.ext ?_)
  match a with
  | 0 => exact (atSlab_zero c _).trans (by rw [Rect.emb_apply]; show c.val = c.val + 1 * (y 0).val; omega)
  | 1 => exact (atSlab_one c _).trans (by rw [Rect.emb_apply, Rect.emb_apply]; rfl)
  | 2 => exact (atSlab_two c _).trans (by rw [Rect.emb_apply, Rect.emb_apply]; rfl)

section Sums

variable {M : Type} [URA M]

/-- Over all devices: device `c` itself, then its peers. -/
theorem by_peer (Φ : Fin 8 → sProp M) (c : Fin 8) :
    bigSep Finset.univ Φ = iprop(Φ c ∗ bigSep Finset.univ fun r : Fin 7 => Φ (peer c r)) := by
  rw [bigSep_univ_equiv (around c) Φ, bigSep_univ_equiv (Equiv.optionEquivSumPUnit.{0} (Fin 7)).symm, bigSep_univ_sum,
    show (Finset.univ : Finset PUnit.{1}) = {PUnit.unit} from rfl, bigSep_singleton]
  exact BI.Entails.antisymm (BI.sep_comm (P := _) (Q := _)) (BI.sep_comm (P := _) (Q := _))

/-- Over devices and transfers, at the transfer's other end instead. -/
theorem swapped {ι : Type} [Fintype ι] (f : ι → Fin 7) (Φ : Fin 8 → ι → sProp M) :
    (bigSep Finset.univ fun c => bigSep Finset.univ fun k => Φ c k)
      = bigSep Finset.univ fun c => bigSep Finset.univ fun k => Φ (peer c (f k)) k := by
  rw [← bigSep_univ_prod fun k : Fin 8 × ι => Φ k.1 k.2, bigSep_univ_equiv (across f), bigSep_univ_prod]
  rfl

end Sums

section Assertion

variable {nD : Nat} {τ : Topo} {sig : RefSig} {Val : EltTy → Type} {U : Type} [URA U]

local notation "𝕄" => MT nD τ sig Unit Val ℕ U ℕ

/-- A view written with values that it reads in `g` is that view at `g`. -/
theorem written_eq {κ : Kind} {sp : Space} {s : Shape} {e : EltTy} (v : View sig κ sp s e) (f g : v.ty.Contents Val) (w : s.Idx → Val e)
    (h : v.read Val g = w) : ∀ i ∈ v.set, v.write Val f w Finset.univ i = g i := by
  intro i hi
  obtain ⟨x, -, rfl⟩ := Finset.mem_map.mp hi
  exact View.eq_of_read_eq (by rw [View.read_write_univ, h])

end Assertion

end Cert.Exchange

end
-- ==== Proof.Slots.lean ====
/-
  What the exchange kernel's blocks are: their offsets, which devices a transfer joins, the buffers held block by
  block, and the contents a landing leaves.
-/
module

public import proofs.«01_k».proof.Proof.Views
public import proofs.«01_k».proof.Proof.Slab

@[expose] public section

set_option Elab.async false

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.Sem

variable {F : FTy → Type} [FloatOps F] {U : Type} [URA U]

local notation "𝕄" => MT nD τ sig Unit (Elt F) ℕ U ℕ

theorem own0 : ∀ c : Dev nD, k0_off1 c = ![c.val, 0, 0] := by decide +kernel
theorem meant0 : ∀ (c : Dev nD) (r : Fin 7), k0_off6 c (k0_off6_at r).1 (k0_off6_at r).2.1 (k0_off6_at r).2.2 = ![(peer c r).val, 0, 0] := by decide +kernel
theorem own1 : ∀ c : Dev nD, k0_off2 c = ![c.val, 0, 0] := by decide +kernel
theorem meant1 : ∀ (c : Dev nD) (r : Fin 7), k0_off7 c (k0_off7_at r).1 (k0_off7_at r).2.1 (k0_off7_at r).2.2 = ![(peer c r).val, 0, 0] := by decide +kernel
theorem own2 : ∀ c : Dev nD, k0_off3 c = ![c.val, 0, 0] := by decide +kernel
theorem meant2 : ∀ (c : Dev nD) (r : Fin 7), k0_off8 c (k0_off8_at r).1 (k0_off8_at r).2.1 (k0_off8_at r).2.2 = ![(peer c r).val, 0, 0] := by decide +kernel
theorem own3 : ∀ c : Dev nD, k0_off4 c = ![c.val, 0, 0] := by decide +kernel
theorem meant3 : ∀ (c : Dev nD) (r : Fin 7), k0_off9 c (k0_off9_at r).1 (k0_off9_at r).2.1 (k0_off9_at r).2.2 = ![(peer c r).val, 0, 0] := by decide +kernel
theorem own4 : ∀ c : Dev nD, k0_off5 c = ![c.val, 0, 0] := by decide +kernel
theorem meant4 : ∀ (c : Dev nD) (r : Fin 7), k0_off10 c (k0_off10_at r).1 (k0_off10_at r).2.1 (k0_off10_at r).2.2 = ![(peer c r).val, 0, 0] := by decide +kernel

/-- Transfer `(a, r)` of device `c` goes to peer `r`. -/
theorem target_eq : ∀ (c : Dev nD) (a : Fin 5) (r : Fin 7), target c a r = peer c r := by decide +kernel

/-- The block that goes to, or comes from, peer `r` is the peer's block. -/
theorem inPeer_eq (c : Dev nD) (r : Fin 7) : ∀ a : Fin 5, inPeer c r a = inMy (peer c r) a
  | 0 => congrArg (fun v : Memref sig .tc .hbm S1x256x1024 .bf16 => v.squeeze S256x1024 squeezes_S1x256x1024_S256x1024)
      (Memref.slice_unit_congr (Memref.whole main_arg0) ((meant0 c r).trans (own0 (peer c r)).symm) _ _ _ _)
  | 1 => congrArg (fun v : Memref sig .tc .hbm S1x32x768 .bf16 => v.squeeze S32x768 squeezes_S1x32x768_S32x768)
      (Memref.slice_unit_congr (Memref.whole main_arg1) ((meant1 c r).trans (own1 (peer c r)).symm) _ _ _ _)
  | 2 => congrArg (fun v : Memref sig .tc .hbm S1x128x1024 .bf16 => v.squeeze S128x1024 squeezes_S1x128x1024_S128x1024)
      (Memref.slice_unit_congr (Memref.whole main_arg2) ((meant2 c r).trans (own2 (peer c r)).symm) _ _ _ _)
  | 3 => congrArg (fun v : Memref sig .tc .hbm S1x704x1024 .bf16 => v.squeeze S704x1024 squeezes_S1x704x1024_S704x1024)
      (Memref.slice_unit_congr (Memref.whole main_arg3) ((meant3 c r).trans (own3 (peer c r)).symm) _ _ _ _)
  | 4 => congrArg (fun v : Memref sig .tc .hbm S1x352x1024 .bf16 => v.squeeze S352x1024 squeezes_S1x352x1024_S352x1024)
      (Memref.slice_unit_congr (Memref.whole main_arg4) ((meant4 c r).trans (own4 (peer c r)).symm) _ _ _ _)
/-- The block that goes to, or comes from, peer `r` is the peer's block. -/
theorem outPeer_eq (c : Dev nD) (r : Fin 7) : ∀ a : Fin 5, outPeer c r a = outMy (peer c r) a
  | 0 => congrArg (fun v : Memref sig .tc .hbm S1x256x1024 .bf16 => v.squeeze S256x1024 squeezes_S1x256x1024_S256x1024)
      (Memref.slice_unit_congr (Memref.whole main_v1_0) ((meant0 c r).trans (own0 (peer c r)).symm) _ _ _ _)
  | 1 => congrArg (fun v : Memref sig .tc .hbm S1x32x768 .bf16 => v.squeeze S32x768 squeezes_S1x32x768_S32x768)
      (Memref.slice_unit_congr (Memref.whole main_v1_1) ((meant1 c r).trans (own1 (peer c r)).symm) _ _ _ _)
  | 2 => congrArg (fun v : Memref sig .tc .hbm S1x128x1024 .bf16 => v.squeeze S128x1024 squeezes_S1x128x1024_S128x1024)
      (Memref.slice_unit_congr (Memref.whole main_v1_2) ((meant2 c r).trans (own2 (peer c r)).symm) _ _ _ _)
  | 3 => congrArg (fun v : Memref sig .tc .hbm S1x704x1024 .bf16 => v.squeeze S704x1024 squeezes_S1x704x1024_S704x1024)
      (Memref.slice_unit_congr (Memref.whole main_v1_3) ((meant3 c r).trans (own3 (peer c r)).symm) _ _ _ _)
  | 4 => congrArg (fun v : Memref sig .tc .hbm S1x352x1024 .bf16 => v.squeeze S352x1024 squeezes_S1x352x1024_S352x1024)
      (Memref.slice_unit_congr (Memref.whole main_v1_4) ((meant4 c r).trans (own4 (peer c r)).symm) _ _ _ _)

/-- The buffers of gradients. -/
def srcRef : Fin 5 → Ref sig .tc
  | 0 => main_arg0
  | 1 => main_arg1
  | 2 => main_arg2
  | 3 => main_arg3
  | 4 => main_arg4
/-- The buffers of the results. -/
def dstRef : Fin 5 → Ref sig .tc
  | 0 => main_v1_0
  | 1 => main_v1_1
  | 2 => main_v1_2
  | 3 => main_v1_3
  | 4 => main_v1_4

/-- What every device holds of an array when the run starts. -/
def start (m : (ℓ : Loc nD τ sig) → Buf (Elt F) ℓ) : (a : Fin 5) → Fin 8 → (srcRef a).ty.Contents (Elt F) :=
  fun a d => m ((Dev.tc d : Thread nD τ).loc (srcRef a))

/-- What device `c` ends with of a result: block `s` is block `c` of what device `s` started with. -/
def final (m : (ℓ : Loc nD τ sig) → Buf (Elt F) ℓ) (c : Dev nD) : (a : Fin 5) → Buf (Elt F) ((c.tc : Thread nD τ).loc (dstRef a))
  | 0 => exchanged (R := 256) (N := 1024) (start m 0) c
  | 1 => exchanged (R := 32) (N := 768) (start m 1) c
  | 2 => exchanged (R := 128) (N := 1024) (start m 2) c
  | 3 => exchanged (R := 704) (N := 1024) (start m 3) c
  | 4 => exchanged (R := 352) (N := 1024) (start m 4) c

/-- The same, at the buffer a block lies in. -/
def finalAt (m : (ℓ : Loc nD τ sig) → Buf (Elt F) ℓ) (c s : Dev nD) : (a : Fin 5) → Buf (Elt F) ((outMy s a).view.loc (c.tc : Thread nD τ))
  | 0 => final m c 0
  | 1 => final m c 1
  | 2 => final m c 2
  | 3 => final m c 3
  | 4 => final m c 4

/-- Block `s` of an array of gradients on device `c`, as it was at the start. -/
def inBlock (m : (ℓ : Loc nD τ sig) → Buf (Elt F) ℓ) (c s : Dev nD) (a : Fin 5) : sProp 𝕄 :=
  (inMy s a).view.loc (c.tc : Thread nD τ) ↦[(inMy s a).view.set]{fullShare} m _
/-- Block `s` of a result on device `c`, as it was at the start. -/
def outBlock (m : (ℓ : Loc nD τ sig) → Buf (Elt F) ℓ) (c s : Dev nD) (a : Fin 5) : sProp 𝕄 :=
  (outMy s a).view.loc (c.tc : Thread nD τ) ↦[(outMy s a).view.set]{fullShare} m _
/-- Block `s` of a result on device `c`, as it is in the end. -/
def newBlock (m : (ℓ : Loc nD τ sig) → Buf (Elt F) ℓ) (c s : Dev nD) (a : Fin 5) : sProp 𝕄 :=
  (outMy s a).view.loc (c.tc : Thread nD τ) ↦[(outMy s a).view.set]{fullShare} finalAt m c s a

theorem in_mem0 (s : Dev nD) (i : (Slabs 256 1024).Idx) : i ∈ (inMy s 0).view.set ↔ (i 0).val = s.val := by
  rw [show (inMy s 0).view.set = (Rect.unit (s := S8x256x1024) (k0_off1 s) S1x256x1024.size (k0_off1_inb s)).set from
    (View.set_reshape _ _).trans (View.set_slice_whole main_arg0 _)]
  exact mem_slab (own0 s) i
theorem in_mem1 (s : Dev nD) (i : (Slabs 32 768).Idx) : i ∈ (inMy s 1).view.set ↔ (i 0).val = s.val := by
  rw [show (inMy s 1).view.set = (Rect.unit (s := S8x32x768) (k0_off2 s) S1x32x768.size (k0_off2_inb s)).set from
    (View.set_reshape _ _).trans (View.set_slice_whole main_arg1 _)]
  exact mem_slab (own1 s) i
theorem in_mem2 (s : Dev nD) (i : (Slabs 128 1024).Idx) : i ∈ (inMy s 2).view.set ↔ (i 0).val = s.val := by
  rw [show (inMy s 2).view.set = (Rect.unit (s := S8x128x1024) (k0_off3 s) S1x128x1024.size (k0_off3_inb s)).set from
    (View.set_reshape _ _).trans (View.set_slice_whole main_arg2 _)]
  exact mem_slab (own2 s) i
theorem in_mem3 (s : Dev nD) (i : (Slabs 704 1024).Idx) : i ∈ (inMy s 3).view.set ↔ (i 0).val = s.val := by
  rw [show (inMy s 3).view.set = (Rect.unit (s := S8x704x1024) (k0_off4 s) S1x704x1024.size (k0_off4_inb s)).set from
    (View.set_reshape _ _).trans (View.set_slice_whole main_arg3 _)]
  exact mem_slab (own3 s) i
theorem in_mem4 (s : Dev nD) (i : (Slabs 352 1024).Idx) : i ∈ (inMy s 4).view.set ↔ (i 0).val = s.val := by
  rw [show (inMy s 4).view.set = (Rect.unit (s := S8x352x1024) (k0_off5 s) S1x352x1024.size (k0_off5_inb s)).set from
    (View.set_reshape _ _).trans (View.set_slice_whole main_arg4 _)]
  exact mem_slab (own4 s) i
theorem out_mem0 (s : Dev nD) (i : (Slabs 256 1024).Idx) : i ∈ (outMy s 0).view.set ↔ (i 0).val = s.val := by
  rw [show (outMy s 0).view.set = (Rect.unit (s := S8x256x1024) (k0_off1 s) S1x256x1024.size (k0_off1_inb s)).set from
    (View.set_reshape _ _).trans (View.set_slice_whole main_v1_0 _)]
  exact mem_slab (own0 s) i
theorem out_mem1 (s : Dev nD) (i : (Slabs 32 768).Idx) : i ∈ (outMy s 1).view.set ↔ (i 0).val = s.val := by
  rw [show (outMy s 1).view.set = (Rect.unit (s := S8x32x768) (k0_off2 s) S1x32x768.size (k0_off2_inb s)).set from
    (View.set_reshape _ _).trans (View.set_slice_whole main_v1_1 _)]
  exact mem_slab (own1 s) i
theorem out_mem2 (s : Dev nD) (i : (Slabs 128 1024).Idx) : i ∈ (outMy s 2).view.set ↔ (i 0).val = s.val := by
  rw [show (outMy s 2).view.set = (Rect.unit (s := S8x128x1024) (k0_off3 s) S1x128x1024.size (k0_off3_inb s)).set from
    (View.set_reshape _ _).trans (View.set_slice_whole main_v1_2 _)]
  exact mem_slab (own2 s) i
theorem out_mem3 (s : Dev nD) (i : (Slabs 704 1024).Idx) : i ∈ (outMy s 3).view.set ↔ (i 0).val = s.val := by
  rw [show (outMy s 3).view.set = (Rect.unit (s := S8x704x1024) (k0_off4 s) S1x704x1024.size (k0_off4_inb s)).set from
    (View.set_reshape _ _).trans (View.set_slice_whole main_v1_3 _)]
  exact mem_slab (own3 s) i
theorem out_mem4 (s : Dev nD) (i : (Slabs 352 1024).Idx) : i ∈ (outMy s 4).view.set ↔ (i 0).val = s.val := by
  rw [show (outMy s 4).view.set = (Rect.unit (s := S8x352x1024) (k0_off5 s) S1x352x1024.size (k0_off5_inb s)).set from
    (View.set_reshape _ _).trans (View.set_slice_whole main_v1_4 _)]
  exact mem_slab (own4 s) i
theorem inBlock_all0 (m : (ℓ : Loc nD τ sig) → Buf (Elt F) ℓ) (c : Dev nD) :
    ((c.tc : Thread nD τ).loc main_arg0 ↦{fullShare} (m ((c.tc : Thread nD τ).loc main_arg0) : Buf (Elt F) ((c.tc : Thread nD τ).loc main_arg0)) : sProp 𝕄) = bigSep Finset.univ fun s => inBlock m c s 0 :=
  Ring.pointsTo_blocks (ℓ := (c.tc : Thread nD τ).loc main_arg0) (B := Fin 8) (fun s => (inMy s 0).view.set) (slabs_disjoint (R := 256) (N := 1024) _ (in_mem0))
    (slabs_cover (R := 256) (N := 1024) _ (in_mem0)) (m ((c.tc : Thread nD τ).loc main_arg0) : Buf (Elt F) ((c.tc : Thread nD τ).loc main_arg0))
theorem inBlock_all1 (m : (ℓ : Loc nD τ sig) → Buf (Elt F) ℓ) (c : Dev nD) :
    ((c.tc : Thread nD τ).loc main_arg1 ↦{fullShare} (m ((c.tc : Thread nD τ).loc main_arg1) : Buf (Elt F) ((c.tc : Thread nD τ).loc main_arg1)) : sProp 𝕄) = bigSep Finset.univ fun s => inBlock m c s 1 :=
  Ring.pointsTo_blocks (ℓ := (c.tc : Thread nD τ).loc main_arg1) (B := Fin 8) (fun s => (inMy s 1).view.set) (slabs_disjoint (R := 32) (N := 768) _ (in_mem1))
    (slabs_cover (R := 32) (N := 768) _ (in_mem1)) (m ((c.tc : Thread nD τ).loc main_arg1) : Buf (Elt F) ((c.tc : Thread nD τ).loc main_arg1))
theorem inBlock_all2 (m : (ℓ : Loc nD τ sig) → Buf (Elt F) ℓ) (c : Dev nD) :
    ((c.tc : Thread nD τ).loc main_arg2 ↦{fullShare} (m ((c.tc : Thread nD τ).loc main_arg2) : Buf (Elt F) ((c.tc : Thread nD τ).loc main_arg2)) : sProp 𝕄) = bigSep Finset.univ fun s => inBlock m c s 2 :=
  Ring.pointsTo_blocks (ℓ := (c.tc : Thread nD τ).loc main_arg2) (B := Fin 8) (fun s => (inMy s 2).view.set) (slabs_disjoint (R := 128) (N := 1024) _ (in_mem2))
    (slabs_cover (R := 128) (N := 1024) _ (in_mem2)) (m ((c.tc : Thread nD τ).loc main_arg2) : Buf (Elt F) ((c.tc : Thread nD τ).loc main_arg2))
theorem inBlock_all3 (m : (ℓ : Loc nD τ sig) → Buf (Elt F) ℓ) (c : Dev nD) :
    ((c.tc : Thread nD τ).loc main_arg3 ↦{fullShare} (m ((c.tc : Thread nD τ).loc main_arg3) : Buf (Elt F) ((c.tc : Thread nD τ).loc main_arg3)) : sProp 𝕄) = bigSep Finset.univ fun s => inBlock m c s 3 :=
  Ring.pointsTo_blocks (ℓ := (c.tc : Thread nD τ).loc main_arg3) (B := Fin 8) (fun s => (inMy s 3).view.set) (slabs_disjoint (R := 704) (N := 1024) _ (in_mem3))
    (slabs_cover (R := 704) (N := 1024) _ (in_mem3)) (m ((c.tc : Thread nD τ).loc main_arg3) : Buf (Elt F) ((c.tc : Thread nD τ).loc main_arg3))
theorem inBlock_all4 (m : (ℓ : Loc nD τ sig) → Buf (Elt F) ℓ) (c : Dev nD) :
    ((c.tc : Thread nD τ).loc main_arg4 ↦{fullShare} (m ((c.tc : Thread nD τ).loc main_arg4) : Buf (Elt F) ((c.tc : Thread nD τ).loc main_arg4)) : sProp 𝕄) = bigSep Finset.univ fun s => inBlock m c s 4 :=
  Ring.pointsTo_blocks (ℓ := (c.tc : Thread nD τ).loc main_arg4) (B := Fin 8) (fun s => (inMy s 4).view.set) (slabs_disjoint (R := 352) (N := 1024) _ (in_mem4))
    (slabs_cover (R := 352) (N := 1024) _ (in_mem4)) (m ((c.tc : Thread nD τ).loc main_arg4) : Buf (Elt F) ((c.tc : Thread nD τ).loc main_arg4))

/-- An array of gradients is held block by block. -/
theorem inBlock_all (m : (ℓ : Loc nD τ sig) → Buf (Elt F) ℓ) (c : Dev nD) : ∀ a : Fin 5,
    ((c.tc : Thread nD τ).loc (srcRef a) ↦{fullShare} m ((c.tc : Thread nD τ).loc (srcRef a)) : sProp 𝕄) = bigSep Finset.univ fun s => inBlock m c s a
  | 0 => inBlock_all0 m c
  | 1 => inBlock_all1 m c
  | 2 => inBlock_all2 m c
  | 3 => inBlock_all3 m c
  | 4 => inBlock_all4 m c
theorem outBlock_all0 (m : (ℓ : Loc nD τ sig) → Buf (Elt F) ℓ) (c : Dev nD) :
    ((c.tc : Thread nD τ).loc main_v1_0 ↦{fullShare} (m ((c.tc : Thread nD τ).loc main_v1_0) : Buf (Elt F) ((c.tc : Thread nD τ).loc main_v1_0)) : sProp 𝕄) = bigSep Finset.univ fun s => outBlock m c s 0 :=
  Ring.pointsTo_blocks (ℓ := (c.tc : Thread nD τ).loc main_v1_0) (B := Fin 8) (fun s => (outMy s 0).view.set) (slabs_disjoint (R := 256) (N := 1024) _ (out_mem0))
    (slabs_cover (R := 256) (N := 1024) _ (out_mem0)) (m ((c.tc : Thread nD τ).loc main_v1_0) : Buf (Elt F) ((c.tc : Thread nD τ).loc main_v1_0))
theorem outBlock_all1 (m : (ℓ : Loc nD τ sig) → Buf (Elt F) ℓ) (c : Dev nD) :
    ((c.tc : Thread nD τ).loc main_v1_1 ↦{fullShare} (m ((c.tc : Thread nD τ).loc main_v1_1) : Buf (Elt F) ((c.tc : Thread nD τ).loc main_v1_1)) : sProp 𝕄) = bigSep Finset.univ fun s => outBlock m c s 1 :=
  Ring.pointsTo_blocks (ℓ := (c.tc : Thread nD τ).loc main_v1_1) (B := Fin 8) (fun s => (outMy s 1).view.set) (slabs_disjoint (R := 32) (N := 768) _ (out_mem1))
    (slabs_cover (R := 32) (N := 768) _ (out_mem1)) (m ((c.tc : Thread nD τ).loc main_v1_1) : Buf (Elt F) ((c.tc : Thread nD τ).loc main_v1_1))
theorem outBlock_all2 (m : (ℓ : Loc nD τ sig) → Buf (Elt F) ℓ) (c : Dev nD) :
    ((c.tc : Thread nD τ).loc main_v1_2 ↦{fullShare} (m ((c.tc : Thread nD τ).loc main_v1_2) : Buf (Elt F) ((c.tc : Thread nD τ).loc main_v1_2)) : sProp 𝕄) = bigSep Finset.univ fun s => outBlock m c s 2 :=
  Ring.pointsTo_blocks (ℓ := (c.tc : Thread nD τ).loc main_v1_2) (B := Fin 8) (fun s => (outMy s 2).view.set) (slabs_disjoint (R := 128) (N := 1024) _ (out_mem2))
    (slabs_cover (R := 128) (N := 1024) _ (out_mem2)) (m ((c.tc : Thread nD τ).loc main_v1_2) : Buf (Elt F) ((c.tc : Thread nD τ).loc main_v1_2))
theorem outBlock_all3 (m : (ℓ : Loc nD τ sig) → Buf (Elt F) ℓ) (c : Dev nD) :
    ((c.tc : Thread nD τ).loc main_v1_3 ↦{fullShare} (m ((c.tc : Thread nD τ).loc main_v1_3) : Buf (Elt F) ((c.tc : Thread nD τ).loc main_v1_3)) : sProp 𝕄) = bigSep Finset.univ fun s => outBlock m c s 3 :=
  Ring.pointsTo_blocks (ℓ := (c.tc : Thread nD τ).loc main_v1_3) (B := Fin 8) (fun s => (outMy s 3).view.set) (slabs_disjoint (R := 704) (N := 1024) _ (out_mem3))
    (slabs_cover (R := 704) (N := 1024) _ (out_mem3)) (m ((c.tc : Thread nD τ).loc main_v1_3) : Buf (Elt F) ((c.tc : Thread nD τ).loc main_v1_3))
theorem outBlock_all4 (m : (ℓ : Loc nD τ sig) → Buf (Elt F) ℓ) (c : Dev nD) :
    ((c.tc : Thread nD τ).loc main_v1_4 ↦{fullShare} (m ((c.tc : Thread nD τ).loc main_v1_4) : Buf (Elt F) ((c.tc : Thread nD τ).loc main_v1_4)) : sProp 𝕄) = bigSep Finset.univ fun s => outBlock m c s 4 :=
  Ring.pointsTo_blocks (ℓ := (c.tc : Thread nD τ).loc main_v1_4) (B := Fin 8) (fun s => (outMy s 4).view.set) (slabs_disjoint (R := 352) (N := 1024) _ (out_mem4))
    (slabs_cover (R := 352) (N := 1024) _ (out_mem4)) (m ((c.tc : Thread nD τ).loc main_v1_4) : Buf (Elt F) ((c.tc : Thread nD τ).loc main_v1_4))

/-- A result is held block by block. -/
theorem outBlock_all (m : (ℓ : Loc nD τ sig) → Buf (Elt F) ℓ) (c : Dev nD) : ∀ a : Fin 5,
    ((c.tc : Thread nD τ).loc (dstRef a) ↦{fullShare} m ((c.tc : Thread nD τ).loc (dstRef a)) : sProp 𝕄) = bigSep Finset.univ fun s => outBlock m c s a
  | 0 => outBlock_all0 m c
  | 1 => outBlock_all1 m c
  | 2 => outBlock_all2 m c
  | 3 => outBlock_all3 m c
  | 4 => outBlock_all4 m c
theorem newBlock_all0 (m : (ℓ : Loc nD τ sig) → Buf (Elt F) ℓ) (c : Dev nD) :
    ((c.tc : Thread nD τ).loc main_v1_0 ↦{fullShare} (final m c 0 : Buf (Elt F) ((c.tc : Thread nD τ).loc main_v1_0)) : sProp 𝕄) = bigSep Finset.univ fun s => newBlock m c s 0 :=
  Ring.pointsTo_blocks (ℓ := (c.tc : Thread nD τ).loc main_v1_0) (B := Fin 8) (fun s => (outMy s 0).view.set) (slabs_disjoint (R := 256) (N := 1024) _ (out_mem0))
    (slabs_cover (R := 256) (N := 1024) _ (out_mem0)) (final m c 0 : Buf (Elt F) ((c.tc : Thread nD τ).loc main_v1_0))
theorem newBlock_all1 (m : (ℓ : Loc nD τ sig) → Buf (Elt F) ℓ) (c : Dev nD) :
    ((c.tc : Thread nD τ).loc main_v1_1 ↦{fullShare} (final m c 1 : Buf (Elt F) ((c.tc : Thread nD τ).loc main_v1_1)) : sProp 𝕄) = bigSep Finset.univ fun s => newBlock m c s 1 :=
  Ring.pointsTo_blocks (ℓ := (c.tc : Thread nD τ).loc main_v1_1) (B := Fin 8) (fun s => (outMy s 1).view.set) (slabs_disjoint (R := 32) (N := 768) _ (out_mem1))
    (slabs_cover (R := 32) (N := 768) _ (out_mem1)) (final m c 1 : Buf (Elt F) ((c.tc : Thread nD τ).loc main_v1_1))
theorem newBlock_all2 (m : (ℓ : Loc nD τ sig) → Buf (Elt F) ℓ) (c : Dev nD) :
    ((c.tc : Thread nD τ).loc main_v1_2 ↦{fullShare} (final m c 2 : Buf (Elt F) ((c.tc : Thread nD τ).loc main_v1_2)) : sProp 𝕄) = bigSep Finset.univ fun s => newBlock m c s 2 :=
  Ring.pointsTo_blocks (ℓ := (c.tc : Thread nD τ).loc main_v1_2) (B := Fin 8) (fun s => (outMy s 2).view.set) (slabs_disjoint (R := 128) (N := 1024) _ (out_mem2))
    (slabs_cover (R := 128) (N := 1024) _ (out_mem2)) (final m c 2 : Buf (Elt F) ((c.tc : Thread nD τ).loc main_v1_2))
theorem newBlock_all3 (m : (ℓ : Loc nD τ sig) → Buf (Elt F) ℓ) (c : Dev nD) :
    ((c.tc : Thread nD τ).loc main_v1_3 ↦{fullShare} (final m c 3 : Buf (Elt F) ((c.tc : Thread nD τ).loc main_v1_3)) : sProp 𝕄) = bigSep Finset.univ fun s => newBlock m c s 3 :=
  Ring.pointsTo_blocks (ℓ := (c.tc : Thread nD τ).loc main_v1_3) (B := Fin 8) (fun s => (outMy s 3).view.set) (slabs_disjoint (R := 704) (N := 1024) _ (out_mem3))
    (slabs_cover (R := 704) (N := 1024) _ (out_mem3)) (final m c 3 : Buf (Elt F) ((c.tc : Thread nD τ).loc main_v1_3))
theorem newBlock_all4 (m : (ℓ : Loc nD τ sig) → Buf (Elt F) ℓ) (c : Dev nD) :
    ((c.tc : Thread nD τ).loc main_v1_4 ↦{fullShare} (final m c 4 : Buf (Elt F) ((c.tc : Thread nD τ).loc main_v1_4)) : sProp 𝕄) = bigSep Finset.univ fun s => newBlock m c s 4 :=
  Ring.pointsTo_blocks (ℓ := (c.tc : Thread nD τ).loc main_v1_4) (B := Fin 8) (fun s => (outMy s 4).view.set) (slabs_disjoint (R := 352) (N := 1024) _ (out_mem4))
    (slabs_cover (R := 352) (N := 1024) _ (out_mem4)) (final m c 4 : Buf (Elt F) ((c.tc : Thread nD τ).loc main_v1_4))

/-- A result, in the end, is held block by block. -/
theorem newBlock_all (m : (ℓ : Loc nD τ sig) → Buf (Elt F) ℓ) (c : Dev nD) : ∀ a : Fin 5,
    ((c.tc : Thread nD τ).loc (dstRef a) ↦{fullShare} final m c a : sProp 𝕄) = bigSep Finset.univ fun s => newBlock m c s a
  | 0 => newBlock_all0 m c
  | 1 => newBlock_all1 m c
  | 2 => newBlock_all2 m c
  | 3 => newBlock_all3 m c
  | 4 => newBlock_all4 m c

/-- What a result's block reads in the end is what the block it comes from reads at the start. -/
theorem final_read (m : (ℓ : Loc nD τ sig) → Buf (Elt F) ℓ) (c s : Dev nD) : ∀ a : Fin 5,
    (outMy s a).view.read (Elt F) (finalAt m c s a) = (inMy c a).view.read (Elt F) (m ((inMy c a).view.loc (s.tc : Thread nD τ)))
  | 0 => funext fun x => exchanged_slab (R := 256) (N := 1024) (start m 0) c s (inb := k0_off1_inb s) (inb' := k0_off1_inb c) (own0 s) (own0 c) (Shape.reshapeEquiv squeezes_S1x256x1024_S256x1024.numel_eq x)
  | 1 => funext fun x => exchanged_slab (R := 32) (N := 768) (start m 1) c s (inb := k0_off2_inb s) (inb' := k0_off2_inb c) (own1 s) (own1 c) (Shape.reshapeEquiv squeezes_S1x32x768_S32x768.numel_eq x)
  | 2 => funext fun x => exchanged_slab (R := 128) (N := 1024) (start m 2) c s (inb := k0_off3_inb s) (inb' := k0_off3_inb c) (own2 s) (own2 c) (Shape.reshapeEquiv squeezes_S1x128x1024_S128x1024.numel_eq x)
  | 3 => funext fun x => exchanged_slab (R := 704) (N := 1024) (start m 3) c s (inb := k0_off4_inb s) (inb' := k0_off4_inb c) (own3 s) (own3 c) (Shape.reshapeEquiv squeezes_S1x704x1024_S704x1024.numel_eq x)
  | 4 => funext fun x => exchanged_slab (R := 352) (N := 1024) (start m 4) c s (inb := k0_off5_inb s) (inb' := k0_off5_inb c) (own4 s) (own4 c) (Shape.reshapeEquiv squeezes_S1x352x1024_S352x1024.numel_eq x)

/-- A result's block, written with the block it comes from, is that block as it is in the end. -/
theorem landed (m : (ℓ : Loc nD τ sig) → Buf (Elt F) ℓ) (c s : Dev nD) (a : Fin 5) (f : Buf (Elt F) ((outMy s a).view.loc (c.tc : Thread nD τ))) :
    ((outMy s a).view.loc (c.tc : Thread nD τ) ↦[(outMy s a).view.set]{fullShare}
        (outMy s a).view.write (Elt F) f ((inMy c a).view.read (Elt F) (m ((inMy c a).view.loc (s.tc : Thread nD τ)))) Finset.univ : sProp 𝕄)
      = newBlock m c s a :=
  pointsTo_congr (written_eq _ _ _ _ (final_read m c s a))

end Cert.Exchange

end
-- ==== Proof.Protocol.lean ====
/-
  The exchange kernel's protocol. Every device has one cell per landing, one per departure and one per copy of an
  own block. A landing hands its device the block of the result it fills, a departure gives the source block back,
  and the copy of an own block gives both. The body is run from the blocks it may write, on every device, to the
  results filled.
-/
module

public import proofs.«01_k».proof.Proof.Slots

@[expose] public section

set_option Elab.async false

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U]

local notation "𝕄" => MT nD τ sig Unit (Elt F) ℕ U ℕ

/-- A transfer: the array and the peer. -/
abbrev Pair := Fin 5 × Fin 7
/-- A device's cells: landings, departures, copies of own blocks. -/
abbrev CellIx := Pair ⊕ (Pair ⊕ Fin 5)
/-- The cell of a landing. -/
abbrev landing (k : Pair) : CellIx := .inl k
/-- The cell of a departure. -/
abbrev departure (k : Pair) : CellIx := .inr (.inl k)
/-- The cell of the copy of an own block. -/
abbrev owncopy (a : Fin 5) : CellIx := .inr (.inr a)

/-- The semaphore of each cell. -/
def semOf : CellIx → SemLoc sig
  | .inl k => .dma (semIn k.1 k.2)
  | .inr (.inl k) => .dma (semOut k.1 k.2)
  | .inr (.inr a) => .dma (semOwn a)

/-- The array each cell is about. -/
def arrayOf : CellIx → Fin 5
  | .inl k => k.1
  | .inr (.inl k) => k.1
  | .inr (.inr a) => a

/-- What a transfer of a block of an array credits. -/
def credit (a : Fin 5) : ℕ := (outMy 0 a).view.dmaCredit

theorem credit_out (c : Dev nD) : ∀ a : Fin 5, (outMy c a).view.dmaCredit = credit a
  | 0 => rfl
  | 1 => rfl
  | 2 => rfl
  | 3 => rfl
  | 4 => rfl

theorem credit_in (c : Dev nD) : ∀ a : Fin 5, (inMy c a).view.dmaCredit = credit a
  | 0 => rfl
  | 1 => rfl
  | 2 => rfl
  | 3 => rfl
  | 4 => rfl

theorem credit_pos : ∀ a : Fin 5, 0 < credit a
  | 0 => View.dmaCredit_pos _ (by decide)
  | 1 => View.dmaCredit_pos _ (by decide)
  | 2 => View.dmaCredit_pos _ (by decide)
  | 3 => View.dmaCredit_pos _ (by decide)
  | 4 => View.dmaCredit_pos _ (by decide)

/-- What each cell's transfer hands device `c`. -/
def handed (m : (ℓ : Loc nD τ sig) → Buf (Elt F) ℓ) (c : Dev nD) : CellIx → sProp 𝕄
  | .inl k => newBlock m c (peer c k.2) k.1
  | .inr (.inl k) => inBlock m c (peer c k.2) k.1
  | .inr (.inr a) => iprop(newBlock m c c a ∗ inBlock m c c a)

instance (m : (ℓ : Loc nD τ sig) → Buf (Elt F) ℓ) (c s : Dev nD) (a : Fin 5) : BI.Storable (upEmb : UEmb _ 𝕄) (newBlock m c s a) := by
  unfold newBlock; infer_instance
instance (m : (ℓ : Loc nD τ sig) → Buf (Elt F) ℓ) (c s : Dev nD) (a : Fin 5) : BI.Storable (upEmb : UEmb _ 𝕄) (inBlock m c s a) := by
  unfold inBlock; infer_instance

theorem semOf_inj : Function.Injective semOf := by
  have h : ∀ i j : CellIx, semOf i = semOf j → i = j := by decide +kernel
  exact fun i j => h i j

/-- The protocol. -/
def plan (m : (ℓ : Loc nD τ sig) → Buf (Elt F) ℓ) : Plan nD τ sig (Elt F) U CellIx where
  sem := semOf
  inj := semOf_inj
  amt i := credit (arrayOf i)
  pos i := credit_pos _
  pay := handed m
  stor c i := by
    rcases i with k | k | a
    · exact inferInstanceAs (BI.Storable (upEmb : UEmb _ 𝕄) (newBlock m c (peer c k.2) k.1))
    · exact inferInstanceAs (BI.Storable (upEmb : UEmb _ 𝕄) (inBlock m c (peer c k.2) k.1))
    · exact inferInstanceAs (BI.Storable (upEmb : UEmb _ 𝕄) iprop(newBlock m c c a ∗ inBlock m c c a))

section Body

variable (m : (ℓ : Loc nD τ sig) → Buf (Elt F) ℓ)
variable (E : Emb (URounds (GSem nD τ sig) Unit) (MT nD τ sig Unit (Elt F) ℕ U ℕ))
variable (defs : Defs nD τ sig (Elt F) Λ₀) (𝒱 : Variants) (κ : Dev nD × CellIx → ℕ) (c : Dev nD)
variable {α : Type} {Q : α → sProp (MT nD τ sig Unit (Elt F) ℕ U ℕ)}

/-- What device `c` owes before the transfers `l`: a landing at each one's peer. -/
def owed (l : List Pair) : CellTallies nD τ sig Unit :=
  (l.map fun k => tallyAt ((Dev.tc (peer c k.2) : Thread nD τ), semOf (landing k)) () (credit k.1)).sum

/-- Before the copy of an own block. -/
def preOwn (a : Fin 5) : sProp 𝕄 :=
  iprop(inBlock m c c a ∗ outBlock m c c a ∗ dutyTok E ((plan m : Plan nD τ sig (Elt F) U CellIx).cell (c, owncopy a)) 0 ())
/-- Before a transfer. -/
def preOut (k : Pair) : sProp 𝕄 :=
  iprop(inBlock m c (peer c k.2) k.1 ∗ outBlock m (peer c k.2) c k.1 ∗ dutyTok E ((plan m : Plan nD τ sig (Elt F) U CellIx).cell (c, departure k)) 0 ()
    ∗ dutyTok E ((plan m : Plan nD τ sig (Elt F) U CellIx).cell (peer c k.2, landing k)) 0 ())
/-- The credit one waits on a cell with. -/
def credOf (i : CellIx) : sProp 𝕄 :=
  cred (tallyAt ((plan m : Plan nD τ sig (Elt F) U CellIx).cell (c, i)) () ((plan m : Plan nD τ sig (Elt F) U CellIx).amt i))

theorem wp_startOwn (a : Fin 5) (k : PUnit → Prog (TpuEff nD τ sig (Elt F) Λ₀ .tc) α) :
    iprop((plan m : Plan nD τ sig (Elt F) U CellIx).cells E κ ∗ preOwn m E c a)
      ⊢ iprop((credOf m c (owncopy a) -∗ wp frame (wpE defs 𝒱 (c.tc : Thread nD τ) none) Set.univ (k ⟨⟩) Q)
          -∗ wp frame (wpE defs 𝒱 (c.tc : Thread nD τ) none) Set.univ (.op (startOwn c a) k) Q) := by
  unfold preOwn credOf startOwn
  refine wp_local (plan m) E defs 𝒱 κ c (owncopy a) rfl (credit_out c a) (fs := m _) (fd := m _) ?_
  exact sep_mono (Entails.of_eq (landed m c c a _)) Entails.rfl

theorem wp_startOut (k' : Pair) (l : List Pair) (k : PUnit → Prog (TpuEff nD τ sig (Elt F) Λ₀ .tc) α) :
    iprop((plan m : Plan nD τ sig (Elt F) U CellIx).cells E κ ∗ preOut m E c k' ∗ due c (owed c (k' :: l)))
      ⊢ iprop(((credOf m c (departure k') ∗ due c (owed c l)) -∗ wp frame (wpE defs 𝒱 (c.tc : Thread nD τ) none) Set.univ (k ⟨⟩) Q)
          -∗ wp frame (wpE defs 𝒱 (c.tc : Thread nD τ) none) Set.univ (.op (startOut c k') k) Q) := by
  obtain ⟨a, r⟩ := k'
  have hsrc : ∀ (src : Memref sig .tc .hbm (blk a) .bf16) (h : src = inMy (peer c r) a) (n : Dev nD) (hn : n = peer c r)
      (hx : src.view.WordExact) (hy : (outMy c a).view.WordExact) (hsc) (hz),
      iprop((plan m : Plan nD τ sig (Elt F) U CellIx).cells E κ ∗ preOut m E c (a, r) ∗ due c (owed c ((a, r) :: l)))
      ⊢ iprop(((credOf m c (departure (a, r)) ∗ due c (owed c l)) -∗ wp frame (wpE defs 𝒱 (c.tc : Thread nD τ) none) Set.univ (k ⟨⟩) Q)
          -∗ wp frame (wpE defs 𝒱 (c.tc : Thread nD τ) none) Set.univ
            (.op (.enqueueDma src (.remote (Dev.tc n) (outMy c a) (.dma (semOut a r)) hsc) (.dma (semIn a r)) hx hy hz) k) Q) := by
    intro src h n hn hx hy hsc hz
    subst h
    have hw := wp_remote (plan m : Plan nD τ sig (Elt F) U CellIx) E defs 𝒱 κ c (peer c r) n hn (departure (a, r)) (landing (a, r))
      (src := inMy (peer c r) a) (dst := outMy c a) (sS := .dma (semOut a r)) (sm := .dma (semIn a r))
      rfl rfl (credit_out c a) rfl (hsc := hsc) (hsrc := hx) (hdst := hy) (hsem := hz) (fs := m _) (fd := m _)
      (owed c l) (owed c ((a, r) :: l)) ((List.sum_cons ..).trans (add_comm ..)) (q := fullShare)
      Entails.rfl (by
        rw [landed m (peer c r) c a]
        exact Entails.of_eq (by show _ = newBlock m (peer c r) (peer (peer c r) r) a; rw [peer_peer])) (k := k) (Q := Q)
    refine BIBase.Entails.trans ?_ hw
    unfold preOut inBlock outBlock
    iintro ⟨#Hc, ⟨H1, H2, H3, H4⟩, H5⟩
    isplitr; · iexact Hc
    isplitl [H1]; · iexact H1
    isplitl [H2]; · iexact H2
    isplitl [H3]; · iexact H3
    isplitl [H4]; · iexact H4
    iexact H5
  exact hsrc _ (inPeer_eq c r a) _ (target_eq c a r) _ _ _ _

theorem wp_wait (i : CellIx) {w : TpuEff nD τ sig (Elt F) Λ₀ .tc PUnit}
    (hw : ∀ K : PUnit → sProp 𝕄, wpE defs 𝒱 (c.tc : Thread nD τ) none Set.univ w K = waitSpec (c.tc : Thread nD τ) Set.univ (semOf i) (credit (arrayOf i)) K)
    (k : PUnit → Prog (TpuEff nD τ sig (Elt F) Λ₀ .tc) α) :
    iprop((plan m : Plan nD τ sig (Elt F) U CellIx).cells E κ ∗ (plan m : Plan nD τ sig (Elt F) U CellIx).await E c i ∗ due c 0)
      ⊢ iprop((((plan m : Plan nD τ sig (Elt F) U CellIx).got c i ∗ due c 0) -∗ wp frame (wpE defs 𝒱 (c.tc : Thread nD τ) none) Set.univ (k ⟨⟩) Q)
          -∗ wp frame (wpE defs 𝒱 (c.tc : Thread nD τ) none) Set.univ (.op w k) Q) :=
  wp_await (plan m) E defs 𝒱 κ c i rfl rfl hw

theorem waitIn_eq (k : Pair) (K : PUnit → sProp 𝕄) :
    wpE defs 𝒱 (c.tc : Thread nD τ) none Set.univ (waitIn c k) K = waitSpec (c.tc : Thread nD τ) Set.univ (semOf (landing k)) (credit k.1) K := by
  show waitSpec (c.tc : Thread nD τ) Set.univ (.dma (semIn k.1 k.2)) (outPeer c k.2 k.1).view.dmaCredit K = _
  rw [outPeer_eq, credit_out]; rfl

theorem waitOut_eq (k : Pair) (K : PUnit → sProp 𝕄) :
    wpE defs 𝒱 (c.tc : Thread nD τ) none Set.univ (waitOut c k) K = waitSpec (c.tc : Thread nD τ) Set.univ (semOf (departure k)) (credit k.1) K := by
  show waitSpec (c.tc : Thread nD τ) Set.univ (.dma (semOut k.1 k.2)) (inPeer c k.2 k.1).view.dmaCredit K = _
  rw [inPeer_eq, credit_in]; rfl

theorem waitOwn_eq (a : Fin 5) (K : PUnit → sProp 𝕄) :
    wpE defs 𝒱 (c.tc : Thread nD τ) none Set.univ (waitOwn c a) K = waitSpec (c.tc : Thread nD τ) Set.univ (semOf (owncopy a)) (credit a) K := by
  show waitSpec (c.tc : Thread nD τ) Set.univ (.dma (semOwn a)) (outMy c a).view.dmaCredit K = _
  rw [credit_out]; rfl

theorem arrays_nodup : arrays.Nodup := by decide
theorem pairs_nodup : pairs.Nodup := by decide
theorem arrays_all : arrays.toFinset = Finset.univ := by decide
theorem pairs_all : pairs.toFinset = Finset.univ := by decide

/-- Over all of a device's cells: over the landings, the departures and the own copies. -/
theorem over_cells (Φ : CellIx → sProp 𝕄) : bigSep Finset.univ Φ = iprop((bigSep Finset.univ fun k : Pair => Φ (landing k))
    ∗ (bigSep Finset.univ fun k : Pair => Φ (departure k)) ∗ bigSep Finset.univ fun a : Fin 5 => Φ (owncopy a)) := by
  rw [bigSep_univ_sum, bigSep_univ_sum]; rfl

/-- The copies of the own blocks are started. -/
theorem wp_starts (rest : Prog (TpuEff nD τ sig (Elt F) Λ₀ .tc) PUnit) (Q : PUnit → sProp (MT nD τ sig Unit (Elt F) ℕ U ℕ)) (l : List (Fin 5)) (hl : l.Nodup) :
    iprop((plan m : Plan nD τ sig (Elt F) U CellIx).cells E κ ∗ (bigSep l.toFinset fun x : Fin 5 => preOwn m E c x) ∗ emp)
      ⊢ iprop((((bigSep l.toFinset fun x : Fin 5 => credOf m c (owncopy x)) ∗ emp) -∗ wp frame (wpE defs 𝒱 (c.tc : Thread nD τ) none) Set.univ rest Q)
          -∗ wp frame (wpE defs 𝒱 (c.tc : Thread nD τ) none) Set.univ (run (startOwn c) l rest) Q) := by
  unfold run
  exact wp_list defs 𝒱 c (startOwn (F := F) c) ((plan m : Plan nD τ sig (Elt F) U CellIx).cells E κ) (fun x => preOwn m E c x) (fun x => credOf m c (owncopy x))
    (fun _ => iprop(emp)) (fun a _ k => by
      iintro ⟨#Hc, H, -⟩ Hk
      iapply (wp_startOwn m E defs 𝒱 κ c a k) $$ [H]
      · isplitr <;> iassumption
      iintro H
      iapply Hk
      isplitl
      · iexact H
      · iempintro) rest l hl

/-- The transfers to the peers are started. -/
theorem wp_sends (rest : Prog (TpuEff nD τ sig (Elt F) Λ₀ .tc) PUnit) (Q : PUnit → sProp (MT nD τ sig Unit (Elt F) ℕ U ℕ)) (l : List (Pair)) (hl : l.Nodup) :
    iprop((plan m : Plan nD τ sig (Elt F) U CellIx).cells E κ ∗ (bigSep l.toFinset fun x : Pair => preOut m E c x) ∗ due c (owed c l))
      ⊢ iprop((((bigSep l.toFinset fun x : Pair => credOf m c (departure x)) ∗ due c 0) -∗ wp frame (wpE defs 𝒱 (c.tc : Thread nD τ) none) Set.univ rest Q)
          -∗ wp frame (wpE defs 𝒱 (c.tc : Thread nD τ) none) Set.univ (run (startOut c) l rest) Q) := by
  unfold run
  exact wp_list defs 𝒱 c (startOut (F := F) c) ((plan m : Plan nD τ sig (Elt F) U CellIx).cells E κ) (fun x => preOut m E c x) (fun x => credOf m c (departure x))
    (fun l => due c (owed c l)) (fun k l q => wp_startOut m E defs 𝒱 κ c k l q) rest l hl

/-- The landings are waited for. -/
theorem wp_landings (rest : Prog (TpuEff nD τ sig (Elt F) Λ₀ .tc) PUnit) (Q : PUnit → sProp (MT nD τ sig Unit (Elt F) ℕ U ℕ)) (l : List (Pair)) (hl : l.Nodup) :
    iprop((plan m : Plan nD τ sig (Elt F) U CellIx).cells E κ ∗ (bigSep l.toFinset fun x : Pair => (plan m : Plan nD τ sig (Elt F) U CellIx).await E c (landing x)) ∗ due c 0)
      ⊢ iprop((((bigSep l.toFinset fun x : Pair => (plan m : Plan nD τ sig (Elt F) U CellIx).got c (landing x)) ∗ due c 0) -∗ wp frame (wpE defs 𝒱 (c.tc : Thread nD τ) none) Set.univ rest Q)
          -∗ wp frame (wpE defs 𝒱 (c.tc : Thread nD τ) none) Set.univ (run (waitIn c) l rest) Q) := by
  unfold run
  exact wp_list defs 𝒱 c (waitIn (F := F) c) ((plan m : Plan nD τ sig (Elt F) U CellIx).cells E κ) (fun x => (plan m : Plan nD τ sig (Elt F) U CellIx).await E c (landing x)) (fun x => (plan m : Plan nD τ sig (Elt F) U CellIx).got c (landing x))
    (fun _ => due c 0) (fun k l q => wp_wait m E defs 𝒱 κ c _ (waitIn_eq defs 𝒱 c k) q) rest l hl

/-- The departures are waited for. -/
theorem wp_departures (rest : Prog (TpuEff nD τ sig (Elt F) Λ₀ .tc) PUnit) (Q : PUnit → sProp (MT nD τ sig Unit (Elt F) ℕ U ℕ)) (l : List (Pair)) (hl : l.Nodup) :
    iprop((plan m : Plan nD τ sig (Elt F) U CellIx).cells E κ ∗ (bigSep l.toFinset fun x : Pair => (plan m : Plan nD τ sig (Elt F) U CellIx).await E c (departure x)) ∗ due c 0)
      ⊢ iprop((((bigSep l.toFinset fun x : Pair => (plan m : Plan nD τ sig (Elt F) U CellIx).got c (departure x)) ∗ due c 0) -∗ wp frame (wpE defs 𝒱 (c.tc : Thread nD τ) none) Set.univ rest Q)
          -∗ wp frame (wpE defs 𝒱 (c.tc : Thread nD τ) none) Set.univ (run (waitOut c) l rest) Q) := by
  unfold run
  exact wp_list defs 𝒱 c (waitOut (F := F) c) ((plan m : Plan nD τ sig (Elt F) U CellIx).cells E κ) (fun x => (plan m : Plan nD τ sig (Elt F) U CellIx).await E c (departure x)) (fun x => (plan m : Plan nD τ sig (Elt F) U CellIx).got c (departure x))
    (fun _ => due c 0) (fun k l q => wp_wait m E defs 𝒱 κ c _ (waitOut_eq defs 𝒱 c k) q) rest l hl

/-- The copies of the own blocks are waited for. -/
theorem wp_copies (rest : Prog (TpuEff nD τ sig (Elt F) Λ₀ .tc) PUnit) (Q : PUnit → sProp (MT nD τ sig Unit (Elt F) ℕ U ℕ)) (l : List (Fin 5)) (hl : l.Nodup) :
    iprop((plan m : Plan nD τ sig (Elt F) U CellIx).cells E κ ∗ (bigSep l.toFinset fun x : Fin 5 => (plan m : Plan nD τ sig (Elt F) U CellIx).await E c (owncopy x)) ∗ due c 0)
      ⊢ iprop((((bigSep l.toFinset fun x : Fin 5 => (plan m : Plan nD τ sig (Elt F) U CellIx).got c (owncopy x)) ∗ due c 0) -∗ wp frame (wpE defs 𝒱 (c.tc : Thread nD τ) none) Set.univ rest Q)
          -∗ wp frame (wpE defs 𝒱 (c.tc : Thread nD τ) none) Set.univ (run (waitOwn c) l rest) Q) := by
  unfold run
  exact wp_list defs 𝒱 c (waitOwn (F := F) c) ((plan m : Plan nD τ sig (Elt F) U CellIx).cells E κ) (fun x => (plan m : Plan nD τ sig (Elt F) U CellIx).await E c (owncopy x)) (fun x => (plan m : Plan nD τ sig (Elt F) U CellIx).got c (owncopy x))
    (fun _ => due c 0) (fun k l q => wp_wait m E defs 𝒱 κ c _ (waitOwn_eq defs 𝒱 c k) q) rest l hl

/-- What device `c` starts the body with, besides its debts. -/
def ready : sProp 𝕄 :=
  iprop((bigSep Finset.univ fun a : Fin 5 => preOwn m E c a) ∗ (bigSep Finset.univ fun k : Pair => preOut m E c k)
    ∗ (bigSep Finset.univ fun k : Pair => credOf m c (landing k))
    ∗ (bigSep Finset.univ fun i : CellIx => atPos E ((plan m : Plan nD τ sig (Elt F) U CellIx).cell (c, i)) 0 ∅ 0))

/-- What it ends the body with, besides its debts. -/
def done : sProp 𝕄 :=
  bigSep Finset.univ fun i : CellIx => (plan m : Plan nD τ sig (Elt F) U CellIx).got c i

/-- The body runs from the one to the other. -/
theorem wp_body :
    iprop((plan m : Plan nD τ sig (Elt F) U CellIx).cells E κ ∗ ready m E c ∗ due c (owed c pairs))
      ⊢ wp frame (wpE defs 𝒱 (c.tc : Thread nD τ) none) Set.univ (body c) (fun _ => iprop(done m c ∗ due c 0)) := by
  unfold body ready
  rw [over_cells]
  iintro ⟨#Hc, ⟨Hown, Hout, Hcr, ⟨Hat1, Hat2, Hat3⟩⟩, HO⟩
  iapply (wp_starts m E defs 𝒱 κ c _ _ arrays arrays_nodup) $$ [Hown]
  · rw [arrays_all]
    isplitr; · iexact Hc
    isplitl; · iexact Hown
    iempintro
  iintro ⟨Hc3, -⟩
  iapply (wp_sends m E defs 𝒱 κ c _ _ pairs pairs_nodup) $$ [Hout HO]
  · rw [pairs_all]
    isplitr; · iexact Hc
    isplitl [Hout] <;> iassumption
  iintro ⟨Hc2, HO⟩
  iapply (wp_landings m E defs 𝒱 κ c _ _ pairs pairs_nodup) $$ [Hcr Hat1 HO]
  · rw [pairs_all]
    isplitr; · iexact Hc
    isplitl [Hcr Hat1]
    · unfold Plan.await
      rw [bigSep_sep']
      isplitl [Hcr]
      · iexact Hcr
      · iexact Hat1
    iexact HO
  iintro ⟨G1, HO⟩
  iapply (wp_departures m E defs 𝒱 κ c _ _ pairs pairs_nodup) $$ [Hc2 Hat2 HO]
  · rw [pairs_all]
    isplitr; · iexact Hc
    isplitl [Hc2 Hat2]
    · unfold Plan.await
      rw [bigSep_sep']
      isplitl [Hc2]
      · iexact Hc2
      · iexact Hat2
    iexact HO
  iintro ⟨G2, HO⟩
  iapply (wp_copies m E defs 𝒱 κ c _ _ arrays arrays_nodup) $$ [Hc3 Hat3 HO]
  · rw [arrays_all]
    isplitr; · iexact Hc
    isplitl [Hc3 Hat3]
    · unfold Plan.await
      rw [bigSep_sep']
      isplitl [Hc3]
      · iexact Hc3
      · iexact Hat3
    iexact HO
  iintro ⟨G3, HO⟩
  rw [pairs_all, arrays_all]
  rw [wp_ret]
  imodintro
  unfold done
  rw [over_cells]
  isplitl [G1 G2 G3]
  · isplitl [G1]; · iexact G1
    isplitl [G2] <;> iassumption
  iexact HO

end Body

end Cert.Exchange

end
-- ==== Proof.Entry.lean ====
/-
  The exchange kernel entered from the device's program: the body's run, and the semaphores it found at zero found at
  zero again.
-/
module

public import proofs.«01_k».proof.Proof.Protocol

@[expose] public section

set_option Elab.async false

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F] {U : Type} [URA U]

local notation "𝕄" => MT nD τ sig Unit (Elt F) ℕ U ℕ

/-- The semaphores of device `c` that the exchange does not use, at zero. -/
def others (c : Dev nD) : sProp 𝕄 :=
  bigSep (scopedCells sig (c.tc : Thread nD τ) \ Finset.univ.image fun i : CellIx => ((c.tc : Thread nD τ), semOf i)) fun g => semVal g 0

theorem semOf_scoped (i : CellIx) : (semOf i).isScoped .tc = true := by
  have h : ∀ i : CellIx, (semOf i).isScoped .tc = true := by decide +kernel
  exact h i

/-- Of a device's semaphores at zero, the ones a one-to-one table names and the rest. -/
theorem cells_split {J : Type} [Fintype J] (S : Finset (GSem nD τ sig)) (f : J → GSem nD τ sig) (hf : Function.Injective f)
    (hs : ∀ j, f j ∈ S) :
    (bigSep S fun g => (semVal g 0 : sProp 𝕄))
      = iprop((bigSep Finset.univ fun j => semVal (f j) 0) ∗ bigSep (S \ Finset.univ.image f) fun g => semVal g 0) := by
  have h : Finset.univ.image f = Finset.univ.map ⟨f, hf⟩ := by ext x; simp
  rw [h, bigSep_sdiff_split (t := Finset.univ.map ⟨f, hf⟩) fun x hx => by obtain ⟨j, -, rfl⟩ := Finset.mem_map.mp hx; exact hs j,
    bigSep_map]
  rfl

/-- Device `c`'s scoped semaphores: the exchange's and the others. -/
theorem sems_split (m : (ℓ : Loc nD τ sig) → Buf (Elt F) ℓ) (c : Dev nD) :
    (scopedSems0 (c.tc : Thread nD τ) : sProp 𝕄)
      = iprop((bigSep Finset.univ fun i : CellIx => semVal ((plan m : Plan nD τ sig (Elt F) U CellIx).cell (c, i)) 0) ∗ others c) :=
  cells_split _ (fun i : CellIx => ((c.tc : Thread nD τ), semOf i)) (fun _ _ h => semOf_inj (Prod.ext_iff.mp h).2)
    fun i => self_mem_scopedCells (semOf_scoped i)

variable (m : (ℓ : Loc nD τ sig) → Buf (Elt F) ℓ)
variable (E : Emb (URounds (GSem nD τ sig) Unit) (MT nD τ sig Unit (Elt F) ℕ U ℕ))
variable (κ : Dev nD × CellIx → ℕ) (c : Dev nD)

/-- The exchange as a kernel of one point: what its body is handed and leaves, and the debts. -/
def data (p : Fin 1) (c : Dev nD) : Dat τ (Elt F) Unit ℕ U ℕ (Pipeline.pin (pcfgs (F := F)) (fun q => (cfgs q).toPCfg_adm) p) c where
  A := fun w => match p, w with | 0, w => w.elim0
  after := fun w => match p, w with | 0, w => w.elim0
  q := fun w => match p, w with | 0, w => w.elim0
  Φ := fun t => if t.val = 0 then iprop((plan m : Plan nD τ sig (Elt F) U CellIx).cells E κ ∗ ready m E c ∗ scopedBufs (c.tc : Thread nD τ))
    else iprop(done m c ∗ scopedBufs (c.tc : Thread nD τ))
  owed := fun t => if t.val = 0 then owed c pairs else 0

/-- The body as the kernel's program calls it, at this device. -/
theorem wp_bodyAt (t : Fin grid0.N) (Q : PUnit → sProp (MT nD τ sig Unit (Elt F) ℕ U ℕ)) :
    wp frame (wpE (defs₀ (F := F)) Variants.none (c.tc : Thread nD τ) none) Set.univ (body c) Q
      ⊢ wp frame (wpE (defs₀ (F := F)) Variants.none (c.tc : Thread nD τ) none) Set.univ (bodyAt0 (F := F) t) Q := by
  rw [bodyAt0_eq, wp_deviceId]

/-- The kernel's program is the body at its one point. -/
theorem program_eq (t : Fin cfg0.N) : defs₀ (F := F) .tc cfg0.body (cfg0.bodyArgs t (cfg0.slots t)) = bodyAt0 (F := F) t := rfl

set_option maxRecDepth 100000 in
/-- The body's run, as the kernel's one point. -/
theorem data_body (c : Dev nD) : Pipeline.BodyObligationLoose (data m E κ 0 c) (defs₀ (F := F)) Variants.none () Set.univ := by
  intro t
  obtain rfl := fin_N0 t
  refine BIBase.Entails.trans ?_ (wp_bodyAt c t0_0 _)
  unfold Pipeline.Dat.owesAt Pipeline.owesWithin
  have h0 : (data m E κ 0 c).Φ (Fin.castSucc t0_0) = iprop((plan m : Plan nD τ sig (Elt F) U CellIx).cells E κ ∗ ready m E c ∗ scopedBufs (c.tc : Thread nD τ)) := rfl
  have h1 : (data m E κ 0 c).Φ (Fin.succ t0_0) = iprop(done m c ∗ scopedBufs (c.tc : Thread nD τ)) := rfl
  have o0 : (data m E κ 0 c).owed (Fin.castSucc t0_0) = owed c pairs := rfl
  have o1 : (data m E κ 0 c).owed (Fin.succ t0_0) = 0 := rfl
  erw [h0, h1, o0, o1]
  iintro ⟨⟨#Hc, Hr, Hb⟩, ⟨%W, -, HO⟩, -⟩
  iapply (wp_wand frame (wpE (defs₀ (F := F)) Variants.none (c.tc : Thread nD τ) none) Set.univ) $$ [Hr HO]
  · iapply (wp_body m E (defs₀ (F := F)) Variants.none κ c)
    isplitr; · iexact Hc
    isplitl [Hr]; · iexact Hr
    unfold due; iexists W; iexact HO
  iintro %_ ⟨Hd, HO⟩
  unfold due
  icases HO with ⟨%W', HO⟩
  isplitl [Hd Hb]
  · isplitl [Hd] <;> iassumption
  isplitl [HO]
  · iexists W'
    isplitr
    · ipureintro; exact fun x _ => Or.inl trivial
    iexact HO
  · iempintro

/-- What each transfer hands device `c`, all of them. -/
def results : sProp 𝕄 := bigSep Finset.univ fun i : CellIx => handed m c i

/-- What the call asks for besides what the body is handed: the debts alone, the kernel having no windows. -/
theorem enter : due c (owed c pairs) ⊢ (Pipeline.EntryPre (Pipeline.pin (pcfgs (F := F)) fun q => (cfgs q).toPCfg_adm) (data m E κ) () E (fun _ => 0) 0 c : sProp 𝕄) := by
  unfold Pipeline.EntryPre Pipeline.PerCore.EntryPre Pipeline.Dat.owesAt Pipeline.owesWithin Pipeline.Dat.arrays
    Pipeline.PerCore.cellsWaits Pipeline.PerCore.cellsInit Pipeline.PerCore.toksInit due
  iintro ⟨%W, H⟩
  isplitr
  · iempintro
  isplitl [H]
  · iexists W
    isplitr
    · ipureintro; exact fun x _ => Or.inl trivial
    iexact H
  isplitr
  · iempintro
  isplitr
  · iempintro
  · iempintro

/-- What the call hands back besides: nothing owed. -/
theorem leave : (Pipeline.EntryPost (Pipeline.pin (pcfgs (F := F)) fun q => (cfgs q).toPCfg_adm) (data m E κ) () 0 c : sProp 𝕄) ⊢ due c 0 := by
  unfold Pipeline.EntryPost Pipeline.PerCore.EntryPost Pipeline.Dat.owesAt Pipeline.owesWithin due
  iintro ⟨-, ⟨%W, -, H⟩⟩
  iexists W
  iexact H

set_option maxRecDepth 100000 in
/-- The kernel's call: from what the body is ready with, the debts, and the device's scoped storage of which the
    exchange's semaphores are in the protocol's hands, to the results, nothing owed, and the scoped storage whole. -/
theorem wp_call {α : Type} {Q : α → sProp (MT nD τ sig Unit (Elt F) ℕ U ℕ)}
    (k : PUnit → Prog (TpuEff nD τ sig (Elt F) (Pipeline.Sig Λ₀ (Fin 1) fun p => (pcfgs (F := F) p).Adm) .tc) α) :
    iprop((plan m : Plan nD τ sig (Elt F) U CellIx).cells E κ ∗ ready m E c ∗ due c (owed c pairs) ∗ others c ∗ scopedBufs (c.tc : Thread nD τ))
      ⊢ iprop(((results m c ∗ due c 0 ∗ scopedSems0 (c.tc : Thread nD τ) ∗ scopedBufs (c.tc : Thread nD τ))
            -∗ wp frame (wpE (Cert.KernelIdeal.defs (F := F)) (Variants.lift Variants.none) (c.tc : Thread nD τ) none) Set.univ (k ⟨⟩) Q)
          -∗ wp frame (wpE (Cert.KernelIdeal.defs (F := F)) (Variants.lift Variants.none) (c.tc : Thread nD τ) none) Set.univ
              (.op (.customCall (Pipeline.entry 0) ()) k) Q) := by
  have hw := Pipeline.wp_customCall_entry_frame (pcfgs (F := F)) (fun q => (cfgs q).toPCfg_adm) (data m E κ) () E (fun _ => 0) cellOf_inj 0
    (defs₀ (F := F)) Variants.none (fun _ => fullShare) c Set.univ (fun _ _ => Set.mem_univ _) (data_body m E κ c) (fun w => w.elim0) none
    (fun u h => nomatch h)
    (X := iprop((plan m : Plan nD τ sig (Elt F) U CellIx).cells E κ ∗ ready m E c)) (Y := results m c) (R := scopedBufs (c.tc : Thread nD τ))
    (I := others c) (by
      iintro H
      isplitr
      · unfold Pipeline.Dat.staging; iempintro
      · iexact H)
    (by
      show _ ⊢ iprop((plan m : Plan nD τ sig (Elt F) U CellIx).cells E κ ∗ ready m E c ∗ scopedBufs (c.tc : Thread nD τ))
      iintro ⟨⟨H1, H2⟩, -, H3⟩
      isplitl [H1]; · iexact H1
      isplitl [H2] <;> iassumption)
    (by
      show iprop(iprop(done m c ∗ scopedBufs (c.tc : Thread nD τ)) ∗ _ ∗ _ ∗ others c) ⊢ _
      rw [sems_split m c]
      unfold done results Plan.got
      rw [bigSep_sep']
      iintro ⟨⟨⟨H1, H2⟩, Hb⟩, -, -, Ho⟩
      isplitl [H1]; · iexact H1
      isplitr [Hb]
      · isplitl [H2]
        · iexact H2
        · iexact Ho
      iexact Hb)
    (k := k) (Q := Q)
  iintro ⟨H1, H2, H3, H4, H5⟩ Hk
  iapply hw $$ [H1 H2 H3 H4 H5]
  · isplitl [H3]
    · iapply (enter m E κ c); iexact H3
    isplitr
    · unfold Pipeline.prefHeld; iempintro
    isplitl [H1 H2]
    · isplitl [H1] <;> iassumption
    isplitl [H4] <;> iassumption
  iintro ⟨Hp, Hr, Hs, Hb⟩
  iapply Hk
  isplitl [Hr]; · iexact Hr
  isplitl [Hp]
  · iapply (leave m E κ c); iexact Hp
  isplitl [Hs] <;> iassumption

end Cert.Exchange

end
-- ==== Proof.Deal.lean ====
/-
  How the machine's start is dealt to the devices: each device gets, for every block it will send, the source block,
  the place on the peer where the block will land, and the tokens of both ends.
-/
module

public import proofs.«01_k».proof.Proof.Entry

@[expose] public section

set_option Elab.async false

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg launchCred)

variable {F : FTy → Type} [FloatOps F] {U : Type} [URA U]

local notation "𝕄" => MT nD τ sig Unit (Elt F) ℕ U ℕ

section Sums

variable {M : Type} [URA M]

/-- Over arrays and devices: device `c`'s own for every array, then its peers' for every pair. -/
theorem own_and_peers (Φ : Fin 8 → Fin 5 → sProp M) (c : Fin 8) :
    (bigSep Finset.univ fun a => bigSep Finset.univ fun s => Φ s a)
      = iprop((bigSep Finset.univ fun a => Φ c a) ∗ bigSep Finset.univ fun k : Pair => Φ (peer c k.2) k.1) := by
  rw [bigSep_congr fun a _ => by_peer (fun s => Φ s a) c, bigSep_sep', bigSep_univ_prod fun k : Pair => Φ (peer c k.2) k.1]

end Sums

variable (m : (ℓ : Loc nD τ sig) → Buf (Elt F) ℓ)
variable (E : Emb (URounds (GSem nD τ sig) Unit) (MT nD τ sig Unit (Elt F) ℕ U ℕ))

/-- Every device's arrays: own blocks, and for every transfer the source block. -/
theorem in_deal : (bigSep Finset.univ fun c : Dev nD => bigSep Finset.univ fun a : Fin 5 =>
      ((c.tc : Thread nD τ).loc (srcRef a) ↦{fullShare} m ((c.tc : Thread nD τ).loc (srcRef a)) : sProp 𝕄))
    = bigSep Finset.univ fun c : Dev nD => iprop((bigSep Finset.univ fun a : Fin 5 => inBlock m c c a)
        ∗ bigSep Finset.univ fun k : Pair => inBlock m c (peer c k.2) k.1) :=
  bigSep_congr fun c _ => (bigSep_congr fun a _ => inBlock_all m c a).trans (own_and_peers (fun s a => inBlock m c s a) c)

/-- Every device's results: own blocks, and for every transfer the place on the peer where it lands. -/
theorem out_deal : (bigSep Finset.univ fun c : Dev nD => bigSep Finset.univ fun a : Fin 5 =>
      ((c.tc : Thread nD τ).loc (dstRef a) ↦{fullShare} m ((c.tc : Thread nD τ).loc (dstRef a)) : sProp 𝕄))
    = iprop((bigSep Finset.univ fun c : Dev nD => bigSep Finset.univ fun a : Fin 5 => outBlock m c c a)
        ∗ bigSep Finset.univ fun c : Dev nD => bigSep Finset.univ fun k : Pair => outBlock m (peer c k.2) c k.1) := by
  rw [bigSep_congr fun c _ => (bigSep_congr fun a _ => outBlock_all m c a).trans (own_and_peers (fun s a => outBlock m c s a) c), bigSep_sep',
    swapped (fun k : Pair => k.2) fun c k => outBlock m c (peer c k.2) k.1]
  simp only [peer_peer]

/-- What the devices owe one device is the credit for its landings. -/
theorem cred_deal (c : Dev nD) : (launchCred (fun d => owed d pairs) c : sProp 𝕄) ⊢ bigSep Finset.univ fun k : Pair => credOf m c (landing k) := by
  have h : (fun d : Dev nD => owed d pairs)
      = fun d => ∑ k : Pair, tallyAt ((Dev.tc (peer d k.2) : Thread nD τ), semOf (landing k)) () (credit k.1) := by
    funext d
    rw [← pairs_all, List.sum_toFinset _ pairs_nodup]
    rfl
  rw [h, Pipeline.launchCred_sum]
  exact bigSep_mono fun k _ => Pipeline.launchCred_tallyAt (semOf (landing k)) (fun d => peer d k.2) (fun d => peer d k.2)
    (fun d => peer_peer d k.2) (fun d => peer_peer d k.2) () (credit k.1) c

/-- Every device's counters, positions or tokens, one for each cell. -/
theorem cells_deal (Φ : Dev nD × CellIx → sProp 𝕄) :
    bigSep Finset.univ Φ = bigSep Finset.univ fun c : Dev nD => bigSep Finset.univ fun i : CellIx => Φ (c, i) := bigSep_univ_prod Φ

/-- The tokens: for every transfer the departure's and, of the peer, the landing's. -/
theorem tok_deal (Φ : Dev nD × CellIx → sProp 𝕄) :
    bigSep Finset.univ Φ = bigSep Finset.univ fun c : Dev nD => iprop((bigSep Finset.univ fun a : Fin 5 => Φ (c, owncopy a))
      ∗ (bigSep Finset.univ fun k : Pair => Φ (c, departure k)) ∗ bigSep Finset.univ fun k : Pair => Φ (peer c k.2, landing k)) := by
  rw [bigSep_univ_prod, bigSep_congr fun c _ => over_cells fun i => Φ (c, i)]
  rw [bigSep_sep', bigSep_sep', bigSep_sep', bigSep_sep', swapped (fun k : Pair => k.2) fun c k => Φ (c, landing k)]
  have h : ∀ P Q R : sProp 𝕄, iprop(P ∗ Q ∗ R) ⊢ iprop(R ∗ Q ∗ P) := by
    intro P Q R
    iintro ⟨H1, H2, H3⟩
    isplitl [H3]; · iexact H3
    isplitl [H2] <;> iassumption
  exact BI.Entails.antisymm (h _ _ _) (h _ _ _)

/-- What a device starts its program with. -/
def launched (c : Dev nD) : sProp 𝕄 :=
  iprop((∃ κ, (plan m : Plan nD τ sig (Elt F) U CellIx).cells E κ) ∗ ready m E c ∗ due c (owed c pairs) ∗ others c
    ∗ scopedBufs (c.tc : Thread nD τ) ∗ opIdle (c.tc : Thread nD τ))

/-- A device's arrays. -/
def arraysAt (c : Dev nD) : sProp 𝕄 :=
  bigSep Finset.univ fun a : Fin 5 => ((c.tc : Thread nD τ).loc (srcRef a) ↦{fullShare} m ((c.tc : Thread nD τ).loc (srcRef a)))
/-- A device's results, as they were at the start. -/
def emptyAt (c : Dev nD) : sProp 𝕄 :=
  bigSep Finset.univ fun a : Fin 5 => ((c.tc : Thread nD τ).loc (dstRef a) ↦{fullShare} m ((c.tc : Thread nD τ).loc (dstRef a)))
/-- A device's results, as they are in the end. -/
def filledAt (c : Dev nD) : sProp 𝕄 :=
  bigSep Finset.univ fun a : Fin 5 => ((c.tc : Thread nD τ).loc (dstRef a) ↦{fullShare} final m c a)

theorem due_of_owes (c : Dev nD) (O : CellTallies nD τ sig Unit) : (owes (c.tc : Thread nD τ) O ∅ : sProp 𝕄) ⊢ due c O := by
  unfold due
  iintro H
  iexists ∅
  iexact H

theorem due_all : (bigSep Finset.univ fun c : Dev nD => (owes (c.tc : Thread nD τ) (owed c pairs) ∅ : sProp 𝕄))
    ⊢ bigSep Finset.univ fun c : Dev nD => due c (owed c pairs) := bigSep_mono fun c _ => due_of_owes c _

theorem cred_all : (bigSep Finset.univ fun c : Dev nD => (launchCred (fun d => owed d pairs) c : sProp 𝕄))
    ⊢ bigSep Finset.univ fun c : Dev nD => bigSep Finset.univ fun k : Pair => credOf m c (landing k) := bigSep_mono fun c _ => cred_deal m c

/-- What every device starts with, kind by kind. -/
theorem launched_all : (bigSep Finset.univ (launched m E) : sProp 𝕄) = iprop(
    (bigSep Finset.univ fun _ : Dev nD => iprop(∃ κ, (plan m : Plan nD τ sig (Elt F) U CellIx).cells E κ))
    ∗ (((bigSep Finset.univ fun c : Dev nD => bigSep Finset.univ fun a : Fin 5 => inBlock m c c a)
        ∗ (bigSep Finset.univ fun c : Dev nD => bigSep Finset.univ fun a : Fin 5 => outBlock m c c a)
        ∗ (bigSep Finset.univ fun c : Dev nD => bigSep Finset.univ fun a : Fin 5 =>
            dutyTok E ((plan m : Plan nD τ sig (Elt F) U CellIx).cell (c, owncopy a)) 0 ()))
      ∗ ((bigSep Finset.univ fun c : Dev nD => bigSep Finset.univ fun k : Pair => inBlock m c (peer c k.2) k.1)
        ∗ (bigSep Finset.univ fun c : Dev nD => bigSep Finset.univ fun k : Pair => outBlock m (peer c k.2) c k.1)
        ∗ (bigSep Finset.univ fun c : Dev nD => bigSep Finset.univ fun k : Pair =>
            dutyTok E ((plan m : Plan nD τ sig (Elt F) U CellIx).cell (c, departure k)) 0 ())
        ∗ (bigSep Finset.univ fun c : Dev nD => bigSep Finset.univ fun k : Pair =>
            dutyTok E ((plan m : Plan nD τ sig (Elt F) U CellIx).cell (peer c k.2, landing k)) 0 ()))
      ∗ (bigSep Finset.univ fun c : Dev nD => bigSep Finset.univ fun k : Pair => credOf m c (landing k))
      ∗ (bigSep Finset.univ fun c : Dev nD => bigSep Finset.univ fun i : CellIx =>
          atPos E ((plan m : Plan nD τ sig (Elt F) U CellIx).cell (c, i)) 0 ∅ 0))
    ∗ (bigSep Finset.univ fun c : Dev nD => due c (owed c pairs))
    ∗ (bigSep Finset.univ fun c : Dev nD => others c)
    ∗ (bigSep Finset.univ fun c : Dev nD => scopedBufs (c.tc : Thread nD τ))
    ∗ (bigSep Finset.univ fun c : Dev nD => opIdle (c.tc : Thread nD τ))) := by
  unfold launched ready preOwn preOut
  simp only [bigSep_sep']

/-- The protocol's record, one for every device. -/
theorem known_all (κ : Dev nD × CellIx → ℕ) : ((plan m : Plan nD τ sig (Elt F) U CellIx).cells E κ : sProp 𝕄)
    ⊢ bigSep Finset.univ fun _ : Dev nD => iprop(∃ κ, (plan m : Plan nD τ sig (Elt F) U CellIx).cells E κ) :=
  BIBase.Entails.trans (BI.bigSep_intro_persistent (S := Finset.univ) fun (_ : Dev nD) _ => BI.Entails.refl _)
    (bigSep_mono fun _ _ => exists_intro (Φ := fun κ => (plan m : Plan nD τ sig (Elt F) U CellIx).cells E κ) κ)

/-- The start is dealt. -/
theorem deal [E.LandsIn (upEmb : UEmb _ 𝕄)] :
    iprop((bigSep Finset.univ fun c : Dev nD => iprop(boundary (c.tc : Thread nD τ) ∗ (arraysAt m c ∗ emptyAt m c)
          ∗ owes (c.tc : Thread nD τ) (owed c pairs) ∅ ∗ launchCred (fun d => owed d pairs) c))
        ∗ BI.own (E (plan m : Plan nD τ sig (Elt F) U CellIx).ghost))
      ⊢ |={Set.univ}=> bigSep Finset.univ (launched m E) := by
  have hb : (bigSep Finset.univ fun c : Dev nD => (boundary (c.tc : Thread nD τ) : sProp 𝕄))
      = iprop((bigSep Finset.univ fun c : Dev nD => scopedBufs (c.tc : Thread nD τ))
          ∗ ((bigSep Finset.univ fun k : Dev nD × CellIx => semVal ((plan m : Plan nD τ sig (Elt F) U CellIx).cell k) 0) ∗ bigSep Finset.univ fun c : Dev nD => others c)
          ∗ bigSep Finset.univ fun c : Dev nD => opIdle (c.tc : Thread nD τ)) := by
    rw [cells_deal, ← bigSep_sep', bigSep_congr (Ψ := fun c : Dev nD => iprop(scopedBufs (c.tc : Thread nD τ)
        ∗ ((bigSep Finset.univ fun i : CellIx => semVal ((plan m : Plan nD τ sig (Elt F) U CellIx).cell (c, i)) 0) ∗ others c)
        ∗ opIdle (c.tc : Thread nD τ))) fun c _ => ?_]
    · rw [bigSep_sep', bigSep_sep']
    · rw [← sems_split m c]; rfl
  rw [bigSep_sep', bigSep_sep', bigSep_sep', bigSep_sep', hb]
  unfold arraysAt emptyAt
  rw [in_deal, out_deal, bigSep_sep']
  iintro ⟨⟨⟨Hsb, ⟨Hsem, Hoth⟩, Hidle⟩, ⟨⟨Hi1, Hi2⟩, ⟨Ho1, Ho2⟩⟩, Howes, Hcred⟩, Hg⟩
  imod ((plan m : Plan nD τ sig (Elt F) U CellIx).fund E) $$ [Hsem Hg] with ⟨%κ, #Hc, Hpos, Htok⟩
  · isplitl [Hsem] <;> iassumption
  imodintro
  ihave Hpos' := Entails.of_eq (cells_deal fun k => atPos E ((plan m : Plan nD τ sig (Elt F) U CellIx).cell k) 0 ∅ 0) $$ Hpos
  ihave Htok' := Entails.of_eq ((tok_deal fun k => dutyTok E ((plan m : Plan nD τ sig (Elt F) U CellIx).cell k) 0 ()).trans
    ((bigSep_sep' _ _ _).trans (congrArg _ (bigSep_sep' _ _ _)))) $$ Htok
  icases Htok' with ⟨Ht1, Ht2, Ht3⟩
  ihave Hd := due_all (F := F) (U := U) $$ Howes
  ihave Hcr := cred_all m $$ Hcred
  iapply (Entails.of_eq (launched_all m E).symm)
  isplitr
  · iapply (known_all m E κ); iexact Hc
  isplitl [Hi1 Ho1 Ht1 Hi2 Ho2 Ht2 Ht3 Hcr Hpos']
  · isplitl [Hi1 Ho1 Ht1]
    · isplitl [Hi1]; · iexact Hi1
      isplitl [Ho1] <;> iassumption
    isplitl [Hi2 Ho2 Ht2 Ht3]
    · isplitl [Hi2]; · iexact Hi2
      isplitl [Ho2]; · iexact Ho2
      isplitl [Ht2] <;> iassumption
    isplitl [Hcr] <;> iassumption
  isplitl [Hd]; · iexact Hd
  isplitl [Hoth]; · iexact Hoth
  isplitl [Hsb]; · iexact Hsb
  iexact Hidle

end Cert.Exchange

end
-- ==== Proof.Run.lean ====
/-
  The exchange's run: every device's arrays end as they began, every result block is the block the device at the other
  end held for this one, and every semaphore ends at zero.
-/
module

public import proofs.«01_k».proof.Proof.Launch
public import proofs.«01_k».proof.Proof.Deal

@[expose] public section

set_option Elab.async false

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred)

variable {F : FTy → Type} [FloatOps F] {U : Type} [URA U]

local notation "𝕄" => MT nD τ sig Unit (Elt F) ℕ U ℕ

variable (m : (ℓ : Loc nD τ sig) → Buf (Elt F) ℓ)
variable (E : Emb (URounds (GSem nD τ sig) Unit) (MT nD τ sig Unit (Elt F) ℕ U ℕ))

/-- What the transfers hand a device is its arrays and its results, whole. -/
theorem collect (c : Dev nD) : (results m c : sProp 𝕄) ⊢ iprop(arraysAt m c ∗ filledAt m c) := by
  unfold results arraysAt filledAt
  rw [over_cells, bigSep_congr fun a _ => inBlock_all m c a, bigSep_congr fun a _ => newBlock_all m c a,
    own_and_peers (fun s a => inBlock m c s a) c, own_and_peers (fun s a => newBlock m c s a) c]
  show iprop((bigSep Finset.univ fun k : Pair => newBlock m c (peer c k.2) k.1) ∗ (bigSep Finset.univ fun k : Pair => inBlock m c (peer c k.2) k.1)
    ∗ bigSep Finset.univ fun a : Fin 5 => iprop(newBlock m c c a ∗ inBlock m c c a)) ⊢ _
  rw [bigSep_sep']
  iintro ⟨H1, H2, H3, H4⟩
  isplitl [H2 H4]
  · isplitl [H4] <;> iassumption
  · isplitl [H3] <;> iassumption

/-- The buffers of the arrays and of the results. -/
def refOf : Fin 5 ⊕ Fin 5 → Ref sig .tc := Sum.elim srcRef dstRef

theorem refOf_inj : Function.Injective refOf := by
  have h : ∀ i j, refOf i = refOf j → i = j := by decide
  exact fun i j => h i j

theorem refOf_unscoped : ∀ i, ¬ (refOf i).isScoped := by decide

/-- The other unscoped buffers of a device, at contents `V`. -/
def restBufs (c : Dev nD) (V : (b : Ref sig .tc) → Buf (Elt F) ((c.tc : Thread nD τ).loc b)) : sProp 𝕄 :=
  bigSep ((Finset.univ.filter fun b : Ref sig .tc => ¬ b.isScoped) \ Finset.univ.image refOf) fun b => ((c.tc : Thread nD τ).loc b) ↦{fullShare} V b

/-- A device's unscoped buffers: its arrays, its results and the others. -/
theorem unscoped_split (c : Dev nD) (V : (b : Ref sig .tc) → Buf (Elt F) ((c.tc : Thread nD τ).loc b)) :
    (unscopedBufs c V : sProp 𝕄)
      = iprop(((bigSep Finset.univ fun a : Fin 5 => ((c.tc : Thread nD τ).loc (srcRef a) ↦{fullShare} V (srcRef a)))
          ∗ bigSep Finset.univ fun a : Fin 5 => ((c.tc : Thread nD τ).loc (dstRef a) ↦{fullShare} V (dstRef a))) ∗ restBufs c V) := by
  have h : Finset.univ.image refOf = Finset.univ.map ⟨refOf, refOf_inj⟩ := by ext x; simp
  unfold unscopedBufs restBufs
  rw [h, bigSep_sdiff_split (t := Finset.univ.map ⟨refOf, refOf_inj⟩) fun x hx => by
      obtain ⟨i, -, rfl⟩ := Finset.mem_map.mp hx
      exact Finset.mem_filter.mpr ⟨Finset.mem_univ _, refOf_unscoped i⟩,
    bigSep_map, bigSep_univ_sum]
  rfl

/-- What a device ends with. -/
def ended (c : Dev nD) : sProp 𝕄 := iprop((arraysAt m c ∗ filledAt m c) ∗ restBufs c fun b => m ((c.tc : Thread nD τ).loc b))

/-- The program's end. -/
theorem wp_end (c : Dev nD) {Q : PUnit → sProp (MT nD τ sig Unit (Elt F) ℕ U ℕ)} :
    Q ⟨⟩ ⊢ wp frame (wpE (Cert.KernelIdeal.defs (F := F)) (Variants.lift Variants.none) (c.tc : Thread nD τ) none) Set.univ
      ((Prog.ret PUnit.unit).bind fun _ => Prog.ret PUnit.unit) Q := by
  show _ ⊢ wp frame (wpE (Cert.KernelIdeal.defs (F := F)) (Variants.lift Variants.none) (c.tc : Thread nD τ) none) Set.univ (Prog.ret PUnit.unit) Q
  rw [wp_ret]
  iintro H
  imodintro
  iexact H

/-- A device's program: the call of the exchange. -/
theorem wp_program (c : Dev nD) :
    iprop(launched m E c ∗ restBufs c fun b => m ((c.tc : Thread nD τ).loc b))
      ⊢ wp frame (wpE (Cert.KernelIdeal.defs (F := F)) (Variants.lift Variants.none) (c.tc : Thread nD τ) none) Set.univ (main (F := F) c)
        (fun _ => iprop((ended m c ∗ boundary (c.tc : Thread nD τ)) ∗ ∃ W, owes (c.tc : Thread nD τ) (0 : CellTallies nD τ sig Unit) W)) := by
  unfold launched
  iintro ⟨⟨⟨%κ, #Hc⟩, Hr, Hd, Ho, Hb, Hi⟩, Hrest⟩
  iapply (wp_call m E κ c) $$ [Hr Hd Ho Hb]
  · isplitr; · iexact Hc
    isplitl [Hr]; · iexact Hr
    isplitl [Hd]; · iexact Hd
    isplitl [Ho] <;> iassumption
  iintro ⟨Hres, Hd, Hs, Hb⟩
  iapply (wp_end c)
  ihave Hfin := (collect m c) $$ Hres
  unfold ended due boundary
  isplitr [Hd]
  · isplitl [Hfin Hrest]
    · isplitl [Hfin] <;> iassumption
    · isplitl [Hb]; · iexact Hb
      isplitl [Hs] <;> iassumption
  · iexact Hd

/-- What a device's memory holds in the end: its arrays as they were, its results filled. -/
def Ends (c : Dev nD) (s : MemSt nD τ sig (Elt F)) : Prop :=
  (∀ a, s.mem ((c.tc : Thread nD τ).loc (srcRef a)) = m ((c.tc : Thread nD τ).loc (srcRef a)))
    ∧ ∀ a, s.mem ((c.tc : Thread nD τ).loc (dstRef a)) = final m c a

/-- At the start every device holds its arrays and its results, the others of its unscoped buffers set aside. -/
theorem regroup : (bigSep Finset.univ fun c : Dev nD => iprop(boundary (c.tc : Thread nD τ)
      ∗ unscopedBufs c (fun b => m ((c.tc : Thread nD τ).loc b))
      ∗ owes (c.tc : Thread nD τ) (owed c pairs) ∅ ∗ launchCred (fun d => owed d pairs) c) : sProp 𝕄)
    ⊢ iprop((bigSep Finset.univ fun c : Dev nD => iprop(boundary (c.tc : Thread nD τ) ∗ (arraysAt m c ∗ emptyAt m c)
          ∗ owes (c.tc : Thread nD τ) (owed c pairs) ∅ ∗ launchCred (fun d => owed d pairs) c))
        ∗ bigSep Finset.univ fun c : Dev nD => restBufs c fun b => m ((c.tc : Thread nD τ).loc b)) := by
  rw [← bigSep_sep']
  refine bigSep_mono fun c _ => ?_
  rw [unscoped_split]
  show _ ⊢ iprop((boundary (c.tc : Thread nD τ) ∗ (arraysAt m c ∗ emptyAt m c)
          ∗ owes (c.tc : Thread nD τ) (owed c pairs) ∅ ∗ launchCred (fun d => owed d pairs) c) ∗ restBufs c fun b => m ((c.tc : Thread nD τ).loc b))
  unfold arraysAt emptyAt
  iintro ⟨H1, ⟨H2, H3⟩, H4, H5⟩
  isplitr [H3]
  · isplitl [H1]; · iexact H1
    isplitl [H2]; · iexact H2
    isplitl [H4] <;> iassumption
  · iexact H3

/-- The whole run. -/
theorem run_main (ρ : Dev nD → PrngReg) :
    θ_run (Cert.KernelIdeal.defs (F := F)) (onTc (τ := τ) (main (F := F))) ⟨m, fun _ => 0, ρ⟩
      (fun r => (∀ c, Ends m c r.2) ∧ r.2.sem = fun _ => 0) := by
  refine run_launched (Ix := Unit) (Name := ℕ) (Lvl := ℕ) (U := UR sig nD τ) _ (Variants.lift Variants.none) m ρ (main (F := F)) (fun c => owed c pairs)
    (plan m : Plan nD τ sig (Elt F) (UR sig nD τ) CellIx).ghost
    (fun c => iprop(launched m emb₁ c ∗ restBufs c fun b => m ((c.tc : Thread nD τ).loc b))) (fun c => ended m c) ?_
    (wp_program m emb₁) (Ends m) (fun c s' => ?_) (fun s h hs => ⟨h, ?_⟩)
  · rw [bigSep_sep' _ (launched m emb₁) _]
    iintro ⟨H, Hu⟩
    ihave H' := (regroup m) $$ H
    icases H' with ⟨H1, H2⟩
    imod (deal m (U := UR sig nD τ) emb₁) $$ [H1 Hu] with H
    · isplitl [H1]
      · iexact H1
      · iapply (Entails.of_eq (ownU_emb₁ (nD := nD) (τ := τ) (sig := sig) (Ix := Unit) (Val := Elt F) (Name := ℕ) (Lvl := ℕ) (plan m : Plan nD τ sig (Elt F) (UR sig nD τ) CellIx).ghost)); iexact Hu
    imodintro
    isplitl [H] <;> iassumption
  · unfold ended arraysAt filledAt
    iintro ⟨⟨⟨H1, H2⟩, -⟩, HSI⟩
    ihave H := (pointsTo_read_all Finset.univ (fun a : Fin 5 => (c.tc : Thread nD τ).loc (srcRef a)) (fun a => m ((c.tc : Thread nD τ).loc (srcRef a))) s') $$ [H1 HSI]
    · isplitl [H1] <;> iassumption
    icases H with ⟨%h1, HSI⟩
    ihave H := (pointsTo_read_all Finset.univ (fun a : Fin 5 => (c.tc : Thread nD τ).loc (dstRef a)) (fun a => final m c a) s') $$ [H2 HSI]
    · isplitl [H2] <;> iassumption
    icases H with ⟨%h2, HSI⟩
    imodintro
    isplitr
    · ipureintro; exact ⟨fun a => h1 a (Finset.mem_univ a), fun a => h2 a (Finset.mem_univ a)⟩
    iexact HSI
  · exact sem_eq_zero_of_scoped (by decide) hs

end Cert.Exchange

end
-- ==== Proof.Value.lean ====
/-
  What the exchange leaves, read off the whole arrays: device `c`'s result is block `c` of the whole array with its
  eight by eight blocks transposed.
-/
module

public import proofs.«01_k».proof.Proof.Slab
public import Idealize.ShloMosaic.Lib.Layout
public import Idealize.ShloMosaic.Lib.Pipeline.Value
public import Idealize.ShloMosaic.Lib.Pointwise.Index

@[expose] public section

noncomputable section

namespace Cert.Exchange

open Idealize.ShloMosaic

variable {α : Type} {R N : ℕ}

/-- An array of sixty-four slabs. -/
abbrev Whole (R N : ℕ) : Shape := ⟨3, ![64, R, N]⟩
/-- The same elements, the sixty-four slabs as eight rows of eight. -/
abbrev Rows (R N : ℕ) : Shape := ⟨4, ![8, 8, R, N]⟩

/-- The sixty-four slabs as eight rows of eight, rows and columns exchanged: slab `8 c + s` is slab `8 s + c`. -/
theorem transposed_at (A : (Whole R N).Idx → α) (h1 : (Whole R N).ShapeCasts (Rows R N)) (h2 : (Rows R N).Transposes [1, 0, 2, 3] (Rows R N))
    (h3 : (Rows R N).ShapeCasts (Whole R N)) (s c : Fin 8) (j : Fin R) (k : Fin N) (x y : (Whole R N).Idx)
    (hx : (x 0).val = 8 * c.val + s.val ∧ (x 1).val = j.val ∧ (x 2).val = k.val)
    (hy : (y 0).val = 8 * s.val + c.val ∧ (y 1).val = j.val ∧ (y 2).val = k.val) :
    shapeCast (Whole R N) (transpose (Rows R N) [1, 0, 2, 3] (shapeCast (Rows R N) A h1) h2) h3 x = A y := by
  rw [shapeCast_apply _ h3 x (ix4 c s j k) ?_, transpose_apply _ _ h2 (ix4 c s j k) (ix4 s c j k) ?_, shapeCast_apply _ h1 (ix4 s c j k) y ?_]
  · rw [Shape.rowMajor_val_three, Shape.rowMajor_val_four]
    show ((y 0).val * R + (y 1).val) * N + (y 2).val = ((s.val * 8 + c.val) * R + j.val) * N + k.val
    rw [hy.1, hy.2.1, hy.2.2, Nat.mul_comm 8 s.val]
  · intro b
    match b with
    | 0 => rfl
    | 1 => rfl
    | 2 => rfl
    | 3 => rfl
  · rw [Shape.rowMajor_val_three, Shape.rowMajor_val_four]
    show ((c.val * 8 + s.val) * R + j.val) * N + k.val = ((x 0).val * R + (x 1).val) * N + (x 2).val
    rw [hx.1, hx.2.1, hx.2.2, Nat.mul_comm 8 c.val]

/-- If every device starts with its block of a whole array, the exchange leaves each with its block of the array whose
    blocks are transposed. -/
theorem exchanged_block (g : Fin 8 → (Slabs R N).Idx → α) (A : (Whole R N).Idx → α) (hT : Layout.Tiles (Slabs R N) (Whole R N) 0 8)
    (hg : ∀ d, g d = Layout.block (Slabs R N) (Whole R N) 0 8 d A hT) (h1 : (Whole R N).ShapeCasts (Rows R N))
    (h2 : (Rows R N).Transposes [1, 0, 2, 3] (Rows R N)) (h3 : (Rows R N).ShapeCasts (Whole R N)) (c : Fin 8) :
    exchanged g c = Layout.block (Slabs R N) (Whole R N) 0 8 c
      (shapeCast (Whole R N) (transpose (Rows R N) [1, 0, 2, 3] (shapeCast (Rows R N) A h1) h2) h3) hT := by
  funext i
  refine (congrFun (hg (i 0)) (atSlab c i)).trans ?_
  show A (hT.idx (i 0) (atSlab c i)) = shapeCast (Whole R N) (transpose (Rows R N) [1, 0, 2, 3] (shapeCast (Rows R N) A h1) h2) h3 (hT.idx c i)
  refine (transposed_at A h1 h2 h3 (i 0) c (i 1) (i 2) _ _ ⟨?_, rfl, rfl⟩ ⟨?_, rfl, rfl⟩).symm
  · show c.val * 8 + (i 0).val = _
    rw [Nat.mul_comm]
  · show (i 0).val * 8 + c.val = _
    rw [Nat.mul_comm]

end Cert.Exchange

end
-- ==== Proof.Gather.lean ====
/-
  A gather in two hops, for any number of arrays. Every device holds one block of each array and ends with all
  eight blocks, one per slot of its result. A device first copies its own block into its own slot and sends it to
  four peers: the one on its own chip and one on each of the three other chips. As soon as a block from another chip
  has landed, it is sent on to the peer on the own chip. This file says what such a kernel is made of, and writes
  its body as lists of transfers and waits.
-/
module

public import proofs.«01_k».proof.Proof.Slab

@[expose] public section

set_option Elab.async false

noncomputable section

namespace Cert.Gather

open Cert.Exchange
open Idealize.ShloMosaic
open Idealize.ShloMosaic.TcCoe
open Idealize.SL Idealize.SL.Sem

/-- The peers a device's own block goes to: the one on its own chip, then one on each other chip. -/
def nearPeer : Fin 4 → Fin 7 := ![0, 3, 1, 5]
/-- The peers whose blocks come by way of the peer on the own chip. -/
def farPeer : Fin 3 → Fin 7 := ![4, 2, 6]
/-- The number of a first transfer among a device's seven. -/
def nearIx : Fin 4 → Fin 7 := ![0, 1, 2, 3]
/-- The number of a passed-on transfer among a device's seven. -/
def farIx : Fin 3 → Fin 7 := ![4, 5, 6]

/-- What the peer on the own chip got directly from another chip is what a device gets by way of it. -/
theorem near_of_far : ∀ (c : Fin 8) (j : Fin 3), peer (peer c 0) (nearPeer j.succ) = peer c (farPeer j) := by decide
theorem far_of_near : ∀ (c : Fin 8) (j : Fin 3), peer (peer c 0) (farPeer j) = peer c (nearPeer j.succ) := by decide

/-- The parts of a gather kernel over `n` arrays: the views it transfers, its semaphores, the devices it computes,
    and the orders it goes through its transfers in. -/
structure Kit (sig : RefSig) (n : ℕ) where
  /-- The shape of a block of each array. -/
  shp : Fin n → Shape
  /-- The element type of each array. -/
  elt : Fin n → EltTy
  /-- A device's own block. -/
  src : (a : Fin n) → Memref sig .tc .hbm (shp a) (elt a)
  srcExact : ∀ a, (src a).view.WordExact
  /-- A device's own slot of a result. -/
  slot : (s : Fin 8) → (a : Fin n) → Memref sig .tc .hbm (shp a) (elt a)
  slotExact : ∀ s a, (slot s a).view.WordExact
  slotOpen : ∀ s a, (slot s a).view.ref.isScScratch = false
  /-- The slot of device `c`'s result that a first transfer to `c` fills. -/
  near : (c : Fin 8) → (k : Fin 4) → (a : Fin n) → Memref sig .tc .hbm (shp a) (elt a)
  nearExact : ∀ c k a, (near c k a).view.WordExact
  nearOpen : ∀ c k a, (near c k a).view.ref.isScScratch = false
  /-- The slot of device `c`'s result that a passed-on transfer to `c` fills. -/
  far : (c : Fin 8) → (j : Fin 3) → (a : Fin n) → Memref sig .tc .hbm (shp a) (elt a)
  farExact : ∀ c j a, (far c j a).view.WordExact
  /-- The device each transfer of device `c` goes to. -/
  target : (c : Fin 8) → Fin n → Fin 7 → Fin 8
  /-- The semaphore of the copy of an own block. -/
  semOwn : Fin n → DmaSem sig
  /-- The semaphore of a transfer's departure. -/
  semOut : Fin n → Fin 7 → DmaSem sig
  /-- The semaphore of a transfer's landing. -/
  semIn : Fin n → Fin 7 → DmaSem sig
  /-- The arrays in the kernel's order. -/
  arrays : List (Fin n)
  /-- The first transfers in the kernel's order. -/
  quads : List (Fin n × Fin 4)
  /-- The passed-on transfers in the kernel's order. -/
  trips : List (Fin n × Fin 3)

/-- A device's cells: landings, first and passed on; departures, first and passed on; copies of own blocks. -/
abbrev CellIx (n : ℕ) := (Fin n × Fin 4 ⊕ Fin n × Fin 3) ⊕ ((Fin n × Fin 4 ⊕ Fin n × Fin 3) ⊕ Fin n)

section Cells

variable {n : ℕ}

/-- The cell of a first transfer's landing. -/
abbrev landNear (x : Fin n × Fin 4) : CellIx n := .inl (.inl x)
/-- The cell of a passed-on transfer's landing. -/
abbrev landFar (x : Fin n × Fin 3) : CellIx n := .inl (.inr x)
/-- The cell of a first transfer's departure. -/
abbrev leaveNear (x : Fin n × Fin 4) : CellIx n := .inr (.inl (.inl x))
/-- The cell of a passed-on transfer's departure. -/
abbrev leaveFar (x : Fin n × Fin 3) : CellIx n := .inr (.inl (.inr x))
/-- The cell of the copy of an own block. -/
abbrev ownCopy (a : Fin n) : CellIx n := .inr (.inr a)
/-- The cell of the landing from another chip that is passed on. -/
abbrev landChip (x : Fin n × Fin 3) : CellIx n := landNear (x.1, x.2.succ)
/-- The cells of the other landings: the one from the peer on the own chip, then those it passes on. -/
def landRest (x : Fin n × Fin 4) : CellIx n := Fin.cases (landNear (x.1, 0)) (fun j => landFar (x.1, j)) x.2

/-- The array each cell is about. -/
def arrayOf : CellIx n → Fin n
  | .inl (.inl x) => x.1
  | .inl (.inr x) => x.1
  | .inr (.inl (.inl x)) => x.1
  | .inr (.inl (.inr x)) => x.1
  | .inr (.inr a) => a

end Cells

namespace Kit

variable {sig : RefSig} {n : ℕ} (K : Kit sig n)

/-- The semaphore of each cell. -/
def semOf : CellIx n → SemLoc sig
  | .inl (.inl x) => .dma (K.semIn x.1 (nearIx x.2))
  | .inl (.inr x) => .dma (K.semIn x.1 (farIx x.2))
  | .inr (.inl (.inl x)) => .dma (K.semOut x.1 (nearIx x.2))
  | .inr (.inl (.inr x)) => .dma (K.semOut x.1 (farIx x.2))
  | .inr (.inr a) => .dma (K.semOwn a)

/-- What a transfer of a block of an array credits. -/
def credit (a : Fin n) : ℕ := (K.slot 0 a).view.dmaCredit

/-- What has to hold of the parts: the slots, devices and semaphores are the ones meant. -/
structure Laws : Prop where
  sem_inj : Function.Injective K.semOf
  sem_scoped : ∀ i, (K.semOf i).isScoped .tc = true
  near_eq : ∀ c k a, K.near c k a = K.slot (peer c (nearPeer k)) a
  far_eq : ∀ c j a, K.far c j a = K.slot (peer c (farPeer j)) a
  target_near : ∀ c a k, K.target c a (nearIx k) = peer c (nearPeer k)
  target_far : ∀ c a j, K.target c a (farIx j) = peer c 0
  credit_slot : ∀ s a, (K.slot s a).view.dmaCredit = K.credit a
  credit_src : ∀ a, (K.src a).view.dmaCredit = K.credit a
  block_pos : ∀ a, 0 < (K.shp a).numel
  arrays_nodup : K.arrays.Nodup
  arrays_all : K.arrays.toFinset = Finset.univ
  quads_nodup : K.quads.Nodup
  quads_all : K.quads.toFinset = Finset.univ
  trips_nodup : K.trips.Nodup
  trips_all : K.trips.toFinset = Finset.univ

variable (Λ : Labels) (F : FTy → Type)

/-- The type of the kernel's operations that return nothing. -/
abbrev Op (sig : RefSig) (Λ : Labels) (F : FTy → Type) := TpuEff 8 Topo.v7x sig (Elt F) Λ .tc PUnit

variable {Λ F}

/-- Start of the copy of an own block. -/
def startOwn (c : Fin 8) (a : Fin n) : Op sig Λ F :=
  .enqueueDma (K.src a) (.here (K.slot c a)) (.dma (K.semOwn a)) (K.srcExact a) (K.slotExact c a) ⟨Or.inl rfl, trivial⟩
/-- Start of a first transfer. -/
def startNear (c : Fin 8) (x : Fin n × Fin 4) : Op sig Λ F :=
  .enqueueDma (K.src x.1) (.remote (Dev.tc (K.target c x.1 (nearIx x.2))) (K.slot c x.1) (.dma (K.semOut x.1 (nearIx x.2))) (K.slotOpen c x.1))
    (.dma (K.semIn x.1 (nearIx x.2))) (K.srcExact x.1) (K.slotExact c x.1) ⟨⟨rfl, Or.inl rfl⟩, trivial⟩
/-- Wait for the landing of a block from another chip. -/
def waitChip (c : Fin 8) (x : Fin n × Fin 3) : Op sig Λ F :=
  .waitDma2 (K.semIn x.1 (nearIx x.2.succ)) (K.near c x.2.succ x.1) (K.near c x.2.succ x.1) (K.nearExact c x.2.succ x.1) (K.nearExact c x.2.succ x.1)
/-- Start of the transfer that passes that block on. -/
def startFar (c : Fin 8) (x : Fin n × Fin 3) : Op sig Λ F :=
  .enqueueDma (K.near c x.2.succ x.1) (.remote (Dev.tc (K.target c x.1 (farIx x.2))) (K.near c x.2.succ x.1) (.dma (K.semOut x.1 (farIx x.2))) (K.nearOpen c x.2.succ x.1))
    (.dma (K.semIn x.1 (farIx x.2))) (K.nearExact c x.2.succ x.1) (K.nearExact c x.2.succ x.1) ⟨⟨rfl, Or.inl rfl⟩, trivial⟩
/-- Wait for one of the other landings. -/
def waitRest (c : Fin 8) (x : Fin n × Fin 4) : Op sig Λ F :=
  Fin.cases (.waitDma2 (K.semIn x.1 (nearIx 0)) (K.near c 0 x.1) (K.near c 0 x.1) (K.nearExact c 0 x.1) (K.nearExact c 0 x.1))
    (fun j => .waitDma2 (K.semIn x.1 (farIx j)) (K.far c j x.1) (K.far c j x.1) (K.farExact c j x.1) (K.farExact c j x.1)) x.2
/-- Wait for a first transfer's departure. -/
def waitNear (c : Fin 8) (x : Fin n × Fin 4) : Op sig Λ F :=
  .waitDma2 (K.semOut x.1 (nearIx x.2)) (K.slot c x.1) (K.src x.1) (K.slotExact c x.1) (K.srcExact x.1)
/-- Wait for a passed-on transfer's departure. -/
def waitFar (c : Fin 8) (x : Fin n × Fin 3) : Op sig Λ F :=
  .waitDma2 (K.semOut x.1 (farIx x.2)) (K.near c x.2.succ x.1) (K.near c x.2.succ x.1) (K.nearExact c x.2.succ x.1) (K.nearExact c x.2.succ x.1)
/-- Wait for the copy of an own block. -/
def waitOwn (c : Fin 8) (a : Fin n) : Op sig Λ F :=
  .waitDma2 (K.semOwn a) (K.src a) (K.slot c a) (K.srcExact a) (K.slotExact c a)

/-- One kind of transfer or wait over a list, then the rest of the body. -/
def run {ι : Type} (e : ι → Op sig Λ F) (l : List ι) (rest : Prog (TpuEff 8 Topo.v7x sig (Elt F) Λ .tc) PUnit) : Prog (TpuEff 8 Topo.v7x sig (Elt F) Λ .tc) PUnit :=
  l.foldr (fun a k => .op (e a) fun _ => k) rest
/-- Two kinds in turn over a list, then the rest of the body. -/
def run2 {ι : Type} (e e' : ι → Op sig Λ F) (l : List ι) (rest : Prog (TpuEff 8 Topo.v7x sig (Elt F) Λ .tc) PUnit) : Prog (TpuEff 8 Topo.v7x sig (Elt F) Λ .tc) PUnit :=
  l.foldr (fun a k => .op (e a) fun _ => .op (e' a) fun _ => k) rest

/-- The body on device `c`. -/
def body (c : Fin 8) : Prog (TpuEff 8 Topo.v7x sig (Elt F) Λ .tc) PUnit :=
  run (K.startOwn c) K.arrays (run (K.startNear c) K.quads (run2 (K.waitChip c) (K.startFar c) K.trips
    (run (K.waitRest c) K.quads (run (K.waitNear c) K.quads (run (K.waitFar c) K.trips (run (K.waitOwn c) K.arrays (.ret ⟨⟩)))))))

end Kit

end Cert.Gather

end
-- ==== Proof.GatherSums.lean ====
/-
  Separating conjunctions over a gather's cells, peers and slots, each split by the kinds of transfers.
-/
module

public import proofs.«01_k».proof.Proof.Gather

@[expose] public section

set_option Elab.async false

noncomputable section

namespace Cert.Gather

open Cert.Exchange
open Idealize.SL Idealize.SL.RA Idealize.SL.BI
open scoped Idealize.SL.BI
open Idealize.SL.BI.BIBase Idealize.SL.BI.Laws Idealize.SL.ProofMode

variable {M : Type} [URA M] {n : ℕ}

/-- Over a sum: the left ones, then the right ones. -/
theorem both {A B : Type} [Fintype A] [Fintype B] (Φ : A ⊕ B → sProp M) :
    bigSep Finset.univ Φ = iprop((bigSep Finset.univ fun a => Φ (.inl a)) ∗ bigSep Finset.univ fun b => Φ (.inr b)) := bigSep_univ_sum Φ

theorem sep_swap (P Q R : sProp M) : iprop((P ∗ Q) ∗ R) = iprop((P ∗ R) ∗ Q) := by
  have h : ∀ P Q R : sProp M, iprop((P ∗ Q) ∗ R) ⊢ iprop((P ∗ R) ∗ Q) := by
    intro P Q R
    iintro ⟨⟨H1, H2⟩, H3⟩
    isplitr [H2]
    · isplitl [H1] <;> iassumption
    · iexact H2
  exact BI.Entails.antisymm (h _ _ _) (h _ _ _)

/-- The first member of each family, then the others. -/
theorem split_first {k : ℕ} (Φ : Fin n × Fin (k + 1) → sProp M) :
    bigSep Finset.univ Φ
      = iprop((bigSep Finset.univ fun a : Fin n => Φ (a, 0)) ∗ bigSep Finset.univ fun x : Fin n × Fin k => Φ (x.1, x.2.succ)) := by
  have h : ∀ a, (bigSep Finset.univ fun i : Fin (k + 1) => Φ (a, i)) = iprop(Φ (a, 0) ∗ bigSep Finset.univ fun j : Fin k => Φ (a, j.succ)) := fun a => by
    rw [bigSep_univ_equiv (finSuccEquiv k).symm, bigSep_univ_equiv (Equiv.optionEquivSumPUnit.{0} (Fin k)).symm, bigSep_univ_sum,
      show (Finset.univ : Finset PUnit.{1}) = {PUnit.unit} from rfl, bigSep_singleton]
    exact BI.Entails.antisymm (BI.sep_comm (P := _) (Q := _)) (BI.sep_comm (P := _) (Q := _))
  rw [bigSep_univ_prod, bigSep_congr fun a _ => h a, bigSep_sep', bigSep_univ_prod fun x : Fin n × Fin k => Φ (x.1, x.2.succ)]

/-- The landings, told apart by whether they are passed on. -/
theorem by_rest (Φ : CellIx n → sProp M) :
    iprop((bigSep Finset.univ fun x => Φ (landNear x)) ∗ bigSep Finset.univ fun x => Φ (landFar x))
      = iprop((bigSep Finset.univ fun x => Φ (landRest x)) ∗ bigSep Finset.univ fun x => Φ (landChip x)) := by
  rw [split_first fun x => Φ (landNear x), split_first fun x => Φ (landRest x)]
  exact sep_swap _ _ _

/-- All cells of a device. -/
theorem over_cells (Φ : CellIx n → sProp M) :
    bigSep Finset.univ Φ = iprop(((bigSep Finset.univ fun x => Φ (landRest x)) ∗ bigSep Finset.univ fun x => Φ (landChip x))
      ∗ ((bigSep Finset.univ fun x => Φ (leaveNear x)) ∗ bigSep Finset.univ fun x => Φ (leaveFar x)) ∗ bigSep Finset.univ fun a => Φ (ownCopy a)) := by
  rw [← by_rest, both, both, both fun i : (Fin n × Fin 4 ⊕ Fin n × Fin 3) ⊕ Fin n => Φ (.inr i), both]

/-- The seven peers: four that send directly, three by way of the peer on the own chip. -/
def sevenPeers : Fin 4 ⊕ Fin 3 ≃ Fin 7 := Equiv.ofBijective (Sum.elim nearPeer farPeer) (by decide)

/-- Over arrays and slots: device `c`'s own slots, those filled by first transfers and those filled by passed-on ones. -/
theorem by_slot (Φ : Fin 8 → Fin n → sProp M) (c : Fin 8) :
    (bigSep Finset.univ fun a => bigSep Finset.univ fun s => Φ s a)
      = iprop((bigSep Finset.univ fun a => Φ c a) ∗ (bigSep Finset.univ fun x : Fin n × Fin 4 => Φ (peer c (nearPeer x.2)) x.1)
        ∗ bigSep Finset.univ fun x : Fin n × Fin 3 => Φ (peer c (farPeer x.2)) x.1) := by
  rw [bigSep_congr fun a _ => by_peer (fun s => Φ s a) c, bigSep_sep',
    bigSep_congr fun a _ => (bigSep_univ_equiv sevenPeers fun r => Φ (peer c r) a).trans (both _), bigSep_sep',
    bigSep_univ_prod fun x : Fin n × Fin 4 => Φ (peer c (nearPeer x.2)) x.1, bigSep_univ_prod fun x : Fin n × Fin 3 => Φ (peer c (farPeer x.2)) x.1]
  rfl

/-- Every device's slots: its own, and for every transfer the slot on the receiver. -/
theorem by_sender (Φ : Fin 8 → Fin 8 → Fin n → sProp M) :
    (bigSep Finset.univ fun c => bigSep Finset.univ fun a => bigSep Finset.univ fun s => Φ c s a)
      = iprop((bigSep Finset.univ fun c => bigSep Finset.univ fun a => Φ c c a)
        ∗ (bigSep Finset.univ fun c => bigSep Finset.univ fun x : Fin n × Fin 4 => Φ (peer c (nearPeer x.2)) c x.1)
        ∗ bigSep Finset.univ fun c => bigSep Finset.univ fun x : Fin n × Fin 3 => Φ (peer c 0) (peer c (nearPeer x.2.succ)) x.1) := by
  rw [bigSep_congr fun c _ => by_slot (Φ c) c, bigSep_sep', bigSep_sep',
    swapped (fun x : Fin n × Fin 4 => nearPeer x.2) fun c x => Φ c (peer c (nearPeer x.2)) x.1,
    swapped (fun _ : Fin n × Fin 3 => 0) fun c x => Φ c (peer c (farPeer x.2)) x.1]
  simp only [peer_peer, far_of_near]

/-- Every device's cells, the landings at their senders. -/
theorem by_token (Φ : Fin 8 × CellIx n → sProp M) :
    bigSep Finset.univ Φ = iprop((bigSep Finset.univ fun c => bigSep Finset.univ fun a : Fin n => Φ (c, ownCopy a))
      ∗ ((bigSep Finset.univ fun c => bigSep Finset.univ fun x => Φ (c, leaveNear x))
        ∗ bigSep Finset.univ fun c => bigSep Finset.univ fun x : Fin n × Fin 4 => Φ (peer c (nearPeer x.2), landNear x))
      ∗ ((bigSep Finset.univ fun c => bigSep Finset.univ fun x => Φ (c, leaveFar x))
        ∗ bigSep Finset.univ fun c => bigSep Finset.univ fun x : Fin n × Fin 3 => Φ (peer c 0, landFar x))) := by
  have hc : ∀ c, (bigSep Finset.univ fun i : CellIx n => Φ (c, i)) = iprop(
      ((bigSep Finset.univ fun x => Φ (c, landNear x)) ∗ bigSep Finset.univ fun x => Φ (c, landFar x))
        ∗ ((bigSep Finset.univ fun x => Φ (c, leaveNear x)) ∗ bigSep Finset.univ fun x => Φ (c, leaveFar x)) ∗ bigSep Finset.univ fun a => Φ (c, ownCopy a)) := fun c => by
    rw [over_cells fun i => Φ (c, i), by_rest fun i => Φ (c, i)]
  rw [bigSep_univ_prod, bigSep_congr fun c _ => hc c, bigSep_sep', bigSep_sep', bigSep_sep', bigSep_sep',
    swapped (fun x : Fin n × Fin 4 => nearPeer x.2) fun c x => Φ (c, landNear x), swapped (fun _ : Fin n × Fin 3 => 0) fun c x => Φ (c, landFar x)]
  have h : ∀ P Q R S T : sProp M, iprop((P ∗ Q) ∗ (R ∗ S) ∗ T) = iprop(T ∗ (R ∗ P) ∗ S ∗ Q) := by
    intro P Q R S T
    refine BI.Entails.antisymm ?_ ?_
    · show iprop((P ∗ Q) ∗ (R ∗ S) ∗ T) ⊢ iprop(T ∗ (R ∗ P) ∗ S ∗ Q)
      iintro ⟨⟨H1, H2⟩, ⟨H3, H4⟩, H5⟩
      isplitl [H5]; · iexact H5
      isplitl [H1 H3]
      · isplitl [H3] <;> iassumption
      · isplitl [H4] <;> iassumption
    · show iprop(T ∗ (R ∗ P) ∗ S ∗ Q) ⊢ iprop((P ∗ Q) ∗ (R ∗ S) ∗ T)
      iintro ⟨H5, ⟨H3, H1⟩, H4, H2⟩
      isplitl [H1 H2]
      · isplitl [H1] <;> iassumption
      isplitr [H5]
      · isplitl [H3] <;> iassumption
      · iexact H5
  exact h _ _ _ _ _

end Cert.Gather

end
-- ==== Proof.GatherBody.lean ====
/-
  The gather's protocol and the run of its body. Every device has one cell per landing, one per departure and one per
  copy of an own block. A landing hands its device the filled slot; the departure of an own block gives a share of that
  block back, the departure of a passed-on block gives the slot it was read from back. While a device waits for a block
  from another chip it still owes its peer on the own chip the landings it will pass on, and those lie one level above
  every other cell.
-/
module

public import proofs.«01_k».proof.Proof.Gather
public import Idealize.ShloMosaic.Lib.Transfers

@[expose] public section

set_option Elab.async false

noncomputable section

namespace Cert.Gather

open Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf)

variable {sig : RefSig} {n : ℕ} (K : Kit sig n) (hK : K.Laws)
variable {F : FTy → Type} [FloatOps F] {U : Type} [URA U]

local notation "𝕄" => MT 8 Topo.v7x sig Unit (Elt F) ℕ U ℕ

section Blocks

variable (m : (ℓ : Loc 8 Topo.v7x sig) → Buf (Elt F) ℓ)

/-- Share `i` of five of device `c`'s own block, as it was at the start. -/
def srcShare (c : Fin 8) (a : Fin n) (i : Fin 5) : sProp 𝕄 :=
  (K.src a).view.loc (Dev.tc c : Thread 8 Topo.v7x) ↦[(K.src a).view.set]{dealOf fullShare Finset.univ i} m _
/-- Slot `s` of device `c`'s result, as it was at the start. -/
def oldSlot (c s : Fin 8) (a : Fin n) : sProp 𝕄 :=
  (K.slot s a).view.loc (Dev.tc c : Thread 8 Topo.v7x) ↦[(K.slot s a).view.set]{fullShare} m _
/-- Slot `s` of device `c`'s result, filled with device `s`'s own block. -/
def newSlot (c s : Fin 8) (a : Fin n) : sProp 𝕄 :=
  (K.slot s a).view.loc (Dev.tc c : Thread 8 Topo.v7x) ↦[(K.slot s a).view.set]{fullShare}
    (K.slot s a).view.write (Elt F) (m ((K.slot s a).view.loc (Dev.tc c : Thread 8 Topo.v7x))) ((K.src a).view.read (Elt F) (m ((K.src a).view.loc (Dev.tc s : Thread 8 Topo.v7x)))) Finset.univ

instance (c : Fin 8) (a : Fin n) (i : Fin 5) : BI.Storable (upEmb : UEmb _ 𝕄) (srcShare K m c a i) := by unfold srcShare; infer_instance
instance (c s : Fin 8) (a : Fin n) : BI.Storable (upEmb : UEmb _ 𝕄) (newSlot K m c s a) := by unfold newSlot; infer_instance

/-- What each cell's transfer hands device `c`. -/
def handed (c : Fin 8) : CellIx n → sProp 𝕄
  | .inl (.inl x) => newSlot K m c (peer c (nearPeer x.2)) x.1
  | .inl (.inr x) => newSlot K m c (peer c (farPeer x.2)) x.1
  | .inr (.inl (.inl x)) => srcShare K m c x.1 x.2.succ
  | .inr (.inl (.inr x)) => newSlot K m c (peer c (nearPeer x.2.succ)) x.1
  | .inr (.inr a) => iprop(newSlot K m c c a ∗ srcShare K m c a 0)

include hK in
theorem credit_pos (a : Fin n) : 0 < K.credit a := View.dmaCredit_pos _ (hK.block_pos a)

/-- The protocol. -/
def plan : Plan 8 Topo.v7x sig (Elt F) U (CellIx n) where
  sem := K.semOf
  inj := hK.sem_inj
  amt i := K.credit (arrayOf i)
  pos i := credit_pos K hK _
  pay := handed K m
  stor c i := by
    rcases i with (x | x) | (x | x) | a
    · exact inferInstanceAs (BI.Storable (upEmb : UEmb _ 𝕄) (newSlot K m c (peer c (nearPeer x.2)) x.1))
    · exact inferInstanceAs (BI.Storable (upEmb : UEmb _ 𝕄) (newSlot K m c (peer c (farPeer x.2)) x.1))
    · exact inferInstanceAs (BI.Storable (upEmb : UEmb _ 𝕄) (srcShare K m c x.1 x.2.succ))
    · exact inferInstanceAs (BI.Storable (upEmb : UEmb _ 𝕄) (newSlot K m c (peer c (nearPeer x.2.succ)) x.1))
    · exact inferInstanceAs (BI.Storable (upEmb : UEmb _ 𝕄) iprop(newSlot K m c c a ∗ srcShare K m c a 0))

end Blocks

/-- The cells that have levels: those of the TensorCores. -/
def leveled (g : GSem 8 Topo.v7x sig) : Finset Unit := if g.1.2 = Proc.tc then {()} else ∅

open Classical in
/-- The levels: a landing that is passed on lies above every other cell. -/
def level (g : GSem 8 Topo.v7x sig) (_ : Unit) : ℕ := if ∃ x : Fin n × Fin 3, g.2 = K.semOf (landFar x) then 1 else 0

section Body

variable (m : (ℓ : Loc 8 Topo.v7x sig) → Buf (Elt F) ℓ)
variable (E : Emb (URounds (GSem 8 Topo.v7x sig) Unit) (MT 8 Topo.v7x sig Unit (Elt F) ℕ U ℕ))
variable {Λ : Labels} (defs : Defs 8 Topo.v7x sig (Elt F) Λ) (𝒱 : Variants) (κ : Fin 8 × CellIx n → ℕ) (c : Fin 8)
variable {α : Type} {Q : α → sProp (MT 8 Topo.v7x sig Unit (Elt F) ℕ U ℕ)}

/-- The protocol's record: the cells' invariants and the levels. -/
def known : sProp 𝕄 := iprop((plan K hK m : Plan 8 Topo.v7x sig (Elt F) U (CellIx n)).cells E κ ∗ levAts leveled (level K))

instance : BI.Persistent (known K hK m E κ : sProp 𝕄) := by unfold known; infer_instance

/-- What device `c` owes for the passed-on transfers `l`: a landing on the peer on its own chip. -/
def owedFar (l : List (Fin n × Fin 3)) : CellTallies 8 Topo.v7x sig Unit :=
  (l.map fun x => tallyAt ((Dev.tc (peer c 0) : Thread 8 Topo.v7x), K.semOf (landFar x)) () (K.credit x.1)).sum
/-- What it owes before the first transfers `l`: a landing on each one's peer, and the landings it passes on. -/
def owed (l : List (Fin n × Fin 4)) : CellTallies 8 Topo.v7x sig Unit :=
  (l.map fun x => tallyAt ((Dev.tc (peer c (nearPeer x.2)) : Thread 8 Topo.v7x), K.semOf (landNear x)) () (K.credit x.1)).sum + owedFar K c K.trips

/-- The token of one of device `c`'s cells. -/
def tok (c : Fin 8) (i : CellIx n) : sProp 𝕄 := dutyTok E ((plan K hK m : Plan 8 Topo.v7x sig (Elt F) U (CellIx n)).cell (c, i)) 0 ()
/-- The credit one waits on a cell with. -/
def credOf (i : CellIx n) : sProp 𝕄 :=
  cred (tallyAt ((plan K hK m : Plan 8 Topo.v7x sig (Elt F) U (CellIx n)).cell (c, i)) () ((plan K hK m : Plan 8 Topo.v7x sig (Elt F) U (CellIx n)).amt i))
/-- The owner's position at a cell. -/
def posOf (i : CellIx n) : sProp 𝕄 := atPos E ((plan K hK m : Plan 8 Topo.v7x sig (Elt F) U (CellIx n)).cell (c, i)) 0 ∅ 0
/-- A cell's counter at zero. -/
def shut (i : CellIx n) : sProp 𝕄 := semVal ((plan K hK m : Plan 8 Topo.v7x sig (Elt F) U (CellIx n)).cell (c, i)) 0

/-- Before the copy of an own block. -/
def preOwn (a : Fin n) : sProp 𝕄 := iprop(srcShare K m c a 0 ∗ oldSlot K m c c a ∗ tok K hK m E c (ownCopy a))
/-- Before a first transfer. -/
def preNear (x : Fin n × Fin 4) : sProp 𝕄 :=
  iprop(srcShare K m c x.1 x.2.succ ∗ oldSlot K m (peer c (nearPeer x.2)) c x.1 ∗ tok K hK m E c (leaveNear x)
    ∗ tok K hK m E (peer c (nearPeer x.2)) (landNear x))
/-- Before a passed-on transfer: the block itself has not landed yet. -/
def preFar (x : Fin n × Fin 3) : sProp 𝕄 :=
  iprop((credOf K hK m c (landChip x) ∗ posOf K hK m E c (landChip x)) ∗ oldSlot K m (peer c 0) (peer c (nearPeer x.2.succ)) x.1
    ∗ tok K hK m E c (leaveFar x) ∗ tok K hK m E (peer c 0) (landFar x))

theorem wp_startOwn (a : Fin n) (k : PUnit → Prog (TpuEff 8 Topo.v7x sig (Elt F) Λ .tc) α) :
    iprop(known K hK m E κ ∗ preOwn K hK m E c a)
      ⊢ iprop((credOf K hK m c (ownCopy a) -∗ wp frame (wpE defs 𝒱 (Dev.tc c : Thread 8 Topo.v7x) none) Set.univ (k ⟨⟩) Q)
          -∗ wp frame (wpE defs 𝒱 (Dev.tc c : Thread 8 Topo.v7x) none) Set.univ (.op (K.startOwn c a) k) Q) := by
  have hw := wp_local (plan K hK m : Plan 8 Topo.v7x sig (Elt F) U (CellIx n)) E defs 𝒱 κ c (ownCopy a) (src := K.src a) (dst := K.slot c a) (sm := .dma (K.semOwn a))
    rfl (hK.credit_slot c a) (hsrc := K.srcExact a) (hdst := K.slotExact c a) (hsem := ⟨Or.inl rfl, trivial⟩)
    (q := dealOf fullShare Finset.univ (0 : Fin 5)) (fs := m _) (fd := m _) Entails.rfl (k := k) (Q := Q)
  refine BIBase.Entails.trans ?_ hw
  unfold known preOwn srcShare oldSlot tok
  iintro ⟨⟨#Hc, -⟩, H1, H2, H3⟩
  isplitr; · iexact Hc
  isplitl [H1]; · iexact H1
  isplitl [H2] <;> iassumption

theorem wp_startNear (x : Fin n × Fin 4) (l : List (Fin n × Fin 4)) (k : PUnit → Prog (TpuEff 8 Topo.v7x sig (Elt F) Λ .tc) α) :
    iprop(known K hK m E κ ∗ preNear K hK m E c x ∗ due c (owed K c (x :: l)))
      ⊢ iprop(((credOf K hK m c (leaveNear x) ∗ due c (owed K c l)) -∗ wp frame (wpE defs 𝒱 (Dev.tc c : Thread 8 Topo.v7x) none) Set.univ (k ⟨⟩) Q)
          -∗ wp frame (wpE defs 𝒱 (Dev.tc c : Thread 8 Topo.v7x) none) Set.univ (.op (K.startNear c x) k) Q) := by
  obtain ⟨a, r⟩ := x
  have hO : owed K c ((a, r) :: l) = owed K c l + tallyAt ((Dev.tc (peer c (nearPeer r)) : Thread 8 Topo.v7x), K.semOf (landNear (a, r))) () (K.credit a) := by
    unfold owed
    rw [List.map_cons, List.sum_cons, add_comm (tallyAt _ _ _), add_right_comm]
  have hw := wp_remote (plan K hK m : Plan 8 Topo.v7x sig (Elt F) U (CellIx n)) E defs 𝒱 κ c (peer c (nearPeer r)) (K.target c a (nearIx r)) (hK.target_near c a r)
    (leaveNear (a, r)) (landNear (a, r)) (src := K.src a) (dst := K.slot c a) (sS := .dma (K.semOut a (nearIx r))) (sm := .dma (K.semIn a (nearIx r)))
    rfl rfl (hK.credit_slot c a) rfl (hsc := K.slotOpen c a) (hsrc := K.srcExact a) (hdst := K.slotExact c a) (hsem := ⟨⟨rfl, Or.inl rfl⟩, trivial⟩)
    (fs := m _) (fd := m _) (owed K c l) (owed K c ((a, r) :: l)) hO (q := dealOf fullShare Finset.univ r.succ)
    Entails.rfl (Entails.of_eq (by
      show newSlot K m (peer c (nearPeer r)) c a = newSlot K m (peer c (nearPeer r)) (peer (peer c (nearPeer r)) (nearPeer r)) a
      rw [peer_peer])) (k := k) (Q := Q)
  refine BIBase.Entails.trans ?_ hw
  unfold known preNear srcShare oldSlot tok
  iintro ⟨⟨#Hc, -⟩, ⟨H1, H2, H3, H4⟩, H5⟩
  isplitr; · iexact Hc
  isplitl [H1]; · iexact H1
  isplitl [H2]; · iexact H2
  isplitl [H3]; · iexact H3
  isplitl [H4] <;> iassumption

/-- A filled slot passed on fills the peer's slot the same way. -/
theorem passed (d s : Fin 8) (a : Fin n) :
    ((K.slot s a).view.loc (Dev.tc d : Thread 8 Topo.v7x) ↦[(K.slot s a).view.set]{fullShare}
        (K.slot s a).view.write (Elt F) (m ((K.slot s a).view.loc (Dev.tc d : Thread 8 Topo.v7x))) ((K.slot s a).view.read (Elt F)
          ((K.slot s a).view.write (Elt F) (m ((K.slot s a).view.loc (Dev.tc c : Thread 8 Topo.v7x))) ((K.src a).view.read (Elt F) (m ((K.src a).view.loc (Dev.tc s : Thread 8 Topo.v7x)))) Finset.univ))
          Finset.univ : sProp 𝕄)
      = newSlot K m d s a := by
  rw [View.read_write_univ]
  rfl

theorem wp_startFar (x : Fin n × Fin 3) (l : List (Fin n × Fin 3)) (k : PUnit → Prog (TpuEff 8 Topo.v7x sig (Elt F) Λ .tc) α) :
    iprop(known K hK m E κ ∗ (newSlot K m c (peer c (nearPeer x.2.succ)) x.1 ∗ oldSlot K m (peer c 0) (peer c (nearPeer x.2.succ)) x.1
        ∗ tok K hK m E c (leaveFar x) ∗ tok K hK m E (peer c 0) (landFar x)) ∗ due c (owedFar K c (x :: l)))
      ⊢ iprop(((credOf K hK m c (leaveFar x) ∗ due c (owedFar K c l)) -∗ wp frame (wpE defs 𝒱 (Dev.tc c : Thread 8 Topo.v7x) none) Set.univ (k ⟨⟩) Q)
          -∗ wp frame (wpE defs 𝒱 (Dev.tc c : Thread 8 Topo.v7x) none) Set.univ (.op (K.startFar c x) k) Q) := by
  obtain ⟨a, j⟩ := x
  have hO : owedFar K c ((a, j) :: l) = owedFar K c l + tallyAt ((Dev.tc (peer c 0) : Thread 8 Topo.v7x), K.semOf (landFar (a, j))) () (K.credit a) :=
    (List.sum_cons ..).trans (add_comm ..)
  have hgen : ∀ (v : Memref sig .tc .hbm (K.shp a) (K.elt a)) (hv : v = K.slot (peer c (nearPeer j.succ)) a) (hx hy : v.view.WordExact) (hsc) (hz),
      iprop(known K hK m E κ ∗ (newSlot K m c (peer c (nearPeer j.succ)) a ∗ oldSlot K m (peer c 0) (peer c (nearPeer j.succ)) a
          ∗ tok K hK m E c (leaveFar (a, j)) ∗ tok K hK m E (peer c 0) (landFar (a, j))) ∗ due c (owedFar K c ((a, j) :: l)))
        ⊢ iprop(((credOf K hK m c (leaveFar (a, j)) ∗ due c (owedFar K c l)) -∗ wp frame (wpE defs 𝒱 (Dev.tc c : Thread 8 Topo.v7x) none) Set.univ (k ⟨⟩) Q)
            -∗ wp frame (wpE defs 𝒱 (Dev.tc c : Thread 8 Topo.v7x) none) Set.univ
              (.op (.enqueueDma v (.remote (Dev.tc (K.target c a (farIx j))) v (.dma (K.semOut a (farIx j))) hsc) (.dma (K.semIn a (farIx j))) hx hy hz) k) Q) := by
    intro v hv hx hy hsc hz
    subst hv
    have hw := wp_remote (plan K hK m : Plan 8 Topo.v7x sig (Elt F) U (CellIx n)) E defs 𝒱 κ c (peer c 0) (K.target c a (farIx j)) (hK.target_far c a j)
      (leaveFar (a, j)) (landFar (a, j)) (src := K.slot (peer c (nearPeer j.succ)) a) (dst := K.slot (peer c (nearPeer j.succ)) a)
      (sS := .dma (K.semOut a (farIx j))) (sm := .dma (K.semIn a (farIx j)))
      rfl rfl (hK.credit_slot _ a) rfl (hsc := hsc) (hsrc := hx) (hdst := hy) (hsem := hz)
      (fd := m _) (owedFar K c l) (owedFar K c ((a, j) :: l)) hO (q := fullShare)
      (hpay := (Entails.rfl : (newSlot K m c (peer c (nearPeer j.succ)) a : sProp 𝕄) ⊢ _)) (hpay' := by
        rw [passed K m c (peer c 0)]
        refine Entails.of_eq ?_
        show newSlot K m (peer c 0) (peer c (nearPeer j.succ)) a = newSlot K m (peer c 0) (peer (peer c 0) (farPeer j)) a
        rw [far_of_near]) (k := k) (Q := Q)
    refine BIBase.Entails.trans ?_ hw
    unfold known newSlot oldSlot tok
    iintro ⟨⟨#Hc, -⟩, ⟨H1, H2, H3, H4⟩, H5⟩
    isplitr; · iexact Hc
    isplitl [H1]; · iexact H1
    isplitl [H2]; · iexact H2
    isplitl [H3]; · iexact H3
    isplitl [H4] <;> iassumption
  exact hgen _ (hK.near_eq c j.succ a) _ _ _ _

include hK in
/-- The wait for a block from another chip is allowed while landings on the peer on the own chip are owed. -/
theorem may_wait (x : Fin n × Fin 3) (l : List (Fin n × Fin 3)) :
    (levAts leveled (level K) : sProp 𝕄) ⊢ MayWait (Dev.tc c : Thread 8 Topo.v7x) (K.semOf (landChip x)) () (owedFar K c l) := by
  have hm : ∀ g : GSem 8 Topo.v7x sig, g.1.2 = Proc.tc → () ∈ leveled g := fun g hg => by
    unfold leveled
    rw [if_pos hg]
    exact Finset.mem_singleton_self _
  refine Pipeline.mayWait_of_levAts (hm _ rfl) fun g i hg => ?_
  have hex : ∃ y : Fin n × Fin 3, g = ((Dev.tc (peer c 0) : Thread 8 Topo.v7x), K.semOf (landFar y)) := by
    induction l with
    | nil => exact absurd hg (Nat.lt_irrefl 0)
    | cons y l ih =>
      unfold owedFar at hg
      rw [List.map_cons, List.sum_cons] at hg
      rcases Pipeline.add_pos_cases hg with h | h
      · exact ⟨y, (Pipeline.tallyAt_pos h).1⟩
      · exact ih h
  obtain ⟨y, rfl⟩ := hex
  refine ⟨hm _ rfl, ?_⟩
  have h0 : level K ((Dev.tc c : Thread 8 Topo.v7x), K.semOf (landChip x)) () = 0 := if_neg fun ⟨z, hz⟩ => by
    have hz' : K.semOf (landChip x) = K.semOf (landFar z) := hz
    exact absurd (Sum.inl.inj (hK.sem_inj hz')) Sum.inl_ne_inr
  have h1 : level K ((Dev.tc (peer c 0) : Thread 8 Topo.v7x), K.semOf (landFar y)) () = 1 := if_pos ⟨y, rfl⟩
  rw [h0, h1]
  exact Nat.one_pos

theorem wp_wait_owing (i : CellIx n) (O : CellTallies 8 Topo.v7x sig Unit) {w : Kit.Op sig Λ F}
    (hw : ∀ X : PUnit → sProp 𝕄, wpE defs 𝒱 (Dev.tc c : Thread 8 Topo.v7x) none Set.univ w X = waitSpec (Dev.tc c : Thread 8 Topo.v7x) Set.univ (K.semOf i) (K.credit (arrayOf i)) X)
    (k : PUnit → Prog (TpuEff 8 Topo.v7x sig (Elt F) Λ .tc) α) :
    iprop(known K hK m E κ ∗ MayWait (Dev.tc c : Thread 8 Topo.v7x) (K.semOf i) () O ∗ (credOf K hK m c i ∗ posOf K hK m E c i) ∗ due c O)
      ⊢ iprop((((handed K m c i ∗ shut K hK m c i) ∗ due c O) -∗ wp frame (wpE defs 𝒱 (Dev.tc c : Thread 8 Topo.v7x) none) Set.univ (k ⟨⟩) Q)
          -∗ wp frame (wpE defs 𝒱 (Dev.tc c : Thread 8 Topo.v7x) none) Set.univ (.op w k) Q) := by
  refine BIBase.Entails.trans ?_ (wp_await_owing (plan K hK m : Plan 8 Topo.v7x sig (Elt F) U (CellIx n)) E defs 𝒱 κ c i O rfl rfl hw)
  unfold known Plan.await credOf posOf
  iintro ⟨⟨#Hc, -⟩, H0, H1, H2⟩
  isplitr; · iexact Hc
  isplitl [H0]; · iexact H0
  isplitl [H1] <;> iassumption

/-- A wait of a device that owes nothing. -/
theorem wp_wait (i : CellIx n) {w : Kit.Op sig Λ F}
    (hw : ∀ X : PUnit → sProp 𝕄, wpE defs 𝒱 (Dev.tc c : Thread 8 Topo.v7x) none Set.univ w X = waitSpec (Dev.tc c : Thread 8 Topo.v7x) Set.univ (K.semOf i) (K.credit (arrayOf i)) X)
    (k : PUnit → Prog (TpuEff 8 Topo.v7x sig (Elt F) Λ .tc) α) :
    iprop((known K hK m E κ ∗ due c 0) ∗ (credOf K hK m c i ∗ posOf K hK m E c i))
      ⊢ iprop(((handed K m c i ∗ shut K hK m c i) -∗ due c 0 -∗ wp frame (wpE defs 𝒱 (Dev.tc c : Thread 8 Topo.v7x) none) Set.univ (k ⟨⟩) Q)
          -∗ wp frame (wpE defs 𝒱 (Dev.tc c : Thread 8 Topo.v7x) none) Set.univ (.op w k) Q) := by
  have h := wp_await (plan K hK m : Plan 8 Topo.v7x sig (Elt F) U (CellIx n)) E defs 𝒱 κ c i (k := k) (Q := Q) rfl rfl hw
  unfold known
  iintro ⟨⟨⟨#Hc, -⟩, H1⟩, H2⟩ HQ
  iapply h $$ [H1 H2]
  · isplitr; · iexact Hc
    isplitl [H2]
    · unfold Plan.await
      iexact H2
    · iexact H1
  iintro ⟨H1, H2⟩
  iapply HQ $$ [H1] [H2]
  · unfold Plan.got
    iexact H1
  · iexact H2

include hK in
theorem waitChip_eq (x : Fin n × Fin 3) (X : PUnit → sProp 𝕄) :
    wpE defs 𝒱 (Dev.tc c : Thread 8 Topo.v7x) none Set.univ (K.waitChip c x) X
      = waitSpec (Dev.tc c : Thread 8 Topo.v7x) Set.univ (K.semOf (landChip x)) (K.credit x.1) X := by
  show waitSpec (Dev.tc c : Thread 8 Topo.v7x) Set.univ (.dma (K.semIn x.1 (nearIx x.2.succ))) (K.near c x.2.succ x.1).view.dmaCredit X = _
  rw [hK.near_eq, hK.credit_slot]; rfl

include hK in
theorem waitRest_eq (x : Fin n × Fin 4) (X : PUnit → sProp 𝕄) :
    wpE defs 𝒱 (Dev.tc c : Thread 8 Topo.v7x) none Set.univ (K.waitRest c x) X
      = waitSpec (Dev.tc c : Thread 8 Topo.v7x) Set.univ (K.semOf (landRest x)) (K.credit (arrayOf (landRest x))) X := by
  obtain ⟨a, r⟩ := x
  refine Fin.cases ?_ (fun j => ?_) r
  · show waitSpec (Dev.tc c : Thread 8 Topo.v7x) Set.univ (.dma (K.semIn a (nearIx 0))) (K.near c 0 a).view.dmaCredit X = _
    rw [hK.near_eq, hK.credit_slot]; rfl
  · show waitSpec (Dev.tc c : Thread 8 Topo.v7x) Set.univ (.dma (K.semIn a (farIx j))) (K.far c j a).view.dmaCredit X = _
    rw [hK.far_eq, hK.credit_slot]; rfl

include hK in
theorem waitNear_eq (x : Fin n × Fin 4) (X : PUnit → sProp 𝕄) :
    wpE defs 𝒱 (Dev.tc c : Thread 8 Topo.v7x) none Set.univ (K.waitNear c x) X
      = waitSpec (Dev.tc c : Thread 8 Topo.v7x) Set.univ (K.semOf (leaveNear x)) (K.credit x.1) X := by
  show waitSpec (Dev.tc c : Thread 8 Topo.v7x) Set.univ (.dma (K.semOut x.1 (nearIx x.2))) (K.src x.1).view.dmaCredit X = _
  rw [hK.credit_src]; rfl

include hK in
theorem waitFar_eq (x : Fin n × Fin 3) (X : PUnit → sProp 𝕄) :
    wpE defs 𝒱 (Dev.tc c : Thread 8 Topo.v7x) none Set.univ (K.waitFar c x) X
      = waitSpec (Dev.tc c : Thread 8 Topo.v7x) Set.univ (K.semOf (leaveFar x)) (K.credit x.1) X := by
  show waitSpec (Dev.tc c : Thread 8 Topo.v7x) Set.univ (.dma (K.semOut x.1 (farIx x.2))) (K.near c x.2.succ x.1).view.dmaCredit X = _
  rw [hK.near_eq, hK.credit_slot]; rfl

include hK in
theorem waitOwn_eq (a : Fin n) (X : PUnit → sProp 𝕄) :
    wpE defs 𝒱 (Dev.tc c : Thread 8 Topo.v7x) none Set.univ (K.waitOwn c a) X
      = waitSpec (Dev.tc c : Thread 8 Topo.v7x) Set.univ (K.semOf (ownCopy a)) (K.credit a) X := by
  show waitSpec (Dev.tc c : Thread 8 Topo.v7x) Set.univ (.dma (K.semOwn a)) (K.slot c a).view.dmaCredit X = _
  rw [hK.credit_slot]; rfl

/-- A block from another chip is waited for and passed on. -/
theorem wp_pass (x : Fin n × Fin 3) (l : List (Fin n × Fin 3)) (k : PUnit → Prog (TpuEff 8 Topo.v7x sig (Elt F) Λ .tc) α) :
    iprop(known K hK m E κ ∗ preFar K hK m E c x ∗ due c (owedFar K c (x :: l)))
      ⊢ iprop((((credOf K hK m c (leaveFar x) ∗ shut K hK m c (landChip x)) ∗ due c (owedFar K c l)) -∗ wp frame (wpE defs 𝒱 (Dev.tc c : Thread 8 Topo.v7x) none) Set.univ (k ⟨⟩) Q)
          -∗ wp frame (wpE defs 𝒱 (Dev.tc c : Thread 8 Topo.v7x) none) Set.univ (.op (K.waitChip c x) fun _ => .op (K.startFar c x) k) Q) := by
  have hwait : iprop(known K hK m E κ ∗ MayWait (Dev.tc c : Thread 8 Topo.v7x) (K.semOf (landChip x)) () (owedFar K c (x :: l))
        ∗ (credOf K hK m c (landChip x) ∗ posOf K hK m E c (landChip x)) ∗ due c (owedFar K c (x :: l)))
      ⊢ iprop((((newSlot K m c (peer c (nearPeer x.2.succ)) x.1 ∗ shut K hK m c (landChip x)) ∗ due c (owedFar K c (x :: l)))
            -∗ wp frame (wpE defs 𝒱 (Dev.tc c : Thread 8 Topo.v7x) none) Set.univ (.op (K.startFar c x) k) Q)
          -∗ wp frame (wpE defs 𝒱 (Dev.tc c : Thread 8 Topo.v7x) none) Set.univ (.op (K.waitChip c x) fun _ => .op (K.startFar c x) k) Q) :=
    wp_wait_owing K hK m E defs 𝒱 κ c (landChip x) (owedFar K c (x :: l)) (waitChip_eq K hK defs 𝒱 c x) fun _ => .op (K.startFar c x) k
  have hstart := wp_startFar K hK m E defs 𝒱 κ c x l k (Q := Q)
  unfold preFar
  iintro ⟨#Hk, ⟨H1, H2, H3, H4⟩, HO⟩ HQ
  iapply hwait $$ [H1 HO]
  · isplitr
    · iexact Hk
    isplitr
    · unfold known; icases Hk with ⟨-, #Hl⟩; iapply (may_wait K hK c x (x :: l)); iexact Hl
    isplitl [H1]
    · iexact H1
    · iexact HO
  iintro ⟨⟨Hn, Hz⟩, HO⟩
  iapply hstart $$ [Hn H2 H3 H4 HO]
  · isplitr; · iexact Hk
    isplitr [HO]
    · isplitl [Hn]; · iexact Hn
      isplitl [H2]; · iexact H2
      isplitl [H3] <;> iassumption
    · iexact HO
  iintro ⟨Hcr, HO⟩
  iapply HQ
  isplitl [Hcr Hz]
  · isplitl [Hcr]
    · iexact Hcr
    · iexact Hz
  · iexact HO

/-- A list of parts of a program, one after the other: `Pre` is used up and `Post` made at each, `St` is what is
    threaded through. -/
theorem wp_parts {ι : Type} [DecidableEq ι] (e : ι → Prog (TpuEff 8 Topo.v7x sig (Elt F) Λ .tc) α → Prog (TpuEff 8 Topo.v7x sig (Elt F) Λ .tc) α)
    (R : sProp (MT 8 Topo.v7x sig Unit (Elt F) ℕ U ℕ)) [BI.Persistent R]
    (Pre Post : ι → sProp (MT 8 Topo.v7x sig Unit (Elt F) ℕ U ℕ)) (St : List ι → sProp (MT 8 Topo.v7x sig Unit (Elt F) ℕ U ℕ))
    (step : ∀ a l (rest : Prog (TpuEff 8 Topo.v7x sig (Elt F) Λ .tc) α), iprop(R ∗ Pre a ∗ St (a :: l))
      ⊢ iprop(((Post a ∗ St l) -∗ wp frame (wpE defs 𝒱 (Dev.tc c : Thread 8 Topo.v7x) none) Set.univ rest Q)
          -∗ wp frame (wpE defs 𝒱 (Dev.tc c : Thread 8 Topo.v7x) none) Set.univ (e a rest) Q))
    (rest : Prog (TpuEff 8 Topo.v7x sig (Elt F) Λ .tc) α) (l : List ι) (hl : l.Nodup) :
    iprop(R ∗ bigSep l.toFinset Pre ∗ St l)
      ⊢ iprop(((bigSep l.toFinset Post ∗ St []) -∗ wp frame (wpE defs 𝒱 (Dev.tc c : Thread 8 Topo.v7x) none) Set.univ rest Q)
          -∗ wp frame (wpE defs 𝒱 (Dev.tc c : Thread 8 Topo.v7x) none) Set.univ (l.foldr e rest) Q) := by
  induction l with
  | nil =>
    rw [List.toFinset_nil, bigSep_empty, bigSep_empty, List.foldr_nil]
    iintro ⟨-, -, HS⟩ HQ
    iapply HQ
    isplitr
    · iempintro
    · iexact HS
  | cons a l ih =>
    obtain ⟨ha, hl⟩ := List.nodup_cons.mp hl
    have hd : Disjoint ({a} : Finset ι) l.toFinset := Finset.disjoint_singleton_left.mpr fun h => ha (List.mem_toFinset.mp h)
    have hb : ∀ Φ : ι → sProp (MT 8 Topo.v7x sig Unit (Elt F) ℕ U ℕ), bigSep (a :: l).toFinset Φ = iprop(Φ a ∗ bigSep l.toFinset Φ) := fun Φ => by
      rw [List.toFinset_cons, ← Finset.singleton_union, bigSep_union hd, bigSep_singleton]
      rfl
    rw [hb, hb, List.foldr_cons]
    iintro ⟨#HR, ⟨H1, H2⟩, HS⟩ HQ
    iapply (step a l (l.foldr e rest)) $$ [H1 HS]
    · isplitr; · iexact HR
      isplitl [H1] <;> iassumption
    iintro ⟨H1, HS⟩
    iapply (ih hl) $$ [H2 HS]
    · isplitr; · iexact HR
      isplitl [H2] <;> iassumption
    iintro ⟨H2, HS⟩
    iapply HQ
    isplitr [HS]
    · isplitl [H1] <;> iassumption
    · iexact HS

/-- What one needs to wait on a cell. -/
def wantOf (i : CellIx n) : sProp 𝕄 := iprop(credOf K hK m c i ∗ posOf K hK m E c i)
/-- What the wait gives. -/
def gotOf (i : CellIx n) : sProp 𝕄 := iprop(handed K m c i ∗ shut K hK m c i)

/-- Waits of a device that owes nothing, one after the other. -/
theorem wp_waits {ι : Type} [DecidableEq ι] (e : ι → Kit.Op sig Λ F) (cell : ι → CellIx n)
    (hw : ∀ x (X : PUnit → sProp 𝕄), wpE defs 𝒱 (Dev.tc c : Thread 8 Topo.v7x) none Set.univ (e x) X
      = waitSpec (Dev.tc c : Thread 8 Topo.v7x) Set.univ (K.semOf (cell x)) (K.credit (arrayOf (cell x))) X)
    (l : List ι) (hl : l.Nodup) {Q : PUnit → sProp (MT 8 Topo.v7x sig Unit (Elt F) ℕ U ℕ)} (rest : Prog (TpuEff 8 Topo.v7x sig (Elt F) Λ .tc) PUnit) :
    iprop(known K hK m E κ ∗ (bigSep l.toFinset fun x => wantOf K hK m E c (cell x)) ∗ due c 0)
      ⊢ iprop((((bigSep l.toFinset fun x => gotOf K hK m c (cell x)) ∗ due c 0) -∗ wp frame (wpE defs 𝒱 (Dev.tc c : Thread 8 Topo.v7x) none) Set.univ rest Q)
          -∗ wp frame (wpE defs 𝒱 (Dev.tc c : Thread 8 Topo.v7x) none) Set.univ (Kit.run e l rest) Q) :=
  wp_parts defs 𝒱 c (fun x k => .op (e x) fun _ => k) (known K hK m E κ) (fun x => wantOf K hK m E c (cell x)) (fun x => gotOf K hK m c (cell x))
    (fun _ => due c 0) (fun x _ rest => by
      have h := wp_wait K hK m E defs 𝒱 κ c (cell x) (w := e x) (hw x) (fun _ => rest) (Q := Q)
      unfold wantOf gotOf
      iintro ⟨#Hk, H1, H2⟩ HQ
      iapply h $$ [H1 H2]
      · isplitl [H2]
        · isplitr
          · iexact Hk
          · iexact H2
        · iexact H1
      iintro H1 H2
      iapply HQ
      isplitl [H1] <;> iassumption) rest l hl

/-- What the body needs besides the record and the debts. -/
def ready : sProp 𝕄 :=
  iprop((bigSep Finset.univ fun a : Fin n => preOwn K hK m E c a) ∗ (bigSep Finset.univ fun x : Fin n × Fin 4 => preNear K hK m E c x)
    ∗ (bigSep Finset.univ fun x : Fin n × Fin 3 => preFar K hK m E c x) ∗ (bigSep Finset.univ fun x : Fin n × Fin 4 => wantOf K hK m E c (landRest x))
    ∗ (bigSep Finset.univ fun x : Fin n × Fin 4 => posOf K hK m E c (leaveNear x)) ∗ (bigSep Finset.univ fun x : Fin n × Fin 3 => posOf K hK m E c (leaveFar x))
    ∗ bigSep Finset.univ fun a : Fin n => posOf K hK m E c (ownCopy a))
/-- What it leaves. -/
def done : sProp 𝕄 :=
  iprop((bigSep Finset.univ fun x : Fin n × Fin 4 => gotOf K hK m c (landRest x)) ∗ (bigSep Finset.univ fun x : Fin n × Fin 3 => shut K hK m c (landChip x))
    ∗ (bigSep Finset.univ fun x : Fin n × Fin 4 => gotOf K hK m c (leaveNear x)) ∗ (bigSep Finset.univ fun x : Fin n × Fin 3 => gotOf K hK m c (leaveFar x))
    ∗ bigSep Finset.univ fun a : Fin n => gotOf K hK m c (ownCopy a))

theorem owed_nil : owed K c [] = owedFar K c K.trips := by
  unfold owed
  rw [List.map_nil, List.sum_nil, zero_add]

/-- The whole body. -/
theorem wp_body :
    iprop(known K hK m E κ ∗ ready K hK m E c ∗ due c (owed K c K.quads))
      ⊢ wp frame (wpE defs 𝒱 (Dev.tc c : Thread 8 Topo.v7x) none) Set.univ (K.body c) (fun _ => iprop(done K hK m c ∗ due c 0)) := by
  have h1 := fun rest => wp_parts defs 𝒱 c (fun a k => .op (K.startOwn c a) fun _ => k) (known K hK m E κ) (preOwn K hK m E c) (fun a => credOf K hK m c (ownCopy a))
    (fun _ => iprop(emp)) (Q := fun _ : PUnit => iprop(done K hK m c ∗ due c 0)) (fun a _ rest => by
      have h := wp_startOwn K hK m E defs 𝒱 κ c a (fun _ => rest) (Q := fun _ : PUnit => iprop(done K hK m c ∗ due c 0))
      iintro ⟨#Hk, H, -⟩ HQ
      iapply h $$ [H]
      · isplitr
        · iexact Hk
        · iexact H
      iintro H
      iapply HQ
      isplitl
      · iexact H
      · iempintro) rest K.arrays hK.arrays_nodup
  have h2 := fun rest => wp_parts defs 𝒱 c (fun x k => .op (K.startNear c x) fun _ => k) (known K hK m E κ) (preNear K hK m E c) (fun x => credOf K hK m c (leaveNear x))
    (fun l => due c (owed K c l)) (Q := fun _ : PUnit => iprop(done K hK m c ∗ due c 0))
    (fun x l rest => wp_startNear K hK m E defs 𝒱 κ c x l fun _ => rest) rest K.quads hK.quads_nodup
  have h3 := fun rest => wp_parts defs 𝒱 c (fun x k => .op (K.waitChip c x) fun _ => .op (K.startFar c x) fun _ => k) (known K hK m E κ) (preFar K hK m E c)
    (fun x => iprop(credOf K hK m c (leaveFar x) ∗ shut K hK m c (landChip x)))
    (fun l => due c (owedFar K c l)) (Q := fun _ : PUnit => iprop(done K hK m c ∗ due c 0))
    (fun x l rest => wp_pass K hK m E defs 𝒱 κ c x l fun _ => rest) rest K.trips hK.trips_nodup
  have h4 := fun rest => wp_waits K hK m E defs 𝒱 κ c (K.waitRest c) landRest (waitRest_eq K hK defs 𝒱 c) K.quads hK.quads_nodup (Q := fun _ : PUnit => iprop(done K hK m c ∗ due c 0)) rest
  have h5 := fun rest => wp_waits K hK m E defs 𝒱 κ c (K.waitNear c) leaveNear (waitNear_eq K hK defs 𝒱 c) K.quads hK.quads_nodup (Q := fun _ : PUnit => iprop(done K hK m c ∗ due c 0)) rest
  have h6 := fun rest => wp_waits K hK m E defs 𝒱 κ c (K.waitFar c) leaveFar (waitFar_eq K hK defs 𝒱 c) K.trips hK.trips_nodup (Q := fun _ : PUnit => iprop(done K hK m c ∗ due c 0)) rest
  have h7 := fun rest => wp_waits K hK m E defs 𝒱 κ c (K.waitOwn c) ownCopy (waitOwn_eq K hK defs 𝒱 c) K.arrays hK.arrays_nodup (Q := fun _ : PUnit => iprop(done K hK m c ∗ due c 0)) rest
  rw [hK.arrays_all] at h1 h7
  rw [hK.quads_all] at h2 h4 h5
  rw [hK.trips_all] at h3 h6
  rw [owed_nil] at h2
  unfold Kit.body ready
  iintro ⟨#Hk, ⟨Hown, Hnear, Hfar, Hrest, P1, P2, P3⟩, HO⟩
  iapply (h1 _) $$ [Hown]
  · isplitr; · iexact Hk
    isplitl
    · iexact Hown
    · iempintro
  iintro ⟨C3, -⟩
  iapply (h2 _) $$ [Hnear HO]
  · isplitr; · iexact Hk
    isplitl [Hnear] <;> iassumption
  iintro ⟨C1, HO⟩
  iapply (h3 _) $$ [Hfar HO]
  · isplitr; · iexact Hk
    isplitl [Hfar] <;> iassumption
  iintro ⟨HC, HO⟩
  ihave HC' := Entails.of_eq (bigSep_sep' Finset.univ (fun x : Fin n × Fin 3 => credOf K hK m c (leaveFar x)) (fun x => shut K hK m c (landChip x))) $$ HC
  icases HC' with ⟨C2, G0⟩
  iapply (h4 _) $$ [Hrest HO]
  · isplitr; · iexact Hk
    isplitl [Hrest]
    · iexact Hrest
    · iexact HO
  iintro ⟨G1, HO⟩
  iapply (h5 _) $$ [C1 P1 HO]
  · isplitr; · iexact Hk
    isplitr [HO]
    · iapply (Entails.of_eq (bigSep_sep' Finset.univ (fun x : Fin n × Fin 4 => credOf K hK m c (leaveNear x)) (fun x => posOf K hK m E c (leaveNear x))).symm)
      isplitl [C1] <;> iassumption
    · iexact HO
  iintro ⟨G2, HO⟩
  iapply (h6 _) $$ [C2 P2 HO]
  · isplitr; · iexact Hk
    isplitr [HO]
    · iapply (Entails.of_eq (bigSep_sep' Finset.univ (fun x : Fin n × Fin 3 => credOf K hK m c (leaveFar x)) (fun x => posOf K hK m E c (leaveFar x))).symm)
      isplitl [C2] <;> iassumption
    · iexact HO
  iintro ⟨G3, HO⟩
  iapply (h7 _) $$ [C3 P3 HO]
  · isplitr; · iexact Hk
    isplitr [HO]
    · iapply (Entails.of_eq (bigSep_sep' Finset.univ (fun a : Fin n => credOf K hK m c (ownCopy a)) (fun a => posOf K hK m E c (ownCopy a))).symm)
      isplitl [C3] <;> iassumption
    · iexact HO
  iintro ⟨G4, HO⟩
  rw [wp_ret]
  imodintro
  unfold done
  isplitr [HO]
  · isplitl [G1]; · iexact G1
    isplitl [G0]; · iexact G0
    isplitl [G2]; · iexact G2
    isplitl [G3] <;> iassumption
  · iexact HO

end Body

end Cert.Gather

end
-- ==== Proof.GatherCall.lean ====
/-
  The call of a gather kernel: a kernel of one point and without windows, entered from a device's program. The body's
  run becomes the call's, and the semaphores found at zero are found at zero again.
-/
module

public import proofs.«01_k».proof.Proof.GatherBody

@[expose] public section

set_option Elab.async false

noncomputable section

namespace Cert.Gather

open Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg)

variable {sig : RefSig} {n : ℕ} (K : Kit sig n) (hK : K.Laws)
variable {F : FTy → Type} [FloatOps F] {U : Type} [URA U]

local notation "𝕄" => MT 8 Topo.v7x sig Unit (Elt F) ℕ U ℕ

/-- The semaphores of device `c` that the gather does not use, at zero. -/
def others (c : Fin 8) : sProp 𝕄 :=
  bigSep (scopedCells sig (Dev.tc c : Thread 8 Topo.v7x) \ Finset.univ.image fun i : CellIx n => ((Dev.tc c : Thread 8 Topo.v7x), K.semOf i)) fun g => semVal g 0

/-- Of a device's semaphores at zero, the ones a one-to-one table names and the rest. -/
theorem zeros_split {J : Type} [Fintype J] (S : Finset (GSem 8 Topo.v7x sig)) (f : J → GSem 8 Topo.v7x sig) (hf : Function.Injective f)
    (hs : ∀ j, f j ∈ S) :
    (bigSep S fun g => (semVal g 0 : sProp 𝕄))
      = iprop((bigSep Finset.univ fun j => semVal (f j) 0) ∗ bigSep (S \ Finset.univ.image f) fun g => semVal g 0) := by
  have h : Finset.univ.image f = Finset.univ.map ⟨f, hf⟩ := by ext x; simp
  rw [h, bigSep_sdiff_split (t := Finset.univ.map ⟨f, hf⟩) fun x hx => by obtain ⟨j, -, rfl⟩ := Finset.mem_map.mp hx; exact hs j,
    bigSep_map]
  rfl

section Point

variable {Λ₀ : Labels} (g : Pipeline.Grid) (w : Fin 0 → Pipeline.Window sig g) (b : Λ₀.Label)
variable (ba : Fin g.N → ((i : Fin 0) → Fin (w i).nbuf) → Λ₀.Args b)

/-- A kernel without windows. -/
abbrev bareCfg : Cfg sig Λ₀ := { grid := g, W := 0, win := w, body := b, bodyArgs := ba }

/-- The program's only kernel. -/
abbrev bare : Fin 1 → PCfg sig Λ₀ (Elt F) := fun _ => (bareCfg g w b ba).toPCfg

/-- The kernel's choices of prefetched tables: there are none. -/
abbrev bareAdm : (q : Fin 1) → (bare (F := F) g w b ba q).Adm := fun _ => (bareCfg g w b ba).toPCfg_adm

variable (X Y : Fin 8 → sProp (MT 8 Topo.v7x sig Unit (Elt F) ℕ U ℕ)) (O : Fin 8 → CellTallies 8 Topo.v7x sig Unit)

/-- A kernel of one point: `X` before the body and `Y` after it, `O` owed before and nothing after. -/
def data (p : Fin 1) (c : Fin 8) : Dat Topo.v7x (Elt F) Unit ℕ U ℕ (Pipeline.pin (bare (F := F) g w b ba) (bareAdm (F := F) g w b ba) p) c where
  A := fun i => i.elim0
  after := fun i => i.elim0
  q := fun i => i.elim0
  Φ := fun t => if t.val = 0 then iprop(X c ∗ scopedBufs (Dev.tc c : Thread 8 Topo.v7x)) else iprop(Y c ∗ scopedBufs (Dev.tc c : Thread 8 Topo.v7x))
  owed := fun t => if t.val = 0 then O c else 0

theorem data_first (c : Fin 8) (t : Fin (g.N + 1)) (ht : t.val = 0) :
    (data g w b ba X Y O 0 c).Φ t = iprop(X c ∗ scopedBufs (Dev.tc c : Thread 8 Topo.v7x)) ∧ (data g w b ba X Y O 0 c).owed t = O c :=
  ⟨if_pos (c := t.val = 0) ht, if_pos (c := t.val = 0) ht⟩
theorem data_last (c : Fin 8) (t : Fin (g.N + 1)) (ht : t.val ≠ 0) :
    (data g w b ba X Y O 0 c).Φ t = iprop(Y c ∗ scopedBufs (Dev.tc c : Thread 8 Topo.v7x)) ∧ (data g w b ba X Y O 0 c).owed t = 0 :=
  ⟨if_neg (c := t.val = 0) ht, if_neg (c := t.val = 0) ht⟩

variable (hN : g.N = 1) (defs₀ : Defs 8 Topo.v7x sig (Elt F) Λ₀)
variable (c : Fin 8)

include hN in
set_option maxRecDepth 100000 in
theorem data_body (hb : ∀ t s (Q : sProp (MT 8 Topo.v7x sig Unit (Elt F) ℕ U ℕ)), wp frame (wpE defs₀ Variants.none (Dev.tc c : Thread 8 Topo.v7x) none) Set.univ (K.body c) (fun _ => Q)
      ⊢ wp frame (wpE defs₀ Variants.none (Dev.tc c : Thread 8 Topo.v7x) none) Set.univ (defs₀ .tc b (ba t s)) (fun _ => Q))
    (hX : iprop(X c ∗ due c (O c)) ⊢ wp frame (wpE defs₀ Variants.none (Dev.tc c : Thread 8 Topo.v7x) none) Set.univ (K.body c) (fun _ => iprop(Y c ∗ due c 0))) :
    Pipeline.BodyObligationLoose (data g w b ba X Y O 0 c) defs₀ Variants.none () Set.univ := by
  intro t
  have ht : t.val = 0 := by
    have h : t.val < g.N := t.isLt
    omega
  unfold Pipeline.Dat.owesAt Pipeline.owesWithin
  have ha := data_first g w b ba X Y O c (Fin.castSucc t) ht
  have hz := data_last g w b ba X Y O c (Fin.succ t) (Nat.succ_ne_zero t.val)
  have s0 : ∀ W, (owes (Dev.tc c : Thread 8 Topo.v7x) ((data g w b ba X Y O 0 c).owed (Fin.castSucc t)) W : sProp 𝕄) ⊢ owes (Dev.tc c : Thread 8 Topo.v7x) (O c) W :=
    fun W => Entails.of_eq (congrArg (fun o => owes (Dev.tc c : Thread 8 Topo.v7x) o W) ha.2)
  have s1 : ∀ W, (owes (Dev.tc c : Thread 8 Topo.v7x) 0 W : sProp 𝕄) ⊢ owes (Dev.tc c : Thread 8 Topo.v7x) ((data g w b ba X Y O 0 c).owed (Fin.succ t)) W :=
    fun W => Entails.of_eq (congrArg (fun o => owes (Dev.tc c : Thread 8 Topo.v7x) o W) hz.2.symm)
  iintro ⟨HΦ, ⟨%W, -, HO⟩, -⟩
  ihave H := (Entails.of_eq ha.1) $$ HΦ
  icases H with ⟨Hr, Hb⟩
  ihave HO := (s0 W) $$ HO
  iapply (wp_wand frame (wpE defs₀ Variants.none (Dev.tc c : Thread 8 Topo.v7x) none) Set.univ) $$ [Hr HO]
  · iapply (hX.trans (hb t _ _))
    isplitl [Hr]; · iexact Hr
    unfold due; iexists W; iexact HO
  iintro %_ ⟨Hd, HO⟩
  unfold due
  icases HO with ⟨%W', HO⟩
  isplitl [Hd Hb]
  · iapply (Entails.of_eq hz.1.symm)
    isplitl [Hd] <;> iassumption
  isplitl [HO]
  · iexists W'
    isplitr
    · ipureintro; exact fun x _ => Or.inl trivial
    iapply (s1 W')
    iexact HO
  · iempintro

variable (E : Emb (URounds (GSem 8 Topo.v7x sig) Unit) (MT 8 Topo.v7x sig Unit (Elt F) ℕ U ℕ))

/-- What the call asks for besides: the debts. -/
theorem enter : due c (O c) ⊢ (Pipeline.EntryPre (Pipeline.pin (bare (F := F) g w b ba) (bareAdm (F := F) g w b ba)) (data g w b ba X Y O) () E (fun _ => 0) 0 c : sProp 𝕄) := by
  unfold Pipeline.EntryPre Pipeline.PerCore.EntryPre Pipeline.Dat.owesAt Pipeline.owesWithin Pipeline.Dat.arrays
    Pipeline.PerCore.cellsWaits Pipeline.PerCore.cellsInit Pipeline.PerCore.toksInit due
  iintro ⟨%W, H⟩
  isplitr
  · iempintro
  isplitl [H]
  · iexists W
    isplitr
    · ipureintro; exact fun x _ => Or.inl trivial
    iexact H
  isplitr
  · iempintro
  isplitr
  · iempintro
  · iempintro

include hN in
/-- What the call hands back besides: nothing owed. -/
theorem leave : (Pipeline.EntryPost (Pipeline.pin (bare (F := F) g w b ba) (bareAdm (F := F) g w b ba)) (data g w b ba X Y O) () 0 c : sProp 𝕄) ⊢ due c 0 := by
  unfold Pipeline.EntryPost Pipeline.PerCore.EntryPost Pipeline.Dat.owesAt Pipeline.owesWithin due
  have hz := data_last g w b ba X Y O c (Fin.last g.N) (by
    show g.N ≠ 0
    omega)
  have s1 : ∀ W, (owes (Dev.tc c : Thread 8 Topo.v7x) ((data g w b ba X Y O 0 c).owed (Fin.last (bareCfg g w b ba).N)) W : sProp 𝕄) ⊢ owes (Dev.tc c : Thread 8 Topo.v7x) 0 W :=
    fun W => Entails.of_eq (congrArg (fun o => owes (Dev.tc c : Thread 8 Topo.v7x) o W) hz.2)
  iintro ⟨-, ⟨%W, -, H⟩⟩
  iexists W
  iapply (s1 W)
  iexact H

include hN E in
set_option maxRecDepth 100000 in
/-- The call: `X` and the debts become `Y'` and nothing owed, `I` being what of the device's scoped semaphores lies
    outside the protocol. -/
theorem wp_bare (hinj : Function.Injective (Pipeline.cellOf (nD := 8) (τ := Topo.v7x) fun _ : Fin 1 => bareCfg g w b ba))
    (hb : ∀ t s (Q : sProp (MT 8 Topo.v7x sig Unit (Elt F) ℕ U ℕ)), wp frame (wpE defs₀ Variants.none (Dev.tc c : Thread 8 Topo.v7x) none) Set.univ (K.body c) (fun _ => Q)
      ⊢ wp frame (wpE defs₀ Variants.none (Dev.tc c : Thread 8 Topo.v7x) none) Set.univ (defs₀ .tc b (ba t s)) (fun _ => Q))
    (hX : ∀ c, iprop(X c ∗ due c (O c)) ⊢ wp frame (wpE defs₀ Variants.none (Dev.tc c : Thread 8 Topo.v7x) none) Set.univ (K.body c) (fun _ => iprop(Y c ∗ due c 0)))
    {I Y' : sProp (MT 8 Topo.v7x sig Unit (Elt F) ℕ U ℕ)} (hY : iprop(Y c ∗ I) ⊢ iprop(Y' ∗ scopedSems0 (Dev.tc c : Thread 8 Topo.v7x)))
    {α : Type} {Q : α → sProp (MT 8 Topo.v7x sig Unit (Elt F) ℕ U ℕ)}
    (k : PUnit → Prog (TpuEff 8 Topo.v7x sig (Elt F) (Pipeline.Sig Λ₀ (Fin 1) fun p => (bare (F := F) g w b ba p).Adm) .tc) α) :
    iprop(X c ∗ due c (O c) ∗ I ∗ scopedBufs (Dev.tc c : Thread 8 Topo.v7x))
      ⊢ iprop(((Y' ∗ due c 0 ∗ scopedSems0 (Dev.tc c : Thread 8 Topo.v7x) ∗ scopedBufs (Dev.tc c : Thread 8 Topo.v7x))
            -∗ wp frame (wpE (Pipeline.defs (bare (F := F) g w b ba) defs₀) (Variants.lift Variants.none) (Dev.tc c : Thread 8 Topo.v7x) none) Set.univ (k ⟨⟩) Q)
          -∗ wp frame (wpE (Pipeline.defs (bare (F := F) g w b ba) defs₀) (Variants.lift Variants.none) (Dev.tc c : Thread 8 Topo.v7x) none) Set.univ
              (.op (.customCall (Pipeline.entry 0) ()) k) Q) := by
  have hw := Pipeline.wp_customCall_entry_frame (bare (F := F) g w b ba) (bareAdm (F := F) g w b ba) (data g w b ba X Y O) () E (fun _ => 0) hinj 0
    defs₀ Variants.none (fun _ => fullShare) c Set.univ (fun _ _ => Set.mem_univ _) (data_body K g w b ba X Y O hN defs₀ c hb (hX c)) (fun i => i.elim0) none
    (fun u h => nomatch h)
    (X := X c) (Y := Y') (R := scopedBufs (Dev.tc c : Thread 8 Topo.v7x)) (I := I) (by
      iintro H
      isplitr
      · unfold Pipeline.Dat.staging; iempintro
      · iexact H)
    (by
      show _ ⊢ iprop(X c ∗ scopedBufs (Dev.tc c : Thread 8 Topo.v7x))
      iintro ⟨H1, -, H3⟩
      isplitl [H1] <;> iassumption)
    (by
      have hz := data_last g w b ba X Y O c (Fin.last g.N) (by
        show g.N ≠ 0
        omega)
      iintro ⟨HΦ, -, -, Ho⟩
      ihave H := (Entails.of_eq hz.1) $$ HΦ
      icases H with ⟨H1, Hb⟩
      ihave H := hY $$ [H1 Ho]
      · isplitl [H1] <;> iassumption
      icases H with ⟨H1, H2⟩
      isplitl [H1]; · iexact H1
      isplitl [H2] <;> iassumption)
    (k := k) (Q := Q)
  iintro ⟨H1, H2, H3, H4⟩ Hk
  iapply hw $$ [H1 H2 H3 H4]
  · isplitl [H2]
    · iapply (enter g w b ba X Y O c E); iexact H2
    isplitr
    · unfold Pipeline.prefHeld; iempintro
    isplitl [H1]; · iexact H1
    isplitl [H3] <;> iassumption
  iintro ⟨Hp, Hr, Hs, Hb⟩
  iapply Hk
  isplitl [Hr]; · iexact Hr
  isplitl [Hp]
  · iapply (leave g w b ba X Y O hN c); iexact Hp
  isplitl [Hs] <;> iassumption

end Point

end Cert.Gather

end
-- ==== Proof.GatherDeal.lean ====
/-
  How the machine's start is dealt to the devices of a gather: each device gets its own block in five shares, and for
  every block it will send or pass on the slot on the receiver and the tokens of both ends.
-/
module

public import proofs.«01_k».proof.Proof.GatherSums
public import proofs.«01_k».proof.Proof.GatherCall
public import proofs.«01_k».proof.Proof.Launch

@[expose] public section

set_option Elab.async false

noncomputable section

namespace Cert.Gather

open Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred)

variable {sig : RefSig} {n : ℕ} (K : Kit sig n) (hK : K.Laws)
variable {F : FTy → Type} [FloatOps F] {U : Type} [URA U]

local notation "𝕄" => MT 8 Topo.v7x sig Unit (Elt F) ℕ U ℕ

variable (m : (ℓ : Loc 8 Topo.v7x sig) → Buf (Elt F) ℓ)
variable (E : Emb (URounds (GSem 8 Topo.v7x sig) Unit) (MT 8 Topo.v7x sig Unit (Elt F) ℕ U ℕ))

/-- Device `c`'s own block, whole. -/
def srcWhole (c : Fin 8) (a : Fin n) : sProp 𝕄 :=
  (K.src a).view.loc (Dev.tc c : Thread 8 Topo.v7x) ↦[(K.src a).view.set]{fullShare} m _

/-- Device `c`'s own blocks, one share of each for the copy and four for the first transfers. -/
theorem src_deal (c : Fin 8) : (bigSep Finset.univ fun a : Fin n => (srcWhole K m c a : sProp 𝕄))
    = iprop((bigSep Finset.univ fun a : Fin n => srcShare K m c a 0) ∗ bigSep Finset.univ fun x : Fin n × Fin 4 => srcShare K m c x.1 x.2.succ) := by
  rw [← split_first fun x : Fin n × Fin 5 => srcShare K m c x.1 x.2, bigSep_univ_prod]
  exact bigSep_congr fun a _ => Transfers.pointsTo_deal Finset.univ Finset.univ_nonempty fullShare

include hK in
/-- What the devices owe one device is the credit for its landings. -/
theorem cred_deal (c : Fin 8) : (launchCred (fun d : Dev 8 => owed K d K.quads) c : sProp 𝕄)
    ⊢ iprop((bigSep Finset.univ fun x : Fin n × Fin 4 => credOf K hK m c (landRest x)) ∗ bigSep Finset.univ fun x : Fin n × Fin 3 => credOf K hK m c (landChip x)) := by
  have h : (fun d : Dev 8 => owed K d K.quads)
      = fun d : Dev 8 => (∑ x : Fin n × Fin 4, tallyAt ((Dev.tc (peer d (nearPeer x.2)) : Thread 8 Topo.v7x), K.semOf (landNear x)) () (K.credit x.1))
        + ∑ x : Fin n × Fin 3, tallyAt ((Dev.tc (peer d 0) : Thread 8 Topo.v7x), K.semOf (landFar x)) () (K.credit x.1) := by
    funext d
    rw [← hK.quads_all, ← hK.trips_all, List.sum_toFinset _ hK.quads_nodup, List.sum_toFinset _ hK.trips_nodup]
    rfl
  rw [h, Pipeline.launchCred_add, Pipeline.launchCred_sum, Pipeline.launchCred_sum, ← by_rest fun i => credOf K hK m c i]
  exact BI.sep_mono
    (bigSep_mono fun x _ => Pipeline.launchCred_tallyAt (K.semOf (landNear x)) (fun d => peer d (nearPeer x.2)) (fun d => peer d (nearPeer x.2))
      (fun d => peer_peer d _) (fun d => peer_peer d _) () (K.credit x.1) c)
    (bigSep_mono fun x _ => Pipeline.launchCred_tallyAt (K.semOf (landFar x)) (fun d => peer d 0) (fun d => peer d 0)
      (fun d => peer_peer d _) (fun d => peer_peer d _) () (K.credit x.1) c)

/-- What a device starts its program with. -/
def launched (c : Fin 8) : sProp 𝕄 :=
  iprop((∃ κ, known K hK m E κ) ∗ ready K hK m E c ∗ due c (owed K c K.quads) ∗ others K c
    ∗ scopedBufs (Dev.tc c : Thread 8 Topo.v7x) ∗ opIdle (Dev.tc c : Thread 8 Topo.v7x))

/-- A device's own blocks. -/
def arraysAt (c : Fin 8) : sProp 𝕄 := bigSep Finset.univ fun a : Fin n => srcWhole K m c a
/-- A device's results, as they were at the start. -/
def emptyAt (c : Fin 8) : sProp 𝕄 := bigSep Finset.univ fun a : Fin n => bigSep Finset.univ fun s => oldSlot K m c s a
/-- A device's results, as they are in the end. -/
def filledAt (c : Fin 8) : sProp 𝕄 := bigSep Finset.univ fun a : Fin n => bigSep Finset.univ fun s => newSlot K m c s a

theorem due_of_owes (c : Fin 8) (O : CellTallies 8 Topo.v7x sig Unit) : (owes (Dev.tc c : Thread 8 Topo.v7x) O ∅ : sProp 𝕄) ⊢ due c O := by
  unfold due
  iintro H
  iexists ∅
  iexact H

theorem due_all : (bigSep Finset.univ fun c : Fin 8 => (owes (Dev.tc c : Thread 8 Topo.v7x) (owed K c K.quads) ∅ : sProp 𝕄))
    ⊢ bigSep Finset.univ fun c : Fin 8 => due c (owed K c K.quads) := bigSep_mono fun c _ => due_of_owes c _

theorem cred_all : (bigSep Finset.univ fun c : Fin 8 => (launchCred (fun d : Dev 8 => owed K d K.quads) c : sProp 𝕄))
    ⊢ iprop((bigSep Finset.univ fun c : Fin 8 => bigSep Finset.univ fun x : Fin n × Fin 4 => credOf K hK m c (landRest x))
      ∗ bigSep Finset.univ fun c : Fin 8 => bigSep Finset.univ fun x : Fin n × Fin 3 => credOf K hK m c (landChip x)) := by
  rw [← bigSep_sep']
  exact bigSep_mono fun c _ => cred_deal K hK m c

/-- What every device starts with, kind by kind. -/
theorem launched_all : (bigSep Finset.univ (launched K hK m E) : sProp 𝕄) = iprop(
    (bigSep Finset.univ fun _ : Fin 8 => iprop(∃ κ, known K hK m E κ))
    ∗ (((bigSep Finset.univ fun c : Fin 8 => bigSep Finset.univ fun a : Fin n => srcShare K m c a 0)
        ∗ (bigSep Finset.univ fun c : Fin 8 => bigSep Finset.univ fun a : Fin n => oldSlot K m c c a)
        ∗ (bigSep Finset.univ fun c : Fin 8 => bigSep Finset.univ fun a : Fin n => tok K hK m E c (ownCopy a)))
      ∗ ((bigSep Finset.univ fun c : Fin 8 => bigSep Finset.univ fun x : Fin n × Fin 4 => srcShare K m c x.1 x.2.succ)
        ∗ (bigSep Finset.univ fun c : Fin 8 => bigSep Finset.univ fun x : Fin n × Fin 4 => oldSlot K m (peer c (nearPeer x.2)) c x.1)
        ∗ (bigSep Finset.univ fun c : Fin 8 => bigSep Finset.univ fun x : Fin n × Fin 4 => tok K hK m E c (leaveNear x))
        ∗ (bigSep Finset.univ fun c : Fin 8 => bigSep Finset.univ fun x : Fin n × Fin 4 => tok K hK m E (peer c (nearPeer x.2)) (landNear x)))
      ∗ (((bigSep Finset.univ fun c : Fin 8 => bigSep Finset.univ fun x : Fin n × Fin 3 => credOf K hK m c (landChip x))
          ∗ (bigSep Finset.univ fun c : Fin 8 => bigSep Finset.univ fun x : Fin n × Fin 3 => posOf K hK m E c (landChip x)))
        ∗ (bigSep Finset.univ fun c : Fin 8 => bigSep Finset.univ fun x : Fin n × Fin 3 => oldSlot K m (peer c 0) (peer c (nearPeer x.2.succ)) x.1)
        ∗ (bigSep Finset.univ fun c : Fin 8 => bigSep Finset.univ fun x : Fin n × Fin 3 => tok K hK m E c (leaveFar x))
        ∗ (bigSep Finset.univ fun c : Fin 8 => bigSep Finset.univ fun x : Fin n × Fin 3 => tok K hK m E (peer c 0) (landFar x)))
      ∗ ((bigSep Finset.univ fun c : Fin 8 => bigSep Finset.univ fun x : Fin n × Fin 4 => credOf K hK m c (landRest x))
        ∗ (bigSep Finset.univ fun c : Fin 8 => bigSep Finset.univ fun x : Fin n × Fin 4 => posOf K hK m E c (landRest x)))
      ∗ (bigSep Finset.univ fun c : Fin 8 => bigSep Finset.univ fun x : Fin n × Fin 4 => posOf K hK m E c (leaveNear x))
      ∗ (bigSep Finset.univ fun c : Fin 8 => bigSep Finset.univ fun x : Fin n × Fin 3 => posOf K hK m E c (leaveFar x))
      ∗ (bigSep Finset.univ fun c : Fin 8 => bigSep Finset.univ fun a : Fin n => posOf K hK m E c (ownCopy a)))
    ∗ (bigSep Finset.univ fun c : Fin 8 => due c (owed K c K.quads))
    ∗ (bigSep Finset.univ fun c : Fin 8 => others K c)
    ∗ (bigSep Finset.univ fun c : Fin 8 => scopedBufs (Dev.tc c : Thread 8 Topo.v7x))
    ∗ (bigSep Finset.univ fun c : Fin 8 => opIdle (Dev.tc c : Thread 8 Topo.v7x))) := by
  unfold launched ready preOwn preNear preFar wantOf
  simp only [bigSep_sep']

/-- The protocol's record, one for every device. -/
theorem known_all (κ : Fin 8 × CellIx n → ℕ) : (known K hK m E κ : sProp 𝕄) ⊢ bigSep Finset.univ fun _ : Fin 8 => iprop(∃ κ, known K hK m E κ) :=
  BIBase.Entails.trans (BI.bigSep_intro_persistent (S := Finset.univ) fun (_ : Fin 8) _ => BI.Entails.refl _)
    (bigSep_mono fun _ _ => exists_intro (Φ := fun κ => known K hK m E κ) κ)

include hK in
/-- Device `c`'s scoped semaphores: the gather's and the others. -/
theorem sems_split (c : Fin 8) :
    (scopedSems0 (Dev.tc c : Thread 8 Topo.v7x) : sProp 𝕄) = iprop((bigSep Finset.univ fun i : CellIx n => shut K hK m c i) ∗ others K c) :=
  zeros_split _ (fun i : CellIx n => ((Dev.tc c : Thread 8 Topo.v7x), K.semOf i)) (fun _ _ h => hK.sem_inj (Prod.ext_iff.mp h).2)
    fun i => self_mem_scopedCells (hK.sem_scoped i)

/-- The positions, at every device by kind of cell. -/
theorem pos_all : (bigSep Finset.univ fun k : Fin 8 × CellIx n => (posOf K hK m E k.1 k.2 : sProp 𝕄)) = iprop(
    ((bigSep Finset.univ fun c : Fin 8 => bigSep Finset.univ fun x : Fin n × Fin 4 => posOf K hK m E c (landRest x))
      ∗ bigSep Finset.univ fun c : Fin 8 => bigSep Finset.univ fun x : Fin n × Fin 3 => posOf K hK m E c (landChip x))
    ∗ ((bigSep Finset.univ fun c : Fin 8 => bigSep Finset.univ fun x : Fin n × Fin 4 => posOf K hK m E c (leaveNear x))
      ∗ bigSep Finset.univ fun c : Fin 8 => bigSep Finset.univ fun x : Fin n × Fin 3 => posOf K hK m E c (leaveFar x))
    ∗ bigSep Finset.univ fun c : Fin 8 => bigSep Finset.univ fun a : Fin n => posOf K hK m E c (ownCopy a)) := by
  rw [bigSep_univ_prod, bigSep_congr fun c _ => over_cells fun i => posOf K hK m E c i, bigSep_sep', bigSep_sep', bigSep_sep', bigSep_sep']

/-- Every device's own blocks and results, dealt. -/
theorem blocks_all : (iprop(bigSep Finset.univ (arraysAt K m) ∗ bigSep Finset.univ (emptyAt K m)) : sProp 𝕄) = iprop(
    ((bigSep Finset.univ fun c : Fin 8 => bigSep Finset.univ fun a : Fin n => srcShare K m c a 0)
      ∗ bigSep Finset.univ fun c : Fin 8 => bigSep Finset.univ fun x : Fin n × Fin 4 => srcShare K m c x.1 x.2.succ)
    ∗ (bigSep Finset.univ fun c : Fin 8 => bigSep Finset.univ fun a : Fin n => oldSlot K m c c a)
    ∗ (bigSep Finset.univ fun c : Fin 8 => bigSep Finset.univ fun x : Fin n × Fin 4 => oldSlot K m (peer c (nearPeer x.2)) c x.1)
    ∗ bigSep Finset.univ fun c : Fin 8 => bigSep Finset.univ fun x : Fin n × Fin 3 => oldSlot K m (peer c 0) (peer c (nearPeer x.2.succ)) x.1) := by
  unfold arraysAt emptyAt
  rw [by_sender fun c s a => oldSlot K m c s a, bigSep_congr fun c _ => src_deal K m c, bigSep_sep']

theorem leveled_tc : ∀ g : GSem 8 Topo.v7x sig, g.1.2 ≠ Proc.tc → leveled g = ∅ := fun _ hg => if_neg hg

/-- The start is dealt. -/
theorem deal [E.LandsIn (upEmb : UEmb _ 𝕄)] :
    iprop((bigSep Finset.univ fun c : Fin 8 => iprop(boundary (Dev.tc c : Thread 8 Topo.v7x) ∗ (arraysAt K m c ∗ emptyAt K m c)
          ∗ owes (Dev.tc c : Thread 8 Topo.v7x) (owed K c K.quads) ∅ ∗ launchCred (fun d : Dev 8 => owed K d K.quads) c ∗ levels0 c))
        ∗ BI.own (E (plan K hK m : Plan 8 Topo.v7x sig (Elt F) U (CellIx n)).ghost))
      ⊢ |={Set.univ}=> bigSep Finset.univ (launched K hK m E) := by
  have hb : (bigSep Finset.univ fun c : Fin 8 => (boundary (Dev.tc c : Thread 8 Topo.v7x) : sProp 𝕄))
      = iprop((bigSep Finset.univ fun c : Fin 8 => scopedBufs (Dev.tc c : Thread 8 Topo.v7x))
          ∗ ((bigSep Finset.univ fun k : Fin 8 × CellIx n => shut K hK m k.1 k.2) ∗ bigSep Finset.univ fun c : Fin 8 => others K c)
          ∗ bigSep Finset.univ fun c : Fin 8 => opIdle (Dev.tc c : Thread 8 Topo.v7x)) := by
    rw [bigSep_univ_prod, ← bigSep_sep', bigSep_congr (Ψ := fun c : Fin 8 => iprop(scopedBufs (Dev.tc c : Thread 8 Topo.v7x)
        ∗ ((bigSep Finset.univ fun i : CellIx n => shut K hK m c i) ∗ others K c)
        ∗ opIdle (Dev.tc c : Thread 8 Topo.v7x))) fun c _ => ?_]
    · rw [bigSep_sep', bigSep_sep']
    · rw [← sems_split K hK m c]; rfl
  rw [bigSep_sep', bigSep_sep', bigSep_sep', bigSep_sep', bigSep_sep', hb, blocks_all]
  iintro ⟨⟨⟨Hsb, ⟨Hsem, Hoth⟩, Hidle⟩, ⟨⟨Hs0, Hs1⟩, Ho0, Ho1, Ho2⟩, Howes, Hcred, Hlev⟩, Hg⟩
  imod ((plan K hK m : Plan 8 Topo.v7x sig (Elt F) U (CellIx n)).fund E) $$ [Hsem Hg] with ⟨%κ, #Hc, Hpos, Htok⟩
  · isplitl [Hsem]
    · unfold shut; iexact Hsem
    · iexact Hg
  imod (ranks (nD := 8) (τ := Topo.v7x) (sig := sig) (Val := Elt F) (Ix := Unit) (Name := ℕ) (U := U) leveled (level K) leveled_tc) $$ Hlev with #Hl
  imodintro
  ihave Hpos' := Entails.of_eq (pos_all K hK m E) $$ [Hpos]
  · unfold posOf; iexact Hpos
  icases Hpos' with ⟨⟨Hp1, Hp2⟩, ⟨Hp3, Hp4⟩, Hp5⟩
  ihave Htok' := Entails.of_eq (by_token fun k => tok K hK m E k.1 k.2) $$ [Htok]
  · unfold tok; iexact Htok
  icases Htok' with ⟨Ht1, ⟨Ht2, Ht3⟩, Ht4, Ht5⟩
  ihave Hd := due_all K (F := F) (U := U) $$ Howes
  ihave Hcr := cred_all K hK m $$ Hcred
  icases Hcr with ⟨Hc1, Hc2⟩
  iapply (Entails.of_eq (launched_all K hK m E).symm)
  isplitr
  · iapply (known_all K hK m E κ)
    unfold known
    isplitr <;> iassumption
  isplitr [Hd Hoth Hsb Hidle]
  · isplitl [Hs0 Ho0 Ht1]
    · isplitl [Hs0]; · iexact Hs0
      isplitl [Ho0] <;> iassumption
    isplitl [Hs1 Ho1 Ht2 Ht3]
    · isplitl [Hs1]; · iexact Hs1
      isplitl [Ho1]; · iexact Ho1
      isplitl [Ht2] <;> iassumption
    isplitl [Hc2 Hp2 Ho2 Ht4 Ht5]
    · isplitl [Hc2 Hp2]
      · isplitl [Hc2] <;> iassumption
      isplitl [Ho2]; · iexact Ho2
      isplitl [Ht4] <;> iassumption
    isplitl [Hc1 Hp1]
    · isplitl [Hc1] <;> iassumption
    isplitl [Hp3]; · iexact Hp3
    isplitl [Hp4] <;> iassumption
  isplitl [Hd]; · iexact Hd
  isplitl [Hoth]; · iexact Hoth
  isplitl [Hsb]; · iexact Hsb
  iexact Hidle

end Cert.Gather

end
-- ==== Proof.GatherRun.lean ====
/-
  A gather program's run: every device's own blocks end as they began, every slot of its results holds the block of the
  device the slot belongs to, and every semaphore ends at zero.
-/
module

public import proofs.«01_k».proof.Proof.GatherDeal
public import Idealize.ShloMosaic.Lib.Quiescent

@[expose] public section

set_option Elab.async false

noncomputable section

namespace Cert.Gather

open Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred Cfg)

variable {sig : RefSig} {n : ℕ} (K : Kit sig n) (hK : K.Laws)
variable {F : FTy → Type} [FloatOps F] {U : Type} [URA U]

local notation "𝕄" => MT 8 Topo.v7x sig Unit (Elt F) ℕ U ℕ

section Collect

variable (m : (ℓ : Loc 8 Topo.v7x sig) → Buf (Elt F) ℓ)

/-- What the transfers hand a device is its own blocks and its results, whole. -/
theorem collect (c : Fin 8) : (iprop(done K hK m c ∗ others K c) : sProp 𝕄)
    ⊢ iprop((arraysAt K m c ∗ filledAt K m c) ∗ scopedSems0 (Dev.tc c : Thread 8 Topo.v7x)) := by
  have hrest : (bigSep Finset.univ fun x : Fin n × Fin 4 => (handed K m c (landRest x) : sProp 𝕄))
      = iprop((bigSep Finset.univ fun a : Fin n => newSlot K m c (peer c (nearPeer 0)) a)
        ∗ bigSep Finset.univ fun x : Fin n × Fin 3 => newSlot K m c (peer c (farPeer x.2)) x.1) :=
    split_first fun x => handed K m c (landRest x)
  have hnear := split_first fun x : Fin n × Fin 4 => (newSlot K m c (peer c (nearPeer x.2)) x.1 : sProp 𝕄)
  have hown : (bigSep Finset.univ fun a : Fin n => (handed K m c (ownCopy a) : sProp 𝕄))
      = iprop((bigSep Finset.univ fun a : Fin n => newSlot K m c c a) ∗ bigSep Finset.univ fun a : Fin n => srcShare K m c a 0) :=
    bigSep_sep' Finset.univ (fun a : Fin n => newSlot K m c c a) (fun a => srcShare K m c a 0)
  have hleave : (bigSep Finset.univ fun x : Fin n × Fin 4 => (handed K m c (leaveNear x) : sProp 𝕄))
      ⊢ bigSep Finset.univ fun x : Fin n × Fin 4 => srcShare K m c x.1 x.2.succ := Entails.rfl
  have hpass : (bigSep Finset.univ fun x : Fin n × Fin 3 => (handed K m c (leaveFar x) : sProp 𝕄))
      ⊢ bigSep Finset.univ fun x : Fin n × Fin 3 => newSlot K m c (peer c (nearPeer x.2.succ)) x.1 := Entails.rfl
  unfold done gotOf arraysAt filledAt
  rw [bigSep_sep', bigSep_sep', bigSep_sep', bigSep_sep', hrest, hown, src_deal, by_slot (fun s a => newSlot K m c s a) c, hnear,
    sems_split K hK m c, over_cells fun i => shut K hK m c i]
  iintro ⟨⟨⟨⟨H1, H2⟩, S1⟩, S2, ⟨H3, S3⟩, ⟨H4, S4⟩, ⟨H5, H6⟩, S5⟩, Ho⟩
  ihave H3 := hleave $$ H3
  ihave H4 := hpass $$ H4
  isplitl [H1 H2 H3 H4 H5 H6]
  · isplitl [H3 H6]
    · isplitl [H6] <;> iassumption
    isplitl [H5]; · iexact H5
    isplitr [H2]
    · isplitl [H1] <;> iassumption
    · iexact H2
  isplitr [Ho]
  · isplitl [S1 S2]
    · isplitl [S1] <;> iassumption
    isplitr [S5]
    · isplitl [S3] <;> iassumption
    · iexact S5
  · iexact Ho

variable (srcRef dstRef : Fin n → Ref sig .tc) (hinj : Function.Injective (Sum.elim srcRef dstRef))
variable (hunsc : ∀ i, ¬ (Sum.elim srcRef dstRef i).isScoped)

/-- The unscoped buffers of a device that the gather leaves alone, at contents `V`. -/
def restBufs (c : Fin 8) (V : (b : Ref sig .tc) → Buf (Elt F) ((Dev.tc c : Thread 8 Topo.v7x).loc b)) : sProp 𝕄 :=
  bigSep ((Finset.univ.filter fun b : Ref sig .tc => ¬ b.isScoped) \ Finset.univ.image (Sum.elim srcRef dstRef))
    fun b => ((Dev.tc c : Thread 8 Topo.v7x).loc b) ↦{fullShare} V b

include hinj hunsc in
/-- A device's unscoped buffers: its own blocks, its results and the others. -/
theorem unscoped_split (c : Fin 8) (V : (b : Ref sig .tc) → Buf (Elt F) ((Dev.tc c : Thread 8 Topo.v7x).loc b)) :
    (unscopedBufs (τ := Topo.v7x) (show Dev 8 from c) V : sProp 𝕄)
      = iprop(((bigSep Finset.univ fun a : Fin n => ((Dev.tc c : Thread 8 Topo.v7x).loc (srcRef a) ↦{fullShare} V (srcRef a)))
          ∗ bigSep Finset.univ fun a : Fin n => ((Dev.tc c : Thread 8 Topo.v7x).loc (dstRef a) ↦{fullShare} V (dstRef a))) ∗ restBufs srcRef dstRef c V) := by
  have h : Finset.univ.image (Sum.elim srcRef dstRef) = Finset.univ.map ⟨Sum.elim srcRef dstRef, hinj⟩ := by ext x; simp
  unfold unscopedBufs restBufs
  rw [h, bigSep_sdiff_split (t := Finset.univ.map ⟨Sum.elim srcRef dstRef, hinj⟩) fun x hx => by
      obtain ⟨i, -, rfl⟩ := Finset.mem_map.mp hx
      exact Finset.mem_filter.mpr ⟨Finset.mem_univ _, hunsc i⟩,
    bigSep_map, both]
  rfl

/-- What a device ends with. -/
def ended (c : Fin 8) : sProp 𝕄 :=
  iprop((arraysAt K m c ∗ filledAt K m c) ∗ restBufs srcRef dstRef c fun b => m ((Dev.tc c : Thread 8 Topo.v7x).loc b))

end Collect

section Program

variable (m : (ℓ : Loc 8 Topo.v7x sig) → Buf (Elt F) ℓ)
variable (srcRef dstRef : Fin n → Ref sig .tc)
variable {Λ₀ : Labels} (g : Pipeline.Grid) (w : Fin 0 → Pipeline.Window sig g) (b : Λ₀.Label)
variable (ba : Fin g.N → ((i : Fin 0) → Fin (w i).nbuf) → Λ₀.Args b)
variable (hN : g.N = 1) (defs₀ : Defs 8 Topo.v7x sig (Elt F) Λ₀)
variable (hcell : Function.Injective (Pipeline.cellOf (nD := 8) (τ := Topo.v7x) fun _ : Fin 1 => bareCfg g w b ba))

include hN hcell in
/-- A device's program: the call of the gather. -/
theorem wp_program (E : Emb (URounds (GSem 8 Topo.v7x sig) Unit) (MT 8 Topo.v7x sig Unit (Elt F) ℕ U ℕ))
    (hb : ∀ (c : Fin 8) t s (Q : sProp (MT 8 Topo.v7x sig Unit (Elt F) ℕ U ℕ)), wp frame (wpE defs₀ Variants.none (Dev.tc c : Thread 8 Topo.v7x) none) Set.univ (K.body c) (fun _ => Q)
      ⊢ wp frame (wpE defs₀ Variants.none (Dev.tc c : Thread 8 Topo.v7x) none) Set.univ (defs₀ .tc b (ba t s)) (fun _ => Q)) (c : Fin 8) :
    (iprop(launched K hK m E c ∗ restBufs srcRef dstRef c fun b => m ((Dev.tc c : Thread 8 Topo.v7x).loc b)) : sProp 𝕄)
      ⊢ wp frame (wpE (Pipeline.defs (bare (F := F) g w b ba) defs₀) (Variants.lift Variants.none) (Dev.tc c : Thread 8 Topo.v7x) none) Set.univ
        (.op (.customCall (Pipeline.entry 0) ()) fun _ => .ret PUnit.unit)
        (fun _ => iprop((ended K m srcRef dstRef c ∗ boundary (Dev.tc c : Thread 8 Topo.v7x)) ∗ ∃ W, owes (Dev.tc c : Thread 8 Topo.v7x) (0 : CellTallies 8 Topo.v7x sig Unit) W)) := by
  unfold launched
  iintro ⟨⟨⟨%κ, #Hc⟩, Hr, Hd, Ho, Hb, Hi⟩, Hrest⟩
  iapply (wp_bare K g w b ba (fun c => iprop(known K hK m E κ ∗ ready K hK m E c)) (done K hK m) (fun c => owed K c K.quads) hN defs₀ c E hcell (hb c)
    (fun c => by
      have h := wp_body K hK m E defs₀ Variants.none κ c
      iintro ⟨⟨H1, H2⟩, H3⟩
      iapply h
      isplitl [H1]; · iexact H1
      isplitl [H2] <;> iassumption)
    (collect K hK m c) fun _ => .ret PUnit.unit) $$ [Hr Hd Ho Hb]
  · isplitl [Hr]
    · isplitr; · iexact Hc
      iexact Hr
    isplitl [Hd]; · iexact Hd
    isplitl [Ho] <;> iassumption
  iintro ⟨Hres, Hd, Hs, Hb⟩
  rw [wp_ret]
  imodintro
  unfold ended due boundary
  isplitr [Hd]
  · isplitl [Hres Hrest]
    · isplitl [Hres] <;> iassumption
    · isplitl [Hb]; · iexact Hb
      isplitl [Hs] <;> iassumption
  · iexact Hd

variable (final : (c : Fin 8) → (a : Fin n) → Buf (Elt F) ((Dev.tc c : Thread 8 Topo.v7x).loc (dstRef a)))

/-- What a device's memory holds in the end: its own blocks as they were, its results filled. -/
def Ends (c : Fin 8) (s : MemSt 8 Topo.v7x sig (Elt F)) : Prop :=
  (∀ a, s.mem ((Dev.tc c : Thread 8 Topo.v7x).loc (srcRef a)) = m ((Dev.tc c : Thread 8 Topo.v7x).loc (srcRef a)))
    ∧ ∀ a, s.mem ((Dev.tc c : Thread 8 Topo.v7x).loc (dstRef a)) = final c a

/-- At the start every device holds its own blocks and its results, the others of its unscoped buffers set aside. -/
theorem regroup (hinj : Function.Injective (Sum.elim srcRef dstRef)) (hunsc : ∀ i, ¬ (Sum.elim srcRef dstRef i).isScoped)
    (hsrc : ∀ (c : Fin 8) a, (((Dev.tc c : Thread 8 Topo.v7x).loc (srcRef a) ↦{fullShare} m _ : sProp 𝕄)) = srcWhole K m c a)
    (hold : ∀ (c : Fin 8) a, (((Dev.tc c : Thread 8 Topo.v7x).loc (dstRef a) ↦{fullShare} m _ : sProp 𝕄)) = bigSep Finset.univ fun s => oldSlot K m c s a) :
    (bigSep Finset.univ fun c : Dev 8 => iprop(boundary (c.tc : Thread 8 Topo.v7x)
      ∗ unscopedBufs c (fun b => m ((c.tc : Thread 8 Topo.v7x).loc b))
      ∗ owes (c.tc : Thread 8 Topo.v7x) (owed K c K.quads) ∅ ∗ launchCred (fun d : Dev 8 => owed K d K.quads) c ∗ levels0 c) : sProp 𝕄)
    ⊢ iprop((bigSep Finset.univ fun c : Fin 8 => iprop(boundary (Dev.tc c : Thread 8 Topo.v7x) ∗ (arraysAt K m c ∗ emptyAt K m c)
          ∗ owes (Dev.tc c : Thread 8 Topo.v7x) (owed K c K.quads) ∅ ∗ launchCred (fun d : Dev 8 => owed K d K.quads) c ∗ levels0 c))
        ∗ bigSep Finset.univ fun c : Fin 8 => restBufs srcRef dstRef c fun b => m ((Dev.tc c : Thread 8 Topo.v7x).loc b)) := by
  rw [← bigSep_sep']
  refine bigSep_mono fun c _ => ?_
  show iprop(boundary (Dev.tc c : Thread 8 Topo.v7x)
      ∗ unscopedBufs (τ := Topo.v7x) (show Dev 8 from c) (fun b => m ((Dev.tc c : Thread 8 Topo.v7x).loc b))
      ∗ owes (Dev.tc c : Thread 8 Topo.v7x) (owed K c K.quads) ∅ ∗ launchCred (fun d : Dev 8 => owed K d K.quads) c ∗ levels0 c)
    ⊢ iprop((boundary (Dev.tc c : Thread 8 Topo.v7x) ∗ (arraysAt K m c ∗ emptyAt K m c)
          ∗ owes (Dev.tc c : Thread 8 Topo.v7x) (owed K c K.quads) ∅ ∗ launchCred (fun d : Dev 8 => owed K d K.quads) c ∗ levels0 c)
        ∗ restBufs srcRef dstRef c fun b => m ((Dev.tc c : Thread 8 Topo.v7x).loc b))
  rw [unscoped_split srcRef dstRef hinj hunsc, bigSep_congr fun a _ => hsrc c a, bigSep_congr fun a _ => hold c a]
  unfold arraysAt emptyAt
  iintro ⟨H1, ⟨H2, H3⟩, H4, H5⟩
  isplitr [H3]
  · isplitl [H1]; · iexact H1
    isplitl [H2]; · iexact H2
    isplitl [H4] <;> iassumption
  · iexact H3

include hK hN hcell in
/-- The whole run. -/
theorem run_main (hinj : Function.Injective (Sum.elim srcRef dstRef)) (hunsc : ∀ i, ¬ (Sum.elim srcRef dstRef i).isScoped)
    (hall : ∀ sm : SemLoc sig, sm.isScoped .tc = true)
    (hsrc : ∀ (c : Fin 8) a, (((Dev.tc c : Thread 8 Topo.v7x).loc (srcRef a) ↦{fullShare} m _ : sProp (MT 8 Topo.v7x sig Unit (Elt F) ℕ (UR sig 8 Topo.v7x) ℕ))) = srcWhole K m c a)
    (hold : ∀ (c : Fin 8) a, (((Dev.tc c : Thread 8 Topo.v7x).loc (dstRef a) ↦{fullShare} m _ : sProp (MT 8 Topo.v7x sig Unit (Elt F) ℕ (UR sig 8 Topo.v7x) ℕ))) = bigSep Finset.univ fun s => oldSlot K m c s a)
    (hnew : ∀ (c : Fin 8) a, (((Dev.tc c : Thread 8 Topo.v7x).loc (dstRef a) ↦{fullShare} final c a : sProp (MT 8 Topo.v7x sig Unit (Elt F) ℕ (UR sig 8 Topo.v7x) ℕ))) = bigSep Finset.univ fun s => newSlot K m c s a)
    (hb : ∀ (c : Fin 8) t s (Q : sProp (MT 8 Topo.v7x sig Unit (Elt F) ℕ (UR sig 8 Topo.v7x) ℕ)), wp frame (wpE defs₀ Variants.none (Dev.tc c : Thread 8 Topo.v7x) none) Set.univ (K.body c) (fun _ => Q)
      ⊢ wp frame (wpE defs₀ Variants.none (Dev.tc c : Thread 8 Topo.v7x) none) Set.univ (defs₀ .tc b (ba t s)) (fun _ => Q))
    (main : Dev 8 → Prog (TpuEff 8 Topo.v7x sig (Elt F) (Pipeline.Sig Λ₀ (Fin 1) fun p => (bare (F := F) g w b ba p).Adm) .tc) PUnit)
    (hmain : ∀ c, main c = .op (.customCall (Pipeline.entry 0) ()) fun _ => .ret PUnit.unit)
    (ρ : Dev 8 → PrngReg) :
    θ_run (Pipeline.defs (bare (F := F) g w b ba) defs₀) (onTc (τ := Topo.v7x) main) ⟨m, fun _ => 0, ρ⟩
      (fun r => (∀ c, Ends m srcRef dstRef final c r.2) ∧ r.2.sem = fun _ => 0) := by
  refine run_ranked (Ix := Unit) (Name := ℕ) (Lvl := ℕ) (U := UR sig 8 Topo.v7x) _ (Variants.lift Variants.none) m ρ main (fun c => owed K c K.quads)
    (plan K hK m : Plan 8 Topo.v7x sig (Elt F) (UR sig 8 Topo.v7x) (CellIx n)).ghost
    (fun c => iprop(launched K hK m emb₁ c ∗ restBufs srcRef dstRef c fun b => m ((Dev.tc c : Thread 8 Topo.v7x).loc b))) (fun c => ended K m srcRef dstRef c) ?_
    (fun c => by rw [hmain c]; exact wp_program K hK m srcRef dstRef g w b ba hN defs₀ hcell emb₁ hb c)
    (Ends m srcRef dstRef final) (fun c s' => ?_) (fun s h hs => ⟨h, ?_⟩)
  · rw [bigSep_sep' _ (launched K hK m emb₁) _]
    iintro ⟨H, Hu⟩
    ihave H' := (regroup K m srcRef dstRef hinj hunsc hsrc hold) $$ H
    icases H' with ⟨H1, H2⟩
    imod (deal K hK m (U := UR sig 8 Topo.v7x) emb₁) $$ [H1 Hu] with H
    · isplitl [H1]
      · iexact H1
      · iapply (Entails.of_eq (ownU_emb₁ (nD := 8) (τ := Topo.v7x) (sig := sig) (Ix := Unit) (Val := Elt F) (Name := ℕ) (Lvl := ℕ)
          (plan K hK m : Plan 8 Topo.v7x sig (Elt F) (UR sig 8 Topo.v7x) (CellIx n)).ghost)); iexact Hu
    imodintro
    isplitl [H] <;> iassumption
  · unfold ended arraysAt filledAt
    rw [← bigSep_congr fun a _ => hsrc c a, ← bigSep_congr fun a _ => hnew c a]
    iintro ⟨⟨⟨H1, H2⟩, -⟩, HSI⟩
    ihave H := (pointsTo_read_all Finset.univ (fun a : Fin n => (Dev.tc c : Thread 8 Topo.v7x).loc (srcRef a)) (fun a => m ((Dev.tc c : Thread 8 Topo.v7x).loc (srcRef a))) s') $$ [H1 HSI]
    · isplitl [H1] <;> iassumption
    icases H with ⟨%h1, HSI⟩
    ihave H := (pointsTo_read_all Finset.univ (fun a : Fin n => (Dev.tc c : Thread 8 Topo.v7x).loc (dstRef a)) (fun a => final c a) s') $$ [H2 HSI]
    · isplitl [H2] <;> iassumption
    icases H with ⟨%h2, HSI⟩
    imodintro
    isplitr
    · ipureintro; exact ⟨fun a => h1 a (Finset.mem_univ a), fun a => h2 a (Finset.mem_univ a)⟩
    iexact HSI
  · exact sem_eq_zero_of_scoped hall hs

end Program

end Cert.Gather

end
-- ==== Proof.GatherParts.lean ====
/-
  A gather whose results are rank-three buffers of eight slabs, one slab per device: the parts such a kernel is given
  by, the kit they make, and the run stated over the buffers themselves.
-/
module

public import proofs.«01_k».proof.Proof.GatherRun
public import Idealize.ShloMosaic.Lib.Layout
public import Idealize.ShloMosaic.Lib.Pipeline.Value
public import Idealize.ShloMosaic.Lib.Pointwise.Index

@[expose] public section

set_option Elab.async false

noncomputable section

namespace Cert.Gather

open Cert.Exchange
open Idealize.ShloMosaic
open Idealize.ShloMosaic.TcCoe
open Idealize.SL Idealize.SL.RA Idealize.SL.BI
open scoped Idealize.SL.BI
open Idealize.SL.BI.BIBase Idealize.SL.BI.Laws Idealize.SL.Sem

/-- A block of an array. -/
abbrev Flat (R N : ℕ) : Shape := ⟨2, ![R, N]⟩

section Slab

variable {sig : RefSig} {R N : ℕ} {e : EltTy}

/-- A slab's offsets keep it inside the buffer. -/
theorem slab_inb {o : Fin 3 → ℕ} (h : ∃ s : Fin 8, o = ![s.val, 0, 0]) (a : Fin 3) : o a + (Slab1 R N).size a ≤ (Slabs R N).size a := by
  obtain ⟨s, rfl⟩ := h
  match a with
  | 0 => exact (show s.val + 1 ≤ 8 from s.isLt)
  | 1 => exact (show 0 + R ≤ R from (Nat.zero_add R).le)
  | 2 => exact (show 0 + N ≤ N from (Nat.zero_add N).le)

/-- The rectangle of a slab. -/
abbrev slabRect (R N : ℕ) (o : Fin 3 → ℕ) (h : ∃ s : Fin 8, o = ![s.val, 0, 0]) : Rect (Slabs R N) :=
  Rect.unit (s := Slabs R N) o (Slab1 R N).size (slab_inb h)

/-- A slab of a buffer, as a block. -/
abbrev slab (w : Memref sig .tc .hbm (Slabs R N) e) (hq : (Slab1 R N).Squeezes (Flat R N)) (o : Fin 3 → ℕ) (h : ∃ s : Fin 8, o = ![s.val, 0, 0]) :
    Memref sig .tc .hbm (Flat R N) e :=
  (w.slice (slabRect R N o h) (fun _ => rfl)).squeeze (Flat R N) hq

theorem slab_congr (w : Memref sig .tc .hbm (Slabs R N) e) (hq : (Slab1 R N).Squeezes (Flat R N)) {o o' : Fin 3 → ℕ}
    (h : ∃ s : Fin 8, o = ![s.val, 0, 0]) (h' : ∃ s : Fin 8, o' = ![s.val, 0, 0]) (ho : o = o') : slab w hq o h = slab w hq o' h' := by
  subst ho; rfl

theorem slab_set (w : Memref sig .tc .hbm (Slabs R N) e) (hq : (Slab1 R N).Squeezes (Flat R N)) (o : Fin 3 → ℕ) (h : ∃ s : Fin 8, o = ![s.val, 0, 0]) :
    (slab w hq o h).view.set = (slabRect R N o h).set.map w.view.emb :=
  (View.set_reshape _ _).trans (View.set_slice _ _)

/-- The index of a buffer of slabs at slab `s` and place `x` of a block. -/
def atBlock (s : Fin 8) (x : (Flat R N).Idx) : (Slabs R N).Idx :=
  @Fin.cases 2 (fun a => Fin ((Slabs R N).size a)) s x

/-- Place `x` of slab `s` is that index. -/
theorem slab_emb (o : Fin 3 → ℕ) (s : Fin 8) (ho : o = ![s.val, 0, 0]) (hn : (Flat R N).numel = (Slab1 R N).numel) (x : (Flat R N).Idx) :
    (slabRect R N o ⟨s, ho⟩).emb (Shape.reshapeEquiv hn x) = atBlock s x := by
  subst ho
  rw [show Shape.reshapeEquiv hn x = (Fin.cons ⟨0, Nat.one_pos⟩ x : (Slab1 R N).Idx) from Shape.reshapeEquiv_cons_one hn x]
  funext a
  refine Fin.ext ?_
  rw [Rect.emb_apply]
  match a with
  | 0 => exact (show s.val + 1 * 0 = s.val by omega)
  | 1 => exact (show 0 + 1 * (x 0).val = (x 0).val by omega)
  | 2 => exact (show 0 + 1 * (x 1).val = (x 1).val by omega)

/-- The blocks of every device, one per slab: what every device ends with. -/
def together {α : Type} (g : Fin 8 → (Flat R N).Idx → α) : (Slabs R N).Idx → α := fun i => g (i 0) (ix2 (n0 := R) (n1 := N) (i 1) (i 2))

theorem together_at {α : Type} (g : Fin 8 → (Flat R N).Idx → α) (s : Fin 8) (x : (Flat R N).Idx) : together g (atBlock s x) = g s x :=
  congrArg (g s) (eq_ix2 x).symm

/-- Blocks of a whole array put together are the whole array, its first axis cut in eight. -/
theorem together_block {α : Type} {R' : ℕ} (g : Fin 8 → (Flat R N).Idx → α) (A : (Flat R' N).Idx → α) (hT : Layout.Tiles (Flat R N) (Flat R' N) 0 8)
    (hg : ∀ d, g d = Layout.block (Flat R N) (Flat R' N) 0 8 d A hT) (h : (Flat R' N).ShapeCasts (Slabs R N)) :
    together g = shapeCast (Slabs R N) A h := by
  funext i
  refine (congrFun (hg (i 0)) _).trans ?_
  refine (shapeCast_apply _ h i (hT.idx (i 0) (ix2 (n0 := R) (n1 := N) (i 1) (i 2))) ?_).symm
  rw [Shape.rowMajor_val_two, Shape.rowMajor_val_three]
  rfl

/-- A buffer of slabs held whole is held slab by slab. -/
theorem whole_slabs {Val : EltTy → Type} {U : Type} [URA U] (w : Memref sig .tc .hbm (Slabs R N) e) (hw : w.IsWhole) (hq : (Slab1 R N).Squeezes (Flat R N))
    (o : Fin 8 → Fin 3 → ℕ) (ho : ∀ s, o s = ![s.val, 0, 0]) (c : Fin 8) (f : Buf Val (w.view.loc (Dev.tc c : Thread 8 Topo.v7x))) :
    (w.view.loc (Dev.tc c : Thread 8 Topo.v7x) ↦{fullShare} f : sProp (MT 8 Topo.v7x sig Unit Val ℕ U ℕ))
      = bigSep Finset.univ fun s : Fin 8 => w.view.loc (Dev.tc c : Thread 8 Topo.v7x) ↦[(slab w hq (o s) ⟨s, ho s⟩).view.set]{fullShare} f := by
  have hset : ∀ s : Fin 8, (slab w hq (o s) ⟨s, ho s⟩).view.set = (slabRect R N (o s) ⟨s, ho s⟩).set.map w.view.emb := fun s => slab_set w hq _ _
  have hmem : ∀ (s : Fin 8) i, i ∈ (slabRect R N (o s) ⟨s, ho s⟩).set ↔ (i 0).val = s.val := fun s i => mem_slab (ho s) i
  refine Ring.pointsTo_blocks (ℓ := w.view.loc (Dev.tc c : Thread 8 Topo.v7x)) (fun s : Fin 8 => (slab w hq (o s) ⟨s, ho s⟩).view.set) (fun s s' h => ?_) ?_ f
  · rw [hset, hset]
    exact (Finset.disjoint_map _).mpr (slabs_disjoint _ hmem s s' h)
  · refine Finset.eq_univ_of_forall fun i => ?_
    obtain ⟨j, -, rfl⟩ := Finset.mem_map.mp ((Finset.ext_iff.mp hw.set_eq_univ i).mpr (Finset.mem_univ i))
    refine Finset.mem_biUnion.mpr ⟨j 0, Finset.mem_univ _, ?_⟩
    exact (Finset.ext_iff.mp (hset (j 0)) _).mpr (Finset.mem_map.mpr ⟨j, (hmem (j 0) j).mpr rfl, rfl⟩)

end Slab

/-- The parts of a gather kernel over `n` arrays: its buffers, and the offsets, devices and semaphores it computes. -/
structure Parts (sig : RefSig) (n : ℕ) where
  /-- The sizes of a block of each array. -/
  rows : Fin n → ℕ
  cols : Fin n → ℕ
  /-- The element type of each array. -/
  elt : Fin n → EltTy
  /-- A device's own block. -/
  src : (a : Fin n) → Memref sig .tc .hbm (Flat (rows a) (cols a)) (elt a)
  srcWhole : ∀ a, (src a).IsWhole
  /-- A device's result. -/
  all : (a : Fin n) → Memref sig .tc .hbm (Slabs (rows a) (cols a)) (elt a)
  allWhole : ∀ a, (all a).IsWhole
  allOpen : ∀ a, (all a).view.ref.isScScratch = false
  squeezes : ∀ a, (Slab1 (rows a) (cols a)).Squeezes (Flat (rows a) (cols a))
  /-- The offsets of the slab of a device's own block. -/
  own : Fin n → Fin 8 → Fin 3 → ℕ
  own_eq : ∀ a c, own a c = ![c.val, 0, 0]
  /-- The offsets of the slab a first transfer to device `c` fills. -/
  near : Fin n → Fin 4 → Fin 8 → Fin 3 → ℕ
  near_eq : ∀ a k c, near a k c = ![(peer c (nearPeer k)).val, 0, 0]
  /-- The offsets of the slab a passed-on transfer to device `c` fills. -/
  far : Fin n → Fin 3 → Fin 8 → Fin 3 → ℕ
  far_eq : ∀ a j c, far a j c = ![(peer c (farPeer j)).val, 0, 0]
  /-- Transfers through a slab move whole words. -/
  exact : ∀ a c, ((all a).view.slice (slabRect (rows a) (cols a) (own a c) ⟨c, own_eq a c⟩)).WordExact
  /-- The device each transfer of device `c` goes to. -/
  target : (c : Fin 8) → Fin n → Fin 7 → Fin 8
  /-- The semaphore of the copy of an own block. -/
  semOwn : Fin n → DmaSem sig
  /-- The semaphore of a transfer's departure. -/
  semOut : Fin n → Fin 7 → DmaSem sig
  /-- The semaphore of a transfer's landing. -/
  semIn : Fin n → Fin 7 → DmaSem sig
  /-- The arrays in the kernel's order. -/
  arrays : List (Fin n)
  /-- The first transfers in the kernel's order. -/
  quads : List (Fin n × Fin 4)
  /-- The passed-on transfers in the kernel's order. -/
  trips : List (Fin n × Fin 3)

namespace Parts

variable {sig : RefSig} {n : ℕ} (P : Parts sig n)

/-- A slab of a result, at offsets that name one. -/
abbrev at_ (a : Fin n) (o : Fin 3 → ℕ) (h : ∃ s : Fin 8, o = ![s.val, 0, 0]) : Memref sig .tc .hbm (Flat (P.rows a) (P.cols a)) (P.elt a) :=
  slab (P.all a) (P.squeezes a) o h

theorem at_exact (a : Fin n) (o : Fin 3 → ℕ) (h : ∃ s : Fin 8, o = ![s.val, 0, 0]) : (P.at_ a o h).view.WordExact := by
  obtain ⟨s, hs⟩ := h
  rw [show P.at_ a o ⟨s, hs⟩ = P.at_ a (P.own a s) ⟨s, P.own_eq a s⟩ from slab_congr _ _ _ _ (hs.trans (P.own_eq a s).symm)]
  exact (P.exact a s).reshape _ _

/-- The kit the parts make. -/
def kit : Kit sig n where
  shp a := Flat (P.rows a) (P.cols a)
  elt := P.elt
  src := P.src
  srcExact a := (P.srcWhole a).wordExact
  slot s a := P.at_ a (P.own a s) ⟨s, P.own_eq a s⟩
  slotExact s a := P.at_exact a _ _
  slotOpen _ a := P.allOpen a
  near c k a := P.at_ a (P.near a k c) ⟨_, P.near_eq a k c⟩
  nearExact c k a := P.at_exact a _ _
  nearOpen _ _ a := P.allOpen a
  far c j a := P.at_ a (P.far a j c) ⟨_, P.far_eq a j c⟩
  farExact c j a := P.at_exact a _ _
  target := P.target
  semOwn := P.semOwn
  semOut := P.semOut
  semIn := P.semIn
  arrays := P.arrays
  quads := P.quads
  trips := P.trips

/-- What has to hold of the parts besides. -/
structure Laws : Prop where
  sem_inj : Function.Injective P.kit.semOf
  sem_scoped : ∀ i, (P.kit.semOf i).isScoped .tc = true
  target_near : ∀ c a k, P.target c a (nearIx k) = peer c (nearPeer k)
  target_far : ∀ c a j, P.target c a (farIx j) = peer c 0
  credit_src : ∀ a, (P.src a).view.dmaCredit = (P.at_ a (P.own a 0) ⟨0, P.own_eq a 0⟩).view.dmaCredit
  block_pos : ∀ a, 0 < (Flat (P.rows a) (P.cols a)).numel
  arrays_nodup : P.arrays.Nodup
  arrays_all : P.arrays.toFinset = Finset.univ
  quads_nodup : P.quads.Nodup
  quads_all : P.quads.toFinset = Finset.univ
  trips_nodup : P.trips.Nodup
  trips_all : P.trips.toFinset = Finset.univ

/-- They make the kit's laws. -/
theorem kit_laws (h : P.Laws) : P.kit.Laws where
  sem_inj := h.sem_inj
  sem_scoped := h.sem_scoped
  near_eq c k a := slab_congr (P.all a) (P.squeezes a) _ _ ((P.near_eq a k c).trans (P.own_eq a _).symm)
  far_eq c j a := slab_congr (P.all a) (P.squeezes a) _ _ ((P.far_eq a j c).trans (P.own_eq a _).symm)
  target_near := h.target_near
  target_far := h.target_far
  credit_slot _ _ := rfl
  credit_src := h.credit_src
  block_pos := h.block_pos
  arrays_nodup := h.arrays_nodup
  arrays_all := h.arrays_all
  quads_nodup := h.quads_nodup
  quads_all := h.quads_all
  trips_nodup := h.trips_nodup
  trips_all := h.trips_all

/-- The buffers of the blocks. -/
def srcRef (a : Fin n) : Ref sig .tc := (P.src a).view.ref
/-- The buffers of the results. -/
def dstRef (a : Fin n) : Ref sig .tc := (P.all a).view.ref

variable {F : FTy → Type} [FloatOps F] {U : Type} [URA U]
variable (m : (ℓ : Loc 8 Topo.v7x sig) → Buf (Elt F) ℓ)

/-- What a device's own block of an array holds at the start. -/
def start (a : Fin n) (d : Fin 8) : (Flat (P.rows a) (P.cols a)).Idx → Elt F (P.elt a) :=
  (P.src a).view.read (Elt F) (m ((P.src a).view.loc (Dev.tc d : Thread 8 Topo.v7x)))

/-- What a device ends with of a result: the blocks of all devices. -/
def final (c : Fin 8) (a : Fin n) : Buf (Elt F) ((Dev.tc c : Thread 8 Topo.v7x).loc (P.dstRef a)) :=
  (P.all a).view.write (Elt F) (m ((P.all a).view.loc (Dev.tc c : Thread 8 Topo.v7x))) (together (P.start m a)) Finset.univ

theorem src_whole (c : Fin 8) (a : Fin n) :
    (((Dev.tc c : Thread 8 Topo.v7x).loc (P.srcRef a) ↦{fullShare} m _ : sProp (MT 8 Topo.v7x sig Unit (Elt F) ℕ U ℕ))) = Gather.srcWhole P.kit m c a := by
  show _ = ((P.src a).view.loc (Dev.tc c : Thread 8 Topo.v7x) ↦[(P.src a).view.set]{fullShare} m _ : sProp (MT 8 Topo.v7x sig Unit (Elt F) ℕ U ℕ))
  rw [(P.srcWhole a).set_eq_univ]
  rfl

/-- A result held whole is held slab by slab. -/
theorem dst_slabs (c : Fin 8) (a : Fin n) (f : Buf (Elt F) ((P.all a).view.loc (Dev.tc c : Thread 8 Topo.v7x))) :
    (((P.all a).view.loc (Dev.tc c : Thread 8 Topo.v7x) ↦{fullShare} f : sProp (MT 8 Topo.v7x sig Unit (Elt F) ℕ U ℕ)))
      = bigSep Finset.univ fun s : Fin 8 => (P.kit.slot s a).view.loc (Dev.tc c : Thread 8 Topo.v7x) ↦[(P.kit.slot s a).view.set]{fullShare} f :=
  whole_slabs (P.all a) (P.allWhole a) (P.squeezes a) (P.own a) (P.own_eq a) c f

theorem dst_old (c : Fin 8) (a : Fin n) :
    (((Dev.tc c : Thread 8 Topo.v7x).loc (P.dstRef a) ↦{fullShare} m _ : sProp (MT 8 Topo.v7x sig Unit (Elt F) ℕ U ℕ)))
      = bigSep Finset.univ fun s => oldSlot P.kit m c s a :=
  P.dst_slabs c a _

theorem dst_new (c : Fin 8) (a : Fin n) :
    (((Dev.tc c : Thread 8 Topo.v7x).loc (P.dstRef a) ↦{fullShare} P.final m c a : sProp (MT 8 Topo.v7x sig Unit (Elt F) ℕ U ℕ)))
      = bigSep Finset.univ fun s => newSlot P.kit m c s a := by
  refine (P.dst_slabs c a _).trans (bigSep_congr fun s _ => ?_)
  unfold newSlot
  refine (pointsTo_congr (written_eq (P.kit.slot s a).view _ _ _ ?_)).symm
  funext x
  show (P.all a).view.read (Elt F) ((P.all a).view.write (Elt F) _ (together (P.start m a)) Finset.univ)
    ((slabRect (P.rows a) (P.cols a) (P.own a s) ⟨s, P.own_eq a s⟩).emb (Shape.reshapeEquiv (P.squeezes a).numel_eq x)) = P.start m a s x
  rw [View.read_write_univ]
  exact (congrArg (together (P.start m a)) (slab_emb _ s (P.own_eq a s) (P.squeezes a).numel_eq x)).trans (together_at _ s x)

end Parts

end Cert.Gather

end
-- ==== Proof.WeightsGather.lean ====
/-
  The gather of the weights, six arrays: its parts, its body, and its run.
-/
module

public import proofs.«01_k».proof.Proof.GatherParts
public import proofs.«01_k».proof.Proof.Gen.WeightsIdeal
public import proofs.«01_k».proof.Proof.Gen.WeightsIdeal.Skeleton
public import proofs.«01_k».proof.Proof.Gen.WeightsIdeal.Launch
public import proofs.«01_k».proof.Proof.Gen.WeightsIdeal.Points

@[expose] public section

set_option Elab.async false

noncomputable section

namespace Cert.WeightsGather

open Cert.WeightsIdeal Cert.WeightsIdeal.Gen
open Cert.Exchange Cert.Gather
open Idealize.ShloMosaic
open Idealize.ShloMosaic.TcCoe
open Idealize.SL Idealize.SL.RA Idealize.SL.BI
open scoped Idealize.SL.BI
open Idealize.SL.BI.BIBase Idealize.SL.BI.Laws Idealize.SL.Sem

/-- The sizes of a block of each array. -/
abbrev rows : Fin 6 → ℕ
  | 0 => 256
  | 1 => 32
  | 2 => 128
  | 3 => 704
  | 4 => 352
  | 5 => 8
abbrev cols : Fin 6 → ℕ
  | 0 => 1024
  | 1 => 768
  | 2 => 1024
  | 3 => 1024
  | 4 => 1024
  | 5 => 704

/-- The element type of each array. -/
abbrev elt : Fin 6 → EltTy
  | 0 => .bf16
  | 1 => .bf16
  | 2 => .bf16
  | 3 => .bf16
  | 4 => .bf16
  | 5 => .f32

/-- The buffers of the blocks. -/
abbrev src : (a : Fin 6) → Memref sig .tc .hbm (Flat (rows a) (cols a)) (elt a)
  | 0 => Memref.whole main_arg0
  | 1 => Memref.whole main_arg1
  | 2 => Memref.whole main_arg2
  | 3 => Memref.whole main_arg3
  | 4 => Memref.whole main_arg4
  | 5 => Memref.whole main_arg5
/-- The buffers of the results. -/
abbrev dst : (a : Fin 6) → Memref sig .tc .hbm (Slabs (rows a) (cols a)) (elt a)
  | 0 => Memref.whole main_v1_0
  | 1 => Memref.whole main_v1_1
  | 2 => Memref.whole main_v1_2
  | 3 => Memref.whole main_v1_3
  | 4 => Memref.whole main_v1_4
  | 5 => Memref.whole main_v1_5

theorem src_whole : ∀ a, (src a).IsWhole
  | 0 => Memref.isWhole_whole _
  | 1 => Memref.isWhole_whole _
  | 2 => Memref.isWhole_whole _
  | 3 => Memref.isWhole_whole _
  | 4 => Memref.isWhole_whole _
  | 5 => Memref.isWhole_whole _
theorem dst_whole : ∀ a, (dst a).IsWhole
  | 0 => Memref.isWhole_whole _
  | 1 => Memref.isWhole_whole _
  | 2 => Memref.isWhole_whole _
  | 3 => Memref.isWhole_whole _
  | 4 => Memref.isWhole_whole _
  | 5 => Memref.isWhole_whole _
theorem dst_open : ∀ a, (dst a).view.ref.isScScratch = false
  | 0 => rfl
  | 1 => rfl
  | 2 => rfl
  | 3 => rfl
  | 4 => rfl
  | 5 => rfl
theorem squeezes : ∀ a, (Slab1 (rows a) (cols a)).Squeezes (Flat (rows a) (cols a))
  | 0 => squeezes_S1x256x1024_S256x1024
  | 1 => squeezes_S1x32x768_S32x768
  | 2 => squeezes_S1x128x1024_S128x1024
  | 3 => squeezes_S1x704x1024_S704x1024
  | 4 => squeezes_S1x352x1024_S352x1024
  | 5 => squeezes_S1x8x704_S8x704

/-- The offsets the kernel computes of the slabs it names. -/
def own : Fin 6 → Fin 8 → Fin 3 → ℕ := ![k0_off1, k0_off2, k0_off3, k0_off4, k0_off5, k0_off6]
def near : Fin 6 → Fin 4 → Fin 8 → Fin 3 → ℕ :=
  ![![k0_off25, k0_off7, k0_off13, k0_off19],
    ![k0_off29, k0_off8, k0_off14, k0_off20],
    ![k0_off33, k0_off9, k0_off15, k0_off21],
    ![k0_off37, k0_off10, k0_off16, k0_off22],
    ![k0_off41, k0_off11, k0_off17, k0_off23],
    ![k0_off45, k0_off12, k0_off18, k0_off24]]
def far : Fin 6 → Fin 3 → Fin 8 → Fin 3 → ℕ :=
  ![![k0_off26, k0_off27, k0_off28],
    ![k0_off30, k0_off31, k0_off32],
    ![k0_off34, k0_off35, k0_off36],
    ![k0_off38, k0_off39, k0_off40],
    ![k0_off42, k0_off43, k0_off44],
    ![k0_off46, k0_off47, k0_off48]]

theorem own_eq : ∀ a c, own a c = ![c.val, 0, 0] := by decide +kernel
theorem near_eq : ∀ a k c, near a k c = ![(peer c (nearPeer k)).val, 0, 0] := by decide +kernel
theorem far_eq : ∀ a j c, far a j c = ![(peer c (farPeer j)).val, 0, 0] := by decide +kernel

/-- Transfers through a slab move whole words. -/
theorem exact : ∀ a c, ((dst a).view.slice (slabRect (rows a) (cols a) (own a c) ⟨c, own_eq a c⟩)).WordExact
  | 0, c => (Memref.isWhole_whole main_v1_0).wordExact_slice rfl _ (k0_off1_wordsbf16 c)
  | 1, c => (Memref.isWhole_whole main_v1_1).wordExact_slice rfl _ (k0_off2_wordsbf16 c)
  | 2, c => (Memref.isWhole_whole main_v1_2).wordExact_slice rfl _ (k0_off3_wordsbf16 c)
  | 3, c => (Memref.isWhole_whole main_v1_3).wordExact_slice rfl _ (k0_off4_wordsbf16 c)
  | 4, c => (Memref.isWhole_whole main_v1_4).wordExact_slice rfl _ (k0_off5_wordsbf16 c)
  | 5, c => View.wordExact_bits rfl

/-- The device each transfer goes to, as the kernel computes it. -/
def target (c : Dev nD) : Fin 6 → Fin 7 → Fin 8 :=
  ![![⟨k0_dev1 c, k0_dev1_lt c⟩, ⟨k0_dev2 c, k0_dev2_lt c⟩, ⟨k0_dev3 c, k0_dev3_lt c⟩, ⟨k0_dev4 c, k0_dev4_lt c⟩,
      ⟨k0_dev25 c, k0_dev25_lt c⟩, ⟨k0_dev31 c, k0_dev31_lt c⟩, ⟨k0_dev37 c, k0_dev37_lt c⟩],
    ![⟨k0_dev5 c, k0_dev5_lt c⟩, ⟨k0_dev6 c, k0_dev6_lt c⟩, ⟨k0_dev7 c, k0_dev7_lt c⟩, ⟨k0_dev8 c, k0_dev8_lt c⟩,
      ⟨k0_dev26 c, k0_dev26_lt c⟩, ⟨k0_dev32 c, k0_dev32_lt c⟩, ⟨k0_dev38 c, k0_dev38_lt c⟩],
    ![⟨k0_dev9 c, k0_dev9_lt c⟩, ⟨k0_dev10 c, k0_dev10_lt c⟩, ⟨k0_dev11 c, k0_dev11_lt c⟩, ⟨k0_dev12 c, k0_dev12_lt c⟩,
      ⟨k0_dev27 c, k0_dev27_lt c⟩, ⟨k0_dev33 c, k0_dev33_lt c⟩, ⟨k0_dev39 c, k0_dev39_lt c⟩],
    ![⟨k0_dev13 c, k0_dev13_lt c⟩, ⟨k0_dev14 c, k0_dev14_lt c⟩, ⟨k0_dev15 c, k0_dev15_lt c⟩, ⟨k0_dev16 c, k0_dev16_lt c⟩,
      ⟨k0_dev28 c, k0_dev28_lt c⟩, ⟨k0_dev34 c, k0_dev34_lt c⟩, ⟨k0_dev40 c, k0_dev40_lt c⟩],
    ![⟨k0_dev17 c, k0_dev17_lt c⟩, ⟨k0_dev18 c, k0_dev18_lt c⟩, ⟨k0_dev19 c, k0_dev19_lt c⟩, ⟨k0_dev20 c, k0_dev20_lt c⟩,
      ⟨k0_dev29 c, k0_dev29_lt c⟩, ⟨k0_dev35 c, k0_dev35_lt c⟩, ⟨k0_dev41 c, k0_dev41_lt c⟩],
    ![⟨k0_dev21 c, k0_dev21_lt c⟩, ⟨k0_dev22 c, k0_dev22_lt c⟩, ⟨k0_dev23 c, k0_dev23_lt c⟩, ⟨k0_dev24 c, k0_dev24_lt c⟩,
      ⟨k0_dev30 c, k0_dev30_lt c⟩, ⟨k0_dev36 c, k0_dev36_lt c⟩, ⟨k0_dev42 c, k0_dev42_lt c⟩]]

theorem inb_own (a : Fin 6) : ∀ i, (![a.val] : Fin 1 → ℕ) i + S1.size i ≤ S6.size i := by revert a; decide
theorem inb_pair (a : Fin 6) (r : Fin 7) : ∀ i, (![7 * a.val + r.val] : Fin 1 → ℕ) i + S1.size i ≤ S42.size i := by revert a r; decide

/-- The parts of the gather of the weights. -/
def parts : Parts sig 6 where
  rows := rows
  cols := cols
  elt := elt
  src := src
  srcWhole := src_whole
  all := dst
  allWhole := dst_whole
  allOpen := dst_open
  squeezes := squeezes
  own := own
  own_eq := own_eq
  near := near
  near_eq := near_eq
  far := far
  far_eq := far_eq
  exact := exact
  target := target
  semOwn a := ((cc0_scratch2.slice (Rect.unit (s := S6) ![a.val] S1.size (inb_own a))).squeeze S_ squeezes_S1_S_).sem
  semOut a r := ((cc0_scratch0.slice (Rect.unit (s := S42) ![7 * a.val + r.val] S1.size (inb_pair a r))).squeeze S_ squeezes_S1_S_).sem
  semIn a r := ((cc0_scratch1.slice (Rect.unit (s := S42) ![7 * a.val + r.val] S1.size (inb_pair a r))).squeeze S_ squeezes_S1_S_).sem
  arrays := [0, 1, 2, 3, 4, 5]
  quads := [(0, 0), (0, 1), (0, 2), (0, 3),
    (1, 0), (1, 1), (1, 2), (1, 3),
    (2, 0), (2, 1), (2, 2), (2, 3),
    (3, 0), (3, 1), (3, 2), (3, 3),
    (4, 0), (4, 1), (4, 2), (4, 3),
    (5, 0), (5, 1), (5, 2), (5, 3)]
  trips := [(0, 0), (1, 0), (2, 0), (3, 0), (4, 0), (5, 0),
    (0, 1), (1, 1), (2, 1), (3, 1), (4, 1), (5, 1),
    (0, 2), (1, 2), (2, 2), (3, 2), (4, 2), (5, 2)]

set_option synthInstance.maxSize 4096 in
theorem sem_inj : Function.Injective parts.kit.semOf := by
  have h : ∀ i j : CellIx 6, parts.kit.semOf i = parts.kit.semOf j → i = j := by decide +kernel
  exact fun i j => h i j

theorem sem_scoped : ∀ i : CellIx 6, (parts.kit.semOf i).isScoped .tc = true := by decide +kernel
theorem target_near : ∀ (c : Fin 8) a k, target c a (nearIx k) = peer c (nearPeer k) := by decide +kernel
theorem target_far : ∀ (c : Fin 8) a j, target c a (farIx j) = peer c 0 := by decide +kernel

theorem credit_src : ∀ a, (parts.src a).view.dmaCredit = (parts.at_ a (parts.own a 0) ⟨0, parts.own_eq a 0⟩).view.dmaCredit
  | 0 => by decide +kernel
  | 1 => by decide +kernel
  | 2 => by decide +kernel
  | 3 => by decide +kernel
  | 4 => by decide +kernel
  | 5 => by decide +kernel

theorem laws : parts.Laws where
  sem_inj := sem_inj
  sem_scoped := sem_scoped
  target_near := target_near
  target_far := target_far
  credit_src := credit_src
  block_pos := by decide +kernel
  arrays_nodup := by decide
  arrays_all := by decide
  quads_nodup := by decide
  quads_all := by decide
  trips_nodup := by decide
  trips_all := by decide

variable {F : FTy → Type} [FloatOps F]

set_option maxRecDepth 100000 in
set_option maxHeartbeats 4000000 in
/-- The kernel is the kit's body, once it has asked which device it runs on. -/
theorem bodyAt0_eq (t : Fin cfg0.N) : bodyAt0 (F := F) t = .op .deviceId (fun c => parts.kit.body c) := rfl

/-- The kernel's program is that body at its one point. -/
theorem program_eq (t : Fin cfg0.N) (s) : defs₀ (F := F) .tc cfg0.body (cfg0.bodyArgs t s) = bodyAt0 (F := F) t := rfl

theorem refs_inj : Function.Injective (Sum.elim parts.srcRef parts.dstRef) := by
  have h : ∀ i j, Sum.elim parts.srcRef parts.dstRef i = Sum.elim parts.srcRef parts.dstRef j → i = j := by decide
  exact fun i j => h i j

/-- The whole run: every device's blocks end as they began, and its results hold the blocks of all devices. -/
theorem run_main (m : (ℓ : Loc nD τ sig) → Buf (Elt F) ℓ) (ρ : Dev nD → PrngReg) :
    θ_run (Cert.WeightsIdeal.defs (F := F)) (onTc (τ := τ) (Cert.WeightsIdeal.main (F := F))) ⟨m, fun _ => 0, ρ⟩
      (fun r => (∀ c, Ends m parts.srcRef parts.dstRef (parts.final m) c r.2) ∧ r.2.sem = fun _ => 0) :=
  Gather.run_main parts.kit (parts.kit_laws laws) m parts.srcRef parts.dstRef grid0 win0 cfg0.body cfg0.bodyArgs N_0 defs₀
    cellOf_inj (parts.final m) refs_inj (by decide) (by decide) (parts.src_whole m) (parts.dst_old m) (parts.dst_new m)
    (fun c t s Q => by
      rw [show defs₀ (F := F) .tc cfg0.body (cfg0.bodyArgs t s) = .op .deviceId (fun c => parts.kit.body c) from (program_eq t s).trans (bodyAt0_eq t), wp_deviceId])
    main (fun _ => rfl) ρ

end Cert.WeightsGather

end
-- ==== Proof.WeightsClaims.lean ====
/-
  The claims about the gather of the weights: the frames of its programs, and that every device ends with the reference's
  results, bit for bit and over exact values alike.
-/
module

public import proofs.«01_k».proof.Defs
public import proofs.«01_k».proof.Proof.Gen.Weights
public import proofs.«01_k».proof.Proof.Gen.WeightsRef
public import proofs.«01_k».proof.Proof.Gen.WeightsRefIdeal
public import proofs.«01_k».proof.Proof.Gen.WeightsRefIdeal.Run
public import proofs.«01_k».proof.Proof.WeightsGather
public import Idealize.ShloMosaic.Adequacy
public import Idealize.ShloMosaic.Init

@[expose] public section

set_option Elab.async false

noncomputable section

namespace Cert.WeightsGather

open Idealize.ShloMosaic Idealize.SL.Sem Cert.Gather

/-- The gather ends with its arrays unchanged and every counter at zero. -/
theorem frame_kernel : Cert.quiescent_Weights := fun m ρ _ =>
  (θ_run Cert.WeightsIdeal.defs _ _).mono (fun _ h => ⟨fun c => ⟨(h.1 c).1 0, (h.1 c).1 1, (h.1 c).1 2, (h.1 c).1 3, (h.1 c).1 4, (h.1 c).1 5⟩, h.2⟩) (run_main (F := Bits) m ρ)

/-- So does the gather over exact values. -/
theorem frame_kernelIdeal : Cert.quiescent_WeightsIdeal := fun m ρ _ =>
  (θ_run Cert.WeightsIdeal.defs _ _).mono (fun _ h => ⟨fun c => ⟨(h.1 c).1 0, (h.1 c).1 1, (h.1 c).1 2, (h.1 c).1 3, (h.1 c).1 4, (h.1 c).1 5⟩, h.2⟩) (run_main (F := Ideal) m ρ)

/-- The reference ends with its arrays unchanged; it has no counters. -/
theorem frame_reference : Cert.quiescent_WeightsRef := fun m ρ _ =>
  (θ_run Cert.WeightsRefIdeal.defs _ _).mono (fun r h => ⟨fun c => (h c).2.2.2.2.2.2, sem_eq_zero_of_no_sems (by decide) r.2⟩) (Cert.WeightsRefIdeal.Value.run (F := Bits) m ρ)

/-- So does the reference over exact values. -/
theorem frame_referenceIdeal : Cert.quiescent_WeightsRefIdeal := fun m ρ _ =>
  (θ_run Cert.WeightsRefIdeal.defs _ _).mono (fun r h => ⟨fun c => (h c).2.2.2.2.2.2, sem_eq_zero_of_no_sems (by decide) r.2⟩) (Cert.WeightsRefIdeal.Value.run (F := Ideal) m ρ)

variable {F : FTy → Type} [FloatOps F]

/-- For any float values: from memories where each device holds its block of the reference's arrays, every device ends
    with the reference's results, and both programs' arrays are unchanged. -/
theorem value (m : (ℓ : Loc Cert.WeightsIdeal.nD Cert.WeightsIdeal.τ Cert.WeightsIdeal.sig) → Buf (Elt F) ℓ) (g : Dev Cert.WeightsIdeal.nD → PrngReg)
    (m' : (ℓ : Loc Cert.WeightsRefIdeal.nD Cert.WeightsRefIdeal.τ Cert.WeightsRefIdeal.sig) → Buf (Elt F) ℓ) (g' : Dev Cert.WeightsRefIdeal.nD → PrngReg)
    (ha : ∀ c : Dev Cert.WeightsIdeal.nD,
      m ((c.tc : Thread Cert.WeightsIdeal.nD Cert.WeightsIdeal.τ).loc Cert.WeightsIdeal.main_arg0) = Layout.block ⟨2, ![256, 1024]⟩ ⟨2, ![2048, 1024]⟩ 0 8 c (m' (((0 : Dev Cert.WeightsRefIdeal.nD).tc : Thread Cert.WeightsRefIdeal.nD Cert.WeightsRefIdeal.τ).loc Cert.WeightsRefIdeal.main_arg0))
      ∧ m ((c.tc : Thread Cert.WeightsIdeal.nD Cert.WeightsIdeal.τ).loc Cert.WeightsIdeal.main_arg1) = Layout.block ⟨2, ![32, 768]⟩ ⟨2, ![256, 768]⟩ 0 8 c (m' (((0 : Dev Cert.WeightsRefIdeal.nD).tc : Thread Cert.WeightsRefIdeal.nD Cert.WeightsRefIdeal.τ).loc Cert.WeightsRefIdeal.main_arg1))
      ∧ m ((c.tc : Thread Cert.WeightsIdeal.nD Cert.WeightsIdeal.τ).loc Cert.WeightsIdeal.main_arg2) = Layout.block ⟨2, ![128, 1024]⟩ ⟨2, ![1024, 1024]⟩ 0 8 c (m' (((0 : Dev Cert.WeightsRefIdeal.nD).tc : Thread Cert.WeightsRefIdeal.nD Cert.WeightsRefIdeal.τ).loc Cert.WeightsRefIdeal.main_arg2))
      ∧ m ((c.tc : Thread Cert.WeightsIdeal.nD Cert.WeightsIdeal.τ).loc Cert.WeightsIdeal.main_arg3) = Layout.block ⟨2, ![704, 1024]⟩ ⟨2, ![5632, 1024]⟩ 0 8 c (m' (((0 : Dev Cert.WeightsRefIdeal.nD).tc : Thread Cert.WeightsRefIdeal.nD Cert.WeightsRefIdeal.τ).loc Cert.WeightsRefIdeal.main_arg3))
      ∧ m ((c.tc : Thread Cert.WeightsIdeal.nD Cert.WeightsIdeal.τ).loc Cert.WeightsIdeal.main_arg4) = Layout.block ⟨2, ![352, 1024]⟩ ⟨2, ![2816, 1024]⟩ 0 8 c (m' (((0 : Dev Cert.WeightsRefIdeal.nD).tc : Thread Cert.WeightsRefIdeal.nD Cert.WeightsRefIdeal.τ).loc Cert.WeightsRefIdeal.main_arg4))
      ∧ m ((c.tc : Thread Cert.WeightsIdeal.nD Cert.WeightsIdeal.τ).loc Cert.WeightsIdeal.main_arg5) = Layout.block ⟨2, ![8, 704]⟩ ⟨2, ![64, 704]⟩ 0 8 c (m' (((0 : Dev Cert.WeightsRefIdeal.nD).tc : Thread Cert.WeightsRefIdeal.nD Cert.WeightsRefIdeal.τ).loc Cert.WeightsRefIdeal.main_arg5))) :
    ∃ (v0 : Buf (Elt F) (((0 : Dev Cert.WeightsRefIdeal.nD).tc : Thread Cert.WeightsRefIdeal.nD Cert.WeightsRefIdeal.τ).loc Cert.WeightsRefIdeal.main_v0)) (v1 : Buf (Elt F) (((0 : Dev Cert.WeightsRefIdeal.nD).tc : Thread Cert.WeightsRefIdeal.nD Cert.WeightsRefIdeal.τ).loc Cert.WeightsRefIdeal.main_v1)) (v2 : Buf (Elt F) (((0 : Dev Cert.WeightsRefIdeal.nD).tc : Thread Cert.WeightsRefIdeal.nD Cert.WeightsRefIdeal.τ).loc Cert.WeightsRefIdeal.main_v2)) (v3 : Buf (Elt F) (((0 : Dev Cert.WeightsRefIdeal.nD).tc : Thread Cert.WeightsRefIdeal.nD Cert.WeightsRefIdeal.τ).loc Cert.WeightsRefIdeal.main_v3)) (v4 : Buf (Elt F) (((0 : Dev Cert.WeightsRefIdeal.nD).tc : Thread Cert.WeightsRefIdeal.nD Cert.WeightsRefIdeal.τ).loc Cert.WeightsRefIdeal.main_v4)) (v5 : Buf (Elt F) (((0 : Dev Cert.WeightsRefIdeal.nD).tc : Thread Cert.WeightsRefIdeal.nD Cert.WeightsRefIdeal.τ).loc Cert.WeightsRefIdeal.main_v5)),
      θ_run (Cert.WeightsIdeal.defs (F := F)) (onTc (τ := Cert.WeightsIdeal.τ) (Cert.WeightsIdeal.main (F := F))) ⟨m, fun _ => 0, g⟩ (fun r => ∀ c : Dev Cert.WeightsIdeal.nD,
          r.2.mem ((c.tc : Thread Cert.WeightsIdeal.nD Cert.WeightsIdeal.τ).loc Cert.WeightsIdeal.main_v1_0) = v0
          ∧ r.2.mem ((c.tc : Thread Cert.WeightsIdeal.nD Cert.WeightsIdeal.τ).loc Cert.WeightsIdeal.main_v1_1) = v1
          ∧ r.2.mem ((c.tc : Thread Cert.WeightsIdeal.nD Cert.WeightsIdeal.τ).loc Cert.WeightsIdeal.main_v1_2) = v2
          ∧ r.2.mem ((c.tc : Thread Cert.WeightsIdeal.nD Cert.WeightsIdeal.τ).loc Cert.WeightsIdeal.main_v1_3) = v3
          ∧ r.2.mem ((c.tc : Thread Cert.WeightsIdeal.nD Cert.WeightsIdeal.τ).loc Cert.WeightsIdeal.main_v1_4) = v4
          ∧ r.2.mem ((c.tc : Thread Cert.WeightsIdeal.nD Cert.WeightsIdeal.τ).loc Cert.WeightsIdeal.main_v1_5) = v5
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
          ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
          ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5))
      ∧ θ_run (Cert.WeightsRefIdeal.defs (F := F)) (onTc (τ := Cert.WeightsRefIdeal.τ) (Cert.WeightsRefIdeal.main (F := F))) ⟨m', fun _ => 0, g'⟩ (fun r =>
          r.2.mem (((0 : Dev Cert.WeightsRefIdeal.nD).tc : Thread Cert.WeightsRefIdeal.nD Cert.WeightsRefIdeal.τ).loc Cert.WeightsRefIdeal.main_v0) = v0
          ∧ r.2.mem (((0 : Dev Cert.WeightsRefIdeal.nD).tc : Thread Cert.WeightsRefIdeal.nD Cert.WeightsRefIdeal.τ).loc Cert.WeightsRefIdeal.main_v1) = v1
          ∧ r.2.mem (((0 : Dev Cert.WeightsRefIdeal.nD).tc : Thread Cert.WeightsRefIdeal.nD Cert.WeightsRefIdeal.τ).loc Cert.WeightsRefIdeal.main_v2) = v2
          ∧ r.2.mem (((0 : Dev Cert.WeightsRefIdeal.nD).tc : Thread Cert.WeightsRefIdeal.nD Cert.WeightsRefIdeal.τ).loc Cert.WeightsRefIdeal.main_v3) = v3
          ∧ r.2.mem (((0 : Dev Cert.WeightsRefIdeal.nD).tc : Thread Cert.WeightsRefIdeal.nD Cert.WeightsRefIdeal.τ).loc Cert.WeightsRefIdeal.main_v4) = v4
          ∧ r.2.mem (((0 : Dev Cert.WeightsRefIdeal.nD).tc : Thread Cert.WeightsRefIdeal.nD Cert.WeightsRefIdeal.τ).loc Cert.WeightsRefIdeal.main_v5) = v5
          ∧ r.2.mem (((0 : Dev Cert.WeightsRefIdeal.nD).tc : Thread Cert.WeightsRefIdeal.nD Cert.WeightsRefIdeal.τ).loc Cert.WeightsRefIdeal.main_arg0) = m' (((0 : Dev Cert.WeightsRefIdeal.nD).tc : Thread Cert.WeightsRefIdeal.nD Cert.WeightsRefIdeal.τ).loc Cert.WeightsRefIdeal.main_arg0)
          ∧ r.2.mem (((0 : Dev Cert.WeightsRefIdeal.nD).tc : Thread Cert.WeightsRefIdeal.nD Cert.WeightsRefIdeal.τ).loc Cert.WeightsRefIdeal.main_arg1) = m' (((0 : Dev Cert.WeightsRefIdeal.nD).tc : Thread Cert.WeightsRefIdeal.nD Cert.WeightsRefIdeal.τ).loc Cert.WeightsRefIdeal.main_arg1)
          ∧ r.2.mem (((0 : Dev Cert.WeightsRefIdeal.nD).tc : Thread Cert.WeightsRefIdeal.nD Cert.WeightsRefIdeal.τ).loc Cert.WeightsRefIdeal.main_arg2) = m' (((0 : Dev Cert.WeightsRefIdeal.nD).tc : Thread Cert.WeightsRefIdeal.nD Cert.WeightsRefIdeal.τ).loc Cert.WeightsRefIdeal.main_arg2)
          ∧ r.2.mem (((0 : Dev Cert.WeightsRefIdeal.nD).tc : Thread Cert.WeightsRefIdeal.nD Cert.WeightsRefIdeal.τ).loc Cert.WeightsRefIdeal.main_arg3) = m' (((0 : Dev Cert.WeightsRefIdeal.nD).tc : Thread Cert.WeightsRefIdeal.nD Cert.WeightsRefIdeal.τ).loc Cert.WeightsRefIdeal.main_arg3)
          ∧ r.2.mem (((0 : Dev Cert.WeightsRefIdeal.nD).tc : Thread Cert.WeightsRefIdeal.nD Cert.WeightsRefIdeal.τ).loc Cert.WeightsRefIdeal.main_arg4) = m' (((0 : Dev Cert.WeightsRefIdeal.nD).tc : Thread Cert.WeightsRefIdeal.nD Cert.WeightsRefIdeal.τ).loc Cert.WeightsRefIdeal.main_arg4)
          ∧ r.2.mem (((0 : Dev Cert.WeightsRefIdeal.nD).tc : Thread Cert.WeightsRefIdeal.nD Cert.WeightsRefIdeal.τ).loc Cert.WeightsRefIdeal.main_arg5) = m' (((0 : Dev Cert.WeightsRefIdeal.nD).tc : Thread Cert.WeightsRefIdeal.nD Cert.WeightsRefIdeal.τ).loc Cert.WeightsRefIdeal.main_arg5)) := by
  refine ⟨_, _, _, _, _, _, ?_, (θ_run Cert.WeightsRefIdeal.defs _ _).mono (fun r h => h 0) (Cert.WeightsRefIdeal.Value.run (F := F) m' g')⟩
  exact (θ_run Cert.WeightsIdeal.defs _ _).mono (fun r h c => ⟨((h.1 c).2 0).trans ((View.write_whole_univ Cert.WeightsIdeal.main_v1_0 _ _).trans (together_block (R := 256) (N := 1024) (R' := 2048) (parts.start m 0) _ (by decide) (fun d => (ha d).1)
        Cert.WeightsRefIdeal.Gen.shapeCasts_S2048x1024_S8x256x1024)),
      ((h.1 c).2 1).trans ((View.write_whole_univ Cert.WeightsIdeal.main_v1_1 _ _).trans (together_block (R := 32) (N := 768) (R' := 256) (parts.start m 1) _ (by decide) (fun d => (ha d).2.1)
        Cert.WeightsRefIdeal.Gen.shapeCasts_S256x768_S8x32x768)),
      ((h.1 c).2 2).trans ((View.write_whole_univ Cert.WeightsIdeal.main_v1_2 _ _).trans (together_block (R := 128) (N := 1024) (R' := 1024) (parts.start m 2) _ (by decide) (fun d => (ha d).2.2.1)
        Cert.WeightsRefIdeal.Gen.shapeCasts_S1024x1024_S8x128x1024)),
      ((h.1 c).2 3).trans ((View.write_whole_univ Cert.WeightsIdeal.main_v1_3 _ _).trans (together_block (R := 704) (N := 1024) (R' := 5632) (parts.start m 3) _ (by decide) (fun d => (ha d).2.2.2.1)
        Cert.WeightsRefIdeal.Gen.shapeCasts_S5632x1024_S8x704x1024)),
      ((h.1 c).2 4).trans ((View.write_whole_univ Cert.WeightsIdeal.main_v1_4 _ _).trans (together_block (R := 352) (N := 1024) (R' := 2816) (parts.start m 4) _ (by decide) (fun d => (ha d).2.2.2.2.1)
        Cert.WeightsRefIdeal.Gen.shapeCasts_S2816x1024_S8x352x1024)),
      ((h.1 c).2 5).trans ((View.write_whole_univ Cert.WeightsIdeal.main_v1_5 _ _).trans (together_block (R := 8) (N := 704) (R' := 64) (parts.start m 5) _ (by decide) (fun d => (ha d).2.2.2.2.2)
        Cert.WeightsRefIdeal.Gen.shapeCasts_S64x704_S8x8x704)),
      (h.1 c).1 0,
      (h.1 c).1 1,
      (h.1 c).1 2,
      (h.1 c).1 3,
      (h.1 c).1 4,
      (h.1 c).1 5⟩)
    (run_main (F := F) m g)

/-- The gather computes the reference's results bit for bit. -/
theorem bitexact : Cert.bitexact_Weights_WeightsRef := fun m g m' g' _ ha => value (F := Bits) m g m' g' ha

/-- The gather computes the reference's results over exact values. -/
theorem algebraic : Cert.algebraic_WeightsIdeal_WeightsRefIdeal := fun m g m' g' _ ha => value (F := Ideal) m g m' g' ha

end Cert.WeightsGather

end
-- ==== Proof.SmallGather.lean ====
/-
  The gather of the small gradients, two arrays: its parts, its body, and its run.
-/
module

public import proofs.«01_k».proof.Proof.GatherParts
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points

@[expose] public section

set_option Elab.async false

noncomputable section

namespace Cert.SmallGather

open Cert.SmallIdeal Cert.SmallIdeal.Gen
open Cert.Exchange Cert.Gather
open Idealize.ShloMosaic
open Idealize.ShloMosaic.TcCoe
open Idealize.SL Idealize.SL.RA Idealize.SL.BI
open scoped Idealize.SL.BI
open Idealize.SL.BI.BIBase Idealize.SL.BI.Laws Idealize.SL.Sem

/-- The sizes of a block of each array. -/
abbrev rows : Fin 2 → ℕ
  | 0 => 144
  | 1 => 8
abbrev cols : Fin 2 → ℕ
  | 0 => 1024
  | 1 => 704

/-- The buffers of the blocks. -/
abbrev src : (a : Fin 2) → Memref sig .tc .hbm (Flat (rows a) (cols a)) .f32
  | 0 => Memref.whole main_arg0
  | 1 => Memref.whole main_arg1
/-- The buffers of the results. -/
abbrev dst : (a : Fin 2) → Memref sig .tc .hbm (Slabs (rows a) (cols a)) .f32
  | 0 => Memref.whole main_v1_0
  | 1 => Memref.whole main_v1_1

theorem src_whole : ∀ a, (src a).IsWhole
  | 0 => Memref.isWhole_whole _
  | 1 => Memref.isWhole_whole _
theorem dst_whole : ∀ a, (dst a).IsWhole
  | 0 => Memref.isWhole_whole _
  | 1 => Memref.isWhole_whole _
theorem dst_open : ∀ a, (dst a).view.ref.isScScratch = false
  | 0 => rfl
  | 1 => rfl
theorem squeezes : ∀ a, (Slab1 (rows a) (cols a)).Squeezes (Flat (rows a) (cols a))
  | 0 => squeezes_S1x144x1024_S144x1024
  | 1 => squeezes_S1x8x704_S8x704

/-- The offsets the kernel computes of the slabs it names. -/
def own : Fin 2 → Fin 8 → Fin 3 → ℕ := ![k0_off1, k0_off2]
def near : Fin 2 → Fin 4 → Fin 8 → Fin 3 → ℕ :=
  ![![k0_off9, k0_off3, k0_off5, k0_off7], ![k0_off13, k0_off4, k0_off6, k0_off8]]
def far : Fin 2 → Fin 3 → Fin 8 → Fin 3 → ℕ :=
  ![![k0_off10, k0_off11, k0_off12], ![k0_off14, k0_off15, k0_off16]]

theorem own_eq : ∀ a c, own a c = ![c.val, 0, 0] := by decide +kernel
theorem near_eq : ∀ a k c, near a k c = ![(peer c (nearPeer k)).val, 0, 0] := by decide +kernel
theorem far_eq : ∀ a j c, far a j c = ![(peer c (farPeer j)).val, 0, 0] := by decide +kernel

/-- The device each transfer goes to, as the kernel computes it. -/
def target (c : Dev nD) : Fin 2 → Fin 7 → Fin 8 :=
  ![![⟨k0_dev1 c, k0_dev1_lt c⟩, ⟨k0_dev2 c, k0_dev2_lt c⟩, ⟨k0_dev3 c, k0_dev3_lt c⟩, ⟨k0_dev4 c, k0_dev4_lt c⟩,
      ⟨k0_dev9 c, k0_dev9_lt c⟩, ⟨k0_dev11 c, k0_dev11_lt c⟩, ⟨k0_dev13 c, k0_dev13_lt c⟩],
    ![⟨k0_dev5 c, k0_dev5_lt c⟩, ⟨k0_dev6 c, k0_dev6_lt c⟩, ⟨k0_dev7 c, k0_dev7_lt c⟩, ⟨k0_dev8 c, k0_dev8_lt c⟩,
      ⟨k0_dev10 c, k0_dev10_lt c⟩, ⟨k0_dev12 c, k0_dev12_lt c⟩, ⟨k0_dev14 c, k0_dev14_lt c⟩]]

theorem inb_own (a : Fin 2) : ∀ i, (![a.val] : Fin 1 → ℕ) i + S1.size i ≤ S2.size i := by revert a; decide
theorem inb_pair (a : Fin 2) (r : Fin 7) : ∀ i, (![7 * a.val + r.val] : Fin 1 → ℕ) i + S1.size i ≤ S14.size i := by revert a r; decide

/-- The parts of the gather of the small gradients. -/
def parts : Parts sig 2 where
  rows := rows
  cols := cols
  elt _ := .f32
  src := src
  srcWhole := src_whole
  all := dst
  allWhole := dst_whole
  allOpen := dst_open
  squeezes := squeezes
  own := own
  own_eq := own_eq
  near := near
  near_eq := near_eq
  far := far
  far_eq := far_eq
  exact _ _ := View.wordExact_bits rfl
  target := target
  semOwn a := ((cc0_scratch2.slice (Rect.unit (s := S2) ![a.val] S1.size (inb_own a))).squeeze S_ squeezes_S1_S_).sem
  semOut a r := ((cc0_scratch0.slice (Rect.unit (s := S14) ![7 * a.val + r.val] S1.size (inb_pair a r))).squeeze S_ squeezes_S1_S_).sem
  semIn a r := ((cc0_scratch1.slice (Rect.unit (s := S14) ![7 * a.val + r.val] S1.size (inb_pair a r))).squeeze S_ squeezes_S1_S_).sem
  arrays := [0, 1]
  quads := [(0, 0), (0, 1), (0, 2), (0, 3), (1, 0), (1, 1), (1, 2), (1, 3)]
  trips := [(0, 0), (1, 0), (0, 1), (1, 1), (0, 2), (1, 2)]

set_option synthInstance.maxSize 4096 in
theorem sem_inj : Function.Injective parts.kit.semOf := by
  have h : ∀ i j : CellIx 2, parts.kit.semOf i = parts.kit.semOf j → i = j := by decide +kernel
  exact fun i j => h i j

theorem sem_scoped : ∀ i : CellIx 2, (parts.kit.semOf i).isScoped .tc = true := by decide +kernel
theorem target_near : ∀ (c : Fin 8) a k, target c a (nearIx k) = peer c (nearPeer k) := by decide +kernel
theorem target_far : ∀ (c : Fin 8) a j, target c a (farIx j) = peer c 0 := by decide +kernel

theorem credit_src : ∀ a, (parts.src a).view.dmaCredit = (parts.at_ a (parts.own a 0) ⟨0, parts.own_eq a 0⟩).view.dmaCredit
  | 0 => by decide +kernel
  | 1 => by decide +kernel

theorem laws : parts.Laws where
  sem_inj := sem_inj
  sem_scoped := sem_scoped
  target_near := target_near
  target_far := target_far
  credit_src := credit_src
  block_pos := by decide +kernel
  arrays_nodup := by decide
  arrays_all := by decide
  quads_nodup := by decide
  quads_all := by decide
  trips_nodup := by decide
  trips_all := by decide

variable {F : FTy → Type} [FloatOps F]

set_option maxRecDepth 100000 in
set_option maxHeartbeats 4000000 in
/-- The kernel is the kit's body, once it has asked which device it runs on. -/
theorem bodyAt0_eq (t : Fin cfg0.N) : bodyAt0 (F := F) t = .op .deviceId (fun c => parts.kit.body c) := rfl

/-- The kernel's program is that body at its one point. -/
theorem program_eq (t : Fin cfg0.N) (s) : defs₀ (F := F) .tc cfg0.body (cfg0.bodyArgs t s) = bodyAt0 (F := F) t := rfl

theorem refs_inj : Function.Injective (Sum.elim parts.srcRef parts.dstRef) := by
  have h : ∀ i j, Sum.elim parts.srcRef parts.dstRef i = Sum.elim parts.srcRef parts.dstRef j → i = j := by decide
  exact fun i j => h i j

/-- The whole run: every device's blocks end as they began, and its results hold the blocks of all devices. -/
theorem run_main (m : (ℓ : Loc nD τ sig) → Buf (Elt F) ℓ) (ρ : Dev nD → PrngReg) :
    θ_run (Cert.SmallIdeal.defs (F := F)) (onTc (τ := τ) (Cert.SmallIdeal.main (F := F))) ⟨m, fun _ => 0, ρ⟩
      (fun r => (∀ c, Ends m parts.srcRef parts.dstRef (parts.final m) c r.2) ∧ r.2.sem = fun _ => 0) :=
  Gather.run_main parts.kit (parts.kit_laws laws) m parts.srcRef parts.dstRef grid0 win0 cfg0.body cfg0.bodyArgs N_0 defs₀
    cellOf_inj (parts.final m) refs_inj (by decide) (by decide) (parts.src_whole m) (parts.dst_old m) (parts.dst_new m)
    (fun c t s Q => by
      rw [show defs₀ (F := F) .tc cfg0.body (cfg0.bodyArgs t s) = .op .deviceId (fun c => parts.kit.body c) from (program_eq t s).trans (bodyAt0_eq t), wp_deviceId])
    main (fun _ => rfl) ρ

end Cert.SmallGather

end
-- ==== Proof.SmallClaims.lean ====
/-
  The claims about the gather of the small gradients: the frames of its programs, and that every device ends with the reference's
  results, bit for bit and over exact values alike.
-/
module

public import proofs.«01_k».proof.Defs
public import proofs.«01_k».proof.Proof.Gen.Small
public import proofs.«01_k».proof.Proof.Gen.SmallRef
public import proofs.«01_k».proof.Proof.Gen.SmallRefIdeal
public import proofs.«01_k».proof.Proof.Gen.SmallRefIdeal.Run
public import proofs.«01_k».proof.Proof.SmallGather
public import Idealize.ShloMosaic.Adequacy
public import Idealize.ShloMosaic.Init

@[expose] public section

set_option Elab.async false

noncomputable section

namespace Cert.SmallGather

open Idealize.ShloMosaic Idealize.SL.Sem Cert.Gather

/-- The gather ends with its arrays unchanged and every counter at zero. -/
theorem frame_kernel : Cert.quiescent_Small := fun m ρ _ =>
  (θ_run Cert.SmallIdeal.defs _ _).mono (fun _ h => ⟨fun c => ⟨(h.1 c).1 0, (h.1 c).1 1⟩, h.2⟩) (run_main (F := Bits) m ρ)

/-- So does the gather over exact values. -/
theorem frame_kernelIdeal : Cert.quiescent_SmallIdeal := fun m ρ _ =>
  (θ_run Cert.SmallIdeal.defs _ _).mono (fun _ h => ⟨fun c => ⟨(h.1 c).1 0, (h.1 c).1 1⟩, h.2⟩) (run_main (F := Ideal) m ρ)

/-- The reference ends with its arrays unchanged; it has no counters. -/
theorem frame_reference : Cert.quiescent_SmallRef := fun m ρ _ =>
  (θ_run Cert.SmallRefIdeal.defs _ _).mono (fun r h => ⟨fun c => (h c).2.2, sem_eq_zero_of_no_sems (by decide) r.2⟩) (Cert.SmallRefIdeal.Value.run (F := Bits) m ρ)

/-- So does the reference over exact values. -/
theorem frame_referenceIdeal : Cert.quiescent_SmallRefIdeal := fun m ρ _ =>
  (θ_run Cert.SmallRefIdeal.defs _ _).mono (fun r h => ⟨fun c => (h c).2.2, sem_eq_zero_of_no_sems (by decide) r.2⟩) (Cert.SmallRefIdeal.Value.run (F := Ideal) m ρ)

variable {F : FTy → Type} [FloatOps F]

/-- For any float values: from memories where each device holds its block of the reference's arrays, every device ends
    with the reference's results, and both programs' arrays are unchanged. -/
theorem value (m : (ℓ : Loc Cert.SmallIdeal.nD Cert.SmallIdeal.τ Cert.SmallIdeal.sig) → Buf (Elt F) ℓ) (g : Dev Cert.SmallIdeal.nD → PrngReg)
    (m' : (ℓ : Loc Cert.SmallRefIdeal.nD Cert.SmallRefIdeal.τ Cert.SmallRefIdeal.sig) → Buf (Elt F) ℓ) (g' : Dev Cert.SmallRefIdeal.nD → PrngReg)
    (ha : ∀ c : Dev Cert.SmallIdeal.nD,
      m ((c.tc : Thread Cert.SmallIdeal.nD Cert.SmallIdeal.τ).loc Cert.SmallIdeal.main_arg0) = Layout.block ⟨2, ![144, 1024]⟩ ⟨2, ![1152, 1024]⟩ 0 8 c (m' (((0 : Dev Cert.SmallRefIdeal.nD).tc : Thread Cert.SmallRefIdeal.nD Cert.SmallRefIdeal.τ).loc Cert.SmallRefIdeal.main_arg0))
      ∧ m ((c.tc : Thread Cert.SmallIdeal.nD Cert.SmallIdeal.τ).loc Cert.SmallIdeal.main_arg1) = Layout.block ⟨2, ![8, 704]⟩ ⟨2, ![64, 704]⟩ 0 8 c (m' (((0 : Dev Cert.SmallRefIdeal.nD).tc : Thread Cert.SmallRefIdeal.nD Cert.SmallRefIdeal.τ).loc Cert.SmallRefIdeal.main_arg1))) :
    ∃ (v0 : Buf (Elt F) (((0 : Dev Cert.SmallRefIdeal.nD).tc : Thread Cert.SmallRefIdeal.nD Cert.SmallRefIdeal.τ).loc Cert.SmallRefIdeal.main_v0)) (v1 : Buf (Elt F) (((0 : Dev Cert.SmallRefIdeal.nD).tc : Thread Cert.SmallRefIdeal.nD Cert.SmallRefIdeal.τ).loc Cert.SmallRefIdeal.main_v1)),
      θ_run (Cert.SmallIdeal.defs (F := F)) (onTc (τ := Cert.SmallIdeal.τ) (Cert.SmallIdeal.main (F := F))) ⟨m, fun _ => 0, g⟩ (fun r => ∀ c : Dev Cert.SmallIdeal.nD,
          r.2.mem ((c.tc : Thread Cert.SmallIdeal.nD Cert.SmallIdeal.τ).loc Cert.SmallIdeal.main_v1_0) = v0
          ∧ r.2.mem ((c.tc : Thread Cert.SmallIdeal.nD Cert.SmallIdeal.τ).loc Cert.SmallIdeal.main_v1_1) = v1
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ θ_run (Cert.SmallRefIdeal.defs (F := F)) (onTc (τ := Cert.SmallRefIdeal.τ) (Cert.SmallRefIdeal.main (F := F))) ⟨m', fun _ => 0, g'⟩ (fun r =>
          r.2.mem (((0 : Dev Cert.SmallRefIdeal.nD).tc : Thread Cert.SmallRefIdeal.nD Cert.SmallRefIdeal.τ).loc Cert.SmallRefIdeal.main_v0) = v0
          ∧ r.2.mem (((0 : Dev Cert.SmallRefIdeal.nD).tc : Thread Cert.SmallRefIdeal.nD Cert.SmallRefIdeal.τ).loc Cert.SmallRefIdeal.main_v1) = v1
          ∧ r.2.mem (((0 : Dev Cert.SmallRefIdeal.nD).tc : Thread Cert.SmallRefIdeal.nD Cert.SmallRefIdeal.τ).loc Cert.SmallRefIdeal.main_arg0) = m' (((0 : Dev Cert.SmallRefIdeal.nD).tc : Thread Cert.SmallRefIdeal.nD Cert.SmallRefIdeal.τ).loc Cert.SmallRefIdeal.main_arg0)
          ∧ r.2.mem (((0 : Dev Cert.SmallRefIdeal.nD).tc : Thread Cert.SmallRefIdeal.nD Cert.SmallRefIdeal.τ).loc Cert.SmallRefIdeal.main_arg1) = m' (((0 : Dev Cert.SmallRefIdeal.nD).tc : Thread Cert.SmallRefIdeal.nD Cert.SmallRefIdeal.τ).loc Cert.SmallRefIdeal.main_arg1)) := by
  refine ⟨_, _, ?_, (θ_run Cert.SmallRefIdeal.defs _ _).mono (fun r h => h 0) (Cert.SmallRefIdeal.Value.run (F := F) m' g')⟩
  exact (θ_run Cert.SmallIdeal.defs _ _).mono (fun r h c => ⟨((h.1 c).2 0).trans ((View.write_whole_univ Cert.SmallIdeal.main_v1_0 _ _).trans (together_block (R := 144) (N := 1024) (R' := 1152) (parts.start m 0) _ (by decide) (fun d => (ha d).1)
        Cert.SmallRefIdeal.Gen.shapeCasts_S1152x1024_S8x144x1024)),
      ((h.1 c).2 1).trans ((View.write_whole_univ Cert.SmallIdeal.main_v1_1 _ _).trans (together_block (R := 8) (N := 704) (R' := 64) (parts.start m 1) _ (by decide) (fun d => (ha d).2)
        Cert.SmallRefIdeal.Gen.shapeCasts_S64x704_S8x8x704)),
      (h.1 c).1 0,
      (h.1 c).1 1⟩)
    (run_main (F := F) m g)

/-- The gather computes the reference's results bit for bit. -/
theorem bitexact : Cert.bitexact_Small_SmallRef := fun m g m' g' _ ha => value (F := Bits) m g m' g' ha

/-- The gather computes the reference's results over exact values. -/
theorem algebraic : Cert.algebraic_SmallIdeal_SmallRefIdeal := fun m g m' g' _ ha => value (F := Ideal) m g m' g' ha

end Cert.SmallGather

end
-- ==== Proof.AdamW.lean ====
/-
  The AdamW update, element by element, over exact values: what the update of one weight is from the parts of its
  gradient, and that the reference's composed terms over whole arrays are that.
-/
module

public import Idealize.ShloMosaic.Lib.Pointwise
public import Idealize.ShloMosaic.Lib.IdealHost
public import Idealize.ShloMosaic.Lib.StableHlo

@[expose] public section

noncomputable section

namespace Cert.AdamW

open Idealize.ShloMosaic

/-! ## One element -/

/-- The new first moment from the gradient and the old one. -/
def mom (g m : EReal) : EReal := Ideal.ofBits .f32 0x3F666666#32 * m + Ideal.ofBits .f32 0x3DCCCCCD#32 * g

/-- The new second moment from the gradient and the old one. -/
def var (g v : EReal) : EReal := Ideal.ofBits .f32 0x3F7FBE77#32 * v + Ideal.ofBits .f32 0x3A83126F#32 * (g * g)

/-- The weight's change from the weight and the new moments. -/
def step (w m v : EReal) : EReal :=
  Ideal.ofBits .f32 0xBA83126F#32
    * (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

/-! ## Whole arrays -/

/-- A number of matrices given side by side, added up. -/
def total {n R N : Nat} (p : (⟨3, ![n, R, N]⟩ : Shape).Idx → EReal) : (⟨2, ![R, N]⟩ : Shape).Idx → EReal :=
  fun i => ∑ k : Fin n, p (ix3 k (i 0) (i 1))

/-- The new first moments of a weight matrix. -/
def momOf {s : Shape} (g m : s.Idx → EReal) : s.Idx → EReal := fun i => mom (g i) (m i)

/-- The new second moments of a weight matrix. -/
def varOf {s : Shape} (g v : s.Idx → EReal) : s.Idx → EReal := fun i => var (g i) (v i)

/-- The change of a weight matrix. -/
def stepOf {s : Shape} (g w m v : s.Idx → EReal) : s.Idx → EReal :=
  fun i => step (w i) (mom (g i) (m i)) (var (g i) (v i))

variable {S : Shape} {n R N : Nat}

/-- The host's sum over the first axis, started at zero, is the total. -/
theorem total_host (p : FVec Ideal ⟨3, ![n, R, N]⟩ .f32) (h : (⟨3, ![n, R, N]⟩ : Shape).ReducesTo [0] ⟨2, ![R, N]⟩)
    (hu : (0 : Nat) < (⟨0, ![]⟩ : Shape).numel) :
    Host.reduceAdd p (constant (F := Ideal) ⟨0, ![]⟩ .f32 0x00000000#32) h hu = total p := by
  funext i
  pointwise [total]

/-- The same where the parts are widened first, which changes no exact value. -/
theorem total_host_widened (p : FVec Ideal ⟨3, ![n, R, N]⟩ .bf16) (hw : FTy.bits .bf16 < FTy.bits .f32)
    (h : (⟨3, ![n, R, N]⟩ : Shape).ReducesTo [0] ⟨2, ![R, N]⟩) (hu : (0 : Nat) < (⟨0, ![]⟩ : Shape).numel) :
    Host.reduceAdd (extf .f32 p hw) (constant (F := Ideal) ⟨0, ![]⟩ .f32 0x00000000#32) h hu = total (n := n) (R := R) (N := N) p := by
  funext i
  pointwise [total]

/-- A number spread over an array, as the host does it. -/
abbrev spread (b : (⟨0, ![]⟩ : Shape).BroadcastsInDim S (![] : Fin 0 → Fin S.rank)) (w : BitVec 32) : FVec Ideal S .f32 :=
  broadcastInDim S ![] b (constant (F := Ideal) ⟨0, ![]⟩ .f32 w)

variable (b : (⟨0, ![]⟩ : Shape).BroadcastsInDim S (![] : Fin 0 → Fin S.rank)) (g w m v : FVec Ideal S .f32)

/-- The host's new first moments. -/
theorem mom_host : addf (mulf (spread b 0x3F666666#32) m) (mulf (spread b 0x3DCCCCCD#32) g) = momOf g m := rfl

/-- The host's new second moments. -/
theorem var_host : addf (mulf (spread b 0x3F7FBE77#32) v) (mulf (spread b 0x3A83126F#32) (mulf g g)) = varOf g v := rfl

/-- The host's change of the weights. -/
theorem step_host :
    mulf (spread b 0xBA83126F#32)
      (addf (Host.divf (Host.divf (addf (mulf (spread b 0x3F666666#32) m) (mulf (spread b 0x3DCCCCCD#32) g)) (spread b 0x3F26BD02#32))
          (addf (Host.sqrt (Host.divf (addf (mulf (spread b 0x3F7FBE77#32) v) (mulf (spread b 0x3A83126F#32) (mulf g g))) (spread b 0x3C231ACC#32)))
            (spread b 0x322BCC77#32)))
        (mulf (spread b 0x3C23D70A#32) w)) = stepOf g w m v := rfl

end Cert.AdamW
-- ==== Proof.AdamDown.lean ====
/-
  The update of the down projection: the parts of its gradient are added up and AdamW takes one step.
-/
module

public import proofs.«01_k».proof.Defs
public import proofs.«01_k».proof.Proof.AdamW
public import proofs.«01_k».proof.Proof.Gen.Down
public import proofs.«01_k».proof.Proof.Gen.DownIdeal
public import proofs.«01_k».proof.Proof.Gen.DownIdeal.Value
public import proofs.«01_k».proof.Proof.Gen.DownRefIdeal
public import proofs.«01_k».proof.Proof.Gen.DownRefIdeal.Run
public import Idealize.ShloMosaic.Lib.Pipeline.ValueKit
public import Idealize.ShloMosaic.Lib.Pointwise

@[expose] public section

noncomputable section

namespace Cert.AdamDown

open Cert.DownIdeal Cert.DownIdeal.Gen Idealize.ShloMosaic Idealize.ShloMosaic.TcCoe Idealize.SL.Sem Cert.AdamW
open Idealize.ShloMosaic.Pipeline (Dat)

variable (m : (ℓ : Loc nD τ sig) → Buf (Elt Ideal) ℓ) (c : Dev nD)

/-- The gradient of device `c`: its parts added up. -/
abbrev grad : FVec Ideal S352x1024 .f32 := total (n := 8) (R := 352) (N := 1024) (m ((c : Thread nD τ).loc main_arg0))

/-- The sum that a grid step takes of its block of the parts is its block of the gradient. -/
theorem pay_grad (t : Fin cfg0.N) (y : S176x1024.Idx) :
    k0_pay5 (iblk m c 0 t) (iblk m c 1 t) (iblk m c 2 t) (iblk m c 3 t) y = grad m c ((win0_4.blk t).view.emb y) := by
  have e0 : ∀ t : Fin cfg0.N, win0_0.index t = ![0, (t : Nat), 0] := (by decide +kernel : ∀ t : Fin grid0.N, _)
  have e4 : ∀ t : Fin cfg0.N, win0_4.index t = ![(t : Nat), 0] := (by decide +kernel : ∀ t : Fin grid0.N, _)
  have e : ∀ k : Fin 8, (win0_0.blk t).view.emb (ix3 k (y 0) (y 1)) = ix3 k ((win0_4.blk t).view.emb y 0) ((win0_4.blk t).view.emb y 1) :=
    fun k => by blk_ext [e0, e4]
  pointwise [k0_pay5, k0_pay4, grad, total]
  blk_simp [iblk]
  simp only [e, Fin.sum_univ_eight]
  rfl

/-- What the call leaves: the gradient, the change of the weights and the new moments. -/
theorem finals :
    (dats m 0 c).arrAt 4 cfg0.N = grad m c
    ∧ (dats m 0 c).arrAt 5 cfg0.N = stepOf (grad m c) (m ((c : Thread nD τ).loc main_arg1)) (m ((c : Thread nD τ).loc main_arg2)) (m ((c : Thread nD τ).loc main_arg3))
    ∧ (dats m 0 c).arrAt 6 cfg0.N = momOf (grad m c) (m ((c : Thread nD τ).loc main_arg2))
    ∧ (dats m 0 c).arrAt 7 cfg0.N = varOf (grad m c) (m ((c : Thread nD τ).loc main_arg3)) := by
  refine ⟨?_, ?_, ?_, ?_⟩ <;> refine (dats m 0 c).arrAt_eq_of_covers _ _ (by decide +kernel) fun t hf y => ?_ <;> blk_simp
  · rw [after0_4]
    frame_out
    exact pay_grad m c t y
  · rw [after0_5]
    frame_out
    pointwise [k0_pay3, k0_pay1, k0_pay2]
    rw [pay_grad]
    blk_simp [iblk]
    rfl
  · rw [after0_6]
    frame_out
    exact congrArg (mom · _) (pay_grad m c t y)
  · rw [after0_7]
    frame_out
    exact congrArg (var · _) (pay_grad m c t y)

/-- The two programs have the same bodies. -/
theorem same_defs : (Cert.Down.defs (F := Bits)) = Cert.DownIdeal.defs (F := Bits) :=
  congrArg (Pipeline.defs Cert.DownIdeal.pcfgs) (congrArg Defs.onTc (funext fun l => funext fun x => match l, x with | 0, _ => rfl))

/-- The call ends with its arguments unchanged and every counter at zero. -/
theorem frame_kernel : Cert.quiescent_Down := fun m ρ _ => by
  rw [same_defs]
  exact Cert.DownIdeal.Gen.frame (F := Bits) m ρ

/-- So does the call over exact values. -/
theorem frame_kernelIdeal : Cert.quiescent_DownIdeal := fun m ρ _ => Cert.DownIdeal.Gen.frame (F := Ideal) m ρ

/-- The reference ends with its arrays unchanged; it has no counters. -/
theorem frame_referenceIdeal : Cert.quiescent_DownRefIdeal := fun m ρ _ =>
  (θ_run Cert.DownRefIdeal.defs _ _).mono (fun r h => ⟨fun c => (h c).2.2.2.2, sem_eq_zero_of_no_sems (by decide) r.2⟩)
    (Cert.DownRefIdeal.Value.run (F := Ideal) m ρ)

/-- The call computes the reference's four results over exact values. -/
theorem algebraic : Cert.algebraic_DownIdeal_DownRefIdeal := fun m g m' g' _ ha => by
  refine ⟨fun c => grad m c, fun c => stepOf (grad m c) (m ((c : Thread nD τ).loc main_arg1)) (m ((c : Thread nD τ).loc main_arg2)) (m ((c : Thread nD τ).loc main_arg3)),
    fun c => momOf (grad m c) (m ((c : Thread nD τ).loc main_arg2)), fun c => varOf (grad m c) (m ((c : Thread nD τ).loc main_arg3)), ?_, ?_⟩
  · refine (θ_run defs _ _).mono (fun r h c => ?_) (Cert.DownIdeal.Value.run_blocks m g)
    obtain ⟨h4, h5, h6, h7, hk⟩ := h c
    obtain ⟨f4, f5, f6, f7⟩ := finals m c
    exact ⟨h4.trans f4, h5.trans f5, h6.trans f6, h7.trans f7, hk⟩
  · refine (θ_run Cert.DownRefIdeal.defs _ _).mono (fun r h c => ?_) (Cert.DownRefIdeal.Value.run (F := Ideal) m' g')
    obtain ⟨h0, h1, h2, h3, hk⟩ := h c
    obtain ⟨a0, a1, a2, a3⟩ := ha c
    rw [total_host_widened, a0] at h0
    rw [step_host, total_host_widened, a0, a1, a2, a3] at h1
    rw [mom_host, total_host_widened, a0, a2] at h2
    rw [var_host, total_host_widened, a0, a3] at h3
    exact ⟨h0, h1, h2, h3, hk⟩

end Cert.AdamDown
-- ==== Proof.AdamUq.lean ====
/-
  The update of the queries' up projection: the parts of its gradient are added up and AdamW takes one step.
-/
module

public import proofs.«01_k».proof.Defs
public import proofs.«01_k».proof.Proof.AdamW
public import proofs.«01_k».proof.Proof.Gen.Uq
public import proofs.«01_k».proof.Proof.Gen.UqIdeal
public import proofs.«01_k».proof.Proof.Gen.UqIdeal.Value
public import proofs.«01_k».proof.Proof.Gen.UqRefIdeal
public import proofs.«01_k».proof.Proof.Gen.UqRefIdeal.Run
public import Idealize.ShloMosaic.Lib.Pipeline.ValueKit
public import Idealize.ShloMosaic.Lib.Pointwise

@[expose] public section

noncomputable section

namespace Cert.AdamUq

open Cert.UqIdeal Cert.UqIdeal.Gen Idealize.ShloMosaic Idealize.ShloMosaic.TcCoe Idealize.SL.Sem Cert.AdamW
open Idealize.ShloMosaic.Pipeline (Dat)

variable (m : (ℓ : Loc nD τ sig) → Buf (Elt Ideal) ℓ) (c : Dev nD)

/-- The gradient of device `c`: its parts added up. -/
abbrev grad : FVec Ideal S32x768 .f32 := total (n := 8) (R := 32) (N := 768) (m ((c : Thread nD τ).loc main_arg0))

/-- The sum that a grid step takes of its block of the parts is its block of the gradient. -/
theorem pay_grad (t : Fin cfg0.N) (y : S32x768.Idx) :
    k0_pay5 (iblk m c 0 t) (iblk m c 1 t) (iblk m c 2 t) (iblk m c 3 t) y = grad m c ((win0_4.blk t).view.emb y) := by
  have e0 : ∀ t : Fin cfg0.N, win0_0.index t = ![0, (t : Nat), 0] := (by decide +kernel : ∀ t : Fin grid0.N, _)
  have e4 : ∀ t : Fin cfg0.N, win0_4.index t = ![(t : Nat), 0] := (by decide +kernel : ∀ t : Fin grid0.N, _)
  have e : ∀ k : Fin 8, (win0_0.blk t).view.emb (ix3 k (y 0) (y 1)) = ix3 k ((win0_4.blk t).view.emb y 0) ((win0_4.blk t).view.emb y 1) :=
    fun k => by blk_ext [e0, e4]
  pointwise [k0_pay5, k0_pay4, grad, total]
  blk_simp [iblk]
  simp only [e, Fin.sum_univ_eight]
  rfl

/-- What the call leaves: the gradient, the change of the weights and the new moments. -/
theorem finals :
    (dats m 0 c).arrAt 4 cfg0.N = grad m c
    ∧ (dats m 0 c).arrAt 5 cfg0.N = stepOf (grad m c) (m ((c : Thread nD τ).loc main_arg1)) (m ((c : Thread nD τ).loc main_arg2)) (m ((c : Thread nD τ).loc main_arg3))
    ∧ (dats m 0 c).arrAt 6 cfg0.N = momOf (grad m c) (m ((c : Thread nD τ).loc main_arg2))
    ∧ (dats m 0 c).arrAt 7 cfg0.N = varOf (grad m c) (m ((c : Thread nD τ).loc main_arg3)) := by
  refine ⟨?_, ?_, ?_, ?_⟩ <;> refine (dats m 0 c).arrAt_eq_of_covers _ _ (by decide +kernel) fun t hf y => ?_ <;> blk_simp
  · rw [after0_4]
    frame_out
    exact pay_grad m c t y
  · rw [after0_5]
    frame_out
    pointwise [k0_pay3, k0_pay1, k0_pay2]
    rw [pay_grad]
    blk_simp [iblk]
    rfl
  · rw [after0_6]
    frame_out
    exact congrArg (mom · _) (pay_grad m c t y)
  · rw [after0_7]
    frame_out
    exact congrArg (var · _) (pay_grad m c t y)

/-- The two programs have the same bodies. -/
theorem same_defs : (Cert.Uq.defs (F := Bits)) = Cert.UqIdeal.defs (F := Bits) :=
  congrArg (Pipeline.defs Cert.UqIdeal.pcfgs) (congrArg Defs.onTc (funext fun l => funext fun x => match l, x with | 0, _ => rfl))

/-- The call ends with its arguments unchanged and every counter at zero. -/
theorem frame_kernel : Cert.quiescent_Uq := fun m ρ _ => by
  rw [same_defs]
  exact Cert.UqIdeal.Gen.frame (F := Bits) m ρ

/-- So does the call over exact values. -/
theorem frame_kernelIdeal : Cert.quiescent_UqIdeal := fun m ρ _ => Cert.UqIdeal.Gen.frame (F := Ideal) m ρ

/-- The reference ends with its arrays unchanged; it has no counters. -/
theorem frame_referenceIdeal : Cert.quiescent_UqRefIdeal := fun m ρ _ =>
  (θ_run Cert.UqRefIdeal.defs _ _).mono (fun r h => ⟨fun c => (h c).2.2.2.2, sem_eq_zero_of_no_sems (by decide) r.2⟩)
    (Cert.UqRefIdeal.Value.run (F := Ideal) m ρ)

/-- The call computes the reference's four results over exact values. -/
theorem algebraic : Cert.algebraic_UqIdeal_UqRefIdeal := fun m g m' g' _ ha => by
  refine ⟨fun c => grad m c, fun c => stepOf (grad m c) (m ((c : Thread nD τ).loc main_arg1)) (m ((c : Thread nD τ).loc main_arg2)) (m ((c : Thread nD τ).loc main_arg3)),
    fun c => momOf (grad m c) (m ((c : Thread nD τ).loc main_arg2)), fun c => varOf (grad m c) (m ((c : Thread nD τ).loc main_arg3)), ?_, ?_⟩
  · refine (θ_run defs _ _).mono (fun r h c => ?_) (Cert.UqIdeal.Value.run_blocks m g)
    obtain ⟨h4, h5, h6, h7, hk⟩ := h c
    obtain ⟨f4, f5, f6, f7⟩ := finals m c
    exact ⟨h4.trans f4, h5.trans f5, h6.trans f6, h7.trans f7, hk⟩
  · refine (θ_run Cert.UqRefIdeal.defs _ _).mono (fun r h c => ?_) (Cert.UqRefIdeal.Value.run (F := Ideal) m' g')
    obtain ⟨h0, h1, h2, h3, hk⟩ := h c
    obtain ⟨a0, a1, a2, a3⟩ := ha c
    rw [total_host_widened, a0] at h0
    rw [step_host, total_host_widened, a0, a1, a2, a3] at h1
    rw [mom_host, total_host_widened, a0, a2] at h2
    rw [var_host, total_host_widened, a0, a3] at h3
    exact ⟨h0, h1, h2, h3, hk⟩

end Cert.AdamUq
-- ==== Proof.AdamWo.lean ====
/-
  The update of the output projection: the parts of its gradient are added up and AdamW takes one step.
-/
module

public import proofs.«01_k».proof.Defs
public import proofs.«01_k».proof.Proof.AdamW
public import proofs.«01_k».proof.Proof.Gen.Wo
public import proofs.«01_k».proof.Proof.Gen.WoIdeal
public import proofs.«01_k».proof.Proof.Gen.WoIdeal.Value
public import proofs.«01_k».proof.Proof.Gen.WoRefIdeal
public import proofs.«01_k».proof.Proof.Gen.WoRefIdeal.Run
public import Idealize.ShloMosaic.Lib.Pipeline.ValueKit
public import Idealize.ShloMosaic.Lib.Pointwise

@[expose] public section

noncomputable section

namespace Cert.AdamWo

open Cert.WoIdeal Cert.WoIdeal.Gen Idealize.ShloMosaic Idealize.ShloMosaic.TcCoe Idealize.SL.Sem Cert.AdamW
open Idealize.ShloMosaic.Pipeline (Dat)

variable (m : (ℓ : Loc nD τ sig) → Buf (Elt Ideal) ℓ) (c : Dev nD)

/-- The gradient of device `c`: its parts added up. -/
abbrev grad : FVec Ideal S128x1024 .f32 := total (n := 8) (R := 128) (N := 1024) (m ((c : Thread nD τ).loc main_arg0))

/-- The sum that a grid step takes of its block of the parts is its block of the gradient. -/
theorem pay_grad (t : Fin cfg0.N) (y : S128x1024.Idx) :
    k0_pay5 (iblk m c 0 t) (iblk m c 1 t) (iblk m c 2 t) (iblk m c 3 t) y = grad m c ((win0_4.blk t).view.emb y) := by
  have e0 : ∀ t : Fin cfg0.N, win0_0.index t = ![0, (t : Nat), 0] := (by decide +kernel : ∀ t : Fin grid0.N, _)
  have e4 : ∀ t : Fin cfg0.N, win0_4.index t = ![(t : Nat), 0] := (by decide +kernel : ∀ t : Fin grid0.N, _)
  have e : ∀ k : Fin 8, (win0_0.blk t).view.emb (ix3 k (y 0) (y 1)) = ix3 k ((win0_4.blk t).view.emb y 0) ((win0_4.blk t).view.emb y 1) :=
    fun k => by blk_ext [e0, e4]
  pointwise [k0_pay5, k0_pay4, grad, total]
  blk_simp [iblk]
  simp only [e, Fin.sum_univ_eight]
  rfl

/-- What the call leaves: the gradient, the change of the weights and the new moments. -/
theorem finals :
    (dats m 0 c).arrAt 4 cfg0.N = grad m c
    ∧ (dats m 0 c).arrAt 5 cfg0.N = stepOf (grad m c) (m ((c : Thread nD τ).loc main_arg1)) (m ((c : Thread nD τ).loc main_arg2)) (m ((c : Thread nD τ).loc main_arg3))
    ∧ (dats m 0 c).arrAt 6 cfg0.N = momOf (grad m c) (m ((c : Thread nD τ).loc main_arg2))
    ∧ (dats m 0 c).arrAt 7 cfg0.N = varOf (grad m c) (m ((c : Thread nD τ).loc main_arg3)) := by
  refine ⟨?_, ?_, ?_, ?_⟩ <;> refine (dats m 0 c).arrAt_eq_of_covers _ _ (by decide +kernel) fun t hf y => ?_ <;> blk_simp
  · rw [after0_4]
    frame_out
    exact pay_grad m c t y
  · rw [after0_5]
    frame_out
    pointwise [k0_pay3, k0_pay1, k0_pay2]
    rw [pay_grad]
    blk_simp [iblk]
    rfl
  · rw [after0_6]
    frame_out
    exact congrArg (mom · _) (pay_grad m c t y)
  · rw [after0_7]
    frame_out
    exact congrArg (var · _) (pay_grad m c t y)

/-- The two programs have the same bodies. -/
theorem same_defs : (Cert.Wo.defs (F := Bits)) = Cert.WoIdeal.defs (F := Bits) :=
  congrArg (Pipeline.defs Cert.WoIdeal.pcfgs) (congrArg Defs.onTc (funext fun l => funext fun x => match l, x with | 0, _ => rfl))

/-- The call ends with its arguments unchanged and every counter at zero. -/
theorem frame_kernel : Cert.quiescent_Wo := fun m ρ _ => by
  rw [same_defs]
  exact Cert.WoIdeal.Gen.frame (F := Bits) m ρ

/-- So does the call over exact values. -/
theorem frame_kernelIdeal : Cert.quiescent_WoIdeal := fun m ρ _ => Cert.WoIdeal.Gen.frame (F := Ideal) m ρ

/-- The reference ends with its arrays unchanged; it has no counters. -/
theorem frame_referenceIdeal : Cert.quiescent_WoRefIdeal := fun m ρ _ =>
  (θ_run Cert.WoRefIdeal.defs _ _).mono (fun r h => ⟨fun c => (h c).2.2.2.2, sem_eq_zero_of_no_sems (by decide) r.2⟩)
    (Cert.WoRefIdeal.Value.run (F := Ideal) m ρ)

/-- The call computes the reference's four results over exact values. -/
theorem algebraic : Cert.algebraic_WoIdeal_WoRefIdeal := fun m g m' g' _ ha => by
  refine ⟨fun c => grad m c, fun c => stepOf (grad m c) (m ((c : Thread nD τ).loc main_arg1)) (m ((c : Thread nD τ).loc main_arg2)) (m ((c : Thread nD τ).loc main_arg3)),
    fun c => momOf (grad m c) (m ((c : Thread nD τ).loc main_arg2)), fun c => varOf (grad m c) (m ((c : Thread nD τ).loc main_arg3)), ?_, ?_⟩
  · refine (θ_run defs _ _).mono (fun r h c => ?_) (Cert.WoIdeal.Value.run_blocks m g)
    obtain ⟨h4, h5, h6, h7, hk⟩ := h c
    obtain ⟨f4, f5, f6, f7⟩ := finals m c
    exact ⟨h4.trans f4, h5.trans f5, h6.trans f6, h7.trans f7, hk⟩
  · refine (θ_run Cert.WoRefIdeal.defs _ _).mono (fun r h c => ?_) (Cert.WoRefIdeal.Value.run (F := Ideal) m' g')
    obtain ⟨h0, h1, h2, h3, hk⟩ := h c
    obtain ⟨a0, a1, a2, a3⟩ := ha c
    rw [total_host_widened, a0] at h0
    rw [step_host, total_host_widened, a0, a1, a2, a3] at h1
    rw [mom_host, total_host_widened, a0, a2] at h2
    rw [var_host, total_host_widened, a0, a3] at h3
    exact ⟨h0, h1, h2, h3, hk⟩

end Cert.AdamWo
-- ==== Proof.AdamWin.lean ====
/-
  The update of the input projection (its gradient given as one part): the parts of its gradient are added up and AdamW takes one step.
-/
module

public import proofs.«01_k».proof.Defs
public import proofs.«01_k».proof.Proof.AdamW
public import proofs.«01_k».proof.Proof.Gen.Win
public import proofs.«01_k».proof.Proof.Gen.WinIdeal
public import proofs.«01_k».proof.Proof.Gen.WinIdeal.Value
public import proofs.«01_k».proof.Proof.Gen.WinRefIdeal
public import proofs.«01_k».proof.Proof.Gen.WinRefIdeal.Run
public import Idealize.ShloMosaic.Lib.Pipeline.ValueKit
public import Idealize.ShloMosaic.Lib.Pointwise

@[expose] public section

noncomputable section

namespace Cert.AdamWin

open Cert.WinIdeal Cert.WinIdeal.Gen Idealize.ShloMosaic Idealize.ShloMosaic.TcCoe Idealize.SL.Sem Cert.AdamW
open Idealize.ShloMosaic.Pipeline (Dat)

variable (m : (ℓ : Loc nD τ sig) → Buf (Elt Ideal) ℓ) (c : Dev nD)

/-- The gradient of device `c`: its parts added up. -/
abbrev grad : FVec Ideal S1024x244 .f32 := total (n := 1) (R := 1024) (N := 244) (m ((c : Thread nD τ).loc main_arg0))

/-- The sum that a grid step takes of its block of the parts is its block of the gradient. -/
theorem pay_grad (t : Fin cfg0.N) (y : S256x244.Idx) :
    k0_pay1 (iblk m c 0 t) y = grad m c ((win0_4.blk t).view.emb y) := by
  have e0 : ∀ t : Fin cfg0.N, win0_0.index t = ![0, (t : Nat), 0] := (by decide +kernel : ∀ t : Fin grid0.N, _)
  have e4 : ∀ t : Fin cfg0.N, win0_4.index t = ![(t : Nat), 0] := (by decide +kernel : ∀ t : Fin grid0.N, _)
  have e : ∀ k : Fin 1, (win0_0.blk t).view.emb (ix3 k (y 0) (y 1)) = ix3 k ((win0_4.blk t).view.emb y 0) ((win0_4.blk t).view.emb y 1) :=
    fun k => by blk_ext [e0, e4]
  pointwise [k0_pay1, grad, total]
  blk_simp [iblk]
  simp only [e, Fin.sum_univ_one]
  rfl

/-- What the call leaves: the gradient, the change of the weights and the new moments. -/
theorem finals :
    (dats m 0 c).arrAt 4 cfg0.N = grad m c
    ∧ (dats m 0 c).arrAt 5 cfg0.N = stepOf (grad m c) (m ((c : Thread nD τ).loc main_arg1)) (m ((c : Thread nD τ).loc main_arg2)) (m ((c : Thread nD τ).loc main_arg3))
    ∧ (dats m 0 c).arrAt 6 cfg0.N = momOf (grad m c) (m ((c : Thread nD τ).loc main_arg2))
    ∧ (dats m 0 c).arrAt 7 cfg0.N = varOf (grad m c) (m ((c : Thread nD τ).loc main_arg3)) := by
  refine ⟨?_, ?_, ?_, ?_⟩ <;> refine (dats m 0 c).arrAt_eq_of_covers _ _ (by decide +kernel) fun t hf y => ?_ <;> blk_simp
  · rw [after0_4]
    frame_out
    exact pay_grad m c t y
  · rw [after0_5]
    frame_out
    pointwise [k0_pay4, k0_pay2, k0_pay3]
    rw [pay_grad]
    blk_simp [iblk]
    rfl
  · rw [after0_6]
    frame_out
    exact congrArg (mom · _) (pay_grad m c t y)
  · rw [after0_7]
    frame_out
    exact congrArg (var · _) (pay_grad m c t y)

/-- The two programs have the same bodies. -/
theorem same_defs : (Cert.Win.defs (F := Bits)) = Cert.WinIdeal.defs (F := Bits) :=
  congrArg (Pipeline.defs Cert.WinIdeal.pcfgs) (congrArg Defs.onTc (funext fun l => funext fun x => match l, x with | 0, _ => rfl))

/-- The call ends with its arguments unchanged and every counter at zero. -/
theorem frame_kernel : Cert.quiescent_Win := fun m ρ _ => by
  rw [same_defs]
  exact Cert.WinIdeal.Gen.frame (F := Bits) m ρ

/-- So does the call over exact values. -/
theorem frame_kernelIdeal : Cert.quiescent_WinIdeal := fun m ρ _ => Cert.WinIdeal.Gen.frame (F := Ideal) m ρ

/-- The reference ends with its arrays unchanged; it has no counters. -/
theorem frame_referenceIdeal : Cert.quiescent_WinRefIdeal := fun m ρ _ =>
  (θ_run Cert.WinRefIdeal.defs _ _).mono (fun r h => ⟨fun c => (h c).2.2.2.2, sem_eq_zero_of_no_sems (by decide) r.2⟩)
    (Cert.WinRefIdeal.Value.run (F := Ideal) m ρ)

/-- The call computes the reference's four results over exact values. -/
theorem algebraic : Cert.algebraic_WinIdeal_WinRefIdeal := fun m g m' g' _ ha => by
  refine ⟨fun c => grad m c, fun c => stepOf (grad m c) (m ((c : Thread nD τ).loc main_arg1)) (m ((c : Thread nD τ).loc main_arg2)) (m ((c : Thread nD τ).loc main_arg3)),
    fun c => momOf (grad m c) (m ((c : Thread nD τ).loc main_arg2)), fun c => varOf (grad m c) (m ((c : Thread nD τ).loc main_arg3)), ?_, ?_⟩
  · refine (θ_run defs _ _).mono (fun r h c => ?_) (Cert.WinIdeal.Value.run_blocks m g)
    obtain ⟨h4, h5, h6, h7, hk⟩ := h c
    obtain ⟨f4, f5, f6, f7⟩ := finals m c
    exact ⟨h4.trans f4, h5.trans f5, h6.trans f6, h7.trans f7, hk⟩
  · refine (θ_run Cert.WinRefIdeal.defs _ _).mono (fun r h c => ?_) (Cert.WinRefIdeal.Value.run (F := Ideal) m' g')
    obtain ⟨h0, h1, h2, h3, hk⟩ := h c
    obtain ⟨a0, a1, a2, a3⟩ := ha c
    rw [total_host, a0] at h0
    rw [step_host, total_host, a0, a1, a2, a3] at h1
    rw [mom_host, total_host, a0, a2] at h2
    rw [var_host, total_host, a0, a3] at h3
    exact ⟨h0, h1, h2, h3, hk⟩

end Cert.AdamWin
-- ==== Proof.AdamWup.lean ====
/-
  The update of the up projection (its gradient given as one part): the parts of its gradient are added up and AdamW takes one step.
-/
module

public import proofs.«01_k».proof.Defs
public import proofs.«01_k».proof.Proof.AdamW
public import proofs.«01_k».proof.Proof.Gen.Wup
public import proofs.«01_k».proof.Proof.Gen.WupIdeal
public import proofs.«01_k».proof.Proof.Gen.WupIdeal.Value
public import proofs.«01_k».proof.Proof.Gen.WupRefIdeal
public import proofs.«01_k».proof.Proof.Gen.WupRefIdeal.Run
public import Idealize.ShloMosaic.Lib.Pipeline.ValueKit
public import Idealize.ShloMosaic.Lib.Pointwise

@[expose] public section

noncomputable section

namespace Cert.AdamWup

open Cert.WupIdeal Cert.WupIdeal.Gen Idealize.ShloMosaic Idealize.ShloMosaic.TcCoe Idealize.SL.Sem Cert.AdamW
open Idealize.ShloMosaic.Pipeline (Dat)

variable (m : (ℓ : Loc nD τ sig) → Buf (Elt Ideal) ℓ) (c : Dev nD)

/-- The gradient of device `c`: its parts added up. -/
abbrev grad : FVec Ideal S1024x704 .f32 := total (n := 1) (R := 1024) (N := 704) (m ((c : Thread nD τ).loc main_arg0))

/-- The sum that a grid step takes of its block of the parts is its block of the gradient. -/
theorem pay_grad (t : Fin cfg0.N) (y : S256x704.Idx) :
    k0_pay1 (iblk m c 0 t) y = grad m c ((win0_4.blk t).view.emb y) := by
  have e0 : ∀ t : Fin cfg0.N, win0_0.index t = ![0, (t : Nat), 0] := (by decide +kernel : ∀ t : Fin grid0.N, _)
  have e4 : ∀ t : Fin cfg0.N, win0_4.index t = ![(t : Nat), 0] := (by decide +kernel : ∀ t : Fin grid0.N, _)
  have e : ∀ k : Fin 1, (win0_0.blk t).view.emb (ix3 k (y 0) (y 1)) = ix3 k ((win0_4.blk t).view.emb y 0) ((win0_4.blk t).view.emb y 1) :=
    fun k => by blk_ext [e0, e4]
  pointwise [k0_pay1, grad, total]
  blk_simp [iblk]
  simp only [e, Fin.sum_univ_one]
  rfl

/-- What the call leaves: the gradient, the change of the weights and the new moments. -/
theorem finals :
    (dats m 0 c).arrAt 4 cfg0.N = grad m c
    ∧ (dats m 0 c).arrAt 5 cfg0.N = stepOf (grad m c) (m ((c : Thread nD τ).loc main_arg1)) (m ((c : Thread nD τ).loc main_arg2)) (m ((c : Thread nD τ).loc main_arg3))
    ∧ (dats m 0 c).arrAt 6 cfg0.N = momOf (grad m c) (m ((c : Thread nD τ).loc main_arg2))
    ∧ (dats m 0 c).arrAt 7 cfg0.N = varOf (grad m c) (m ((c : Thread nD τ).loc main_arg3)) := by
  refine ⟨?_, ?_, ?_, ?_⟩ <;> refine (dats m 0 c).arrAt_eq_of_covers _ _ (by decide +kernel) fun t hf y => ?_ <;> blk_simp
  · rw [after0_4]
    frame_out
    exact pay_grad m c t y
  · rw [after0_5]
    frame_out
    pointwise [k0_pay4, k0_pay2, k0_pay3]
    rw [pay_grad]
    blk_simp [iblk]
    rfl
  · rw [after0_6]
    frame_out
    exact congrArg (mom · _) (pay_grad m c t y)
  · rw [after0_7]
    frame_out
    exact congrArg (var · _) (pay_grad m c t y)

/-- The two programs have the same bodies. -/
theorem same_defs : (Cert.Wup.defs (F := Bits)) = Cert.WupIdeal.defs (F := Bits) :=
  congrArg (Pipeline.defs Cert.WupIdeal.pcfgs) (congrArg Defs.onTc (funext fun l => funext fun x => match l, x with | 0, _ => rfl))

/-- The call ends with its arguments unchanged and every counter at zero. -/
theorem frame_kernel : Cert.quiescent_Wup := fun m ρ _ => by
  rw [same_defs]
  exact Cert.WupIdeal.Gen.frame (F := Bits) m ρ

/-- So does the call over exact values. -/
theorem frame_kernelIdeal : Cert.quiescent_WupIdeal := fun m ρ _ => Cert.WupIdeal.Gen.frame (F := Ideal) m ρ

/-- The reference ends with its arrays unchanged; it has no counters. -/
theorem frame_referenceIdeal : Cert.quiescent_WupRefIdeal := fun m ρ _ =>
  (θ_run Cert.WupRefIdeal.defs _ _).mono (fun r h => ⟨fun c => (h c).2.2.2.2, sem_eq_zero_of_no_sems (by decide) r.2⟩)
    (Cert.WupRefIdeal.Value.run (F := Ideal) m ρ)

/-- The call computes the reference's four results over exact values. -/
theorem algebraic : Cert.algebraic_WupIdeal_WupRefIdeal := fun m g m' g' _ ha => by
  refine ⟨fun c => grad m c, fun c => stepOf (grad m c) (m ((c : Thread nD τ).loc main_arg1)) (m ((c : Thread nD τ).loc main_arg2)) (m ((c : Thread nD τ).loc main_arg3)),
    fun c => momOf (grad m c) (m ((c : Thread nD τ).loc main_arg2)), fun c => varOf (grad m c) (m ((c : Thread nD τ).loc main_arg3)), ?_, ?_⟩
  · refine (θ_run defs _ _).mono (fun r h c => ?_) (Cert.WupIdeal.Value.run_blocks m g)
    obtain ⟨h4, h5, h6, h7, hk⟩ := h c
    obtain ⟨f4, f5, f6, f7⟩ := finals m c
    exact ⟨h4.trans f4, h5.trans f5, h6.trans f6, h7.trans f7, hk⟩
  · refine (θ_run Cert.WupRefIdeal.defs _ _).mono (fun r h c => ?_) (Cert.WupRefIdeal.Value.run (F := Ideal) m' g')
    obtain ⟨h0, h1, h2, h3, hk⟩ := h c
    obtain ⟨a0, a1, a2, a3⟩ := ha c
    rw [total_host, a0] at h0
    rw [step_host, total_host, a0, a1, a2, a3] at h1
    rw [mom_host, total_host, a0, a2] at h2
    rw [var_host, total_host, a0, a3] at h3
    exact ⟨h0, h1, h2, h3, hk⟩

end Cert.AdamWup
-- ==== Proof.AdamRep.lean ====
/-
  The update of the replicated weights, packed in one array: the parts of its gradient are added up and AdamW takes one step.
-/
module

public import proofs.«01_k».proof.Defs
public import proofs.«01_k».proof.Proof.AdamW
public import proofs.«01_k».proof.Proof.Gen.Rep
public import proofs.«01_k».proof.Proof.Gen.RepIdeal
public import proofs.«01_k».proof.Proof.Gen.RepIdeal.Value
public import proofs.«01_k».proof.Proof.Gen.RepRefIdeal
public import proofs.«01_k».proof.Proof.Gen.RepRefIdeal.Run
public import Idealize.ShloMosaic.Lib.Pipeline.ValueKit
public import Idealize.ShloMosaic.Lib.Pointwise

@[expose] public section

noncomputable section

namespace Cert.AdamRep

open Cert.RepIdeal Cert.RepIdeal.Gen Idealize.ShloMosaic Idealize.ShloMosaic.TcCoe Idealize.SL.Sem Cert.AdamW
open Idealize.ShloMosaic.Pipeline (Dat)

variable (m : (ℓ : Loc nD τ sig) → Buf (Elt Ideal) ℓ) (c : Dev nD)

/-- The gradient of device `c`: its parts added up. -/
abbrev grad : FVec Ideal S144x1024 .f32 := total (n := 8) (R := 144) (N := 1024) (m ((c : Thread nD τ).loc main_arg0))

/-- The sum that a grid step takes of its block of the parts is its block of the gradient. -/
theorem pay_grad (t : Fin cfg0.N) (y : S144x1024.Idx) :
    k0_pay5 (iblk m c 0 t) (iblk m c 1 t) (iblk m c 2 t) (iblk m c 3 t) y = grad m c ((win0_4.blk t).view.emb y) := by
  have e0 : ∀ t : Fin cfg0.N, win0_0.index t = ![0, (t : Nat), 0] := (by decide +kernel : ∀ t : Fin grid0.N, _)
  have e4 : ∀ t : Fin cfg0.N, win0_4.index t = ![(t : Nat), 0] := (by decide +kernel : ∀ t : Fin grid0.N, _)
  have e : ∀ k : Fin 8, (win0_0.blk t).view.emb (ix3 k (y 0) (y 1)) = ix3 k ((win0_4.blk t).view.emb y 0) ((win0_4.blk t).view.emb y 1) :=
    fun k => by blk_ext [e0, e4]
  pointwise [k0_pay5, k0_pay3, grad, total]
  blk_simp [iblk]
  simp only [e, Fin.sum_univ_eight]
  rfl

/-- So are the new first moments. -/
theorem pay_mom (t : Fin cfg0.N) (y : S144x1024.Idx) :
    k0_pay6 (iblk m c 0 t) (iblk m c 1 t) (iblk m c 2 t) (iblk m c 3 t) y = momOf (grad m c) (m ((c : Thread nD τ).loc main_arg2)) ((win0_6.blk t).view.emb y) := by
  have h := pay_grad m c t y
  pointwise [k0_pay5] at h
  pointwise [k0_pay6, k0_pay4]
  rw [h]
  blk_simp [iblk]
  rfl

/-- What the call leaves: the gradient, the change of the weights and the new moments. -/
theorem finals :
    (dats m 0 c).arrAt 4 cfg0.N = grad m c
    ∧ (dats m 0 c).arrAt 5 cfg0.N = stepOf (grad m c) (m ((c : Thread nD τ).loc main_arg1)) (m ((c : Thread nD τ).loc main_arg2)) (m ((c : Thread nD τ).loc main_arg3))
    ∧ (dats m 0 c).arrAt 6 cfg0.N = momOf (grad m c) (m ((c : Thread nD τ).loc main_arg2))
    ∧ (dats m 0 c).arrAt 7 cfg0.N = varOf (grad m c) (m ((c : Thread nD τ).loc main_arg3)) := by
  refine ⟨?_, ?_, ?_, ?_⟩ <;> refine (dats m 0 c).arrAt_eq_of_covers _ _ (by decide +kernel) fun t hf y => ?_ <;> blk_simp
  · rw [after0_4]
    frame_out
    exact pay_grad m c t y
  · rw [after0_5]
    frame_out
    pointwise [k0_pay2, k0_pay1]
    rw [pay_grad, pay_mom]
    blk_simp [iblk]
    rfl
  · rw [after0_6]
    frame_out
    exact pay_mom m c t y
  · rw [after0_7]
    frame_out
    exact congrArg (var · _) (pay_grad m c t y)

/-- The two programs have the same bodies. -/
theorem same_defs : (Cert.Rep.defs (F := Bits)) = Cert.RepIdeal.defs (F := Bits) :=
  congrArg (Pipeline.defs Cert.RepIdeal.pcfgs) (congrArg Defs.onTc (funext fun l => funext fun x => match l, x with | 0, _ => rfl))

/-- The call ends with its arguments unchanged and every counter at zero. -/
theorem frame_kernel : Cert.quiescent_Rep := fun m ρ _ => by
  rw [same_defs]
  exact Cert.RepIdeal.Gen.frame (F := Bits) m ρ

/-- So does the call over exact values. -/
theorem frame_kernelIdeal : Cert.quiescent_RepIdeal := fun m ρ _ => Cert.RepIdeal.Gen.frame (F := Ideal) m ρ

/-- The reference ends with its arrays unchanged; it has no counters. -/
theorem frame_referenceIdeal : Cert.quiescent_RepRefIdeal := fun m ρ _ =>
  (θ_run Cert.RepRefIdeal.defs _ _).mono (fun r h => ⟨fun c => (h c).2.2.2.2, sem_eq_zero_of_no_sems (by decide) r.2⟩)
    (Cert.RepRefIdeal.Value.run (F := Ideal) m ρ)

/-- The call computes the reference's four results over exact values. -/
theorem algebraic : Cert.algebraic_RepIdeal_RepRefIdeal := fun m g m' g' _ ha => by
  refine ⟨fun c => grad m c, fun c => stepOf (grad m c) (m ((c : Thread nD τ).loc main_arg1)) (m ((c : Thread nD τ).loc main_arg2)) (m ((c : Thread nD τ).loc main_arg3)),
    fun c => momOf (grad m c) (m ((c : Thread nD τ).loc main_arg2)), fun c => varOf (grad m c) (m ((c : Thread nD τ).loc main_arg3)), ?_, ?_⟩
  · refine (θ_run defs _ _).mono (fun r h c => ?_) (Cert.RepIdeal.Value.run_blocks m g)
    obtain ⟨h4, h5, h6, h7, hk⟩ := h c
    obtain ⟨f4, f5, f6, f7⟩ := finals m c
    exact ⟨h4.trans f4, h5.trans f5, h6.trans f6, h7.trans f7, hk⟩
  · refine (θ_run Cert.RepRefIdeal.defs _ _).mono (fun r h c => ?_) (Cert.RepRefIdeal.Value.run (F := Ideal) m' g')
    obtain ⟨h0, h1, h2, h3, hk⟩ := h c
    obtain ⟨a0, a1, a2, a3⟩ := ha c
    rw [total_host, a0] at h0
    rw [step_host, total_host, a0, a1, a2, a3] at h1
    rw [mom_host, total_host, a0, a2] at h2
    rw [var_host, total_host, a0, a3] at h3
    exact ⟨h0, h1, h2, h3, hk⟩

end Cert.AdamRep
-- ==== Proof.AdamConv.lean ====
/-
  The update of the convolution's taps: the parts of its gradient are added up and AdamW takes one step.
-/
module

public import proofs.«01_k».proof.Defs
public import proofs.«01_k».proof.Proof.AdamW
public import proofs.«01_k».proof.Proof.Gen.Conv
public import proofs.«01_k».proof.Proof.Gen.ConvIdeal
public import proofs.«01_k».proof.Proof.Gen.ConvIdeal.Value
public import proofs.«01_k».proof.Proof.Gen.ConvRefIdeal
public import proofs.«01_k».proof.Proof.Gen.ConvRefIdeal.Run
public import Idealize.ShloMosaic.Lib.Pipeline.ValueKit
public import Idealize.ShloMosaic.Lib.Pointwise

@[expose] public section

noncomputable section

namespace Cert.AdamConv

open Cert.ConvIdeal Cert.ConvIdeal.Gen Idealize.ShloMosaic Idealize.ShloMosaic.TcCoe Idealize.SL.Sem Cert.AdamW
open Idealize.ShloMosaic.Pipeline (Dat)

variable (m : (ℓ : Loc nD τ sig) → Buf (Elt Ideal) ℓ) (c : Dev nD)

/-- The gradient of device `c`: its parts added up. -/
abbrev grad : FVec Ideal S3x704 .f32 := total (n := 8) (R := 3) (N := 704) (m ((c : Thread nD τ).loc main_arg0))

/-- The sum that a grid step takes of its block of the parts is its block of the gradient. -/
theorem pay_grad (t : Fin cfg0.N) (y : S3x704.Idx) :
    k0_pay5 (iblk m c 0 t) (iblk m c 1 t) (iblk m c 2 t) (iblk m c 3 t) y = grad m c ((win0_4.blk t).view.emb y) := by
  have e0 : ∀ t : Fin cfg0.N, win0_0.index t = ![0, (t : Nat), 0] := (by decide +kernel : ∀ t : Fin grid0.N, _)
  have e4 : ∀ t : Fin cfg0.N, win0_4.index t = ![(t : Nat), 0] := (by decide +kernel : ∀ t : Fin grid0.N, _)
  have e : ∀ k : Fin 8, (win0_0.blk t).view.emb (ix3 k (y 0) (y 1)) = ix3 k ((win0_4.blk t).view.emb y 0) ((win0_4.blk t).view.emb y 1) :=
    fun k => by blk_ext [e0, e4]
  pointwise [k0_pay5, k0_pay3, grad, total]
  blk_simp [iblk]
  simp only [e, Fin.sum_univ_eight]
  rfl

/-- So are the new first moments. -/
theorem pay_mom (t : Fin cfg0.N) (y : S3x704.Idx) :
    k0_pay6 (iblk m c 0 t) (iblk m c 1 t) (iblk m c 2 t) (iblk m c 3 t) y = momOf (grad m c) (m ((c : Thread nD τ).loc main_arg2)) ((win0_6.blk t).view.emb y) := by
  have h := pay_grad m c t y
  pointwise [k0_pay5] at h
  pointwise [k0_pay6, k0_pay4]
  rw [h]
  blk_simp [iblk]
  rfl

/-- What the call leaves: the gradient, the change of the weights and the new moments. -/
theorem finals :
    (dats m 0 c).arrAt 4 cfg0.N = grad m c
    ∧ (dats m 0 c).arrAt 5 cfg0.N = stepOf (grad m c) (m ((c : Thread nD τ).loc main_arg1)) (m ((c : Thread nD τ).loc main_arg2)) (m ((c : Thread nD τ).loc main_arg3))
    ∧ (dats m 0 c).arrAt 6 cfg0.N = momOf (grad m c) (m ((c : Thread nD τ).loc main_arg2))
    ∧ (dats m 0 c).arrAt 7 cfg0.N = varOf (grad m c) (m ((c : Thread nD τ).loc main_arg3)) := by
  refine ⟨?_, ?_, ?_, ?_⟩ <;> refine (dats m 0 c).arrAt_eq_of_covers _ _ (by decide +kernel) fun t hf y => ?_ <;> blk_simp
  · rw [after0_4]
    frame_out
    exact pay_grad m c t y
  · rw [after0_5]
    frame_out
    pointwise [k0_pay2, k0_pay1]
    rw [pay_grad, pay_mom]
    blk_simp [iblk]
    rfl
  · rw [after0_6]
    frame_out
    exact pay_mom m c t y
  · rw [after0_7]
    frame_out
    exact congrArg (var · _) (pay_grad m c t y)

/-- The two programs have the same bodies. -/
theorem same_defs : (Cert.Conv.defs (F := Bits)) = Cert.ConvIdeal.defs (F := Bits) :=
  congrArg (Pipeline.defs Cert.ConvIdeal.pcfgs) (congrArg Defs.onTc (funext fun l => funext fun x => match l, x with | 0, _ => rfl))

/-- The call ends with its arguments unchanged and every counter at zero. -/
theorem frame_kernel : Cert.quiescent_Conv := fun m ρ _ => by
  rw [same_defs]
  exact Cert.ConvIdeal.Gen.frame (F := Bits) m ρ

/-- So does the call over exact values. -/
theorem frame_kernelIdeal : Cert.quiescent_ConvIdeal := fun m ρ _ => Cert.ConvIdeal.Gen.frame (F := Ideal) m ρ

/-- The reference ends with its arrays unchanged; it has no counters. -/
theorem frame_referenceIdeal : Cert.quiescent_ConvRefIdeal := fun m ρ _ =>
  (θ_run Cert.ConvRefIdeal.defs _ _).mono (fun r h => ⟨fun c => (h c).2.2.2.2, sem_eq_zero_of_no_sems (by decide) r.2⟩)
    (Cert.ConvRefIdeal.Value.run (F := Ideal) m ρ)

/-- The call computes the reference's four results over exact values. -/
theorem algebraic : Cert.algebraic_ConvIdeal_ConvRefIdeal := fun m g m' g' _ ha => by
  refine ⟨fun c => grad m c, fun c => stepOf (grad m c) (m ((c : Thread nD τ).loc main_arg1)) (m ((c : Thread nD τ).loc main_arg2)) (m ((c : Thread nD τ).loc main_arg3)),
    fun c => momOf (grad m c) (m ((c : Thread nD τ).loc main_arg2)), fun c => varOf (grad m c) (m ((c : Thread nD τ).loc main_arg3)), ?_, ?_⟩
  · refine (θ_run defs _ _).mono (fun r h c => ?_) (Cert.ConvIdeal.Value.run_blocks m g)
    obtain ⟨h4, h5, h6, h7, hk⟩ := h c
    obtain ⟨f4, f5, f6, f7⟩ := finals m c
    exact ⟨h4.trans f4, h5.trans f5, h6.trans f6, h7.trans f7, hk⟩
  · refine (θ_run Cert.ConvRefIdeal.defs _ _).mono (fun r h c => ?_) (Cert.ConvRefIdeal.Value.run (F := Ideal) m' g')
    obtain ⟨h0, h1, h2, h3, hk⟩ := h c
    obtain ⟨a0, a1, a2, a3⟩ := ha c
    rw [total_host, a0] at h0
    rw [step_host, total_host, a0, a1, a2, a3] at h1
    rw [mom_host, total_host, a0, a2] at h2
    rw [var_host, total_host, a0, a3] at h3
    exact ⟨h0, h1, h2, h3, hk⟩

end Cert.AdamConv
-- ==== Proof.SumIn.lean ====
/-
  The sum of the exchanged parts of the input projection's gradient.
-/
module

public import proofs.«01_k».proof.Defs
public import proofs.«01_k».proof.Proof.AdamW
public import proofs.«01_k».proof.Proof.Gen.SumIn
public import proofs.«01_k».proof.Proof.Gen.SumInIdeal
public import proofs.«01_k».proof.Proof.Gen.SumInIdeal.Value
public import proofs.«01_k».proof.Proof.Gen.SumInRefIdeal
public import proofs.«01_k».proof.Proof.Gen.SumInRefIdeal.Run
public import Idealize.ShloMosaic.Lib.Pipeline.ValueKit
public import Idealize.ShloMosaic.Lib.Pointwise

@[expose] public section

noncomputable section

namespace Cert.PartsIn

open Cert.SumInIdeal Cert.SumInIdeal.Gen Idealize.ShloMosaic Idealize.ShloMosaic.TcCoe Idealize.SL.Sem Cert.AdamW
open Idealize.ShloMosaic.Pipeline (Dat)

variable (m : (ℓ : Loc nD τ sig) → Buf (Elt Ideal) ℓ) (c : Dev nD)

/-- The parts of device `c` added up. -/
abbrev sum : FVec Ideal S256x1024 .f32 := total (n := 8) (R := 256) (N := 1024) (m ((c : Thread nD τ).loc main_arg0))

/-- What the call leaves is the sum of the parts. -/
theorem final : (dats m 0 c).arrAt 1 cfg0.N = sum m c := by
  have e0 : ∀ t : Fin cfg0.N, win0_0.index t = ![0, (t : Nat), 0] := (by decide +kernel : ∀ t : Fin grid0.N, _)
  have e1 : ∀ t : Fin cfg0.N, win0_1.index t = ![(t : Nat), 0] := (by decide +kernel : ∀ t : Fin grid0.N, _)
  refine (dats m 0 c).arrAt_eq_of_covers _ _ (by decide +kernel) fun t hf y => ?_
  have e : ∀ k : Fin 8, (win0_0.blk t).view.emb (ix3 k (y 0) (y 1)) = ix3 k ((win0_1.blk t).view.emb y 0) ((win0_1.blk t).view.emb y 1) :=
    fun k => by blk_ext [e0, e1]
  blk_simp
  rw [after0_1]
  frame_out
  pointwise [k0_pay1, sum, total]
  blk_simp [iblk]
  simp only [e, Fin.sum_univ_eight]
  rfl

/-- The two programs have the same bodies. -/
theorem same_defs : (Cert.SumIn.defs (F := Bits)) = Cert.SumInIdeal.defs (F := Bits) :=
  congrArg (Pipeline.defs Cert.SumInIdeal.pcfgs) (congrArg Defs.onTc (funext fun l => funext fun x => match l, x with | 0, _ => rfl))

/-- The call ends with its arguments unchanged and every counter at zero. -/
theorem frame_kernel : Cert.quiescent_SumIn := fun m ρ _ => by
  rw [same_defs]
  exact Cert.SumInIdeal.Gen.frame (F := Bits) m ρ

/-- So does the call over exact values. -/
theorem frame_kernelIdeal : Cert.quiescent_SumInIdeal := fun m ρ _ => Cert.SumInIdeal.Gen.frame (F := Ideal) m ρ

/-- The reference ends with its array unchanged; it has no counters. -/
theorem frame_referenceIdeal : Cert.quiescent_SumInRefIdeal := fun m ρ _ =>
  (θ_run Cert.SumInRefIdeal.defs _ _).mono (fun r h => ⟨fun c => (h c).2, sem_eq_zero_of_no_sems (by decide) r.2⟩)
    (Cert.SumInRefIdeal.Value.run (F := Ideal) m ρ)

/-- The call computes the reference's sum over exact values. -/
theorem algebraic : Cert.algebraic_SumInIdeal_SumInRefIdeal := fun m g m' g' _ ha => by
  refine ⟨fun c => sum m c, ?_, ?_⟩
  · exact (θ_run defs _ _).mono (fun r h c => ⟨(h c).1.trans (final m c), (h c).2⟩) (Cert.SumInIdeal.Value.run_blocks m g)
  · refine (θ_run Cert.SumInRefIdeal.defs _ _).mono (fun r h c => ⟨?_, (h c).2⟩) (Cert.SumInRefIdeal.Value.run (F := Ideal) m' g')
    have h0 := (h c).1
    rw [total_host_widened, ha c] at h0
    exact h0

end Cert.PartsIn
-- ==== Proof.SumUp.lean ====
/-
  The sum of the exchanged parts of the up projection's gradient.
-/
module

public import proofs.«01_k».proof.Defs
public import proofs.«01_k».proof.Proof.AdamW
public import proofs.«01_k».proof.Proof.Gen.SumUp
public import proofs.«01_k».proof.Proof.Gen.SumUpIdeal
public import proofs.«01_k».proof.Proof.Gen.SumUpIdeal.Value
public import proofs.«01_k».proof.Proof.Gen.SumUpRefIdeal
public import proofs.«01_k».proof.Proof.Gen.SumUpRefIdeal.Run
public import Idealize.ShloMosaic.Lib.Pipeline.ValueKit
public import Idealize.ShloMosaic.Lib.Pointwise

@[expose] public section

noncomputable section

namespace Cert.PartsUp

open Cert.SumUpIdeal Cert.SumUpIdeal.Gen Idealize.ShloMosaic Idealize.ShloMosaic.TcCoe Idealize.SL.Sem Cert.AdamW
open Idealize.ShloMosaic.Pipeline (Dat)

variable (m : (ℓ : Loc nD τ sig) → Buf (Elt Ideal) ℓ) (c : Dev nD)

/-- The parts of device `c` added up. -/
abbrev sum : FVec Ideal S704x1024 .f32 := total (n := 8) (R := 704) (N := 1024) (m ((c : Thread nD τ).loc main_arg0))

/-- What the call leaves is the sum of the parts. -/
theorem final : (dats m 0 c).arrAt 1 cfg0.N = sum m c := by
  have e0 : ∀ t : Fin cfg0.N, win0_0.index t = ![0, (t : Nat), 0] := (by decide +kernel : ∀ t : Fin grid0.N, _)
  have e1 : ∀ t : Fin cfg0.N, win0_1.index t = ![(t : Nat), 0] := (by decide +kernel : ∀ t : Fin grid0.N, _)
  refine (dats m 0 c).arrAt_eq_of_covers _ _ (by decide +kernel) fun t hf y => ?_
  have e : ∀ k : Fin 8, (win0_0.blk t).view.emb (ix3 k (y 0) (y 1)) = ix3 k ((win0_1.blk t).view.emb y 0) ((win0_1.blk t).view.emb y 1) :=
    fun k => by blk_ext [e0, e1]
  blk_simp
  rw [after0_1]
  frame_out
  pointwise [k0_pay1, sum, total]
  blk_simp [iblk]
  simp only [e, Fin.sum_univ_eight]
  rfl

/-- The two programs have the same bodies. -/
theorem same_defs : (Cert.SumUp.defs (F := Bits)) = Cert.SumUpIdeal.defs (F := Bits) :=
  congrArg (Pipeline.defs Cert.SumUpIdeal.pcfgs) (congrArg Defs.onTc (funext fun l => funext fun x => match l, x with | 0, _ => rfl))

/-- The call ends with its arguments unchanged and every counter at zero. -/
theorem frame_kernel : Cert.quiescent_SumUp := fun m ρ _ => by
  rw [same_defs]
  exact Cert.SumUpIdeal.Gen.frame (F := Bits) m ρ

/-- So does the call over exact values. -/
theorem frame_kernelIdeal : Cert.quiescent_SumUpIdeal := fun m ρ _ => Cert.SumUpIdeal.Gen.frame (F := Ideal) m ρ

/-- The reference ends with its array unchanged; it has no counters. -/
theorem frame_referenceIdeal : Cert.quiescent_SumUpRefIdeal := fun m ρ _ =>
  (θ_run Cert.SumUpRefIdeal.defs _ _).mono (fun r h => ⟨fun c => (h c).2, sem_eq_zero_of_no_sems (by decide) r.2⟩)
    (Cert.SumUpRefIdeal.Value.run (F := Ideal) m ρ)

/-- The call computes the reference's sum over exact values. -/
theorem algebraic : Cert.algebraic_SumUpIdeal_SumUpRefIdeal := fun m g m' g' _ ha => by
  refine ⟨fun c => sum m c, ?_, ?_⟩
  · exact (θ_run defs _ _).mono (fun r h c => ⟨(h c).1.trans (final m c), (h c).2⟩) (Cert.SumUpIdeal.Value.run_blocks m g)
  · refine (θ_run Cert.SumUpRefIdeal.defs _ _).mono (fun r h c => ⟨?_, (h c).2⟩) (Cert.SumUpRefIdeal.Value.run (F := Ideal) m' g')
    have h0 := (h c).1
    rw [total_host_widened, ha c] at h0
    exact h0

end Cert.PartsUp
-- ==== Proof.GradX.lean ====
/-
  The gradient of the input: the gradient of the projections times the transposed input weights, plus the share that
  reaches the input past them.
-/
module

public import proofs.«01_k».proof.Defs
public import proofs.«01_k».proof.Proof.Gen.Dx0
public import proofs.«01_k».proof.Proof.Gen.Dx0Ideal
public import proofs.«01_k».proof.Proof.Gen.Dx0Ideal.Value
public import proofs.«01_k».proof.Proof.Gen.Dx0RefIdeal
public import proofs.«01_k».proof.Proof.Gen.Dx0RefIdeal.Run
public import Idealize.ShloMosaic.Lib.Pipeline.ValueKit
public import Idealize.ShloMosaic.Lib.Pointwise

@[expose] public section

noncomputable section

namespace Cert.GradX

open Cert.Dx0Ideal Cert.Dx0Ideal.Gen Idealize.ShloMosaic Idealize.ShloMosaic.TcCoe Idealize.SL.Sem
open Idealize.ShloMosaic.Pipeline (Dat)

/-- The product of the first two arrays plus a multiple of the third. -/
def gradOf (a : FVec Ideal S4096x2048 .bf16) (b : FVec Ideal S2048x1024 .bf16) (z : FVec Ideal S4096x1024 .f32) :
    FVec Ideal S4096x1024 .f32 :=
  fun i => (∑ k : Fin 2048, a (ix2 (i 0) k) * b (ix2 k (i 1))) + Ideal.ofBits .f32 0x3F9837F0#32 * z i

variable (m : (ℓ : Loc nD τ sig) → Buf (Elt Ideal) ℓ) (c : Dev nD)

/-- The gradient that device `c` computes. -/
abbrev grad : FVec Ideal S4096x1024 .f32 :=
  gradOf (m ((c : Thread nD τ).loc main_arg0)) (m ((c : Thread nD τ).loc main_arg1)) (m ((c : Thread nD τ).loc main_arg2))

/-- What the call leaves is the gradient. -/
theorem final : (dats m 0 c).arrAt 3 cfg0.N = grad m c := by
  have e0 : ∀ t : Fin cfg0.N, win0_0.index t = ![(t : Nat), 0] := (by decide +kernel : ∀ t : Fin grid0.N, _)
  have e1 : ∀ t : Fin cfg0.N, win0_1.index t = ![0, 0] := (by decide +kernel : ∀ t : Fin grid0.N, _)
  have e2 : ∀ t : Fin cfg0.N, win0_2.index t = ![(t : Nat), 0] := (by decide +kernel : ∀ t : Fin grid0.N, _)
  have e3 : ∀ t : Fin cfg0.N, win0_3.index t = ![(t : Nat), 0] := (by decide +kernel : ∀ t : Fin grid0.N, _)
  refine (dats m 0 c).arrAt_eq_of_covers _ _ (by decide +kernel) fun t hf y => ?_
  blk_simp
  rw [after0_3]
  frame_out
  have h0 : ∀ k : Fin 2048, (win0_0.blk t).view.emb (ix2 (y 0) k) = ix2 ((win0_3.blk t).view.emb y 0) k := fun k => by blk_ext [e0, e3]
  have h1 : ∀ k : Fin 2048, (win0_1.blk t).view.emb (ix2 k (y 1)) = ix2 k ((win0_3.blk t).view.emb y 1) := fun k => by blk_ext [e1, e3]
  have h2 : (win0_2.blk t).view.emb y = (win0_3.blk t).view.emb y := by blk_ext [e2, e3]
  pointwise [k0_pay1, grad, gradOf]
  blk_simp [iblk]
  simp only [h0, h1, h2]
  rfl

/-- The reference's result is the gradient. -/
theorem grad_host (a : FVec Ideal S4096x2048 .bf16) (b : FVec Ideal S2048x1024 .bf16) (z : FVec Ideal S4096x1024 .f32) :
    addf (Host.dotGeneral Cert.Dx0RefIdeal.dot_S4096x2048_S2048x1024_S4096x1024_1_0_0_1_n_n none (extf .f32 a Cert.Dx0RefIdeal.Gen.bitsLt_bf16_f32)
      (extf .f32 b Cert.Dx0RefIdeal.Gen.bitsLt_bf16_f32))
      (mulf (broadcastInDim S4096x1024 ![] Cert.Dx0RefIdeal.Gen.bcast_S_S4096x1024 (constant Cert.Dx0RefIdeal.S_ .f32 0x3F9837F0#32)) z) = gradOf a b z := by
  funext i
  pointwise [gradOf]

/-- The two programs have the same bodies. -/
theorem same_defs : (Cert.Dx0.defs (F := Bits)) = Cert.Dx0Ideal.defs (F := Bits) :=
  congrArg (Pipeline.defs Cert.Dx0Ideal.pcfgs) (congrArg Defs.onTc (funext fun l => funext fun x => match l, x with | 0, _ => rfl))

/-- The call ends with its arguments unchanged and every counter at zero. -/
theorem frame_kernel : Cert.quiescent_Dx0 := fun m ρ _ => by
  rw [same_defs]
  exact Cert.Dx0Ideal.Gen.frame (F := Bits) m ρ

/-- So does the call over exact values. -/
theorem frame_kernelIdeal : Cert.quiescent_Dx0Ideal := fun m ρ _ => Cert.Dx0Ideal.Gen.frame (F := Ideal) m ρ

/-- The reference ends with its arrays unchanged; it has no counters. -/
theorem frame_referenceIdeal : Cert.quiescent_Dx0RefIdeal := fun m ρ _ =>
  (θ_run Cert.Dx0RefIdeal.defs _ _).mono (fun r h => ⟨fun c => (h c).2, sem_eq_zero_of_no_sems (by decide) r.2⟩)
    (Cert.Dx0RefIdeal.Value.run (F := Ideal) m ρ)

/-- The call computes the reference's result over exact values. -/
theorem algebraic : Cert.algebraic_Dx0Ideal_Dx0RefIdeal := fun m g m' g' _ ha => by
  refine ⟨fun c => grad m c, ?_, ?_⟩
  · exact (θ_run defs _ _).mono (fun r h c => ⟨(h c).1.trans (final m c), (h c).2⟩) (Cert.Dx0Ideal.Value.run_blocks m g)
  · refine (θ_run Cert.Dx0RefIdeal.defs _ _).mono (fun r h c => ?_) (Cert.Dx0RefIdeal.Value.run (F := Ideal) m' g')
    obtain ⟨h0, hk⟩ := h c
    obtain ⟨a0, a1, a2⟩ := ha c
    rw [grad_host, a0, a1, a2] at h0
    exact ⟨h0, hk⟩

end Cert.GradX
-- ==== Proof.Products.lean ====
/-
  Matrix products over exact values, as sums: of two matrices as they stand, of a matrix with a transposed one, of a
  transposed one with a matrix, and the first of them plus a multiple of a third matrix.
-/
module

public import Idealize.ShloMosaic.Lib.Pointwise
public import Idealize.ShloMosaic.Lib.IdealHost

@[expose] public section

noncomputable section

namespace Cert.Products

open Idealize.ShloMosaic

variable {M K N : Nat}

/-- The product. -/
def nn (a : (⟨2, ![M, K]⟩ : Shape).Idx → EReal) (b : (⟨2, ![K, N]⟩ : Shape).Idx → EReal) : (⟨2, ![M, N]⟩ : Shape).Idx → EReal :=
  fun i => ∑ k : Fin K, a (ix2 (i 0) k) * b (ix2 k (i 1))

/-- The product with the second matrix transposed. -/
def nt (a : (⟨2, ![M, K]⟩ : Shape).Idx → EReal) (b : (⟨2, ![N, K]⟩ : Shape).Idx → EReal) : (⟨2, ![M, N]⟩ : Shape).Idx → EReal :=
  fun i => ∑ k : Fin K, a (ix2 (i 0) k) * b (ix2 (i 1) k)

/-- The product with the first matrix transposed. -/
def tn (a : (⟨2, ![K, M]⟩ : Shape).Idx → EReal) (b : (⟨2, ![K, N]⟩ : Shape).Idx → EReal) : (⟨2, ![M, N]⟩ : Shape).Idx → EReal :=
  fun i => ∑ k : Fin K, a (ix2 k (i 0)) * b (ix2 k (i 1))

/-- The product plus the fourth root of two, rounded to a float, times a third matrix. -/
def nnPlus (a : (⟨2, ![M, K]⟩ : Shape).Idx → EReal) (b : (⟨2, ![K, N]⟩ : Shape).Idx → EReal)
    (z : (⟨2, ![M, N]⟩ : Shape).Idx → EReal) : (⟨2, ![M, N]⟩ : Shape).Idx → EReal :=
  fun i => nn a b i + Ideal.ofBits .f32 0x3F9837F0#32 * z i

end Cert.Products

end
-- ==== Proof.GradDown.lean ====
/-
  The device's part of the gradient of the down projection: a product over all tokens, added up over four stretches of
  tokens.
-/
module

public import proofs.«01_k».proof.Defs
public import proofs.«01_k».proof.Proof.Gen.DwDown
public import proofs.«01_k».proof.Proof.Gen.DwDownIdeal
public import proofs.«01_k».proof.Proof.Gen.DwDownIdeal.Value
public import proofs.«01_k».proof.Proof.Gen.DwDownRefIdeal
public import proofs.«01_k».proof.Proof.Gen.DwDownRefIdeal.Run
public import proofs.«01_k».proof.Proof.Products
public import Idealize.ShloMosaic.Lib.Pipeline.ValueKit
public import Idealize.ShloMosaic.Lib.Pipeline.ReadBack
public import Idealize.ShloMosaic.Lib.Pointwise

@[expose] public section

noncomputable section

namespace Cert.GradDown

open Cert.DwDownIdeal Cert.DwDownIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product that device `c` computes. -/
abbrev prod : FVec Ideal S2816x1024 .bf16 :=
  Products.tn (M := 2816) (K := 4096) (N := 1024) (m ((c : Thread nD τ).loc main_arg0)) (m ((c : Thread nD τ).loc main_arg1))

/-- What grid step `t` adds to the sum. -/
abbrev term (t : Fin cfg0.N) : FVec Ideal S1408x1024 .f32 := Products.tn (M := 1408) (K := 1024) (N := 1024) (iblk m c 0 t) (iblk m c 1 t)

/-- The sum after grid step `t`, where it is complete. -/
theorem sum_term (t : Fin cfg0.N) (ht : t.val % 4 = 3) (y : S1408x1024.Idx) :
    (outsAt0 m c t.val t.isLt).2 y = 0 + ∑ s : Fin 4, term m c ⟨4 * (t.val / 4) + s.val, Pipeline.run_point_lt_of_flush t ht s⟩ y := by
  refine Pipeline.eq_sum_fin_of_reset_step_apply_of_flush (fun n h => (outsAt0 m c n h).2) 4 (fun _ => (0 : EReal)) (term m c) (fun t h0 y => ?_)
    (fun t h0 y => ?_) t ht y
  · rw [outsAt0_A m c t h0 (by omega) (by omega)]
    frame_out
    pointwise [k0_pay2, k0_pay1, term, Products.tn]
  · by_cases h2 : t.val % 4 = 3
    · rw [outsAt0_C m c t h0 (by omega) h2]
      frame_out
      simp only [read_unread_whole]
      pointwise [k0_pay3, k0_pay1, term, Products.tn]
    · rw [outsAt0_B m c t h0 (by omega) h2]
      frame_out
      simp only [read_unread_whole]
      pointwise [k0_pay3, k0_pay1, term, Products.tn]

/-- What the call leaves is the product. -/
theorem final : (dats m 0 c).arrAt 2 cfg0.N = prod m c := by
  have e0 : ∀ t : Fin cfg0.N, win0_0.index t = ![(t : Nat) % 4, (t : Nat) / 4] := (by decide +kernel : ∀ t : Fin grid0.N, _)
  have e1 : ∀ t : Fin cfg0.N, win0_1.index t = ![(t : Nat) % 4, 0] := (by decide +kernel : ∀ t : Fin grid0.N, _)
  have e2 : ∀ t : Fin cfg0.N, win0_2.index t = ![(t : Nat) / 4, 0] := (by decide +kernel : ∀ t : Fin grid0.N, _)
  refine (dats m 0 c).arrAt_eq_of_covers _ _ (by decide +kernel) fun t hf y => ?_
  have ht : t.val % 4 = 3 := (flush0_2 t).mp hf
  have hs := sum_term m c t ht y
  blk_simp
  rw [after0_2]
  rw [outsAt0_C m c t (by omega) (by omega) ht] at hs ⊢
  frame_out at hs ⊢
  refine hs.trans ((zero_add _).trans ?_)
  refine Fin.sum_mul_add_congr fun s k hl => ?_
  have hd : (4 * (t.val / 4) + s.val) / 4 = t.val / 4 := by omega
  have hm : (4 * (t.val / 4) + s.val) % 4 = s.val := by omega
  have h0 : (win0_0.blk ⟨4 * (t.val / 4) + s.val, Pipeline.run_point_lt_of_flush t ht s⟩).view.emb (ix2 k (y 0))
      = ix2 ⟨s.val * 1024 + k.val, hl⟩ ((win0_2.blk t).view.emb y 0) := by blk_ext [e0, e2, hd, hm]
  have h1 : (win0_1.blk ⟨4 * (t.val / 4) + s.val, Pipeline.run_point_lt_of_flush t ht s⟩).view.emb (ix2 k (y 1))
      = ix2 ⟨s.val * 1024 + k.val, hl⟩ ((win0_2.blk t).view.emb y 1) := by blk_ext [e1, e2, hd, hm]
  blk_simp [iblk]
  rw [h0, h1]
  rfl

/-- The reference's result is the product. -/
theorem prod_host (a : FVec Ideal S4096x2816 .bf16) (b : FVec Ideal S4096x1024 .bf16) :
    truncf .bf16 (Host.dotGeneral Cert.DwDownRefIdeal.dot_S2816x4096_S4096x1024_S2816x1024_1_0_0_1_n_n none
      (transpose Cert.DwDownRefIdeal.S2816x4096 [1, 0] (extf .f32 a Cert.DwDownRefIdeal.Gen.bitsLt_bf16_f32) Cert.DwDownRefIdeal.Gen.transposes_S4096x2816_S2816x4096_1_0)
      (extf .f32 b Cert.DwDownRefIdeal.Gen.bitsLt_bf16_f32)) Cert.DwDownRefIdeal.Gen.bitsLt_bf16_f32 = Products.tn (M := 2816) (K := 4096) (N := 1024) a b := by
  funext i
  pointwise [Products.tn]

/-- The two programs have the same bodies. -/
theorem same_defs : (Cert.DwDown.defs (F := Bits)) = Cert.DwDownIdeal.defs (F := Bits) :=
  congrArg (Pipeline.defs Cert.DwDownIdeal.pcfgs) (congrArg Defs.onTc (funext fun l => funext fun x => match l, x with | 0, _ => rfl))

/-- The call ends with its arguments unchanged and every counter at zero. -/
theorem frame_kernel : Cert.quiescent_DwDown := fun m ρ _ => by
  rw [same_defs]
  exact Cert.DwDownIdeal.Gen.frame (F := Bits) m ρ

/-- So does the call over exact values. -/
theorem frame_kernelIdeal : Cert.quiescent_DwDownIdeal := fun m ρ _ => Cert.DwDownIdeal.Gen.frame (F := Ideal) m ρ

/-- The reference ends with its arrays unchanged; it has no counters. -/
theorem frame_referenceIdeal : Cert.quiescent_DwDownRefIdeal := fun m ρ _ =>
  (θ_run Cert.DwDownRefIdeal.defs _ _).mono (fun r h => ⟨fun c => (h c).2, sem_eq_zero_of_no_sems (by decide) r.2⟩)
    (Cert.DwDownRefIdeal.Value.run (F := Ideal) m ρ)

/-- The call computes the reference's result over exact values. -/
theorem algebraic : Cert.algebraic_DwDownIdeal_DwDownRefIdeal := fun m g m' g' _ ha => by
  refine ⟨fun c => prod m c, ?_, ?_⟩
  · exact (θ_run defs _ _).mono (fun r h c => ⟨(h c).1.trans (final m c), (h c).2⟩) (Cert.DwDownIdeal.Value.run_blocks m g)
  · refine (θ_run Cert.DwDownRefIdeal.defs _ _).mono (fun r h c => ?_) (Cert.DwDownRefIdeal.Value.run (F := Ideal) m' g')
    obtain ⟨h0, hk⟩ := h c
    obtain ⟨a0, a1⟩ := ha c
    rw [prod_host, a0, a1] at h0
    exact ⟨h0, hk⟩

end Cert.GradDown

end
-- ==== Proof.ProdHidden.lean ====
/-
  The input projection: the tokens times the transposed input weights.
-/
module

public import proofs.«01_k».proof.Defs
public import proofs.«01_k».proof.Proof.Gen.Hidden
public import proofs.«01_k».proof.Proof.Gen.HiddenIdeal
public import proofs.«01_k».proof.Proof.Gen.HiddenIdeal.Value
public import proofs.«01_k».proof.Proof.Gen.HiddenRefIdeal
public import proofs.«01_k».proof.Proof.Gen.HiddenRefIdeal.Run
public import proofs.«01_k».proof.Proof.Products
public import Idealize.ShloMosaic.Lib.Pipeline.ValueKit
public import Idealize.ShloMosaic.Lib.Pointwise

@[expose] public section

noncomputable section

namespace Cert.ProdHidden

open Cert.HiddenIdeal Cert.HiddenIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product that device `c` computes. -/
abbrev prod : FVec Ideal S4096x2048 .f32 :=
  Products.nt (M := 4096) (K := 1024) (N := 2048) (m ((c : Thread nD τ).loc main_arg0)) (m ((c : Thread nD τ).loc main_arg1))

/-- What the call leaves is the product. -/
theorem final : (dats m 0 c).arrAt 2 cfg0.N = prod m c := by
  have e0 : ∀ t : Fin cfg0.N, win0_0.index t = ![(t : Nat) / 2, 0] := (by decide +kernel : ∀ t : Fin grid0.N, _)
  have e1 : ∀ t : Fin cfg0.N, win0_1.index t = ![(t : Nat) % 2, 0] := (by decide +kernel : ∀ t : Fin grid0.N, _)
  have e2 : ∀ t : Fin cfg0.N, win0_2.index t = ![(t : Nat) / 2, (t : Nat) % 2] := (by decide +kernel : ∀ t : Fin grid0.N, _)
  refine (dats m 0 c).arrAt_eq_of_covers _ _ (by decide +kernel) fun t hf y => ?_
  blk_simp
  rw [after0_2]
  frame_out
  have h0 : ∀ k : Fin 1024, (win0_0.blk t).view.emb (ix2 (y 0) k) = ix2 ((win0_2.blk t).view.emb y 0) k := fun k => by blk_ext [e0, e2]
  have h1 : ∀ k : Fin 1024, (win0_1.blk t).view.emb (ix2 (y 1) k) = ix2 ((win0_2.blk t).view.emb y 1) k := fun k => by blk_ext [e1, e2]
  pointwise [k0_pay1, prod, Products.nt]
  blk_simp [iblk]
  simp only [h0, h1]
  rfl

/-- The reference's result is the product. -/
theorem prod_host (a : FVec Ideal S4096x1024 .bf16) (b : FVec Ideal S2048x1024 .bf16) :
    Host.dotGeneral Cert.HiddenRefIdeal.dot_S4096x1024_S1024x2048_S4096x2048_1_0_0_1_n_n none (extf .f32 a Cert.HiddenRefIdeal.Gen.bitsLt_bf16_f32)
      (transpose Cert.HiddenRefIdeal.S1024x2048 [1, 0] (extf .f32 b Cert.HiddenRefIdeal.Gen.bitsLt_bf16_f32) Cert.HiddenRefIdeal.Gen.transposes_S2048x1024_S1024x2048_1_0) = Products.nt (M := 4096) (K := 1024) (N := 2048) a b := by
  funext i
  pointwise [Products.nt]

/-- The two programs have the same bodies. -/
theorem same_defs : (Cert.Hidden.defs (F := Bits)) = Cert.HiddenIdeal.defs (F := Bits) :=
  congrArg (Pipeline.defs Cert.HiddenIdeal.pcfgs) (congrArg Defs.onTc (funext fun l => funext fun x => match l, x with | 0, _ => rfl))

/-- The call ends with its arguments unchanged and every counter at zero. -/
theorem frame_kernel : Cert.quiescent_Hidden := fun m ρ _ => by
  rw [same_defs]
  exact Cert.HiddenIdeal.Gen.frame (F := Bits) m ρ

/-- So does the call over exact values. -/
theorem frame_kernelIdeal : Cert.quiescent_HiddenIdeal := fun m ρ _ => Cert.HiddenIdeal.Gen.frame (F := Ideal) m ρ

/-- The reference ends with its arrays unchanged; it has no counters. -/
theorem frame_referenceIdeal : Cert.quiescent_HiddenRefIdeal := fun m ρ _ =>
  (θ_run Cert.HiddenRefIdeal.defs _ _).mono (fun r h => ⟨fun c => (h c).2, sem_eq_zero_of_no_sems (by decide) r.2⟩)
    (Cert.HiddenRefIdeal.Value.run (F := Ideal) m ρ)

/-- The call computes the reference's result over exact values. -/
theorem algebraic : Cert.algebraic_HiddenIdeal_HiddenRefIdeal := fun m g m' g' _ ha => by
  refine ⟨fun c => prod m c, ?_, ?_⟩
  · exact (θ_run defs _ _).mono (fun r h c => ⟨(h c).1.trans (final m c), (h c).2⟩) (Cert.HiddenIdeal.Value.run_blocks m g)
  · refine (θ_run Cert.HiddenRefIdeal.defs _ _).mono (fun r h c => ?_) (Cert.HiddenRefIdeal.Value.run (F := Ideal) m' g')
    obtain ⟨h0, hk⟩ := h c
    obtain ⟨a0, a1⟩ := ha c
    rw [prod_host, a0, a1] at h0
    exact ⟨h0, hk⟩

end Cert.ProdHidden

end
-- ==== Proof.ProdUp.lean ====
/-
  The up projection: the normalized tokens times the transposed up weights.
-/
module

public import proofs.«01_k».proof.Defs
public import proofs.«01_k».proof.Proof.Gen.Up
public import proofs.«01_k».proof.Proof.Gen.UpIdeal
public import proofs.«01_k».proof.Proof.Gen.UpIdeal.Value
public import proofs.«01_k».proof.Proof.Gen.UpRefIdeal
public import proofs.«01_k».proof.Proof.Gen.UpRefIdeal.Run
public import proofs.«01_k».proof.Proof.Products
public import Idealize.ShloMosaic.Lib.Pipeline.ValueKit
public import Idealize.ShloMosaic.Lib.Pointwise

@[expose] public section

noncomputable section

namespace Cert.ProdUp

open Cert.UpIdeal Cert.UpIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product that device `c` computes. -/
abbrev prod : FVec Ideal S4096x5632 .f32 :=
  Products.nt (M := 4096) (K := 1024) (N := 5632) (m ((c : Thread nD τ).loc main_arg0)) (m ((c : Thread nD τ).loc main_arg1))

/-- What the call leaves is the product. -/
theorem final : (dats m 0 c).arrAt 2 cfg0.N = prod m c := by
  have e0 : ∀ t : Fin cfg0.N, win0_0.index t = ![(t : Nat) / 11, 0] := (by decide +kernel : ∀ t : Fin grid0.N, _)
  have e1 : ∀ t : Fin cfg0.N, win0_1.index t = ![(t : Nat) % 11, 0] := (by decide +kernel : ∀ t : Fin grid0.N, _)
  have e2 : ∀ t : Fin cfg0.N, win0_2.index t = ![(t : Nat) / 11, (t : Nat) % 11] := (by decide +kernel : ∀ t : Fin grid0.N, _)
  refine (dats m 0 c).arrAt_eq_of_covers _ _ (by decide +kernel) fun t hf y => ?_
  blk_simp
  rw [after0_2]
  frame_out
  have h0 : ∀ k : Fin 1024, (win0_0.blk t).view.emb (ix2 (y 0) k) = ix2 ((win0_2.blk t).view.emb y 0) k := fun k => by blk_ext [e0, e2]
  have h1 : ∀ k : Fin 1024, (win0_1.blk t).view.emb (ix2 (y 1) k) = ix2 ((win0_2.blk t).view.emb y 1) k := fun k => by blk_ext [e1, e2]
  pointwise [k0_pay1, prod, Products.nt]
  blk_simp [iblk]
  simp only [h0, h1]
  rfl

/-- The reference's result is the product. -/
theorem prod_host (a : FVec Ideal S4096x1024 .bf16) (b : FVec Ideal S5632x1024 .bf16) :
    Host.dotGeneral Cert.UpRefIdeal.dot_S4096x1024_S1024x5632_S4096x5632_1_0_0_1_n_n none (extf .f32 a Cert.UpRefIdeal.Gen.bitsLt_bf16_f32)
      (transpose Cert.UpRefIdeal.S1024x5632 [1, 0] (extf .f32 b Cert.UpRefIdeal.Gen.bitsLt_bf16_f32) Cert.UpRefIdeal.Gen.transposes_S5632x1024_S1024x5632_1_0) = Products.nt (M := 4096) (K := 1024) (N := 5632) a b := by
  funext i
  pointwise [Products.nt]

/-- The two programs have the same bodies. -/
theorem same_defs : (Cert.Up.defs (F := Bits)) = Cert.UpIdeal.defs (F := Bits) :=
  congrArg (Pipeline.defs Cert.UpIdeal.pcfgs) (congrArg Defs.onTc (funext fun l => funext fun x => match l, x with | 0, _ => rfl))

/-- The call ends with its arguments unchanged and every counter at zero. -/
theorem frame_kernel : Cert.quiescent_Up := fun m ρ _ => by
  rw [same_defs]
  exact Cert.UpIdeal.Gen.frame (F := Bits) m ρ

/-- So does the call over exact values. -/
theorem frame_kernelIdeal : Cert.quiescent_UpIdeal := fun m ρ _ => Cert.UpIdeal.Gen.frame (F := Ideal) m ρ

/-- The reference ends with its arrays unchanged; it has no counters. -/
theorem frame_referenceIdeal : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- The call computes the reference's result over exact values. -/
theorem algebraic : Cert.algebraic_UpIdeal_UpRefIdeal := fun m g m' g' _ ha => by
  refine ⟨fun c => prod m c, ?_, ?_⟩
  · exact (θ_run defs _ _).mono (fun r h c => ⟨(h c).1.trans (final m c), (h c).2⟩) (Cert.UpIdeal.Value.run_blocks m g)
  · refine (θ_run Cert.UpRefIdeal.defs _ _).mono (fun r h c => ?_) (Cert.UpRefIdeal.Value.run (F := Ideal) m' g')
    obtain ⟨h0, hk⟩ := h c
    obtain ⟨a0, a1⟩ := ha c
    rw [prod_host, a0, a1] at h0
    exact ⟨h0, hk⟩

end Cert.ProdUp

end
-- ==== Proof.ProdFfn.lean ====
/-
  The down projection: the gated activations times the down weights.
-/
module

public import proofs.«01_k».proof.Defs
public import proofs.«01_k».proof.Proof.Gen.Ffn
public import proofs.«01_k».proof.Proof.Gen.FfnIdeal
public import proofs.«01_k».proof.Proof.Gen.FfnIdeal.Value
public import proofs.«01_k».proof.Proof.Gen.FfnRefIdeal
public import proofs.«01_k».proof.Proof.Gen.FfnRefIdeal.Run
public import proofs.«01_k».proof.Proof.Products
public import Idealize.ShloMosaic.Lib.Pipeline.ValueKit
public import Idealize.ShloMosaic.Lib.Pointwise

@[expose] public section

noncomputable section

namespace Cert.ProdFfn

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product that device `c` computes. -/
abbrev prod : FVec Ideal S4096x1024 .f32 :=
  Products.nn (M := 4096) (K := 2816) (N := 1024) (m ((c : Thread nD τ).loc main_arg0)) (m ((c : Thread nD τ).loc main_arg1))

/-- What the call leaves is the product. -/
theorem final : (dats m 0 c).arrAt 2 cfg0.N = prod m c := by
  have e0 : ∀ t : Fin cfg0.N, win0_0.index t = ![(t : Nat), 0] := (by decide +kernel : ∀ t : Fin grid0.N, _)
  have e1 : ∀ t : Fin cfg0.N, win0_1.index t = ![0, 0] := (by decide +kernel : ∀ t : Fin grid0.N, _)
  have e2 : ∀ t : Fin cfg0.N, win0_2.index t = ![(t : Nat), 0] := (by decide +kernel : ∀ t : Fin grid0.N, _)
  refine (dats m 0 c).arrAt_eq_of_covers _ _ (by decide +kernel) fun t hf y => ?_
  blk_simp
  rw [after0_2]
  frame_out
  have h0 : ∀ k : Fin 2816, (win0_0.blk t).view.emb (ix2 (y 0) k) = ix2 ((win0_2.blk t).view.emb y 0) k := fun k => by blk_ext [e0, e2]
  have h1 : ∀ k : Fin 2816, (win0_1.blk t).view.emb (ix2 k (y 1)) = ix2 k ((win0_2.blk t).view.emb y 1) := fun k => by blk_ext [e1, e2]
  pointwise [k0_pay1, prod, Products.nn]
  blk_simp [iblk]
  simp only [h0, h1]
  rfl

/-- The reference's result is the product. -/
theorem prod_host (a : FVec Ideal S4096x2816 .bf16) (b : FVec Ideal S2816x1024 .bf16) :
    Host.dotGeneral Cert.FfnRefIdeal.dot_S4096x2816_S2816x1024_S4096x1024_1_0_0_1_n_n none (extf .f32 a Cert.FfnRefIdeal.Gen.bitsLt_bf16_f32)
      (extf .f32 b Cert.FfnRefIdeal.Gen.bitsLt_bf16_f32) = Products.nn (M := 4096) (K := 2816) (N := 1024) a b := by
  funext i
  pointwise [Products.nn]

/-- The two programs have the same bodies. -/
theorem same_defs : (Cert.Ffn.defs (F := Bits)) = Cert.FfnIdeal.defs (F := Bits) :=
  congrArg (Pipeline.defs Cert.FfnIdeal.pcfgs) (congrArg Defs.onTc (funext fun l => funext fun x => match l, x with | 0, _ => rfl))

/-- The call ends with its arguments unchanged and every counter at zero. -/
theorem frame_kernel : Cert.quiescent_Ffn := fun m ρ _ => by
  rw [same_defs]
  exact Cert.FfnIdeal.Gen.frame (F := Bits) m ρ

/-- So does the call over exact values. -/
theorem frame_kernelIdeal : Cert.quiescent_FfnIdeal := fun m ρ _ => Cert.FfnIdeal.Gen.frame (F := Ideal) m ρ

/-- The reference ends with its arrays unchanged; it has no counters. -/
theorem frame_referenceIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The call computes the reference's result over exact values. -/
theorem algebraic : Cert.algebraic_FfnIdeal_FfnRefIdeal := fun m g m' g' _ ha => by
  refine ⟨fun c => prod m c, ?_, ?_⟩
  · exact (θ_run defs _ _).mono (fun r h c => ⟨(h c).1.trans (final m c), (h c).2⟩) (Cert.FfnIdeal.Value.run_blocks m g)
  · refine (θ_run Cert.FfnRefIdeal.defs _ _).mono (fun r h c => ?_) (Cert.FfnRefIdeal.Value.run (F := Ideal) m' g')
    obtain ⟨h0, hk⟩ := h c
    obtain ⟨a0, a1⟩ := ha c
    rw [prod_host, a0, a1] at h0
    exact ⟨h0, hk⟩

end Cert.ProdFfn

end
-- ==== Proof.ProdAct.lean ====
/-
  The gradient of the gated activations: the gradient past the second normalization times the transposed down weights.
-/
module

public import proofs.«01_k».proof.Defs
public import proofs.«01_k».proof.Proof.Gen.DAct
public import proofs.«01_k».proof.Proof.Gen.DActIdeal
public import proofs.«01_k».proof.Proof.Gen.DActIdeal.Value
public import proofs.«01_k».proof.Proof.Gen.DActRefIdeal
public import proofs.«01_k».proof.Proof.Gen.DActRefIdeal.Run
public import proofs.«01_k».proof.Proof.Products
public import Idealize.ShloMosaic.Lib.Pipeline.ValueKit
public import Idealize.ShloMosaic.Lib.Pointwise

@[expose] public section

noncomputable section

namespace Cert.ProdAct

open Cert.DActIdeal Cert.DActIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product that device `c` computes. -/
abbrev prod : FVec Ideal S4096x2816 .bf16 :=
  Products.nt (M := 4096) (K := 1024) (N := 2816) (m ((c : Thread nD τ).loc main_arg0)) (m ((c : Thread nD τ).loc main_arg1))

/-- What the call leaves is the product. -/
theorem final : (dats m 0 c).arrAt 2 cfg0.N = prod m c := by
  have e0 : ∀ t : Fin cfg0.N, win0_0.index t = ![(t : Nat) / 2, 0] := (by decide +kernel : ∀ t : Fin grid0.N, _)
  have e1 : ∀ t : Fin cfg0.N, win0_1.index t = ![(t : Nat) % 2, 0] := (by decide +kernel : ∀ t : Fin grid0.N, _)
  have e2 : ∀ t : Fin cfg0.N, win0_2.index t = ![(t : Nat) / 2, (t : Nat) % 2] := (by decide +kernel : ∀ t : Fin grid0.N, _)
  refine (dats m 0 c).arrAt_eq_of_covers _ _ (by decide +kernel) fun t hf y => ?_
  blk_simp
  rw [after0_2]
  frame_out
  have h0 : ∀ k : Fin 1024, (win0_0.blk t).view.emb (ix2 (y 0) k) = ix2 ((win0_2.blk t).view.emb y 0) k := fun k => by blk_ext [e0, e2]
  have h1 : ∀ k : Fin 1024, (win0_1.blk t).view.emb (ix2 (y 1) k) = ix2 ((win0_2.blk t).view.emb y 1) k := fun k => by blk_ext [e1, e2]
  pointwise [k0_pay1, prod, Products.nt]
  blk_simp [iblk]
  simp only [h0, h1]
  rfl

/-- The reference's result is the product. -/
theorem prod_host (a : FVec Ideal S4096x1024 .bf16) (b : FVec Ideal S2816x1024 .bf16) :
    truncf .bf16 (Host.dotGeneral Cert.DActRefIdeal.dot_S4096x1024_S1024x2816_S4096x2816_1_0_0_1_n_n none (extf .f32 a Cert.DActRefIdeal.Gen.bitsLt_bf16_f32)
      (transpose Cert.DActRefIdeal.S1024x2816 [1, 0] (extf .f32 b Cert.DActRefIdeal.Gen.bitsLt_bf16_f32) Cert.DActRefIdeal.Gen.transposes_S2816x1024_S1024x2816_1_0)) Cert.DActRefIdeal.Gen.bitsLt_bf16_f32 = Products.nt (M := 4096) (K := 1024) (N := 2816) a b := by
  funext i
  pointwise [Products.nt]

/-- The two programs have the same bodies. -/
theorem same_defs : (Cert.DAct.defs (F := Bits)) = Cert.DActIdeal.defs (F := Bits) :=
  congrArg (Pipeline.defs Cert.DActIdeal.pcfgs) (congrArg Defs.onTc (funext fun l => funext fun x => match l, x with | 0, _ => rfl))

/-- The call ends with its arguments unchanged and every counter at zero. -/
theorem frame_kernel : Cert.quiescent_DAct := fun m ρ _ => by
  rw [same_defs]
  exact Cert.DActIdeal.Gen.frame (F := Bits) m ρ

/-- So does the call over exact values. -/
theorem frame_kernelIdeal : Cert.quiescent_DActIdeal := fun m ρ _ => Cert.DActIdeal.Gen.frame (F := Ideal) m ρ

/-- The reference ends with its arrays unchanged; it has no counters. -/
theorem frame_referenceIdeal : Cert.quiescent_DActRefIdeal := fun m ρ _ =>
  (θ_run Cert.DActRefIdeal.defs _ _).mono (fun r h => ⟨fun c => (h c).2, sem_eq_zero_of_no_sems (by decide) r.2⟩)
    (Cert.DActRefIdeal.Value.run (F := Ideal) m ρ)

/-- The call computes the reference's result over exact values. -/
theorem algebraic : Cert.algebraic_DActIdeal_DActRefIdeal := fun m g m' g' _ ha => by
  refine ⟨fun c => prod m c, ?_, ?_⟩
  · exact (θ_run defs _ _).mono (fun r h c => ⟨(h c).1.trans (final m c), (h c).2⟩) (Cert.DActIdeal.Value.run_blocks m g)
  · refine (θ_run Cert.DActRefIdeal.defs _ _).mono (fun r h c => ?_) (Cert.DActRefIdeal.Value.run (F := Ideal) m' g')
    obtain ⟨h0, hk⟩ := h c
    obtain ⟨a0, a1⟩ := ha c
    rw [prod_host, a0, a1] at h0
    exact ⟨h0, hk⟩

end Cert.ProdAct

end
-- ==== Proof.ProdDil.lean ====
/-
  The gradient of the dilated heads: the gradient past the first normalization times the transposed output weights.
-/
module

public import proofs.«01_k».proof.Defs
public import proofs.«01_k».proof.Proof.Gen.DoDil
public import proofs.«01_k».proof.Proof.Gen.DoDilIdeal
public import proofs.«01_k».proof.Proof.Gen.DoDilIdeal.Value
public import proofs.«01_k».proof.Proof.Gen.DoDilRefIdeal
public import proofs.«01_k».proof.Proof.Gen.DoDilRefIdeal.Run
public import proofs.«01_k».proof.Proof.Products
public import Idealize.ShloMosaic.Lib.Pipeline.ValueKit
public import Idealize.ShloMosaic.Lib.Pointwise

@[expose] public section

noncomputable section

namespace Cert.ProdDil

open Cert.DoDilIdeal Cert.DoDilIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product that device `c` computes. -/
abbrev prod : FVec Ideal S4096x512 .f32 :=
  Products.nt (M := 4096) (K := 1024) (N := 512) (m ((c : Thread nD τ).loc main_arg0)) (m ((c : Thread nD τ).loc main_arg1))

/-- What the call leaves is the product. -/
theorem final : (dats m 0 c).arrAt 2 cfg0.N = prod m c := by
  have e0 : ∀ t : Fin cfg0.N, win0_0.index t = ![(t : Nat), 0] := (by decide +kernel : ∀ t : Fin grid0.N, _)
  have e1 : ∀ t : Fin cfg0.N, win0_1.index t = ![0, 0] := (by decide +kernel : ∀ t : Fin grid0.N, _)
  have e2 : ∀ t : Fin cfg0.N, win0_2.index t = ![(t : Nat), 0] := (by decide +kernel : ∀ t : Fin grid0.N, _)
  refine (dats m 0 c).arrAt_eq_of_covers _ _ (by decide +kernel) fun t hf y => ?_
  blk_simp
  rw [after0_2]
  frame_out
  have h0 : ∀ k : Fin 1024, (win0_0.blk t).view.emb (ix2 (y 0) k) = ix2 ((win0_2.blk t).view.emb y 0) k := fun k => by blk_ext [e0, e2]
  have h1 : ∀ k : Fin 1024, (win0_1.blk t).view.emb (ix2 (y 1) k) = ix2 ((win0_2.blk t).view.emb y 1) k := fun k => by blk_ext [e1, e2]
  pointwise [k0_pay1, prod, Products.nt]
  blk_simp [iblk]
  simp only [h0, h1]
  rfl

/-- The reference's result is the product. -/
theorem prod_host (a : FVec Ideal S4096x1024 .bf16) (b : FVec Ideal S512x1024 .bf16) :
    Host.dotGeneral Cert.DoDilRefIdeal.dot_S4096x1024_S1024x512_S4096x512_1_0_0_1_n_n none (extf .f32 a Cert.DoDilRefIdeal.Gen.bitsLt_bf16_f32)
      (transpose Cert.DoDilRefIdeal.S1024x512 [1, 0] (extf .f32 b Cert.DoDilRefIdeal.Gen.bitsLt_bf16_f32) Cert.DoDilRefIdeal.Gen.transposes_S512x1024_S1024x512_1_0) = Products.nt (M := 4096) (K := 1024) (N := 512) a b := by
  funext i
  pointwise [Products.nt]

/-- The two programs have the same bodies. -/
theorem same_defs : (Cert.DoDil.defs (F := Bits)) = Cert.DoDilIdeal.defs (F := Bits) :=
  congrArg (Pipeline.defs Cert.DoDilIdeal.pcfgs) (congrArg Defs.onTc (funext fun l => funext fun x => match l, x with | 0, _ => rfl))

/-- The call ends with its arguments unchanged and every counter at zero. -/
theorem frame_kernel : Cert.quiescent_DoDil := fun m ρ _ => by
  rw [same_defs]
  exact Cert.DoDilIdeal.Gen.frame (F := Bits) m ρ

/-- So does the call over exact values. -/
theorem frame_kernelIdeal : Cert.quiescent_DoDilIdeal := fun m ρ _ => Cert.DoDilIdeal.Gen.frame (F := Ideal) m ρ

/-- The reference ends with its arrays unchanged; it has no counters. -/
theorem frame_referenceIdeal : Cert.quiescent_DoDilRefIdeal := fun m ρ _ =>
  (θ_run Cert.DoDilRefIdeal.defs _ _).mono (fun r h => ⟨fun c => (h c).2, sem_eq_zero_of_no_sems (by decide) r.2⟩)
    (Cert.DoDilRefIdeal.Value.run (F := Ideal) m ρ)

/-- The call computes the reference's result over exact values. -/
theorem algebraic : Cert.algebraic_DoDilIdeal_DoDilRefIdeal := fun m g m' g' _ ha => by
  refine ⟨fun c => prod m c, ?_, ?_⟩
  · exact (θ_run defs _ _).mono (fun r h c => ⟨(h c).1.trans (final m c), (h c).2⟩) (Cert.DoDilIdeal.Value.run_blocks m g)
  · refine (θ_run Cert.DoDilRefIdeal.defs _ _).mono (fun r h c => ?_) (Cert.DoDilRefIdeal.Value.run (F := Ideal) m' g')
    obtain ⟨h0, hk⟩ := h c
    obtain ⟨a0, a1⟩ := ha c
    rw [prod_host, a0, a1] at h0
    exact ⟨h0, hk⟩

end Cert.ProdDil

end
-- ==== Proof.ProdHeads.lean ====
/-
  The gradient of the first attention's heads: each head is the product with 128 rows of the weights, in blocks of 1024
  rows.
-/
module

public import proofs.«01_k».proof.Defs
public import proofs.«01_k».proof.Proof.Gen.DoMla
public import proofs.«01_k».proof.Proof.Gen.DoMlaIdeal
public import proofs.«01_k».proof.Proof.Gen.DoMlaIdeal.Value
public import proofs.«01_k».proof.Proof.Gen.DoMlaRefIdeal
public import proofs.«01_k».proof.Proof.Gen.DoMlaRefIdeal.Run
public import Idealize.ShloMosaic.Lib.Pipeline.ValueKit
public import Idealize.ShloMosaic.Lib.Pipeline.ReadBack
public import Idealize.ShloMosaic.Lib.Pointwise

@[expose] public section

noncomputable section

namespace Cert.ProdHeads

open Cert.DoMlaIdeal Cert.DoMlaIdeal.Gen Idealize.ShloMosaic Idealize.ShloMosaic.TcCoe Idealize.SL.Sem
open Idealize.ShloMosaic.Pipeline (Dat)

/-! ## The heads, over exact values -/

section
variable {M M' : Nat}

/-- A matrix of `M` rows of 1024 numbers. -/
abbrev Rows (M : Nat) : Type := (⟨2, ![M, 1024]⟩ : Shape).Idx → EReal

/-- Row `r` of the gradient against row `n` of the weights. -/
def dot (d : Rows M) (w : Rows 1024) (r : Fin M) (n : Nat) (hn : n < 1024) : EReal :=
  ∑ k : Fin 1024, d (ix2 r k) * w (ix2 ⟨n, hn⟩ k)

/-- The same, at equal rows. -/
theorem dot_at {d : Rows M} {w : Rows 1024} {r r' : Fin M} {n n' : Nat} {hn : n < 1024} {hn' : n' < 1024} (hr : r.val = r'.val) (h : n = n') :
    ∑ k : Fin 1024, d (ix2 r k) * w (ix2 ⟨n, hn⟩ k) = dot d w r' n' hn' := by
  obtain rfl := Fin.ext hr
  subst h
  rfl

/-- The heads: number `l` of head `h` is taken against row `128 h + l`. -/
def heads (d : Rows M) (w : Rows 1024) : (⟨3, ![8, M, 128]⟩ : Shape).Idx → EReal := fun i =>
  dot d w (i 1) ((i 0).val * 128 + (i 2).val) (by have h0 : (i 0).val < 8 := (i 0).isLt; have h2 : (i 2).val < 128 := (i 2).isLt; omega)

/-- A row's products depend on that row alone. -/
theorem dot_row {d : Rows M} {d' : Rows M'} {w w' : Rows 1024} {r : Fin M} {r' : Fin M'} {n n' : Nat} {hn : n < 1024} {hn' : n' < 1024}
    (hd : ∀ k : Fin 1024, d (ix2 r k) = d' (ix2 r' k)) (hw : w = w') (h : n = n') : dot d w r n hn = dot d' w' r' n' hn' := by
  subst hw h
  simp only [dot, hd]

end

variable (m : (ℓ : Loc nD τ sig) → Buf (Elt Ideal) ℓ) (c : Dev nD)

/-! ## The call's arguments -/

abbrev argD : Rows 4096 := m ((c : Thread nD τ).loc main_arg0)
abbrev argW : Rows 1024 := m ((c : Thread nD τ).loc main_arg1)

abbrev blkD (t : Fin cfg0.N) : Rows 1024 := iblk m c 0 t
abbrev blkW (t : Fin cfg0.N) : Rows 1024 := iblk m c 1 t

theorem e0 : ∀ t : Fin cfg0.N, win0_0.index t = ![(t : Nat), 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, (t : Nat), 0] := (by decide +kernel : ∀ t : Fin grid0.N, _)

theorem rowD (t : Fin cfg0.N) (r : Fin 1024) (r' : Fin 4096) (hr : r'.val = t.val * 1024 + r.val) (k : Fin 1024) :
    blkD m c t (ix2 r k) = argD m c (ix2 r' k) :=
  congrArg (argD m c) (by blk_ext [e0, hr] : (win0_0.blk t).view.emb (ix2 r k) = ix2 r' k)
theorem allW (t : Fin cfg0.N) : blkW m c t = argW m c :=
  funext fun y => congrArg (argW m c) (by blk_ext [e1] : (win0_1.blk t).view.emb y = y)

/-! ## What each grid step leaves -/

theorem block2 (x0 x1 : FVec Ideal S1024x1024 .bf16) :
    (out0_2 (F := Ideal) x0 x1 : FVec Ideal S8x1024x128 .f32) = heads (M := 1024) x0 x1 := by
  funext y
  canon_tiles x h
  all_goals (pointwise [k0_pay1, k0_pay2, k0_pay3, k0_pay4, k0_pay5, k0_pay6, k0_pay7, k0_pay8, k0_pay9])
  all_goals exact dot_at (r := (x 1 : Fin 1024)) (r' := (y 1 : Fin 1024)) h1.symm (by omega)

/-! ## What the call leaves -/

theorem final2 : (dats m 0 c).arrAt 2 cfg0.N = heads (argD m c) (argW m c) := by
  refine (dats m 0 c).arrAt_eq_of_covers _ _ (by decide +kernel) fun t hf y => ?_
  have hN : t.val < 4 := t.isLt
  have hy : (y 1).val < 1024 := (y 1).isLt
  have he : (win0_2.blk t).view.emb y = ix3 (y 0 : Fin 8) (⟨t.val * 1024 + (y 1).val, by omega⟩ : Fin 4096) (y 2 : Fin 128) := by blk_ext [e2]
  blk_simp
  rw [after0_2, block2]
  have hr : (⟨t.val * 1024 + (y 1).val, by omega⟩ : Fin 4096).val = t.val * 1024 + (⟨(y 1).val, hy⟩ : Fin 1024).val := rfl
  refine Eq.trans ?_ (congrArg (heads (argD m c) (argW m c)) he.symm)
  exact dot_row (rowD m c t _ _ hr) (allW m c t) rfl

/-! ## The claims -/

/-- The two programs have the same bodies. -/
theorem same_defs : (Cert.DoMla.defs (F := Bits)) = Cert.DoMlaIdeal.defs (F := Bits) :=
  congrArg (Pipeline.defs Cert.DoMlaIdeal.pcfgs) (congrArg Defs.onTc (funext fun l => funext fun x => match l, x with | 0, _ => rfl))

/-- The call ends with its arguments unchanged and every counter at zero. -/
theorem frame_kernel : Cert.quiescent_DoMla := fun m ρ _ => by
  rw [same_defs]
  exact Cert.DoMlaIdeal.Gen.frame (F := Bits) m ρ

/-- So does the call over exact values. -/
theorem frame_kernelIdeal : Cert.quiescent_DoMlaIdeal := fun m ρ _ => Cert.DoMlaIdeal.Gen.frame (F := Ideal) m ρ

/-- The reference ends with its arrays unchanged; it has no counters. -/
theorem frame_referenceIdeal : Cert.quiescent_DoMlaRefIdeal := fun m ρ _ =>
  (θ_run Cert.DoMlaRefIdeal.defs _ _).mono (fun r h => ⟨fun c => (h c).2, sem_eq_zero_of_no_sems (by decide) r.2⟩)
    (Cert.DoMlaRefIdeal.Value.run (F := Ideal) m ρ)

/-- The reference's result. -/
theorem host2 (a0 : FVec Ideal Cert.DoMlaRefIdeal.S4096x1024 .bf16) (a1 : FVec Ideal Cert.DoMlaRefIdeal.S1024x1024 .bf16) :
    (transpose Cert.DoMlaRefIdeal.S8x4096x128 [0, 2, 1] (Host.dotGeneral Cert.DoMlaRefIdeal.dot_S8x128x1024_S4096x1024_S8x128x4096_2_1_01_0_n_n none
      (shapeCast _ (extf .f32 a1 Cert.DoMlaRefIdeal.Gen.bitsLt_bf16_f32) Cert.DoMlaRefIdeal.Gen.shapeCasts_S1024x1024_S8x128x1024) (extf .f32 a0 Cert.DoMlaRefIdeal.Gen.bitsLt_bf16_f32))
      Cert.DoMlaRefIdeal.Gen.transposes_S8x128x4096_S8x4096x128_0_2_1 : FVec Ideal Cert.DoMlaRefIdeal.S8x4096x128 .f32) = heads (M := 4096) a0 a1 := by
  funext i
  pointwise [heads, dot]
  exact Finset.sum_congr rfl fun k _ => mul_comm _ _

/-- The call computes the reference's result over exact values. -/
theorem algebraic : Cert.algebraic_DoMlaIdeal_DoMlaRefIdeal := fun m g m' g' _ ha => by
  refine ⟨fun c => heads (argD m c) (argW m c), ?_, ?_⟩
  · exact (θ_run defs _ _).mono (fun r h c => ⟨(h c).1.trans (final2 m c), (h c).2⟩) (Cert.DoMlaIdeal.Value.run_blocks m g)
  · refine (θ_run Cert.DoMlaRefIdeal.defs _ _).mono (fun r h c => ⟨(h c).1.trans ?_, (h c).2⟩) (Cert.DoMlaRefIdeal.Value.run (F := Ideal) m' g')
    obtain ⟨a0, a1⟩ := ha c
    rw [a0, a1]
    exact host2 (argD m c) (argW m c)

end Cert.ProdHeads

end
-- ==== Proof.GradX1.lean ====
/-
  The gradient that reaches the first normalization: the gradient of the up projection times the transposed up weights,
  added up over four stretches of columns, plus the share that passes it by.
-/
module

public import proofs.«01_k».proof.Defs
public import proofs.«01_k».proof.Proof.Gen.Dx1
public import proofs.«01_k».proof.Proof.Gen.Dx1Ideal
public import proofs.«01_k».proof.Proof.Gen.Dx1Ideal.Value
public import proofs.«01_k».proof.Proof.Gen.Dx1RefIdeal
public import proofs.«01_k».proof.Proof.Gen.Dx1RefIdeal.Run
public import proofs.«01_k».proof.Proof.Products
public import Idealize.ShloMosaic.Lib.Pipeline.ValueKit
public import Idealize.ShloMosaic.Lib.Pipeline.ReadBack
public import Idealize.ShloMosaic.Lib.Pointwise

@[expose] public section

noncomputable section

namespace Cert.GradX1

open Cert.Dx1Ideal Cert.Dx1Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product that device `c` computes. -/
abbrev prod : FVec Ideal S4096x1024 .f32 :=
  Products.nnPlus (M := 4096) (K := 5632) (N := 1024) (m ((c : Thread nD τ).loc main_arg0)) (m ((c : Thread nD τ).loc main_arg1)) (m ((c : Thread nD τ).loc main_arg2))

/-- What grid step `t` adds to the sum. -/
abbrev term (t : Fin cfg0.N) : FVec Ideal S1024x1024 .f32 := Products.nn (M := 1024) (K := 1408) (N := 1024) (iblk m c 0 t) (iblk m c 1 t)

/-- The sum after grid step `t`, where it is complete. -/
theorem sum_term (t : Fin cfg0.N) (ht : t.val % 4 = 3) (y : S1024x1024.Idx) :
    (outsAt0 m c t.val t.isLt).2 y = 0 + ∑ s : Fin 4, term m c ⟨4 * (t.val / 4) + s.val, Pipeline.run_point_lt_of_flush t ht s⟩ y := by
  refine Pipeline.eq_sum_fin_of_reset_step_apply_of_flush (fun n h => (outsAt0 m c n h).2) 4 (fun _ => (0 : EReal)) (term m c) (fun t h0 y => ?_)
    (fun t h0 y => ?_) t ht y
  · rw [outsAt0_A m c t h0 (by omega) (by omega)]
    frame_out
    pointwise [k0_pay2, k0_pay1, term, Products.nn]
  · by_cases h2 : t.val % 4 = 3
    · rw [outsAt0_C m c t h0 (by omega) h2]
      frame_out
      simp only [read_unread_whole]
      pointwise [k0_pay3, k0_pay1, term, Products.nn]
    · rw [outsAt0_B m c t h0 (by omega) h2]
      frame_out
      simp only [read_unread_whole]
      pointwise [k0_pay3, k0_pay1, term, Products.nn]

/-- What the call leaves is the product. -/
theorem final : (dats m 0 c).arrAt 3 cfg0.N = prod m c := by
  have e0 : ∀ t : Fin cfg0.N, win0_0.index t = ![(t : Nat) / 4, (t : Nat) % 4] := (by decide +kernel : ∀ t : Fin grid0.N, _)
  have e1 : ∀ t : Fin cfg0.N, win0_1.index t = ![(t : Nat) % 4, 0] := (by decide +kernel : ∀ t : Fin grid0.N, _)
  have e2 : ∀ t : Fin cfg0.N, win0_2.index t = ![(t : Nat) / 4, 0] := (by decide +kernel : ∀ t : Fin grid0.N, _)
  have e3 : ∀ t : Fin cfg0.N, win0_3.index t = ![(t : Nat) / 4, 0] := (by decide +kernel : ∀ t : Fin grid0.N, _)
  refine (dats m 0 c).arrAt_eq_of_covers _ _ (by decide +kernel) fun t hf y => ?_
  have ht : t.val % 4 = 3 := (flush0_3 t).mp hf
  have hs := sum_term m c t ht y
  blk_simp
  rw [after0_3]
  rw [outsAt0_C m c t (by omega) (by omega) ht] at hs ⊢
  frame_out at hs ⊢
  have h2 : (win0_2.blk t).view.emb y = (win0_3.blk t).view.emb y := by blk_ext [e2, e3]
  pointwise [k0_pay4]
  rw [hs, zero_add]
  blk_simp [iblk]
  rw [h2]
  refine congrArg (· + _) ?_
  refine Fin.sum_mul_add_congr fun s k hl => ?_
  have hd : (4 * (t.val / 4) + s.val) / 4 = t.val / 4 := by omega
  have hm : (4 * (t.val / 4) + s.val) % 4 = s.val := by omega
  have h0 : (win0_0.blk ⟨4 * (t.val / 4) + s.val, Pipeline.run_point_lt_of_flush t ht s⟩).view.emb (ix2 (y 0) k)
      = ix2 ((win0_3.blk t).view.emb y 0) ⟨s.val * 1408 + k.val, hl⟩ := by blk_ext [e0, e3, hd, hm]
  have h1 : (win0_1.blk ⟨4 * (t.val / 4) + s.val, Pipeline.run_point_lt_of_flush t ht s⟩).view.emb (ix2 k (y 1))
      = ix2 ⟨s.val * 1408 + k.val, hl⟩ ((win0_3.blk t).view.emb y 1) := by blk_ext [e1, e3, hd, hm]
  blk_simp [iblk]
  rw [h0, h1]
  rfl

/-- The reference's result is the product. -/
theorem prod_host (a : FVec Ideal S4096x5632 .bf16) (b : FVec Ideal S5632x1024 .bf16) (z : FVec Ideal S4096x1024 .f32) :
    addf (Host.dotGeneral Cert.Dx1RefIdeal.dot_S4096x5632_S5632x1024_S4096x1024_1_0_0_1_n_n none (extf .f32 a Cert.Dx1RefIdeal.Gen.bitsLt_bf16_f32)
      (extf .f32 b Cert.Dx1RefIdeal.Gen.bitsLt_bf16_f32))
      (mulf (broadcastInDim S4096x1024 ![] Cert.Dx1RefIdeal.Gen.bcast_S_S4096x1024 (constant Cert.Dx1RefIdeal.S_ .f32 0x3F9837F0#32)) z) = Products.nnPlus (M := 4096) (K := 5632) (N := 1024) a b z := by
  funext i
  pointwise [Products.nnPlus, Products.nn]

/-- The two programs have the same bodies. -/
theorem same_defs : (Cert.Dx1.defs (F := Bits)) = Cert.Dx1Ideal.defs (F := Bits) :=
  congrArg (Pipeline.defs Cert.Dx1Ideal.pcfgs) (congrArg Defs.onTc (funext fun l => funext fun x => match l, x with | 0, _ => rfl))

/-- The call ends with its arguments unchanged and every counter at zero. -/
theorem frame_kernel : Cert.quiescent_Dx1 := fun m ρ _ => by
  rw [same_defs]
  exact Cert.Dx1Ideal.Gen.frame (F := Bits) m ρ

/-- So does the call over exact values. -/
theorem frame_kernelIdeal : Cert.quiescent_Dx1Ideal := fun m ρ _ => Cert.Dx1Ideal.Gen.frame (F := Ideal) m ρ

/-- The reference ends with its arrays unchanged; it has no counters. -/
theorem frame_referenceIdeal : Cert.quiescent_Dx1RefIdeal := fun m ρ _ =>
  (θ_run Cert.Dx1RefIdeal.defs _ _).mono (fun r h => ⟨fun c => (h c).2, sem_eq_zero_of_no_sems (by decide) r.2⟩)
    (Cert.Dx1RefIdeal.Value.run (F := Ideal) m ρ)

/-- The call computes the reference's result over exact values. -/
theorem algebraic : Cert.algebraic_Dx1Ideal_Dx1RefIdeal := fun m g m' g' _ ha => by
  refine ⟨fun c => prod m c, ?_, ?_⟩
  · exact (θ_run defs _ _).mono (fun r h c => ⟨(h c).1.trans (final m c), (h c).2⟩) (Cert.Dx1Ideal.Value.run_blocks m g)
  · refine (θ_run Cert.Dx1RefIdeal.defs _ _).mono (fun r h c => ?_) (Cert.Dx1RefIdeal.Value.run (F := Ideal) m' g')
    obtain ⟨h0, hk⟩ := h c
    obtain ⟨a0, a1, a2⟩ := ha c
    rw [prod_host, a0, a1, a2] at h0
    exact ⟨h0, hk⟩

end Cert.GradX1

end
-- ==== Proof.GradUp.lean ====
/-
  The device's part of the gradient of the up projection: a product over all tokens, added up over four stretches of
  tokens.
-/
module

public import proofs.«01_k».proof.Defs
public import proofs.«01_k».proof.Proof.Gen.DwUp
public import proofs.«01_k».proof.Proof.Gen.DwUpIdeal
public import proofs.«01_k».proof.Proof.Gen.DwUpIdeal.Value
public import proofs.«01_k».proof.Proof.Gen.DwUpRefIdeal
public import proofs.«01_k».proof.Proof.Gen.DwUpRefIdeal.Run
public import proofs.«01_k».proof.Proof.Products
public import Idealize.ShloMosaic.Lib.Pipeline.ValueKit
public import Idealize.ShloMosaic.Lib.Pipeline.ReadBack
public import Idealize.ShloMosaic.Lib.Pointwise

@[expose] public section

noncomputable section

namespace Cert.GradUp

open Cert.DwUpIdeal Cert.DwUpIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product that device `c` computes. -/
abbrev prod : FVec Ideal S5632x1024 .bf16 :=
  Products.tn (M := 5632) (K := 4096) (N := 1024) (m ((c : Thread nD τ).loc main_arg0)) (m ((c : Thread nD τ).loc main_arg1))

/-- What grid step `t` adds to the sum. -/
abbrev term (t : Fin cfg0.N) : FVec Ideal S1408x1024 .f32 := Products.tn (M := 1408) (K := 1024) (N := 1024) (iblk m c 0 t) (iblk m c 1 t)

/-- The sum after grid step `t`, where it is complete. -/
theorem sum_term (t : Fin cfg0.N) (ht : t.val % 4 = 3) (y : S1408x1024.Idx) :
    (outsAt0 m c t.val t.isLt).2 y = 0 + ∑ s : Fin 4, term m c ⟨4 * (t.val / 4) + s.val, Pipeline.run_point_lt_of_flush t ht s⟩ y := by
  refine Pipeline.eq_sum_fin_of_reset_step_apply_of_flush (fun n h => (outsAt0 m c n h).2) 4 (fun _ => (0 : EReal)) (term m c) (fun t h0 y => ?_)
    (fun t h0 y => ?_) t ht y
  · rw [outsAt0_A m c t h0 (by omega) (by omega)]
    frame_out
    pointwise [k0_pay2, k0_pay1, term, Products.tn]
  · by_cases h2 : t.val % 4 = 3
    · rw [outsAt0_C m c t h0 (by omega) h2]
      frame_out
      simp only [read_unread_whole]
      pointwise [k0_pay3, k0_pay1, term, Products.tn]
    · rw [outsAt0_B m c t h0 (by omega) h2]
      frame_out
      simp only [read_unread_whole]
      pointwise [k0_pay3, k0_pay1, term, Products.tn]

/-- What the call leaves is the product. -/
theorem final : (dats m 0 c).arrAt 2 cfg0.N = prod m c := by
  have e0 : ∀ t : Fin cfg0.N, win0_0.index t = ![(t : Nat) % 4, (t : Nat) / 4] := (by decide +kernel : ∀ t : Fin grid0.N, _)
  have e1 : ∀ t : Fin cfg0.N, win0_1.index t = ![(t : Nat) % 4, 0] := (by decide +kernel : ∀ t : Fin grid0.N, _)
  have e2 : ∀ t : Fin cfg0.N, win0_2.index t = ![(t : Nat) / 4, 0] := (by decide +kernel : ∀ t : Fin grid0.N, _)
  refine (dats m 0 c).arrAt_eq_of_covers _ _ (by decide +kernel) fun t hf y => ?_
  have ht : t.val % 4 = 3 := (flush0_2 t).mp hf
  have hs := sum_term m c t ht y
  blk_simp
  rw [after0_2]
  rw [outsAt0_C m c t (by omega) (by omega) ht] at hs ⊢
  frame_out at hs ⊢
  refine hs.trans ((zero_add _).trans ?_)
  refine Fin.sum_mul_add_congr fun s k hl => ?_
  have hd : (4 * (t.val / 4) + s.val) / 4 = t.val / 4 := by omega
  have hm : (4 * (t.val / 4) + s.val) % 4 = s.val := by omega
  have h0 : (win0_0.blk ⟨4 * (t.val / 4) + s.val, Pipeline.run_point_lt_of_flush t ht s⟩).view.emb (ix2 k (y 0))
      = ix2 ⟨s.val * 1024 + k.val, hl⟩ ((win0_2.blk t).view.emb y 0) := by blk_ext [e0, e2, hd, hm]
  have h1 : (win0_1.blk ⟨4 * (t.val / 4) + s.val, Pipeline.run_point_lt_of_flush t ht s⟩).view.emb (ix2 k (y 1))
      = ix2 ⟨s.val * 1024 + k.val, hl⟩ ((win0_2.blk t).view.emb y 1) := by blk_ext [e1, e2, hd, hm]
  blk_simp [iblk]
  rw [h0, h1]
  rfl

/-- The reference's result is the product. -/
theorem prod_host (a : FVec Ideal S4096x5632 .bf16) (b : FVec Ideal S4096x1024 .bf16) :
    truncf .bf16 (Host.dotGeneral Cert.DwUpRefIdeal.dot_S5632x4096_S4096x1024_S5632x1024_1_0_0_1_n_n none
      (transpose Cert.DwUpRefIdeal.S5632x4096 [1, 0] (extf .f32 a Cert.DwUpRefIdeal.Gen.bitsLt_bf16_f32) Cert.DwUpRefIdeal.Gen.transposes_S4096x5632_S5632x4096_1_0)
      (extf .f32 b Cert.DwUpRefIdeal.Gen.bitsLt_bf16_f32)) Cert.DwUpRefIdeal.Gen.bitsLt_bf16_f32 = Products.tn (M := 5632) (K := 4096) (N := 1024) a b := by
  funext i
  pointwise [Products.tn]

/-- The two programs have the same bodies. -/
theorem same_defs : (Cert.DwUp.defs (F := Bits)) = Cert.DwUpIdeal.defs (F := Bits) :=
  congrArg (Pipeline.defs Cert.DwUpIdeal.pcfgs) (congrArg Defs.onTc (funext fun l => funext fun x => match l, x with | 0, _ => rfl))

/-- The call ends with its arguments unchanged and every counter at zero. -/
theorem frame_kernel : Cert.quiescent_DwUp := fun m ρ _ => by
  rw [same_defs]
  exact Cert.DwUpIdeal.Gen.frame (F := Bits) m ρ

/-- So does the call over exact values. -/
theorem frame_kernelIdeal : Cert.quiescent_DwUpIdeal := fun m ρ _ => Cert.DwUpIdeal.Gen.frame (F := Ideal) m ρ

/-- The reference ends with its arrays unchanged; it has no counters. -/
theorem frame_referenceIdeal : Cert.quiescent_DwUpRefIdeal := fun m ρ _ =>
  (θ_run Cert.DwUpRefIdeal.defs _ _).mono (fun r h => ⟨fun c => (h c).2, sem_eq_zero_of_no_sems (by decide) r.2⟩)
    (Cert.DwUpRefIdeal.Value.run (F := Ideal) m ρ)

/-- The call computes the reference's result over exact values. -/
theorem algebraic : Cert.algebraic_DwUpIdeal_DwUpRefIdeal := fun m g m' g' _ ha => by
  refine ⟨fun c => prod m c, ?_, ?_⟩
  · exact (θ_run defs _ _).mono (fun r h c => ⟨(h c).1.trans (final m c), (h c).2⟩) (Cert.DwUpIdeal.Value.run_blocks m g)
  · refine (θ_run Cert.DwUpRefIdeal.defs _ _).mono (fun r h c => ?_) (Cert.DwUpRefIdeal.Value.run (F := Ideal) m' g')
    obtain ⟨h0, hk⟩ := h c
    obtain ⟨a0, a1⟩ := ha c
    rw [prod_host, a0, a1] at h0
    exact ⟨h0, hk⟩

end Cert.GradUp

end
-- ==== Proof.GradDil.lean ====
/-
  The device's part of the gradient of the output projection's rows for the dilated heads: a product over all tokens,
  added up over four stretches of tokens.
-/
module

public import proofs.«01_k».proof.Defs
public import proofs.«01_k».proof.Proof.Gen.DwODil
public import proofs.«01_k».proof.Proof.Gen.DwODilIdeal
public import proofs.«01_k».proof.Proof.Gen.DwODilIdeal.Value
public import proofs.«01_k».proof.Proof.Gen.DwODilRefIdeal
public import proofs.«01_k».proof.Proof.Gen.DwODilRefIdeal.Run
public import proofs.«01_k».proof.Proof.Products
public import Idealize.ShloMosaic.Lib.Pipeline.ValueKit
public import Idealize.ShloMosaic.Lib.Pipeline.ReadBack
public import Idealize.ShloMosaic.Lib.Pointwise

@[expose] public section

noncomputable section

namespace Cert.GradDil

open Cert.DwODilIdeal Cert.DwODilIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product that device `c` computes. -/
abbrev prod : FVec Ideal S512x1024 .bf16 :=
  Products.tn (M := 512) (K := 4096) (N := 1024) (m ((c : Thread nD τ).loc main_arg0)) (m ((c : Thread nD τ).loc main_arg1))

/-- What grid step `t` adds to the sum. -/
abbrev term (t : Fin cfg0.N) : FVec Ideal S512x1024 .f32 := Products.tn (M := 512) (K := 1024) (N := 1024) (iblk m c 0 t) (iblk m c 1 t)

/-- The sum after grid step `t`, where it is complete. -/
theorem sum_term (t : Fin cfg0.N) (ht : t.val % 4 = 3) (y : S512x1024.Idx) :
    (outsAt0 m c t.val t.isLt).2 y = 0 + ∑ s : Fin 4, term m c ⟨4 * (t.val / 4) + s.val, Pipeline.run_point_lt_of_flush t ht s⟩ y := by
  refine Pipeline.eq_sum_fin_of_reset_step_apply_of_flush (fun n h => (outsAt0 m c n h).2) 4 (fun _ => (0 : EReal)) (term m c) (fun t h0 y => ?_)
    (fun t h0 y => ?_) t ht y
  · have hN : t.val < 4 := t.isLt
    rw [outsAt0_A m c t h0 (by omega) (by omega)]
    frame_out
    pointwise [k0_pay2, k0_pay1, term, Products.tn]
  · by_cases h2 : t.val % 4 = 3
    · rw [outsAt0_C m c t h0 (by omega) h2]
      frame_out
      simp only [read_unread_whole]
      pointwise [k0_pay3, k0_pay1, term, Products.tn]
    · rw [outsAt0_B m c t h0 (by omega) h2]
      frame_out
      simp only [read_unread_whole]
      pointwise [k0_pay3, k0_pay1, term, Products.tn]

/-- What the call leaves is the product. -/
theorem final : (dats m 0 c).arrAt 2 cfg0.N = prod m c := by
  have e0 : ∀ t : Fin cfg0.N, win0_0.index t = ![(t : Nat) % 4, 0] := (by decide +kernel : ∀ t : Fin grid0.N, _)
  have e1 : ∀ t : Fin cfg0.N, win0_1.index t = ![(t : Nat) % 4, 0] := (by decide +kernel : ∀ t : Fin grid0.N, _)
  have e2 : ∀ t : Fin cfg0.N, win0_2.index t = ![0, 0] := (by decide +kernel : ∀ t : Fin grid0.N, _)
  refine (dats m 0 c).arrAt_eq_of_covers _ _ (by decide +kernel) fun t hf y => ?_
  have ht : t.val % 4 = 3 := (flush0_2 t).mp hf
  have hs := sum_term m c t ht y
  blk_simp
  rw [after0_2]
  rw [outsAt0_C m c t (by omega) (by omega) ht] at hs ⊢
  frame_out at hs ⊢
  refine hs.trans ((zero_add _).trans ?_)
  refine Fin.sum_mul_add_congr fun s k hl => ?_
  have hd : (4 * (t.val / 4) + s.val) / 4 = t.val / 4 := by omega
  have hm : (4 * (t.val / 4) + s.val) % 4 = s.val := by omega
  have h0 : (win0_0.blk ⟨4 * (t.val / 4) + s.val, Pipeline.run_point_lt_of_flush t ht s⟩).view.emb (ix2 k (y 0))
      = ix2 ⟨s.val * 1024 + k.val, hl⟩ ((win0_2.blk t).view.emb y 0) := by blk_ext [e0, e2, hd, hm]
  have h1 : (win0_1.blk ⟨4 * (t.val / 4) + s.val, Pipeline.run_point_lt_of_flush t ht s⟩).view.emb (ix2 k (y 1))
      = ix2 ⟨s.val * 1024 + k.val, hl⟩ ((win0_2.blk t).view.emb y 1) := by blk_ext [e1, e2, hd, hm]
  blk_simp [iblk]
  rw [h0, h1]
  rfl

/-- The reference's result is the product. -/
theorem prod_host (a : FVec Ideal S4096x512 .bf16) (b : FVec Ideal S4096x1024 .bf16) :
    truncf .bf16 (Host.dotGeneral Cert.DwODilRefIdeal.dot_S512x4096_S4096x1024_S512x1024_1_0_0_1_n_n none
      (transpose Cert.DwODilRefIdeal.S512x4096 [1, 0] (extf .f32 a Cert.DwODilRefIdeal.Gen.bitsLt_bf16_f32) Cert.DwODilRefIdeal.Gen.transposes_S4096x512_S512x4096_1_0)
      (extf .f32 b Cert.DwODilRefIdeal.Gen.bitsLt_bf16_f32)) Cert.DwODilRefIdeal.Gen.bitsLt_bf16_f32 = Products.tn (M := 512) (K := 4096) (N := 1024) a b := by
  funext i
  pointwise [Products.tn]

/-- The two programs have the same bodies. -/
theorem same_defs : (Cert.DwODil.defs (F := Bits)) = Cert.DwODilIdeal.defs (F := Bits) :=
  congrArg (Pipeline.defs Cert.DwODilIdeal.pcfgs) (congrArg Defs.onTc (funext fun l => funext fun x => match l, x with | 0, _ => rfl))

/-- The call ends with its arguments unchanged and every counter at zero. -/
theorem frame_kernel : Cert.quiescent_DwODil := fun m ρ _ => by
  rw [same_defs]
  exact Cert.DwODilIdeal.Gen.frame (F := Bits) m ρ

/-- So does the call over exact values. -/
theorem frame_kernelIdeal : Cert.quiescent_DwODilIdeal := fun m ρ _ => Cert.DwODilIdeal.Gen.frame (F := Ideal) m ρ

/-- The reference ends with its arrays unchanged; it has no counters. -/
theorem frame_referenceIdeal : Cert.quiescent_DwODilRefIdeal := fun m ρ _ =>
  (θ_run Cert.DwODilRefIdeal.defs _ _).mono (fun r h => ⟨fun c => (h c).2, sem_eq_zero_of_no_sems (by decide) r.2⟩)
    (Cert.DwODilRefIdeal.Value.run (F := Ideal) m ρ)

/-- The call computes the reference's result over exact values. -/
theorem algebraic : Cert.algebraic_DwODilIdeal_DwODilRefIdeal := fun m g m' g' _ ha => by
  refine ⟨fun c => prod m c, ?_, ?_⟩
  · exact (θ_run defs _ _).mono (fun r h c => ⟨(h c).1.trans (final m c), (h c).2⟩) (Cert.DwODilIdeal.Value.run_blocks m g)
  · refine (θ_run Cert.DwODilRefIdeal.defs _ _).mono (fun r h c => ?_) (Cert.DwODilRefIdeal.Value.run (F := Ideal) m' g')
    obtain ⟨h0, hk⟩ := h c
    obtain ⟨a0, a1⟩ := ha c
    rw [prod_host, a0, a1] at h0
    exact ⟨h0, hk⟩

end Cert.GradDil

end
-- ==== Proof.GradHeads.lean ====
/-
  The gradient of the weights that the first attention's heads are taken through: 128 rows for each head, summed over four
  blocks of rows.
-/
module

public import proofs.«01_k».proof.Defs
public import proofs.«01_k».proof.Proof.Gen.DwOMla
public import proofs.«01_k».proof.Proof.Gen.DwOMlaIdeal
public import proofs.«01_k».proof.Proof.Gen.DwOMlaIdeal.Value
public import proofs.«01_k».proof.Proof.Gen.DwOMlaRefIdeal
public import proofs.«01_k».proof.Proof.Gen.DwOMlaRefIdeal.Run
public import Idealize.ShloMosaic.Lib.Pipeline.ValueKit
public import Idealize.ShloMosaic.Lib.Pipeline.ReadBack
public import Idealize.ShloMosaic.Lib.Pointwise

@[expose] public section

noncomputable section

namespace Cert.GradHeads

open Cert.DwOMlaIdeal Cert.DwOMlaIdeal.Gen Idealize.ShloMosaic Idealize.ShloMosaic.TcCoe Idealize.SL.Sem
open Idealize.ShloMosaic.Pipeline (Dat)

/-! ## The gradient, over exact values -/

section
variable {K : Nat}

/-- Entry `(n, j)` of the gradient: number `n mod 128` of head `n / 128`, against column `j`, summed over the rows. -/
def entry (a : (⟨3, ![8, K, 128]⟩ : Shape).Idx → EReal) (d : (⟨2, ![K, 1024]⟩ : Shape).Idx → EReal) (n : Nat) (hn : n < 1024) (j : Fin 1024) : EReal :=
  ∑ k : Fin K, a (ix3 ⟨n / 128, by omega⟩ k ⟨n % 128, by omega⟩) * d (ix2 k j)

/-- The matrix of those entries. -/
def grad (a : (⟨3, ![8, K, 128]⟩ : Shape).Idx → EReal) (d : (⟨2, ![K, 1024]⟩ : Shape).Idx → EReal) : (⟨2, ![1024, 1024]⟩ : Shape).Idx → EReal :=
  fun i => entry a d (i 0).val (i 0).isLt (i 1)

/-- The entry, by the head and the number within it. -/
theorem entry_at {a : (⟨3, ![8, K, 128]⟩ : Shape).Idx → EReal} {d : (⟨2, ![K, 1024]⟩ : Shape).Idx → EReal} {h : Fin 8} {l : Fin 128}
    {n : Nat} {hn : n < 1024} {j j' : Fin 1024} (e : n = h.val * 128 + l.val) (ej : j.val = j'.val) :
    ∑ k : Fin K, a (ix3 h k l) * d (ix2 k j) = entry a d n hn j' := by
  obtain rfl := Fin.ext ej
  subst e
  have eh : (⟨(h.val * 128 + l.val) / 128, by omega⟩ : Fin 8) = h := Fin.ext (by show (h.val * 128 + l.val) / 128 = h.val; omega)
  have el : (⟨(h.val * 128 + l.val) % 128, by omega⟩ : Fin 128) = l := Fin.ext (by show (h.val * 128 + l.val) % 128 = l.val; omega)
  rw [entry, eh, el]

end

/-- Stores that cover an index hide the stores before them there. -/
theorem canon_hides {Val : EltTy → Type} [∀ e, Nonempty (Val e)] {S : Shape} {e : EltTy} (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem p (L ++ L') hm).trans (Eq.trans ?_ (View.canon_cons_of_not_mem p L hm).symm)
      refine canon_hides L' L y ?_
      obtain ⟨q, hq, hqy⟩ := hy
      rcases List.mem_cons.mp hq with rfl | hq
      · exact absurd hqy hm
      · exact ⟨q, hq, hqy⟩

variable (m : (ℓ : Loc nD τ sig) → Buf (Elt Ideal) ℓ) (c : Dev nD)

/-- What grid step `t` adds to the sum. -/
abbrev term (t : Fin cfg0.N) : FVec Ideal S1024x1024 .f32 := grad (K := 1024) (iblk m c 0 t) (iblk m c 1 t)

/-- The first step starts the sum from zero. -/
theorem step_A (t : Fin cfg0.N) (h0 : t.val % 4 = 0) (y : S1024x1024.Idx) :
    (outsAt0 m c t.val t.isLt).2 y = 0 + term m c t y := by
  rw [outsAt0_A m c t h0 (by omega)]
  frame_open
  simp (disch := decide) only [↓View.readCov_skip, ↓View.readCov_fill]
  frame_out
  refine Eq.trans (canon_hides [_] [_, _, _, _, _, _, _, _] y ?_) ?_
  · exact View.cover_of_tiled_head _ _ _ (by rfl) y
  canon_tiles x h
  all_goals
    pointwise [k0_pay1, k0_pay2, k0_pay4, k0_pay5, k0_pay6, k0_pay7, k0_pay8, k0_pay9, k0_pay10, k0_pay11]
    exact entry_at (by first | exact h0 | exact h0.trans (by simp)) h1.symm

/-- The later ones add to it. -/
theorem step_B (t : Fin cfg0.N) (h0 : ¬t.val % 4 = 0) (y : S1024x1024.Idx) :
    (outsAt0 m c t.val t.isLt).2 y = (outsAt0 m c (t.val - 1) (Nat.lt_of_le_of_lt (Nat.sub_le _ _) t.isLt)).2 y + term m c t y := by
  by_cases h2 : t.val % 4 = 3
  · rw [outsAt0_C m c t h0 h2]
    frame_out
    simp only [read_unread_whole]
    canon_tiles x h
    all_goals
      pointwise [k0_pay1, k0_pay2, k0_pay4, k0_pay5, k0_pay6, k0_pay7, k0_pay8, k0_pay9, k0_pay10, k0_pay11]
      exact congrArg₂ (· + ·) (congrArg (outsAt0 m c (t.val - 1) (Nat.lt_of_le_of_lt (Nat.sub_le _ _) t.isLt)).2 (by blk_ext [h0, h1])) (entry_at (by first | exact h0 | exact h0.trans (by simp)) h1.symm)
  · rw [outsAt0_B m c t h0 h2]
    frame_out
    simp only [read_unread_whole]
    canon_tiles x h
    all_goals
      pointwise [k0_pay1, k0_pay2, k0_pay4, k0_pay5, k0_pay6, k0_pay7, k0_pay8, k0_pay9, k0_pay10, k0_pay11]
      exact congrArg₂ (· + ·) (congrArg (outsAt0 m c (t.val - 1) (Nat.lt_of_le_of_lt (Nat.sub_le _ _) t.isLt)).2 (by blk_ext [h0, h1])) (entry_at (by first | exact h0 | exact h0.trans (by simp)) h1.symm)

/-- The sum after grid step `t`, where it is complete. -/
theorem sum_term (t : Fin cfg0.N) (ht : t.val % 4 = 3) (y : S1024x1024.Idx) :
    (outsAt0 m c t.val t.isLt).2 y = 0 + ∑ s : Fin 4, term m c ⟨4 * (t.val / 4) + s.val, Pipeline.run_point_lt_of_flush t ht s⟩ y :=
  Pipeline.eq_sum_fin_of_reset_step_apply_of_flush (fun n h => (outsAt0 m c n h).2) 4 (fun _ => (0 : EReal)) (term m c)
    (fun t h0 y => step_A m c t h0 y) (fun t h0 y => step_B m c t h0 y) t ht y

/-! ## What the call leaves -/

abbrev argA : FVec Ideal S8x4096x128 .bf16 := m ((c : Thread nD τ).loc main_arg0)
abbrev argD : FVec Ideal S4096x1024 .bf16 := m ((c : Thread nD τ).loc main_arg1)

theorem e0 : ∀ t : Fin cfg0.N, win0_0.index t = ![0, (t : Nat), 0] := (by decide +kernel : ∀ t : Fin grid0.N, _)
theorem e1 : ∀ t : Fin cfg0.N, win0_1.index t = ![(t : Nat), 0] := (by decide +kernel : ∀ t : Fin grid0.N, _)
theorem e2 : ∀ t : Fin cfg0.N, win0_2.index t = ![0, 0] := (by decide +kernel : ∀ t : Fin grid0.N, _)

section
variable (t : Fin cfg0.N) (r : Fin 1024) (r' : Fin 4096) (hr : r'.val = t.val * 1024 + r.val)
include hr

theorem rowA (h : Fin 8) (l : Fin 128) : (iblk m c 0 t : FVec Ideal S8x1024x128 .bf16) (ix3 h r l) = argA m c (ix3 h r' l) :=
  congrArg (argA m c) (by blk_ext [e0, hr] : (win0_0.blk t).view.emb (ix3 h r l) = ix3 h r' l)
theorem rowD (j : Fin 1024) : (iblk m c 1 t : FVec Ideal S1024x1024 .bf16) (ix2 r j) = argD m c (ix2 r' j) :=
  congrArg (argD m c) (by blk_ext [e1, hr] : (win0_1.blk t).view.emb (ix2 r j) = ix2 r' j)

end

/-- The steps' sums together are the gradient. -/
theorem total (t : Fin cfg0.N) (ht : t.val % 4 = 3) (y : S1024x1024.Idx) :
    (outsAt0 m c t.val t.isLt).2 y = grad (K := 4096) (argA m c) (argD m c) y := by
  have hN : t.val < 4 := t.isLt
  rw [sum_term m c t ht y, zero_add]
  refine Fin.sum_mul_add_congr fun s k hl => ?_
  have hr : (⟨s.val * 1024 + k.val, hl⟩ : Fin 4096).val = (4 * (t.val / 4) + s.val) * 1024 + k.val := by
    show s.val * 1024 + k.val = _
    omega
  exact congrArg₂ (· * ·) (rowA m c ⟨4 * (t.val / 4) + s.val, Pipeline.run_point_lt_of_flush t ht s⟩ k ⟨s.val * 1024 + k.val, hl⟩ hr _ _)
    (rowD m c ⟨4 * (t.val / 4) + s.val, Pipeline.run_point_lt_of_flush t ht s⟩ k ⟨s.val * 1024 + k.val, hl⟩ hr (y 1))

/-- Loading the whole buffer after some stores gives what the stores left. -/
theorem load_whole {s : Shape} {e : EltTy} {σ' : RefSig} {κ : Kind} {sp : Space} (v : View σ' κ sp s e) (L : List (View.Piece (Elt Ideal) s e))
    {o : Fin s.rank → ℕ} (inb : ∀ a, o a + s.size a ≤ s.size a) (ho : ∀ a, o a = 0) (y : s.Idx) :
    v.readCov L (Rect.unit o s.size inb).toLoadRect y = View.canon L y := by
  rw [View.readCov_eq_canon']
  exact congrFun (View.ld_unit_lit inb (View.canon L) ho) y

/-- Over exact values, rounding the sum leaves it as it is. -/
theorem cast_sum (v : FVec Ideal S1024x1024 .f32) : (k0_pay3 (F := Ideal) v : FVec Ideal S1024x1024 .bf16) = v := rfl

/-- The last step hands the sum out. -/
theorem last (t : Fin cfg0.N) (ht : t.val % 4 = 3) (y : S1024x1024.Idx) :
    (outsAt0 m c t.val t.isLt).1 y = (outsAt0 m c t.val t.isLt).2 y := by
  rw [outsAt0_C m c t (by omega) ht]
  frame_out
  rw [cast_sum]
  exact load_whole _ _ _ (by decide) y

theorem final : (dats m 0 c).arrAt 2 cfg0.N = grad (K := 4096) (argA m c) (argD m c) := by
  refine (dats m 0 c).arrAt_eq_of_covers _ _ (by decide +kernel) fun t hf y => ?_
  have ht : t.val % 4 = 3 := (flush0_2 t).mp hf
  have he : (win0_2.blk t).view.emb y = y := by blk_ext [e2]
  blk_simp
  rw [after0_2]
  exact ((last m c t ht y).trans (total m c t ht y)).trans (congrArg (grad (K := 4096) (argA m c) (argD m c)) he.symm)

/-! ## The claims -/

/-- The two programs have the same bodies. -/
theorem same_defs : (Cert.DwOMla.defs (F := Bits)) = Cert.DwOMlaIdeal.defs (F := Bits) :=
  congrArg (Pipeline.defs Cert.DwOMlaIdeal.pcfgs) (congrArg Defs.onTc (funext fun l => funext fun x => match l, x with | 0, _ => rfl))

/-- The call ends with its arguments unchanged and every counter at zero. -/
theorem frame_kernel : Cert.quiescent_DwOMla := fun m ρ _ => by
  rw [same_defs]
  exact Cert.DwOMlaIdeal.Gen.frame (F := Bits) m ρ

/-- So does the call over exact values. -/
theorem frame_kernelIdeal : Cert.quiescent_DwOMlaIdeal := fun m ρ _ => Cert.DwOMlaIdeal.Gen.frame (F := Ideal) m ρ

/-- The reference ends with its arrays unchanged; it has no counters. -/
theorem frame_referenceIdeal : Cert.quiescent_DwOMlaRefIdeal := fun m ρ _ =>
  (θ_run Cert.DwOMlaRefIdeal.defs _ _).mono (fun r h => ⟨fun c => (h c).2, sem_eq_zero_of_no_sems (by decide) r.2⟩)
    (Cert.DwOMlaRefIdeal.Value.run (F := Ideal) m ρ)

/-- The reference's result. -/
theorem host2 (a0 : FVec Ideal Cert.DwOMlaRefIdeal.S8x4096x128 .bf16) (a1 : FVec Ideal Cert.DwOMlaRefIdeal.S4096x1024 .bf16) :
    (truncf .bf16 (shapeCast _ (Host.dotGeneral Cert.DwOMlaRefIdeal.dot_S8x4096x128_S4096x1024_S8x128x1024_1_0_02_1_n_n none
      (extf .f32 a0 Cert.DwOMlaRefIdeal.Gen.bitsLt_bf16_f32) (extf .f32 a1 Cert.DwOMlaRefIdeal.Gen.bitsLt_bf16_f32)) Cert.DwOMlaRefIdeal.Gen.shapeCasts_S8x128x1024_S1024x1024)
      Cert.DwOMlaRefIdeal.Gen.bitsLt_bf16_f32 : FVec Ideal Cert.DwOMlaRefIdeal.S1024x1024 .bf16) = grad (K := 4096) a0 a1 := by
  funext i
  pointwise [grad, entry]

/-- The call computes the reference's result over exact values. -/
theorem algebraic : Cert.algebraic_DwOMlaIdeal_DwOMlaRefIdeal := fun m g m' g' _ ha => by
  refine ⟨fun c => grad (K := 4096) (argA m c) (argD m c), ?_, ?_⟩
  · exact (θ_run defs _ _).mono (fun r h c => ⟨(h c).1.trans (final m c), (h c).2⟩) (Cert.DwOMlaIdeal.Value.run_blocks m g)
  · refine (θ_run Cert.DwOMlaRefIdeal.defs _ _).mono (fun r h c => ⟨(h c).1.trans ?_, (h c).2⟩) (Cert.DwOMlaRefIdeal.Value.run (F := Ideal) m' g')
    obtain ⟨a0, a1⟩ := ha c
    rw [a0, a1]
    exact host2 (argA m c) (argD m c)

end Cert.GradHeads

end
-- ==== Proof.GradIn.lean ====
/-
  The device's part of the gradient of the input projection: a product over all tokens, added up over four stretches of
  tokens.
-/
module

public import proofs.«01_k».proof.Defs
public import proofs.«01_k».proof.Proof.Gen.DwIn
public import proofs.«01_k».proof.Proof.Gen.DwInIdeal
public import proofs.«01_k».proof.Proof.Gen.DwInIdeal.Value
public import proofs.«01_k».proof.Proof.Gen.DwInRefIdeal
public import proofs.«01_k».proof.Proof.Gen.DwInRefIdeal.Run
public import proofs.«01_k».proof.Proof.Products
public import Idealize.ShloMosaic.Lib.Pipeline.ValueKit
public import Idealize.ShloMosaic.Lib.Pipeline.ReadBack
public import Idealize.ShloMosaic.Lib.Pointwise

@[expose] public section

noncomputable section

namespace Cert.GradIn

open Cert.DwInIdeal Cert.DwInIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The product that device `c` computes. -/
abbrev prod : FVec Ideal S2048x1024 .bf16 :=
  Products.tn (M := 2048) (K := 4096) (N := 1024) (m ((c : Thread nD τ).loc main_arg0)) (m ((c : Thread nD τ).loc main_arg1))

/-- What grid step `t` adds to the sum. -/
abbrev term (t : Fin cfg0.N) : FVec Ideal S1024x1024 .f32 := Products.tn (M := 1024) (K := 1024) (N := 1024) (iblk m c 0 t) (iblk m c 1 t)

/-- The sum after grid step `t`, where it is complete. -/
theorem sum_term (t : Fin cfg0.N) (ht : t.val % 4 = 3) (y : S1024x1024.Idx) :
    (outsAt0 m c t.val t.isLt).2 y = 0 + ∑ s : Fin 4, term m c ⟨4 * (t.val / 4) + s.val, Pipeline.run_point_lt_of_flush t ht s⟩ y := by
  refine Pipeline.eq_sum_fin_of_reset_step_apply_of_flush (fun n h => (outsAt0 m c n h).2) 4 (fun _ => (0 : EReal)) (term m c) (fun t h0 y => ?_)
    (fun t h0 y => ?_) t ht y
  · rw [outsAt0_A m c t h0 (by omega) (by omega)]
    frame_out
    pointwise [k0_pay2, k0_pay1, term, Products.tn]
  · by_cases h2 : t.val % 4 = 3
    · rw [outsAt0_C m c t h0 (by omega) h2]
      frame_out
      simp only [read_unread_whole]
      pointwise [k0_pay3, k0_pay1, term, Products.tn]
    · rw [outsAt0_B m c t h0 (by omega) h2]
      frame_out
      simp only [read_unread_whole]
      pointwise [k0_pay3, k0_pay1, term, Products.tn]

/-- What the call leaves is the product. -/
theorem final : (dats m 0 c).arrAt 2 cfg0.N = prod m c := by
  have e0 : ∀ t : Fin cfg0.N, win0_0.index t = ![(t : Nat) % 4, (t : Nat) / 4] := (by decide +kernel : ∀ t : Fin grid0.N, _)
  have e1 : ∀ t : Fin cfg0.N, win0_1.index t = ![(t : Nat) % 4, 0] := (by decide +kernel : ∀ t : Fin grid0.N, _)
  have e2 : ∀ t : Fin cfg0.N, win0_2.index t = ![(t : Nat) / 4, 0] := (by decide +kernel : ∀ t : Fin grid0.N, _)
  refine (dats m 0 c).arrAt_eq_of_covers _ _ (by decide +kernel) fun t hf y => ?_
  have ht : t.val % 4 = 3 := (flush0_2 t).mp hf
  have hs := sum_term m c t ht y
  blk_simp
  rw [after0_2]
  rw [outsAt0_C m c t (by omega) (by omega) ht] at hs ⊢
  frame_out at hs ⊢
  refine hs.trans ((zero_add _).trans ?_)
  refine Fin.sum_mul_add_congr fun s k hl => ?_
  have hd : (4 * (t.val / 4) + s.val) / 4 = t.val / 4 := by omega
  have hm : (4 * (t.val / 4) + s.val) % 4 = s.val := by omega
  have h0 : (win0_0.blk ⟨4 * (t.val / 4) + s.val, Pipeline.run_point_lt_of_flush t ht s⟩).view.emb (ix2 k (y 0))
      = ix2 ⟨s.val * 1024 + k.val, hl⟩ ((win0_2.blk t).view.emb y 0) := by blk_ext [e0, e2, hd, hm]
  have h1 : (win0_1.blk ⟨4 * (t.val / 4) + s.val, Pipeline.run_point_lt_of_flush t ht s⟩).view.emb (ix2 k (y 1))
      = ix2 ⟨s.val * 1024 + k.val, hl⟩ ((win0_2.blk t).view.emb y 1) := by blk_ext [e1, e2, hd, hm]
  blk_simp [iblk]
  rw [h0, h1]
  rfl

/-- The reference's result is the product. -/
theorem prod_host (a : FVec Ideal S4096x2048 .bf16) (b : FVec Ideal S4096x1024 .bf16) :
    truncf .bf16 (Host.dotGeneral Cert.DwInRefIdeal.dot_S2048x4096_S4096x1024_S2048x1024_1_0_0_1_n_n none
      (transpose Cert.DwInRefIdeal.S2048x4096 [1, 0] (extf .f32 a Cert.DwInRefIdeal.Gen.bitsLt_bf16_f32) Cert.DwInRefIdeal.Gen.transposes_S4096x2048_S2048x4096_1_0)
      (extf .f32 b Cert.DwInRefIdeal.Gen.bitsLt_bf16_f32)) Cert.DwInRefIdeal.Gen.bitsLt_bf16_f32 = Products.tn (M := 2048) (K := 4096) (N := 1024) a b := by
  funext i
  pointwise [Products.tn]

/-- The two programs have the same bodies. -/
theorem same_defs : (Cert.DwIn.defs (F := Bits)) = Cert.DwInIdeal.defs (F := Bits) :=
  congrArg (Pipeline.defs Cert.DwInIdeal.pcfgs) (congrArg Defs.onTc (funext fun l => funext fun x => match l, x with | 0, _ => rfl))

/-- The call ends with its arguments unchanged and every counter at zero. -/
theorem frame_kernel : Cert.quiescent_DwIn := fun m ρ _ => by
  rw [same_defs]
  exact Cert.DwInIdeal.Gen.frame (F := Bits) m ρ

/-- So does the call over exact values. -/
theorem frame_kernelIdeal : Cert.quiescent_DwInIdeal := fun m ρ _ => Cert.DwInIdeal.Gen.frame (F := Ideal) m ρ

/-- The reference ends with its arrays unchanged; it has no counters. -/
theorem frame_referenceIdeal : Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

/-- The call computes the reference's result over exact values. -/
theorem algebraic : Cert.algebraic_DwInIdeal_DwInRefIdeal := fun m g m' g' _ ha => by
  refine ⟨fun c => prod m c, ?_, ?_⟩
  · exact (θ_run defs _ _).mono (fun r h c => ⟨(h c).1.trans (final m c), (h c).2⟩) (Cert.DwInIdeal.Value.run_blocks m g)
  · refine (θ_run Cert.DwInRefIdeal.defs _ _).mono (fun r h c => ?_) (Cert.DwInRefIdeal.Value.run (F := Ideal) m' g')
    obtain ⟨h0, hk⟩ := h c
    obtain ⟨a0, a1⟩ := ha c
    rw [prod_host, a0, a1] at h0
    exact ⟨h0, hk⟩

end Cert.GradIn

end
-- ==== Proof.Joined.lean ====
/-
  The gradient of the widened activations: four matrices of 512 columns laid side by side, in blocks of 512 rows.
-/
module

public import proofs.«01_k».proof.Defs
public import proofs.«01_k».proof.Proof.Gen.Dh
public import proofs.«01_k».proof.Proof.Gen.DhIdeal
public import proofs.«01_k».proof.Proof.Gen.DhIdeal.Value
public import proofs.«01_k».proof.Proof.Gen.DhRefIdeal
public import proofs.«01_k».proof.Proof.Gen.DhRefIdeal.Run
public import Idealize.ShloMosaic.Lib.Pipeline.ValueKit
public import Idealize.ShloMosaic.Lib.Pipeline.ReadBack
public import Idealize.ShloMosaic.Lib.Pointwise

@[expose] public section

noncomputable section

namespace Cert.Joined

open Cert.DhIdeal Cert.DhIdeal.Gen Idealize.ShloMosaic Idealize.ShloMosaic.TcCoe Idealize.SL.Sem
open Idealize.ShloMosaic.Pipeline (Dat)

/-! ## The matrices side by side -/

section
variable {M M' : Nat}

/-- A matrix of `M` rows of 512 numbers. -/
abbrev Part (M : Nat) : Type := (⟨2, ![M, 512]⟩ : Shape).Idx → EReal

/-- Entry `j` of row `r` of four matrices laid side by side. -/
def entry (a b c d : Part M) (r : Fin M) (j : Nat) (hj : j < 2048) : EReal :=
  if h₁ : j < 512 then a (ix2 r ⟨j, h₁⟩)
  else if h₂ : j - 512 < 512 then b (ix2 r ⟨j - 512, h₂⟩)
  else if h₃ : j - 512 - 512 < 512 then c (ix2 r ⟨j - 512 - 512, h₃⟩)
  else d (ix2 r ⟨j - 512 - 512 - 512, by omega⟩)

/-- The matrix of those entries. -/
def join (a b c d : Part M) : (⟨2, ![M, 2048]⟩ : Shape).Idx → EReal := fun i => entry a b c d (i 0) (i 1).val (i 1).isLt

variable {a b c d : Part M} {a' b' c' d' : Part M'} {r : Fin M} {r' : Fin M'}

/-- A row of the joined matrix depends on that row of the four. -/
theorem entry_row (ha : ∀ k : Fin 512, a (ix2 r k) = a' (ix2 r' k)) (hb : ∀ k : Fin 512, b (ix2 r k) = b' (ix2 r' k))
    (hc : ∀ k : Fin 512, c (ix2 r k) = c' (ix2 r' k)) (hd : ∀ k : Fin 512, d (ix2 r k) = d' (ix2 r' k)) (j : Nat) (hj : j < 2048) :
    entry a b c d r j hj = entry a' b' c' d' r' j hj := by
  simp only [entry, ha, hb, hc, hd]

variable {j : Nat} {hj : j < 2048} {s : Fin M} {k : Fin 512}

/-- The four matrices' entries within the joined matrix. -/
theorem entry_a (hs : s.val = r.val) (h : j = k.val) : a (ix2 s k) = entry a b c d r j hj := by
  obtain rfl := Fin.ext hs
  subst h
  rw [entry, dif_pos k.isLt]
theorem entry_b (hs : s.val = r.val) (h : j = 512 + k.val) : b (ix2 s k) = entry a b c d r j hj := by
  obtain rfl := Fin.ext hs
  subst h
  rw [entry, dif_neg (by omega), dif_pos (by omega)]
  exact congrArg (fun l => b (ix2 s l)) (Fin.ext (by show k.val = 512 + k.val - 512; omega))
theorem entry_c (hs : s.val = r.val) (h : j = 1024 + k.val) : c (ix2 s k) = entry a b c d r j hj := by
  obtain rfl := Fin.ext hs
  subst h
  rw [entry, dif_neg (by omega), dif_neg (by omega), dif_pos (by omega)]
  exact congrArg (fun l => c (ix2 s l)) (Fin.ext (by show k.val = 1024 + k.val - 512 - 512; omega))
theorem entry_d (hs : s.val = r.val) (h : j = 1536 + k.val) : d (ix2 s k) = entry a b c d r j hj := by
  obtain rfl := Fin.ext hs
  subst h
  rw [entry, dif_neg (by omega), dif_neg (by omega), dif_neg (by omega)]
  exact congrArg (fun l => d (ix2 s l)) (Fin.ext (by show k.val = 1536 + k.val - 512 - 512 - 512; omega))

end

variable (m : (ℓ : Loc nD τ sig) → Buf (Elt Ideal) ℓ) (c : Dev nD)

/-! ## The call's arguments -/

abbrev arg0 : Part 4096 := m ((c : Thread nD τ).loc main_arg0)
abbrev arg1 : Part 4096 := m ((c : Thread nD τ).loc main_arg1)
abbrev arg2 : Part 4096 := m ((c : Thread nD τ).loc main_arg2)
abbrev arg3 : Part 4096 := m ((c : Thread nD τ).loc main_arg3)

abbrev blk0 (t : Fin cfg0.N) : Part 512 := iblk m c 0 t
abbrev blk1 (t : Fin cfg0.N) : Part 512 := iblk m c 1 t
abbrev blk2 (t : Fin cfg0.N) : Part 512 := iblk m c 2 t
abbrev blk3 (t : Fin cfg0.N) : Part 512 := iblk m c 3 t

theorem e0 : ∀ t : Fin cfg0.N, win0_0.index t = ![(t : Nat), 0] := (by decide +kernel : ∀ t : Fin grid0.N, _)
theorem e1 : ∀ t : Fin cfg0.N, win0_1.index t = ![(t : Nat), 0] := (by decide +kernel : ∀ t : Fin grid0.N, _)
theorem e2 : ∀ t : Fin cfg0.N, win0_2.index t = ![(t : Nat), 0] := (by decide +kernel : ∀ t : Fin grid0.N, _)
theorem e3 : ∀ t : Fin cfg0.N, win0_3.index t = ![(t : Nat), 0] := (by decide +kernel : ∀ t : Fin grid0.N, _)
theorem e4 : ∀ t : Fin cfg0.N, win0_4.index t = ![(t : Nat), 0] := (by decide +kernel : ∀ t : Fin grid0.N, _)

section
variable (t : Fin cfg0.N) (r : Fin 512) (r' : Fin 4096) (hr : r'.val = t.val * 512 + r.val)
include hr

theorem row0 (k : Fin 512) : blk0 m c t (ix2 r k) = arg0 m c (ix2 r' k) :=
  congrArg (arg0 m c) (by blk_ext [e0, hr] : (win0_0.blk t).view.emb (ix2 r k) = ix2 r' k)
theorem row1 (k : Fin 512) : blk1 m c t (ix2 r k) = arg1 m c (ix2 r' k) :=
  congrArg (arg1 m c) (by blk_ext [e1, hr] : (win0_1.blk t).view.emb (ix2 r k) = ix2 r' k)
theorem row2 (k : Fin 512) : blk2 m c t (ix2 r k) = arg2 m c (ix2 r' k) :=
  congrArg (arg2 m c) (by blk_ext [e2, hr] : (win0_2.blk t).view.emb (ix2 r k) = ix2 r' k)
theorem row3 (k : Fin 512) : blk3 m c t (ix2 r k) = arg3 m c (ix2 r' k) :=
  congrArg (arg3 m c) (by blk_ext [e3, hr] : (win0_3.blk t).view.emb (ix2 r k) = ix2 r' k)

end

/-! ## What each grid step leaves -/

theorem block4 (x0 : FVec Ideal S512x512 .bf16) (x1 x2 x3 : FVec Ideal S512x512 .f32) :
    (out0_4 (F := Ideal) x0 x1 x2 x3 : FVec Ideal S512x2048 .bf16) = join (M := 512) x0 x1 x2 x3 := by
  funext y
  canon_tiles x h
  all_goals
    have e : x = ix2 (x 0 : Fin 512) (x 1 : Fin 512) := by blk_ext []
    pointwise [k0_pay1, k0_pay2, k0_pay3]
  · exact (congrArg x3 e).trans (entry_d h0.symm h1)
  · exact (congrArg x2 e).trans (entry_c h0.symm h1)
  · exact (congrArg x1 e).trans (entry_b h0.symm h1)
  · exact (congrArg x0 e).trans (entry_a h0.symm h1)

/-! ## What the call leaves -/

theorem final4 : (dats m 0 c).arrAt 4 cfg0.N = join (arg0 m c) (arg1 m c) (arg2 m c) (arg3 m c) := by
  refine (dats m 0 c).arrAt_eq_of_covers _ _ (by decide +kernel) fun t hf y => ?_
  have hN : t.val < 8 := t.isLt
  have hy : (y 0).val < 512 := (y 0).isLt
  have he : (win0_4.blk t).view.emb y = ix2 (⟨t.val * 512 + (y 0).val, by omega⟩ : Fin 4096) (y 1 : Fin 2048) := by blk_ext [e4]
  blk_simp
  rw [after0_4, block4]
  have hr : (⟨t.val * 512 + (y 0).val, by omega⟩ : Fin 4096).val = t.val * 512 + (⟨(y 0).val, hy⟩ : Fin 512).val := rfl
  refine Eq.trans ?_ (congrArg (join (arg0 m c) (arg1 m c) (arg2 m c) (arg3 m c)) he.symm)
  exact entry_row (row0 m c t _ _ hr) (row1 m c t _ _ hr) (row2 m c t _ _ hr) (row3 m c t _ _ hr) (y 1).val (y 1).isLt

/-! ## The claims -/

/-- The two programs have the same bodies. -/
theorem same_defs : (Cert.Dh.defs (F := Bits)) = Cert.DhIdeal.defs (F := Bits) :=
  congrArg (Pipeline.defs Cert.DhIdeal.pcfgs) (congrArg Defs.onTc (funext fun l => funext fun x => match l, x with | 0, _ => rfl))

/-- The call ends with its arguments unchanged and every counter at zero. -/
theorem frame_kernel : Cert.quiescent_Dh := fun m ρ _ => by
  rw [same_defs]
  exact Cert.DhIdeal.Gen.frame (F := Bits) m ρ

/-- So does the call over exact values. -/
theorem frame_kernelIdeal : Cert.quiescent_DhIdeal := fun m ρ _ => Cert.DhIdeal.Gen.frame (F := Ideal) m ρ

/-- The reference ends with its arrays unchanged; it has no counters. -/
theorem frame_referenceIdeal : Cert.quiescent_DhRefIdeal := fun m ρ _ =>
  (θ_run Cert.DhRefIdeal.defs _ _).mono (fun r h => ⟨fun c => (h c).2, sem_eq_zero_of_no_sems (by decide) r.2⟩)
    (Cert.DhRefIdeal.Value.run (F := Ideal) m ρ)

/-- The reference's result. -/
theorem host4 (a0 : FVec Ideal Cert.DhRefIdeal.S4096x512 .bf16) (a1 a2 a3 : FVec Ideal Cert.DhRefIdeal.S4096x512 .f32) :
    (truncf .bf16 ((concatenate Cert.DhRefIdeal.S4096x2048 1 [⟨Cert.DhRefIdeal.S4096x512, ((extf .f32 a0 Cert.DhRefIdeal.Gen.bitsLt_bf16_f32) : (⟨Cert.DhRefIdeal.S4096x512, .f32⟩ : BufTy).Contents (Elt Ideal))⟩,
      ⟨Cert.DhRefIdeal.S4096x512, (a1 : (⟨Cert.DhRefIdeal.S4096x512, .f32⟩ : BufTy).Contents (Elt Ideal))⟩, ⟨Cert.DhRefIdeal.S4096x512, (a2 : (⟨Cert.DhRefIdeal.S4096x512, .f32⟩ : BufTy).Contents (Elt Ideal))⟩,
      ⟨Cert.DhRefIdeal.S4096x512, (a3 : (⟨Cert.DhRefIdeal.S4096x512, .f32⟩ : BufTy).Contents (Elt Ideal))⟩]
      Cert.DhRefIdeal.Gen.concatenates_S4096x512_S4096x512_S4096x512_S4096x512_S4096x2048_d1 : (⟨Cert.DhRefIdeal.S4096x2048, .f32⟩ : BufTy).Contents (Elt Ideal)))
      Cert.DhRefIdeal.Gen.bitsLt_bf16_f32 : FVec Ideal Cert.DhRefIdeal.S4096x2048 .bf16) = join (M := 4096) a0 a1 a2 a3 := by
  funext i
  pointwise [join, entry]

/-- The call computes the reference's result over exact values. -/
theorem algebraic : Cert.algebraic_DhIdeal_DhRefIdeal := fun m g m' g' _ ha => by
  refine ⟨fun c => join (arg0 m c) (arg1 m c) (arg2 m c) (arg3 m c), ?_, ?_⟩
  · exact (θ_run defs _ _).mono (fun r h c => ⟨(h c).1.trans (final4 m c), (h c).2⟩) (Cert.DhIdeal.Value.run_blocks m g)
  · refine (θ_run Cert.DhRefIdeal.defs _ _).mono (fun r h c => ⟨(h c).1.trans ?_, (h c).2⟩) (Cert.DhRefIdeal.Value.run (F := Ideal) m' g')
    obtain ⟨a0, a1, a2, a3⟩ := ha c
    rw [a0, a1, a2, a3]
    exact host4 (arg0 m c) (arg1 m c) (arg2 m c) (arg3 m c)

end Cert.Joined

end
-- ==== Proof.Norms.lean ====
/-
  The normalisation of the rows of a matrix, each of 1024 numbers, and its gradient, over exact values.
-/
module

public import Idealize.ShloMosaic.Lib.Pointwise
public import Idealize.ShloMosaic.Lib.IdealHost

@[expose] public section

noncomputable section

namespace Cert.Norms

open Idealize.ShloMosaic

/-- The mean of a row. -/
def mean (x : Fin 1024 → EReal) : EReal := Ideal.div (∑ k, x k) (Ideal.ofBits .f32 0x44800000#32)

/-- The row less its mean. -/
def centred (x : Fin 1024 → EReal) (k : Fin 1024) : EReal := x k - mean x

/-- One over the root of the row's variance, to which a small number is added. -/
def scale (x : Fin 1024 → EReal) : EReal :=
  Ideal.rsqrt (mean (fun k => centred x k * centred x k) + Ideal.ofBits .f32 0x3727C5AC#32)

/-- The row normalised. -/
def unit (x : Fin 1024 → EReal) (k : Fin 1024) : EReal := centred x k * scale x

/-- The gradient of the row `x`, for the gradient `d` of the normalised row. -/
def back (d x : Fin 1024 → EReal) (k : Fin 1024) : EReal :=
  scale x * (d k - mean d - unit x k * mean (fun l => d l * unit x l))

variable {M : Nat}

/-- A matrix of `M` rows of 1024 numbers. -/
abbrev Mat (M : Nat) : Type := (⟨2, ![M, 1024]⟩ : Shape).Idx → EReal

/-- The normalised rows, times the gains, plus the biases. -/
def normed (z : Mat M) (g b : Mat 1) : Mat M :=
  fun i => unit (fun k => z (ix2 (i 0) k)) (i 1) * g (ix2 0 (i 1)) + b (ix2 0 (i 1))

/-- The gradient of the matrix that is normalised, for the gradient `d` of the result. -/
def gradZ (d z : Mat M) (g : Mat 1) : Mat M :=
  fun i => back (fun k => d (ix2 (i 0) k) * g (ix2 0 k)) (fun k => z (ix2 (i 0) k)) (i 1)

/-- The gradient of the gains. -/
def gradG (d z : Mat M) : Mat 1 :=
  fun i => ∑ r : Fin M, d (ix2 r (i 1)) * unit (fun k => z (ix2 r k)) (i 1)

/-- The gradient of the biases. -/
def gradB (d : Mat M) : Mat 1 := fun i => ∑ r : Fin M, d (ix2 r (i 1))

/-- The gradient of a row depends on the row alone. -/
theorem gradZ_congr {M' : Nat} {d z : Mat M} {d' z' : Mat M'} {g g' : Mat 1} {i : (⟨2, ![M, 1024]⟩ : Shape).Idx}
    {i' : (⟨2, ![M', 1024]⟩ : Shape).Idx} (hj : (i 1 : Fin 1024) = i' 1)
    (hd : ∀ k : Fin 1024, d (ix2 (i 0) k) = d' (ix2 (i' 0) k)) (hz : ∀ k : Fin 1024, z (ix2 (i 0) k) = z' (ix2 (i' 0) k))
    (hg : ∀ k : Fin 1024, g (ix2 0 k) = g' (ix2 0 k)) : gradZ d z g i = gradZ d' z' g' i' := by
  show back _ _ (i 1 : Fin 1024) = back _ _ (i' 1 : Fin 1024)
  rw [hj, funext hz, funext fun k => congrArg₂ (· * ·) (hd k) (hg k)]

end Cert.Norms

end
-- ==== Proof.NormBack.lean ====
/-
  The backward pass of the first normalisation: the gradient of the normalised matrix, in blocks of 512 rows, and the
  gradients of the gains and the biases, added up over the blocks.
-/
module

public import proofs.«01_k».proof.Defs
public import proofs.«01_k».proof.Proof.Gen.Ln1
public import proofs.«01_k».proof.Proof.Gen.Ln1Ideal
public import proofs.«01_k».proof.Proof.Gen.Ln1Ideal.Value
public import proofs.«01_k».proof.Proof.Gen.Ln1RefIdeal
public import proofs.«01_k».proof.Proof.Gen.Ln1RefIdeal.Run
public import proofs.«01_k».proof.Proof.Norms
public import Idealize.ShloMosaic.Lib.Pipeline.ValueKit
public import Idealize.ShloMosaic.Lib.Pipeline.ReadBack
public import Idealize.ShloMosaic.Lib.Pointwise

@[expose] public section

noncomputable section

namespace Cert.NormBack

open Cert.Ln1Ideal Cert.Ln1Ideal.Gen Idealize.ShloMosaic Idealize.ShloMosaic.TcCoe Idealize.SL.Sem
open Idealize.ShloMosaic.Pipeline (Dat)
open Cert.Norms

variable (m : (ℓ : Loc nD τ sig) → Buf (Elt Ideal) ℓ) (c : Dev nD)

/-- The gradient of the result, the matrix that was normalised, and the gains. -/
abbrev argD : Mat 4096 := m ((c : Thread nD τ).loc main_arg0)
abbrev argZ : Mat 4096 := m ((c : Thread nD τ).loc main_arg1)
abbrev argG : Mat 1 := m ((c : Thread nD τ).loc main_arg2)

theorem e0 : ∀ t : Fin cfg0.N, win0_0.index t = ![(t : Nat), 0] := (by decide +kernel : ∀ t : Fin grid0.N, _)
theorem e1 : ∀ t : Fin cfg0.N, win0_1.index t = ![(t : Nat), 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![(t : Nat), 0] := (by decide +kernel : ∀ t : Fin grid0.N, _)
theorem e4 : ∀ t : Fin cfg0.N, win0_4.index t = ![(t : Nat), 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)

/-- The first matrix's gradient within one block of rows. -/
theorem grad_block (d z : FVec Ideal S512x1024 .f32) (g : FVec Ideal S1x1024 .f32) :
    (k0_pay1 (F := Ideal) d (k0_pay6 z) (k0_pay7 z) g : FVec Ideal S512x1024 .f32) = gradZ (M := 512) d z g := by
  funext y
  pointwise [k0_pay1, k0_pay5, k0_pay6, k0_pay7, gradZ, back, unit, scale, centred, mean]

/-- What grid step `t` leaves in its block of the gradient, and of its rounded copy. -/
theorem block3 (t : Fin cfg0.N) : (outsAt0 m c t.val t.isLt).1 = gradZ (M := 512) (iblk m c 0 t) (iblk m c 1 t) (iblk m c 2 t) := by
  by_cases h0 : t.val % 8 = 0
  · rw [outsAt0_A m c t h0]
    frame_out
    exact grad_block _ _ _
  · rw [outsAt0_B m c t h0]
    frame_out
    exact grad_block _ _ _
theorem block4 (t : Fin cfg0.N) : (outsAt0 m c t.val t.isLt).2.1 = gradZ (M := 512) (iblk m c 0 t) (iblk m c 1 t) (iblk m c 2 t) := by
  by_cases h0 : t.val % 8 = 0
  · rw [outsAt0_A m c t h0]
    frame_out
    exact grad_block _ _ _
  · rw [outsAt0_B m c t h0]
    frame_out
    exact grad_block _ _ _

/-- The gradient of the matrix, after the call. -/
theorem final3 : (dats m 0 c).arrAt 3 cfg0.N = gradZ (argD m c) (argZ m c) (argG m c) := by
  refine (dats m 0 c).arrAt_eq_of_covers _ _ (by decide +kernel) fun t hf y => ?_
  blk_simp
  rw [after0_3, block3]
  refine gradZ_congr ?_ (fun k => ?_) (fun k => ?_) (fun k => ?_)
  · exact (congrFun (by blk_ext [e3] : (win0_3.blk t).view.emb y = ix2 ((win0_3.blk t).view.emb y 0) (y 1)) 1).symm
  · exact congrArg (argD m c) (by blk_ext [e0, e3] : (win0_0.blk t).view.emb (ix2 (y 0) k) = ix2 ((win0_3.blk t).view.emb y 0) k)
  · exact congrArg (argZ m c) (by blk_ext [e1, e3] : (win0_1.blk t).view.emb (ix2 (y 0) k) = ix2 ((win0_3.blk t).view.emb y 0) k)
  · exact congrArg (argG m c) (by blk_ext [e2] : (win0_2.blk t).view.emb (ix2 0 k) = ix2 0 k)

/-- Its rounded copy. -/
theorem final4 : (dats m 0 c).arrAt 4 cfg0.N = gradZ (argD m c) (argZ m c) (argG m c) := by
  refine (dats m 0 c).arrAt_eq_of_covers _ _ (by decide +kernel) fun t hf y => ?_
  blk_simp
  rw [after0_4, block4]
  refine gradZ_congr ?_ (fun k => ?_) (fun k => ?_) (fun k => ?_)
  · exact (congrFun (by blk_ext [e4] : (win0_4.blk t).view.emb y = ix2 ((win0_4.blk t).view.emb y 0) (y 1)) 1).symm
  · exact congrArg (argD m c) (by blk_ext [e0, e4] : (win0_0.blk t).view.emb (ix2 (y 0) k) = ix2 ((win0_4.blk t).view.emb y 0) k)
  · exact congrArg (argZ m c) (by blk_ext [e1, e4] : (win0_1.blk t).view.emb (ix2 (y 0) k) = ix2 ((win0_4.blk t).view.emb y 0) k)
  · exact congrArg (argG m c) (by blk_ext [e2] : (win0_2.blk t).view.emb (ix2 0 k) = ix2 0 k)

/-- The gradient of the gains after the last grid step. -/
theorem sum5 (t : Fin cfg0.N) (ht : t.val % 8 = 7) (y : S1x1024.Idx) :
    (outsAt0 m c t.val t.isLt).2.2.1 y = 0 + ∑ s : Fin 8, gradG (M := 512)
      (iblk m c 0 ⟨8 * (t.val / 8) + s.val, Pipeline.run_point_lt_of_flush t ht s⟩)
      (iblk m c 1 ⟨8 * (t.val / 8) + s.val, Pipeline.run_point_lt_of_flush t ht s⟩) y := by
  refine Pipeline.eq_sum_fin_of_reset_step_apply_of_flush (fun n h => (outsAt0 m c n h).2.2.1) 8 (fun _ => (0 : EReal))
    (fun t => gradG (M := 512) (iblk m c 0 t) (iblk m c 1 t)) (fun t h0 y => ?_) (fun t h0 y => ?_) t ht y
  · rw [outsAt0_A m c t h0]
    frame_out
    pointwise [k0_pay3, k0_pay5, k0_pay6, k0_pay7, k0_pay8, gradG, unit, scale, centred, mean]
  · rw [outsAt0_B m c t h0]
    frame_out
    pointwise [k0_pay5, k0_pay6, k0_pay7, k0_pay8, gradG, unit, scale, centred, mean]

/-- The gradient of the biases after the last grid step. -/
theorem sum6 (t : Fin cfg0.N) (ht : t.val % 8 = 7) (y : S1x1024.Idx) :
    (outsAt0 m c t.val t.isLt).2.2.2 y = 0 + ∑ s : Fin 8, gradB (M := 512)
      (iblk m c 0 ⟨8 * (t.val / 8) + s.val, Pipeline.run_point_lt_of_flush t ht s⟩) y := by
  refine Pipeline.eq_sum_fin_of_reset_step_apply_of_flush (fun n h => (outsAt0 m c n h).2.2.2) 8 (fun _ => (0 : EReal))
    (fun t => gradB (M := 512) (iblk m c 0 t)) (fun t h0 y => ?_) (fun t h0 y => ?_) t ht y
  · rw [outsAt0_A m c t h0]
    frame_out
    pointwise [k0_pay4, k0_pay9, gradB]
  · rw [outsAt0_B m c t h0]
    frame_out
    pointwise [k0_pay9, gradB]

/-- The gradient of the gains, after the call. -/
theorem final5 : (dats m 0 c).arrAt 5 cfg0.N = gradG (argD m c) (argZ m c) := by
  refine (dats m 0 c).arrAt_eq_of_covers _ _ (by decide +kernel) fun t hf y => ?_
  have ht : t.val % 8 = 7 := (flush0_5 t).mp hf
  have hN : t.val < 8 := t.isLt
  have hs := sum5 m c t ht y
  blk_simp
  rw [after0_5]
  refine hs.trans ((zero_add _).trans ?_)
  refine Fin.sum_mul_add_congr fun s k hl => ?_
  have hd : 8 * (t.val / 8) + s.val = s.val := by omega
  have hj : (y 1 : Fin 1024) = (win0_5.blk t).view.emb y 1 := (congrFun (by blk_ext [e5] : (win0_5.blk t).view.emb y = ix2 ((win0_5.blk t).view.emb y 0) (y 1)) 1).symm
  have h0 : (win0_0.blk ⟨8 * (t.val / 8) + s.val, Pipeline.run_point_lt_of_flush t ht s⟩).view.emb (ix2 k (y 1))
      = ix2 ⟨s.val * 512 + k.val, hl⟩ ((win0_5.blk t).view.emb y 1) := by blk_ext [e0, e5, hd]
  have h1 : ∀ l : Fin 1024, (win0_1.blk ⟨8 * (t.val / 8) + s.val, Pipeline.run_point_lt_of_flush t ht s⟩).view.emb (ix2 k l)
      = ix2 ⟨s.val * 512 + k.val, hl⟩ l := fun l => by blk_ext [e1, hd]
  blk_simp [iblk]
  rw [h0]
  simp only [h1]
  rw [hj]
  rfl

/-- The gradient of the biases, after the call. -/
theorem final6 : (dats m 0 c).arrAt 6 cfg0.N = gradB (argD m c) := by
  refine (dats m 0 c).arrAt_eq_of_covers _ _ (by decide +kernel) fun t hf y => ?_
  have ht : t.val % 8 = 7 := (flush0_6 t).mp hf
  have hN : t.val < 8 := t.isLt
  have hs := sum6 m c t ht y
  blk_simp
  rw [after0_6]
  refine hs.trans ((zero_add _).trans ?_)
  refine Fin.sum_mul_add_congr fun s k hl => ?_
  have hd : 8 * (t.val / 8) + s.val = s.val := by omega
  have h0 : (win0_0.blk ⟨8 * (t.val / 8) + s.val, Pipeline.run_point_lt_of_flush t ht s⟩).view.emb (ix2 k (y 1))
      = ix2 ⟨s.val * 512 + k.val, hl⟩ ((win0_6.blk t).view.emb y 1) := by blk_ext [e0, e6, hd]
  exact congrArg (argD m c) h0

/-- The two programs have the same bodies. -/
theorem same_defs : (Cert.Ln1.defs (F := Bits)) = Cert.Ln1Ideal.defs (F := Bits) :=
  congrArg (Pipeline.defs Cert.Ln1Ideal.pcfgs) (congrArg Defs.onTc (funext fun l => funext fun x => match l, x with | 0, _ => rfl))

/-- The call ends with its arguments unchanged and every counter at zero. -/
theorem frame_kernel : Cert.quiescent_Ln1 := fun m ρ _ => by
  rw [same_defs]
  exact Cert.Ln1Ideal.Gen.frame (F := Bits) m ρ

/-- So does the call over exact values. -/
theorem frame_kernelIdeal : Cert.quiescent_Ln1Ideal := fun m ρ _ => Cert.Ln1Ideal.Gen.frame (F := Ideal) m ρ

/-- The reference ends with its arrays unchanged; it has no counters. -/
theorem frame_referenceIdeal : Cert.quiescent_Ln1RefIdeal := fun m ρ _ =>
  (θ_run Cert.Ln1RefIdeal.defs _ _).mono (fun r h => ⟨fun c => (h c).2.2.2.2, sem_eq_zero_of_no_sems (by decide) r.2⟩)
    (Cert.Ln1RefIdeal.Value.run (F := Ideal) m ρ)

/-- The reference's first result. -/
theorem host3 (m : (ℓ : Loc Cert.Ln1RefIdeal.nD Cert.Ln1RefIdeal.τ Cert.Ln1RefIdeal.sig) → Buf (Elt Ideal) ℓ) (c : Dev Cert.Ln1RefIdeal.nD) :
    Cert.Ln1RefIdeal.Value.res_main_v33 m c = gradZ (M := 4096) (m ((c.tc : Thread Cert.Ln1RefIdeal.nD Cert.Ln1RefIdeal.τ).loc Cert.Ln1RefIdeal.main_arg0))
      (m ((c.tc : Thread Cert.Ln1RefIdeal.nD Cert.Ln1RefIdeal.τ).loc Cert.Ln1RefIdeal.main_arg1))
      (m ((c.tc : Thread Cert.Ln1RefIdeal.nD Cert.Ln1RefIdeal.τ).loc Cert.Ln1RefIdeal.main_arg2)) := by
  funext i
  pointwise [Cert.Ln1RefIdeal.Value.res_main_v33, gradZ, back, unit, scale, centred, mean]

/-- Its rounded copy is the same over exact values. -/
theorem host4 (m : (ℓ : Loc Cert.Ln1RefIdeal.nD Cert.Ln1RefIdeal.τ Cert.Ln1RefIdeal.sig) → Buf (Elt Ideal) ℓ) (c : Dev Cert.Ln1RefIdeal.nD) :
    Cert.Ln1RefIdeal.Value.res_main_v34 m c = Cert.Ln1RefIdeal.Value.res_main_v33 m c := rfl

/-- The call computes the reference's results over exact values. -/
theorem algebraic : Cert.algebraic_Ln1Ideal_Ln1RefIdeal := fun m g m' g' _ ha => by
  refine ⟨fun c => gradZ (argD m c) (argZ m c) (argG m c), fun c => gradZ (argD m c) (argZ m c) (argG m c),
    fun c => gradG (argD m c) (argZ m c), fun c => gradB (argD m c), ?_, ?_⟩
  · refine (θ_run defs _ _).mono (fun r h c => ?_) (Cert.Ln1Ideal.Value.run_blocks m g)
    obtain ⟨h3, h4, h5, h6, hk⟩ := h c
    exact ⟨h3.trans (final3 m c), h4.trans (final4 m c), h5.trans (final5 m c), h6.trans (final6 m c), hk⟩
  · refine (θ_run Cert.Ln1RefIdeal.defs _ _).mono (fun r h c => ?_) (Cert.Ln1RefIdeal.Value.run (F := Ideal) m' g')
    obtain ⟨h3, h4, h5, h6, hk⟩ := h c
    obtain ⟨a0, a1, a2⟩ := ha c
    have hz := host3 m' c
    rw [a0, a1, a2] at hz
    rw [a0, a1] at h5
    rw [a0] at h6
    refine ⟨h3.trans hz, h4.trans ((host4 m' c).trans hz), h5.trans ?_, h6.trans ?_, hk⟩
    · funext i
      pointwise [gradG, unit, scale, centred, mean]
    · funext i
      pointwise [gradB]

end Cert.NormBack

end
-- ==== Proof.Loss.lean ====
/-
  The loss and its gradient through the second normalisation: the gradient of the normalised matrix, in blocks of 512
  rows, and the loss and the gradients of the gains and the biases, added up over the blocks.
-/
module

public import proofs.«01_k».proof.Defs
public import proofs.«01_k».proof.Proof.Gen.Ln2
public import proofs.«01_k».proof.Proof.Gen.Ln2Ideal
public import proofs.«01_k».proof.Proof.Gen.Ln2Ideal.Value
public import proofs.«01_k».proof.Proof.Gen.Ln2RefIdeal
public import proofs.«01_k».proof.Proof.Gen.Ln2RefIdeal.Run
public import proofs.«01_k».proof.Proof.Norms
public import Idealize.ShloMosaic.Lib.Pipeline.ValueKit
public import Idealize.ShloMosaic.Lib.Pipeline.ReadBack
public import Idealize.ShloMosaic.Lib.Pointwise

@[expose] public section

noncomputable section

namespace Cert.Loss

open Cert.Ln2Ideal Cert.Ln2Ideal.Gen Idealize.ShloMosaic Idealize.ShloMosaic.TcCoe Idealize.SL.Sem
open Idealize.ShloMosaic.Pipeline (Dat)
open Cert.Norms

/-! ## The loss, over exact values -/

section
variable {M M' : Nat}

/-- The matrix that is normalised: `x` times the fourth root of two, rounded to a float, plus `f`. -/
def comb (x f : Mat M) : Mat M := fun i => Ideal.ofBits .f32 0x3F9837F0#32 * x i + f i

/-- How far the normalised matrix is from the target. -/
def err (x f y : Mat M) (g b : Mat 1) : Mat M := fun i => normed (comb x f) g b i - y i

/-- The gradient of the normalised matrix: that distance over 1024. -/
def slope (x f y : Mat M) (g b : Mat 1) : Mat M := fun i => err x f y g b i * Ideal.ofBits .f32 0x3A800000#32

/-- The mean square of a row of the distance. -/
def rowLoss (x f y : Mat M) (g b : Mat 1) (r : Fin M) : EReal :=
  mean (fun k => err x f y g b (ix2 r k) * err x f y g b (ix2 r k))

/-- Half the sum of those. -/
def loss (x f y : Mat M) (g b : Mat 1) : EReal := Ideal.ofBits .f32 0x3F000000#32 * ∑ r : Fin M, rowLoss x f y g b r

variable {x f y : Mat M} {x' f' y' : Mat M'} {g b g' b' : Mat 1} {r : Fin M} {r' : Fin M'}

theorem comb_row (hx : ∀ k : Fin 1024, x (ix2 r k) = x' (ix2 r' k)) (hf : ∀ k : Fin 1024, f (ix2 r k) = f' (ix2 r' k)) (k : Fin 1024) :
    comb x f (ix2 r k) = comb x' f' (ix2 r' k) := by
  simp only [comb, hx, hf]

theorem err_row (hx : ∀ k : Fin 1024, x (ix2 r k) = x' (ix2 r' k)) (hf : ∀ k : Fin 1024, f (ix2 r k) = f' (ix2 r' k))
    (hy : ∀ k : Fin 1024, y (ix2 r k) = y' (ix2 r' k)) (hg : ∀ k : Fin 1024, g (ix2 0 k) = g' (ix2 0 k))
    (hb : ∀ k : Fin 1024, b (ix2 0 k) = b' (ix2 0 k)) (k : Fin 1024) : err x f y g b (ix2 r k) = err x' f' y' g' b' (ix2 r' k) := by
  show unit (fun l => comb x f (ix2 r l)) k * g (ix2 0 k) + b (ix2 0 k) - y (ix2 r k)
    = unit (fun l => comb x' f' (ix2 r' l)) k * g' (ix2 0 k) + b' (ix2 0 k) - y' (ix2 r' k)
  simp only [comb_row hx hf, hg, hb, hy]

end

/-- One half, as a float, is neither negative nor infinite. -/
theorem half_eq : Ideal.ofBits .f32 0x3F000000#32 = (((1 : ℝ) / 2 : ℝ) : EReal) := by
  simp [Ideal.ofBits, Ideal.ieee, -EReal.coe_mul]
  norm_num

/-- Half of a sum is the sum of the halves. -/
theorem half_sum (n : Nat) (x : Fin n → EReal) :
    Ideal.ofBits .f32 0x3F000000#32 * ∑ s, x s = ∑ s, Ideal.ofBits .f32 0x3F000000#32 * x s := by
  rw [half_eq]
  induction n with
  | zero => simp
  | succ n ih =>
    rw [Fin.sum_univ_succ, Fin.sum_univ_succ, EReal.left_distrib_of_nonneg_of_ne_top (by positivity) (EReal.coe_ne_top _), ih]

variable (m : (ℓ : Loc nD τ sig) → Buf (Elt Ideal) ℓ) (c : Dev nD)

/-! ## The call's arguments -/

abbrev argX : Mat 4096 := m ((c : Thread nD τ).loc main_arg0)
abbrev argF : Mat 4096 := m ((c : Thread nD τ).loc main_arg1)
abbrev argY : Mat 4096 := m ((c : Thread nD τ).loc main_arg2)
abbrev argG : Mat 1 := m ((c : Thread nD τ).loc main_arg3)
abbrev argB : Mat 1 := m ((c : Thread nD τ).loc main_arg4)

abbrev blkX (t : Fin cfg0.N) : Mat 512 := iblk m c 0 t
abbrev blkF (t : Fin cfg0.N) : Mat 512 := iblk m c 1 t
abbrev blkY (t : Fin cfg0.N) : Mat 512 := iblk m c 2 t
abbrev blkG (t : Fin cfg0.N) : Mat 1 := iblk m c 3 t
abbrev blkB (t : Fin cfg0.N) : Mat 1 := iblk m c 4 t

theorem e0 : ∀ t : Fin cfg0.N, win0_0.index t = ![(t : Nat), 0] := (by decide +kernel : ∀ t : Fin grid0.N, _)
theorem e1 : ∀ t : Fin cfg0.N, win0_1.index t = ![(t : Nat), 0] := (by decide +kernel : ∀ t : Fin grid0.N, _)
theorem e2 : ∀ t : Fin cfg0.N, win0_2.index t = ![(t : Nat), 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![(t : Nat), 0] := (by decide +kernel : ∀ t : Fin grid0.N, _)
theorem e6 : ∀ t : Fin cfg0.N, win0_6.index t = ![(t : Nat), 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)

section
variable (t : Fin cfg0.N) (r : Fin 512) (r' : Fin 4096) (hr : r'.val = t.val * 512 + r.val)
include hr

theorem rowX (k : Fin 1024) : blkX m c t (ix2 r k) = argX m c (ix2 r' k) :=
  congrArg (argX m c) (by blk_ext [e0, hr] : (win0_0.blk t).view.emb (ix2 r k) = ix2 r' k)
theorem rowF (k : Fin 1024) : blkF m c t (ix2 r k) = argF m c (ix2 r' k) :=
  congrArg (argF m c) (by blk_ext [e1, hr] : (win0_1.blk t).view.emb (ix2 r k) = ix2 r' k)
theorem rowY (k : Fin 1024) : blkY m c t (ix2 r k) = argY m c (ix2 r' k) :=
  congrArg (argY m c) (by blk_ext [e2, hr] : (win0_2.blk t).view.emb (ix2 r k) = ix2 r' k)
omit hr in
theorem rowG (k : Fin 1024) : blkG m c t (ix2 0 k) = argG m c (ix2 0 k) :=
  congrArg (argG m c) (by blk_ext [e3] : (win0_3.blk t).view.emb (ix2 0 k) = ix2 0 k)
omit hr in
theorem rowB (k : Fin 1024) : blkB m c t (ix2 0 k) = argB m c (ix2 0 k) :=
  congrArg (argB m c) (by blk_ext [e4] : (win0_4.blk t).view.emb (ix2 0 k) = ix2 0 k)

/-- A row of a block is the row of the matrix it is cut from. -/
theorem row_comb (k : Fin 1024) : comb (blkX m c t) (blkF m c t) (ix2 r k) = comb (argX m c) (argF m c) (ix2 r' k) :=
  comb_row (rowX m c t r r' hr) (rowF m c t r r' hr) k

theorem row_err (k : Fin 1024) : err (blkX m c t) (blkF m c t) (blkY m c t) (blkG m c t) (blkB m c t) (ix2 r k)
    = err (argX m c) (argF m c) (argY m c) (argG m c) (argB m c) (ix2 r' k) :=
  err_row (rowX m c t r r' hr) (rowF m c t r r' hr) (rowY m c t r r' hr) (rowG m c t) (rowB m c t) k

theorem row_slope (k : Fin 1024) : slope (blkX m c t) (blkF m c t) (blkY m c t) (blkG m c t) (blkB m c t) (ix2 r k)
    = slope (argX m c) (argF m c) (argY m c) (argG m c) (argB m c) (ix2 r' k) :=
  congrArg (· * Ideal.ofBits .f32 0x3A800000#32) (row_err m c t r r' hr k)

theorem row_gain (j : Fin 1024) : slope (blkX m c t) (blkF m c t) (blkY m c t) (blkG m c t) (blkB m c t) (ix2 r j)
      * unit (fun k => comb (blkX m c t) (blkF m c t) (ix2 r k)) j
    = slope (argX m c) (argF m c) (argY m c) (argG m c) (argB m c) (ix2 r' j) * unit (fun k => comb (argX m c) (argF m c) (ix2 r' k)) j := by
  rw [row_slope m c t r r' hr, funext (row_comb m c t r r' hr)]

theorem row_loss : rowLoss (blkX m c t) (blkF m c t) (blkY m c t) (blkG m c t) (blkB m c t) r
    = rowLoss (argX m c) (argF m c) (argY m c) (argG m c) (argB m c) r' := by
  simp only [rowLoss, row_err m c t r r' hr]

end

/-! ## What each grid step leaves -/

/-- The gradient within one block of rows. -/
theorem grad_block (x f y : FVec Ideal S512x1024 .f32) (g b : FVec Ideal S1x1024 .f32) :
    (k0_pay1 (F := Ideal) (k0_pay7 x f) (k0_pay8 x f) (k0_pay17 g (k0_pay9 g x f b y)) (k0_pay18 g (k0_pay8 x f) (k0_pay9 g x f b y))
      : FVec Ideal S512x1024 .f32) = gradZ (M := 512) (slope x f y g b) (comb x f) g := by
  funext i
  pointwise [k0_pay1, k0_pay6, k0_pay7, k0_pay8, k0_pay9, k0_pay13, k0_pay16, k0_pay17, k0_pay18, gradZ, back, slope, err, normed, comb,
    unit, scale, centred, mean]

/-- The matrix's gradient, and its rounded copy. -/
theorem block5 (t : Fin cfg0.N) : (outsAt0 m c t.val t.isLt).1 = gradZ (M := 512)
    (slope (blkX m c t) (blkF m c t) (blkY m c t) (blkG m c t) (blkB m c t)) (comb (blkX m c t) (blkF m c t)) (blkG m c t) := by
  by_cases h0 : t.val % 8 = 0
  · rw [outsAt0_A m c t h0]
    frame_out
    exact grad_block _ _ _ _ _
  · rw [outsAt0_B m c t h0]
    frame_out
    exact grad_block _ _ _ _ _
theorem block6 (t : Fin cfg0.N) : (outsAt0 m c t.val t.isLt).2.1 = gradZ (M := 512)
    (slope (blkX m c t) (blkF m c t) (blkY m c t) (blkG m c t) (blkB m c t)) (comb (blkX m c t) (blkF m c t)) (blkG m c t) := by
  by_cases h0 : t.val % 8 = 0
  · rw [outsAt0_A m c t h0]
    frame_out
    exact grad_block _ _ _ _ _
  · rw [outsAt0_B m c t h0]
    frame_out
    exact grad_block _ _ _ _ _

/-- The gradient of the matrix, after the call. -/
theorem final5 : (dats m 0 c).arrAt 5 cfg0.N = gradZ (M := 4096)
    (slope (argX m c) (argF m c) (argY m c) (argG m c) (argB m c)) (comb (argX m c) (argF m c)) (argG m c) := by
  refine (dats m 0 c).arrAt_eq_of_covers _ _ (by decide +kernel) fun t hf y => ?_
  have hN : t.val < 8 := t.isLt
  have hy : (y 0).val < 512 := (y 0).isLt
  have he : (win0_5.blk t).view.emb y = ix2 (⟨t.val * 512 + (y 0).val, by omega⟩ : Fin 4096) (y 1 : Fin 1024) := by blk_ext [e5]
  blk_simp
  rw [after0_5, block5]
  have hr : (⟨t.val * 512 + (y 0).val, by omega⟩ : Fin 4096).val = t.val * 512 + (⟨(y 0).val, hy⟩ : Fin 512).val := rfl
  refine Eq.trans ?_ (congrArg (gradZ (M := 4096) (slope (argX m c) (argF m c) (argY m c) (argG m c) (argB m c))
    (comb (argX m c) (argF m c)) (argG m c)) he.symm)
  exact gradZ_congr rfl (row_slope m c t _ _ hr) (row_comb m c t _ _ hr) (rowG m c t)

/-- Its rounded copy. -/
theorem final6 : (dats m 0 c).arrAt 6 cfg0.N = gradZ (M := 4096)
    (slope (argX m c) (argF m c) (argY m c) (argG m c) (argB m c)) (comb (argX m c) (argF m c)) (argG m c) := by
  refine (dats m 0 c).arrAt_eq_of_covers _ _ (by decide +kernel) fun t hf y => ?_
  have hN : t.val < 8 := t.isLt
  have hy : (y 0).val < 512 := (y 0).isLt
  have he : (win0_6.blk t).view.emb y = ix2 (⟨t.val * 512 + (y 0).val, by omega⟩ : Fin 4096) (y 1 : Fin 1024) := by blk_ext [e6]
  blk_simp
  rw [after0_6, block6]
  have hr : (⟨t.val * 512 + (y 0).val, by omega⟩ : Fin 4096).val = t.val * 512 + (⟨(y 0).val, hy⟩ : Fin 512).val := rfl
  refine Eq.trans ?_ (congrArg (gradZ (M := 4096) (slope (argX m c) (argF m c) (argY m c) (argG m c) (argB m c))
    (comb (argX m c) (argF m c)) (argG m c)) he.symm)
  exact gradZ_congr rfl (row_slope m c t _ _ hr) (row_comb m c t _ _ hr) (rowG m c t)

/-- The loss after grid step `t`, as it adds up. -/
abbrev term7 (t : Fin cfg0.N) (y : S1x128.Idx) : EReal := loss (blkX m c t) (blkF m c t) (blkY m c t) (blkG m c t) (blkB m c t)

theorem sum7 (t : Fin cfg0.N) (ht : t.val % 8 = 7) (y : S1x128.Idx) :
    (outsAt0 m c t.val t.isLt).2.2.1 y = 0 + ∑ s : Fin 8, term7 m c ⟨8 * (t.val / 8) + s.val, Pipeline.run_point_lt_of_flush t ht s⟩ y := by
  refine Pipeline.eq_sum_fin_of_reset_step_apply_of_flush (fun n h => (outsAt0 m c n h).2.2.1) 8 (fun _ => (0 : EReal))
    (term7 m c) (fun t h0 y => ?_) (fun t h0 y => ?_) t ht y
  · rw [outsAt0_A m c t h0]
    frame_out
    pointwise [k0_pay3, k0_pay6, k0_pay7, k0_pay8, k0_pay9, k0_pay10, k0_pay11, k0_pay12, loss, rowLoss, err, normed, comb, unit, scale, centred, mean]
  · rw [outsAt0_B m c t h0]
    frame_out
    pointwise [k0_pay6, k0_pay7, k0_pay8, k0_pay9, k0_pay10, k0_pay11, k0_pay12, loss, rowLoss, err, normed, comb, unit, scale, centred, mean]

/-- The gradient of the gains after grid step `t`, as it adds up. -/
abbrev term8 (t : Fin cfg0.N) (y : S1x1024.Idx) : EReal := gradG (slope (blkX m c t) (blkF m c t) (blkY m c t) (blkG m c t) (blkB m c t)) (comb (blkX m c t) (blkF m c t)) y

theorem sum8 (t : Fin cfg0.N) (ht : t.val % 8 = 7) (y : S1x1024.Idx) :
    (outsAt0 m c t.val t.isLt).2.2.2.1 y = 0 + ∑ s : Fin 8, term8 m c ⟨8 * (t.val / 8) + s.val, Pipeline.run_point_lt_of_flush t ht s⟩ y := by
  refine Pipeline.eq_sum_fin_of_reset_step_apply_of_flush (fun n h => (outsAt0 m c n h).2.2.2.1) 8 (fun _ => (0 : EReal))
    (term8 m c) (fun t h0 y => ?_) (fun t h0 y => ?_) t ht y
  · rw [outsAt0_A m c t h0]
    frame_out
    pointwise [k0_pay4, k0_pay6, k0_pay7, k0_pay8, k0_pay9, k0_pay13, k0_pay14, gradG, slope, err, normed, comb, unit, scale, centred, mean]
  · rw [outsAt0_B m c t h0]
    frame_out
    pointwise [k0_pay6, k0_pay7, k0_pay8, k0_pay9, k0_pay13, k0_pay14, gradG, slope, err, normed, comb, unit, scale, centred, mean]

/-- The gradient of the biases after grid step `t`, as it adds up. -/
abbrev term9 (t : Fin cfg0.N) (y : S1x1024.Idx) : EReal := gradB (slope (blkX m c t) (blkF m c t) (blkY m c t) (blkG m c t) (blkB m c t)) y

theorem sum9 (t : Fin cfg0.N) (ht : t.val % 8 = 7) (y : S1x1024.Idx) :
    (outsAt0 m c t.val t.isLt).2.2.2.2 y = 0 + ∑ s : Fin 8, term9 m c ⟨8 * (t.val / 8) + s.val, Pipeline.run_point_lt_of_flush t ht s⟩ y := by
  refine Pipeline.eq_sum_fin_of_reset_step_apply_of_flush (fun n h => (outsAt0 m c n h).2.2.2.2) 8 (fun _ => (0 : EReal))
    (term9 m c) (fun t h0 y => ?_) (fun t h0 y => ?_) t ht y
  · rw [outsAt0_A m c t h0]
    frame_out
    pointwise [k0_pay5, k0_pay6, k0_pay7, k0_pay8, k0_pay9, k0_pay13, k0_pay15, gradB, slope, err, normed, comb, unit, scale, centred, mean]
  · rw [outsAt0_B m c t h0]
    frame_out
    pointwise [k0_pay6, k0_pay7, k0_pay8, k0_pay9, k0_pay13, k0_pay15, gradB, slope, err, normed, comb, unit, scale, centred, mean]

/-! ## What the call leaves -/

/-- The loss, in every lane. -/
theorem final7 : (dats m 0 c).arrAt 7 cfg0.N = fun _ => loss (argX m c) (argF m c) (argY m c) (argG m c) (argB m c) := by
  refine (dats m 0 c).arrAt_eq_of_covers _ _ (by decide +kernel) fun t hf y => ?_
  have ht : t.val % 8 = 7 := (flush0_7 t).mp hf
  have hN : t.val < 8 := t.isLt
  have hs := sum7 m c t ht y
  blk_simp
  rw [after0_7]
  refine hs.trans ((zero_add _).trans ?_)
  refine (half_sum 8 _).symm.trans (congrArg (Ideal.ofBits .f32 0x3F000000#32 * ·) ?_)
  refine Fin.sum_mul_add_congr fun s k hl => ?_
  have hr : (⟨s.val * 512 + k.val, hl⟩ : Fin 4096).val = (8 * (t.val / 8) + s.val) * 512 + k.val := by
    show s.val * 512 + k.val = _
    omega
  exact row_loss m c _ _ _ hr

/-- The gradient of the gains. -/
theorem total8 (t : Fin cfg0.N) (ht : t.val % 8 = 7) (y : S1x1024.Idx) : (outsAt0 m c t.val t.isLt).2.2.2.1 y
    = gradG (M := 4096) (slope (argX m c) (argF m c) (argY m c) (argG m c) (argB m c)) (comb (argX m c) (argF m c)) y := by
  have hN : t.val < 8 := t.isLt
  rw [sum8 m c t ht y, zero_add]
  refine Fin.sum_mul_add_congr fun s k hl => ?_
  have hr : (⟨s.val * 512 + k.val, hl⟩ : Fin 4096).val = (8 * (t.val / 8) + s.val) * 512 + k.val := by
    show s.val * 512 + k.val = _
    omega
  exact row_gain m c ⟨8 * (t.val / 8) + s.val, Pipeline.run_point_lt_of_flush t ht s⟩ k ⟨s.val * 512 + k.val, hl⟩ hr (y 1)

theorem final8 : (dats m 0 c).arrAt 8 cfg0.N = gradG (M := 4096) (slope (argX m c) (argF m c) (argY m c) (argG m c) (argB m c)) (comb (argX m c) (argF m c)) := by
  refine (dats m 0 c).arrAt_eq_of_covers _ _ (by decide +kernel) fun t hf y => ?_
  have he : (win0_8.blk t).view.emb y = y := by blk_ext [e8]
  blk_simp
  rw [after0_8]
  exact (total8 m c t ((flush0_8 t).mp hf) y).trans (congrArg (gradG (M := 4096) (slope (argX m c) (argF m c) (argY m c) (argG m c) (argB m c)) (comb (argX m c) (argF m c))) he.symm)

/-- The gradient of the biases. -/
theorem total9 (t : Fin cfg0.N) (ht : t.val % 8 = 7) (y : S1x1024.Idx) : (outsAt0 m c t.val t.isLt).2.2.2.2 y
    = gradB (M := 4096) (slope (argX m c) (argF m c) (argY m c) (argG m c) (argB m c)) y := by
  have hN : t.val < 8 := t.isLt
  rw [sum9 m c t ht y, zero_add]
  refine Fin.sum_mul_add_congr fun s k hl => ?_
  have hr : (⟨s.val * 512 + k.val, hl⟩ : Fin 4096).val = (8 * (t.val / 8) + s.val) * 512 + k.val := by
    show s.val * 512 + k.val = _
    omega
  exact row_slope m c ⟨8 * (t.val / 8) + s.val, Pipeline.run_point_lt_of_flush t ht s⟩ k ⟨s.val * 512 + k.val, hl⟩ hr (y 1)

theorem final9 : (dats m 0 c).arrAt 9 cfg0.N = gradB (M := 4096) (slope (argX m c) (argF m c) (argY m c) (argG m c) (argB m c)) := by
  refine (dats m 0 c).arrAt_eq_of_covers _ _ (by decide +kernel) fun t hf y => ?_
  have he : (win0_9.blk t).view.emb y = y := by blk_ext [e9]
  blk_simp
  rw [after0_9]
  exact (total9 m c t ((flush0_9 t).mp hf) y).trans (congrArg (gradB (M := 4096) (slope (argX m c) (argF m c) (argY m c) (argG m c) (argB m c))) he.symm)

/-! ## The claims -/

/-- The two programs have the same bodies. -/
theorem same_defs : (Cert.Ln2.defs (F := Bits)) = Cert.Ln2Ideal.defs (F := Bits) :=
  congrArg (Pipeline.defs Cert.Ln2Ideal.pcfgs) (congrArg Defs.onTc (funext fun l => funext fun x => match l, x with | 0, _ => rfl))

/-- The call ends with its arguments unchanged and every counter at zero. -/
theorem frame_kernel : Cert.quiescent_Ln2 := fun m ρ _ => by
  rw [same_defs]
  exact Cert.Ln2Ideal.Gen.frame (F := Bits) m ρ

/-- So does the call over exact values. -/
theorem frame_kernelIdeal : Cert.quiescent_Ln2Ideal := fun m ρ _ => Cert.Ln2Ideal.Gen.frame (F := Ideal) m ρ

/-- The reference ends with its arrays unchanged; it has no counters. -/
theorem frame_referenceIdeal : Cert.quiescent_Ln2RefIdeal := fun m ρ _ =>
  (θ_run Cert.Ln2RefIdeal.defs _ _).mono (fun r h => ⟨fun c => (h c).2.2.2.2.2, sem_eq_zero_of_no_sems (by decide) r.2⟩)
    (Cert.Ln2RefIdeal.Value.run (F := Ideal) m ρ)

/-- The reference's results. -/
theorem host5 (m : (ℓ : Loc Cert.Ln2RefIdeal.nD Cert.Ln2RefIdeal.τ Cert.Ln2RefIdeal.sig) → Buf (Elt Ideal) ℓ) (c : Dev Cert.Ln2RefIdeal.nD) :
    Cert.Ln2RefIdeal.Value.res_main_v49 m c = gradZ (M := 4096)
      (slope (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)))
      (comb (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1))) (m ((c.tc : Thread Cert.Ln2RefIdeal.nD Cert.Ln2RefIdeal.τ).loc Cert.Ln2RefIdeal.main_arg3)) := by
  funext i
  pointwise [Cert.Ln2RefIdeal.Value.res_main_v49, gradZ, back, slope, err, normed, comb, unit, scale, centred, mean]

theorem host6 (m : (ℓ : Loc Cert.Ln2RefIdeal.nD Cert.Ln2RefIdeal.τ Cert.Ln2RefIdeal.sig) → Buf (Elt Ideal) ℓ) (c : Dev Cert.Ln2RefIdeal.nD) :
    Cert.Ln2RefIdeal.Value.res_main_v50 m c = Cert.Ln2RefIdeal.Value.res_main_v49 m c := rfl

theorem host7 (m : (ℓ : Loc Cert.Ln2RefIdeal.nD Cert.Ln2RefIdeal.τ Cert.Ln2RefIdeal.sig) → Buf (Elt Ideal) ℓ) (c : Dev Cert.Ln2RefIdeal.nD) :
    Cert.Ln2RefIdeal.Value.res_main_v51 m c = fun _ => loss (M := 4096)
      (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) := by
  funext i
  pointwise [Cert.Ln2RefIdeal.Value.res_main_v51, loss, rowLoss, err, normed, comb, unit, scale, centred, mean]

theorem host8 (m : (ℓ : Loc Cert.Ln2RefIdeal.nD Cert.Ln2RefIdeal.τ Cert.Ln2RefIdeal.sig) → Buf (Elt Ideal) ℓ) (c : Dev Cert.Ln2RefIdeal.nD) :
    Cert.Ln2RefIdeal.Value.res_main_v54 m c = gradG (M := 4096)
      (slope (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)))
      (comb (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1))) := by
  funext i
  pointwise [Cert.Ln2RefIdeal.Value.res_main_v54, gradG, slope, err, normed, comb, unit, scale, centred, mean]

/-- The call computes the reference's results over exact values. -/
theorem algebraic : Cert.algebraic_Ln2Ideal_Ln2RefIdeal := fun m g m' g' _ ha => by
  refine ⟨fun c => gradZ (M := 4096) (slope (argX m c) (argF m c) (argY m c) (argG m c) (argB m c)) (comb (argX m c) (argF m c)) (argG m c),
    fun c => gradZ (M := 4096) (slope (argX m c) (argF m c) (argY m c) (argG m c) (argB m c)) (comb (argX m c) (argF m c)) (argG m c),
    fun c _ => loss (argX m c) (argF m c) (argY m c) (argG m c) (argB m c),
    fun c => gradG (M := 4096) (slope (argX m c) (argF m c) (argY m c) (argG m c) (argB m c)) (comb (argX m c) (argF m c)),
    fun c => gradB (M := 4096) (slope (argX m c) (argF m c) (argY m c) (argG m c) (argB m c)), ?_, ?_⟩
  · refine (θ_run defs _ _).mono (fun r h c => ?_) (Cert.Ln2Ideal.Value.run_blocks m g)
    obtain ⟨h5, h6, h7, h8, h9, hk⟩ := h c
    exact ⟨h5.trans (final5 m c), h6.trans (final6 m c), h7.trans (final7 m c), h8.trans (final8 m c), h9.trans (final9 m c), hk⟩
  · refine (θ_run Cert.Ln2RefIdeal.defs _ _).mono (fun r h c => ?_) (Cert.Ln2RefIdeal.Value.run (F := Ideal) m' g')
    obtain ⟨h5, h6, h7, h8, h9, hk⟩ := h c
    obtain ⟨a0, a1, a2, a3, a4⟩ := ha c
    have k5 := host5 m' c
    have k7 := host7 m' c
    have k8 := host8 m' c
    rw [a0, a1, a2, a3, a4] at k5 k7 k8 h9
    refine ⟨h5.trans k5, h6.trans ((host6 m' c).trans k5), h7.trans k7, h8.trans k8, h9.trans ?_, hk⟩
    funext i
    pointwise [gradB, slope, err, normed, comb, unit, scale, centred, mean]

end Cert.Loss

end
-- ==== Proof.Mixed.lean ====
/-
  The mixing of the two attentions and the first normalisation: each block of 512 rows of the scaled input plus the two
  products with the weights, and that matrix normalised.
-/
module

public import proofs.«01_k».proof.Defs
public import proofs.«01_k».proof.Proof.Gen.Mix
public import proofs.«01_k».proof.Proof.Gen.MixIdeal
public import proofs.«01_k».proof.Proof.Gen.MixIdeal.Value
public import proofs.«01_k».proof.Proof.Gen.MixRefIdeal
public import proofs.«01_k».proof.Proof.Gen.MixRefIdeal.Run
public import proofs.«01_k».proof.Proof.Norms
public import Idealize.ShloMosaic.Lib.Pipeline.ValueKit
public import Idealize.ShloMosaic.Lib.Pipeline.ReadBack
public import Idealize.ShloMosaic.Lib.Pointwise

@[expose] public section

noncomputable section

namespace Cert.Mixed

open Cert.MixIdeal Cert.MixIdeal.Gen Idealize.ShloMosaic Idealize.ShloMosaic.TcCoe Idealize.SL.Sem
open Idealize.ShloMosaic.Pipeline (Dat)
open Cert.Norms

/-! ## The mixture, over exact values -/

section
variable {M M' : Nat}

/-- Eight heads, each a matrix of `M` rows of 128 numbers. -/
abbrev Heads (M : Nat) : Type := (⟨3, ![8, M, 128]⟩ : Shape).Idx → EReal

/-- A matrix of `M` rows of 512 numbers. -/
abbrev Half (M : Nat) : Type := (⟨2, ![M, 512]⟩ : Shape).Idx → EReal

/-- Head `h` times the 128 rows of the weights from row `o` on. -/
def part (a : Heads M) (w : Mat 1024) (h : Fin 8) (o : Nat) (ho : o + 128 ≤ 1024) (r : Fin M) (j : Fin 1024) : EReal :=
  ∑ l : Fin 128, a (ix3 h r l) * w (ix2 ⟨o + l.val, by omega⟩ j)

/-- The scaled input plus the product of the second attention, to which the heads are added one after another. -/
def mix (a : Heads M) (d : Half M) (w : Mat 1024) (v : Mat 512) (x : Mat M) : Mat M := fun i =>
  Ideal.ofBits .f32 0x3F9837F0#32 * x i
    + ((∑ k : Fin 512, d (ix2 (i 0) k) * v (ix2 k (i 1))) + part a w 0 0 (by omega) (i 0) (i 1) + part a w 1 128 (by omega) (i 0) (i 1)
      + part a w 2 256 (by omega) (i 0) (i 1) + part a w 3 384 (by omega) (i 0) (i 1) + part a w 4 512 (by omega) (i 0) (i 1)
      + part a w 5 640 (by omega) (i 0) (i 1) + part a w 6 768 (by omega) (i 0) (i 1) + part a w 7 896 (by omega) (i 0) (i 1))

/-- The same with the heads' products summed first. -/
def mixSum (a : Heads M) (d : Half M) (w : Mat 1024) (v : Mat 512) (x : Mat M) : Mat M := fun i =>
  Ideal.ofBits .f32 0x3F9837F0#32 * x i
    + ((∑ k : Fin 512, d (ix2 (i 0) k) * v (ix2 k (i 1)))
      + ∑ h : Fin 8, ∑ l : Fin 128, a (ix3 h (i 0) l) * w (ix2 ⟨h.val * 128 + l.val, by omega⟩ (i 1)))

theorem mix_eq (a : Heads M) (d : Half M) (w : Mat 1024) (v : Mat 512) (x : Mat M) : mix a d w v x = mixSum a d w v x := by
  funext i
  show _ = _ + (_ + ∑ h : Fin 8, part a w h (h.val * 128) (by omega) (i 0) (i 1))
  rw [Fin.sum_univ_eight]
  simp only [mix, add_assoc]
  rfl

variable {a : Heads M} {a' : Heads M'} {d : Half M} {d' : Half M'} {w w' : Mat 1024} {v v' : Mat 512} {x : Mat M} {x' : Mat M'}
  {g b g' b' : Mat 1} {r : Fin M} {r' : Fin M'}

/-- A row of the mixture depends on the rows of the attentions and of the input alone. -/
theorem mix_row (ha : ∀ (h : Fin 8) (l : Fin 128), a (ix3 h r l) = a' (ix3 h r' l)) (hd : ∀ k : Fin 512, d (ix2 r k) = d' (ix2 r' k))
    (hx : ∀ k : Fin 1024, x (ix2 r k) = x' (ix2 r' k)) (hw : w = w') (hv : v = v') (j : Fin 1024) :
    mix a d w v x (ix2 r j) = mix a' d' w' v' x' (ix2 r' j) := by
  subst hw hv
  show _ * x (ix2 r j) + ((∑ k : Fin 512, d (ix2 r k) * v (ix2 k j)) + part a w 0 0 _ r j + part a w 1 128 _ r j + part a w 2 256 _ r j
      + part a w 3 384 _ r j + part a w 4 512 _ r j + part a w 5 640 _ r j + part a w 6 768 _ r j + part a w 7 896 _ r j)
    = _ * x' (ix2 r' j) + ((∑ k : Fin 512, d' (ix2 r' k) * v (ix2 k j)) + part a' w 0 0 _ r' j + part a' w 1 128 _ r' j
      + part a' w 2 256 _ r' j + part a' w 3 384 _ r' j + part a' w 4 512 _ r' j + part a' w 5 640 _ r' j + part a' w 6 768 _ r' j
      + part a' w 7 896 _ r' j)
  simp only [part, ha, hd, hx]

/-- So does a row of the normalised mixture. -/
theorem normed_row {z : Mat M} {z' : Mat M'} (hz : ∀ k : Fin 1024, z (ix2 r k) = z' (ix2 r' k)) (hg : ∀ k : Fin 1024, g (ix2 0 k) = g' (ix2 0 k))
    (hb : ∀ k : Fin 1024, b (ix2 0 k) = b' (ix2 0 k)) (j : Fin 1024) : normed z g b (ix2 r j) = normed z' g' b' (ix2 r' j) := by
  show unit (fun k => z (ix2 r k)) j * g (ix2 0 j) + b (ix2 0 j) = unit (fun k => z' (ix2 r' k)) j * g' (ix2 0 j) + b' (ix2 0 j)
  rw [funext hz, hg, hb]

end

variable (m : (ℓ : Loc nD τ sig) → Buf (Elt Ideal) ℓ) (c : Dev nD)

/-! ## The call's arguments -/

abbrev argA : Heads 4096 := m ((c : Thread nD τ).loc main_arg0)
abbrev argD : Half 4096 := m ((c : Thread nD τ).loc main_arg1)
abbrev argW : Mat 1024 := m ((c : Thread nD τ).loc main_arg2)
abbrev argV : Mat 512 := m ((c : Thread nD τ).loc main_arg3)
abbrev argX : Mat 4096 := m ((c : Thread nD τ).loc main_arg4)
abbrev argG : Mat 1 := m ((c : Thread nD τ).loc main_arg5)
abbrev argB : Mat 1 := m ((c : Thread nD τ).loc main_arg6)

abbrev blkA (t : Fin cfg0.N) : Heads 512 := iblk m c 0 t
abbrev blkD (t : Fin cfg0.N) : Half 512 := iblk m c 1 t
abbrev blkW (t : Fin cfg0.N) : Mat 1024 := iblk m c 2 t
abbrev blkV (t : Fin cfg0.N) : Mat 512 := iblk m c 3 t
abbrev blkX (t : Fin cfg0.N) : Mat 512 := iblk m c 4 t
abbrev blkG (t : Fin cfg0.N) : Mat 1 := iblk m c 5 t
abbrev blkB (t : Fin cfg0.N) : Mat 1 := iblk m c 6 t

/-- The mixture within one block of rows, and the whole of it. -/
abbrev blkZ (t : Fin cfg0.N) : Mat 512 := mix (blkA m c t) (blkD m c t) (blkW m c t) (blkV m c t) (blkX m c t)
abbrev argZ : Mat 4096 := mix (argA m c) (argD m c) (argW m c) (argV m c) (argX m c)

theorem e0 : ∀ t : Fin cfg0.N, win0_0.index t = ![0, (t : Nat), 0] := (by decide +kernel : ∀ t : Fin grid0.N, _)
theorem e1 : ∀ t : Fin cfg0.N, win0_1.index t = ![(t : Nat), 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![(t : Nat), 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![(t : Nat), 0] := (by decide +kernel : ∀ t : Fin grid0.N, _)
theorem e8 : ∀ t : Fin cfg0.N, win0_8.index t = ![(t : Nat), 0] := (by decide +kernel : ∀ t : Fin grid0.N, _)
theorem e9 : ∀ t : Fin cfg0.N, win0_9.index t = ![(t : Nat), 0] := (by decide +kernel : ∀ t : Fin grid0.N, _)

theorem allW (t : Fin cfg0.N) : blkW m c t = argW m c :=
  funext fun y => congrArg (argW m c) (by blk_ext [e2] : (win0_2.blk t).view.emb y = y)
theorem allV (t : Fin cfg0.N) : blkV m c t = argV m c :=
  funext fun y => congrArg (argV m c) (by blk_ext [e3] : (win0_3.blk t).view.emb y = y)
theorem rowG (t : Fin cfg0.N) (k : Fin 1024) : blkG m c t (ix2 0 k) = argG m c (ix2 0 k) :=
  congrArg (argG m c) (by blk_ext [e5] : (win0_5.blk t).view.emb (ix2 0 k) = ix2 0 k)
theorem rowB (t : Fin cfg0.N) (k : Fin 1024) : blkB m c t (ix2 0 k) = argB m c (ix2 0 k) :=
  congrArg (argB m c) (by blk_ext [e6] : (win0_6.blk t).view.emb (ix2 0 k) = ix2 0 k)

section
variable (t : Fin cfg0.N) (r : Fin 512) (r' : Fin 4096) (hr : r'.val = t.val * 512 + r.val)
include hr

theorem rowA (h : Fin 8) (l : Fin 128) : blkA m c t (ix3 h r l) = argA m c (ix3 h r' l) :=
  congrArg (argA m c) (by blk_ext [e0, hr] : (win0_0.blk t).view.emb (ix3 h r l) = ix3 h r' l)
theorem rowD (k : Fin 512) : blkD m c t (ix2 r k) = argD m c (ix2 r' k) :=
  congrArg (argD m c) (by blk_ext [e1, hr] : (win0_1.blk t).view.emb (ix2 r k) = ix2 r' k)
theorem rowX (k : Fin 1024) : blkX m c t (ix2 r k) = argX m c (ix2 r' k) :=
  congrArg (argX m c) (by blk_ext [e4, hr] : (win0_4.blk t).view.emb (ix2 r k) = ix2 r' k)

/-- A row of a block of the mixture is the row of the whole. -/
theorem row_mix (j : Fin 1024) : blkZ m c t (ix2 r j) = argZ m c (ix2 r' j) :=
  mix_row (rowA m c t r r' hr) (rowD m c t r r' hr) (rowX m c t r r' hr) (allW m c t) (allV m c t) j

theorem row_normed (j : Fin 1024) : normed (blkZ m c t) (blkG m c t) (blkB m c t) (ix2 r j)
    = normed (argZ m c) (argG m c) (argB m c) (ix2 r' j) :=
  normed_row (row_mix m c t r r' hr) (rowG m c t) (rowB m c t) j

end

/-! ## What each grid step leaves -/

section
variable (x0 : FVec Ideal S8x512x128 .bf16) (x1 : FVec Ideal S512x512 .bf16) (x2 : FVec Ideal S1024x1024 .bf16)
  (x3 : FVec Ideal S512x1024 .bf16) (x4 : FVec Ideal S512x1024 .f32) (x5 x6 : FVec Ideal S1x1024 .f32)

theorem block7 : (out0_7 (F := Ideal) x0 x1 x2 x3 x4 x5 x6 : FVec Ideal S512x1024 .f32) = mix (M := 512) x0 x1 x2 x3 x4 := by
  funext y
  frame_out
  pointwise [k0_pay3, k0_pay4, k0_pay5, k0_pay8, k0_pay9, mix, part]

/-- The mixture's payload with its rows normalised. -/
theorem norm_block (u : FVec Ideal S512x1024 .f32) (a4 : FVec Ideal S512x128 .bf16) (w4 : FVec Ideal S128x1024 .bf16) (a5 : FVec Ideal S1x512x128 .bf16)
    (w5 : FVec Ideal S128x1024 .bf16) (a6 : FVec Ideal S1x512x128 .bf16) (w6 : FVec Ideal S128x1024 .bf16) (a7 : FVec Ideal S1x512x128 .bf16)
    (w7 : FVec Ideal S128x1024 .bf16) (x : FVec Ideal S512x1024 .f32) (g b : FVec Ideal S1x1024 .f32) :
    (k0_pay1 (F := Ideal) (k0_pay6 u a4 w4 a5 w5 a6 w6 a7 w7 x) (k0_pay7 u a4 w4 a5 w5 a6 w6 a7 w7 x) (Scalar.ofBits .f32 0x3727C5AC#32) g b
      : FVec Ideal S512x1024 .f32) = normed (M := 512) (k0_pay5 (F := Ideal) u a4 w4 a5 w5 a6 w6 a7 w7 x) g b := by
  funext y
  pointwise [k0_pay1, k0_pay6, k0_pay7, normed, unit, scale, centred, mean]

theorem block8 : (out0_8 (F := Ideal) x0 x1 x2 x3 x4 x5 x6 : FVec Ideal S512x1024 .f32) = normed (M := 512) (mix x0 x1 x2 x3 x4) x5 x6 := by
  rw [← block7 x0 x1 x2 x3 x4 x5 x6]
  unfold_out out0_8
  unfold_out out0_7
  frame_out
  exact norm_block _ _ _ _ _ _ _ _ _ _ _ _

theorem block9 : (out0_9 (F := Ideal) x0 x1 x2 x3 x4 x5 x6 : FVec Ideal S512x1024 .bf16) = normed (M := 512) (mix x0 x1 x2 x3 x4) x5 x6 := by
  rw [← block7 x0 x1 x2 x3 x4 x5 x6]
  unfold_out out0_9
  unfold_out out0_7
  frame_out
  exact norm_block _ _ _ _ _ _ _ _ _ _ _ _

end

/-! ## What the call leaves -/

/-- The mixture, after the call. -/
theorem final7 : (dats m 0 c).arrAt 7 cfg0.N = argZ m c := by
  refine (dats m 0 c).arrAt_eq_of_covers _ _ (by decide +kernel) fun t hf y => ?_
  have hN : t.val < 8 := t.isLt
  have hy : (y 0).val < 512 := (y 0).isLt
  have he : (win0_7.blk t).view.emb y = ix2 (⟨t.val * 512 + (y 0).val, by omega⟩ : Fin 4096) (y 1 : Fin 1024) := by blk_ext [e7]
  blk_simp
  rw [after0_7, block7]
  have hr : (⟨t.val * 512 + (y 0).val, by omega⟩ : Fin 4096).val = t.val * 512 + (⟨(y 0).val, hy⟩ : Fin 512).val := rfl
  refine Eq.trans ?_ (congrArg (argZ m c) he.symm)
  refine Eq.trans (congrArg _ (by blk_ext [] : y = ix2 (⟨(y 0).val, hy⟩ : Fin 512) (y 1 : Fin 1024))) ?_
  exact row_mix m c t _ _ hr (y 1)

/-- The normalised mixture, after the call. -/
theorem final8 : (dats m 0 c).arrAt 8 cfg0.N = normed (argZ m c) (argG m c) (argB m c) := by
  refine (dats m 0 c).arrAt_eq_of_covers _ _ (by decide +kernel) fun t hf y => ?_
  have hN : t.val < 8 := t.isLt
  have hy : (y 0).val < 512 := (y 0).isLt
  have he : (win0_8.blk t).view.emb y = ix2 (⟨t.val * 512 + (y 0).val, by omega⟩ : Fin 4096) (y 1 : Fin 1024) := by blk_ext [e8]
  blk_simp
  rw [after0_8, block8]
  have hr : (⟨t.val * 512 + (y 0).val, by omega⟩ : Fin 4096).val = t.val * 512 + (⟨(y 0).val, hy⟩ : Fin 512).val := rfl
  refine Eq.trans ?_ (congrArg (normed (argZ m c) (argG m c) (argB m c)) he.symm)
  refine Eq.trans (congrArg _ (by blk_ext [] : y = ix2 (⟨(y 0).val, hy⟩ : Fin 512) (y 1 : Fin 1024))) ?_
  exact row_normed m c t _ _ hr (y 1)

/-- Its rounded copy. -/
theorem final9 : (dats m 0 c).arrAt 9 cfg0.N = normed (argZ m c) (argG m c) (argB m c) := by
  refine (dats m 0 c).arrAt_eq_of_covers _ _ (by decide +kernel) fun t hf y => ?_
  have hN : t.val < 8 := t.isLt
  have hy : (y 0).val < 512 := (y 0).isLt
  have he : (win0_9.blk t).view.emb y = ix2 (⟨t.val * 512 + (y 0).val, by omega⟩ : Fin 4096) (y 1 : Fin 1024) := by blk_ext [e9]
  blk_simp
  rw [after0_9, block9]
  have hr : (⟨t.val * 512 + (y 0).val, by omega⟩ : Fin 4096).val = t.val * 512 + (⟨(y 0).val, hy⟩ : Fin 512).val := rfl
  refine Eq.trans ?_ (congrArg (normed (argZ m c) (argG m c) (argB m c)) he.symm)
  refine Eq.trans (congrArg _ (by blk_ext [] : y = ix2 (⟨(y 0).val, hy⟩ : Fin 512) (y 1 : Fin 1024))) ?_
  exact row_normed m c t _ _ hr (y 1)

/-! ## The claims -/

/-- The two programs have the same bodies. -/
theorem same_defs : (Cert.Mix.defs (F := Bits)) = Cert.MixIdeal.defs (F := Bits) :=
  congrArg (Pipeline.defs Cert.MixIdeal.pcfgs) (congrArg Defs.onTc (funext fun l => funext fun x => match l, x with | 0, _ => rfl))

/-- The call ends with its arguments unchanged and every counter at zero. -/
theorem frame_kernel : Cert.quiescent_Mix := fun m ρ _ => by
  rw [same_defs]
  exact Cert.MixIdeal.Gen.frame (F := Bits) m ρ

/-- So does the call over exact values. -/
theorem frame_kernelIdeal : Cert.quiescent_MixIdeal := fun m ρ _ => Cert.MixIdeal.Gen.frame (F := Ideal) m ρ

/-- The reference ends with its arrays unchanged; it has no counters. -/
theorem frame_referenceIdeal : Cert.quiescent_MixRefIdeal := fun m ρ _ =>
  (θ_run Cert.MixRefIdeal.defs _ _).mono (fun r h => ⟨fun c => (h c).2.2.2, sem_eq_zero_of_no_sems (by decide) r.2⟩)
    (Cert.MixRefIdeal.Value.run (F := Ideal) m ρ)

/-- The reference's mixture. -/
theorem host7 (a0 : FVec Ideal Cert.MixRefIdeal.S8x4096x128 .bf16) (a1 : FVec Ideal Cert.MixRefIdeal.S4096x512 .bf16) (a2 : FVec Ideal Cert.MixRefIdeal.S1024x1024 .bf16)
    (a3 : FVec Ideal Cert.MixRefIdeal.S512x1024 .bf16) (a4 : FVec Ideal Cert.MixRefIdeal.S4096x1024 .f32) :
    (addf (mulf (broadcastInDim Cert.MixRefIdeal.S4096x1024 ![] Cert.MixRefIdeal.Gen.bcast_S_S4096x1024 (constant (F := Ideal) Cert.MixRefIdeal.S_ .f32 0x3F9837F0#32)) a4) (addf (Host.dotGeneral Cert.MixRefIdeal.dot_S4096x512_S512x1024_S4096x1024_1_0_0_1_n_n none (extf .f32 a1 Cert.MixRefIdeal.Gen.bitsLt_bf16_f32) (extf .f32 a3 Cert.MixRefIdeal.Gen.bitsLt_bf16_f32)) (Host.reduceAdd (Host.dotGeneral Cert.MixRefIdeal.dot_S8x4096x128_S8x128x1024_S8x4096x1024_2_1_1_2_0_0 none (extf .f32 a0 Cert.MixRefIdeal.Gen.bitsLt_bf16_f32) (shapeCast _ (extf .f32 a2 Cert.MixRefIdeal.Gen.bitsLt_bf16_f32) Cert.MixRefIdeal.Gen.shapeCasts_S1024x1024_S8x128x1024)) (constant Cert.MixRefIdeal.S_ .f32 0x00000000#32) Cert.MixRefIdeal.Gen.reducesTo_S8x4096x1024_S4096x1024_d0 Cert.MixRefIdeal.Gen.h_S_)) : FVec Ideal Cert.MixRefIdeal.S4096x1024 .f32) = mixSum (M := 4096) a0 a1 a2 a3 a4 := by
  funext i
  pointwise [mixSum]

/-- The reference's normalised matrix. -/
theorem host8 (m : (ℓ : Loc Cert.MixRefIdeal.nD Cert.MixRefIdeal.τ Cert.MixRefIdeal.sig) → Buf (Elt Ideal) ℓ) (c : Dev Cert.MixRefIdeal.nD) :
    Cert.MixRefIdeal.Value.res_main_v31 m c = normed (M := 4096) (mixSum (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)))
      (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) := by
  rw [← host7]
  unfold Cert.MixRefIdeal.Value.res_main_v31
  generalize (addf (mulf (broadcastInDim Cert.MixRefIdeal.S4096x1024 ![] Cert.MixRefIdeal.Gen.bcast_S_S4096x1024 (constant (F := Ideal) Cert.MixRefIdeal.S_ .f32 0x3F9837F0#32)) (m ((c.tc : Thread Cert.MixRefIdeal.nD Cert.MixRefIdeal.τ).loc Cert.MixRefIdeal.main_arg4))) (addf (Host.dotGeneral Cert.MixRefIdeal.dot_S4096x512_S512x1024_S4096x1024_1_0_0_1_n_n none (extf .f32 (m ((c.tc : Thread Cert.MixRefIdeal.nD Cert.MixRefIdeal.τ).loc Cert.MixRefIdeal.main_arg1)) Cert.MixRefIdeal.Gen.bitsLt_bf16_f32) (extf .f32 (m ((c.tc : Thread Cert.MixRefIdeal.nD Cert.MixRefIdeal.τ).loc Cert.MixRefIdeal.main_arg3)) Cert.MixRefIdeal.Gen.bitsLt_bf16_f32)) (Host.reduceAdd (Host.dotGeneral Cert.MixRefIdeal.dot_S8x4096x128_S8x128x1024_S8x4096x1024_2_1_1_2_0_0 none (extf .f32 (m ((c.tc : Thread Cert.MixRefIdeal.nD Cert.MixRefIdeal.τ).loc Cert.MixRefIdeal.main_arg0)) Cert.MixRefIdeal.Gen.bitsLt_bf16_f32) (shapeCast _ (extf .f32 (m ((c.tc : Thread Cert.MixRefIdeal.nD Cert.MixRefIdeal.τ).loc Cert.MixRefIdeal.main_arg2)) Cert.MixRefIdeal.Gen.bitsLt_bf16_f32) Cert.MixRefIdeal.Gen.shapeCasts_S1024x1024_S8x128x1024)) (constant Cert.MixRefIdeal.S_ .f32 0x00000000#32) Cert.MixRefIdeal.Gen.reducesTo_S8x4096x1024_S4096x1024_d0 Cert.MixRefIdeal.Gen.h_S_)) : FVec Ideal Cert.MixRefIdeal.S4096x1024 .f32) = z
  funext i
  pointwise [normed, unit, scale, centred, mean]

theorem host9 (m : (ℓ : Loc Cert.MixRefIdeal.nD Cert.MixRefIdeal.τ Cert.MixRefIdeal.sig) → Buf (Elt Ideal) ℓ) (c : Dev Cert.MixRefIdeal.nD) :
    Cert.MixRefIdeal.Value.res_main_v32 m c = Cert.MixRefIdeal.Value.res_main_v31 m c := rfl

/-- The call computes the reference's results over exact values. -/
theorem algebraic : Cert.algebraic_MixIdeal_MixRefIdeal := fun m g m' g' _ ha => by
  refine ⟨fun c => argZ m c, fun c => normed (argZ m c) (argG m c) (argB m c), fun c => normed (argZ m c) (argG m c) (argB m c), ?_, ?_⟩
  · refine (θ_run defs _ _).mono (fun r h c => ?_) (Cert.MixIdeal.Value.run_blocks m g)
    obtain ⟨h7, h8, h9, hk⟩ := h c
    exact ⟨h7.trans (final7 m c), h8.trans (final8 m c), h9.trans (final9 m c), hk⟩
  · refine (θ_run Cert.MixRefIdeal.defs _ _).mono (fun r h c => ?_) (Cert.MixRefIdeal.Value.run (F := Ideal) m' g')
    obtain ⟨h7, h8, h9, hk⟩ := h c
    obtain ⟨a0, a1, a2, a3, a4, a5, a6⟩ := ha c
    have k7 := host7 (argA m c) (argD m c) (argW m c) (argV m c) (argX m c)
    have k8 := host8 m' c
    rw [a0, a1, a2, a3, a4, a5, a6] at k8
    rw [a0, a1, a2, a3, a4] at h7
    have hz : argZ m c = mixSum (argA m c) (argD m c) (argW m c) (argV m c) (argX m c) := mix_eq _ _ _ _ _
    have hn := congrArg (fun z => normed z (argG m c) (argB m c)) hz.symm
    exact ⟨h7.trans (k7.trans hz.symm), h8.trans (k8.trans hn), h9.trans ((host9 m' c).trans (k8.trans hn)), hk⟩

end Cert.Mixed

end
-- ==== Proof.Gated.lean ====
/-
  The convolution along the rows and its gate: each block of 512 rows and 256 columns from the same block of the input, the
  16 rows before it, and the block 2816 columns further on.
-/
module

public import proofs.«01_k».proof.Defs
public import proofs.«01_k».proof.Proof.Gen.Gate
public import proofs.«01_k».proof.Proof.Gen.GateIdeal
public import proofs.«01_k».proof.Proof.Gen.GateIdeal.Value
public import proofs.«01_k».proof.Proof.Gen.GateRefIdeal
public import proofs.«01_k».proof.Proof.Gen.GateRefIdeal.Run
public import Idealize.ShloMosaic.Lib.Pipeline.ValueKit
public import Idealize.ShloMosaic.Lib.Pipeline.ReadBack
public import Idealize.ShloMosaic.Lib.Pointwise
public import Idealize.ShloMosaic.Lib.KernelVsHost

@[expose] public section

noncomputable section

namespace Cert.Gated

open Cert.GateIdeal Cert.GateIdeal.Gen Idealize.ShloMosaic Idealize.ShloMosaic.TcCoe Idealize.SL.Sem
open Idealize.ShloMosaic.Pipeline (Dat)

/-! ## The convolution and the gate, over exact values -/

/-- A matrix of exact values. -/
abbrev Mat (M N : Nat) : Type := (⟨2, ![M, N]⟩ : Shape).Idx → EReal

section
variable {M N : Nat}

/-- The entry `k` rows before row `i`, zero where there is no such row. -/
def back (u : Mat M N) (k : Nat) (i : Fin M) (j : Fin N) : EReal := if h : k ≤ i.val then u (ix2 ⟨i.val - k, by omega⟩ j) else 0

/-- Three taps with weights and an offset. -/
def taps (w : Mat 3 N) (b : Mat 1 N) (j : Fin N) (p q r : EReal) : EReal :=
  b (ix2 0 j) + w (ix2 0 j) * p + w (ix2 1 j) * q + w (ix2 2 j) * r

/-- The convolution: each entry and the two before it in its column. -/
def conv (u : Mat M N) (w : Mat 3 N) (b : Mat 1 N) : Mat M N := fun i =>
  taps w b (i 1) (back u 2 (i 0) (i 1)) (back u 1 (i 0) (i 1)) (u i)

end

/-- The gate's curve. -/
def gelu (x : EReal) : EReal :=
  Ideal.ofBits .f32 0x3F000000#32 * x * (1 + Ideal.tanh (Ideal.ofBits .f32 0x3F4C422A#32 * (x + Ideal.ofBits .f32 0x3D372713#32 * (x * x * x))))

/-- The first half of the columns, gated by the second. -/
def gated (z : Mat 4096 5632) : Mat 4096 2816 := fun i =>
  gelu (z (ix2 (i 0) ⟨2816 + (i 1).val, Nat.add_lt_add_left (i 1).isLt 2816⟩)) * z (ix2 (i 0) ⟨(i 1).val, Nat.lt_of_lt_of_le (i 1).isLt (by decide)⟩)

variable (m : (ℓ : Loc nD τ sig) → Buf (Elt Ideal) ℓ) (c : Dev nD)

/-! ## One grid step -/

/-- The block with the 16 rows before it, which count as zero in the first block. -/
theorem ext_low (i : grid0.Coords) (p : FVec Ideal S16x256 .f32) (x : FVec Ideal S512x256 .f32) (r : Fin 528) (j : Fin 256) (r' : Fin 16) (h : r.val = r'.val) :
    (k0_pay3 (F := Ideal) i p x : FVec Ideal S528x256 .f32) (ix2 r j)
      = Scalar.select (Scalar.cmpi .eq (BitVec.ofNat 32 (i 0).val) 0#32) 0 (p (ix2 r' j)) := by
  have hr : r.val < 16 := h ▸ r'.isLt
  obtain rfl : r' = ⟨r.val, hr⟩ := Fin.ext h.symm
  pointwise [k0_pay3]
  exact dif_pos hr

theorem ext_high (i : grid0.Coords) (p : FVec Ideal S16x256 .f32) (x : FVec Ideal S512x256 .f32) (r : Fin 528) (j : Fin 256) (r' : Fin 512) (h : r.val = r'.val + 16) :
    (k0_pay3 (F := Ideal) i p x : FVec Ideal S528x256 .f32) (ix2 r j) = x (ix2 r' j) := by
  have hr : r' = ⟨r.val - 16, by omega⟩ := Fin.ext (by simp only; omega)
  rw [hr]
  pointwise [k0_pay3]
  exact dif_neg (by omega)

/-- The convolution of a block, from its rows and the 16 before. -/
def convBlk (e : Mat 528 256) (w0 w1 w2 b : Mat 1 256) : Mat 512 256 := fun y =>
  b (ix2 0 (y 1)) + w0 (ix2 0 (y 1)) * e (ix2 ⟨14 + (y 0).val, by have : (y 0).val < 512 := (y 0).isLt; omega⟩ (y 1))
    + w1 (ix2 0 (y 1)) * e (ix2 ⟨15 + (y 0).val, by have : (y 0).val < 512 := (y 0).isLt; omega⟩ (y 1))
    + w2 (ix2 0 (y 1)) * e (ix2 ⟨16 + (y 0).val, by have : (y 0).val < 512 := (y 0).isLt; omega⟩ (y 1))

theorem conv_first (i : grid0.Coords) (p : FVec Ideal S16x256 .f32) (x : FVec Ideal S512x256 .f32) (b w0 w1 w2 : FVec Ideal S1x256 .f32) :
    (k0_pay2 (F := Ideal) i p x b w0 w1 w2 : FVec Ideal S512x256 .f32) = convBlk (k0_pay3 (F := Ideal) i p x) w0 w1 w2 b := by
  funext y
  have hy : (y 0).val < 512 := (y 0).isLt
  have e2 : (16 + (y 0).val + 528 - 2) % 528 = 14 + (y 0).val := by omega
  have e1 : (16 + (y 0).val + 528 - 1) % 528 = 15 + (y 0).val := by omega
  pointwise [k0_pay2, k0_pay3, convBlk]
  simp only [e1, e2]

theorem gate_second (i : grid0.Coords) (p : FVec Ideal S16x256 .f32) (x z : FVec Ideal S512x256 .f32) (b w0 w1 w2 : FVec Ideal S1x256 .f32) :
    (k0_pay1 (F := Ideal) z (k0_pay3 (F := Ideal) i p x) b (k0_pay4 (F := Ideal) i p x) (k0_pay5 w0) w1 w2 : FVec Ideal S512x256 .bf16)
      = fun y => gelu (convBlk (k0_pay3 (F := Ideal) i p x) w0 w1 w2 b y) * z y := by
  funext y
  unfold k0_pay4
  generalize (k0_pay3 (F := Ideal) i p x : FVec Ideal S528x256 .f32) = e
  have hy : (y 0).val < 512 := (y 0).isLt
  have e2 : (16 + (y 0).val + 528 - 2) % 528 = 14 + (y 0).val := by omega
  have e1 : (16 + (y 0).val + 528 - 1) % 528 = 15 + (y 0).val := by omega
  pointwise [k0_pay1, k0_pay5, convBlk, gelu]
  simp only [e1, e2]

/-- The rows of a block and the 16 before are the rows of the whole, read back as far as there are any. -/
theorem ext_rows (u : Mat 4096 5632) (i : grid0.Coords) (q : Nat) (p : FVec Ideal S16x256 .f32) (x : FVec Ideal S512x256 .f32) (j : Fin 256) (l : Fin 5632)
    (hs : Scalar.cmpi .eq (BitVec.ofNat 32 (i 0).val) 0#32 = if q = 0 then 1#1 else 0#1)
    (hx : ∀ (r : Fin 512) (r' : Fin 4096), r'.val = q * 512 + r.val → x (ix2 r j) = u (ix2 r' l))
    (hp : q ≠ 0 → ∀ (r : Fin 16) (r' : Fin 4096), r'.val + 16 = q * 512 + r.val → p (ix2 r j) = u (ix2 r' l))
    (y0 : Fin 512) (g : Fin 4096) (hg : g.val = q * 512 + y0.val) (k : Nat) (hk : k ≤ 16) (r : Fin 528) (hr : r.val + k = 16 + y0.val) :
    (k0_pay3 (F := Ideal) i p x : FVec Ideal S528x256 .f32) (ix2 r j) = back u k g l := by
  unfold back
  by_cases h : k ≤ y0.val
  · rw [ext_high i p x r j ⟨y0.val - k, by omega⟩ (by simp only; omega), dif_pos (by omega)]
    exact hx _ _ (by simp only; omega)
  · rw [ext_low i p x r j ⟨r.val, by omega⟩ rfl, hs]
    by_cases hq : q = 0
    · rw [if_pos hq, dif_neg (by omega)]; rfl
    · rw [if_neg hq, dif_pos (by omega)]
      exact hp hq _ _ (by simp only; omega)

/-- The rows of the block of weights. -/
theorem row_one (x : Vec Ideal S3x256 .f32) (j : Fin 256) : View.ld (Val := Elt Ideal) (e' := .f32) x r0_3 (ix2 0 j) = x (ix2 0 j) :=
  congrArg x (funext fun a => match a with | 0 => Fin.ext (by rfl) | 1 => Fin.ext (by show 0 + 1 * j.val = j.val; omega))

theorem row_two (x : Vec Ideal S3x256 .f32) (j : Fin 256) : View.ld (Val := Elt Ideal) (e' := .f32) x r0_4 (ix2 0 j) = x (ix2 1 j) :=
  congrArg x (funext fun a => match a with | 0 => Fin.ext (by rfl) | 1 => Fin.ext (by show 0 + 1 * j.val = j.val; omega))

theorem row_three (x : Vec Ideal S3x256 .f32) (j : Fin 256) : View.ld (Val := Elt Ideal) (e' := .f32) x r0_5 (ix2 0 j) = x (ix2 2 j) :=
  congrArg x (funext fun a => match a with | 0 => Fin.ext (by rfl) | 1 => Fin.ext (by show 0 + 1 * j.val = j.val; omega))

/-- So the convolution of a block is the block of the convolution. -/
theorem conv_rows (u : Mat 4096 5632) (w : Mat 3 5632) (b : Mat 1 5632) (i : grid0.Coords) (q : Nat) (p : FVec Ideal S16x256 .f32) (x : FVec Ideal S512x256 .f32)
    (b' w0 w1 w2 : FVec Ideal S1x256 .f32) (y : S512x256.Idx) (l : Fin 5632)
    (hs : Scalar.cmpi .eq (BitVec.ofNat 32 (i 0).val) 0#32 = if q = 0 then 1#1 else 0#1)
    (hx : ∀ (r : Fin 512) (r' : Fin 4096), r'.val = q * 512 + r.val → x (ix2 r (y 1)) = u (ix2 r' l))
    (hp : q ≠ 0 → ∀ (r : Fin 16) (r' : Fin 4096), r'.val + 16 = q * 512 + r.val → p (ix2 r (y 1)) = u (ix2 r' l))
    (hb : b' (ix2 0 (y 1)) = b (ix2 0 l)) (h0 : w0 (ix2 0 (y 1)) = w (ix2 0 l)) (h1 : w1 (ix2 0 (y 1)) = w (ix2 1 l)) (h2 : w2 (ix2 0 (y 1)) = w (ix2 2 l))
    (g : Fin 4096) (hg : g.val = q * 512 + (y 0).val) :
    convBlk (k0_pay3 (F := Ideal) i p x) w0 w1 w2 b' y = conv u w b (ix2 g l) := by
  have hy : (y 0).val < 512 := (y 0).isLt
  have e := ext_rows u i q p x (y 1) l hs hx hp (y 0) g hg
  unfold convBlk conv taps
  rw [hb, h0, h1, h2, e 2 (by decide) _ (by simp only; omega), e 1 (by decide) _ (by simp only; omega), e 0 (by decide) _ (by simp only; omega)]
  rfl

/-! ## The whole call -/

/-- The matrix to convolve, the weights and the offsets. -/
abbrev argU : Mat 4096 5632 := m ((c : Thread nD τ).loc main_arg0)
abbrev argW : Mat 3 5632 := m ((c : Thread nD τ).loc main_arg1)
abbrev argB : Mat 1 5632 := m ((c : Thread nD τ).loc main_arg2)

/-- What the call leaves is the gated convolution. -/
theorem final : (dats m 0 c).arrAt 8 cfg0.N = gated (conv (argU m c) (argW m c) (argB m c)) := by
  have e0 : ∀ t : Fin cfg0.N, win0_0.index t = ![(t : Nat) / 11, (t : Nat) % 11] := (by decide +kernel : ∀ t : Fin grid0.N, _)
  have e1 : ∀ t : Fin cfg0.N, win0_1.index t = ![32 * ((t : Nat) / 11) - 1, (t : Nat) % 11] := (by decide +kernel : ∀ t : Fin grid0.N, _)
  have e2 : ∀ t : Fin cfg0.N, win0_2.index t = ![(t : Nat) / 11, (t : Nat) % 11 + 11] := (by decide +kernel : ∀ t : Fin grid0.N, _)
  have e3 : ∀ t : Fin cfg0.N, win0_3.index t = ![32 * ((t : Nat) / 11) - 1, (t : Nat) % 11 + 11] := (by decide +kernel : ∀ t : Fin grid0.N, _)
  have e4 : ∀ t : Fin cfg0.N, win0_4.index t = ![0, (t : Nat) % 11] := (by decide +kernel : ∀ t : Fin grid0.N, _)
  have e5 : ∀ t : Fin cfg0.N, win0_5.index t = ![0, (t : Nat) % 11 + 11] := (by decide +kernel : ∀ t : Fin grid0.N, _)
  have e6 : ∀ t : Fin cfg0.N, win0_6.index t = ![0, (t : Nat) % 11] := (by decide +kernel : ∀ t : Fin grid0.N, _)
  have e7 : ∀ t : Fin cfg0.N, win0_7.index t = ![0, (t : Nat) % 11 + 11] := (by decide +kernel : ∀ t : Fin grid0.N, _)
  have e8 : ∀ t : Fin cfg0.N, win0_8.index t = ![(t : Nat) / 11, (t : Nat) % 11] := (by decide +kernel : ∀ t : Fin grid0.N, _)
  have es : ∀ t : Fin cfg0.N, Scalar.cmpi .eq (BitVec.ofNat 32 (grid0.coords t 0).val) 0#32 = if (t : Nat) / 11 = 0 then 1#1 else 0#1 :=
    (by decide +kernel : ∀ t : Fin grid0.N, _)
  refine (dats m 0 c).arrAt_eq_of_covers _ _ (by decide +kernel) fun t hf y => ?_
  have hy0 : (y 0).val < 512 := (y 0).isLt
  have hy1 : (y 1).val < 256 := (y 1).isLt
  have ht : (t : Nat) < 88 := t.isLt
  have he : (win0_8.blk t).view.emb y = ix2 (⟨(t : Nat) / 11 * 512 + (y 0).val, by omega⟩ : Fin 4096) (⟨(t : Nat) % 11 * 256 + (y 1).val, by omega⟩ : Fin 2816) := by blk_ext [e8]
  blk_simp
  rw [after0_8, he]
  unfold out0_8
  frame_out
  rw [conv_first, gate_second]
  refine congrArg₂ (fun p q => gelu p * q) (conv_rows (argU m c) (argW m c) (argB m c) _ ((t : Nat) / 11) _ _ _ _ _ _ y _ (es t) ?_ ?_ ?_ ?_ ?_ ?_ _ rfl)
    (conv_rows (argU m c) (argW m c) (argB m c) _ ((t : Nat) / 11) _ _ _ _ _ _ y _ (es t) ?_ ?_ ?_ ?_ ?_ ?_ _ rfl)
  · intro r r' hr; blk_simp [iblk]; exact congrArg (argU m c) (by blk_ext [e2, hr])
  · intro hq r r' hr; blk_simp [iblk]; exact congrArg (argU m c) (by blk_ext [e3, hr])
  · blk_simp [iblk]; exact congrArg (argB m c) (by blk_ext [e7])
  · refine (row_one _ (y 1)).trans ?_; blk_simp [iblk]; exact congrArg (argW m c) (by blk_ext [e5])
  · refine (row_two _ (y 1)).trans ?_; blk_simp [iblk]; exact congrArg (argW m c) (by blk_ext [e5])
  · refine (row_three _ (y 1)).trans ?_; blk_simp [iblk]; exact congrArg (argW m c) (by blk_ext [e5])
  · intro r r' hr; blk_simp [iblk]; exact congrArg (argU m c) (by blk_ext [e0, hr])
  · intro hq r r' hr; blk_simp [iblk]; exact congrArg (argU m c) (by blk_ext [e1, hr])
  · blk_simp [iblk]; exact congrArg (argB m c) (by blk_ext [e6])
  · refine (row_one _ (y 1)).trans ?_; blk_simp [iblk]; exact congrArg (argW m c) (by blk_ext [e4])
  · refine (row_two _ (y 1)).trans ?_; blk_simp [iblk]; exact congrArg (argW m c) (by blk_ext [e4])
  · refine (row_three _ (y 1)).trans ?_; blk_simp [iblk]; exact congrArg (argW m c) (by blk_ext [e4])

theorem zero_int : (FloatOps.sitofp (F := Ideal) FTy.f32 0#32 : EReal) = 0 := by
  show ((((0#32 : BitVec 32).toInt : ℝ)) : EReal) = 0
  simp

/-- The reference's rows moved down by one and two, zero above. -/
theorem back_two (a : FVec Ideal S4096x5632 .f32) (i : Fin 4096) (j : Fin 5632) :
    (extractStridedSlice Cert.GateRefIdeal.S4096x5632 ![0, 0] (pad Cert.GateRefIdeal.S4098x5632 ![2, 0] ![0, 0] ![0, 0] a (sitofp .f32 (constantI Cert.GateRefIdeal.S_ 32 0#32)) Cert.GateRefIdeal.Gen.pads_S4096x5632_S4098x5632_200_000 Cert.GateRefIdeal.Gen.h_S_) Cert.GateRefIdeal.Gen.slices_S4098x5632_S4096x5632_0_0 : FVec Ideal Cert.GateRefIdeal.S4096x5632 .f32) (ix2 i j) = back a 2 i j := by
  pointwise [back]
  by_cases h : 2 ≤ i.val
  · rw [dif_pos ⟨h, by omega⟩, dif_pos h]
  · rw [dif_neg (fun e => h e.1), dif_neg h]
    exact zero_int

theorem back_one (a : FVec Ideal S4096x5632 .f32) (i : Fin 4096) (j : Fin 5632) :
    (extractStridedSlice Cert.GateRefIdeal.S4096x5632 ![0, 0] (pad Cert.GateRefIdeal.S4097x5632 ![1, 0] ![0, 0] ![0, 0] a (sitofp .f32 (constantI Cert.GateRefIdeal.S_ 32 0#32)) Cert.GateRefIdeal.Gen.pads_S4096x5632_S4097x5632_100_000 Cert.GateRefIdeal.Gen.h_S_) Cert.GateRefIdeal.Gen.slices_S4097x5632_S4096x5632_0_0 : FVec Ideal Cert.GateRefIdeal.S4096x5632 .f32) (ix2 i j) = back a 1 i j := by
  pointwise [back]
  by_cases h : 1 ≤ i.val
  · rw [dif_pos ⟨h, by omega⟩, dif_pos h]
  · rw [dif_neg (fun e => h e.1), dif_neg h]
    exact zero_int

/-- The reference's convolution. -/
theorem conv_host (a : FVec Ideal S4096x5632 .f32) (w : FVec Ideal S3x5632 .f32) (b : FVec Ideal S1x5632 .f32) :
    (addf (addf (addf (broadcastInDim Cert.GateRefIdeal.S4096x5632 ![0, 1] Cert.GateRefIdeal.Gen.bcast_S1x5632_S4096x5632_0_1 b) (mulf (broadcastInDim Cert.GateRefIdeal.S4096x5632 ![0, 1] Cert.GateRefIdeal.Gen.bcast_S1x5632_S4096x5632_0_1 (broadcastInDim Cert.GateRefIdeal.S1x5632 ![1] Cert.GateRefIdeal.Gen.bcast_S5632_S1x5632_1 (shapeCast _ (extractStridedSlice Cert.GateRefIdeal.S1x5632 ![0, 0] w Cert.GateRefIdeal.Gen.slices_S3x5632_S1x5632_0_0) Cert.GateRefIdeal.Gen.shapeCasts_S1x5632_S5632))) (extractStridedSlice Cert.GateRefIdeal.S4096x5632 ![0, 0] (pad Cert.GateRefIdeal.S4098x5632 ![2, 0] ![0, 0] ![0, 0] a (sitofp .f32 (constantI Cert.GateRefIdeal.S_ 32 0#32)) Cert.GateRefIdeal.Gen.pads_S4096x5632_S4098x5632_200_000 Cert.GateRefIdeal.Gen.h_S_) Cert.GateRefIdeal.Gen.slices_S4098x5632_S4096x5632_0_0))) (mulf (broadcastInDim Cert.GateRefIdeal.S4096x5632 ![0, 1] Cert.GateRefIdeal.Gen.bcast_S1x5632_S4096x5632_0_1 (broadcastInDim Cert.GateRefIdeal.S1x5632 ![1] Cert.GateRefIdeal.Gen.bcast_S5632_S1x5632_1 (shapeCast _ (extractStridedSlice Cert.GateRefIdeal.S1x5632 ![1, 0] w Cert.GateRefIdeal.Gen.slices_S3x5632_S1x5632_1_0) Cert.GateRefIdeal.Gen.shapeCasts_S1x5632_S5632))) (extractStridedSlice Cert.GateRefIdeal.S4096x5632 ![0, 0] (pad Cert.GateRefIdeal.S4097x5632 ![1, 0] ![0, 0] ![0, 0] a (sitofp .f32 (constantI Cert.GateRefIdeal.S_ 32 0#32)) Cert.GateRefIdeal.Gen.pads_S4096x5632_S4097x5632_100_000 Cert.GateRefIdeal.Gen.h_S_) Cert.GateRefIdeal.Gen.slices_S4097x5632_S4096x5632_0_0))) (mulf (broadcastInDim Cert.GateRefIdeal.S4096x5632 ![0, 1] Cert.GateRefIdeal.Gen.bcast_S1x5632_S4096x5632_0_1 (broadcastInDim Cert.GateRefIdeal.S1x5632 ![1] Cert.GateRefIdeal.Gen.bcast_S5632_S1x5632_1 (shapeCast _ (extractStridedSlice Cert.GateRefIdeal.S1x5632 ![2, 0] w Cert.GateRefIdeal.Gen.slices_S3x5632_S1x5632_2_0) Cert.GateRefIdeal.Gen.shapeCasts_S1x5632_S5632))) a)) = conv (M := 4096) (N := 5632) a w b := by
  funext i
  have h2 := back_two a (i 0) (i 1)
  have h1 := back_one a (i 0) (i 1)
  unfold conv
  rw [← h2, ← h1]
  generalize (extractStridedSlice Cert.GateRefIdeal.S4096x5632 ![0, 0] (pad Cert.GateRefIdeal.S4098x5632 ![2, 0] ![0, 0] ![0, 0] a (sitofp .f32 (constantI Cert.GateRefIdeal.S_ 32 0#32)) Cert.GateRefIdeal.Gen.pads_S4096x5632_S4098x5632_200_000 Cert.GateRefIdeal.Gen.h_S_) Cert.GateRefIdeal.Gen.slices_S4098x5632_S4096x5632_0_0 : FVec Ideal Cert.GateRefIdeal.S4096x5632 .f32) = p
  generalize (extractStridedSlice Cert.GateRefIdeal.S4096x5632 ![0, 0] (pad Cert.GateRefIdeal.S4097x5632 ![1, 0] ![0, 0] ![0, 0] a (sitofp .f32 (constantI Cert.GateRefIdeal.S_ 32 0#32)) Cert.GateRefIdeal.Gen.pads_S4096x5632_S4097x5632_100_000 Cert.GateRefIdeal.Gen.h_S_) Cert.GateRefIdeal.Gen.slices_S4097x5632_S4096x5632_0_0 : FVec Ideal Cert.GateRefIdeal.S4096x5632 .f32) = q
  pointwise [taps]

/-- The reference's result is the gated convolution. -/
theorem gated_host (m : (ℓ : Loc Cert.GateRefIdeal.nD Cert.GateRefIdeal.τ Cert.GateRefIdeal.sig) → Buf (Elt Ideal) ℓ) (c : Dev Cert.GateRefIdeal.nD) :
    Cert.GateRefIdeal.Value.res_main_v39 (F := Ideal) m c
      = gated (conv (M := 4096) (N := 5632) (m (c.tc.loc Cert.GateRefIdeal.main_arg0)) (m (c.tc.loc Cert.GateRefIdeal.main_arg1)) (m (c.tc.loc Cert.GateRefIdeal.main_arg2))) := by
  unfold Cert.GateRefIdeal.Value.res_main_v39
  rw [conv_host]
  generalize conv (M := 4096) (N := 5632) (m (c.tc.loc Cert.GateRefIdeal.main_arg0)) (m (c.tc.loc Cert.GateRefIdeal.main_arg1)) (m (c.tc.loc Cert.GateRefIdeal.main_arg2)) = z
  funext i
  pointwise [gated, gelu]
  rw [mul_comm (Ideal.ofBits FTy.f32 0x3F000000#32) (z _), mul_assoc (z _) (Ideal.ofBits FTy.f32 0x3F000000#32) _]

/-- The two programs have the same bodies. -/
theorem same_defs : (Cert.Gate.defs (F := Bits)) = Cert.GateIdeal.defs (F := Bits) :=
  congrArg (Pipeline.defs Cert.GateIdeal.pcfgs) (congrArg Defs.onTc (funext fun l => funext fun x => match l, x with | 0, _ => rfl))

/-- The call ends with its arguments unchanged and every counter at zero. -/
theorem frame_kernel : Cert.quiescent_Gate := fun m ρ _ => by
  rw [same_defs]
  exact Cert.GateIdeal.Gen.frame (F := Bits) m ρ

/-- So does the call over exact values. -/
theorem frame_kernelIdeal : Cert.quiescent_GateIdeal := fun m ρ _ => Cert.GateIdeal.Gen.frame (F := Ideal) m ρ

/-- The reference ends with its arrays unchanged; it has no counters. -/
theorem frame_referenceIdeal : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

/-- The call computes the reference's result over exact values. -/
theorem algebraic : Cert.algebraic_GateIdeal_GateRefIdeal := fun m g m' g' _ ha => by
  refine ⟨fun c => gated (conv (argU m c) (argW m c) (argB m c)), ?_, ?_⟩
  · exact (θ_run defs _ _).mono (fun r h c => ⟨(h c).1.trans (final m c), (h c).2⟩) (Cert.GateIdeal.Value.run_blocks m g)
  · refine (θ_run Cert.GateRefIdeal.defs _ _).mono (fun r h c => ?_) (Cert.GateRefIdeal.Value.run (F := Ideal) m' g')
    obtain ⟨h0, hk⟩ := h c
    obtain ⟨a0, a1, a2⟩ := ha c
    rw [gated_host, a0, a1, a2] at h0
    exact ⟨h0, hk⟩

end Cert.Gated

end
-- ==== Proof.lean ====
/-
  The claims about the exchange of the gradients, proved: the frames of the programs, and that each device ends with its
  block of the reference's result, bit for bit and over exact values alike. With the claims about the two gathers, of
  the weights and of the small gradients, and those about the calls of the forward and backward passes, the sums of the
  parts and the AdamW updates, each stated on one device, they are every claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Weights
public import proofs.«01_k».proof.Proof.Gen.WeightsIdeal
public import proofs.«01_k».proof.Proof.Gen.WeightsIdeal.Skeleton
public import proofs.«01_k».proof.Proof.Gen.WeightsIdeal.Launch
public import proofs.«01_k».proof.Proof.Gen.WeightsIdeal.Points
public import proofs.«01_k».proof.Proof.Gen.WeightsIdeal.Frame
public import proofs.«01_k».proof.Proof.Gen.WeightsRef
public import proofs.«01_k».proof.Proof.Gen.WeightsRefIdeal
public import proofs.«01_k».proof.Proof.Gen.WeightsRefIdeal.Run
public import proofs.«01_k».proof.Proof.Gen.Small
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallRef
public import proofs.«01_k».proof.Proof.Gen.SmallRefIdeal
public import proofs.«01_k».proof.Proof.Gen.SmallRefIdeal.Run
public import proofs.«01_k».proof.Proof.Run
public import proofs.«01_k».proof.Proof.Value
public import proofs.«01_k».proof.Proof.WeightsClaims
public import proofs.«01_k».proof.Proof.SmallClaims
public import proofs.«01_k».proof.Proof.AdamDown
public import proofs.«01_k».proof.Proof.AdamUq
public import proofs.«01_k».proof.Proof.AdamWo
public import proofs.«01_k».proof.Proof.AdamWin
public import proofs.«01_k».proof.Proof.AdamWup
public import proofs.«01_k».proof.Proof.AdamRep
public import proofs.«01_k».proof.Proof.AdamConv
public import proofs.«01_k».proof.Proof.SumIn
public import proofs.«01_k».proof.Proof.SumUp
public import proofs.«01_k».proof.Proof.GradX
public import proofs.«01_k».proof.Proof.GradDown
public import proofs.«01_k».proof.Proof.ProdHidden
public import proofs.«01_k».proof.Proof.ProdUp
public import proofs.«01_k».proof.Proof.ProdFfn
public import proofs.«01_k».proof.Proof.ProdAct
public import proofs.«01_k».proof.Proof.ProdDil
public import proofs.«01_k».proof.Proof.ProdHeads
public import proofs.«01_k».proof.Proof.GradX1
public import proofs.«01_k».proof.Proof.GradUp
public import proofs.«01_k».proof.Proof.GradDil
public import proofs.«01_k».proof.Proof.GradHeads
public import proofs.«01_k».proof.Proof.GradIn
public import proofs.«01_k».proof.Proof.Joined
public import proofs.«01_k».proof.Proof.NormBack
public import proofs.«01_k».proof.Proof.Loss
public import proofs.«01_k».proof.Proof.Mixed
public import proofs.«01_k».proof.Proof.Gated
public import Idealize.ShloMosaic.Adequacy
public import Idealize.ShloMosaic.Init

@[expose] public section

noncomputable section

namespace Cert.Proof

open Idealize.ShloMosaic Idealize.SL.Sem Cert.Exchange

/-- The kernel ends with its arrays unchanged and every counter at zero. -/
theorem frame_kernel : Cert.quiescent_Kernel := fun m ρ _ =>
  (θ_run Cert.KernelIdeal.defs _ _).mono (fun _ h => ⟨fun c => ⟨(h.1 c).1 0, (h.1 c).1 1, (h.1 c).1 2, (h.1 c).1 3, (h.1 c).1 4⟩, h.2⟩)
    (run_main (F := Bits) m ρ)

/-- So does the kernel over exact values. -/
theorem frame_kernelIdeal : Cert.quiescent_KernelIdeal := fun m ρ _ =>
  (θ_run Cert.KernelIdeal.defs _ _).mono (fun _ h => ⟨fun c => ⟨(h.1 c).1 0, (h.1 c).1 1, (h.1 c).1 2, (h.1 c).1 3, (h.1 c).1 4⟩, h.2⟩)
    (run_main (F := Ideal) m ρ)

/-- The reference ends with its arrays unchanged; it has no counters. -/
theorem frame_reference : Cert.quiescent_Reference := fun m ρ _ =>
  (θ_run Cert.ReferenceIdeal.defs _ _).mono (fun r h => ⟨fun c => (h c).2.2.2.2.2, sem_eq_zero_of_no_sems (by decide) r.2⟩)
    (Cert.ReferenceIdeal.Value.run (F := Bits) m ρ)

/-- So does the reference over exact values. -/
theorem frame_referenceIdeal : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

variable {F : FTy → Type} [FloatOps F]

/-- For any float values: from memories where each device holds its block of the reference's arrays, each device ends
    with its block of the reference's results, and both programs' arrays are unchanged. -/
theorem value (m : (ℓ : Loc Cert.KernelIdeal.nD Cert.KernelIdeal.τ Cert.KernelIdeal.sig) → Buf (Elt F) ℓ) (g : Dev Cert.KernelIdeal.nD → PrngReg)
    (m' : (ℓ : Loc Cert.ReferenceIdeal.nD Cert.ReferenceIdeal.τ Cert.ReferenceIdeal.sig) → Buf (Elt F) ℓ) (g' : Dev Cert.ReferenceIdeal.nD → PrngReg)
    (ha : ∀ c : Dev Cert.KernelIdeal.nD,
      m ((c.tc : Thread Cert.KernelIdeal.nD Cert.KernelIdeal.τ).loc Cert.KernelIdeal.main_arg0) = Layout.block ⟨3, ![8, 256, 1024]⟩ ⟨3, ![64, 256, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![8, 32, 768]⟩ ⟨3, ![64, 32, 768]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![8, 128, 1024]⟩ ⟨3, ![64, 128, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 704, 1024]⟩ ⟨3, ![64, 704, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![8, 352, 1024]⟩ ⟨3, ![64, 352, 1024]⟩ 0 8 c (m' (((0 : Dev Cert.ReferenceIdeal.nD).tc : Thread Cert.ReferenceIdeal.nD Cert.ReferenceIdeal.τ).loc Cert.ReferenceIdeal.main_arg4))) :
    ∃ (v0 : Buf (Elt F) (((0 : Dev Cert.ReferenceIdeal.nD).tc : Thread Cert.ReferenceIdeal.nD Cert.ReferenceIdeal.τ).loc Cert.ReferenceIdeal.main_v2)) (v1 : Buf (Elt F) (((0 : Dev Cert.ReferenceIdeal.nD).tc : Thread Cert.ReferenceIdeal.nD Cert.ReferenceIdeal.τ).loc Cert.ReferenceIdeal.main_v5)) (v2 : Buf (Elt F) (((0 : Dev Cert.ReferenceIdeal.nD).tc : Thread Cert.ReferenceIdeal.nD Cert.ReferenceIdeal.τ).loc Cert.ReferenceIdeal.main_v8)) (v3 : Buf (Elt F) (((0 : Dev Cert.ReferenceIdeal.nD).tc : Thread Cert.ReferenceIdeal.nD Cert.ReferenceIdeal.τ).loc Cert.ReferenceIdeal.main_v11)) (v4 : Buf (Elt F) (((0 : Dev Cert.ReferenceIdeal.nD).tc : Thread Cert.ReferenceIdeal.nD Cert.ReferenceIdeal.τ).loc Cert.ReferenceIdeal.main_v14)),
      θ_run (Cert.KernelIdeal.defs (F := F)) (onTc (τ := Cert.KernelIdeal.τ) (Cert.KernelIdeal.main (F := F))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![8, 256, 1024]⟩ ⟨3, ![64, 256, 1024]⟩ 0 8 c v0
          ∧ r.2.mem ((c.tc : Thread Cert.KernelIdeal.nD Cert.KernelIdeal.τ).loc Cert.KernelIdeal.main_v1_1) = Layout.block ⟨3, ![8, 32, 768]⟩ ⟨3, ![64, 32, 768]⟩ 0 8 c v1
          ∧ r.2.mem ((c.tc : Thread Cert.KernelIdeal.nD Cert.KernelIdeal.τ).loc Cert.KernelIdeal.main_v1_2) = Layout.block ⟨3, ![8, 128, 1024]⟩ ⟨3, ![64, 128, 1024]⟩ 0 8 c v2
          ∧ r.2.mem ((c.tc : Thread Cert.KernelIdeal.nD Cert.KernelIdeal.τ).loc Cert.KernelIdeal.main_v1_3) = Layout.block ⟨3, ![8, 704, 1024]⟩ ⟨3, ![64, 704, 1024]⟩ 0 8 c v3
          ∧ r.2.mem ((c.tc : Thread Cert.KernelIdeal.nD Cert.KernelIdeal.τ).loc Cert.KernelIdeal.main_v1_4) = Layout.block ⟨3, ![8, 352, 1024]⟩ ⟨3, ![64, 352, 1024]⟩ 0 8 c v4
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := F)) (onTc (τ := Cert.ReferenceIdeal.τ) (Cert.ReferenceIdeal.main (F := F))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_v14) = v4
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)) := by
  refine ⟨_, _, _, _, _, ?_, (θ_run Cert.ReferenceIdeal.defs _ _).mono (fun r h => h 0) (Cert.ReferenceIdeal.Value.run (F := F) m' g')⟩
  exact (θ_run Cert.KernelIdeal.defs _ _).mono (fun r h c => ⟨((h.1 c).2 0).trans (exchanged_block (R := 256) (N := 1024) (start m 0) (m' (((0 : Dev Cert.ReferenceIdeal.nD).tc : Thread Cert.ReferenceIdeal.nD Cert.ReferenceIdeal.τ).loc Cert.ReferenceIdeal.main_arg0)) (by decide) (fun d => (ha d).1) Cert.ReferenceIdeal.Gen.shapeCasts_S64x256x1024_S8x8x256x1024 Cert.ReferenceIdeal.Gen.transposes_S8x8x256x1024_S8x8x256x1024_1_0_2_3 Cert.ReferenceIdeal.Gen.shapeCasts_S8x8x256x1024_S64x256x1024 c),
      ((h.1 c).2 1).trans (exchanged_block (R := 32) (N := 768) (start m 1) (m' (((0 : Dev Cert.ReferenceIdeal.nD).tc : Thread Cert.ReferenceIdeal.nD Cert.ReferenceIdeal.τ).loc Cert.ReferenceIdeal.main_arg1)) (by decide) (fun d => (ha d).2.1) Cert.ReferenceIdeal.Gen.shapeCasts_S64x32x768_S8x8x32x768 Cert.ReferenceIdeal.Gen.transposes_S8x8x32x768_S8x8x32x768_1_0_2_3 Cert.ReferenceIdeal.Gen.shapeCasts_S8x8x32x768_S64x32x768 c),
      ((h.1 c).2 2).trans (exchanged_block (R := 128) (N := 1024) (start m 2) (m' (((0 : Dev Cert.ReferenceIdeal.nD).tc : Thread Cert.ReferenceIdeal.nD Cert.ReferenceIdeal.τ).loc Cert.ReferenceIdeal.main_arg2)) (by decide) (fun d => (ha d).2.2.1) Cert.ReferenceIdeal.Gen.shapeCasts_S64x128x1024_S8x8x128x1024 Cert.ReferenceIdeal.Gen.transposes_S8x8x128x1024_S8x8x128x1024_1_0_2_3 Cert.ReferenceIdeal.Gen.shapeCasts_S8x8x128x1024_S64x128x1024 c),
      ((h.1 c).2 3).trans (exchanged_block (R := 704) (N := 1024) (start m 3) (m' (((0 : Dev Cert.ReferenceIdeal.nD).tc : Thread Cert.ReferenceIdeal.nD Cert.ReferenceIdeal.τ).loc Cert.ReferenceIdeal.main_arg3)) (by decide) (fun d => (ha d).2.2.2.1) Cert.ReferenceIdeal.Gen.shapeCasts_S64x704x1024_S8x8x704x1024 Cert.ReferenceIdeal.Gen.transposes_S8x8x704x1024_S8x8x704x1024_1_0_2_3 Cert.ReferenceIdeal.Gen.shapeCasts_S8x8x704x1024_S64x704x1024 c),
      ((h.1 c).2 4).trans (exchanged_block (R := 352) (N := 1024) (start m 4) (m' (((0 : Dev Cert.ReferenceIdeal.nD).tc : Thread Cert.ReferenceIdeal.nD Cert.ReferenceIdeal.τ).loc Cert.ReferenceIdeal.main_arg4)) (by decide) (fun d => (ha d).2.2.2.2) Cert.ReferenceIdeal.Gen.shapeCasts_S64x352x1024_S8x8x352x1024 Cert.ReferenceIdeal.Gen.transposes_S8x8x352x1024_S8x8x352x1024_1_0_2_3 Cert.ReferenceIdeal.Gen.shapeCasts_S8x8x352x1024_S64x352x1024 c),
      (h.1 c).1 0,
      (h.1 c).1 1,
      (h.1 c).1 2,
      (h.1 c).1 3,
      (h.1 c).1 4⟩)
    (run_main (F := F) m g)

/-- The kernel computes the reference's results bit for bit. -/
theorem bitexact : Cert.bitexact_Kernel_Reference := fun m g m' g' _ ha => value (F := Bits) m g m' g' ha

/-- The kernel computes the reference's results over exact values. -/
theorem algebraic : Cert.algebraic_KernelIdeal_ReferenceIdeal := fun m g m' g' _ ha => value (F := Ideal) m g m' g' ha

/-- Every claim. -/
theorem claim : Cert.Claim :=
  ⟨Cert.Kernel.Gen.facts, Cert.KernelIdeal.Gen.facts, Cert.ReferenceIdeal.Gen.facts, Cert.Reference.Gen.facts,
    Cert.Weights.Gen.facts, Cert.WeightsIdeal.Gen.facts, Cert.WeightsRefIdeal.Gen.facts, Cert.WeightsRef.Gen.facts,
    Cert.Small.Gen.facts, Cert.SmallIdeal.Gen.facts, Cert.SmallRefIdeal.Gen.facts, Cert.SmallRef.Gen.facts,
    Cert.Down.Gen.facts, Cert.DownIdeal.Gen.facts, Cert.DownRefIdeal.Gen.facts,
    Cert.Uq.Gen.facts, Cert.UqIdeal.Gen.facts, Cert.UqRefIdeal.Gen.facts,
    Cert.Wo.Gen.facts, Cert.WoIdeal.Gen.facts, Cert.WoRefIdeal.Gen.facts,
    Cert.Win.Gen.facts, Cert.WinIdeal.Gen.facts, Cert.WinRefIdeal.Gen.facts,
    Cert.Wup.Gen.facts, Cert.WupIdeal.Gen.facts, Cert.WupRefIdeal.Gen.facts,
    Cert.Rep.Gen.facts, Cert.RepIdeal.Gen.facts, Cert.RepRefIdeal.Gen.facts,
    Cert.Conv.Gen.facts, Cert.ConvIdeal.Gen.facts, Cert.ConvRefIdeal.Gen.facts,
    Cert.SumIn.Gen.facts, Cert.SumInIdeal.Gen.facts, Cert.SumInRefIdeal.Gen.facts,
    Cert.SumUp.Gen.facts, Cert.SumUpIdeal.Gen.facts, Cert.SumUpRefIdeal.Gen.facts,
    Cert.Dx0.Gen.facts, Cert.Dx0Ideal.Gen.facts, Cert.Dx0RefIdeal.Gen.facts,
    Cert.DwDown.Gen.facts, Cert.DwDownIdeal.Gen.facts, Cert.DwDownRefIdeal.Gen.facts,
    Cert.Hidden.Gen.facts, Cert.HiddenIdeal.Gen.facts, Cert.HiddenRefIdeal.Gen.facts,
    Cert.Up.Gen.facts, Cert.UpIdeal.Gen.facts, Cert.UpRefIdeal.Gen.facts,
    Cert.Ffn.Gen.facts, Cert.FfnIdeal.Gen.facts, Cert.FfnRefIdeal.Gen.facts,
    Cert.DAct.Gen.facts, Cert.DActIdeal.Gen.facts, Cert.DActRefIdeal.Gen.facts,
    Cert.DoDil.Gen.facts, Cert.DoDilIdeal.Gen.facts, Cert.DoDilRefIdeal.Gen.facts,
    Cert.DoMla.Gen.facts, Cert.DoMlaIdeal.Gen.facts, Cert.DoMlaRefIdeal.Gen.facts,
    Cert.Dx1.Gen.facts, Cert.Dx1Ideal.Gen.facts, Cert.Dx1RefIdeal.Gen.facts,
    Cert.DwUp.Gen.facts, Cert.DwUpIdeal.Gen.facts, Cert.DwUpRefIdeal.Gen.facts,
    Cert.DwODil.Gen.facts, Cert.DwODilIdeal.Gen.facts, Cert.DwODilRefIdeal.Gen.facts,
    Cert.DwOMla.Gen.facts, Cert.DwOMlaIdeal.Gen.facts, Cert.DwOMlaRefIdeal.Gen.facts,
    Cert.DwIn.Gen.facts, Cert.DwInIdeal.Gen.facts, Cert.DwInRefIdeal.Gen.facts,
    Cert.Dh.Gen.facts, Cert.DhIdeal.Gen.facts, Cert.DhRefIdeal.Gen.facts,
    Cert.Ln1.Gen.facts, Cert.Ln1Ideal.Gen.facts, Cert.Ln1RefIdeal.Gen.facts,
    Cert.Ln2.Gen.facts, Cert.Ln2Ideal.Gen.facts, Cert.Ln2RefIdeal.Gen.facts,
    Cert.Mix.Gen.facts, Cert.MixIdeal.Gen.facts, Cert.MixRefIdeal.Gen.facts,
    Cert.Gate.Gen.facts, Cert.GateIdeal.Gen.facts, Cert.GateRefIdeal.Gen.facts,
    frame_kernel, frame_kernelIdeal, frame_referenceIdeal, frame_reference,
    Cert.WeightsGather.frame_kernel, Cert.WeightsGather.frame_kernelIdeal, Cert.WeightsGather.frame_referenceIdeal, Cert.WeightsGather.frame_reference,
    Cert.SmallGather.frame_kernel, Cert.SmallGather.frame_kernelIdeal, Cert.SmallGather.frame_referenceIdeal, Cert.SmallGather.frame_reference,
    Cert.AdamDown.frame_kernel, Cert.AdamDown.frame_kernelIdeal, Cert.AdamDown.frame_referenceIdeal,
    Cert.AdamUq.frame_kernel, Cert.AdamUq.frame_kernelIdeal, Cert.AdamUq.frame_referenceIdeal,
    Cert.AdamWo.frame_kernel, Cert.AdamWo.frame_kernelIdeal, Cert.AdamWo.frame_referenceIdeal,
    Cert.AdamWin.frame_kernel, Cert.AdamWin.frame_kernelIdeal, Cert.AdamWin.frame_referenceIdeal,
    Cert.AdamWup.frame_kernel, Cert.AdamWup.frame_kernelIdeal, Cert.AdamWup.frame_referenceIdeal,
    Cert.AdamRep.frame_kernel, Cert.AdamRep.frame_kernelIdeal, Cert.AdamRep.frame_referenceIdeal,
    Cert.AdamConv.frame_kernel, Cert.AdamConv.frame_kernelIdeal, Cert.AdamConv.frame_referenceIdeal,
    Cert.PartsIn.frame_kernel, Cert.PartsIn.frame_kernelIdeal, Cert.PartsIn.frame_referenceIdeal,
    Cert.PartsUp.frame_kernel, Cert.PartsUp.frame_kernelIdeal, Cert.PartsUp.frame_referenceIdeal,
    Cert.GradX.frame_kernel, Cert.GradX.frame_kernelIdeal, Cert.GradX.frame_referenceIdeal,
    Cert.GradDown.frame_kernel, Cert.GradDown.frame_kernelIdeal, Cert.GradDown.frame_referenceIdeal,
    Cert.ProdHidden.frame_kernel, Cert.ProdHidden.frame_kernelIdeal, Cert.ProdHidden.frame_referenceIdeal,
    Cert.ProdUp.frame_kernel, Cert.ProdUp.frame_kernelIdeal, Cert.ProdUp.frame_referenceIdeal,
    Cert.ProdFfn.frame_kernel, Cert.ProdFfn.frame_kernelIdeal, Cert.ProdFfn.frame_referenceIdeal,
    Cert.ProdAct.frame_kernel, Cert.ProdAct.frame_kernelIdeal, Cert.ProdAct.frame_referenceIdeal,
    Cert.ProdDil.frame_kernel, Cert.ProdDil.frame_kernelIdeal, Cert.ProdDil.frame_referenceIdeal,
    Cert.ProdHeads.frame_kernel, Cert.ProdHeads.frame_kernelIdeal, Cert.ProdHeads.frame_referenceIdeal,
    Cert.GradX1.frame_kernel, Cert.GradX1.frame_kernelIdeal, Cert.GradX1.frame_referenceIdeal,
    Cert.GradUp.frame_kernel, Cert.GradUp.frame_kernelIdeal, Cert.GradUp.frame_referenceIdeal,
    Cert.GradDil.frame_kernel, Cert.GradDil.frame_kernelIdeal, Cert.GradDil.frame_referenceIdeal,
    Cert.GradHeads.frame_kernel, Cert.GradHeads.frame_kernelIdeal, Cert.GradHeads.frame_referenceIdeal,
    Cert.GradIn.frame_kernel, Cert.GradIn.frame_kernelIdeal, Cert.GradIn.frame_referenceIdeal,
    Cert.Joined.frame_kernel, Cert.Joined.frame_kernelIdeal, Cert.Joined.frame_referenceIdeal,
    Cert.NormBack.frame_kernel, Cert.NormBack.frame_kernelIdeal, Cert.NormBack.frame_referenceIdeal,
    Cert.Loss.frame_kernel, Cert.Loss.frame_kernelIdeal, Cert.Loss.frame_referenceIdeal,
    Cert.Mixed.frame_kernel, Cert.Mixed.frame_kernelIdeal, Cert.Mixed.frame_referenceIdeal,
    Cert.Gated.frame_kernel, Cert.Gated.frame_kernelIdeal, Cert.Gated.frame_referenceIdeal,
    trivial, bitexact, algebraic,
    trivial, Cert.WeightsGather.bitexact, Cert.WeightsGather.algebraic,
    trivial, Cert.SmallGather.bitexact, Cert.SmallGather.algebraic,
    trivial, Cert.AdamDown.algebraic,
    trivial, Cert.AdamUq.algebraic,
    trivial, Cert.AdamWo.algebraic,
    trivial, Cert.AdamWin.algebraic,
    trivial, Cert.AdamWup.algebraic,
    trivial, Cert.AdamRep.algebraic,
    trivial, Cert.AdamConv.algebraic,
    trivial, Cert.PartsIn.algebraic,
    trivial, Cert.PartsUp.algebraic,
    trivial, Cert.GradX.algebraic,
    trivial, Cert.GradDown.algebraic,
    trivial, Cert.ProdHidden.algebraic,
    trivial, Cert.ProdUp.algebraic,
    trivial, Cert.ProdFfn.algebraic,
    trivial, Cert.ProdAct.algebraic,
    trivial, Cert.ProdDil.algebraic,
    trivial, Cert.ProdHeads.algebraic,
    trivial, Cert.GradX1.algebraic,
    trivial, Cert.GradUp.algebraic,
    trivial, Cert.GradDil.algebraic,
    trivial, Cert.GradHeads.algebraic,
    trivial, Cert.GradIn.algebraic,
    trivial, Cert.Joined.algebraic,
    trivial, Cert.NormBack.algebraic,
    trivial, Cert.Loss.algebraic,
    trivial, Cert.Mixed.algebraic,
    trivial, Cert.Gated.algebraic⟩

end Cert.Proof

end
